-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite [hPre_finite : Cert.Pre_finite.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4)) (m ((c.tc : Thread Cert.AttentionIdeal.nD Cert.AttentionIdeal.τ).loc Cert.AttentionIdeal.main_arg5))) = (fun _ => 1#1)

def Pre_AttentionReferenceIdeal (m : (ℓ : Loc Cert.AttentionReferenceIdeal.nD Cert.AttentionReferenceIdeal.τ Cert.AttentionReferenceIdeal.sig) → Buf (Elt Ideal) ℓ) : Prop :=
  True

def Pre_AttentionReferenceIdeal_finite [hPre_finite : Cert.Pre_finite.Facts] (m : (ℓ : Loc Cert.AttentionReferenceIdeal.nD Cert.AttentionReferenceIdeal.τ Cert.AttentionReferenceIdeal.sig) → Buf (Elt Ideal) ℓ) : Prop :=
  ∀ c : Dev Cert.AttentionReferenceIdeal.nD,
    (Cert.Pre_finite.fn (F := Ideal) (m ((c.tc : Thread Cert.AttentionReferenceIdeal.nD Cert.AttentionReferenceIdeal.τ).loc Cert.AttentionReferenceIdeal.main_arg0)) (m ((c.tc : Thread Cert.AttentionReferenceIdeal.nD Cert.AttentionReferenceIdeal.τ).loc Cert.AttentionReferenceIdeal.main_arg1)) (m ((c.tc : Thread Cert.AttentionReferenceIdeal.nD Cert.AttentionReferenceIdeal.τ).loc Cert.AttentionReferenceIdeal.main_arg2)) (m ((c.tc : Thread Cert.AttentionReferenceIdeal.nD Cert.AttentionReferenceIdeal.τ).loc Cert.AttentionReferenceIdeal.main_arg3)) (m ((c.tc : Thread Cert.AttentionReferenceIdeal.nD Cert.AttentionReferenceIdeal.τ).loc Cert.AttentionReferenceIdeal.main_arg4)) (m ((c.tc : Thread Cert.AttentionReferenceIdeal.nD Cert.AttentionReferenceIdeal.τ).loc Cert.AttentionReferenceIdeal.main_arg5))) = (fun _ => 1#1)

def Pre_Transposition (m : (ℓ : Loc Cert.Transposition.nD Cert.Transposition.τ Cert.Transposition.sig) → Buf (Elt Bits) ℓ) : Prop :=
  True

def Pre_TranspositionIdeal (m : (ℓ : Loc Cert.TranspositionIdeal.nD Cert.TranspositionIdeal.τ Cert.TranspositionIdeal.sig) → Buf (Elt Ideal) ℓ) : Prop :=
  True

def Pre_TranspositionReferenceIdeal (m : (ℓ : Loc Cert.TranspositionReferenceIdeal.nD Cert.TranspositionReferenceIdeal.τ Cert.TranspositionReferenceIdeal.sig) → Buf (Elt Ideal) ℓ) : Prop :=
  True

def Pre_Selection [hPre_sampled : Cert.Pre_sampled.Facts] (m : (ℓ : Loc Cert.Selection.nD Cert.Selection.τ Cert.Selection.sig) → Buf (Elt Bits) ℓ) : Prop :=
  ∀ c : Dev Cert.Selection.nD,
    (Cert.Pre_sampled.fn (F := Bits) (m ((c.tc : Thread Cert.Selection.nD Cert.Selection.τ).loc Cert.Selection.main_arg0)) (m ((c.tc : Thread Cert.Selection.nD Cert.Selection.τ).loc Cert.Selection.main_arg1)) (m ((c.tc : Thread Cert.Selection.nD Cert.Selection.τ).loc Cert.Selection.main_arg2))) = (fun _ => 1#1)

def Pre_SelectionIdeal [hPre_sampled : Cert.Pre_sampled.Facts] (m : (ℓ : Loc Cert.SelectionIdeal.nD Cert.SelectionIdeal.τ Cert.SelectionIdeal.sig) → Buf (Elt Ideal) ℓ) : Prop :=
  ∀ c : Dev Cert.SelectionIdeal.nD,
    (Cert.Pre_sampled.fn (F := Ideal) (m ((c.tc : Thread Cert.SelectionIdeal.nD Cert.SelectionIdeal.τ).loc Cert.SelectionIdeal.main_arg0)) (m ((c.tc : Thread Cert.SelectionIdeal.nD Cert.SelectionIdeal.τ).loc Cert.SelectionIdeal.main_arg1)) (m ((c.tc : Thread Cert.SelectionIdeal.nD Cert.SelectionIdeal.τ).loc Cert.SelectionIdeal.main_arg2))) = (fun _ => 1#1)

def Pre_SelectionIdeal_scorable [hPre_scorable : Cert.Pre_scorable.Facts] (m : (ℓ : Loc Cert.SelectionIdeal.nD Cert.SelectionIdeal.τ Cert.SelectionIdeal.sig) → Buf (Elt Ideal) ℓ) : Prop :=
  ∀ c : Dev Cert.SelectionIdeal.nD,
    (Cert.Pre_scorable.fn (F := Ideal) (m ((c.tc : Thread Cert.SelectionIdeal.nD Cert.SelectionIdeal.τ).loc Cert.SelectionIdeal.main_arg0)) (m ((c.tc : Thread Cert.SelectionIdeal.nD Cert.SelectionIdeal.τ).loc Cert.SelectionIdeal.main_arg1)) (m ((c.tc : Thread Cert.SelectionIdeal.nD Cert.SelectionIdeal.τ).loc Cert.SelectionIdeal.main_arg2))) = (fun _ => 1#1)

def Pre_SelectionReferenceIdeal (m : (ℓ : Loc Cert.SelectionReferenceIdeal.nD Cert.SelectionReferenceIdeal.τ Cert.SelectionReferenceIdeal.sig) → Buf (Elt Ideal) ℓ) : Prop :=
  True

def Pre_SelectionReferenceIdeal_scorable [hPre_scorable : Cert.Pre_scorable.Facts] (m : (ℓ : Loc Cert.SelectionReferenceIdeal.nD Cert.SelectionReferenceIdeal.τ Cert.SelectionReferenceIdeal.sig) → Buf (Elt Ideal) ℓ) : Prop :=
  ∀ c : Dev Cert.SelectionReferenceIdeal.nD,
    (Cert.Pre_scorable.fn (F := Ideal) (m ((c.tc : Thread Cert.SelectionReferenceIdeal.nD Cert.SelectionReferenceIdeal.τ).loc Cert.SelectionReferenceIdeal.main_arg0)) (m ((c.tc : Thread Cert.SelectionReferenceIdeal.nD Cert.SelectionReferenceIdeal.τ).loc Cert.SelectionReferenceIdeal.main_arg1)) (m ((c.tc : Thread Cert.SelectionReferenceIdeal.nD Cert.SelectionReferenceIdeal.τ).loc Cert.SelectionReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3)
      ∧ r.2.mem ((c.tc : Thread Cert.Attention.nD Cert.Attention.τ).loc Cert.Attention.main_arg4) = m ((c.tc : Thread Cert.Attention.nD Cert.Attention.τ).loc Cert.Attention.main_arg4)
      ∧ r.2.mem ((c.tc : Thread Cert.Attention.nD Cert.Attention.τ).loc Cert.Attention.main_arg5) = m ((c.tc : Thread Cert.Attention.nD Cert.Attention.τ).loc Cert.Attention.main_arg5))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5))
      ∧ r.2.sem = fun _ => 0)

def quiescent_AttentionIdeal_pre_finite [hAttentionIdeal : Cert.AttentionIdeal.Facts] [hPre_finite : Cert.Pre_finite.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2)
      ∧ r.2.mem ((c.tc : Thread Cert.AttentionReferenceIdeal.nD Cert.AttentionReferenceIdeal.τ).loc Cert.AttentionReferenceIdeal.main_arg3) = m ((c.tc : Thread Cert.AttentionReferenceIdeal.nD Cert.AttentionReferenceIdeal.τ).loc Cert.AttentionReferenceIdeal.main_arg3)
      ∧ r.2.mem ((c.tc : Thread Cert.AttentionReferenceIdeal.nD Cert.AttentionReferenceIdeal.τ).loc Cert.AttentionReferenceIdeal.main_arg4) = m ((c.tc : Thread Cert.AttentionReferenceIdeal.nD Cert.AttentionReferenceIdeal.τ).loc Cert.AttentionReferenceIdeal.main_arg4)
      ∧ r.2.mem ((c.tc : Thread Cert.AttentionReferenceIdeal.nD Cert.AttentionReferenceIdeal.τ).loc Cert.AttentionReferenceIdeal.main_arg5) = m ((c.tc : Thread Cert.AttentionReferenceIdeal.nD Cert.AttentionReferenceIdeal.τ).loc Cert.AttentionReferenceIdeal.main_arg5))
      ∧ r.2.sem = fun _ => 0)

def quiescent_AttentionReferenceIdeal_pre_finite [hAttentionReferenceIdeal : Cert.AttentionReferenceIdeal.Facts] [hPre_finite : Cert.Pre_finite.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal_finite m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2)
      ∧ r.2.mem ((c.tc : Thread Cert.AttentionReferenceIdeal.nD Cert.AttentionReferenceIdeal.τ).loc Cert.AttentionReferenceIdeal.main_arg3) = m ((c.tc : Thread Cert.AttentionReferenceIdeal.nD Cert.AttentionReferenceIdeal.τ).loc Cert.AttentionReferenceIdeal.main_arg3)
      ∧ r.2.mem ((c.tc : Thread Cert.AttentionReferenceIdeal.nD Cert.AttentionReferenceIdeal.τ).loc Cert.AttentionReferenceIdeal.main_arg4) = m ((c.tc : Thread Cert.AttentionReferenceIdeal.nD Cert.AttentionReferenceIdeal.τ).loc Cert.AttentionReferenceIdeal.main_arg4)
      ∧ r.2.mem ((c.tc : Thread Cert.AttentionReferenceIdeal.nD Cert.AttentionReferenceIdeal.τ).loc Cert.AttentionReferenceIdeal.main_arg5) = m ((c.tc : Thread Cert.AttentionReferenceIdeal.nD Cert.AttentionReferenceIdeal.τ).loc Cert.AttentionReferenceIdeal.main_arg5))
      ∧ r.2.sem = fun _ => 0)

def quiescent_Transposition [hTransposition : Cert.Transposition.Facts] : Prop :=
  ∀ (m : (ℓ : Loc Cert.Transposition.nD Cert.Transposition.τ Cert.Transposition.sig) → Buf (Elt Bits) ℓ) (g : Dev Cert.Transposition.nD → PrngReg), Pre_Transposition m →
    θ_run (Cert.Transposition.defs (F := Bits)) (onTc (τ := Cert.Transposition.τ) (Cert.Transposition.main (F := Bits))) ⟨m, fun _ => 0, g⟩ (fun r => (∀ c : Dev Cert.Transposition.nD,
      r.2.mem ((c.tc : Thread Cert.Transposition.nD Cert.Transposition.τ).loc Cert.Transposition.main_arg0) = m ((c.tc : Thread Cert.Transposition.nD Cert.Transposition.τ).loc Cert.Transposition.main_arg0))
      ∧ r.2.sem = fun _ => 0)

def quiescent_TranspositionIdeal [hTranspositionIdeal : Cert.TranspositionIdeal.Facts] : Prop :=
  ∀ (m : (ℓ : Loc Cert.TranspositionIdeal.nD Cert.TranspositionIdeal.τ Cert.TranspositionIdeal.sig) → Buf (Elt Ideal) ℓ) (g : Dev Cert.TranspositionIdeal.nD → PrngReg), Pre_TranspositionIdeal m →
    θ_run (Cert.TranspositionIdeal.defs (F := Ideal)) (onTc (τ := Cert.TranspositionIdeal.τ) (Cert.TranspositionIdeal.main (F := Ideal))) ⟨m, fun _ => 0, g⟩ (fun r => (∀ c : Dev Cert.TranspositionIdeal.nD,
      r.2.mem ((c.tc : Thread Cert.TranspositionIdeal.nD Cert.TranspositionIdeal.τ).loc Cert.TranspositionIdeal.main_arg0) = m ((c.tc : Thread Cert.TranspositionIdeal.nD Cert.TranspositionIdeal.τ).loc Cert.TranspositionIdeal.main_arg0))
      ∧ r.2.sem = fun _ => 0)

def quiescent_TranspositionReferenceIdeal [hTranspositionReferenceIdeal : Cert.TranspositionReferenceIdeal.Facts] : Prop :=
  ∀ (m : (ℓ : Loc Cert.TranspositionReferenceIdeal.nD Cert.TranspositionReferenceIdeal.τ Cert.TranspositionReferenceIdeal.sig) → Buf (Elt Ideal) ℓ) (g : Dev Cert.TranspositionReferenceIdeal.nD → PrngReg), Pre_TranspositionReferenceIdeal m →
    θ_run (Cert.TranspositionReferenceIdeal.defs (F := Ideal)) (onTc (τ := Cert.TranspositionReferenceIdeal.τ) (Cert.TranspositionReferenceIdeal.main (F := Ideal))) ⟨m, fun _ => 0, g⟩ (fun r => (∀ c : Dev Cert.TranspositionReferenceIdeal.nD,
      r.2.mem ((c.tc : Thread Cert.TranspositionReferenceIdeal.nD Cert.TranspositionReferenceIdeal.τ).loc Cert.TranspositionReferenceIdeal.main_arg0) = m ((c.tc : Thread Cert.TranspositionReferenceIdeal.nD Cert.TranspositionReferenceIdeal.τ).loc Cert.TranspositionReferenceIdeal.main_arg0))
      ∧ r.2.sem = fun _ => 0)

def quiescent_Selection [hSelection : Cert.Selection.Facts] [hPre_sampled : Cert.Pre_sampled.Facts] : Prop :=
  ∀ (m : (ℓ : Loc Cert.Selection.nD Cert.Selection.τ Cert.Selection.sig) → Buf (Elt Bits) ℓ) (g : Dev Cert.Selection.nD → PrngReg), Pre_Selection m →
    θ_run (Cert.Selection.defs (F := Bits)) (onTc (τ := Cert.Selection.τ) (Cert.Selection.main (F := Bits))) ⟨m, fun _ => 0, g⟩ (fun r => (∀ c : Dev Cert.Selection.nD,
      r.2.mem ((c.tc : Thread Cert.Selection.nD Cert.Selection.τ).loc Cert.Selection.main_arg0) = m ((c.tc : Thread Cert.Selection.nD Cert.Selection.τ).loc Cert.Selection.main_arg0)
      ∧ r.2.mem ((c.tc : Thread Cert.Selection.nD Cert.Selection.τ).loc Cert.Selection.main_arg1) = m ((c.tc : Thread Cert.Selection.nD Cert.Selection.τ).loc Cert.Selection.main_arg1)
      ∧ r.2.mem ((c.tc : Thread Cert.Selection.nD Cert.Selection.τ).loc Cert.Selection.main_arg2) = m ((c.tc : Thread Cert.Selection.nD Cert.Selection.τ).loc Cert.Selection.main_arg2))
      ∧ r.2.sem = fun _ => 0)

def quiescent_SelectionIdeal [hSelectionIdeal : Cert.SelectionIdeal.Facts] [hPre_sampled : Cert.Pre_sampled.Facts] : Prop :=
  ∀ (m : (ℓ : Loc Cert.SelectionIdeal.nD Cert.SelectionIdeal.τ Cert.SelectionIdeal.sig) → Buf (Elt Ideal) ℓ) (g : Dev Cert.SelectionIdeal.nD → PrngReg), Pre_SelectionIdeal m →
    θ_run (Cert.SelectionIdeal.defs (F := Ideal)) (onTc (τ := Cert.SelectionIdeal.τ) (Cert.SelectionIdeal.main (F := Ideal))) ⟨m, fun _ => 0, g⟩ (fun r => (∀ c : Dev Cert.SelectionIdeal.nD,
      r.2.mem ((c.tc : Thread Cert.SelectionIdeal.nD Cert.SelectionIdeal.τ).loc Cert.SelectionIdeal.main_arg0) = m ((c.tc : Thread Cert.SelectionIdeal.nD Cert.SelectionIdeal.τ).loc Cert.SelectionIdeal.main_arg0)
      ∧ r.2.mem ((c.tc : Thread Cert.SelectionIdeal.nD Cert.SelectionIdeal.τ).loc Cert.SelectionIdeal.main_arg1) = m ((c.tc : Thread Cert.SelectionIdeal.nD Cert.SelectionIdeal.τ).loc Cert.SelectionIdeal.main_arg1)
      ∧ r.2.mem ((c.tc : Thread Cert.SelectionIdeal.nD Cert.SelectionIdeal.τ).loc Cert.SelectionIdeal.main_arg2) = m ((c.tc : Thread Cert.SelectionIdeal.nD Cert.SelectionIdeal.τ).loc Cert.SelectionIdeal.main_arg2))
      ∧ r.2.sem = fun _ => 0)

def quiescent_SelectionIdeal_pre_scorable [hSelectionIdeal : Cert.SelectionIdeal.Facts] [hPre_scorable : Cert.Pre_scorable.Facts] : Prop :=
  ∀ (m : (ℓ : Loc Cert.SelectionIdeal.nD Cert.SelectionIdeal.τ Cert.SelectionIdeal.sig) → Buf (Elt Ideal) ℓ) (g : Dev Cert.SelectionIdeal.nD → PrngReg), Pre_SelectionIdeal_scorable m →
    θ_run (Cert.SelectionIdeal.defs (F := Ideal)) (onTc (τ := Cert.SelectionIdeal.τ) (Cert.SelectionIdeal.main (F := Ideal))) ⟨m, fun _ => 0, g⟩ (fun r => (∀ c : Dev Cert.SelectionIdeal.nD,
      r.2.mem ((c.tc : Thread Cert.SelectionIdeal.nD Cert.SelectionIdeal.τ).loc Cert.SelectionIdeal.main_arg0) = m ((c.tc : Thread Cert.SelectionIdeal.nD Cert.SelectionIdeal.τ).loc Cert.SelectionIdeal.main_arg0)
      ∧ r.2.mem ((c.tc : Thread Cert.SelectionIdeal.nD Cert.SelectionIdeal.τ).loc Cert.SelectionIdeal.main_arg1) = m ((c.tc : Thread Cert.SelectionIdeal.nD Cert.SelectionIdeal.τ).loc Cert.SelectionIdeal.main_arg1)
      ∧ r.2.mem ((c.tc : Thread Cert.SelectionIdeal.nD Cert.SelectionIdeal.τ).loc Cert.SelectionIdeal.main_arg2) = m ((c.tc : Thread Cert.SelectionIdeal.nD Cert.SelectionIdeal.τ).loc Cert.SelectionIdeal.main_arg2))
      ∧ r.2.sem = fun _ => 0)

def quiescent_SelectionReferenceIdeal [hSelectionReferenceIdeal : Cert.SelectionReferenceIdeal.Facts] : Prop :=
  ∀ (m : (ℓ : Loc Cert.SelectionReferenceIdeal.nD Cert.SelectionReferenceIdeal.τ Cert.SelectionReferenceIdeal.sig) → Buf (Elt Ideal) ℓ) (g : Dev Cert.SelectionReferenceIdeal.nD → PrngReg), Pre_SelectionReferenceIdeal m →
    θ_run (Cert.SelectionReferenceIdeal.defs (F := Ideal)) (onTc (τ := Cert.SelectionReferenceIdeal.τ) (Cert.SelectionReferenceIdeal.main (F := Ideal))) ⟨m, fun _ => 0, g⟩ (fun r => (∀ c : Dev Cert.SelectionReferenceIdeal.nD,
      r.2.mem ((c.tc : Thread Cert.SelectionReferenceIdeal.nD Cert.SelectionReferenceIdeal.τ).loc Cert.SelectionReferenceIdeal.main_arg0) = m ((c.tc : Thread Cert.SelectionReferenceIdeal.nD Cert.SelectionReferenceIdeal.τ).loc Cert.SelectionReferenceIdeal.main_arg0)
      ∧ r.2.mem ((c.tc : Thread Cert.SelectionReferenceIdeal.nD Cert.SelectionReferenceIdeal.τ).loc Cert.SelectionReferenceIdeal.main_arg1) = m ((c.tc : Thread Cert.SelectionReferenceIdeal.nD Cert.SelectionReferenceIdeal.τ).loc Cert.SelectionReferenceIdeal.main_arg1)
      ∧ r.2.mem ((c.tc : Thread Cert.SelectionReferenceIdeal.nD Cert.SelectionReferenceIdeal.τ).loc Cert.SelectionReferenceIdeal.main_arg2) = m ((c.tc : Thread Cert.SelectionReferenceIdeal.nD Cert.SelectionReferenceIdeal.τ).loc Cert.SelectionReferenceIdeal.main_arg2))
      ∧ r.2.sem = fun _ => 0)

def quiescent_SelectionReferenceIdeal_pre_scorable [hSelectionReferenceIdeal : Cert.SelectionReferenceIdeal.Facts] [hPre_scorable : Cert.Pre_scorable.Facts] : Prop :=
  ∀ (m : (ℓ : Loc Cert.SelectionReferenceIdeal.nD Cert.SelectionReferenceIdeal.τ Cert.SelectionReferenceIdeal.sig) → Buf (Elt Ideal) ℓ) (g : Dev Cert.SelectionReferenceIdeal.nD → PrngReg), Pre_SelectionReferenceIdeal_scorable m →
    θ_run (Cert.SelectionReferenceIdeal.defs (F := Ideal)) (onTc (τ := Cert.SelectionReferenceIdeal.τ) (Cert.SelectionReferenceIdeal.main (F := Ideal))) ⟨m, fun _ => 0, g⟩ (fun r => (∀ c : Dev Cert.SelectionReferenceIdeal.nD,
      r.2.mem ((c.tc : Thread Cert.SelectionReferenceIdeal.nD Cert.SelectionReferenceIdeal.τ).loc Cert.SelectionReferenceIdeal.main_arg0) = m ((c.tc : Thread Cert.SelectionReferenceIdeal.nD Cert.SelectionReferenceIdeal.τ).loc Cert.SelectionReferenceIdeal.main_arg0)
      ∧ r.2.mem ((c.tc : Thread Cert.SelectionReferenceIdeal.nD Cert.SelectionReferenceIdeal.τ).loc Cert.SelectionReferenceIdeal.main_arg1) = m ((c.tc : Thread Cert.SelectionReferenceIdeal.nD Cert.SelectionReferenceIdeal.τ).loc Cert.SelectionReferenceIdeal.main_arg1)
      ∧ r.2.mem ((c.tc : Thread Cert.SelectionReferenceIdeal.nD Cert.SelectionReferenceIdeal.τ).loc Cert.SelectionReferenceIdeal.main_arg2) = m ((c.tc : Thread Cert.SelectionReferenceIdeal.nD Cert.SelectionReferenceIdeal.τ).loc Cert.SelectionReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Attention_AttentionIdeal : Prop :=
  True

def algebraic_AttentionIdeal_AttentionReferenceIdeal_pre_finite [hAttentionIdeal : Cert.AttentionIdeal.Facts] [hAttentionReferenceIdeal : Cert.AttentionReferenceIdeal.Facts] [hPre_finite : Cert.Pre_finite.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal_finite m →
    (∀ c : Dev Cert.AttentionIdeal.nD,
      m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0)
      ∧ m' ((c.tc : Thread Cert.AttentionReferenceIdeal.nD Cert.AttentionReferenceIdeal.τ).loc Cert.AttentionReferenceIdeal.main_arg1) = m ((c.tc : Thread Cert.AttentionIdeal.nD Cert.AttentionIdeal.τ).loc Cert.AttentionIdeal.main_arg1)
      ∧ m' ((c.tc : Thread Cert.AttentionReferenceIdeal.nD Cert.AttentionReferenceIdeal.τ).loc Cert.AttentionReferenceIdeal.main_arg2) = m ((c.tc : Thread Cert.AttentionIdeal.nD Cert.AttentionIdeal.τ).loc Cert.AttentionIdeal.main_arg2)
      ∧ m' ((c.tc : Thread Cert.AttentionReferenceIdeal.nD Cert.AttentionReferenceIdeal.τ).loc Cert.AttentionReferenceIdeal.main_arg3) = m ((c.tc : Thread Cert.AttentionIdeal.nD Cert.AttentionIdeal.τ).loc Cert.AttentionIdeal.main_arg3)
      ∧ m' ((c.tc : Thread Cert.AttentionReferenceIdeal.nD Cert.AttentionReferenceIdeal.τ).loc Cert.AttentionReferenceIdeal.main_arg4) = m ((c.tc : Thread Cert.AttentionIdeal.nD Cert.AttentionIdeal.τ).loc Cert.AttentionIdeal.main_arg4)
      ∧ m' ((c.tc : Thread Cert.AttentionReferenceIdeal.nD Cert.AttentionReferenceIdeal.τ).loc Cert.AttentionReferenceIdeal.main_arg5) = m ((c.tc : Thread Cert.AttentionIdeal.nD Cert.AttentionIdeal.τ).loc Cert.AttentionIdeal.main_arg5)) →
    ∃ (v0 : (c : Dev Cert.AttentionIdeal.nD) → Buf (Elt Ideal) ((c.tc : Thread Cert.AttentionIdeal.nD Cert.AttentionIdeal.τ).loc Cert.AttentionIdeal.main_v25)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v25) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
          ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
          ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5))
      ∧ θ_run (Cert.AttentionReferenceIdeal.defs (F := Ideal)) (onTc (τ := Cert.AttentionReferenceIdeal.τ) (Cert.AttentionReferenceIdeal.main (F := Ideal))) ⟨m', fun _ => 0, g'⟩ (fun r => ∀ c : Dev Cert.AttentionReferenceIdeal.nD,
          r.2.mem ((c.tc : Thread Cert.AttentionReferenceIdeal.nD Cert.AttentionReferenceIdeal.τ).loc Cert.AttentionReferenceIdeal.main_v36) = v0 c
          ∧ r.2.mem ((c.tc : Thread Cert.AttentionReferenceIdeal.nD Cert.AttentionReferenceIdeal.τ).loc Cert.AttentionReferenceIdeal.main_arg0) = m' ((c.tc : Thread Cert.AttentionReferenceIdeal.nD Cert.AttentionReferenceIdeal.τ).loc Cert.AttentionReferenceIdeal.main_arg0)
          ∧ r.2.mem ((c.tc : Thread Cert.AttentionReferenceIdeal.nD Cert.AttentionReferenceIdeal.τ).loc Cert.AttentionReferenceIdeal.main_arg1) = m' ((c.tc : Thread Cert.AttentionReferenceIdeal.nD Cert.AttentionReferenceIdeal.τ).loc Cert.AttentionReferenceIdeal.main_arg1)
          ∧ r.2.mem ((c.tc : Thread Cert.AttentionReferenceIdeal.nD Cert.AttentionReferenceIdeal.τ).loc Cert.AttentionReferenceIdeal.main_arg2) = m' ((c.tc : Thread Cert.AttentionReferenceIdeal.nD Cert.AttentionReferenceIdeal.τ).loc Cert.AttentionReferenceIdeal.main_arg2)
          ∧ r.2.mem ((c.tc : Thread Cert.AttentionReferenceIdeal.nD Cert.AttentionReferenceIdeal.τ).loc Cert.AttentionReferenceIdeal.main_arg3) = m' ((c.tc : Thread Cert.AttentionReferenceIdeal.nD Cert.AttentionReferenceIdeal.τ).loc Cert.AttentionReferenceIdeal.main_arg3)
          ∧ r.2.mem ((c.tc : Thread Cert.AttentionReferenceIdeal.nD Cert.AttentionReferenceIdeal.τ).loc Cert.AttentionReferenceIdeal.main_arg4) = m' ((c.tc : Thread Cert.AttentionReferenceIdeal.nD Cert.AttentionReferenceIdeal.τ).loc Cert.AttentionReferenceIdeal.main_arg4)
          ∧ r.2.mem ((c.tc : Thread Cert.AttentionReferenceIdeal.nD Cert.AttentionReferenceIdeal.τ).loc Cert.AttentionReferenceIdeal.main_arg5) = m' ((c.tc : Thread Cert.AttentionReferenceIdeal.nD Cert.AttentionReferenceIdeal.τ).loc Cert.AttentionReferenceIdeal.main_arg5))

def preserves_Transposition_TranspositionIdeal : Prop :=
  True

def algebraic_TranspositionIdeal_TranspositionReferenceIdeal [hTranspositionIdeal : Cert.TranspositionIdeal.Facts] [hTranspositionReferenceIdeal : Cert.TranspositionReferenceIdeal.Facts] : Prop :=
  ∀ (m : (ℓ : Loc Cert.TranspositionIdeal.nD Cert.TranspositionIdeal.τ Cert.TranspositionIdeal.sig) → Buf (Elt Ideal) ℓ) (g : Dev Cert.TranspositionIdeal.nD → PrngReg)
    (m' : (ℓ : Loc Cert.TranspositionReferenceIdeal.nD Cert.TranspositionReferenceIdeal.τ Cert.TranspositionReferenceIdeal.sig) → Buf (Elt Ideal) ℓ) (g' : Dev Cert.TranspositionReferenceIdeal.nD → PrngReg), Pre_TranspositionIdeal m →
    (∀ c : Dev Cert.TranspositionIdeal.nD,
      m' ((c.tc : Thread Cert.TranspositionReferenceIdeal.nD Cert.TranspositionReferenceIdeal.τ).loc Cert.TranspositionReferenceIdeal.main_arg0) = m ((c.tc : Thread Cert.TranspositionIdeal.nD Cert.TranspositionIdeal.τ).loc Cert.TranspositionIdeal.main_arg0)) →
    ∃ (v0 : (c : Dev Cert.TranspositionIdeal.nD) → Buf (Elt Ideal) ((c.tc : Thread Cert.TranspositionIdeal.nD Cert.TranspositionIdeal.τ).loc Cert.TranspositionIdeal.main_v1)),
      θ_run (Cert.TranspositionIdeal.defs (F := Ideal)) (onTc (τ := Cert.TranspositionIdeal.τ) (Cert.TranspositionIdeal.main (F := Ideal))) ⟨m, fun _ => 0, g⟩ (fun r => ∀ c : Dev Cert.TranspositionIdeal.nD,
          r.2.mem ((c.tc : Thread Cert.TranspositionIdeal.nD Cert.TranspositionIdeal.τ).loc Cert.TranspositionIdeal.main_v1) = v0 c
          ∧ r.2.mem ((c.tc : Thread Cert.TranspositionIdeal.nD Cert.TranspositionIdeal.τ).loc Cert.TranspositionIdeal.main_arg0) = m ((c.tc : Thread Cert.TranspositionIdeal.nD Cert.TranspositionIdeal.τ).loc Cert.TranspositionIdeal.main_arg0))
      ∧ θ_run (Cert.TranspositionReferenceIdeal.defs (F := Ideal)) (onTc (τ := Cert.TranspositionReferenceIdeal.τ) (Cert.TranspositionReferenceIdeal.main (F := Ideal))) ⟨m', fun _ => 0, g'⟩ (fun r => ∀ c : Dev Cert.TranspositionReferenceIdeal.nD,
          r.2.mem ((c.tc : Thread Cert.TranspositionReferenceIdeal.nD Cert.TranspositionReferenceIdeal.τ).loc Cert.TranspositionReferenceIdeal.main_v2) = v0 c
          ∧ r.2.mem ((c.tc : Thread Cert.TranspositionReferenceIdeal.nD Cert.TranspositionReferenceIdeal.τ).loc Cert.TranspositionReferenceIdeal.main_arg0) = m' ((c.tc : Thread Cert.TranspositionReferenceIdeal.nD Cert.TranspositionReferenceIdeal.τ).loc Cert.TranspositionReferenceIdeal.main_arg0))

def preserves_Selection_SelectionIdeal : Prop :=
  True

def algebraic_SelectionIdeal_SelectionReferenceIdeal_pre_scorable [hSelectionIdeal : Cert.SelectionIdeal.Facts] [hSelectionReferenceIdeal : Cert.SelectionReferenceIdeal.Facts] [hPre_scorable : Cert.Pre_scorable.Facts] : Prop :=
  ∀ (m : (ℓ : Loc Cert.SelectionIdeal.nD Cert.SelectionIdeal.τ Cert.SelectionIdeal.sig) → Buf (Elt Ideal) ℓ) (g : Dev Cert.SelectionIdeal.nD → PrngReg)
    (m' : (ℓ : Loc Cert.SelectionReferenceIdeal.nD Cert.SelectionReferenceIdeal.τ Cert.SelectionReferenceIdeal.sig) → Buf (Elt Ideal) ℓ) (g' : Dev Cert.SelectionReferenceIdeal.nD → PrngReg), Pre_SelectionIdeal_scorable m →
    (∀ c : Dev Cert.SelectionIdeal.nD,
      m' ((c.tc : Thread Cert.SelectionReferenceIdeal.nD Cert.SelectionReferenceIdeal.τ).loc Cert.SelectionReferenceIdeal.main_arg0) = m ((c.tc : Thread Cert.SelectionIdeal.nD Cert.SelectionIdeal.τ).loc Cert.SelectionIdeal.main_arg0)
      ∧ m' ((c.tc : Thread Cert.SelectionReferenceIdeal.nD Cert.SelectionReferenceIdeal.τ).loc Cert.SelectionReferenceIdeal.main_arg1) = m ((c.tc : Thread Cert.SelectionIdeal.nD Cert.SelectionIdeal.τ).loc Cert.SelectionIdeal.main_arg1)
      ∧ m' ((c.tc : Thread Cert.SelectionReferenceIdeal.nD Cert.SelectionReferenceIdeal.τ).loc Cert.SelectionReferenceIdeal.main_arg2) = m ((c.tc : Thread Cert.SelectionIdeal.nD Cert.SelectionIdeal.τ).loc Cert.SelectionIdeal.main_arg2)) →
    ∃ (v0 : (c : Dev Cert.SelectionIdeal.nD) → Buf (Elt Ideal) ((c.tc : Thread Cert.SelectionIdeal.nD Cert.SelectionIdeal.τ).loc Cert.SelectionIdeal.main_v4)),
      θ_run (Cert.SelectionIdeal.defs (F := Ideal)) (onTc (τ := Cert.SelectionIdeal.τ) (Cert.SelectionIdeal.main (F := Ideal))) ⟨m, fun _ => 0, g⟩ (fun r => ∀ c : Dev Cert.SelectionIdeal.nD,
          r.2.mem ((c.tc : Thread Cert.SelectionIdeal.nD Cert.SelectionIdeal.τ).loc Cert.SelectionIdeal.main_v4) = v0 c
          ∧ r.2.mem ((c.tc : Thread Cert.SelectionIdeal.nD Cert.SelectionIdeal.τ).loc Cert.SelectionIdeal.main_arg0) = m ((c.tc : Thread Cert.SelectionIdeal.nD Cert.SelectionIdeal.τ).loc Cert.SelectionIdeal.main_arg0)
          ∧ r.2.mem ((c.tc : Thread Cert.SelectionIdeal.nD Cert.SelectionIdeal.τ).loc Cert.SelectionIdeal.main_arg1) = m ((c.tc : Thread Cert.SelectionIdeal.nD Cert.SelectionIdeal.τ).loc Cert.SelectionIdeal.main_arg1)
          ∧ r.2.mem ((c.tc : Thread Cert.SelectionIdeal.nD Cert.SelectionIdeal.τ).loc Cert.SelectionIdeal.main_arg2) = m ((c.tc : Thread Cert.SelectionIdeal.nD Cert.SelectionIdeal.τ).loc Cert.SelectionIdeal.main_arg2))
      ∧ θ_run (Cert.SelectionReferenceIdeal.defs (F := Ideal)) (onTc (τ := Cert.SelectionReferenceIdeal.τ) (Cert.SelectionReferenceIdeal.main (F := Ideal))) ⟨m', fun _ => 0, g'⟩ (fun r => ∀ c : Dev Cert.SelectionReferenceIdeal.nD,
          r.2.mem ((c.tc : Thread Cert.SelectionReferenceIdeal.nD Cert.SelectionReferenceIdeal.τ).loc Cert.SelectionReferenceIdeal.main_indices) = v0 c
          ∧ r.2.mem ((c.tc : Thread Cert.SelectionReferenceIdeal.nD Cert.SelectionReferenceIdeal.τ).loc Cert.SelectionReferenceIdeal.main_arg0) = m' ((c.tc : Thread Cert.SelectionReferenceIdeal.nD Cert.SelectionReferenceIdeal.τ).loc Cert.SelectionReferenceIdeal.main_arg0)
          ∧ r.2.mem ((c.tc : Thread Cert.SelectionReferenceIdeal.nD Cert.SelectionReferenceIdeal.τ).loc Cert.SelectionReferenceIdeal.main_arg1) = m' ((c.tc : Thread Cert.SelectionReferenceIdeal.nD Cert.SelectionReferenceIdeal.τ).loc Cert.SelectionReferenceIdeal.main_arg1)
          ∧ r.2.mem ((c.tc : Thread Cert.SelectionReferenceIdeal.nD Cert.SelectionReferenceIdeal.τ).loc Cert.SelectionReferenceIdeal.main_arg2) = m' ((c.tc : Thread Cert.SelectionReferenceIdeal.nD Cert.SelectionReferenceIdeal.τ).loc Cert.SelectionReferenceIdeal.main_arg2))

def Claim : Prop :=
  ∃ (hKernel : Cert.Kernel.Facts) (hKernelIdeal : Cert.KernelIdeal.Facts) (hReferenceIdeal : Cert.ReferenceIdeal.Facts) (hAttention : Cert.Attention.Facts) (hAttentionIdeal : Cert.AttentionIdeal.Facts) (hAttentionReferenceIdeal : Cert.AttentionReferenceIdeal.Facts) (hTransposition : Cert.Transposition.Facts) (hTranspositionIdeal : Cert.TranspositionIdeal.Facts) (hTranspositionReferenceIdeal : Cert.TranspositionReferenceIdeal.Facts) (hSelection : Cert.Selection.Facts) (hSelectionIdeal : Cert.SelectionIdeal.Facts) (hSelectionReferenceIdeal : Cert.SelectionReferenceIdeal.Facts) (hPre_in_range : Cert.Pre_in_range.Facts) (hPre_finite : Cert.Pre_finite.Facts) (hPre_sampled : Cert.Pre_sampled.Facts) (hPre_scorable : Cert.Pre_scorable.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Attention (hAttention := hAttention)
    ∧ quiescent_AttentionIdeal (hAttentionIdeal := hAttentionIdeal)
    ∧ quiescent_AttentionIdeal_pre_finite (hAttentionIdeal := hAttentionIdeal) (hPre_finite := hPre_finite)
    ∧ quiescent_AttentionReferenceIdeal (hAttentionReferenceIdeal := hAttentionReferenceIdeal)
    ∧ quiescent_AttentionReferenceIdeal_pre_finite (hAttentionReferenceIdeal := hAttentionReferenceIdeal) (hPre_finite := hPre_finite)
    ∧ quiescent_Transposition (hTransposition := hTransposition)
    ∧ quiescent_TranspositionIdeal (hTranspositionIdeal := hTranspositionIdeal)
    ∧ quiescent_TranspositionReferenceIdeal (hTranspositionReferenceIdeal := hTranspositionReferenceIdeal)
    ∧ quiescent_Selection (hSelection := hSelection) (hPre_sampled := hPre_sampled)
    ∧ quiescent_SelectionIdeal (hSelectionIdeal := hSelectionIdeal) (hPre_sampled := hPre_sampled)
    ∧ quiescent_SelectionIdeal_pre_scorable (hSelectionIdeal := hSelectionIdeal) (hPre_scorable := hPre_scorable)
    ∧ quiescent_SelectionReferenceIdeal (hSelectionReferenceIdeal := hSelectionReferenceIdeal)
    ∧ quiescent_SelectionReferenceIdeal_pre_scorable (hSelectionReferenceIdeal := hSelectionReferenceIdeal) (hPre_scorable := hPre_scorable)
    ∧ preserves_Kernel_KernelIdeal
    ∧ algebraic_KernelIdeal_ReferenceIdeal (hKernelIdeal := hKernelIdeal) (hReferenceIdeal := hReferenceIdeal) (hPre_in_range := hPre_in_range)
    ∧ preserves_Attention_AttentionIdeal
    ∧ algebraic_AttentionIdeal_AttentionReferenceIdeal_pre_finite (hAttentionIdeal := hAttentionIdeal) (hAttentionReferenceIdeal := hAttentionReferenceIdeal) (hPre_finite := hPre_finite)
    ∧ preserves_Transposition_TranspositionIdeal
    ∧ algebraic_TranspositionIdeal_TranspositionReferenceIdeal (hTranspositionIdeal := hTranspositionIdeal) (hTranspositionReferenceIdeal := hTranspositionReferenceIdeal)
    ∧ preserves_Selection_SelectionIdeal
    ∧ algebraic_SelectionIdeal_SelectionReferenceIdeal_pre_scorable (hSelectionIdeal := hSelectionIdeal) (hSelectionReferenceIdeal := hSelectionReferenceIdeal) (hPre_scorable := hPre_scorable)
-- ==== Pre_finite.lean ====
abbrev S1024x20 : Shape := ⟨2, ![1024, 20]⟩
abbrev S20480x32x128 : Shape := ⟨3, ![20480, 32, 128]⟩
abbrev S32x32 : Shape := ⟨2, ![32, 32]⟩
abbrev S20480x32x32 : Shape := ⟨3, ![20480, 32, 32]⟩
abbrev S_ : Shape := ⟨0, ![]⟩

class Facts : Prop where
  slices_S20480x32x128_S20480x32x32_0_0_0 : S20480x32x128.Slices ![0, 0, 0] S20480x32x32
  bcast_S_S20480x32x32 : S_.BroadcastsInDim S20480x32x32 (![] : Fin 0 → Fin S20480x32x32.rank)
  reducesTo_S20480x32x32_S_d0_1_2 : S20480x32x32.ReducesTo [0, 1, 2] S_
  h_S_ : 0 < S_.numel
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg5 : FVec F S32x32 .f32) (main_v14 : IVec S_ 1) (main_v15 : FVec F S32x32 .f32) (main_v16 : FVec F S32x32 .f32) : IVec S_ 1 :=
  let main_v17 : IVec S32x32 1 := cmpf .olt main_v15 main_v16
  let main_c_5 : IVec S_ 1 := constantI S_ 1 1#1
  let main_v18 : IVec S_ 1 := (fun x v => Host.reduce IntOp.andi x v reducesTo_S32x32_S_d0_1 h_S_) main_v17 main_c_5
  let main_v19 : IVec S_ 1 := andi main_v14 main_v18
  let main_v20 : FVec F S32x32 .f32 := Host.absf main_arg5
  let main_cst_6 : FVec F S_ .f32 := constant S_ .f32 0x7F800000#32
  let main_v21 : FVec F S32x32 .f32 := broadcastInDim S32x32 ![] bcast_S_S32x32 main_cst_6
  let main_v22 : IVec S32x32 1 := cmpf .olt main_v20 main_v21
  let main_c_7 : IVec S_ 1 := constantI S_ 1 1#1
  let main_v23 : IVec S_ 1 := (fun x v => Host.reduce IntOp.andi x v reducesTo_S32x32_S_d0_1 h_S_) main_v22 main_c_7
  let main_v24 : IVec S_ 1 := andi main_v19 main_v23
  main_v24

def fn {F : FTy → Type} [FloatOps F] (main_arg0 : IVec S1024x20 32) (main_arg1 : FVec F S20480x32x128 .f32) (main_arg2 : FVec F S32x32 .f32) (main_arg3 : FVec F S32x32 .f32) (main_arg4 : FVec F S32x32 .f32) (main_arg5 : FVec F S32x32 .f32) : IVec S_ 1 :=
  let main_v0 : FVec F S20480x32x32 .f32 := (extractStridedSlice S20480x32x32 ![0, 0, 0] · slices_S20480x32x128_S20480x32x32_0_0_0) main_arg1
  let main_v1 : FVec F S20480x32x32 .f32 := Host.absf main_v0
  let main_cst : FVec F S_ .f32 := constant S_ .f32 0x7F800000#32
  let main_v2 : FVec F S20480x32x32 .f32 := broadcastInDim S20480x32x32 ![] bcast_S_S20480x32x32 main_cst
  let main_v3 : IVec S20480x32x32 1 := cmpf .olt main_v1 main_v2
  let main_c : IVec S_ 1 := constantI S_ 1 1#1
  let main_v4 : IVec S_ 1 := (fun x v => Host.reduce IntOp.andi x v reducesTo_S20480x32x32_S_d0_1_2 h_S_) main_v3 main_c
  let main_v5 : FVec F S32x32 .f32 := Host.absf main_arg2
  let main_cst_0 : FVec F S_ .f32 := constant S_ .f32 0x7F800000#32
  let main_v6 : FVec F S32x32 .f32 := broadcastInDim S32x32 ![] bcast_S_S32x32 main_cst_0
  let main_v7 : IVec S32x32 1 := cmpf .olt main_v5 main_v6
  let main_c_1 : IVec S_ 1 := constantI S_ 1 1#1
  let main_v8 : IVec S_ 1 := (fun x v => Host.reduce IntOp.andi x v reducesTo_S32x32_S_d0_1 h_S_) main_v7 main_c_1
  let main_v9 : IVec S_ 1 := andi main_v4 main_v8
  let main_v10 : FVec F S32x32 .f32 := Host.absf main_arg3
  let main_cst_2 : FVec F S_ .f32 := constant S_ .f32 0x7F800000#32
  let main_v11 : FVec F S32x32 .f32 := broadcastInDim S32x32 ![] bcast_S_S32x32 main_cst_2
  let main_v12 : IVec S32x32 1 := cmpf .olt main_v10 main_v11
  let main_c_3 : IVec S_ 1 := constantI S_ 1 1#1
  let main_v13 : IVec S_ 1 := (fun x v => Host.reduce IntOp.andi x v reducesTo_S32x32_S_d0_1 h_S_) main_v12 main_c_3
  let main_v14 : IVec S_ 1 := andi main_v9 main_v13
  let main_v15 : FVec F S32x32 .f32 := Host.absf main_arg4
  let main_cst_4 : FVec F S_ .f32 := constant S_ .f32 0x7F800000#32
  let main_v16 : FVec F S32x32 .f32 := broadcastInDim S32x32 ![] bcast_S_S32x32 main_cst_4
  fn_part1 (F := F) main_arg5 main_v14 main_v15 main_v16
-- ==== Pre_in_range.lean ====
abbrev S1024x20 : Shape := ⟨2, ![1024, 20]⟩
abbrev S2048x128 : Shape := ⟨2, ![2048, 128]⟩
abbrev S100001x32 : Shape := ⟨2, ![100001, 32]⟩
abbrev S20480x32 : Shape := ⟨2, ![20480, 32]⟩
abbrev S_ : Shape := ⟨0, ![]⟩

class Facts : Prop where
  bcast_S_S1024x20 : S_.BroadcastsInDim S1024x20 (![] : Fin 0 → Fin S1024x20.rank)
  reducesTo_S1024x20_S_d0_1 : S1024x20.ReducesTo [0, 1] S_
  h_S_ : 0 < S_.numel
  bcast_S_S2048x128 : S_.BroadcastsInDim S2048x128 (![] : Fin 0 → Fin S2048x128.rank)
  reducesTo_S2048x128_S_d0_1 : S2048x128.ReducesTo [0, 1] S_
  bcast_S_S20480x32 : S_.BroadcastsInDim S20480x32 (![] : Fin 0 → Fin S20480x32.rank)
  reducesTo_S20480x32_S_d0_1 : S20480x32.ReducesTo [0, 1] S_

variable [Facts]

def fn_part1 {F : FTy → Type} [FloatOps F] (main_arg3 : IVec S20480x32 32) (main_v12 : IVec S_ 1) (main_v14 : IVec S20480x32 1) (main_v15 : IVec S20480x32 32) : IVec S_ 1 :=
  let main_v16 : IVec S20480x32 1 := cmpi .slt main_arg3 main_v15
  let main_v17 : IVec S20480x32 1 := andi main_v14 main_v16
  let main_c_7 : IVec S_ 1 := constantI S_ 1 1#1
  let main_v18 : IVec S_ 1 := (fun x v => Host.reduce IntOp.andi x v reducesTo_S20480x32_S_d0_1 h_S_) main_v17 main_c_7
  let main_v19 : IVec S_ 1 := andi main_v12 main_v18
  main_v19

def fn {F : FTy → Type} [FloatOps F] (main_arg0 : IVec S1024x20 32) (main_arg1 : IVec S2048x128 32) (main_arg2 : FVec F S100001x32 .f32) (main_arg3 : IVec S20480x32 32) : IVec S_ 1 :=
  let main_c : IVec S_ 32 := constantI S_ 32 0#32
  let main_v0 : IVec S1024x20 32 := broadcastInDim S1024x20 ![] bcast_S_S1024x20 main_c
  let main_v1 : IVec S1024x20 1 := cmpi .sge main_arg0 main_v0
  let main_c_0 : IVec S_ 32 := constantI S_ 32 2048#32
  let main_v2 : IVec S1024x20 32 := broadcastInDim S1024x20 ![] bcast_S_S1024x20 main_c_0
  let main_v3 : IVec S1024x20 1 := cmpi .slt main_arg0 main_v2
  let main_v4 : IVec S1024x20 1 := andi main_v1 main_v3
  let main_c_1 : IVec S_ 1 := constantI S_ 1 1#1
  let main_v5 : IVec S_ 1 := (fun x v => Host.reduce IntOp.andi x v reducesTo_S1024x20_S_d0_1 h_S_) main_v4 main_c_1
  let main_c_2 : IVec S_ 32 := constantI S_ 32 0#32
  let main_v6 : IVec S2048x128 32 := broadcastInDim S2048x128 ![] bcast_S_S2048x128 main_c_2
  let main_v7 : IVec S2048x128 1 := cmpi .sge main_arg1 main_v6
  let main_c_3 : IVec S_ 32 := constantI S_ 32 100000#32
  let main_v8 : IVec S2048x128 32 := broadcastInDim S2048x128 ![] bcast_S_S2048x128 main_c_3
  let main_v9 : IVec S2048x128 1 := cmpi .sle main_arg1 main_v8
  let main_v10 : IVec S2048x128 1 := andi main_v7 main_v9
  let main_c_4 : IVec S_ 1 := constantI S_ 1 1#1
  let main_v11 : IVec S_ 1 := (fun x v => Host.reduce IntOp.andi x v reducesTo_S2048x128_S_d0_1 h_S_) main_v10 main_c_4
  let main_v12 : IVec S_ 1 := andi main_v5 main_v11
  let main_c_5 : IVec S_ 32 := constantI S_ 32 0#32
  let main_v13 : IVec S20480x32 32 := broadcastInDim S20480x32 ![] bcast_S_S20480x32 main_c_5
  let main_v14 : IVec S20480x32 1 := cmpi .sge main_arg3 main_v13
  let main_c_6 : IVec S_ 32 := constantI S_ 32 128#32
  let main_v15 : IVec S20480x32 32 := broadcastInDim S20480x32 ![] bcast_S_S20480x32 main_c_6
  fn_part1 (F := F) main_arg3 main_v12 main_v14 main_v15
-- ==== Pre_sampled.lean ====
abbrev S1024x20 : Shape := ⟨2, ![1024, 20]⟩
abbrev S1024x20x32 : Shape := ⟨3, ![1024, 20, 32]⟩
abbrev S2048x32x128 : Shape := ⟨3, ![2048, 32, 128]⟩
abbrev S_ : Shape := ⟨0, ![]⟩

class Facts : Prop where
  bcast_S_S1024x20 : S_.BroadcastsInDim S1024x20 (![] : Fin 0 → Fin S1024x20.rank)
  reducesTo_S1024x20_S_d0_1 : S1024x20.ReducesTo [0, 1] S_
  h_S_ : 0 < S_.numel

variable [Facts]

def fn {F : FTy → Type} [FloatOps F] (main_arg0 : IVec S1024x20 32) (main_arg1 : FVec F S1024x20x32 .f32) (main_arg2 : FVec F S2048x32x128 .f32) : IVec S_ 1 :=
  let main_c : IVec S_ 32 := constantI S_ 32 0#32
  let main_v0 : IVec S1024x20 32 := broadcastInDim S1024x20 ![] bcast_S_S1024x20 main_c
  let main_v1 : IVec S1024x20 1 := cmpi .sge main_arg0 main_v0
  let main_c_0 : IVec S_ 32 := constantI S_ 32 2048#32
  let main_v2 : IVec S1024x20 32 := broadcastInDim S1024x20 ![] bcast_S_S1024x20 main_c_0
  let main_v3 : IVec S1024x20 1 := cmpi .slt main_arg0 main_v2
  let main_v4 : IVec S1024x20 1 := andi main_v1 main_v3
  let main_c_1 : IVec S_ 1 := constantI S_ 1 1#1
  let main_v5 : IVec S_ 1 := (fun x v => Host.reduce IntOp.andi x v reducesTo_S1024x20_S_d0_1 h_S_) main_v4 main_c_1
  main_v5
-- ==== Pre_scorable.lean ====
abbrev S1024x20 : Shape := ⟨2, ![1024, 20]⟩
abbrev S1024x20x32 : Shape := ⟨3, ![1024, 20, 32]⟩
abbrev S2048x32x128 : Shape := ⟨3, ![2048, 32, 128]⟩
abbrev S_ : Shape := ⟨0, ![]⟩

class Facts : Prop where
  bcast_S_S1024x20 : S_.BroadcastsInDim S1024x20 (![] : Fin 0 → Fin S1024x20.rank)
  reducesTo_S1024x20_S_d0_1 : S1024x20.ReducesTo [0, 1] S_
  h_S_ : 0 < S_.numel
  bcast_S_S1024x20x32 : S_.BroadcastsInDim S1024x20x32 (![] : Fin 0 → Fin S1024x20x32.rank)
  reducesTo_S1024x20x32_S_d0_1_2 : S1024x20x32.ReducesTo [0, 1, 2] S_
  bcast_S_S2048x32x128 : S_.BroadcastsInDim S2048x32x128 (![] : Fin 0 → Fin S2048x32x128.rank)
  reducesTo_S2048x32x128_S_d0_1_2 : S2048x32x128.ReducesTo [0, 1, 2] S_

variable [Facts]

def fn {F : FTy → Type} [FloatOps F] (main_arg0 : IVec S1024x20 32) (main_arg1 : FVec F S1024x20x32 .f32) (main_arg2 : FVec F S2048x32x128 .f32) : IVec S_ 1 :=
  let main_c : IVec S_ 32 := constantI S_ 32 0#32
  let main_v0 : IVec S1024x20 32 := broadcastInDim S1024x20 ![] bcast_S_S1024x20 main_c
  let main_v1 : IVec S1024x20 1 := cmpi .sge main_arg0 main_v0
  let main_c_0 : IVec S_ 32 := constantI S_ 32 2048#32
  let main_v2 : IVec S1024x20 32 := broadcastInDim S1024x20 ![] bcast_S_S1024x20 main_c_0
  let main_v3 : IVec S1024x20 1 := cmpi .slt main_arg0 main_v2
  let main_v4 : IVec S1024x20 1 := andi main_v1 main_v3
  let main_c_1 : IVec S_ 1 := constantI S_ 1 1#1
  let main_v5 : IVec S_ 1 := (fun x v => Host.reduce IntOp.andi x v reducesTo_S1024x20_S_d0_1 h_S_) main_v4 main_c_1
  let main_v6 : FVec F S1024x20x32 .f32 := Host.absf main_arg1
  let main_cst : FVec F S_ .f32 := constant S_ .f32 0x7F800000#32
  let main_v7 : FVec F S1024x20x32 .f32 := broadcastInDim S1024x20x32 ![] bcast_S_S1024x20x32 main_cst
  let main_v8 : IVec S1024x20x32 1 := cmpf .olt main_v6 main_v7
  let main_c_2 : IVec S_ 1 := constantI S_ 1 1#1
  let main_v9 : IVec S_ 1 := (fun x v => Host.reduce IntOp.andi x v reducesTo_S1024x20x32_S_d0_1_2 h_S_) main_v8 main_c_2
  let main_v10 : IVec S_ 1 := andi main_v5 main_v9
  let main_v11 : FVec F S2048x32x128 .f32 := Host.absf main_arg2
  let main_cst_3 : FVec F S_ .f32 := constant S_ .f32 0x7F800000#32
  let main_v12 : FVec F S2048x32x128 .f32 := broadcastInDim S2048x32x128 ![] bcast_S_S2048x32x128 main_cst_3
  let main_v13 : IVec S2048x32x128 1 := cmpf .olt main_v11 main_v12
  let main_c_4 : IVec S_ 1 := constantI S_ 1 1#1
  let main_v14 : IVec S_ 1 := (fun x v => Host.reduce IntOp.andi x v reducesTo_S2048x32x128_S_d0_1_2 h_S_) main_v13 main_c_4
  let main_v15 : IVec S_ 1 := andi main_v10 main_v14
  main_v15
-- ==== Kernel.lean ====
abbrev S1024x20 : Shape := ⟨2, ![1024, 20]⟩
abbrev S2048x128 : Shape := ⟨2, ![2048, 128]⟩
abbrev S100001x32 : Shape := ⟨2, ![100001, 32]⟩
abbrev S20480x32 : Shape := ⟨2, ![20480, 32]⟩
abbrev S20480 : Shape := ⟨1, ![20480]⟩
abbrev S_ : Shape := ⟨0, ![]⟩
abbrev S100001x128 : Shape := ⟨2, ![100001, 128]⟩
abbrev S1x262144 : Shape := ⟨2, ![1, 262144]⟩
abbrev S262144x128 : Shape := ⟨2, ![262144, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S20480x1 : Shape := ⟨2, ![20480, 1]⟩
abbrev S1x655360 : Shape := ⟨2, ![1, 655360]⟩
abbrev S655360x128 : Shape := ⟨2, ![655360, 128]⟩
abbrev S20480x32x128 : Shape := ⟨3, ![20480, 32, 128]⟩
abbrev S20480x32x32 : Shape := ⟨3, ![20480, 32, 32]⟩

abbrev nBuf : Table → Nat
  | .hbm => 20
  | .local .scVector .vmem => 4
  | _ => 0

abbrev bufTy : (tb : Table) → Fin (nBuf tb) → BufTy
  | .hbm, ⟨0, _⟩ => ⟨S1024x20, .i32⟩
  | .hbm, ⟨1, _⟩ => ⟨S2048x128, .i32⟩
  | .hbm, ⟨2, _⟩ => ⟨S100001x32, .f32⟩
  | .hbm, ⟨3, _⟩ => ⟨S20480x32, .i32⟩
  | .hbm, ⟨4, _⟩ => ⟨S20480, .i32⟩
  | .hbm, ⟨5, _⟩ => ⟨S_, .i32⟩
  | .hbm, ⟨6, _⟩ => ⟨S_, .f32⟩
  | .hbm, ⟨7, _⟩ => ⟨S100001x128, .f32⟩
  | .hbm, ⟨8, _⟩ => ⟨S1x262144, .i32⟩
  | .hbm, ⟨9, _⟩ => ⟨S262144x128, .f32⟩
  | .hbm, ⟨10, _⟩ => ⟨S20480x1, .i32⟩
  | .hbm, ⟨11, _⟩ => ⟨S_, .i32⟩
  | .hbm, ⟨12, _⟩ => ⟨S20480x1, .i32⟩
  | .hbm, ⟨13, _⟩ => ⟨S20480x1, .i32⟩
  | .hbm, ⟨14, _⟩ => ⟨S20480x32, .i32⟩
  | .hbm, ⟨15, _⟩ => ⟨S20480x32, .i32⟩
  | .hbm, ⟨16, _⟩ => ⟨S1x655360, .i32⟩
  | .hbm, ⟨17, _⟩ => ⟨S655360x128, .f32⟩
  | .hbm, ⟨18, _⟩ => ⟨S20480x32x128, .f32⟩
  | .hbm, ⟨19, _⟩ => ⟨S20480x32x32, .f32⟩
  | .local .scVector .vmem, ⟨0, _⟩ => ⟨S2x1x128, .i32⟩
  | .local .scVector .vmem, ⟨1, _⟩ => ⟨S2x128x128, .f32⟩
  | .local .scVector .vmem, ⟨2, _⟩ => ⟨S2x1x128, .i32⟩
  | .local .scVector .vmem, ⟨3, _⟩ => ⟨S2x128x128, .f32⟩
  | _, _ => ⟨S1024x20, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v1_scv : Ref sig .scVector := ⟨.hbm, 7, rfl⟩
abbrev main_v2_scv : Ref sig .scVector := ⟨.hbm, 8, rfl⟩
abbrev main_v3_scv : Ref sig .scVector := ⟨.hbm, 9, rfl⟩
abbrev main_v9_scv : Ref sig .scVector := ⟨.hbm, 16, rfl⟩
abbrev main_v10_scv : Ref sig .scVector := ⟨.hbm, 17, rfl⟩
abbrev cc0_scoped0 : Ref sig .scVector := ⟨.vmem, 0, rfl⟩
abbrev cc0_scoped2 : Ref sig .scVector := ⟨.vmem, 1, rfl⟩
abbrev cc1_scoped0 : Ref sig .scVector := ⟨.vmem, 2, rfl⟩
abbrev cc1_scoped2 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c64_i32_27_r0 : BitVec 32 := 64#32
  let v32_r0 : BitVec 32 := Scalar.addi c0_i32_26_r0 c64_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c64_i32_62_r0 : BitVec 32 := 64#32
  let v74_r0 : BitVec 1 := Scalar.cmpi .eq v73_r0 c64_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c63_i32_68_r0 : BitVec 32 := 63#32
  let v83_r0 : BitVec 1 := Scalar.cmpi .sge arg5_r0 c63_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c64_i32_62_r0 : BitVec 32 := 64#32
  let v74_r0 : BitVec 1 := Scalar.cmpi .eq v73_r0 c64_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c63_i32_59_r0 : BitVec 32 := 63#32
  let v70_r0 : BitVec 32 := Scalar.select v69_r0 c63_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c64_i32_62_r0 : BitVec 32 := 64#32
  let v74_r0 : BitVec 1 := Scalar.cmpi .eq v73_r0 c64_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c63_i32_55_r0 : BitVec 32 := 63#32
  let v65_r0 : BitVec 1 := Scalar.cmpi .eq arg5_r0 c63_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c63_i32_59_r0 : BitVec 32 := 63#32
  let v70_r0 : BitVec 32 := Scalar.select v69_r0 c63_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c63_i32_59_r0 : BitVec 32 := 63#32
  let v70_r0 : BitVec 32 := Scalar.select v69_r0 c63_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x262144.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x262144.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S262144x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S262144x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x262144.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x262144.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S262144x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S262144x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c63_i32_33_r0 : BitVec 32 := 63#32
  let v37_r0 : BitVec 32 := Scalar.select v36_r0 c63_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S262144x128.size a)
theorem k0_off19_inb : ∀ (i : grid0.Coords) (v33_4_r0 : BitVec 32) (k0_hw5 : k0_chk5 i v33_4_r0), ∀ a, (k0_off19 i v33_4_r0) a + S128x128.size a ≤ S262144x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev grid1 : Pipeline.Grid := ⟨2, ![2, 16], ![false, false]⟩

def k1_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k1_off2 (i : grid1.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c160_i32 : BitVec 32 := 160#32
  let v4 : BitVec 32 := Scalar.muli v3 c160_i32
  let v7_r0 : BitVec 32 := Scalar.addi c0_i32_1_r0 v4
  let v22_r0 : BitVec 32 := Scalar.muli c128_i32_r0 v7_r0
  ![0, v22_r0.toNat]
def k1_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k1_t1_loop : Scf.Loop 32 :=
  let c0_i32_26_r0 : BitVec 32 := 0#32
  let c160_i32_27_r0 : BitVec 32 := 160#32
  let v32_r0 : BitVec 32 := Scalar.addi c0_i32_26_r0 c160_i32_27_r0
  let c1_i32_28_r0 : BitVec 32 := 1#32
  ⟨c0_i32_26_r0, v32_r0, c1_i32_28_r0⟩
def k1_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k1_cond1 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c160_i32 : BitVec 32 := 160#32
  let v4 : BitVec 32 := Scalar.muli v3 c160_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c160_i32_62_r0 : BitVec 32 := 160#32
  let v74_r0 : BitVec 1 := Scalar.cmpi .eq v73_r0 c160_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c159_i32_68_r0 : BitVec 32 := 159#32
  let v83_r0 : BitVec 1 := Scalar.cmpi .sge arg5_r0 c159_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k1_off5 (i : grid1.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c160_i32_62_r0 : BitVec 32 := 160#32
  let v74_r0 : BitVec 1 := Scalar.cmpi .eq v73_r0 c160_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c160_i32 : BitVec 32 := 160#32
  let v4 : BitVec 32 := Scalar.muli v3 c160_i32
  let v76_r0 : BitVec 32 := Scalar.addi v75_r0 v4
  let v145_r0 : BitVec 32 := Scalar.muli c128_i32_100_r0 v76_r0
  ![0, v145_r0.toNat]
def k1_off6 (arg6_r0 : BitVec 32) : Fin 1 → Nat :=
  let c2_i32_99_r0 : BitVec 32 := 2#32
  let v144_r0 : BitVec 32 := Scalar.remui arg6_r0 c2_i32_99_r0
  ![v144_r0.toNat]
def k1_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k1_cond2 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c160_i32 : BitVec 32 := 160#32
  let v4 : BitVec 32 := Scalar.muli v3 c160_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c159_i32_59_r0 : BitVec 32 := 159#32
  let v70_r0 : BitVec 32 := Scalar.select v69_r0 c159_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k1_off8 (i : grid1.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c160_i32 : BitVec 32 := 160#32
  let v4 : BitVec 32 := Scalar.muli v3 c160_i32
  let v66_r0 : BitVec 32 := Scalar.addi arg10_r0 v4
  let v144_r0 : BitVec 32 := Scalar.muli c128_i32_99_r0 v66_r0
  ![0, v144_r0.toNat]
def k1_off9 (arg7_r0 : BitVec 32) : Fin 1 → Nat :=
  let c2_i32_100_r0 : BitVec 32 := 2#32
  let v145_r0 : BitVec 32 := Scalar.remui arg7_r0 c2_i32_100_r0
  ![v145_r0.toNat]
def k1_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k1_chk2 (arg8_r0 : BitVec 32) : Prop :=
  (∀ a, (k1_off10 arg8_r0) a + S1x128x128.size a ≤ S2x128x128.size a)
theorem k1_off10_inb : ∀ (arg8_r0 : BitVec 32) (k1_hw2 : k1_chk2 arg8_r0), ∀ a, (k1_off10 arg8_r0) a + S1x128x128.size a ≤ S2x128x128.size a := fun arg8_r0 k1_hw2 => k1_hw2

def k1_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k1_chk3 (arg7_r0 : BitVec 32) : Prop :=
  (∀ a, (k1_off11 arg7_r0) a + S1x1x128.size a ≤ S2x1x128.size a)
theorem k1_off11_inb : ∀ (arg7_r0 : BitVec 32) (k1_hw3 : k1_chk3 arg7_r0), ∀ a, (k1_off11 arg7_r0) a + S1x1x128.size a ≤ S2x1x128.size a := fun arg7_r0 k1_hw3 => k1_hw3

def k1_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k1_cond5 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c160_i32 : BitVec 32 := 160#32
  let v4 : BitVec 32 := Scalar.muli v3 c160_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c160_i32_62_r0 : BitVec 32 := 160#32
  let v74_r0 : BitVec 1 := Scalar.cmpi .eq v73_r0 c160_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c159_i32_55_r0 : BitVec 32 := 159#32
  let v65_r0 : BitVec 1 := Scalar.cmpi .eq arg5_r0 c159_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k1_off13 (i : grid1.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c160_i32 : BitVec 32 := 160#32
  let v4 : BitVec 32 := Scalar.muli v3 c160_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k1_off14 (arg8_r0 : BitVec 32) : Fin 1 → Nat :=
  let c2_i32_99_r0 : BitVec 32 := 2#32
  let v144_r0 : BitVec 32 := Scalar.remui arg8_r0 c2_i32_99_r0
  ![v144_r0.toNat]
def k1_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k1_cond7 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c160_i32 : BitVec 32 := 160#32
  let v4 : BitVec 32 := Scalar.muli v3 c160_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c159_i32_59_r0 : BitVec 32 := 159#32
  let v70_r0 : BitVec 32 := Scalar.select v69_r0 c159_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k1_off16 (i : grid1.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c159_i32_59_r0 : BitVec 32 := 159#32
  let v70_r0 : BitVec 32 := Scalar.select v69_r0 c159_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c160_i32 : BitVec 32 := 160#32
  let v4 : BitVec 32 := Scalar.muli v3 c160_i32
  let v71_r0 : BitVec 32 := Scalar.addi v70_r0 v4
  let v145_r0 : BitVec 32 := Scalar.muli c128_i32_100_r0 v71_r0
  let c0_i32_103_r0 : BitVec 32 := 0#32
  ![v145_r0.toNat, 0]
def k1_off17 (arg9_r0 : BitVec 32) : Fin 1 → Nat :=
  let c2_i32_99_r0 : BitVec 32 := 2#32
  let v144_r0 : BitVec 32 := Scalar.remui arg9_r0 c2_i32_99_r0
  ![v144_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x1x128.size a ≤ S2x1x128.size a) ∧
  (∀ (k1_h1 : k1_cond1 i k1_t1 arg10_r0 = 1#1), ∀ a, (k1_off5 i arg10_r0) a + S1x128.size a ≤ S1x655360.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x1x128.size a ≤ S2x1x128.size a) ∧
  (∀ (k1_h2 : k1_cond2 i k1_t1 arg10_r0 = 1#1), ∀ a, (k1_off8 i arg10_r0) a + S1x128.size a ≤ S1x655360.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x128x128.size a ≤ S2x128x128.size a) ∧
  (∀ (k1_h5 : k1_cond5 i k1_t1 arg10_r0 = 1#1), ∀ a, (k1_off13 i arg10_r0) a + S128x128.size a ≤ S655360x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x128x128.size a ≤ S2x128x128.size a) ∧
  (∀ (k1_h7 : k1_cond7 i k1_t1 arg10_r0 = 1#1), ∀ a, (k1_off16 i arg10_r0) a + S128x128.size a ≤ S655360x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x1x128.size a ≤ S2x1x128.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S1x128.size a ≤ S1x655360.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x1x128.size a ≤ S2x1x128.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S1x128.size a ≤ S1x655360.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x128x128.size a ≤ S2x128x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S128x128.size a ≤ S655360x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x128x128.size a ≤ S2x128x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S128x128.size a ≤ S655360x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k1_off19 (i : grid1.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c159_i32_33_r0 : BitVec 32 := 159#32
  let v37_r0 : BitVec 32 := Scalar.select v36_r0 c159_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c160_i32 : BitVec 32 := 160#32
  let v4 : BitVec 32 := Scalar.muli v3 c160_i32
  let v38_r0 : BitVec 32 := Scalar.addi v37_r0 v4
  let v55_r0 : BitVec 32 := Scalar.muli c128_i32_47_r0 v38_r0
  let c0_i32_50_r0 : BitVec 32 := 0#32
  ![v55_r0.toNat, 0]

def k1_chk5 (i : grid1.Coords) (v33_4_r0 : BitVec 32) : Prop :=
  (∀ a, (k1_off19 i v33_4_r0) a + S128x128.size a ≤ S655360x128.size a)
theorem k1_off19_inb : ∀ (i : grid1.Coords) (v33_4_r0 : BitVec 32) (k1_hw5 : k1_chk5 i v33_4_r0), ∀ a, (k1_off19 i v33_4_r0) a + S128x128.size a ≤ S655360x128.size a := fun i v33_4_r0 k1_hw5 => k1_hw5

def k1_off20 (v33_3_r0 : BitVec 32) : Fin 1 → Nat :=
  let c2_i32_46_r0 : BitVec 32 := 2#32
  let v54_r0 : BitVec 32 := Scalar.remui v33_3_r0 c2_i32_46_r0
  ![v54_r0.toNat]
def k1_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k1_chk4 (v33_3_r0 : BitVec 32) : Prop :=
  (∀ a, (k1_off18 v33_3_r0) a + S1x128x128.size a ≤ S2x128x128.size a) ∧
  (∀ a, (k1_off20 v33_3_r0) a + S1.size a ≤ S2.size a) ∧
  (∀ a, (k1_off21 v33_3_r0) a + S1x128x128.size a ≤ S2x128x128.size a)
theorem k1_off18_inb : ∀ (v33_3_r0 : BitVec 32) (k1_hw4 : k1_chk4 v33_3_r0), ∀ a, (k1_off18 v33_3_r0) a + S1x128x128.size a ≤ S2x128x128.size a := fun v33_3_r0 k1_hw4 => k1_hw4.1
theorem k1_off20_inb : ∀ (v33_3_r0 : BitVec 32) (k1_hw4 : k1_chk4 v33_3_r0), ∀ a, (k1_off20 v33_3_r0) a + S1.size a ≤ S2.size a := fun v33_3_r0 k1_hw4 => k1_hw4.2.1
theorem k1_off21_inb : ∀ (v33_3_r0 : BitVec 32) (k1_hw4 : k1_chk4 v33_3_r0), ∀ a, (k1_off21 v33_3_r0) a + S1x128x128.size a ≤ S2x128x128.size a := fun v33_3_r0 k1_hw4 => k1_hw4.2.2

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S1024x20 : Shape := ⟨2, ![1024, 20]⟩
abbrev S2048x128 : Shape := ⟨2, ![2048, 128]⟩
abbrev S100001x32 : Shape := ⟨2, ![100001, 32]⟩
abbrev S20480x32 : Shape := ⟨2, ![20480, 32]⟩
abbrev S20480 : Shape := ⟨1, ![20480]⟩
abbrev S_ : Shape := ⟨0, ![]⟩
abbrev S20480x1 : Shape := ⟨2, ![20480, 1]⟩
abbrev S1 : Shape := ⟨1, ![1]⟩
abbrev S1x1 : Shape := ⟨2, ![1, 1]⟩
abbrev S20480x128 : Shape := ⟨2, ![20480, 128]⟩
abbrev S20480x128x1 : Shape := ⟨3, ![20480, 128, 1]⟩
abbrev S1x1x1 : Shape := ⟨3, ![1, 1, 1]⟩
abbrev S20480x128x32 : Shape := ⟨3, ![20480, 128, 32]⟩
abbrev S20480x32x1 : Shape := ⟨3, ![20480, 32, 1]⟩
abbrev S20480x32x32 : Shape := ⟨3, ![20480, 32, 32]⟩

abbrev nBuf : Space → Nat
  | .hbm => 74
  | .vmem => 0
  | .smem => 0
  | _ => 0

abbrev bufTy : (tb : Table) → Fin (tcTables nBuf tb) → BufTy
  | .hbm, ⟨0, _⟩ => ⟨S1024x20, .i32⟩
  | .hbm, ⟨1, _⟩ => ⟨S2048x128, .i32⟩
  | .hbm, ⟨2, _⟩ => ⟨S100001x32, .f32⟩
  | .hbm, ⟨3, _⟩ => ⟨S20480x32, .i32⟩
  | .hbm, ⟨4, _⟩ => ⟨S20480, .i32⟩
  | .hbm, ⟨5, _⟩ => ⟨S_, .i32⟩
  | .hbm, ⟨6, _⟩ => ⟨S20480, .i32⟩
  | .hbm, ⟨7, _⟩ => ⟨S20480, .i1⟩
  | .hbm, ⟨8, _⟩ => ⟨S_, .i32⟩
  | .hbm, ⟨9, _⟩ => ⟨S20480, .i32⟩
  | .hbm, ⟨10, _⟩ => ⟨S20480, .i32⟩
  | .hbm, ⟨11, _⟩ => ⟨S20480, .i32⟩
  | .hbm, ⟨12, _⟩ => ⟨S20480x1, .i32⟩
  | .hbm, ⟨13, _⟩ => ⟨S1, .i32⟩
  | .hbm, ⟨14, _⟩ => ⟨S_, .i32⟩
  | .hbm, ⟨15, _⟩ => ⟨S20480x1, .i32⟩
  | .hbm, ⟨16, _⟩ => ⟨S20480x1, .i1⟩
  | .hbm, ⟨17, _⟩ => ⟨S1x1, .i32⟩
  | .hbm, ⟨18, _⟩ => ⟨S20480x1, .i32⟩
  | .hbm, ⟨19, _⟩ => ⟨S20480x1, .i1⟩
  | .hbm, ⟨20, _⟩ => ⟨S20480x1, .i1⟩
  | .hbm, ⟨21, _⟩ => ⟨S_, .i1⟩
  | .hbm, ⟨22, _⟩ => ⟨S20480, .i1⟩
  | .hbm, ⟨23, _⟩ => ⟨S20480x128, .i32⟩
  | .hbm, ⟨24, _⟩ => ⟨S20480x128, .i1⟩
  | .hbm, ⟨25, _⟩ => ⟨S_, .i32⟩
  | .hbm, ⟨26, _⟩ => ⟨S20480x128, .i32⟩
  | .hbm, ⟨27, _⟩ => ⟨S20480x128, .i32⟩
  | .hbm, ⟨28, _⟩ => ⟨S_, .i32⟩
  | .hbm, ⟨29, _⟩ => ⟨S20480x128, .i32⟩
  | .hbm, ⟨30, _⟩ => ⟨S20480x128, .i1⟩
  | .hbm, ⟨31, _⟩ => ⟨S_, .i32⟩
  | .hbm, ⟨32, _⟩ => ⟨S20480x128, .i32⟩
  | .hbm, ⟨33, _⟩ => ⟨S20480x128, .i32⟩
  | .hbm, ⟨34, _⟩ => ⟨S20480x128, .i32⟩
  | .hbm, ⟨35, _⟩ => ⟨S20480x128x1, .i32⟩
  | .hbm, ⟨36, _⟩ => ⟨S1, .i32⟩
  | .hbm, ⟨37, _⟩ => ⟨S_, .i32⟩
  | .hbm, ⟨38, _⟩ => ⟨S20480x128x1, .i32⟩
  | .hbm, ⟨39, _⟩ => ⟨S20480x128x1, .i1⟩
  | .hbm, ⟨40, _⟩ => ⟨S1x1x1, .i32⟩
  | .hbm, ⟨41, _⟩ => ⟨S20480x128x1, .i32⟩
  | .hbm, ⟨42, _⟩ => ⟨S20480x128x1, .i1⟩
  | .hbm, ⟨43, _⟩ => ⟨S20480x128x1, .i1⟩
  | .hbm, ⟨44, _⟩ => ⟨S_, .i1⟩
  | .hbm, ⟨45, _⟩ => ⟨S20480x128, .i1⟩
  | .hbm, ⟨46, _⟩ => ⟨S20480x128x32, .f32⟩
  | .hbm, ⟨47, _⟩ => ⟨S20480x128x32, .i1⟩
  | .hbm, ⟨48, _⟩ => ⟨S_, .f32⟩
  | .hbm, ⟨49, _⟩ => ⟨S20480x128x32, .f32⟩
  | .hbm, ⟨50, _⟩ => ⟨S20480x128x32, .f32⟩
  | .hbm, ⟨51, _⟩ => ⟨S20480x32x1, .i32⟩
  | .hbm, ⟨52, _⟩ => ⟨S_, .i32⟩
  | .hbm, ⟨53, _⟩ => ⟨S20480x32x1, .i32⟩
  | .hbm, ⟨54, _⟩ => ⟨S20480x32x1, .i1⟩
  | .hbm, ⟨55, _⟩ => ⟨S_, .i32⟩
  | .hbm, ⟨56, _⟩ => ⟨S20480x32x1, .i32⟩
  | .hbm, ⟨57, _⟩ => ⟨S20480x32x1, .i32⟩
  | .hbm, ⟨58, _⟩ => ⟨S20480x32x1, .i32⟩
  | .hbm, ⟨59, _⟩ => ⟨S1, .i32⟩
  | .hbm, ⟨60, _⟩ => ⟨S_, .i32⟩
  | .hbm, ⟨61, _⟩ => ⟨S20480x32x1, .i32⟩
  | .hbm, ⟨62, _⟩ => ⟨S20480x32x1, .i1⟩
  | .hbm, ⟨63, _⟩ => ⟨S1x1x1, .i32⟩
  | .hbm, ⟨64, _⟩ => ⟨S20480x32x1, .i32⟩
  | .hbm, ⟨65, _⟩ => ⟨S20480x32x1, .i1⟩
  | .hbm, ⟨66, _⟩ => ⟨S20480x32x1, .i1⟩
  | .hbm, ⟨67, _⟩ => ⟨S_, .i1⟩
  | .hbm, ⟨68, _⟩ => ⟨S20480x32, .i1⟩
  | .hbm, ⟨69, _⟩ => ⟨S20480x32x32, .f32⟩
  | .hbm, ⟨70, _⟩ => ⟨S20480x32x32, .i1⟩
  | .hbm, ⟨71, _⟩ => ⟨S_, .f32⟩
  | .hbm, ⟨72, _⟩ => ⟨S20480x32x32, .f32⟩
  | .hbm, ⟨73, _⟩ => ⟨S20480x32x32, .f32⟩
  | _, _ => ⟨S1024x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_c_4 : Ref sig .tc := ⟨.hbm, 25, rfl⟩
abbrev main_call0_v15 : Ref sig .tc := ⟨.hbm, 26, rfl⟩
abbrev main_v1 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v2 : Ref sig .tc := ⟨.hbm, 50, rfl⟩
abbrev main_v3 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_c_2 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_c_3 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_cst : Ref sig .tc := ⟨.hbm, 71, rfl⟩
abbrev main_call2_v14 : Ref sig .tc := ⟨.hbm, 72, rfl⟩
abbrev main_v4 : Ref sig .tc := ⟨.hbm, 73, rfl⟩

abbrev nD : Nat := 1
abbrev τ : Topo := Topo.v7x

variable {F : FTy → Type} [FloatOps F]
-- ==== Attention.lean ====
abbrev S1024x20 : Shape := ⟨2, ![1024, 20]⟩
abbrev S20480x32x128 : Shape := ⟨3, ![20480, 32, 128]⟩
abbrev S32x32 : Shape := ⟨2, ![32, 32]⟩
abbrev S32x16 : Shape := ⟨2, ![32, 16]⟩
abbrev S16x32 : Shape := ⟨2, ![16, 32]⟩
abbrev S_ : Shape := ⟨0, ![]⟩
abbrev S32x64 : Shape := ⟨2, ![32, 64]⟩
abbrev S20480 : Shape := ⟨1, ![20480]⟩
abbrev S20480x1 : Shape := ⟨2, ![20480, 1]⟩
abbrev S20480x32x32 : Shape := ⟨3, ![20480, 32, 32]⟩
abbrev S128x32x128 : Shape := ⟨3, ![128, 32, 128]⟩
abbrev S128x1 : Shape := ⟨2, ![128, 1]⟩
abbrev S128x32x32 : Shape := ⟨3, ![128, 32, 32]⟩
abbrev S4096x32 : Shape := ⟨2, ![4096, 32]⟩
abbrev S4096x64 : Shape := ⟨2, ![4096, 64]⟩
abbrev S128x32x64 : Shape := ⟨3, ![128, 32, 64]⟩
abbrev S1x32x64 : Shape := ⟨3, ![1, 32, 64]⟩
abbrev S64x32 : Shape := ⟨2, ![64, 32]⟩
abbrev S1x32x32 : Shape := ⟨3, ![1, 32, 32]⟩
abbrev S1x64x32 : Shape := ⟨3, ![1, 64, 32]⟩
abbrev S128x64x32 : Shape := ⟨3, ![128, 64, 32]⟩
abbrev S128x64 : Shape := ⟨2, ![128, 64]⟩
abbrev S128x64x1 : Shape := ⟨3, ![128, 64, 1]⟩
abbrev S128x1x1 : Shape := ⟨3, ![128, 1, 1]⟩

abbrev nBuf : Space → Nat
  | .hbm => 35
  | .vmem => 8
  | .smem => 0
  | _ => 0

abbrev bufTy : (tb : Table) → Fin (tcTables nBuf tb) → BufTy
  | .hbm, ⟨0, _⟩ => ⟨S1024x20, .i32⟩
  | .hbm, ⟨1, _⟩ => ⟨S20480x32x128, .f32⟩
  | .hbm, ⟨2, _⟩ => ⟨S32x32, .f32⟩
  | .hbm, ⟨3, _⟩ => ⟨S32x32, .f32⟩
  | .hbm, ⟨4, _⟩ => ⟨S32x32, .f32⟩
  | .hbm, ⟨5, _⟩ => ⟨S32x32, .f32⟩
  | .hbm, ⟨6, _⟩ => ⟨S32x16, .f32⟩
  | .hbm, ⟨7, _⟩ => ⟨S32x16, .f32⟩
  | .hbm, ⟨8, _⟩ => ⟨S32x16, .f32⟩
  | .hbm, ⟨9, _⟩ => ⟨S16x32, .f32⟩
  | .hbm, ⟨10, _⟩ => ⟨S16x32, .f32⟩
  | .hbm, ⟨11, _⟩ => ⟨S32x32, .f32⟩
  | .hbm, ⟨12, _⟩ => ⟨S_, .f32⟩
  | .hbm, ⟨13, _⟩ => ⟨S32x32, .f32⟩
  | .hbm, ⟨14, _⟩ => ⟨S32x32, .f32⟩
  | .hbm, ⟨15, _⟩ => ⟨S32x32, .f32⟩
  | .hbm, ⟨16, _⟩ => ⟨S32x16, .f32⟩
  | .hbm, ⟨17, _⟩ => ⟨S32x16, .f32⟩
  | .hbm, ⟨18, _⟩ => ⟨S32x16, .f32⟩
  | .hbm, ⟨19, _⟩ => ⟨S16x32, .f32⟩
  | .hbm, ⟨20, _⟩ => ⟨S16x32, .f32⟩
  | .hbm, ⟨21, _⟩ => ⟨S32x32, .f32⟩
  | .hbm, ⟨22, _⟩ => ⟨S_, .f32⟩
  | .hbm, ⟨23, _⟩ => ⟨S32x32, .f32⟩
  | .hbm, ⟨24, _⟩ => ⟨S32x32, .f32⟩
  | .hbm, ⟨25, _⟩ => ⟨S32x32, .f32⟩
  | .hbm, ⟨26, _⟩ => ⟨S32x64, .f32⟩
  | .hbm, ⟨27, _⟩ => ⟨S32x64, .f32⟩
  | .hbm, ⟨28, _⟩ => ⟨S20480, .i32⟩
  | .hbm, ⟨29, _⟩ => ⟨S_, .i32⟩
  | .hbm, ⟨30, _⟩ => ⟨S20480, .i32⟩
  | .hbm, ⟨31, _⟩ => ⟨S20480, .i1⟩
  | .hbm, ⟨32, _⟩ => ⟨S20480, .f32⟩
  | .hbm, ⟨33, _⟩ => ⟨S20480x1, .f32⟩
  | .hbm, ⟨34, _⟩ => ⟨S20480x32x32, .f32⟩
  | .local _ .vmem, ⟨0, _⟩ => ⟨S128x32x128, .f32⟩
  | .local _ .vmem, ⟨1, _⟩ => ⟨S128x32x128, .f32⟩
  | .local _ .vmem, ⟨2, _⟩ => ⟨S32x64, .f32⟩
  | .local _ .vmem, ⟨3, _⟩ => ⟨S32x64, .f32⟩
  | .local _ .vmem, ⟨4, _⟩ => ⟨S128x1, .f32⟩
  | .local _ .vmem, ⟨5, _⟩ => ⟨S128x1, .f32⟩
  | .local _ .vmem, ⟨6, _⟩ => ⟨S128x32x32, .f32⟩
  | .local _ .vmem, ⟨7, _⟩ => ⟨S128x32x32, .f32⟩
  | _, _ => ⟨S1024x20, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![160], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x32x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AttentionReferenceIdeal.lean ====
abbrev S1024x20 : Shape := ⟨2, ![1024, 20]⟩
abbrev S20480x32x128 : Shape := ⟨3, ![20480, 32, 128]⟩
abbrev S32x32 : Shape := ⟨2, ![32, 32]⟩
abbrev S20480x32x32 : Shape := ⟨3, ![20480, 32, 32]⟩
abbrev S20480x32x2x16 : Shape := ⟨4, ![20480, 32, 2, 16]⟩
abbrev S20480x2x32x16 : Shape := ⟨4, ![20480, 2, 32, 16]⟩
abbrev S20480x2x16x32 : Shape := ⟨4, ![20480, 2, 16, 32]⟩
abbrev S20480x2x32x32 : Shape := ⟨4, ![20480, 2, 32, 32]⟩
abbrev S_ : Shape := ⟨0, ![]⟩
abbrev S20480x2x32 : Shape := ⟨3, ![20480, 2, 32]⟩
abbrev S20480x2x32x1 : Shape := ⟨4, ![20480, 2, 32, 1]⟩
abbrev S20480 : Shape := ⟨1, ![20480]⟩
abbrev S20480x1x1 : Shape := ⟨3, ![20480, 1, 1]⟩

abbrev nBuf : Space → Nat
  | .hbm => 48
  | .vmem => 0
  | .smem => 0
  | _ => 0

abbrev bufTy : (tb : Table) → Fin (tcTables nBuf tb) → BufTy
  | .hbm, ⟨0, _⟩ => ⟨S1024x20, .i32⟩
  | .hbm, ⟨1, _⟩ => ⟨S20480x32x128, .f32⟩
  | .hbm, ⟨2, _⟩ => ⟨S32x32, .f32⟩
  | .hbm, ⟨3, _⟩ => ⟨S32x32, .f32⟩
  | .hbm, ⟨4, _⟩ => ⟨S32x32, .f32⟩
  | .hbm, ⟨5, _⟩ => ⟨S32x32, .f32⟩
  | .hbm, ⟨6, _⟩ => ⟨S20480x32x32, .f32⟩
  | .hbm, ⟨7, _⟩ => ⟨S20480x32x32, .f32⟩
  | .hbm, ⟨8, _⟩ => ⟨S20480x32x2x16, .f32⟩
  | .hbm, ⟨9, _⟩ => ⟨S20480x2x32x16, .f32⟩
  | .hbm, ⟨10, _⟩ => ⟨S20480x32x32, .f32⟩
  | .hbm, ⟨11, _⟩ => ⟨S20480x32x2x16, .f32⟩
  | .hbm, ⟨12, _⟩ => ⟨S20480x2x32x16, .f32⟩
  | .hbm, ⟨13, _⟩ => ⟨S20480x32x32, .f32⟩
  | .hbm, ⟨14, _⟩ => ⟨S20480x32x2x16, .f32⟩
  | .hbm, ⟨15, _⟩ => ⟨S20480x2x32x16, .f32⟩
  | .hbm, ⟨16, _⟩ => ⟨S20480x2x16x32, .f32⟩
  | .hbm, ⟨17, _⟩ => ⟨S20480x2x32x32, .f32⟩
  | .hbm, ⟨18, _⟩ => ⟨S_, .f32⟩
  | .hbm, ⟨19, _⟩ => ⟨S20480x2x32x32, .f32⟩
  | .hbm, ⟨20, _⟩ => ⟨S20480x2x32x32, .f32⟩
  | .hbm, ⟨21, _⟩ => ⟨S_, .f32⟩
  | .hbm, ⟨22, _⟩ => ⟨S20480x2x32, .f32⟩
  | .hbm, ⟨23, _⟩ => ⟨S_, .f32⟩
  | .hbm, ⟨24, _⟩ => ⟨S20480x2x32, .f32⟩
  | .hbm, ⟨25, _⟩ => ⟨S20480x2x32, .f32⟩
  | .hbm, ⟨26, _⟩ => ⟨S20480x2x32x1, .f32⟩
  | .hbm, ⟨27, _⟩ => ⟨S20480x2x32x32, .f32⟩
  | .hbm, ⟨28, _⟩ => ⟨S20480x2x32x32, .f32⟩
  | .hbm, ⟨29, _⟩ => ⟨S20480x2x32x32, .f32⟩
  | .hbm, ⟨30, _⟩ => ⟨S_, .f32⟩
  | .hbm, ⟨31, _⟩ => ⟨S20480x2x32, .f32⟩
  | .hbm, ⟨32, _⟩ => ⟨S20480x2x32x1, .f32⟩
  | .hbm, ⟨33, _⟩ => ⟨S20480x2x32x32, .f32⟩
  | .hbm, ⟨34, _⟩ => ⟨S20480x2x32x32, .f32⟩
  | .hbm, ⟨35, _⟩ => ⟨S20480x2x32x16, .f32⟩
  | .hbm, ⟨36, _⟩ => ⟨S20480x32x2x16, .f32⟩
  | .hbm, ⟨37, _⟩ => ⟨S20480x32x32, .f32⟩
  | .hbm, ⟨38, _⟩ => ⟨S20480x32x32, .f32⟩
  | .hbm, ⟨39, _⟩ => ⟨S20480x32x32, .f32⟩
  | .hbm, ⟨40, _⟩ => ⟨S20480, .i32⟩
  | .hbm, ⟨41, _⟩ => ⟨S_, .i32⟩
  | .hbm, ⟨42, _⟩ => ⟨S20480, .i32⟩
  | .hbm, ⟨43, _⟩ => ⟨S20480, .i1⟩
  | .hbm, ⟨44, _⟩ => ⟨S20480, .f32⟩
  | .hbm, ⟨45, _⟩ => ⟨S20480x1x1, .f32⟩
  | .hbm, ⟨46, _⟩ => ⟨S20480x32x32, .f32⟩
  | .hbm, ⟨47, _⟩ => ⟨S20480x32x32, .f32⟩
  | _, _ => ⟨S1024x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Transposition.lean ====
abbrev S262144x128 : Shape := ⟨2, ![262144, 128]⟩
abbrev S2048x128x128 : Shape := ⟨3, ![2048, 128, 128]⟩
abbrev S2048x32x128 : Shape := ⟨3, ![2048, 32, 128]⟩
abbrev S16x128x128 : Shape := ⟨3, ![16, 128, 128]⟩
abbrev S16x32x128 : Shape := ⟨3, ![16, 32, 128]⟩
abbrev S16x128x32 : Shape := ⟨3, ![16, 128, 32]⟩

abbrev nBuf : Space → Nat
  | .hbm => 3
  | .vmem => 4
  | .smem => 0
  | _ => 0

abbrev bufTy : (tb : Table) → Fin (tcTables nBuf tb) → BufTy
  | .hbm, ⟨0, _⟩ => ⟨S262144x128, .f32⟩
  | .hbm, ⟨1, _⟩ => ⟨S2048x128x128, .f32⟩
  | .hbm, ⟨2, _⟩ => ⟨S2048x32x128, .f32⟩
  | .local _ .vmem, ⟨0, _⟩ => ⟨S16x128x128, .f32⟩
  | .local _ .vmem, ⟨1, _⟩ => ⟨S16x128x128, .f32⟩
  | .local _ .vmem, ⟨2, _⟩ => ⟨S16x32x128, .f32⟩
  | .local _ .vmem, ⟨3, _⟩ => ⟨S16x32x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== TranspositionReferenceIdeal.lean ====
abbrev S262144x128 : Shape := ⟨2, ![262144, 128]⟩
abbrev S2048x128x128 : Shape := ⟨3, ![2048, 128, 128]⟩
abbrev S2048x128x32 : Shape := ⟨3, ![2048, 128, 32]⟩
abbrev S2048x32x128 : Shape := ⟨3, ![2048, 32, 128]⟩

abbrev nBuf : Space → Nat
  | .hbm => 4
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S2048x128x128, .f32⟩
  | .hbm, ⟨2, _⟩ => ⟨S2048x128x32, .f32⟩
  | .hbm, ⟨3, _⟩ => ⟨S2048x32x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Selection.lean ====
abbrev S1024x20 : Shape := ⟨2, ![1024, 20]⟩
abbrev S1024x20x32 : Shape := ⟨3, ![1024, 20, 32]⟩
abbrev S2048x32x128 : Shape := ⟨3, ![2048, 32, 128]⟩
abbrev S20480 : Shape := ⟨1, ![20480]⟩
abbrev S20480x32 : Shape := ⟨2, ![20480, 32]⟩
abbrev S32x20480 : Shape := ⟨2, ![32, 20480]⟩
abbrev S32x128 : Shape := ⟨2, ![32, 128]⟩
abbrev S128x32 : Shape := ⟨2, ![128, 32]⟩
abbrev S_ : Shape := ⟨0, ![]⟩
abbrev S1 : Shape := ⟨1, ![1]⟩
abbrev S1x32x128 : Shape := ⟨3, ![1, 32, 128]⟩
abbrev S32x1 : Shape := ⟨2, ![32, 1]⟩
abbrev S16x128 : Shape := ⟨2, ![16, 128]⟩
abbrev S8x128 : Shape := ⟨2, ![8, 128]⟩
abbrev S128 : Shape := ⟨1, ![128]⟩
abbrev S1x128 : Shape := ⟨2, ![1, 128]⟩
abbrev S32 : Shape := ⟨1, ![32]⟩
abbrev S32x32 : Shape := ⟨2, ![32, 32]⟩

abbrev nBuf : Space → Nat
  | .hbm => 7
  | .vmem => 5
  | .smem => 1
  | _ => 0

abbrev bufTy : (tb : Table) → Fin (tcTables nBuf tb) → BufTy
  | .hbm, ⟨0, _⟩ => ⟨S1024x20, .i32⟩
  | .hbm, ⟨1, _⟩ => ⟨S1024x20x32, .f32⟩
  | .hbm, ⟨2, _⟩ => ⟨S2048x32x128, .f32⟩
  | .hbm, ⟨3, _⟩ => ⟨S20480x32, .f32⟩
  | .hbm, ⟨4, _⟩ => ⟨S32x20480, .f32⟩
  | .hbm, ⟨5, _⟩ => ⟨S32x20480, .bf16⟩
  | .hbm, ⟨6, _⟩ => ⟨S20480x32, .i32⟩
  | .local _ .vmem, ⟨0, _⟩ => ⟨S32x128, .bf16⟩
  | .local _ .vmem, ⟨1, _⟩ => ⟨S32x128, .bf16⟩
  | .local _ .vmem, ⟨2, _⟩ => ⟨S128x32, .i32⟩
  | .local _ .vmem, ⟨3, _⟩ => ⟨S128x32, .i32⟩
  | .local _ .vmem, ⟨4, _⟩ => ⟨S2048x32x128, .f32⟩
  | .local _ .smem, ⟨0, _⟩ => ⟨S20480, .i32⟩
  | _, _ => ⟨S1024x20, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![160], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c128_i32 : BitVec 32 := 128#32
  let v5 : BitVec 32 := Scalar.muli arg0 c128_i32
  let c0_i32_1 : BitVec 32 := 0#32
  let v6 : BitVec 32 := Scalar.addi v5 c0_i32_1
  let v7 : Index := Scalar.indexCast v6
  ![v7.toNat]
def k0_off2 (v8 : BitVec 32) : Fin 3 → Nat :=
  let v9 : Index := Scalar.indexCast v8
  let c0 : Index := 0#32
  let c0_2 : Index := 0#32
  ![v9.toNat, 0, 0]

def k0_chk1 (v8 : BitVec 32) : Prop :=
  (∀ a, (k0_off2 v8) a + S1x32x128.size a ≤ S2048x32x128.size a)
theorem k0_off2_inb : ∀ (v8 : BitVec 32) (k0_hw1 : k0_chk1 v8), ∀ a, (k0_off2 v8) a + S1x32x128.size a ≤ S2048x32x128.size a := fun v8 k0_hw1 => k0_hw1

def k0_off3 (i : grid0.Coords) : Fin 1 → Nat :=
  let arg0 : BitVec 32 := BitVec.ofNat 32 (i 0).val
  let c128_i32_5 : BitVec 32 := 128#32
  let v27 : BitVec 32 := Scalar.muli arg0 c128_i32_5
  let c1_i32 : BitVec 32 := 1#32
  let v28 : BitVec 32 := Scalar.addi v27 c1_i32
  let v29 : Index := Scalar.indexCast v28
  ![v29.toNat]
def k0_off4 (v30 : BitVec 32) : Fin 3 → Nat :=
  let v31 : Index := Scalar.indexCast v30
  let c0_6 : Index := 0#32
  let c0_7 : Index := 0#32
  ![v31.toNat, 0, 0]

def k0_chk2 (v30 : BitVec 32) : Prop :=
  (∀ a, (k0_off4 v30) a + S1x32x128.size a ≤ S2048x32x128.size a)
theorem k0_off4_inb : ∀ (v30 : BitVec 32) (k0_hw2 : k0_chk2 v30), ∀ a, (k0_off4 v30) a + S1x32x128.size a ≤ S2048x32x128.size a := fun v30 k0_hw2 => k0_hw2

def k0_off5 (i : grid0.Coords) : Fin 1 → Nat :=
  let arg0 : BitVec 32 := BitVec.ofNat 32 (i 0).val
  let c128_i32_10 : BitVec 32 := 128#32
  let v49 : BitVec 32 := Scalar.muli arg0 c128_i32_10
  let c2_i32 : BitVec 32 := 2#32
  let v50 : BitVec 32 := Scalar.addi v49 c2_i32
  let v51 : Index := Scalar.indexCast v50
  ![v51.toNat]
def k0_off6 (v52 : BitVec 32) : Fin 3 → Nat :=
  let v53 : Index := Scalar.indexCast v52
  let c0_11 : Index := 0#32
  let c0_12 : Index := 0#32
  ![v53.toNat, 0, 0]

def k0_chk3 (v52 : BitVec 32) : Prop :=
  (∀ a, (k0_off6 v52) a + S1x32x128.size a ≤ S2048x32x128.size a)
theorem k0_off6_inb : ∀ (v52 : BitVec 32) (k0_hw3 : k0_chk3 v52), ∀ a, (k0_off6 v52) a + S1x32x128.size a ≤ S2048x32x128.size a := fun v52 k0_hw3 => k0_hw3

def k0_off7 (i : grid0.Coords) : Fin 1 → Nat :=
  let arg0 : BitVec 32 := BitVec.ofNat 32 (i 0).val
  let c128_i32_15 : BitVec 32 := 128#32
  let v71 : BitVec 32 := Scalar.muli arg0 c128_i32_15
  let c3_i32 : BitVec 32 := 3#32
  let v72 : BitVec 32 := Scalar.addi v71 c3_i32
  let v73 : Index := Scalar.indexCast v72
  ![v73.toNat]
def k0_off8 (v74 : BitVec 32) : Fin 3 → Nat :=
  let v75 : Index := Scalar.indexCast v74
  let c0_16 : Index := 0#32
  let c0_17 : Index := 0#32
  ![v75.toNat, 0, 0]

def k0_chk4 (v74 : BitVec 32) : Prop :=
  (∀ a, (k0_off8 v74) a + S1x32x128.size a ≤ S2048x32x128.size a)
theorem k0_off8_inb : ∀ (v74 : BitVec 32) (k0_hw4 : k0_chk4 v74), ∀ a, (k0_off8 v74) a + S1x32x128.size a ≤ S2048x32x128.size a := fun v74 k0_hw4 => k0_hw4

def k0_off9 (i : grid0.Coords) : Fin 1 → Nat :=
  let arg0 : BitVec 32 := BitVec.ofNat 32 (i 0).val
  let c128_i32_20 : BitVec 32 := 128#32
  let v93 : BitVec 32 := Scalar.muli arg0 c128_i32_20
  let c4_i32 : BitVec 32 := 4#32
  let v94 : BitVec 32 := Scalar.addi v93 c4_i32
  let v95 : Index := Scalar.indexCast v94
  ![v95.toNat]
def k0_off10 (v96 : BitVec 32) : Fin 3 → Nat :=
  let v97 : Index := Scalar.indexCast v96
  let c0_21 : Index := 0#32
  let c0_22 : Index := 0#32
  ![v97.toNat, 0, 0]

def k0_chk5 (v96 : BitVec 32) : Prop :=
  (∀ a, (k0_off10 v96) a + S1x32x128.size a ≤ S2048x32x128.size a)
theorem k0_off10_inb : ∀ (v96 : BitVec 32) (k0_hw5 : k0_chk5 v96), ∀ a, (k0_off10 v96) a + S1x32x128.size a ≤ S2048x32x128.size a := fun v96 k0_hw5 => k0_hw5

def k0_off11 (i : grid0.Coords) : Fin 1 → Nat :=
  let arg0 : BitVec 32 := BitVec.ofNat 32 (i 0).val
  let c128_i32_25 : BitVec 32 := 128#32
  let v115 : BitVec 32 := Scalar.muli arg0 c128_i32_25
  let c5_i32 : BitVec 32 := 5#32
  let v116 : BitVec 32 := Scalar.addi v115 c5_i32
  let v117 : Index := Scalar.indexCast v116
  ![v117.toNat]
def k0_off12 (v118 : BitVec 32) : Fin 3 → Nat :=
  let v119 : Index := Scalar.indexCast v118
  let c0_26 : Index := 0#32
  let c0_27 : Index := 0#32
  ![v119.toNat, 0, 0]

def k0_chk6 (v118 : BitVec 32) : Prop :=
  (∀ a, (k0_off12 v118) a + S1x32x128.size a ≤ S2048x32x128.size a)
theorem k0_off12_inb : ∀ (v118 : BitVec 32) (k0_hw6 : k0_chk6 v118), ∀ a, (k0_off12 v118) a + S1x32x128.size a ≤ S2048x32x128.size a := fun v118 k0_hw6 => k0_hw6

def k0_off13 (i : grid0.Coords) : Fin 1 → Nat :=
  let arg0 : BitVec 32 := BitVec.ofNat 32 (i 0).val
  let c128_i32_30 : BitVec 32 := 128#32
  let v137 : BitVec 32 := Scalar.muli arg0 c128_i32_30
  let c6_i32 : BitVec 32 := 6#32
  let v138 : BitVec 32 := Scalar.addi v137 c6_i32
  let v139 : Index := Scalar.indexCast v138
  ![v139.toNat]
def k0_off14 (v140 : BitVec 32) : Fin 3 → Nat :=
  let v141 : Index := Scalar.indexCast v140
  let c0_31 : Index := 0#32
  let c0_32 : Index := 0#32
  ![v141.toNat, 0, 0]

def k0_chk7 (v140 : BitVec 32) : Prop :=
  (∀ a, (k0_off14 v140) a + S1x32x128.size a ≤ S2048x32x128.size a)
theorem k0_off14_inb : ∀ (v140 : BitVec 32) (k0_hw7 : k0_chk7 v140), ∀ a, (k0_off14 v140) a + S1x32x128.size a ≤ S2048x32x128.size a := fun v140 k0_hw7 => k0_hw7

def k0_off15 (i : grid0.Coords) : Fin 1 → Nat :=
  let arg0 : BitVec 32 := BitVec.ofNat 32 (i 0).val
  let c128_i32_35 : BitVec 32 := 128#32
  let v159 : BitVec 32 := Scalar.muli arg0 c128_i32_35
  let c7_i32 : BitVec 32 := 7#32
  let v160 : BitVec 32 := Scalar.addi v159 c7_i32
  let v161 : Index := Scalar.indexCast v160
  ![v161.toNat]
def k0_off16 (v162 : BitVec 32) : Fin 3 → Nat :=
  let v163 : Index := Scalar.indexCast v162
  let c0_36 : Index := 0#32
  let c0_37 : Index := 0#32
  ![v163.toNat, 0, 0]

def k0_chk8 (v162 : BitVec 32) : Prop :=
  (∀ a, (k0_off16 v162) a + S1x32x128.size a ≤ S2048x32x128.size a)
theorem k0_off16_inb : ∀ (v162 : BitVec 32) (k0_hw8 : k0_chk8 v162), ∀ a, (k0_off16 v162) a + S1x32x128.size a ≤ S2048x32x128.size a := fun v162 k0_hw8 => k0_hw8

def k0_off17 (i : grid0.Coords) : Fin 1 → Nat :=
  let arg0 : BitVec 32 := BitVec.ofNat 32 (i 0).val
  let c128_i32_40 : BitVec 32 := 128#32
  let v181 : BitVec 32 := Scalar.muli arg0 c128_i32_40
  let c8_i32 : BitVec 32 := 8#32
  let v182 : BitVec 32 := Scalar.addi v181 c8_i32
  let v183 : Index := Scalar.indexCast v182
  ![v183.toNat]
def k0_off18 (v184 : BitVec 32) : Fin 3 → Nat :=
  let v185 : Index := Scalar.indexCast v184
  let c0_41 : Index := 0#32
  let c0_42 : Index := 0#32
  ![v185.toNat, 0, 0]

def k0_chk9 (v184 : BitVec 32) : Prop :=
  (∀ a, (k0_off18 v184) a + S1x32x128.size a ≤ S2048x32x128.size a)
theorem k0_off18_inb : ∀ (v184 : BitVec 32) (k0_hw9 : k0_chk9 v184), ∀ a, (k0_off18 v184) a + S1x32x128.size a ≤ S2048x32x128.size a := fun v184 k0_hw9 => k0_hw9

def k0_off19 (i : grid0.Coords) : Fin 1 → Nat :=
  let arg0 : BitVec 32 := BitVec.ofNat 32 (i 0).val
  let c128_i32_45 : BitVec 32 := 128#32
  let v203 : BitVec 32 := Scalar.muli arg0 c128_i32_45
  let c9_i32 : BitVec 32 := 9#32
  let v204 : BitVec 32 := Scalar.addi v203 c9_i32
  let v205 : Index := Scalar.indexCast v204
  ![v205.toNat]
def k0_off20 (v206 : BitVec 32) : Fin 3 → Nat :=
  let v207 : Index := Scalar.indexCast v206
  let c0_46 : Index := 0#32
  let c0_47 : Index := 0#32
  ![v207.toNat, 0, 0]

def k0_chk10 (v206 : BitVec 32) : Prop :=
  (∀ a, (k0_off20 v206) a + S1x32x128.size a ≤ S2048x32x128.size a)
theorem k0_off20_inb : ∀ (v206 : BitVec 32) (k0_hw10 : k0_chk10 v206), ∀ a, (k0_off20 v206) a + S1x32x128.size a ≤ S2048x32x128.size a := fun v206 k0_hw10 => k0_hw10

def k0_off21 (i : grid0.Coords) : Fin 1 → Nat :=
  let arg0 : BitVec 32 := BitVec.ofNat 32 (i 0).val
  let c128_i32_50 : BitVec 32 := 128#32
  let v225 : BitVec 32 := Scalar.muli arg0 c128_i32_50
  let c10_i32 : BitVec 32 := 10#32
  let v226 : BitVec 32 := Scalar.addi v225 c10_i32
  let v227 : Index := Scalar.indexCast v226
  ![v227.toNat]
def k0_off22 (v228 : BitVec 32) : Fin 3 → Nat :=
  let v229 : Index := Scalar.indexCast v228
  let c0_51 : Index := 0#32
  let c0_52 : Index := 0#32
  ![v229.toNat, 0, 0]

def k0_chk11 (v228 : BitVec 32) : Prop :=
  (∀ a, (k0_off22 v228) a + S1x32x128.size a ≤ S2048x32x128.size a)
theorem k0_off22_inb : ∀ (v228 : BitVec 32) (k0_hw11 : k0_chk11 v228), ∀ a, (k0_off22 v228) a + S1x32x128.size a ≤ S2048x32x128.size a := fun v228 k0_hw11 => k0_hw11

def k0_off23 (i : grid0.Coords) : Fin 1 → Nat :=
  let arg0 : BitVec 32 := BitVec.ofNat 32 (i 0).val
  let c128_i32_55 : BitVec 32 := 128#32
  let v247 : BitVec 32 := Scalar.muli arg0 c128_i32_55
  let c11_i32 : BitVec 32 := 11#32
  let v248 : BitVec 32 := Scalar.addi v247 c11_i32
  let v249 : Index := Scalar.indexCast v248
  ![v249.toNat]
def k0_off24 (v250 : BitVec 32) : Fin 3 → Nat :=
  let v251 : Index := Scalar.indexCast v250
  let c0_56 : Index := 0#32
  let c0_57 : Index := 0#32
  ![v251.toNat, 0, 0]

def k0_chk12 (v250 : BitVec 32) : Prop :=
  (∀ a, (k0_off24 v250) a + S1x32x128.size a ≤ S2048x32x128.size a)
theorem k0_off24_inb : ∀ (v250 : BitVec 32) (k0_hw12 : k0_chk12 v250), ∀ a, (k0_off24 v250) a + S1x32x128.size a ≤ S2048x32x128.size a := fun v250 k0_hw12 => k0_hw12

def k0_off25 (i : grid0.Coords) : Fin 1 → Nat :=
  let arg0 : BitVec 32 := BitVec.ofNat 32 (i 0).val
  let c128_i32_60 : BitVec 32 := 128#32
  let v269 : BitVec 32 := Scalar.muli arg0 c128_i32_60
  let c12_i32 : BitVec 32 := 12#32
  let v270 : BitVec 32 := Scalar.addi v269 c12_i32
  let v271 : Index := Scalar.indexCast v270
  ![v271.toNat]
def k0_off26 (v272 : BitVec 32) : Fin 3 → Nat :=
  let v273 : Index := Scalar.indexCast v272
  let c0_61 : Index := 0#32
  let c0_62 : Index := 0#32
  ![v273.toNat, 0, 0]

def k0_chk13 (v272 : BitVec 32) : Prop :=
  (∀ a, (k0_off26 v272) a + S1x32x128.size a ≤ S2048x32x128.size a)
theorem k0_off26_inb : ∀ (v272 : BitVec 32) (k0_hw13 : k0_chk13 v272), ∀ a, (k0_off26 v272) a + S1x32x128.size a ≤ S2048x32x128.size a := fun v272 k0_hw13 => k0_hw13

def k0_off27 (i : grid0.Coords) : Fin 1 → Nat :=
  let arg0 : BitVec 32 := BitVec.ofNat 32 (i 0).val
  let c128_i32_65 : BitVec 32 := 128#32
  let v291 : BitVec 32 := Scalar.muli arg0 c128_i32_65
  let c13_i32 : BitVec 32 := 13#32
  let v292 : BitVec 32 := Scalar.addi v291 c13_i32
  let v293 : Index := Scalar.indexCast v292
  ![v293.toNat]
def k0_off28 (v294 : BitVec 32) : Fin 3 → Nat :=
  let v295 : Index := Scalar.indexCast v294
  let c0_66 : Index := 0#32
  let c0_67 : Index := 0#32
  ![v295.toNat, 0, 0]

def k0_chk14 (v294 : BitVec 32) : Prop :=
  (∀ a, (k0_off28 v294) a + S1x32x128.size a ≤ S2048x32x128.size a)
theorem k0_off28_inb : ∀ (v294 : BitVec 32) (k0_hw14 : k0_chk14 v294), ∀ a, (k0_off28 v294) a + S1x32x128.size a ≤ S2048x32x128.size a := fun v294 k0_hw14 => k0_hw14

def k0_off29 (i : grid0.Coords) : Fin 1 → Nat :=
  let arg0 : BitVec 32 := BitVec.ofNat 32 (i 0).val
  let c128_i32_70 : BitVec 32 := 128#32
  let v313 : BitVec 32 := Scalar.muli arg0 c128_i32_70
  let c14_i32 : BitVec 32 := 14#32
  let v314 : BitVec 32 := Scalar.addi v313 c14_i32
  let v315 : Index := Scalar.indexCast v314
  ![v315.toNat]
def k0_off30 (v316 : BitVec 32) : Fin 3 → Nat :=
  let v317 : Index := Scalar.indexCast v316
  let c0_71 : Index := 0#32
  let c0_72 : Index := 0#32
  ![v317.toNat, 0, 0]

def k0_chk15 (v316 : BitVec 32) : Prop :=
  (∀ a, (k0_off30 v316) a + S1x32x128.size a ≤ S2048x32x128.size a)
theorem k0_off30_inb : ∀ (v316 : BitVec 32) (k0_hw15 : k0_chk15 v316), ∀ a, (k0_off30 v316) a + S1x32x128.size a ≤ S2048x32x128.size a := fun v316 k0_hw15 => k0_hw15

def k0_off31 (i : grid0.Coords) : Fin 1 → Nat :=
  let arg0 : BitVec 32 := BitVec.ofNat 32 (i 0).val
  let c128_i32_75 : BitVec 32 := 128#32
  let v335 : BitVec 32 := Scalar.muli arg0 c128_i32_75
  let c15_i32 : BitVec 32 := 15#32
  let v336 : BitVec 32 := Scalar.addi v335 c15_i32
  let v337 : Index := Scalar.indexCast v336
  ![v337.toNat]
def k0_off32 (v338 : BitVec 32) : Fin 3 → Nat :=
  let v339 : Index := Scalar.indexCast v338
  let c0_76 : Index := 0#32
  let c0_77 : Index := 0#32
  ![v339.toNat, 0, 0]

def k0_chk16 (v338 : BitVec 32) : Prop :=
  (∀ a, (k0_off32 v338) a + S1x32x128.size a ≤ S2048x32x128.size a)
theorem k0_off32_inb : ∀ (v338 : BitVec 32) (k0_hw16 : k0_chk16 v338), ∀ a, (k0_off32 v338) a + S1x32x128.size a ≤ S2048x32x128.size a := fun v338 k0_hw16 => k0_hw16

def k0_off33 (i : grid0.Coords) : Fin 1 → Nat :=
  let arg0 : BitVec 32 := BitVec.ofNat 32 (i 0).val
  let c128_i32_80 : BitVec 32 := 128#32
  let v357 : BitVec 32 := Scalar.muli arg0 c128_i32_80
  let c16_i32 : BitVec 32 := 16#32
  let v358 : BitVec 32 := Scalar.addi v357 c16_i32
  let v359 : Index := Scalar.indexCast v358
  ![v359.toNat]
def k0_off34 (v360 : BitVec 32) : Fin 3 → Nat :=
  let v361 : Index := Scalar.indexCast v360
  let c0_81 : Index := 0#32
  let c0_82 : Index := 0#32
  ![v361.toNat, 0, 0]

def k0_chk17 (v360 : BitVec 32) : Prop :=
  (∀ a, (k0_off34 v360) a + S1x32x128.size a ≤ S2048x32x128.size a)
theorem k0_off34_inb : ∀ (v360 : BitVec 32) (k0_hw17 : k0_chk17 v360), ∀ a, (k0_off34 v360) a + S1x32x128.size a ≤ S2048x32x128.size a := fun v360 k0_hw17 => k0_hw17

def k0_off35 (i : grid0.Coords) : Fin 1 → Nat :=
  let arg0 : BitVec 32 := BitVec.ofNat 32 (i 0).val
  let c128_i32_85 : BitVec 32 := 128#32
  let v379 : BitVec 32 := Scalar.muli arg0 c128_i32_85
  let c17_i32 : BitVec 32 := 17#32
  let v380 : BitVec 32 := Scalar.addi v379 c17_i32
  let v381 : Index := Scalar.indexCast v380
  ![v381.toNat]
def k0_off36 (v382 : BitVec 32) : Fin 3 → Nat :=
  let v383 : Index := Scalar.indexCast v382
  let c0_86 : Index := 0#32
  let c0_87 : Index := 0#32
  ![v383.toNat, 0, 0]

def k0_chk18 (v382 : BitVec 32) : Prop :=
  (∀ a, (k0_off36 v382) a + S1x32x128.size a ≤ S2048x32x128.size a)
theorem k0_off36_inb : ∀ (v382 : BitVec 32) (k0_hw18 : k0_chk18 v382), ∀ a, (k0_off36 v382) a + S1x32x128.size a ≤ S2048x32x128.size a := fun v382 k0_hw18 => k0_hw18

def k0_off37 (i : grid0.Coords) : Fin 1 → Nat :=
  let arg0 : BitVec 32 := BitVec.ofNat 32 (i 0).val
  let c128_i32_90 : BitVec 32 := 128#32
  let v401 : BitVec 32 := Scalar.muli arg0 c128_i32_90
  let c18_i32 : BitVec 32 := 18#32
  let v402 : BitVec 32 := Scalar.addi v401 c18_i32
  let v403 : Index := Scalar.indexCast v402
  ![v403.toNat]
def k0_off38 (v404 : BitVec 32) : Fin 3 → Nat :=
  let v405 : Index := Scalar.indexCast v404
  let c0_91 : Index := 0#32
  let c0_92 : Index := 0#32
  ![v405.toNat, 0, 0]

def k0_chk19 (v404 : BitVec 32) : Prop :=
  (∀ a, (k0_off38 v404) a + S1x32x128.size a ≤ S2048x32x128.size a)
theorem k0_off38_inb : ∀ (v404 : BitVec 32) (k0_hw19 : k0_chk19 v404), ∀ a, (k0_off38 v404) a + S1x32x128.size a ≤ S2048x32x128.size a := fun v404 k0_hw19 => k0_hw19

def k0_off39 (i : grid0.Coords) : Fin 1 → Nat :=
  let arg0 : BitVec 32 := BitVec.ofNat 32 (i 0).val
  let c128_i32_95 : BitVec 32 := 128#32
  let v423 : BitVec 32 := Scalar.muli arg0 c128_i32_95
  let c19_i32 : BitVec 32 := 19#32
  let v424 : BitVec 32 := Scalar.addi v423 c19_i32
  let v425 : Index := Scalar.indexCast v424
  ![v425.toNat]
def k0_off40 (v426 : BitVec 32) : Fin 3 → Nat :=
  let v427 : Index := Scalar.indexCast v426
  let c0_96 : Index := 0#32
  let c0_97 : Index := 0#32
  ![v427.toNat, 0, 0]

def k0_chk20 (v426 : BitVec 32) : Prop :=
  (∀ a, (k0_off40 v426) a + S1x32x128.size a ≤ S2048x32x128.size a)
theorem k0_off40_inb : ∀ (v426 : BitVec 32) (k0_hw20 : k0_chk20 v426), ∀ a, (k0_off40 v426) a + S1x32x128.size a ≤ S2048x32x128.size a := fun v426 k0_hw20 => k0_hw20

def k0_off41 (i : grid0.Coords) : Fin 1 → Nat :=
  let arg0 : BitVec 32 := BitVec.ofNat 32 (i 0).val
  let c128_i32_100 : BitVec 32 := 128#32
  let v445 : BitVec 32 := Scalar.muli arg0 c128_i32_100
  let c20_i32 : BitVec 32 := 20#32
  let v446 : BitVec 32 := Scalar.addi v445 c20_i32
  let v447 : Index := Scalar.indexCast v446
  ![v447.toNat]
def k0_off42 (v448 : BitVec 32) : Fin 3 → Nat :=
  let v449 : Index := Scalar.indexCast v448
  let c0_101 : Index := 0#32
  let c0_102 : Index := 0#32
  ![v449.toNat, 0, 0]

def k0_chk21 (v448 : BitVec 32) : Prop :=
  (∀ a, (k0_off42 v448) a + S1x32x128.size a ≤ S2048x32x128.size a)
theorem k0_off42_inb : ∀ (v448 : BitVec 32) (k0_hw21 : k0_chk21 v448), ∀ a, (k0_off42 v448) a + S1x32x128.size a ≤ S2048x32x128.size a := fun v448 k0_hw21 => k0_hw21

def k0_off43 (i : grid0.Coords) : Fin 1 → Nat :=
  let arg0 : BitVec 32 := BitVec.ofNat 32 (i 0).val
  let c128_i32_105 : BitVec 32 := 128#32
  let v467 : BitVec 32 := Scalar.muli arg0 c128_i32_105
  let c21_i32 : BitVec 32 := 21#32
  let v468 : BitVec 32 := Scalar.addi v467 c21_i32
  let v469 : Index := Scalar.indexCast v468
  ![v469.toNat]
def k0_off44 (v470 : BitVec 32) : Fin 3 → Nat :=
  let v471 : Index := Scalar.indexCast v470
  let c0_106 : Index := 0#32
  let c0_107 : Index := 0#32
  ![v471.toNat, 0, 0]

def k0_chk22 (v470 : BitVec 32) : Prop :=
  (∀ a, (k0_off44 v470) a + S1x32x128.size a ≤ S2048x32x128.size a)
theorem k0_off44_inb : ∀ (v470 : BitVec 32) (k0_hw22 : k0_chk22 v470), ∀ a, (k0_off44 v470) a + S1x32x128.size a ≤ S2048x32x128.size a := fun v470 k0_hw22 => k0_hw22

def k0_off45 (i : grid0.Coords) : Fin 1 → Nat :=
  let arg0 : BitVec 32 := BitVec.ofNat 32 (i 0).val
  let c128_i32_110 : BitVec 32 := 128#32
  let v489 : BitVec 32 := Scalar.muli arg0 c128_i32_110
  let c22_i32 : BitVec 32 := 22#32
  let v490 : BitVec 32 := Scalar.addi v489 c22_i32
  let v491 : Index := Scalar.indexCast v490
  ![v491.toNat]
def k0_off46 (v492 : BitVec 32) : Fin 3 → Nat :=
  let v493 : Index := Scalar.indexCast v492
  let c0_111 : Index := 0#32
  let c0_112 : Index := 0#32
  ![v493.toNat, 0, 0]

def k0_chk23 (v492 : BitVec 32) : Prop :=
  (∀ a, (k0_off46 v492) a + S1x32x128.size a ≤ S2048x32x128.size a)
theorem k0_off46_inb : ∀ (v492 : BitVec 32) (k0_hw23 : k0_chk23 v492), ∀ a, (k0_off46 v492) a + S1x32x128.size a ≤ S2048x32x128.size a := fun v492 k0_hw23 => k0_hw23

def k0_off47 (i : grid0.Coords) : Fin 1 → Nat :=
  let arg0 : BitVec 32 := BitVec.ofNat 32 (i 0).val
  let c128_i32_115 : BitVec 32 := 128#32
  let v511 : BitVec 32 := Scalar.muli arg0 c128_i32_115
  let c23_i32 : BitVec 32 := 23#32
  let v512 : BitVec 32 := Scalar.addi v511 c23_i32
  let v513 : Index := Scalar.indexCast v512
  ![v513.toNat]
def k0_off48 (v514 : BitVec 32) : Fin 3 → Nat :=
  let v515 : Index := Scalar.indexCast v514
  let c0_116 : Index := 0#32
  let c0_117 : Index := 0#32
  ![v515.toNat, 0, 0]

def k0_chk24 (v514 : BitVec 32) : Prop :=
  (∀ a, (k0_off48 v514) a + S1x32x128.size a ≤ S2048x32x128.size a)
theorem k0_off48_inb : ∀ (v514 : BitVec 32) (k0_hw24 : k0_chk24 v514), ∀ a, (k0_off48 v514) a + S1x32x128.size a ≤ S2048x32x128.size a := fun v514 k0_hw24 => k0_hw24

def k0_off49 (i : grid0.Coords) : Fin 1 → Nat :=
  let arg0 : BitVec 32 := BitVec.ofNat 32 (i 0).val
  let c128_i32_120 : BitVec 32 := 128#32
  let v533 : BitVec 32 := Scalar.muli arg0 c128_i32_120
  let c24_i32 : BitVec 32 := 24#32
  let v534 : BitVec 32 := Scalar.addi v533 c24_i32
  let v535 : Index := Scalar.indexCast v534
  ![v535.toNat]
def k0_off50 (v536 : BitVec 32) : Fin 3 → Nat :=
  let v537 : Index := Scalar.indexCast v536
  let c0_121 : Index := 0#32
  let c0_122 : Index := 0#32
  ![v537.toNat, 0, 0]

def k0_chk25 (v536 : BitVec 32) : Prop :=
  (∀ a, (k0_off50 v536) a + S1x32x128.size a ≤ S2048x32x128.size a)
theorem k0_off50_inb : ∀ (v536 : BitVec 32) (k0_hw25 : k0_chk25 v536), ∀ a, (k0_off50 v536) a + S1x32x128.size a ≤ S2048x32x128.size a := fun v536 k0_hw25 => k0_hw25

def k0_off51 (i : grid0.Coords) : Fin 1 → Nat :=
  let arg0 : BitVec 32 := BitVec.ofNat 32 (i 0).val
  let c128_i32_125 : BitVec 32 := 128#32
  let v555 : BitVec 32 := Scalar.muli arg0 c128_i32_125
  let c25_i32 : BitVec 32 := 25#32
  let v556 : BitVec 32 := Scalar.addi v555 c25_i32
  let v557 : Index := Scalar.indexCast v556
  ![v557.toNat]
def k0_off52 (v558 : BitVec 32) : Fin 3 → Nat :=
  let v559 : Index := Scalar.indexCast v558
  let c0_126 : Index := 0#32
  let c0_127 : Index := 0#32
  ![v559.toNat, 0, 0]

def k0_chk26 (v558 : BitVec 32) : Prop :=
  (∀ a, (k0_off52 v558) a + S1x32x128.size a ≤ S2048x32x128.size a)
theorem k0_off52_inb : ∀ (v558 : BitVec 32) (k0_hw26 : k0_chk26 v558), ∀ a, (k0_off52 v558) a + S1x32x128.size a ≤ S2048x32x128.size a := fun v558 k0_hw26 => k0_hw26

def k0_off53 (i : grid0.Coords) : Fin 1 → Nat :=
  let arg0 : BitVec 32 := BitVec.ofNat 32 (i 0).val
  let c128_i32_130 : BitVec 32 := 128#32
  let v577 : BitVec 32 := Scalar.muli arg0 c128_i32_130
  let c26_i32 : BitVec 32 := 26#32
  let v578 : BitVec 32 := Scalar.addi v577 c26_i32
  let v579 : Index := Scalar.indexCast v578
  ![v579.toNat]
def k0_off54 (v580 : BitVec 32) : Fin 3 → Nat :=
  let v581 : Index := Scalar.indexCast v580
  let c0_131 : Index := 0#32
  let c0_132 : Index := 0#32
  ![v581.toNat, 0, 0]

def k0_chk27 (v580 : BitVec 32) : Prop :=
  (∀ a, (k0_off54 v580) a + S1x32x128.size a ≤ S2048x32x128.size a)
theorem k0_off54_inb : ∀ (v580 : BitVec 32) (k0_hw27 : k0_chk27 v580), ∀ a, (k0_off54 v580) a + S1x32x128.size a ≤ S2048x32x128.size a := fun v580 k0_hw27 => k0_hw27

def k0_off55 (i : grid0.Coords) : Fin 1 → Nat :=
  let arg0 : BitVec 32 := BitVec.ofNat 32 (i 0).val
  let c128_i32_135 : BitVec 32 := 128#32
  let v599 : BitVec 32 := Scalar.muli arg0 c128_i32_135
  let c27_i32 : BitVec 32 := 27#32
  let v600 : BitVec 32 := Scalar.addi v599 c27_i32
  let v601 : Index := Scalar.indexCast v600
  ![v601.toNat]
def k0_off56 (v602 : BitVec 32) : Fin 3 → Nat :=
  let v603 : Index := Scalar.indexCast v602
  let c0_136 : Index := 0#32
  let c0_137 : Index := 0#32
  ![v603.toNat, 0, 0]

def k0_chk28 (v602 : BitVec 32) : Prop :=
  (∀ a, (k0_off56 v602) a + S1x32x128.size a ≤ S2048x32x128.size a)
theorem k0_off56_inb : ∀ (v602 : BitVec 32) (k0_hw28 : k0_chk28 v602), ∀ a, (k0_off56 v602) a + S1x32x128.size a ≤ S2048x32x128.size a := fun v602 k0_hw28 => k0_hw28

def k0_off57 (i : grid0.Coords) : Fin 1 → Nat :=
  let arg0 : BitVec 32 := BitVec.ofNat 32 (i 0).val
  let c128_i32_140 : BitVec 32 := 128#32
  let v621 : BitVec 32 := Scalar.muli arg0 c128_i32_140
  let c28_i32 : BitVec 32 := 28#32
  let v622 : BitVec 32 := Scalar.addi v621 c28_i32
  let v623 : Index := Scalar.indexCast v622
  ![v623.toNat]
def k0_off58 (v624 : BitVec 32) : Fin 3 → Nat :=
  let v625 : Index := Scalar.indexCast v624
  let c0_141 : Index := 0#32
  let c0_142 : Index := 0#32
  ![v625.toNat, 0, 0]

def k0_chk29 (v624 : BitVec 32) : Prop :=
  (∀ a, (k0_off58 v624) a + S1x32x128.size a ≤ S2048x32x128.size a)
theorem k0_off58_inb : ∀ (v624 : BitVec 32) (k0_hw29 : k0_chk29 v624), ∀ a, (k0_off58 v624) a + S1x32x128.size a ≤ S2048x32x128.size a := fun v624 k0_hw29 => k0_hw29

def k0_off59 (i : grid0.Coords) : Fin 1 → Nat :=
  let arg0 : BitVec 32 := BitVec.ofNat 32 (i 0).val
  let c128_i32_145 : BitVec 32 := 128#32
  let v643 : BitVec 32 := Scalar.muli arg0 c128_i32_145
  let c29_i32 : BitVec 32 := 29#32
  let v644 : BitVec 32 := Scalar.addi v643 c29_i32
  let v645 : Index := Scalar.indexCast v644
  ![v645.toNat]
def k0_off60 (v646 : BitVec 32) : Fin 3 → Nat :=
  let v647 : Index := Scalar.indexCast v646
  let c0_146 : Index := 0#32
  let c0_147 : Index := 0#32
  ![v647.toNat, 0, 0]

def k0_chk30 (v646 : BitVec 32) : Prop :=
  (∀ a, (k0_off60 v646) a + S1x32x128.size a ≤ S2048x32x128.size a)
theorem k0_off60_inb : ∀ (v646 : BitVec 32) (k0_hw30 : k0_chk30 v646), ∀ a, (k0_off60 v646) a + S1x32x128.size a ≤ S2048x32x128.size a := fun v646 k0_hw30 => k0_hw30

def k0_off61 (i : grid0.Coords) : Fin 1 → Nat :=
  let arg0 : BitVec 32 := BitVec.ofNat 32 (i 0).val
  let c128_i32_150 : BitVec 32 := 128#32
  let v665 : BitVec 32 := Scalar.muli arg0 c128_i32_150
  let c30_i32 : BitVec 32 := 30#32
  let v666 : BitVec 32 := Scalar.addi v665 c30_i32
  let v667 : Index := Scalar.indexCast v666
  ![v667.toNat]
def k0_off62 (v668 : BitVec 32) : Fin 3 → Nat :=
  let v669 : Index := Scalar.indexCast v668
  let c0_151 : Index := 0#32
  let c0_152 : Index := 0#32
  ![v669.toNat, 0, 0]

def k0_chk31 (v668 : BitVec 32) : Prop :=
  (∀ a, (k0_off62 v668) a + S1x32x128.size a ≤ S2048x32x128.size a)
theorem k0_off62_inb : ∀ (v668 : BitVec 32) (k0_hw31 : k0_chk31 v668), ∀ a, (k0_off62 v668) a + S1x32x128.size a ≤ S2048x32x128.size a := fun v668 k0_hw31 => k0_hw31

def k0_off63 (i : grid0.Coords) : Fin 1 → Nat :=
  let arg0 : BitVec 32 := BitVec.ofNat 32 (i 0).val
  let c128_i32_155 : BitVec 32 := 128#32
  let v687 : BitVec 32 := Scalar.muli arg0 c128_i32_155
  let c31_i32 : BitVec 32 := 31#32
  let v688 : BitVec 32 := Scalar.addi v687 c31_i32
  let v689 : Index := Scalar.indexCast v688
  ![v689.toNat]
def k0_off64 (v690 : BitVec 32) : Fin 3 → Nat :=
  let v691 : Index := Scalar.indexCast v690
  let c0_156 : Index := 0#32
  let c0_157 : Index := 0#32
  ![v691.toNat, 0, 0]

def k0_chk32 (v690 : BitVec 32) : Prop :=
  (∀ a, (k0_off64 v690) a + S1x32x128.size a ≤ S2048x32x128.size a)
theorem k0_off64_inb : ∀ (v690 : BitVec 32) (k0_hw32 : k0_chk32 v690), ∀ a, (k0_off64 v690) a + S1x32x128.size a ≤ S2048x32x128.size a := fun v690 k0_hw32 => k0_hw32

def k0_off65 (i : grid0.Coords) : Fin 1 → Nat :=
  let arg0 : BitVec 32 := BitVec.ofNat 32 (i 0).val
  let c128_i32_160 : BitVec 32 := 128#32
  let v709 : BitVec 32 := Scalar.muli arg0 c128_i32_160
  let c32_i32 : BitVec 32 := 32#32
  let v710 : BitVec 32 := Scalar.addi v709 c32_i32
  let v711 : Index := Scalar.indexCast v710
  ![v711.toNat]
def k0_off66 (v712 : BitVec 32) : Fin 3 → Nat :=
  let v713 : Index := Scalar.indexCast v712
  let c0_161 : Index := 0#32
  let c0_162 : Index := 0#32
  ![v713.toNat, 0, 0]

def k0_chk33 (v712 : BitVec 32) : Prop :=
  (∀ a, (k0_off66 v712) a + S1x32x128.size a ≤ S2048x32x128.size a)
theorem k0_off66_inb : ∀ (v712 : BitVec 32) (k0_hw33 : k0_chk33 v712), ∀ a, (k0_off66 v712) a + S1x32x128.size a ≤ S2048x32x128.size a := fun v712 k0_hw33 => k0_hw33

def k0_off67 (i : grid0.Coords) : Fin 1 → Nat :=
  let arg0 : BitVec 32 := BitVec.ofNat 32 (i 0).val
  let c128_i32_165 : BitVec 32 := 128#32
  let v731 : BitVec 32 := Scalar.muli arg0 c128_i32_165
  let c33_i32 : BitVec 32 := 33#32
  let v732 : BitVec 32 := Scalar.addi v731 c33_i32
  let v733 : Index := Scalar.indexCast v732
  ![v733.toNat]
def k0_off68 (v734 : BitVec 32) : Fin 3 → Nat :=
  let v735 : Index := Scalar.indexCast v734
  let c0_166 : Index := 0#32
  let c0_167 : Index := 0#32
  ![v735.toNat, 0, 0]

def k0_chk34 (v734 : BitVec 32) : Prop :=
  (∀ a, (k0_off68 v734) a + S1x32x128.size a ≤ S2048x32x128.size a)
theorem k0_off68_inb : ∀ (v734 : BitVec 32) (k0_hw34 : k0_chk34 v734), ∀ a, (k0_off68 v734) a + S1x32x128.size a ≤ S2048x32x128.size a := fun v734 k0_hw34 => k0_hw34

def k0_off69 (i : grid0.Coords) : Fin 1 → Nat :=
  let arg0 : BitVec 32 := BitVec.ofNat 32 (i 0).val
  let c128_i32_170 : BitVec 32 := 128#32
  let v753 : BitVec 32 := Scalar.muli arg0 c128_i32_170
  let c34_i32 : BitVec 32 := 34#32
  let v754 : BitVec 32 := Scalar.addi v753 c34_i32
  let v755 : Index := Scalar.indexCast v754
  ![v755.toNat]
def k0_off70 (v756 : BitVec 32) : Fin 3 → Nat :=
  let v757 : Index := Scalar.indexCast v756
  let c0_171 : Index := 0#32
  let c0_172 : Index := 0#32
  ![v757.toNat, 0, 0]

def k0_chk35 (v756 : BitVec 32) : Prop :=
  (∀ a, (k0_off70 v756) a + S1x32x128.size a ≤ S2048x32x128.size a)
theorem k0_off70_inb : ∀ (v756 : BitVec 32) (k0_hw35 : k0_chk35 v756), ∀ a, (k0_off70 v756) a + S1x32x128.size a ≤ S2048x32x128.size a := fun v756 k0_hw35 => k0_hw35

def k0_off71 (i : grid0.Coords) : Fin 1 → Nat :=
  let arg0 : BitVec 32 := BitVec.ofNat 32 (i 0).val
  let c128_i32_175 : BitVec 32 := 128#32
  let v775 : BitVec 32 := Scalar.muli arg0 c128_i32_175
  let c35_i32 : BitVec 32 := 35#32
  let v776 : BitVec 32 := Scalar.addi v775 c35_i32
  let v777 : Index := Scalar.indexCast v776
  ![v777.toNat]
def k0_off72 (v778 : BitVec 32) : Fin 3 → Nat :=
  let v779 : Index := Scalar.indexCast v778
  let c0_176 : Index := 0#32
  let c0_177 : Index := 0#32
  ![v779.toNat, 0, 0]

def k0_chk36 (v778 : BitVec 32) : Prop :=
  (∀ a, (k0_off72 v778) a + S1x32x128.size a ≤ S2048x32x128.size a)
theorem k0_off72_inb : ∀ (v778 : BitVec 32) (k0_hw36 : k0_chk36 v778), ∀ a, (k0_off72 v778) a + S1x32x128.size a ≤ S2048x32x128.size a := fun v778 k0_hw36 => k0_hw36

def k0_off73 (i : grid0.Coords) : Fin 1 → Nat :=
  let arg0 : BitVec 32 := BitVec.ofNat 32 (i 0).val
  let c128_i32_180 : BitVec 32 := 128#32
  let v797 : BitVec 32 := Scalar.muli arg0 c128_i32_180
  let c36_i32 : BitVec 32 := 36#32
  let v798 : BitVec 32 := Scalar.addi v797 c36_i32
  let v799 : Index := Scalar.indexCast v798
  ![v799.toNat]
def k0_off74 (v800 : BitVec 32) : Fin 3 → Nat :=
  let v801 : Index := Scalar.indexCast v800
  let c0_181 : Index := 0#32
  let c0_182 : Index := 0#32
  ![v801.toNat, 0, 0]

def k0_chk37 (v800 : BitVec 32) : Prop :=
  (∀ a, (k0_off74 v800) a + S1x32x128.size a ≤ S2048x32x128.size a)
theorem k0_off74_inb : ∀ (v800 : BitVec 32) (k0_hw37 : k0_chk37 v800), ∀ a, (k0_off74 v800) a + S1x32x128.size a ≤ S2048x32x128.size a := fun v800 k0_hw37 => k0_hw37

def k0_off75 (i : grid0.Coords) : Fin 1 → Nat :=
  let arg0 : BitVec 32 := BitVec.ofNat 32 (i 0).val
  let c128_i32_185 : BitVec 32 := 128#32
  let v819 : BitVec 32 := Scalar.muli arg0 c128_i32_185
  let c37_i32 : BitVec 32 := 37#32
  let v820 : BitVec 32 := Scalar.addi v819 c37_i32
  let v821 : Index := Scalar.indexCast v820
  ![v821.toNat]
def k0_off76 (v822 : BitVec 32) : Fin 3 → Nat :=
  let v823 : Index := Scalar.indexCast v822
  let c0_186 : Index := 0#32
  let c0_187 : Index := 0#32
  ![v823.toNat, 0, 0]

def k0_chk38 (v822 : BitVec 32) : Prop :=
  (∀ a, (k0_off76 v822) a + S1x32x128.size a ≤ S2048x32x128.size a)
theorem k0_off76_inb : ∀ (v822 : BitVec 32) (k0_hw38 : k0_chk38 v822), ∀ a, (k0_off76 v822) a + S1x32x128.size a ≤ S2048x32x128.size a := fun v822 k0_hw38 => k0_hw38

def k0_off77 (i : grid0.Coords) : Fin 1 → Nat :=
  let arg0 : BitVec 32 := BitVec.ofNat 32 (i 0).val
  let c128_i32_190 : BitVec 32 := 128#32
  let v841 : BitVec 32 := Scalar.muli arg0 c128_i32_190
  let c38_i32 : BitVec 32 := 38#32
  let v842 : BitVec 32 := Scalar.addi v841 c38_i32
  let v843 : Index := Scalar.indexCast v842
  ![v843.toNat]
def k0_off78 (v844 : BitVec 32) : Fin 3 → Nat :=
  let v845 : Index := Scalar.indexCast v844
  let c0_191 : Index := 0#32
  let c0_192 : Index := 0#32
  ![v845.toNat, 0, 0]

def k0_chk39 (v844 : BitVec 32) : Prop :=
  (∀ a, (k0_off78 v844) a + S1x32x128.size a ≤ S2048x32x128.size a)
theorem k0_off78_inb : ∀ (v844 : BitVec 32) (k0_hw39 : k0_chk39 v844), ∀ a, (k0_off78 v844) a + S1x32x128.size a ≤ S2048x32x128.size a := fun v844 k0_hw39 => k0_hw39

def k0_off79 (i : grid0.Coords) : Fin 1 → Nat :=
  let arg0 : BitVec 32 := BitVec.ofNat 32 (i 0).val
  let c128_i32_195 : BitVec 32 := 128#32
  let v863 : BitVec 32 := Scalar.muli arg0 c128_i32_195
  let c39_i32 : BitVec 32 := 39#32
  let v864 : BitVec 32 := Scalar.addi v863 c39_i32
  let v865 : Index := Scalar.indexCast v864
  ![v865.toNat]
def k0_off80 (v866 : BitVec 32) : Fin 3 → Nat :=
  let v867 : Index := Scalar.indexCast v866
  let c0_196 : Index := 0#32
  let c0_197 : Index := 0#32
  ![v867.toNat, 0, 0]

def k0_chk40 (v866 : BitVec 32) : Prop :=
  (∀ a, (k0_off80 v866) a + S1x32x128.size a ≤ S2048x32x128.size a)
theorem k0_off80_inb : ∀ (v866 : BitVec 32) (k0_hw40 : k0_chk40 v866), ∀ a, (k0_off80 v866) a + S1x32x128.size a ≤ S2048x32x128.size a := fun v866 k0_hw40 => k0_hw40

def k0_off81 (i : grid0.Coords) : Fin 1 → Nat :=
  let arg0 : BitVec 32 := BitVec.ofNat 32 (i 0).val
  let c128_i32_200 : BitVec 32 := 128#32
  let v885 : BitVec 32 := Scalar.muli arg0 c128_i32_200
  let c40_i32 : BitVec 32 := 40#32
  let v886 : BitVec 32 := Scalar.addi v885 c40_i32
  let v887 : Index := Scalar.indexCast v886
  ![v887.toNat]
def k0_off82 (v888 : BitVec 32) : Fin 3 → Nat :=
  let v889 : Index := Scalar.indexCast v888
  let c0_201 : Index := 0#32
  let c0_202 : Index := 0#32
  ![v889.toNat, 0, 0]

def k0_chk41 (v888 : BitVec 32) : Prop :=
  (∀ a, (k0_off82 v888) a + S1x32x128.size a ≤ S2048x32x128.size a)
theorem k0_off82_inb : ∀ (v888 : BitVec 32) (k0_hw41 : k0_chk41 v888), ∀ a, (k0_off82 v888) a + S1x32x128.size a ≤ S2048x32x128.size a := fun v888 k0_hw41 => k0_hw41

def k0_off83 (i : grid0.Coords) : Fin 1 → Nat :=
  let arg0 : BitVec 32 := BitVec.ofNat 32 (i 0).val
  let c128_i32_205 : BitVec 32 := 128#32
  let v907 : BitVec 32 := Scalar.muli arg0 c128_i32_205
  let c41_i32 : BitVec 32 := 41#32
  let v908 : BitVec 32 := Scalar.addi v907 c41_i32
  let v909 : Index := Scalar.indexCast v908
  ![v909.toNat]
def k0_off84 (v910 : BitVec 32) : Fin 3 → Nat :=
  let v911 : Index := Scalar.indexCast v910
  let c0_206 : Index := 0#32
  let c0_207 : Index := 0#32
  ![v911.toNat, 0, 0]

def k0_chk42 (v910 : BitVec 32) : Prop :=
  (∀ a, (k0_off84 v910) a + S1x32x128.size a ≤ S2048x32x128.size a)
theorem k0_off84_inb : ∀ (v910 : BitVec 32) (k0_hw42 : k0_chk42 v910), ∀ a, (k0_off84 v910) a + S1x32x128.size a ≤ S2048x32x128.size a := fun v910 k0_hw42 => k0_hw42

def k0_off85 (i : grid0.Coords) : Fin 1 → Nat :=
  let arg0 : BitVec 32 := BitVec.ofNat 32 (i 0).val
  let c128_i32_210 : BitVec 32 := 128#32
  let v929 : BitVec 32 := Scalar.muli arg0 c128_i32_210
  let c42_i32 : BitVec 32 := 42#32
  let v930 : BitVec 32 := Scalar.addi v929 c42_i32
  let v931 : Index := Scalar.indexCast v930
  ![v931.toNat]
def k0_off86 (v932 : BitVec 32) : Fin 3 → Nat :=
  let v933 : Index := Scalar.indexCast v932
  let c0_211 : Index := 0#32
  let c0_212 : Index := 0#32
  ![v933.toNat, 0, 0]

def k0_chk43 (v932 : BitVec 32) : Prop :=
  (∀ a, (k0_off86 v932) a + S1x32x128.size a ≤ S2048x32x128.size a)
theorem k0_off86_inb : ∀ (v932 : BitVec 32) (k0_hw43 : k0_chk43 v932), ∀ a, (k0_off86 v932) a + S1x32x128.size a ≤ S2048x32x128.size a := fun v932 k0_hw43 => k0_hw43

def k0_off87 (i : grid0.Coords) : Fin 1 → Nat :=
  let arg0 : BitVec 32 := BitVec.ofNat 32 (i 0).val
  let c128_i32_215 : BitVec 32 := 128#32
  let v951 : BitVec 32 := Scalar.muli arg0 c128_i32_215
  let c43_i32 : BitVec 32 := 43#32
  let v952 : BitVec 32 := Scalar.addi v951 c43_i32
  let v953 : Index := Scalar.indexCast v952
  ![v953.toNat]
def k0_off88 (v954 : BitVec 32) : Fin 3 → Nat :=
  let v955 : Index := Scalar.indexCast v954
  let c0_216 : Index := 0#32
  let c0_217 : Index := 0#32
  ![v955.toNat, 0, 0]

def k0_chk44 (v954 : BitVec 32) : Prop :=
  (∀ a, (k0_off88 v954) a + S1x32x128.size a ≤ S2048x32x128.size a)
theorem k0_off88_inb : ∀ (v954 : BitVec 32) (k0_hw44 : k0_chk44 v954), ∀ a, (k0_off88 v954) a + S1x32x128.size a ≤ S2048x32x128.size a := fun v954 k0_hw44 => k0_hw44

def k0_off89 (i : grid0.Coords) : Fin 1 → Nat :=
  let arg0 : BitVec 32 := BitVec.ofNat 32 (i 0).val
  let c128_i32_220 : BitVec 32 := 128#32
  let v973 : BitVec 32 := Scalar.muli arg0 c128_i32_220
  let c44_i32 : BitVec 32 := 44#32
  let v974 : BitVec 32 := Scalar.addi v973 c44_i32
  let v975 : Index := Scalar.indexCast v974
  ![v975.toNat]
def k0_off90 (v976 : BitVec 32) : Fin 3 → Nat :=
  let v977 : Index := Scalar.indexCast v976
  let c0_221 : Index := 0#32
  let c0_222 : Index := 0#32
  ![v977.toNat, 0, 0]

def k0_chk45 (v976 : BitVec 32) : Prop :=
  (∀ a, (k0_off90 v976) a + S1x32x128.size a ≤ S2048x32x128.size a)
theorem k0_off90_inb : ∀ (v976 : BitVec 32) (k0_hw45 : k0_chk45 v976), ∀ a, (k0_off90 v976) a + S1x32x128.size a ≤ S2048x32x128.size a := fun v976 k0_hw45 => k0_hw45

def k0_off91 (i : grid0.Coords) : Fin 1 → Nat :=
  let arg0 : BitVec 32 := BitVec.ofNat 32 (i 0).val
  let c128_i32_225 : BitVec 32 := 128#32
  let v995 : BitVec 32 := Scalar.muli arg0 c128_i32_225
  let c45_i32 : BitVec 32 := 45#32
  let v996 : BitVec 32 := Scalar.addi v995 c45_i32
  let v997 : Index := Scalar.indexCast v996
  ![v997.toNat]
def k0_off92 (v998 : BitVec 32) : Fin 3 → Nat :=
  let v999 : Index := Scalar.indexCast v998
  let c0_226 : Index := 0#32
  let c0_227 : Index := 0#32
  ![v999.toNat, 0, 0]

def k0_chk46 (v998 : BitVec 32) : Prop :=
  (∀ a, (k0_off92 v998) a + S1x32x128.size a ≤ S2048x32x128.size a)
theorem k0_off92_inb : ∀ (v998 : BitVec 32) (k0_hw46 : k0_chk46 v998), ∀ a, (k0_off92 v998) a + S1x32x128.size a ≤ S2048x32x128.size a := fun v998 k0_hw46 => k0_hw46

def k0_off93 (i : grid0.Coords) : Fin 1 → Nat :=
  let arg0 : BitVec 32 := BitVec.ofNat 32 (i 0).val
  let c128_i32_230 : BitVec 32 := 128#32
  let v1017 : BitVec 32 := Scalar.muli arg0 c128_i32_230
  let c46_i32 : BitVec 32 := 46#32
  let v1018 : BitVec 32 := Scalar.addi v1017 c46_i32
  let v1019 : Index := Scalar.indexCast v1018
  ![v1019.toNat]
def k0_off94 (v1020 : BitVec 32) : Fin 3 → Nat :=
  let v1021 : Index := Scalar.indexCast v1020
  let c0_231 : Index := 0#32
  let c0_232 : Index := 0#32
  ![v1021.toNat, 0, 0]

def k0_chk47 (v1020 : BitVec 32) : Prop :=
  (∀ a, (k0_off94 v1020) a + S1x32x128.size a ≤ S2048x32x128.size a)
theorem k0_off94_inb : ∀ (v1020 : BitVec 32) (k0_hw47 : k0_chk47 v1020), ∀ a, (k0_off94 v1020) a + S1x32x128.size a ≤ S2048x32x128.size a := fun v1020 k0_hw47 => k0_hw47

def k0_off95 (i : grid0.Coords) : Fin 1 → Nat :=
  let arg0 : BitVec 32 := BitVec.ofNat 32 (i 0).val
  let c128_i32_235 : BitVec 32 := 128#32
  let v1039 : BitVec 32 := Scalar.muli arg0 c128_i32_235
  let c47_i32 : BitVec 32 := 47#32
  let v1040 : BitVec 32 := Scalar.addi v1039 c47_i32
  let v1041 : Index := Scalar.indexCast v1040
  ![v1041.toNat]
def k0_off96 (v1042 : BitVec 32) : Fin 3 → Nat :=
  let v1043 : Index := Scalar.indexCast v1042
  let c0_236 : Index := 0#32
  let c0_237 : Index := 0#32
  ![v1043.toNat, 0, 0]

def k0_chk48 (v1042 : BitVec 32) : Prop :=
  (∀ a, (k0_off96 v1042) a + S1x32x128.size a ≤ S2048x32x128.size a)
theorem k0_off96_inb : ∀ (v1042 : BitVec 32) (k0_hw48 : k0_chk48 v1042), ∀ a, (k0_off96 v1042) a + S1x32x128.size a ≤ S2048x32x128.size a := fun v1042 k0_hw48 => k0_hw48

def k0_off97 (i : grid0.Coords) : Fin 1 → Nat :=
  let arg0 : BitVec 32 := BitVec.ofNat 32 (i 0).val
  let c128_i32_240 : BitVec 32 := 128#32
  let v1061 : BitVec 32 := Scalar.muli arg0 c128_i32_240
  let c48_i32 : BitVec 32 := 48#32
  let v1062 : BitVec 32 := Scalar.addi v1061 c48_i32
  let v1063 : Index := Scalar.indexCast v1062
  ![v1063.toNat]
def k0_off98 (v1064 : BitVec 32) : Fin 3 → Nat :=
  let v1065 : Index := Scalar.indexCast v1064
  let c0_241 : Index := 0#32
  let c0_242 : Index := 0#32
  ![v1065.toNat, 0, 0]

def k0_chk49 (v1064 : BitVec 32) : Prop :=
  (∀ a, (k0_off98 v1064) a + S1x32x128.size a ≤ S2048x32x128.size a)
theorem k0_off98_inb : ∀ (v1064 : BitVec 32) (k0_hw49 : k0_chk49 v1064), ∀ a, (k0_off98 v1064) a + S1x32x128.size a ≤ S2048x32x128.size a := fun v1064 k0_hw49 => k0_hw49

def k0_off99 (i : grid0.Coords) : Fin 1 → Nat :=
  let arg0 : BitVec 32 := BitVec.ofNat 32 (i 0).val
  let c128_i32_245 : BitVec 32 := 128#32
  let v1083 : BitVec 32 := Scalar.muli arg0 c128_i32_245
  let c49_i32 : BitVec 32 := 49#32
  let v1084 : BitVec 32 := Scalar.addi v1083 c49_i32
  let v1085 : Index := Scalar.indexCast v1084
  ![v1085.toNat]
def k0_off100 (v1086 : BitVec 32) : Fin 3 → Nat :=
  let v1087 : Index := Scalar.indexCast v1086
  let c0_246 : Index := 0#32
  let c0_247 : Index := 0#32
  ![v1087.toNat, 0, 0]

def k0_chk50 (v1086 : BitVec 32) : Prop :=
  (∀ a, (k0_off100 v1086) a + S1x32x128.size a ≤ S2048x32x128.size a)
theorem k0_off100_inb : ∀ (v1086 : BitVec 32) (k0_hw50 : k0_chk50 v1086), ∀ a, (k0_off100 v1086) a + S1x32x128.size a ≤ S2048x32x128.size a := fun v1086 k0_hw50 => k0_hw50

def k0_off101 (i : grid0.Coords) : Fin 1 → Nat :=
  let arg0 : BitVec 32 := BitVec.ofNat 32 (i 0).val
  let c128_i32_250 : BitVec 32 := 128#32
  let v1105 : BitVec 32 := Scalar.muli arg0 c128_i32_250
  let c50_i32 : BitVec 32 := 50#32
  let v1106 : BitVec 32 := Scalar.addi v1105 c50_i32
  let v1107 : Index := Scalar.indexCast v1106
  ![v1107.toNat]
def k0_off102 (v1108 : BitVec 32) : Fin 3 → Nat :=
  let v1109 : Index := Scalar.indexCast v1108
  let c0_251 : Index := 0#32
  let c0_252 : Index := 0#32
  ![v1109.toNat, 0, 0]

def k0_chk51 (v1108 : BitVec 32) : Prop :=
  (∀ a, (k0_off102 v1108) a + S1x32x128.size a ≤ S2048x32x128.size a)
theorem k0_off102_inb : ∀ (v1108 : BitVec 32) (k0_hw51 : k0_chk51 v1108), ∀ a, (k0_off102 v1108) a + S1x32x128.size a ≤ S2048x32x128.size a := fun v1108 k0_hw51 => k0_hw51

def k0_off103 (i : grid0.Coords) : Fin 1 → Nat :=
  let arg0 : BitVec 32 := BitVec.ofNat 32 (i 0).val
  let c128_i32_255 : BitVec 32 := 128#32
  let v1127 : BitVec 32 := Scalar.muli arg0 c128_i32_255
  let c51_i32 : BitVec 32 := 51#32
  let v1128 : BitVec 32 := Scalar.addi v1127 c51_i32
  let v1129 : Index := Scalar.indexCast v1128
  ![v1129.toNat]
def k0_off104 (v1130 : BitVec 32) : Fin 3 → Nat :=
  let v1131 : Index := Scalar.indexCast v1130
  let c0_256 : Index := 0#32
  let c0_257 : Index := 0#32
  ![v1131.toNat, 0, 0]

def k0_chk52 (v1130 : BitVec 32) : Prop :=
  (∀ a, (k0_off104 v1130) a + S1x32x128.size a ≤ S2048x32x128.size a)
theorem k0_off104_inb : ∀ (v1130 : BitVec 32) (k0_hw52 : k0_chk52 v1130), ∀ a, (k0_off104 v1130) a + S1x32x128.size a ≤ S2048x32x128.size a := fun v1130 k0_hw52 => k0_hw52

def k0_off105 (i : grid0.Coords) : Fin 1 → Nat :=
  let arg0 : BitVec 32 := BitVec.ofNat 32 (i 0).val
  let c128_i32_260 : BitVec 32 := 128#32
  let v1149 : BitVec 32 := Scalar.muli arg0 c128_i32_260
  let c52_i32 : BitVec 32 := 52#32
  let v1150 : BitVec 32 := Scalar.addi v1149 c52_i32
  let v1151 : Index := Scalar.indexCast v1150
  ![v1151.toNat]
def k0_off106 (v1152 : BitVec 32) : Fin 3 → Nat :=
  let v1153 : Index := Scalar.indexCast v1152
  let c0_261 : Index := 0#32
  let c0_262 : Index := 0#32
  ![v1153.toNat, 0, 0]

def k0_chk53 (v1152 : BitVec 32) : Prop :=
  (∀ a, (k0_off106 v1152) a + S1x32x128.size a ≤ S2048x32x128.size a)
theorem k0_off106_inb : ∀ (v1152 : BitVec 32) (k0_hw53 : k0_chk53 v1152), ∀ a, (k0_off106 v1152) a + S1x32x128.size a ≤ S2048x32x128.size a := fun v1152 k0_hw53 => k0_hw53

def k0_off107 (i : grid0.Coords) : Fin 1 → Nat :=
  let arg0 : BitVec 32 := BitVec.ofNat 32 (i 0).val
  let c128_i32_265 : BitVec 32 := 128#32
  let v1171 : BitVec 32 := Scalar.muli arg0 c128_i32_265
  let c53_i32 : BitVec 32 := 53#32
  let v1172 : BitVec 32 := Scalar.addi v1171 c53_i32
  let v1173 : Index := Scalar.indexCast v1172
  ![v1173.toNat]
def k0_off108 (v1174 : BitVec 32) : Fin 3 → Nat :=
  let v1175 : Index := Scalar.indexCast v1174
  let c0_266 : Index := 0#32
  let c0_267 : Index := 0#32
  ![v1175.toNat, 0, 0]

def k0_chk54 (v1174 : BitVec 32) : Prop :=
  (∀ a, (k0_off108 v1174) a + S1x32x128.size a ≤ S2048x32x128.size a)
theorem k0_off108_inb : ∀ (v1174 : BitVec 32) (k0_hw54 : k0_chk54 v1174), ∀ a, (k0_off108 v1174) a + S1x32x128.size a ≤ S2048x32x128.size a := fun v1174 k0_hw54 => k0_hw54

def k0_off109 (i : grid0.Coords) : Fin 1 → Nat :=
  let arg0 : BitVec 32 := BitVec.ofNat 32 (i 0).val
  let c128_i32_270 : BitVec 32 := 128#32
  let v1193 : BitVec 32 := Scalar.muli arg0 c128_i32_270
  let c54_i32 : BitVec 32 := 54#32
  let v1194 : BitVec 32 := Scalar.addi v1193 c54_i32
  let v1195 : Index := Scalar.indexCast v1194
  ![v1195.toNat]
def k0_off110 (v1196 : BitVec 32) : Fin 3 → Nat :=
  let v1197 : Index := Scalar.indexCast v1196
  let c0_271 : Index := 0#32
  let c0_272 : Index := 0#32
  ![v1197.toNat, 0, 0]

def k0_chk55 (v1196 : BitVec 32) : Prop :=
  (∀ a, (k0_off110 v1196) a + S1x32x128.size a ≤ S2048x32x128.size a)
theorem k0_off110_inb : ∀ (v1196 : BitVec 32) (k0_hw55 : k0_chk55 v1196), ∀ a, (k0_off110 v1196) a + S1x32x128.size a ≤ S2048x32x128.size a := fun v1196 k0_hw55 => k0_hw55

def k0_off111 (i : grid0.Coords) : Fin 1 → Nat :=
  let arg0 : BitVec 32 := BitVec.ofNat 32 (i 0).val
  let c128_i32_275 : BitVec 32 := 128#32
  let v1215 : BitVec 32 := Scalar.muli arg0 c128_i32_275
  let c55_i32 : BitVec 32 := 55#32
  let v1216 : BitVec 32 := Scalar.addi v1215 c55_i32
  let v1217 : Index := Scalar.indexCast v1216
  ![v1217.toNat]
def k0_off112 (v1218 : BitVec 32) : Fin 3 → Nat :=
  let v1219 : Index := Scalar.indexCast v1218
  let c0_276 : Index := 0#32
  let c0_277 : Index := 0#32
  ![v1219.toNat, 0, 0]

def k0_chk56 (v1218 : BitVec 32) : Prop :=
  (∀ a, (k0_off112 v1218) a + S1x32x128.size a ≤ S2048x32x128.size a)
theorem k0_off112_inb : ∀ (v1218 : BitVec 32) (k0_hw56 : k0_chk56 v1218), ∀ a, (k0_off112 v1218) a + S1x32x128.size a ≤ S2048x32x128.size a := fun v1218 k0_hw56 => k0_hw56

def k0_off113 (i : grid0.Coords) : Fin 1 → Nat :=
  let arg0 : BitVec 32 := BitVec.ofNat 32 (i 0).val
  let c128_i32_280 : BitVec 32 := 128#32
  let v1237 : BitVec 32 := Scalar.muli arg0 c128_i32_280
  let c56_i32 : BitVec 32 := 56#32
  let v1238 : BitVec 32 := Scalar.addi v1237 c56_i32
  let v1239 : Index := Scalar.indexCast v1238
  ![v1239.toNat]
def k0_off114 (v1240 : BitVec 32) : Fin 3 → Nat :=
  let v1241 : Index := Scalar.indexCast v1240
  let c0_281 : Index := 0#32
  let c0_282 : Index := 0#32
  ![v1241.toNat, 0, 0]

def k0_chk57 (v1240 : BitVec 32) : Prop :=
  (∀ a, (k0_off114 v1240) a + S1x32x128.size a ≤ S2048x32x128.size a)
theorem k0_off114_inb : ∀ (v1240 : BitVec 32) (k0_hw57 : k0_chk57 v1240), ∀ a, (k0_off114 v1240) a + S1x32x128.size a ≤ S2048x32x128.size a := fun v1240 k0_hw57 => k0_hw57

def k0_off115 (i : grid0.Coords) : Fin 1 → Nat :=
  let arg0 : BitVec 32 := BitVec.ofNat 32 (i 0).val
  let c128_i32_285 : BitVec 32 := 128#32
  let v1259 : BitVec 32 := Scalar.muli arg0 c128_i32_285
  let c57_i32 : BitVec 32 := 57#32
  let v1260 : BitVec 32 := Scalar.addi v1259 c57_i32
  let v1261 : Index := Scalar.indexCast v1260
  ![v1261.toNat]
def k0_off116 (v1262 : BitVec 32) : Fin 3 → Nat :=
  let v1263 : Index := Scalar.indexCast v1262
  let c0_286 : Index := 0#32
  let c0_287 : Index := 0#32
  ![v1263.toNat, 0, 0]

def k0_chk58 (v1262 : BitVec 32) : Prop :=
  (∀ a, (k0_off116 v1262) a + S1x32x128.size a ≤ S2048x32x128.size a)
theorem k0_off116_inb : ∀ (v1262 : BitVec 32) (k0_hw58 : k0_chk58 v1262), ∀ a, (k0_off116 v1262) a + S1x32x128.size a ≤ S2048x32x128.size a := fun v1262 k0_hw58 => k0_hw58

def k0_off117 (i : grid0.Coords) : Fin 1 → Nat :=
  let arg0 : BitVec 32 := BitVec.ofNat 32 (i 0).val
  let c128_i32_290 : BitVec 32 := 128#32
  let v1281 : BitVec 32 := Scalar.muli arg0 c128_i32_290
  let c58_i32 : BitVec 32 := 58#32
  let v1282 : BitVec 32 := Scalar.addi v1281 c58_i32
  let v1283 : Index := Scalar.indexCast v1282
  ![v1283.toNat]
def k0_off118 (v1284 : BitVec 32) : Fin 3 → Nat :=
  let v1285 : Index := Scalar.indexCast v1284
  let c0_291 : Index := 0#32
  let c0_292 : Index := 0#32
  ![v1285.toNat, 0, 0]

def k0_chk59 (v1284 : BitVec 32) : Prop :=
  (∀ a, (k0_off118 v1284) a + S1x32x128.size a ≤ S2048x32x128.size a)
theorem k0_off118_inb : ∀ (v1284 : BitVec 32) (k0_hw59 : k0_chk59 v1284), ∀ a, (k0_off118 v1284) a + S1x32x128.size a ≤ S2048x32x128.size a := fun v1284 k0_hw59 => k0_hw59

def k0_off119 (i : grid0.Coords) : Fin 1 → Nat :=
  let arg0 : BitVec 32 := BitVec.ofNat 32 (i 0).val
  let c128_i32_295 : BitVec 32 := 128#32
  let v1303 : BitVec 32 := Scalar.muli arg0 c128_i32_295
  let c59_i32 : BitVec 32 := 59#32
  let v1304 : BitVec 32 := Scalar.addi v1303 c59_i32
  let v1305 : Index := Scalar.indexCast v1304
  ![v1305.toNat]
def k0_off120 (v1306 : BitVec 32) : Fin 3 → Nat :=
  let v1307 : Index := Scalar.indexCast v1306
  let c0_296 : Index := 0#32
  let c0_297 : Index := 0#32
  ![v1307.toNat, 0, 0]

def k0_chk60 (v1306 : BitVec 32) : Prop :=
  (∀ a, (k0_off120 v1306) a + S1x32x128.size a ≤ S2048x32x128.size a)
theorem k0_off120_inb : ∀ (v1306 : BitVec 32) (k0_hw60 : k0_chk60 v1306), ∀ a, (k0_off120 v1306) a + S1x32x128.size a ≤ S2048x32x128.size a := fun v1306 k0_hw60 => k0_hw60

def k0_off121 (i : grid0.Coords) : Fin 1 → Nat :=
  let arg0 : BitVec 32 := BitVec.ofNat 32 (i 0).val
  let c128_i32_300 : BitVec 32 := 128#32
  let v1325 : BitVec 32 := Scalar.muli arg0 c128_i32_300
  let c60_i32 : BitVec 32 := 60#32
  let v1326 : BitVec 32 := Scalar.addi v1325 c60_i32
  let v1327 : Index := Scalar.indexCast v1326
  ![v1327.toNat]
def k0_off122 (v1328 : BitVec 32) : Fin 3 → Nat :=
  let v1329 : Index := Scalar.indexCast v1328
  let c0_301 : Index := 0#32
  let c0_302 : Index := 0#32
  ![v1329.toNat, 0, 0]

def k0_chk61 (v1328 : BitVec 32) : Prop :=
  (∀ a, (k0_off122 v1328) a + S1x32x128.size a ≤ S2048x32x128.size a)
theorem k0_off122_inb : ∀ (v1328 : BitVec 32) (k0_hw61 : k0_chk61 v1328), ∀ a, (k0_off122 v1328) a + S1x32x128.size a ≤ S2048x32x128.size a := fun v1328 k0_hw61 => k0_hw61

def k0_off123 (i : grid0.Coords) : Fin 1 → Nat :=
  let arg0 : BitVec 32 := BitVec.ofNat 32 (i 0).val
  let c128_i32_305 : BitVec 32 := 128#32
  let v1347 : BitVec 32 := Scalar.muli arg0 c128_i32_305
  let c61_i32 : BitVec 32 := 61#32
  let v1348 : BitVec 32 := Scalar.addi v1347 c61_i32
  let v1349 : Index := Scalar.indexCast v1348
  ![v1349.toNat]
def k0_off124 (v1350 : BitVec 32) : Fin 3 → Nat :=
  let v1351 : Index := Scalar.indexCast v1350
  let c0_306 : Index := 0#32
  let c0_307 : Index := 0#32
  ![v1351.toNat, 0, 0]

def k0_chk62 (v1350 : BitVec 32) : Prop :=
  (∀ a, (k0_off124 v1350) a + S1x32x128.size a ≤ S2048x32x128.size a)
theorem k0_off124_inb : ∀ (v1350 : BitVec 32) (k0_hw62 : k0_chk62 v1350), ∀ a, (k0_off124 v1350) a + S1x32x128.size a ≤ S2048x32x128.size a := fun v1350 k0_hw62 => k0_hw62

def k0_off125 (i : grid0.Coords) : Fin 1 → Nat :=
  let arg0 : BitVec 32 := BitVec.ofNat 32 (i 0).val
  let c128_i32_310 : BitVec 32 := 128#32
  let v1369 : BitVec 32 := Scalar.muli arg0 c128_i32_310
  let c62_i32 : BitVec 32 := 62#32
  let v1370 : BitVec 32 := Scalar.addi v1369 c62_i32
  let v1371 : Index := Scalar.indexCast v1370
  ![v1371.toNat]
def k0_off126 (v1372 : BitVec 32) : Fin 3 → Nat :=
  let v1373 : Index := Scalar.indexCast v1372
  let c0_311 : Index := 0#32
  let c0_312 : Index := 0#32
  ![v1373.toNat, 0, 0]

def k0_chk63 (v1372 : BitVec 32) : Prop :=
  (∀ a, (k0_off126 v1372) a + S1x32x128.size a ≤ S2048x32x128.size a)
theorem k0_off126_inb : ∀ (v1372 : BitVec 32) (k0_hw63 : k0_chk63 v1372), ∀ a, (k0_off126 v1372) a + S1x32x128.size a ≤ S2048x32x128.size a := fun v1372 k0_hw63 => k0_hw63

def k0_off127 (i : grid0.Coords) : Fin 1 → Nat :=
  let arg0 : BitVec 32 := BitVec.ofNat 32 (i 0).val
  let c128_i32_315 : BitVec 32 := 128#32
  let v1391 : BitVec 32 := Scalar.muli arg0 c128_i32_315
  let c63_i32 : BitVec 32 := 63#32
  let v1392 : BitVec 32 := Scalar.addi v1391 c63_i32
  let v1393 : Index := Scalar.indexCast v1392
  ![v1393.toNat]
def k0_off128 (v1394 : BitVec 32) : Fin 3 → Nat :=
  let v1395 : Index := Scalar.indexCast v1394
  let c0_316 : Index := 0#32
  let c0_317 : Index := 0#32
  ![v1395.toNat, 0, 0]

def k0_chk64 (v1394 : BitVec 32) : Prop :=
  (∀ a, (k0_off128 v1394) a + S1x32x128.size a ≤ S2048x32x128.size a)
theorem k0_off128_inb : ∀ (v1394 : BitVec 32) (k0_hw64 : k0_chk64 v1394), ∀ a, (k0_off128 v1394) a + S1x32x128.size a ≤ S2048x32x128.size a := fun v1394 k0_hw64 => k0_hw64

def k0_off129 (i : grid0.Coords) : Fin 1 → Nat :=
  let arg0 : BitVec 32 := BitVec.ofNat 32 (i 0).val
  let c128_i32_320 : BitVec 32 := 128#32
  let v1413 : BitVec 32 := Scalar.muli arg0 c128_i32_320
  let c64_i32 : BitVec 32 := 64#32
  let v1414 : BitVec 32 := Scalar.addi v1413 c64_i32
  let v1415 : Index := Scalar.indexCast v1414
  ![v1415.toNat]
def k0_off130 (v1416 : BitVec 32) : Fin 3 → Nat :=
  let v1417 : Index := Scalar.indexCast v1416
  let c0_321 : Index := 0#32
  let c0_322 : Index := 0#32
  ![v1417.toNat, 0, 0]

def k0_chk65 (v1416 : BitVec 32) : Prop :=
  (∀ a, (k0_off130 v1416) a + S1x32x128.size a ≤ S2048x32x128.size a)
theorem k0_off130_inb : ∀ (v1416 : BitVec 32) (k0_hw65 : k0_chk65 v1416), ∀ a, (k0_off130 v1416) a + S1x32x128.size a ≤ S2048x32x128.size a := fun v1416 k0_hw65 => k0_hw65

def k0_off131 (i : grid0.Coords) : Fin 1 → Nat :=
  let arg0 : BitVec 32 := BitVec.ofNat 32 (i 0).val
  let c128_i32_325 : BitVec 32 := 128#32
  let v1435 : BitVec 32 := Scalar.muli arg0 c128_i32_325
  let c65_i32 : BitVec 32 := 65#32
  let v1436 : BitVec 32 := Scalar.addi v1435 c65_i32
  let v1437 : Index := Scalar.indexCast v1436
  ![v1437.toNat]
def k0_off132 (v1438 : BitVec 32) : Fin 3 → Nat :=
  let v1439 : Index := Scalar.indexCast v1438
  let c0_326 : Index := 0#32
  let c0_327 : Index := 0#32
  ![v1439.toNat, 0, 0]

def k0_chk66 (v1438 : BitVec 32) : Prop :=
  (∀ a, (k0_off132 v1438) a + S1x32x128.size a ≤ S2048x32x128.size a)
theorem k0_off132_inb : ∀ (v1438 : BitVec 32) (k0_hw66 : k0_chk66 v1438), ∀ a, (k0_off132 v1438) a + S1x32x128.size a ≤ S2048x32x128.size a := fun v1438 k0_hw66 => k0_hw66

def k0_off133 (i : grid0.Coords) : Fin 1 → Nat :=
  let arg0 : BitVec 32 := BitVec.ofNat 32 (i 0).val
  let c128_i32_330 : BitVec 32 := 128#32
  let v1457 : BitVec 32 := Scalar.muli arg0 c128_i32_330
  let c66_i32 : BitVec 32 := 66#32
  let v1458 : BitVec 32 := Scalar.addi v1457 c66_i32
  let v1459 : Index := Scalar.indexCast v1458
  ![v1459.toNat]
def k0_off134 (v1460 : BitVec 32) : Fin 3 → Nat :=
  let v1461 : Index := Scalar.indexCast v1460
  let c0_331 : Index := 0#32
  let c0_332 : Index := 0#32
  ![v1461.toNat, 0, 0]

def k0_chk67 (v1460 : BitVec 32) : Prop :=
  (∀ a, (k0_off134 v1460) a + S1x32x128.size a ≤ S2048x32x128.size a)
theorem k0_off134_inb : ∀ (v1460 : BitVec 32) (k0_hw67 : k0_chk67 v1460), ∀ a, (k0_off134 v1460) a + S1x32x128.size a ≤ S2048x32x128.size a := fun v1460 k0_hw67 => k0_hw67

def k0_off135 (i : grid0.Coords) : Fin 1 → Nat :=
  let arg0 : BitVec 32 := BitVec.ofNat 32 (i 0).val
  let c128_i32_335 : BitVec 32 := 128#32
  let v1479 : BitVec 32 := Scalar.muli arg0 c128_i32_335
  let c67_i32 : BitVec 32 := 67#32
  let v1480 : BitVec 32 := Scalar.addi v1479 c67_i32
  let v1481 : Index := Scalar.indexCast v1480
  ![v1481.toNat]
def k0_off136 (v1482 : BitVec 32) : Fin 3 → Nat :=
  let v1483 : Index := Scalar.indexCast v1482
  let c0_336 : Index := 0#32
  let c0_337 : Index := 0#32
  ![v1483.toNat, 0, 0]

def k0_chk68 (v1482 : BitVec 32) : Prop :=
  (∀ a, (k0_off136 v1482) a + S1x32x128.size a ≤ S2048x32x128.size a)
theorem k0_off136_inb : ∀ (v1482 : BitVec 32) (k0_hw68 : k0_chk68 v1482), ∀ a, (k0_off136 v1482) a + S1x32x128.size a ≤ S2048x32x128.size a := fun v1482 k0_hw68 => k0_hw68

def k0_off137 (i : grid0.Coords) : Fin 1 → Nat :=
  let arg0 : BitVec 32 := BitVec.ofNat 32 (i 0).val
  let c128_i32_340 : BitVec 32 := 128#32
  let v1501 : BitVec 32 := Scalar.muli arg0 c128_i32_340
  let c68_i32 : BitVec 32 := 68#32
  let v1502 : BitVec 32 := Scalar.addi v1501 c68_i32
  let v1503 : Index := Scalar.indexCast v1502
  ![v1503.toNat]
def k0_off138 (v1504 : BitVec 32) : Fin 3 → Nat :=
  let v1505 : Index := Scalar.indexCast v1504
  let c0_341 : Index := 0#32
  let c0_342 : Index := 0#32
  ![v1505.toNat, 0, 0]

def k0_chk69 (v1504 : BitVec 32) : Prop :=
  (∀ a, (k0_off138 v1504) a + S1x32x128.size a ≤ S2048x32x128.size a)
theorem k0_off138_inb : ∀ (v1504 : BitVec 32) (k0_hw69 : k0_chk69 v1504), ∀ a, (k0_off138 v1504) a + S1x32x128.size a ≤ S2048x32x128.size a := fun v1504 k0_hw69 => k0_hw69

def k0_off139 (i : grid0.Coords) : Fin 1 → Nat :=
  let arg0 : BitVec 32 := BitVec.ofNat 32 (i 0).val
  let c128_i32_345 : BitVec 32 := 128#32
  let v1523 : BitVec 32 := Scalar.muli arg0 c128_i32_345
  let c69_i32 : BitVec 32 := 69#32
  let v1524 : BitVec 32 := Scalar.addi v1523 c69_i32
  let v1525 : Index := Scalar.indexCast v1524
  ![v1525.toNat]
def k0_off140 (v1526 : BitVec 32) : Fin 3 → Nat :=
  let v1527 : Index := Scalar.indexCast v1526
  let c0_346 : Index := 0#32
  let c0_347 : Index := 0#32
  ![v1527.toNat, 0, 0]

def k0_chk70 (v1526 : BitVec 32) : Prop :=
  (∀ a, (k0_off140 v1526) a + S1x32x128.size a ≤ S2048x32x128.size a)
theorem k0_off140_inb : ∀ (v1526 : BitVec 32) (k0_hw70 : k0_chk70 v1526), ∀ a, (k0_off140 v1526) a + S1x32x128.size a ≤ S2048x32x128.size a := fun v1526 k0_hw70 => k0_hw70

def k0_off141 (i : grid0.Coords) : Fin 1 → Nat :=
  let arg0 : BitVec 32 := BitVec.ofNat 32 (i 0).val
  let c128_i32_350 : BitVec 32 := 128#32
  let v1545 : BitVec 32 := Scalar.muli arg0 c128_i32_350
  let c70_i32 : BitVec 32 := 70#32
  let v1546 : BitVec 32 := Scalar.addi v1545 c70_i32
  let v1547 : Index := Scalar.indexCast v1546
  ![v1547.toNat]
def k0_off142 (v1548 : BitVec 32) : Fin 3 → Nat :=
  let v1549 : Index := Scalar.indexCast v1548
  let c0_351 : Index := 0#32
  let c0_352 : Index := 0#32
  ![v1549.toNat, 0, 0]

def k0_chk71 (v1548 : BitVec 32) : Prop :=
  (∀ a, (k0_off142 v1548) a + S1x32x128.size a ≤ S2048x32x128.size a)
theorem k0_off142_inb : ∀ (v1548 : BitVec 32) (k0_hw71 : k0_chk71 v1548), ∀ a, (k0_off142 v1548) a + S1x32x128.size a ≤ S2048x32x128.size a := fun v1548 k0_hw71 => k0_hw71

def k0_off143 (i : grid0.Coords) : Fin 1 → Nat :=
  let arg0 : BitVec 32 := BitVec.ofNat 32 (i 0).val
  let c128_i32_355 : BitVec 32 := 128#32
  let v1567 : BitVec 32 := Scalar.muli arg0 c128_i32_355
  let c71_i32 : BitVec 32 := 71#32
  let v1568 : BitVec 32 := Scalar.addi v1567 c71_i32
  let v1569 : Index := Scalar.indexCast v1568
  ![v1569.toNat]
def k0_off144 (v1570 : BitVec 32) : Fin 3 → Nat :=
  let v1571 : Index := Scalar.indexCast v1570
  let c0_356 : Index := 0#32
  let c0_357 : Index := 0#32
  ![v1571.toNat, 0, 0]

def k0_chk72 (v1570 : BitVec 32) : Prop :=
  (∀ a, (k0_off144 v1570) a + S1x32x128.size a ≤ S2048x32x128.size a)
theorem k0_off144_inb : ∀ (v1570 : BitVec 32) (k0_hw72 : k0_chk72 v1570), ∀ a, (k0_off144 v1570) a + S1x32x128.size a ≤ S2048x32x128.size a := fun v1570 k0_hw72 => k0_hw72

def k0_off145 (i : grid0.Coords) : Fin 1 → Nat :=
  let arg0 : BitVec 32 := BitVec.ofNat 32 (i 0).val
  let c128_i32_360 : BitVec 32 := 128#32
  let v1589 : BitVec 32 := Scalar.muli arg0 c128_i32_360
  let c72_i32 : BitVec 32 := 72#32
  let v1590 : BitVec 32 := Scalar.addi v1589 c72_i32
  let v1591 : Index := Scalar.indexCast v1590
  ![v1591.toNat]
def k0_off146 (v1592 : BitVec 32) : Fin 3 → Nat :=
  let v1593 : Index := Scalar.indexCast v1592
  let c0_361 : Index := 0#32
  let c0_362 : Index := 0#32
  ![v1593.toNat, 0, 0]

def k0_chk73 (v1592 : BitVec 32) : Prop :=
  (∀ a, (k0_off146 v1592) a + S1x32x128.size a ≤ S2048x32x128.size a)
theorem k0_off146_inb : ∀ (v1592 : BitVec 32) (k0_hw73 : k0_chk73 v1592), ∀ a, (k0_off146 v1592) a + S1x32x128.size a ≤ S2048x32x128.size a := fun v1592 k0_hw73 => k0_hw73

def k0_off147 (i : grid0.Coords) : Fin 1 → Nat :=
  let arg0 : BitVec 32 := BitVec.ofNat 32 (i 0).val
  let c128_i32_365 : BitVec 32 := 128#32
  let v1611 : BitVec 32 := Scalar.muli arg0 c128_i32_365
  let c73_i32 : BitVec 32 := 73#32
  let v1612 : BitVec 32 := Scalar.addi v1611 c73_i32
  let v1613 : Index := Scalar.indexCast v1612
  ![v1613.toNat]
def k0_off148 (v1614 : BitVec 32) : Fin 3 → Nat :=
  let v1615 : Index := Scalar.indexCast v1614
  let c0_366 : Index := 0#32
  let c0_367 : Index := 0#32
  ![v1615.toNat, 0, 0]

def k0_chk74 (v1614 : BitVec 32) : Prop :=
  (∀ a, (k0_off148 v1614) a + S1x32x128.size a ≤ S2048x32x128.size a)
theorem k0_off148_inb : ∀ (v1614 : BitVec 32) (k0_hw74 : k0_chk74 v1614), ∀ a, (k0_off148 v1614) a + S1x32x128.size a ≤ S2048x32x128.size a := fun v1614 k0_hw74 => k0_hw74

def k0_off149 (i : grid0.Coords) : Fin 1 → Nat :=
  let arg0 : BitVec 32 := BitVec.ofNat 32 (i 0).val
  let c128_i32_370 : BitVec 32 := 128#32
  let v1633 : BitVec 32 := Scalar.muli arg0 c128_i32_370
  let c74_i32 : BitVec 32 := 74#32
  let v1634 : BitVec 32 := Scalar.addi v1633 c74_i32
  let v1635 : Index := Scalar.indexCast v1634
  ![v1635.toNat]
def k0_off150 (v1636 : BitVec 32) : Fin 3 → Nat :=
  let v1637 : Index := Scalar.indexCast v1636
  let c0_371 : Index := 0#32
  let c0_372 : Index := 0#32
  ![v1637.toNat, 0, 0]

def k0_chk75 (v1636 : BitVec 32) : Prop :=
  (∀ a, (k0_off150 v1636) a + S1x32x128.size a ≤ S2048x32x128.size a)
theorem k0_off150_inb : ∀ (v1636 : BitVec 32) (k0_hw75 : k0_chk75 v1636), ∀ a, (k0_off150 v1636) a + S1x32x128.size a ≤ S2048x32x128.size a := fun v1636 k0_hw75 => k0_hw75

def k0_off151 (i : grid0.Coords) : Fin 1 → Nat :=
  let arg0 : BitVec 32 := BitVec.ofNat 32 (i 0).val
  let c128_i32_375 : BitVec 32 := 128#32
  let v1655 : BitVec 32 := Scalar.muli arg0 c128_i32_375
  let c75_i32 : BitVec 32 := 75#32
  let v1656 : BitVec 32 := Scalar.addi v1655 c75_i32
  let v1657 : Index := Scalar.indexCast v1656
  ![v1657.toNat]
def k0_off152 (v1658 : BitVec 32) : Fin 3 → Nat :=
  let v1659 : Index := Scalar.indexCast v1658
  let c0_376 : Index := 0#32
  let c0_377 : Index := 0#32
  ![v1659.toNat, 0, 0]

def k0_chk76 (v1658 : BitVec 32) : Prop :=
  (∀ a, (k0_off152 v1658) a + S1x32x128.size a ≤ S2048x32x128.size a)
theorem k0_off152_inb : ∀ (v1658 : BitVec 32) (k0_hw76 : k0_chk76 v1658), ∀ a, (k0_off152 v1658) a + S1x32x128.size a ≤ S2048x32x128.size a := fun v1658 k0_hw76 => k0_hw76

def k0_off153 (i : grid0.Coords) : Fin 1 → Nat :=
  let arg0 : BitVec 32 := BitVec.ofNat 32 (i 0).val
  let c128_i32_380 : BitVec 32 := 128#32
  let v1677 : BitVec 32 := Scalar.muli arg0 c128_i32_380
  let c76_i32 : BitVec 32 := 76#32
  let v1678 : BitVec 32 := Scalar.addi v1677 c76_i32
  let v1679 : Index := Scalar.indexCast v1678
  ![v1679.toNat]
def k0_off154 (v1680 : BitVec 32) : Fin 3 → Nat :=
  let v1681 : Index := Scalar.indexCast v1680
  let c0_381 : Index := 0#32
  let c0_382 : Index := 0#32
  ![v1681.toNat, 0, 0]

def k0_chk77 (v1680 : BitVec 32) : Prop :=
  (∀ a, (k0_off154 v1680) a + S1x32x128.size a ≤ S2048x32x128.size a)
theorem k0_off154_inb : ∀ (v1680 : BitVec 32) (k0_hw77 : k0_chk77 v1680), ∀ a, (k0_off154 v1680) a + S1x32x128.size a ≤ S2048x32x128.size a := fun v1680 k0_hw77 => k0_hw77

def k0_off155 (i : grid0.Coords) : Fin 1 → Nat :=
  let arg0 : BitVec 32 := BitVec.ofNat 32 (i 0).val
  let c128_i32_385 : BitVec 32 := 128#32
  let v1699 : BitVec 32 := Scalar.muli arg0 c128_i32_385
  let c77_i32 : BitVec 32 := 77#32
  let v1700 : BitVec 32 := Scalar.addi v1699 c77_i32
  let v1701 : Index := Scalar.indexCast v1700
  ![v1701.toNat]
def k0_off156 (v1702 : BitVec 32) : Fin 3 → Nat :=
  let v1703 : Index := Scalar.indexCast v1702
  let c0_386 : Index := 0#32
  let c0_387 : Index := 0#32
  ![v1703.toNat, 0, 0]

def k0_chk78 (v1702 : BitVec 32) : Prop :=
  (∀ a, (k0_off156 v1702) a + S1x32x128.size a ≤ S2048x32x128.size a)
theorem k0_off156_inb : ∀ (v1702 : BitVec 32) (k0_hw78 : k0_chk78 v1702), ∀ a, (k0_off156 v1702) a + S1x32x128.size a ≤ S2048x32x128.size a := fun v1702 k0_hw78 => k0_hw78

def k0_off157 (i : grid0.Coords) : Fin 1 → Nat :=
  let arg0 : BitVec 32 := BitVec.ofNat 32 (i 0).val
  let c128_i32_390 : BitVec 32 := 128#32
  let v1721 : BitVec 32 := Scalar.muli arg0 c128_i32_390
  let c78_i32 : BitVec 32 := 78#32
  let v1722 : BitVec 32 := Scalar.addi v1721 c78_i32
  let v1723 : Index := Scalar.indexCast v1722
  ![v1723.toNat]
def k0_off158 (v1724 : BitVec 32) : Fin 3 → Nat :=
  let v1725 : Index := Scalar.indexCast v1724
  let c0_391 : Index := 0#32
  let c0_392 : Index := 0#32
  ![v1725.toNat, 0, 0]

def k0_chk79 (v1724 : BitVec 32) : Prop :=
  (∀ a, (k0_off158 v1724) a + S1x32x128.size a ≤ S2048x32x128.size a)
theorem k0_off158_inb : ∀ (v1724 : BitVec 32) (k0_hw79 : k0_chk79 v1724), ∀ a, (k0_off158 v1724) a + S1x32x128.size a ≤ S2048x32x128.size a := fun v1724 k0_hw79 => k0_hw79

def k0_off159 (i : grid0.Coords) : Fin 1 → Nat :=
  let arg0 : BitVec 32 := BitVec.ofNat 32 (i 0).val
  let c128_i32_395 : BitVec 32 := 128#32
  let v1743 : BitVec 32 := Scalar.muli arg0 c128_i32_395
  let c79_i32 : BitVec 32 := 79#32
  let v1744 : BitVec 32 := Scalar.addi v1743 c79_i32
  let v1745 : Index := Scalar.indexCast v1744
  ![v1745.toNat]
def k0_off160 (v1746 : BitVec 32) : Fin 3 → Nat :=
  let v1747 : Index := Scalar.indexCast v1746
  let c0_396 : Index := 0#32
  let c0_397 : Index := 0#32
  ![v1747.toNat, 0, 0]

def k0_chk80 (v1746 : BitVec 32) : Prop :=
  (∀ a, (k0_off160 v1746) a + S1x32x128.size a ≤ S2048x32x128.size a)
theorem k0_off160_inb : ∀ (v1746 : BitVec 32) (k0_hw80 : k0_chk80 v1746), ∀ a, (k0_off160 v1746) a + S1x32x128.size a ≤ S2048x32x128.size a := fun v1746 k0_hw80 => k0_hw80

def k0_off161 (i : grid0.Coords) : Fin 1 → Nat :=
  let arg0 : BitVec 32 := BitVec.ofNat 32 (i 0).val
  let c128_i32_400 : BitVec 32 := 128#32
  let v1765 : BitVec 32 := Scalar.muli arg0 c128_i32_400
  let c80_i32_401 : BitVec 32 := 80#32
  let v1766 : BitVec 32 := Scalar.addi v1765 c80_i32_401
  let v1767 : Index := Scalar.indexCast v1766
  ![v1767.toNat]
def k0_off162 (v1768 : BitVec 32) : Fin 3 → Nat :=
  let v1769 : Index := Scalar.indexCast v1768
  let c0_402 : Index := 0#32
  let c0_403 : Index := 0#32
  ![v1769.toNat, 0, 0]

def k0_chk81 (v1768 : BitVec 32) : Prop :=
  (∀ a, (k0_off162 v1768) a + S1x32x128.size a ≤ S2048x32x128.size a)
theorem k0_off162_inb : ∀ (v1768 : BitVec 32) (k0_hw81 : k0_chk81 v1768), ∀ a, (k0_off162 v1768) a + S1x32x128.size a ≤ S2048x32x128.size a := fun v1768 k0_hw81 => k0_hw81

def k0_off163 (i : grid0.Coords) : Fin 1 → Nat :=
  let arg0 : BitVec 32 := BitVec.ofNat 32 (i 0).val
  let c128_i32_406 : BitVec 32 := 128#32
  let v1787 : BitVec 32 := Scalar.muli arg0 c128_i32_406
  let c81_i32 : BitVec 32 := 81#32
  let v1788 : BitVec 32 := Scalar.addi v1787 c81_i32
  let v1789 : Index := Scalar.indexCast v1788
  ![v1789.toNat]
def k0_off164 (v1790 : BitVec 32) : Fin 3 → Nat :=
  let v1791 : Index := Scalar.indexCast v1790
  let c0_407 : Index := 0#32
  let c0_408 : Index := 0#32
  ![v1791.toNat, 0, 0]

def k0_chk82 (v1790 : BitVec 32) : Prop :=
  (∀ a, (k0_off164 v1790) a + S1x32x128.size a ≤ S2048x32x128.size a)
theorem k0_off164_inb : ∀ (v1790 : BitVec 32) (k0_hw82 : k0_chk82 v1790), ∀ a, (k0_off164 v1790) a + S1x32x128.size a ≤ S2048x32x128.size a := fun v1790 k0_hw82 => k0_hw82

def k0_off165 (i : grid0.Coords) : Fin 1 → Nat :=
  let arg0 : BitVec 32 := BitVec.ofNat 32 (i 0).val
  let c128_i32_411 : BitVec 32 := 128#32
  let v1809 : BitVec 32 := Scalar.muli arg0 c128_i32_411
  let c82_i32 : BitVec 32 := 82#32
  let v1810 : BitVec 32 := Scalar.addi v1809 c82_i32
  let v1811 : Index := Scalar.indexCast v1810
  ![v1811.toNat]
def k0_off166 (v1812 : BitVec 32) : Fin 3 → Nat :=
  let v1813 : Index := Scalar.indexCast v1812
  let c0_412 : Index := 0#32
  let c0_413 : Index := 0#32
  ![v1813.toNat, 0, 0]

def k0_chk83 (v1812 : BitVec 32) : Prop :=
  (∀ a, (k0_off166 v1812) a + S1x32x128.size a ≤ S2048x32x128.size a)
theorem k0_off166_inb : ∀ (v1812 : BitVec 32) (k0_hw83 : k0_chk83 v1812), ∀ a, (k0_off166 v1812) a + S1x32x128.size a ≤ S2048x32x128.size a := fun v1812 k0_hw83 => k0_hw83

def k0_off167 (i : grid0.Coords) : Fin 1 → Nat :=
  let arg0 : BitVec 32 := BitVec.ofNat 32 (i 0).val
  let c128_i32_416 : BitVec 32 := 128#32
  let v1831 : BitVec 32 := Scalar.muli arg0 c128_i32_416
  let c83_i32 : BitVec 32 := 83#32
  let v1832 : BitVec 32 := Scalar.addi v1831 c83_i32
  let v1833 : Index := Scalar.indexCast v1832
  ![v1833.toNat]
def k0_off168 (v1834 : BitVec 32) : Fin 3 → Nat :=
  let v1835 : Index := Scalar.indexCast v1834
  let c0_417 : Index := 0#32
  let c0_418 : Index := 0#32
  ![v1835.toNat, 0, 0]

def k0_chk84 (v1834 : BitVec 32) : Prop :=
  (∀ a, (k0_off168 v1834) a + S1x32x128.size a ≤ S2048x32x128.size a)
theorem k0_off168_inb : ∀ (v1834 : BitVec 32) (k0_hw84 : k0_chk84 v1834), ∀ a, (k0_off168 v1834) a + S1x32x128.size a ≤ S2048x32x128.size a := fun v1834 k0_hw84 => k0_hw84

def k0_off169 (i : grid0.Coords) : Fin 1 → Nat :=
  let arg0 : BitVec 32 := BitVec.ofNat 32 (i 0).val
  let c128_i32_421 : BitVec 32 := 128#32
  let v1853 : BitVec 32 := Scalar.muli arg0 c128_i32_421
  let c84_i32 : BitVec 32 := 84#32
  let v1854 : BitVec 32 := Scalar.addi v1853 c84_i32
  let v1855 : Index := Scalar.indexCast v1854
  ![v1855.toNat]
def k0_off170 (v1856 : BitVec 32) : Fin 3 → Nat :=
  let v1857 : Index := Scalar.indexCast v1856
  let c0_422 : Index := 0#32
  let c0_423 : Index := 0#32
  ![v1857.toNat, 0, 0]

def k0_chk85 (v1856 : BitVec 32) : Prop :=
  (∀ a, (k0_off170 v1856) a + S1x32x128.size a ≤ S2048x32x128.size a)
theorem k0_off170_inb : ∀ (v1856 : BitVec 32) (k0_hw85 : k0_chk85 v1856), ∀ a, (k0_off170 v1856) a + S1x32x128.size a ≤ S2048x32x128.size a := fun v1856 k0_hw85 => k0_hw85

def k0_off171 (i : grid0.Coords) : Fin 1 → Nat :=
  let arg0 : BitVec 32 := BitVec.ofNat 32 (i 0).val
  let c128_i32_426 : BitVec 32 := 128#32
  let v1875 : BitVec 32 := Scalar.muli arg0 c128_i32_426
  let c85_i32 : BitVec 32 := 85#32
  let v1876 : BitVec 32 := Scalar.addi v1875 c85_i32
  let v1877 : Index := Scalar.indexCast v1876
  ![v1877.toNat]
def k0_off172 (v1878 : BitVec 32) : Fin 3 → Nat :=
  let v1879 : Index := Scalar.indexCast v1878
  let c0_427 : Index := 0#32
  let c0_428 : Index := 0#32
  ![v1879.toNat, 0, 0]

def k0_chk86 (v1878 : BitVec 32) : Prop :=
  (∀ a, (k0_off172 v1878) a + S1x32x128.size a ≤ S2048x32x128.size a)
theorem k0_off172_inb : ∀ (v1878 : BitVec 32) (k0_hw86 : k0_chk86 v1878), ∀ a, (k0_off172 v1878) a + S1x32x128.size a ≤ S2048x32x128.size a := fun v1878 k0_hw86 => k0_hw86

def k0_off173 (i : grid0.Coords) : Fin 1 → Nat :=
  let arg0 : BitVec 32 := BitVec.ofNat 32 (i 0).val
  let c128_i32_431 : BitVec 32 := 128#32
  let v1897 : BitVec 32 := Scalar.muli arg0 c128_i32_431
  let c86_i32 : BitVec 32 := 86#32
  let v1898 : BitVec 32 := Scalar.addi v1897 c86_i32
  let v1899 : Index := Scalar.indexCast v1898
  ![v1899.toNat]
def k0_off174 (v1900 : BitVec 32) : Fin 3 → Nat :=
  let v1901 : Index := Scalar.indexCast v1900
  let c0_432 : Index := 0#32
  let c0_433 : Index := 0#32
  ![v1901.toNat, 0, 0]

def k0_chk87 (v1900 : BitVec 32) : Prop :=
  (∀ a, (k0_off174 v1900) a + S1x32x128.size a ≤ S2048x32x128.size a)
theorem k0_off174_inb : ∀ (v1900 : BitVec 32) (k0_hw87 : k0_chk87 v1900), ∀ a, (k0_off174 v1900) a + S1x32x128.size a ≤ S2048x32x128.size a := fun v1900 k0_hw87 => k0_hw87

def k0_off175 (i : grid0.Coords) : Fin 1 → Nat :=
  let arg0 : BitVec 32 := BitVec.ofNat 32 (i 0).val
  let c128_i32_436 : BitVec 32 := 128#32
  let v1919 : BitVec 32 := Scalar.muli arg0 c128_i32_436
  let c87_i32 : BitVec 32 := 87#32
  let v1920 : BitVec 32 := Scalar.addi v1919 c87_i32
  let v1921 : Index := Scalar.indexCast v1920
  ![v1921.toNat]
def k0_off176 (v1922 : BitVec 32) : Fin 3 → Nat :=
  let v1923 : Index := Scalar.indexCast v1922
  let c0_437 : Index := 0#32
  let c0_438 : Index := 0#32
  ![v1923.toNat, 0, 0]

def k0_chk88 (v1922 : BitVec 32) : Prop :=
  (∀ a, (k0_off176 v1922) a + S1x32x128.size a ≤ S2048x32x128.size a)
theorem k0_off176_inb : ∀ (v1922 : BitVec 32) (k0_hw88 : k0_chk88 v1922), ∀ a, (k0_off176 v1922) a + S1x32x128.size a ≤ S2048x32x128.size a := fun v1922 k0_hw88 => k0_hw88

def k0_off177 (i : grid0.Coords) : Fin 1 → Nat :=
  let arg0 : BitVec 32 := BitVec.ofNat 32 (i 0).val
  let c128_i32_441 : BitVec 32 := 128#32
  let v1941 : BitVec 32 := Scalar.muli arg0 c128_i32_441
  let c88_i32 : BitVec 32 := 88#32
  let v1942 : BitVec 32 := Scalar.addi v1941 c88_i32
  let v1943 : Index := Scalar.indexCast v1942
  ![v1943.toNat]
def k0_off178 (v1944 : BitVec 32) : Fin 3 → Nat :=
  let v1945 : Index := Scalar.indexCast v1944
  let c0_442 : Index := 0#32
  let c0_443 : Index := 0#32
  ![v1945.toNat, 0, 0]

def k0_chk89 (v1944 : BitVec 32) : Prop :=
  (∀ a, (k0_off178 v1944) a + S1x32x128.size a ≤ S2048x32x128.size a)
theorem k0_off178_inb : ∀ (v1944 : BitVec 32) (k0_hw89 : k0_chk89 v1944), ∀ a, (k0_off178 v1944) a + S1x32x128.size a ≤ S2048x32x128.size a := fun v1944 k0_hw89 => k0_hw89

def k0_off179 (i : grid0.Coords) : Fin 1 → Nat :=
  let arg0 : BitVec 32 := BitVec.ofNat 32 (i 0).val
  let c128_i32_446 : BitVec 32 := 128#32
  let v1963 : BitVec 32 := Scalar.muli arg0 c128_i32_446
  let c89_i32 : BitVec 32 := 89#32
  let v1964 : BitVec 32 := Scalar.addi v1963 c89_i32
  let v1965 : Index := Scalar.indexCast v1964
  ![v1965.toNat]
def k0_off180 (v1966 : BitVec 32) : Fin 3 → Nat :=
  let v1967 : Index := Scalar.indexCast v1966
  let c0_447 : Index := 0#32
  let c0_448 : Index := 0#32
  ![v1967.toNat, 0, 0]

def k0_chk90 (v1966 : BitVec 32) : Prop :=
  (∀ a, (k0_off180 v1966) a + S1x32x128.size a ≤ S2048x32x128.size a)
theorem k0_off180_inb : ∀ (v1966 : BitVec 32) (k0_hw90 : k0_chk90 v1966), ∀ a, (k0_off180 v1966) a + S1x32x128.size a ≤ S2048x32x128.size a := fun v1966 k0_hw90 => k0_hw90

def k0_off181 (i : grid0.Coords) : Fin 1 → Nat :=
  let arg0 : BitVec 32 := BitVec.ofNat 32 (i 0).val
  let c128_i32_451 : BitVec 32 := 128#32
  let v1985 : BitVec 32 := Scalar.muli arg0 c128_i32_451
  let c90_i32 : BitVec 32 := 90#32
  let v1986 : BitVec 32 := Scalar.addi v1985 c90_i32
  let v1987 : Index := Scalar.indexCast v1986
  ![v1987.toNat]
def k0_off182 (v1988 : BitVec 32) : Fin 3 → Nat :=
  let v1989 : Index := Scalar.indexCast v1988
  let c0_452 : Index := 0#32
  let c0_453 : Index := 0#32
  ![v1989.toNat, 0, 0]

def k0_chk91 (v1988 : BitVec 32) : Prop :=
  (∀ a, (k0_off182 v1988) a + S1x32x128.size a ≤ S2048x32x128.size a)
theorem k0_off182_inb : ∀ (v1988 : BitVec 32) (k0_hw91 : k0_chk91 v1988), ∀ a, (k0_off182 v1988) a + S1x32x128.size a ≤ S2048x32x128.size a := fun v1988 k0_hw91 => k0_hw91

def k0_off183 (i : grid0.Coords) : Fin 1 → Nat :=
  let arg0 : BitVec 32 := BitVec.ofNat 32 (i 0).val
  let c128_i32_456 : BitVec 32 := 128#32
  let v2007 : BitVec 32 := Scalar.muli arg0 c128_i32_456
  let c91_i32 : BitVec 32 := 91#32
  let v2008 : BitVec 32 := Scalar.addi v2007 c91_i32
  let v2009 : Index := Scalar.indexCast v2008
  ![v2009.toNat]
def k0_off184 (v2010 : BitVec 32) : Fin 3 → Nat :=
  let v2011 : Index := Scalar.indexCast v2010
  let c0_457 : Index := 0#32
  let c0_458 : Index := 0#32
  ![v2011.toNat, 0, 0]

def k0_chk92 (v2010 : BitVec 32) : Prop :=
  (∀ a, (k0_off184 v2010) a + S1x32x128.size a ≤ S2048x32x128.size a)
theorem k0_off184_inb : ∀ (v2010 : BitVec 32) (k0_hw92 : k0_chk92 v2010), ∀ a, (k0_off184 v2010) a + S1x32x128.size a ≤ S2048x32x128.size a := fun v2010 k0_hw92 => k0_hw92

def k0_off185 (i : grid0.Coords) : Fin 1 → Nat :=
  let arg0 : BitVec 32 := BitVec.ofNat 32 (i 0).val
  let c128_i32_461 : BitVec 32 := 128#32
  let v2029 : BitVec 32 := Scalar.muli arg0 c128_i32_461
  let c92_i32 : BitVec 32 := 92#32
  let v2030 : BitVec 32 := Scalar.addi v2029 c92_i32
  let v2031 : Index := Scalar.indexCast v2030
  ![v2031.toNat]
def k0_off186 (v2032 : BitVec 32) : Fin 3 → Nat :=
  let v2033 : Index := Scalar.indexCast v2032
  let c0_462 : Index := 0#32
  let c0_463 : Index := 0#32
  ![v2033.toNat, 0, 0]

def k0_chk93 (v2032 : BitVec 32) : Prop :=
  (∀ a, (k0_off186 v2032) a + S1x32x128.size a ≤ S2048x32x128.size a)
theorem k0_off186_inb : ∀ (v2032 : BitVec 32) (k0_hw93 : k0_chk93 v2032), ∀ a, (k0_off186 v2032) a + S1x32x128.size a ≤ S2048x32x128.size a := fun v2032 k0_hw93 => k0_hw93

def k0_off187 (i : grid0.Coords) : Fin 1 → Nat :=
  let arg0 : BitVec 32 := BitVec.ofNat 32 (i 0).val
  let c128_i32_466 : BitVec 32 := 128#32
  let v2051 : BitVec 32 := Scalar.muli arg0 c128_i32_466
  let c93_i32 : BitVec 32 := 93#32
  let v2052 : BitVec 32 := Scalar.addi v2051 c93_i32
  let v2053 : Index := Scalar.indexCast v2052
  ![v2053.toNat]
def k0_off188 (v2054 : BitVec 32) : Fin 3 → Nat :=
  let v2055 : Index := Scalar.indexCast v2054
  let c0_467 : Index := 0#32
  let c0_468 : Index := 0#32
  ![v2055.toNat, 0, 0]

def k0_chk94 (v2054 : BitVec 32) : Prop :=
  (∀ a, (k0_off188 v2054) a + S1x32x128.size a ≤ S2048x32x128.size a)
theorem k0_off188_inb : ∀ (v2054 : BitVec 32) (k0_hw94 : k0_chk94 v2054), ∀ a, (k0_off188 v2054) a + S1x32x128.size a ≤ S2048x32x128.size a := fun v2054 k0_hw94 => k0_hw94

def k0_off189 (i : grid0.Coords) : Fin 1 → Nat :=
  let arg0 : BitVec 32 := BitVec.ofNat 32 (i 0).val
  let c128_i32_471 : BitVec 32 := 128#32
  let v2073 : BitVec 32 := Scalar.muli arg0 c128_i32_471
  let c94_i32 : BitVec 32 := 94#32
  let v2074 : BitVec 32 := Scalar.addi v2073 c94_i32
  let v2075 : Index := Scalar.indexCast v2074
  ![v2075.toNat]
def k0_off190 (v2076 : BitVec 32) : Fin 3 → Nat :=
  let v2077 : Index := Scalar.indexCast v2076
  let c0_472 : Index := 0#32
  let c0_473 : Index := 0#32
  ![v2077.toNat, 0, 0]

def k0_chk95 (v2076 : BitVec 32) : Prop :=
  (∀ a, (k0_off190 v2076) a + S1x32x128.size a ≤ S2048x32x128.size a)
theorem k0_off190_inb : ∀ (v2076 : BitVec 32) (k0_hw95 : k0_chk95 v2076), ∀ a, (k0_off190 v2076) a + S1x32x128.size a ≤ S2048x32x128.size a := fun v2076 k0_hw95 => k0_hw95

def k0_off191 (i : grid0.Coords) : Fin 1 → Nat :=
  let arg0 : BitVec 32 := BitVec.ofNat 32 (i 0).val
  let c128_i32_476 : BitVec 32 := 128#32
  let v2095 : BitVec 32 := Scalar.muli arg0 c128_i32_476
  let c95_i32 : BitVec 32 := 95#32
  let v2096 : BitVec 32 := Scalar.addi v2095 c95_i32
  let v2097 : Index := Scalar.indexCast v2096
  ![v2097.toNat]
def k0_off192 (v2098 : BitVec 32) : Fin 3 → Nat :=
  let v2099 : Index := Scalar.indexCast v2098
  let c0_477 : Index := 0#32
  let c0_478 : Index := 0#32
  ![v2099.toNat, 0, 0]

def k0_chk96 (v2098 : BitVec 32) : Prop :=
  (∀ a, (k0_off192 v2098) a + S1x32x128.size a ≤ S2048x32x128.size a)
theorem k0_off192_inb : ∀ (v2098 : BitVec 32) (k0_hw96 : k0_chk96 v2098), ∀ a, (k0_off192 v2098) a + S1x32x128.size a ≤ S2048x32x128.size a := fun v2098 k0_hw96 => k0_hw96

def k0_off193 (i : grid0.Coords) : Fin 1 → Nat :=
  let arg0 : BitVec 32 := BitVec.ofNat 32 (i 0).val
  let c128_i32_481 : BitVec 32 := 128#32
  let v2117 : BitVec 32 := Scalar.muli arg0 c128_i32_481
  let c96_i32 : BitVec 32 := 96#32
  let v2118 : BitVec 32 := Scalar.addi v2117 c96_i32
  let v2119 : Index := Scalar.indexCast v2118
  ![v2119.toNat]
def k0_off194 (v2120 : BitVec 32) : Fin 3 → Nat :=
  let v2121 : Index := Scalar.indexCast v2120
  let c0_482 : Index := 0#32
  let c0_483 : Index := 0#32
  ![v2121.toNat, 0, 0]

def k0_chk97 (v2120 : BitVec 32) : Prop :=
  (∀ a, (k0_off194 v2120) a + S1x32x128.size a ≤ S2048x32x128.size a)
theorem k0_off194_inb : ∀ (v2120 : BitVec 32) (k0_hw97 : k0_chk97 v2120), ∀ a, (k0_off194 v2120) a + S1x32x128.size a ≤ S2048x32x128.size a := fun v2120 k0_hw97 => k0_hw97

def k0_off195 (i : grid0.Coords) : Fin 1 → Nat :=
  let arg0 : BitVec 32 := BitVec.ofNat 32 (i 0).val
  let c128_i32_486 : BitVec 32 := 128#32
  let v2139 : BitVec 32 := Scalar.muli arg0 c128_i32_486
  let c97_i32 : BitVec 32 := 97#32
  let v2140 : BitVec 32 := Scalar.addi v2139 c97_i32
  let v2141 : Index := Scalar.indexCast v2140
  ![v2141.toNat]
def k0_off196 (v2142 : BitVec 32) : Fin 3 → Nat :=
  let v2143 : Index := Scalar.indexCast v2142
  let c0_487 : Index := 0#32
  let c0_488 : Index := 0#32
  ![v2143.toNat, 0, 0]

def k0_chk98 (v2142 : BitVec 32) : Prop :=
  (∀ a, (k0_off196 v2142) a + S1x32x128.size a ≤ S2048x32x128.size a)
theorem k0_off196_inb : ∀ (v2142 : BitVec 32) (k0_hw98 : k0_chk98 v2142), ∀ a, (k0_off196 v2142) a + S1x32x128.size a ≤ S2048x32x128.size a := fun v2142 k0_hw98 => k0_hw98

def k0_off197 (i : grid0.Coords) : Fin 1 → Nat :=
  let arg0 : BitVec 32 := BitVec.ofNat 32 (i 0).val
  let c128_i32_491 : BitVec 32 := 128#32
  let v2161 : BitVec 32 := Scalar.muli arg0 c128_i32_491
  let c98_i32 : BitVec 32 := 98#32
  let v2162 : BitVec 32 := Scalar.addi v2161 c98_i32
  let v2163 : Index := Scalar.indexCast v2162
  ![v2163.toNat]
def k0_off198 (v2164 : BitVec 32) : Fin 3 → Nat :=
  let v2165 : Index := Scalar.indexCast v2164
  let c0_492 : Index := 0#32
  let c0_493 : Index := 0#32
  ![v2165.toNat, 0, 0]

def k0_chk99 (v2164 : BitVec 32) : Prop :=
  (∀ a, (k0_off198 v2164) a + S1x32x128.size a ≤ S2048x32x128.size a)
theorem k0_off198_inb : ∀ (v2164 : BitVec 32) (k0_hw99 : k0_chk99 v2164), ∀ a, (k0_off198 v2164) a + S1x32x128.size a ≤ S2048x32x128.size a := fun v2164 k0_hw99 => k0_hw99

def k0_off199 (i : grid0.Coords) : Fin 1 → Nat :=
  let arg0 : BitVec 32 := BitVec.ofNat 32 (i 0).val
  let c128_i32_496 : BitVec 32 := 128#32
  let v2183 : BitVec 32 := Scalar.muli arg0 c128_i32_496
  let c99_i32 : BitVec 32 := 99#32
  let v2184 : BitVec 32 := Scalar.addi v2183 c99_i32
  let v2185 : Index := Scalar.indexCast v2184
  ![v2185.toNat]
def k0_off200 (v2186 : BitVec 32) : Fin 3 → Nat :=
  let v2187 : Index := Scalar.indexCast v2186
  let c0_497 : Index := 0#32
  let c0_498 : Index := 0#32
  ![v2187.toNat, 0, 0]

def k0_chk100 (v2186 : BitVec 32) : Prop :=
  (∀ a, (k0_off200 v2186) a + S1x32x128.size a ≤ S2048x32x128.size a)
theorem k0_off200_inb : ∀ (v2186 : BitVec 32) (k0_hw100 : k0_chk100 v2186), ∀ a, (k0_off200 v2186) a + S1x32x128.size a ≤ S2048x32x128.size a := fun v2186 k0_hw100 => k0_hw100

def k0_off201 (i : grid0.Coords) : Fin 1 → Nat :=
  let arg0 : BitVec 32 := BitVec.ofNat 32 (i 0).val
  let c128_i32_501 : BitVec 32 := 128#32
  let v2205 : BitVec 32 := Scalar.muli arg0 c128_i32_501
  let c100_i32 : BitVec 32 := 100#32
  let v2206 : BitVec 32 := Scalar.addi v2205 c100_i32
  let v2207 : Index := Scalar.indexCast v2206
  ![v2207.toNat]
def k0_off202 (v2208 : BitVec 32) : Fin 3 → Nat :=
  let v2209 : Index := Scalar.indexCast v2208
  let c0_502 : Index := 0#32
  let c0_503 : Index := 0#32
  ![v2209.toNat, 0, 0]

def k0_chk101 (v2208 : BitVec 32) : Prop :=
  (∀ a, (k0_off202 v2208) a + S1x32x128.size a ≤ S2048x32x128.size a)
theorem k0_off202_inb : ∀ (v2208 : BitVec 32) (k0_hw101 : k0_chk101 v2208), ∀ a, (k0_off202 v2208) a + S1x32x128.size a ≤ S2048x32x128.size a := fun v2208 k0_hw101 => k0_hw101

def k0_off203 (i : grid0.Coords) : Fin 1 → Nat :=
  let arg0 : BitVec 32 := BitVec.ofNat 32 (i 0).val
  let c128_i32_506 : BitVec 32 := 128#32
  let v2227 : BitVec 32 := Scalar.muli arg0 c128_i32_506
  let c101_i32 : BitVec 32 := 101#32
  let v2228 : BitVec 32 := Scalar.addi v2227 c101_i32
  let v2229 : Index := Scalar.indexCast v2228
  ![v2229.toNat]
def k0_off204 (v2230 : BitVec 32) : Fin 3 → Nat :=
  let v2231 : Index := Scalar.indexCast v2230
  let c0_507 : Index := 0#32
  let c0_508 : Index := 0#32
  ![v2231.toNat, 0, 0]

def k0_chk102 (v2230 : BitVec 32) : Prop :=
  (∀ a, (k0_off204 v2230) a + S1x32x128.size a ≤ S2048x32x128.size a)
theorem k0_off204_inb : ∀ (v2230 : BitVec 32) (k0_hw102 : k0_chk102 v2230), ∀ a, (k0_off204 v2230) a + S1x32x128.size a ≤ S2048x32x128.size a := fun v2230 k0_hw102 => k0_hw102

def k0_off205 (i : grid0.Coords) : Fin 1 → Nat :=
  let arg0 : BitVec 32 := BitVec.ofNat 32 (i 0).val
  let c128_i32_511 : BitVec 32 := 128#32
  let v2249 : BitVec 32 := Scalar.muli arg0 c128_i32_511
  let c102_i32 : BitVec 32 := 102#32
  let v2250 : BitVec 32 := Scalar.addi v2249 c102_i32
  let v2251 : Index := Scalar.indexCast v2250
  ![v2251.toNat]
def k0_off206 (v2252 : BitVec 32) : Fin 3 → Nat :=
  let v2253 : Index := Scalar.indexCast v2252
  let c0_512 : Index := 0#32
  let c0_513 : Index := 0#32
  ![v2253.toNat, 0, 0]

def k0_chk103 (v2252 : BitVec 32) : Prop :=
  (∀ a, (k0_off206 v2252) a + S1x32x128.size a ≤ S2048x32x128.size a)
theorem k0_off206_inb : ∀ (v2252 : BitVec 32) (k0_hw103 : k0_chk103 v2252), ∀ a, (k0_off206 v2252) a + S1x32x128.size a ≤ S2048x32x128.size a := fun v2252 k0_hw103 => k0_hw103

def k0_off207 (i : grid0.Coords) : Fin 1 → Nat :=
  let arg0 : BitVec 32 := BitVec.ofNat 32 (i 0).val
  let c128_i32_516 : BitVec 32 := 128#32
  let v2271 : BitVec 32 := Scalar.muli arg0 c128_i32_516
  let c103_i32 : BitVec 32 := 103#32
  let v2272 : BitVec 32 := Scalar.addi v2271 c103_i32
  let v2273 : Index := Scalar.indexCast v2272
  ![v2273.toNat]
def k0_off208 (v2274 : BitVec 32) : Fin 3 → Nat :=
  let v2275 : Index := Scalar.indexCast v2274
  let c0_517 : Index := 0#32
  let c0_518 : Index := 0#32
  ![v2275.toNat, 0, 0]

def k0_chk104 (v2274 : BitVec 32) : Prop :=
  (∀ a, (k0_off208 v2274) a + S1x32x128.size a ≤ S2048x32x128.size a)
theorem k0_off208_inb : ∀ (v2274 : BitVec 32) (k0_hw104 : k0_chk104 v2274), ∀ a, (k0_off208 v2274) a + S1x32x128.size a ≤ S2048x32x128.size a := fun v2274 k0_hw104 => k0_hw104

def k0_off209 (i : grid0.Coords) : Fin 1 → Nat :=
  let arg0 : BitVec 32 := BitVec.ofNat 32 (i 0).val
  let c128_i32_521 : BitVec 32 := 128#32
  let v2293 : BitVec 32 := Scalar.muli arg0 c128_i32_521
  let c104_i32 : BitVec 32 := 104#32
  let v2294 : BitVec 32 := Scalar.addi v2293 c104_i32
  let v2295 : Index := Scalar.indexCast v2294
  ![v2295.toNat]
def k0_off210 (v2296 : BitVec 32) : Fin 3 → Nat :=
  let v2297 : Index := Scalar.indexCast v2296
  let c0_522 : Index := 0#32
  let c0_523 : Index := 0#32
  ![v2297.toNat, 0, 0]

def k0_chk105 (v2296 : BitVec 32) : Prop :=
  (∀ a, (k0_off210 v2296) a + S1x32x128.size a ≤ S2048x32x128.size a)
theorem k0_off210_inb : ∀ (v2296 : BitVec 32) (k0_hw105 : k0_chk105 v2296), ∀ a, (k0_off210 v2296) a + S1x32x128.size a ≤ S2048x32x128.size a := fun v2296 k0_hw105 => k0_hw105

def k0_off211 (i : grid0.Coords) : Fin 1 → Nat :=
  let arg0 : BitVec 32 := BitVec.ofNat 32 (i 0).val
  let c128_i32_526 : BitVec 32 := 128#32
  let v2315 : BitVec 32 := Scalar.muli arg0 c128_i32_526
  let c105_i32 : BitVec 32 := 105#32
  let v2316 : BitVec 32 := Scalar.addi v2315 c105_i32
  let v2317 : Index := Scalar.indexCast v2316
  ![v2317.toNat]
def k0_off212 (v2318 : BitVec 32) : Fin 3 → Nat :=
  let v2319 : Index := Scalar.indexCast v2318
  let c0_527 : Index := 0#32
  let c0_528 : Index := 0#32
  ![v2319.toNat, 0, 0]

def k0_chk106 (v2318 : BitVec 32) : Prop :=
  (∀ a, (k0_off212 v2318) a + S1x32x128.size a ≤ S2048x32x128.size a)
theorem k0_off212_inb : ∀ (v2318 : BitVec 32) (k0_hw106 : k0_chk106 v2318), ∀ a, (k0_off212 v2318) a + S1x32x128.size a ≤ S2048x32x128.size a := fun v2318 k0_hw106 => k0_hw106

def k0_off213 (i : grid0.Coords) : Fin 1 → Nat :=
  let arg0 : BitVec 32 := BitVec.ofNat 32 (i 0).val
  let c128_i32_531 : BitVec 32 := 128#32
  let v2337 : BitVec 32 := Scalar.muli arg0 c128_i32_531
  let c106_i32 : BitVec 32 := 106#32
  let v2338 : BitVec 32 := Scalar.addi v2337 c106_i32
  let v2339 : Index := Scalar.indexCast v2338
  ![v2339.toNat]
def k0_off214 (v2340 : BitVec 32) : Fin 3 → Nat :=
  let v2341 : Index := Scalar.indexCast v2340
  let c0_532 : Index := 0#32
  let c0_533 : Index := 0#32
  ![v2341.toNat, 0, 0]

def k0_chk107 (v2340 : BitVec 32) : Prop :=
  (∀ a, (k0_off214 v2340) a + S1x32x128.size a ≤ S2048x32x128.size a)
theorem k0_off214_inb : ∀ (v2340 : BitVec 32) (k0_hw107 : k0_chk107 v2340), ∀ a, (k0_off214 v2340) a + S1x32x128.size a ≤ S2048x32x128.size a := fun v2340 k0_hw107 => k0_hw107

def k0_off215 (i : grid0.Coords) : Fin 1 → Nat :=
  let arg0 : BitVec 32 := BitVec.ofNat 32 (i 0).val
  let c128_i32_536 : BitVec 32 := 128#32
  let v2359 : BitVec 32 := Scalar.muli arg0 c128_i32_536
  let c107_i32 : BitVec 32 := 107#32
  let v2360 : BitVec 32 := Scalar.addi v2359 c107_i32
  let v2361 : Index := Scalar.indexCast v2360
  ![v2361.toNat]
def k0_off216 (v2362 : BitVec 32) : Fin 3 → Nat :=
  let v2363 : Index := Scalar.indexCast v2362
  let c0_537 : Index := 0#32
  let c0_538 : Index := 0#32
  ![v2363.toNat, 0, 0]

def k0_chk108 (v2362 : BitVec 32) : Prop :=
  (∀ a, (k0_off216 v2362) a + S1x32x128.size a ≤ S2048x32x128.size a)
theorem k0_off216_inb : ∀ (v2362 : BitVec 32) (k0_hw108 : k0_chk108 v2362), ∀ a, (k0_off216 v2362) a + S1x32x128.size a ≤ S2048x32x128.size a := fun v2362 k0_hw108 => k0_hw108

def k0_off217 (i : grid0.Coords) : Fin 1 → Nat :=
  let arg0 : BitVec 32 := BitVec.ofNat 32 (i 0).val
  let c128_i32_541 : BitVec 32 := 128#32
  let v2381 : BitVec 32 := Scalar.muli arg0 c128_i32_541
  let c108_i32 : BitVec 32 := 108#32
  let v2382 : BitVec 32 := Scalar.addi v2381 c108_i32
  let v2383 : Index := Scalar.indexCast v2382
  ![v2383.toNat]
def k0_off218 (v2384 : BitVec 32) : Fin 3 → Nat :=
  let v2385 : Index := Scalar.indexCast v2384
  let c0_542 : Index := 0#32
  let c0_543 : Index := 0#32
  ![v2385.toNat, 0, 0]

def k0_chk109 (v2384 : BitVec 32) : Prop :=
  (∀ a, (k0_off218 v2384) a + S1x32x128.size a ≤ S2048x32x128.size a)
theorem k0_off218_inb : ∀ (v2384 : BitVec 32) (k0_hw109 : k0_chk109 v2384), ∀ a, (k0_off218 v2384) a + S1x32x128.size a ≤ S2048x32x128.size a := fun v2384 k0_hw109 => k0_hw109

def k0_off219 (i : grid0.Coords) : Fin 1 → Nat :=
  let arg0 : BitVec 32 := BitVec.ofNat 32 (i 0).val
  let c128_i32_546 : BitVec 32 := 128#32
  let v2403 : BitVec 32 := Scalar.muli arg0 c128_i32_546
  let c109_i32 : BitVec 32 := 109#32
  let v2404 : BitVec 32 := Scalar.addi v2403 c109_i32
  let v2405 : Index := Scalar.indexCast v2404
  ![v2405.toNat]
def k0_off220 (v2406 : BitVec 32) : Fin 3 → Nat :=
  let v2407 : Index := Scalar.indexCast v2406
  let c0_547 : Index := 0#32
  let c0_548 : Index := 0#32
  ![v2407.toNat, 0, 0]

def k0_chk110 (v2406 : BitVec 32) : Prop :=
  (∀ a, (k0_off220 v2406) a + S1x32x128.size a ≤ S2048x32x128.size a)
theorem k0_off220_inb : ∀ (v2406 : BitVec 32) (k0_hw110 : k0_chk110 v2406), ∀ a, (k0_off220 v2406) a + S1x32x128.size a ≤ S2048x32x128.size a := fun v2406 k0_hw110 => k0_hw110

def k0_off221 (i : grid0.Coords) : Fin 1 → Nat :=
  let arg0 : BitVec 32 := BitVec.ofNat 32 (i 0).val
  let c128_i32_551 : BitVec 32 := 128#32
  let v2425 : BitVec 32 := Scalar.muli arg0 c128_i32_551
  let c110_i32 : BitVec 32 := 110#32
  let v2426 : BitVec 32 := Scalar.addi v2425 c110_i32
  let v2427 : Index := Scalar.indexCast v2426
  ![v2427.toNat]
def k0_off222 (v2428 : BitVec 32) : Fin 3 → Nat :=
  let v2429 : Index := Scalar.indexCast v2428
  let c0_552 : Index := 0#32
  let c0_553 : Index := 0#32
  ![v2429.toNat, 0, 0]

def k0_chk111 (v2428 : BitVec 32) : Prop :=
  (∀ a, (k0_off222 v2428) a + S1x32x128.size a ≤ S2048x32x128.size a)
theorem k0_off222_inb : ∀ (v2428 : BitVec 32) (k0_hw111 : k0_chk111 v2428), ∀ a, (k0_off222 v2428) a + S1x32x128.size a ≤ S2048x32x128.size a := fun v2428 k0_hw111 => k0_hw111

def k0_off223 (i : grid0.Coords) : Fin 1 → Nat :=
  let arg0 : BitVec 32 := BitVec.ofNat 32 (i 0).val
  let c128_i32_556 : BitVec 32 := 128#32
  let v2447 : BitVec 32 := Scalar.muli arg0 c128_i32_556
  let c111_i32 : BitVec 32 := 111#32
  let v2448 : BitVec 32 := Scalar.addi v2447 c111_i32
  let v2449 : Index := Scalar.indexCast v2448
  ![v2449.toNat]
def k0_off224 (v2450 : BitVec 32) : Fin 3 → Nat :=
  let v2451 : Index := Scalar.indexCast v2450
  let c0_557 : Index := 0#32
  let c0_558 : Index := 0#32
  ![v2451.toNat, 0, 0]

def k0_chk112 (v2450 : BitVec 32) : Prop :=
  (∀ a, (k0_off224 v2450) a + S1x32x128.size a ≤ S2048x32x128.size a)
theorem k0_off224_inb : ∀ (v2450 : BitVec 32) (k0_hw112 : k0_chk112 v2450), ∀ a, (k0_off224 v2450) a + S1x32x128.size a ≤ S2048x32x128.size a := fun v2450 k0_hw112 => k0_hw112

def k0_off225 (i : grid0.Coords) : Fin 1 → Nat :=
  let arg0 : BitVec 32 := BitVec.ofNat 32 (i 0).val
  let c128_i32_561 : BitVec 32 := 128#32
  let v2469 : BitVec 32 := Scalar.muli arg0 c128_i32_561
  let c112_i32 : BitVec 32 := 112#32
  let v2470 : BitVec 32 := Scalar.addi v2469 c112_i32
  let v2471 : Index := Scalar.indexCast v2470
  ![v2471.toNat]
def k0_off226 (v2472 : BitVec 32) : Fin 3 → Nat :=
  let v2473 : Index := Scalar.indexCast v2472
  let c0_562 : Index := 0#32
  let c0_563 : Index := 0#32
  ![v2473.toNat, 0, 0]

def k0_chk113 (v2472 : BitVec 32) : Prop :=
  (∀ a, (k0_off226 v2472) a + S1x32x128.size a ≤ S2048x32x128.size a)
theorem k0_off226_inb : ∀ (v2472 : BitVec 32) (k0_hw113 : k0_chk113 v2472), ∀ a, (k0_off226 v2472) a + S1x32x128.size a ≤ S2048x32x128.size a := fun v2472 k0_hw113 => k0_hw113

def k0_off227 (i : grid0.Coords) : Fin 1 → Nat :=
  let arg0 : BitVec 32 := BitVec.ofNat 32 (i 0).val
  let c128_i32_566 : BitVec 32 := 128#32
  let v2491 : BitVec 32 := Scalar.muli arg0 c128_i32_566
  let c113_i32 : BitVec 32 := 113#32
  let v2492 : BitVec 32 := Scalar.addi v2491 c113_i32
  let v2493 : Index := Scalar.indexCast v2492
  ![v2493.toNat]
def k0_off228 (v2494 : BitVec 32) : Fin 3 → Nat :=
  let v2495 : Index := Scalar.indexCast v2494
  let c0_567 : Index := 0#32
  let c0_568 : Index := 0#32
  ![v2495.toNat, 0, 0]

def k0_chk114 (v2494 : BitVec 32) : Prop :=
  (∀ a, (k0_off228 v2494) a + S1x32x128.size a ≤ S2048x32x128.size a)
theorem k0_off228_inb : ∀ (v2494 : BitVec 32) (k0_hw114 : k0_chk114 v2494), ∀ a, (k0_off228 v2494) a + S1x32x128.size a ≤ S2048x32x128.size a := fun v2494 k0_hw114 => k0_hw114

def k0_off229 (i : grid0.Coords) : Fin 1 → Nat :=
  let arg0 : BitVec 32 := BitVec.ofNat 32 (i 0).val
  let c128_i32_571 : BitVec 32 := 128#32
  let v2513 : BitVec 32 := Scalar.muli arg0 c128_i32_571
  let c114_i32 : BitVec 32 := 114#32
  let v2514 : BitVec 32 := Scalar.addi v2513 c114_i32
  let v2515 : Index := Scalar.indexCast v2514
  ![v2515.toNat]
def k0_off230 (v2516 : BitVec 32) : Fin 3 → Nat :=
  let v2517 : Index := Scalar.indexCast v2516
  let c0_572 : Index := 0#32
  let c0_573 : Index := 0#32
  ![v2517.toNat, 0, 0]

def k0_chk115 (v2516 : BitVec 32) : Prop :=
  (∀ a, (k0_off230 v2516) a + S1x32x128.size a ≤ S2048x32x128.size a)
theorem k0_off230_inb : ∀ (v2516 : BitVec 32) (k0_hw115 : k0_chk115 v2516), ∀ a, (k0_off230 v2516) a + S1x32x128.size a ≤ S2048x32x128.size a := fun v2516 k0_hw115 => k0_hw115

def k0_off231 (i : grid0.Coords) : Fin 1 → Nat :=
  let arg0 : BitVec 32 := BitVec.ofNat 32 (i 0).val
  let c128_i32_576 : BitVec 32 := 128#32
  let v2535 : BitVec 32 := Scalar.muli arg0 c128_i32_576
  let c115_i32 : BitVec 32 := 115#32
  let v2536 : BitVec 32 := Scalar.addi v2535 c115_i32
  let v2537 : Index := Scalar.indexCast v2536
  ![v2537.toNat]
def k0_off232 (v2538 : BitVec 32) : Fin 3 → Nat :=
  let v2539 : Index := Scalar.indexCast v2538
  let c0_577 : Index := 0#32
  let c0_578 : Index := 0#32
  ![v2539.toNat, 0, 0]

def k0_chk116 (v2538 : BitVec 32) : Prop :=
  (∀ a, (k0_off232 v2538) a + S1x32x128.size a ≤ S2048x32x128.size a)
theorem k0_off232_inb : ∀ (v2538 : BitVec 32) (k0_hw116 : k0_chk116 v2538), ∀ a, (k0_off232 v2538) a + S1x32x128.size a ≤ S2048x32x128.size a := fun v2538 k0_hw116 => k0_hw116

def k0_off233 (i : grid0.Coords) : Fin 1 → Nat :=
  let arg0 : BitVec 32 := BitVec.ofNat 32 (i 0).val
  let c128_i32_581 : BitVec 32 := 128#32
  let v2557 : BitVec 32 := Scalar.muli arg0 c128_i32_581
  let c116_i32 : BitVec 32 := 116#32
  let v2558 : BitVec 32 := Scalar.addi v2557 c116_i32
  let v2559 : Index := Scalar.indexCast v2558
  ![v2559.toNat]
def k0_off234 (v2560 : BitVec 32) : Fin 3 → Nat :=
  let v2561 : Index := Scalar.indexCast v2560
  let c0_582 : Index := 0#32
  let c0_583 : Index := 0#32
  ![v2561.toNat, 0, 0]

def k0_chk117 (v2560 : BitVec 32) : Prop :=
  (∀ a, (k0_off234 v2560) a + S1x32x128.size a ≤ S2048x32x128.size a)
theorem k0_off234_inb : ∀ (v2560 : BitVec 32) (k0_hw117 : k0_chk117 v2560), ∀ a, (k0_off234 v2560) a + S1x32x128.size a ≤ S2048x32x128.size a := fun v2560 k0_hw117 => k0_hw117

def k0_off235 (i : grid0.Coords) : Fin 1 → Nat :=
  let arg0 : BitVec 32 := BitVec.ofNat 32 (i 0).val
  let c128_i32_586 : BitVec 32 := 128#32
  let v2579 : BitVec 32 := Scalar.muli arg0 c128_i32_586
  let c117_i32 : BitVec 32 := 117#32
  let v2580 : BitVec 32 := Scalar.addi v2579 c117_i32
  let v2581 : Index := Scalar.indexCast v2580
  ![v2581.toNat]
def k0_off236 (v2582 : BitVec 32) : Fin 3 → Nat :=
  let v2583 : Index := Scalar.indexCast v2582
  let c0_587 : Index := 0#32
  let c0_588 : Index := 0#32
  ![v2583.toNat, 0, 0]

def k0_chk118 (v2582 : BitVec 32) : Prop :=
  (∀ a, (k0_off236 v2582) a + S1x32x128.size a ≤ S2048x32x128.size a)
theorem k0_off236_inb : ∀ (v2582 : BitVec 32) (k0_hw118 : k0_chk118 v2582), ∀ a, (k0_off236 v2582) a + S1x32x128.size a ≤ S2048x32x128.size a := fun v2582 k0_hw118 => k0_hw118

def k0_off237 (i : grid0.Coords) : Fin 1 → Nat :=
  let arg0 : BitVec 32 := BitVec.ofNat 32 (i 0).val
  let c128_i32_591 : BitVec 32 := 128#32
  let v2601 : BitVec 32 := Scalar.muli arg0 c128_i32_591
  let c118_i32 : BitVec 32 := 118#32
  let v2602 : BitVec 32 := Scalar.addi v2601 c118_i32
  let v2603 : Index := Scalar.indexCast v2602
  ![v2603.toNat]
def k0_off238 (v2604 : BitVec 32) : Fin 3 → Nat :=
  let v2605 : Index := Scalar.indexCast v2604
  let c0_592 : Index := 0#32
  let c0_593 : Index := 0#32
  ![v2605.toNat, 0, 0]

def k0_chk119 (v2604 : BitVec 32) : Prop :=
  (∀ a, (k0_off238 v2604) a + S1x32x128.size a ≤ S2048x32x128.size a)
theorem k0_off238_inb : ∀ (v2604 : BitVec 32) (k0_hw119 : k0_chk119 v2604), ∀ a, (k0_off238 v2604) a + S1x32x128.size a ≤ S2048x32x128.size a := fun v2604 k0_hw119 => k0_hw119

def k0_off239 (i : grid0.Coords) : Fin 1 → Nat :=
  let arg0 : BitVec 32 := BitVec.ofNat 32 (i 0).val
  let c128_i32_596 : BitVec 32 := 128#32
  let v2623 : BitVec 32 := Scalar.muli arg0 c128_i32_596
  let c119_i32 : BitVec 32 := 119#32
  let v2624 : BitVec 32 := Scalar.addi v2623 c119_i32
  let v2625 : Index := Scalar.indexCast v2624
  ![v2625.toNat]
def k0_off240 (v2626 : BitVec 32) : Fin 3 → Nat :=
  let v2627 : Index := Scalar.indexCast v2626
  let c0_597 : Index := 0#32
  let c0_598 : Index := 0#32
  ![v2627.toNat, 0, 0]

def k0_chk120 (v2626 : BitVec 32) : Prop :=
  (∀ a, (k0_off240 v2626) a + S1x32x128.size a ≤ S2048x32x128.size a)
theorem k0_off240_inb : ∀ (v2626 : BitVec 32) (k0_hw120 : k0_chk120 v2626), ∀ a, (k0_off240 v2626) a + S1x32x128.size a ≤ S2048x32x128.size a := fun v2626 k0_hw120 => k0_hw120

def k0_off241 (i : grid0.Coords) : Fin 1 → Nat :=
  let arg0 : BitVec 32 := BitVec.ofNat 32 (i 0).val
  let c128_i32_601 : BitVec 32 := 128#32
  let v2645 : BitVec 32 := Scalar.muli arg0 c128_i32_601
  let c120_i32 : BitVec 32 := 120#32
  let v2646 : BitVec 32 := Scalar.addi v2645 c120_i32
  let v2647 : Index := Scalar.indexCast v2646
  ![v2647.toNat]
def k0_off242 (v2648 : BitVec 32) : Fin 3 → Nat :=
  let v2649 : Index := Scalar.indexCast v2648
  let c0_602 : Index := 0#32
  let c0_603 : Index := 0#32
  ![v2649.toNat, 0, 0]

def k0_chk121 (v2648 : BitVec 32) : Prop :=
  (∀ a, (k0_off242 v2648) a + S1x32x128.size a ≤ S2048x32x128.size a)
theorem k0_off242_inb : ∀ (v2648 : BitVec 32) (k0_hw121 : k0_chk121 v2648), ∀ a, (k0_off242 v2648) a + S1x32x128.size a ≤ S2048x32x128.size a := fun v2648 k0_hw121 => k0_hw121

def k0_off243 (i : grid0.Coords) : Fin 1 → Nat :=
  let arg0 : BitVec 32 := BitVec.ofNat 32 (i 0).val
  let c128_i32_606 : BitVec 32 := 128#32
  let v2667 : BitVec 32 := Scalar.muli arg0 c128_i32_606
  let c121_i32 : BitVec 32 := 121#32
  let v2668 : BitVec 32 := Scalar.addi v2667 c121_i32
  let v2669 : Index := Scalar.indexCast v2668
  ![v2669.toNat]
def k0_off244 (v2670 : BitVec 32) : Fin 3 → Nat :=
  let v2671 : Index := Scalar.indexCast v2670
  let c0_607 : Index := 0#32
  let c0_608 : Index := 0#32
  ![v2671.toNat, 0, 0]

def k0_chk122 (v2670 : BitVec 32) : Prop :=
  (∀ a, (k0_off244 v2670) a + S1x32x128.size a ≤ S2048x32x128.size a)
theorem k0_off244_inb : ∀ (v2670 : BitVec 32) (k0_hw122 : k0_chk122 v2670), ∀ a, (k0_off244 v2670) a + S1x32x128.size a ≤ S2048x32x128.size a := fun v2670 k0_hw122 => k0_hw122

def k0_off245 (i : grid0.Coords) : Fin 1 → Nat :=
  let arg0 : BitVec 32 := BitVec.ofNat 32 (i 0).val
  let c128_i32_611 : BitVec 32 := 128#32
  let v2689 : BitVec 32 := Scalar.muli arg0 c128_i32_611
  let c122_i32 : BitVec 32 := 122#32
  let v2690 : BitVec 32 := Scalar.addi v2689 c122_i32
  let v2691 : Index := Scalar.indexCast v2690
  ![v2691.toNat]
def k0_off246 (v2692 : BitVec 32) : Fin 3 → Nat :=
  let v2693 : Index := Scalar.indexCast v2692
  let c0_612 : Index := 0#32
  let c0_613 : Index := 0#32
  ![v2693.toNat, 0, 0]

def k0_chk123 (v2692 : BitVec 32) : Prop :=
  (∀ a, (k0_off246 v2692) a + S1x32x128.size a ≤ S2048x32x128.size a)
theorem k0_off246_inb : ∀ (v2692 : BitVec 32) (k0_hw123 : k0_chk123 v2692), ∀ a, (k0_off246 v2692) a + S1x32x128.size a ≤ S2048x32x128.size a := fun v2692 k0_hw123 => k0_hw123

def k0_off247 (i : grid0.Coords) : Fin 1 → Nat :=
  let arg0 : BitVec 32 := BitVec.ofNat 32 (i 0).val
  let c128_i32_616 : BitVec 32 := 128#32
  let v2711 : BitVec 32 := Scalar.muli arg0 c128_i32_616
  let c123_i32 : BitVec 32 := 123#32
  let v2712 : BitVec 32 := Scalar.addi v2711 c123_i32
  let v2713 : Index := Scalar.indexCast v2712
  ![v2713.toNat]
def k0_off248 (v2714 : BitVec 32) : Fin 3 → Nat :=
  let v2715 : Index := Scalar.indexCast v2714
  let c0_617 : Index := 0#32
  let c0_618 : Index := 0#32
  ![v2715.toNat, 0, 0]

def k0_chk124 (v2714 : BitVec 32) : Prop :=
  (∀ a, (k0_off248 v2714) a + S1x32x128.size a ≤ S2048x32x128.size a)
theorem k0_off248_inb : ∀ (v2714 : BitVec 32) (k0_hw124 : k0_chk124 v2714), ∀ a, (k0_off248 v2714) a + S1x32x128.size a ≤ S2048x32x128.size a := fun v2714 k0_hw124 => k0_hw124

def k0_off249 (i : grid0.Coords) : Fin 1 → Nat :=
  let arg0 : BitVec 32 := BitVec.ofNat 32 (i 0).val
  let c128_i32_621 : BitVec 32 := 128#32
  let v2733 : BitVec 32 := Scalar.muli arg0 c128_i32_621
  let c124_i32 : BitVec 32 := 124#32
  let v2734 : BitVec 32 := Scalar.addi v2733 c124_i32
  let v2735 : Index := Scalar.indexCast v2734
  ![v2735.toNat]
def k0_off250 (v2736 : BitVec 32) : Fin 3 → Nat :=
  let v2737 : Index := Scalar.indexCast v2736
  let c0_622 : Index := 0#32
  let c0_623 : Index := 0#32
  ![v2737.toNat, 0, 0]

def k0_chk125 (v2736 : BitVec 32) : Prop :=
  (∀ a, (k0_off250 v2736) a + S1x32x128.size a ≤ S2048x32x128.size a)
theorem k0_off250_inb : ∀ (v2736 : BitVec 32) (k0_hw125 : k0_chk125 v2736), ∀ a, (k0_off250 v2736) a + S1x32x128.size a ≤ S2048x32x128.size a := fun v2736 k0_hw125 => k0_hw125

def k0_off251 (i : grid0.Coords) : Fin 1 → Nat :=
  let arg0 : BitVec 32 := BitVec.ofNat 32 (i 0).val
  let c128_i32_626 : BitVec 32 := 128#32
  let v2755 : BitVec 32 := Scalar.muli arg0 c128_i32_626
  let c125_i32 : BitVec 32 := 125#32
  let v2756 : BitVec 32 := Scalar.addi v2755 c125_i32
  let v2757 : Index := Scalar.indexCast v2756
  ![v2757.toNat]
def k0_off252 (v2758 : BitVec 32) : Fin 3 → Nat :=
  let v2759 : Index := Scalar.indexCast v2758
  let c0_627 : Index := 0#32
  let c0_628 : Index := 0#32
  ![v2759.toNat, 0, 0]

def k0_chk126 (v2758 : BitVec 32) : Prop :=
  (∀ a, (k0_off252 v2758) a + S1x32x128.size a ≤ S2048x32x128.size a)
theorem k0_off252_inb : ∀ (v2758 : BitVec 32) (k0_hw126 : k0_chk126 v2758), ∀ a, (k0_off252 v2758) a + S1x32x128.size a ≤ S2048x32x128.size a := fun v2758 k0_hw126 => k0_hw126

def k0_off253 (i : grid0.Coords) : Fin 1 → Nat :=
  let arg0 : BitVec 32 := BitVec.ofNat 32 (i 0).val
  let c128_i32_631 : BitVec 32 := 128#32
  let v2777 : BitVec 32 := Scalar.muli arg0 c128_i32_631
  let c126_i32 : BitVec 32 := 126#32
  let v2778 : BitVec 32 := Scalar.addi v2777 c126_i32
  let v2779 : Index := Scalar.indexCast v2778
  ![v2779.toNat]
def k0_off254 (v2780 : BitVec 32) : Fin 3 → Nat :=
  let v2781 : Index := Scalar.indexCast v2780
  let c0_632 : Index := 0#32
  let c0_633 : Index := 0#32
  ![v2781.toNat, 0, 0]

def k0_chk127 (v2780 : BitVec 32) : Prop :=
  (∀ a, (k0_off254 v2780) a + S1x32x128.size a ≤ S2048x32x128.size a)
theorem k0_off254_inb : ∀ (v2780 : BitVec 32) (k0_hw127 : k0_chk127 v2780), ∀ a, (k0_off254 v2780) a + S1x32x128.size a ≤ S2048x32x128.size a := fun v2780 k0_hw127 => k0_hw127

def k0_off255 (i : grid0.Coords) : Fin 1 → Nat :=
  let arg0 : BitVec 32 := BitVec.ofNat 32 (i 0).val
  let c128_i32_636 : BitVec 32 := 128#32
  let v2799 : BitVec 32 := Scalar.muli arg0 c128_i32_636
  let c127_i32 : BitVec 32 := 127#32
  let v2800 : BitVec 32 := Scalar.addi v2799 c127_i32
  let v2801 : Index := Scalar.indexCast v2800
  ![v2801.toNat]
def k0_off256 (v2802 : BitVec 32) : Fin 3 → Nat :=
  let v2803 : Index := Scalar.indexCast v2802
  let c0_637 : Index := 0#32
  let c0_638 : Index := 0#32
  ![v2803.toNat, 0, 0]

def k0_chk128 (v2802 : BitVec 32) : Prop :=
  (∀ a, (k0_off256 v2802) a + S1x32x128.size a ≤ S2048x32x128.size a)
theorem k0_off256_inb : ∀ (v2802 : BitVec 32) (k0_hw128 : k0_chk128 v2802), ∀ a, (k0_off256 v2802) a + S1x32x128.size a ≤ S2048x32x128.size a := fun v2802 k0_hw128 => k0_hw128

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SelectionReferenceIdeal.lean ====
abbrev S1024x20 : Shape := ⟨2, ![1024, 20]⟩
abbrev S1024x20x32 : Shape := ⟨3, ![1024, 20, 32]⟩
abbrev S2048x32x128 : Shape := ⟨3, ![2048, 32, 128]⟩
abbrev S20480 : Shape := ⟨1, ![20480]⟩
abbrev S_ : Shape := ⟨0, ![]⟩
abbrev S20480x1 : Shape := ⟨2, ![20480, 1]⟩
abbrev S1 : Shape := ⟨1, ![1]⟩
abbrev S1x1 : Shape := ⟨2, ![1, 1]⟩
abbrev S20480x32x128 : Shape := ⟨3, ![20480, 32, 128]⟩
abbrev S20480x32 : Shape := ⟨2, ![20480, 32]⟩
abbrev S20480x128 : Shape := ⟨2, ![20480, 128]⟩

abbrev nBuf : Space → Nat
  | .hbm => 31
  | .vmem => 0
  | .smem => 0
  | _ => 0

abbrev bufTy : (tb : Table) → Fin (tcTables nBuf tb) → BufTy
  | .hbm, ⟨0, _⟩ => ⟨S1024x20, .i32⟩
  | .hbm, ⟨1, _⟩ => ⟨S1024x20x32, .f32⟩
  | .hbm, ⟨2, _⟩ => ⟨S2048x32x128, .f32⟩
  | .hbm, ⟨3, _⟩ => ⟨S20480, .i32⟩
  | .hbm, ⟨4, _⟩ => ⟨S_, .i32⟩
  | .hbm, ⟨5, _⟩ => ⟨S20480, .i32⟩
  | .hbm, ⟨6, _⟩ => ⟨S20480, .i1⟩
  | .hbm, ⟨7, _⟩ => ⟨S_, .i32⟩
  | .hbm, ⟨8, _⟩ => ⟨S20480, .i32⟩
  | .hbm, ⟨9, _⟩ => ⟨S20480, .i32⟩
  | .hbm, ⟨10, _⟩ => ⟨S20480, .i32⟩
  | .hbm, ⟨11, _⟩ => ⟨S20480x1, .i32⟩
  | .hbm, ⟨12, _⟩ => ⟨S1, .i32⟩
  | .hbm, ⟨13, _⟩ => ⟨S_, .i32⟩
  | .hbm, ⟨14, _⟩ => ⟨S20480x1, .i32⟩
  | .hbm, ⟨15, _⟩ => ⟨S20480x1, .i1⟩
  | .hbm, ⟨16, _⟩ => ⟨S1x1, .i32⟩
  | .hbm, ⟨17, _⟩ => ⟨S20480x1, .i32⟩
  | .hbm, ⟨18, _⟩ => ⟨S20480x1, .i1⟩
  | .hbm, ⟨19, _⟩ => ⟨S20480x1, .i1⟩
  | .hbm, ⟨20, _⟩ => ⟨S_, .i1⟩
  | .hbm, ⟨21, _⟩ => ⟨S20480, .i1⟩
  | .hbm, ⟨22, _⟩ => ⟨S20480x32x128, .f32⟩
  | .hbm, ⟨23, _⟩ => ⟨S20480x32x128, .i1⟩
  | .hbm, ⟨24, _⟩ => ⟨S_, .f32⟩
  | .hbm, ⟨25, _⟩ => ⟨S20480x32x128, .f32⟩
  | .hbm, ⟨26, _⟩ => ⟨S20480x32x128, .f32⟩
  | .hbm, ⟨27, _⟩ => ⟨S20480x32, .f32⟩
  | .hbm, ⟨28, _⟩ => ⟨S20480x128, .f32⟩
  | .hbm, ⟨29, _⟩ => ⟨S20480x32, .f32⟩
  | .hbm, ⟨30, _⟩ => ⟨S20480x32, .i32⟩
  | _, _ => ⟨S1024x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_values : Ref sig .tc := ⟨.hbm, 29, rfl⟩
abbrev main_indices : Ref sig .tc := ⟨.hbm, 30, rfl⟩

abbrev nD : Nat := 1
abbrev τ : Topo := Topo.v7x

variable {F : FTy → Type} [FloatOps F]
-- ==== Proof.Pipe.lean ====
/-
  The double-buffered row gather that both SparseCore calls run on a tile, stated once over the memory references it
  uses (`Pipe`): the list of row numbers is fetched block by block into two slots, each block's rows are gathered from
  the table into one of two row buffers, and each row buffer is copied out a trip later. The state before a trip, and
  one step lemma per operation of a trip. Generic in the float values.
-/
module

public import Idealize.ShloMosaic.Lib.SparseCore.Quiescent
public import Idealize.ShloMosaic.Lib.SparseCore.Ops
public import Idealize.ShloMosaic.Lib.SparseCore.Stream
public import Idealize.ShloMosaic.Lib.Pipeline.Kit
public import Idealize.ShloMosaic.Lib.Tactic
public import proofs.«01_k».proof.Proof.Gen.KernelIdeal

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The ghost state: the handshakes' rounds and the transfers' counters. -/
abbrev UH : Type := URounds (GSem nD τ sig) ℕ
abbrev UU : Type := UH × Counters

local notation "𝕄" => MT nD τ sig (HIx 2) (Elt F) ℕ UU ℕ

/-- What one tile's task uses: the list of row numbers (`M` of them in all, in blocks of 128), the table of `R` rows, the
    output, two slots for list blocks, two row buffers, their semaphores, and the tile's run of `N` blocks from `base`. -/
structure Pipe (M R : ℕ) where
  N : ℕ
  base : ℕ
  hN : 0 < N
  hb : 128 * (base + N) ≤ M
  ids : Memref sig .scVector .hbm ⟨2, ![1, M]⟩ .i32
  tbl : Memref sig .scVector .hbm ⟨2, ![R, 128]⟩ .f32
  out : Memref sig .scVector .hbm ⟨2, ![M, 128]⟩ .f32
  slots : Memref sig .scVector .vmem S2x1x128 .i32
  bufs : Memref sig .scVector .vmem S2x128x128 .f32
  sin : DmaSems sig S2
  sout : DmaSems sig S2
  sg : DmaSem sig

namespace Pipe

variable {M R : ℕ} (P : Pipe M R)

theorem lt2 (k : ℕ) : k % 2 < 2 := Nat.mod_lt _ (by decide)
theorem slot_inb (k : ℕ) : ∀ a, (![k % 2, 0, 0] : Fin 3 → ℕ) a + S1x1x128.size a ≤ S2x1x128.size a := by
  have := lt2 k; intro a; fin_cases a <;> simp <;> omega
theorem buf_inb (k : ℕ) : ∀ a, (![k % 2, 0, 0] : Fin 3 → ℕ) a + S1x128x128.size a ≤ S2x128x128.size a := by
  have := lt2 k; intro a; fin_cases a <;> simp <;> omega
theorem sem_inb (k : ℕ) : ∀ a, (![k % 2] : Fin 1 → ℕ) a + S1.size a ≤ S2.size a := by
  have := lt2 k; intro a; fin_cases a; simp; omega
theorem one_inb : ∀ a, (![0, 0] : Fin 2 → ℕ) a + S1x128.size a ≤ S1x128.size a := by
  intro a; fin_cases a <;> simp
theorem ids_inb (k : ℕ) : ∀ a, (![0, 128 * (P.base + k % P.N)] : Fin 2 → ℕ) a + S1x128.size a ≤ (⟨2, ![1, M]⟩ : Shape).size a := by
  have := Nat.mod_lt k P.hN; have := P.hb; intro a; fin_cases a <;> simp; omega
theorem out_inb (k : ℕ) : ∀ a, (![128 * (P.base + k % P.N), 0] : Fin 2 → ℕ) a + S128x128.size a ≤ (⟨2, ![M, 128]⟩ : Shape).size a := by
  have := Nat.mod_lt k P.hN; have := P.hb; intro a; fin_cases a <;> simp; omega

/-- Slot `k % 2`, as a block of the list and as a plain list of 128 words. -/
def isl (k : ℕ) : Memref sig .scVector .vmem S1x128 .i32 :=
  (P.slots.slice (Rect.unit (s := S2x1x128) ![k % 2, 0, 0] S1x1x128.size (slot_inb k)) (fun _ => rfl)).squeeze S1x128 squeezes_S1x1x128_S1x128
def lst (k : ℕ) : Memref sig .scVector .vmem S128 .i32 :=
  ((P.isl k).slice (Rect.unit (s := S1x128) ![0, 0] S1x128.size one_inb) (fun _ => rfl)).squeeze S128 squeezes_S1x128_S128
/-- Block `k` of the tile's part of the list; of its part of the output. -/
def ibl (k : ℕ) : Memref sig .scVector .hbm S1x128 .i32 :=
  P.ids.slice (Rect.unit (s := ⟨2, ![1, M]⟩) ![0, 128 * (P.base + k % P.N)] S1x128.size (P.ids_inb k)) (fun _ => rfl)
def obl (k : ℕ) : Memref sig .scVector .hbm S128x128 .f32 :=
  P.out.slice (Rect.unit (s := ⟨2, ![M, 128]⟩) ![128 * (P.base + k % P.N), 0] S128x128.size (P.out_inb k)) (fun _ => rfl)
/-- Row buffer `k % 2`. -/
def osl (k : ℕ) : Memref sig .scVector .vmem S128x128 .f32 :=
  (P.bufs.slice (Rect.unit (s := S2x128x128) ![k % 2, 0, 0] S1x128x128.size (buf_inb k)) (fun _ => rfl)).squeeze S128x128 squeezes_S1x128x128_S128x128
def semI (k : ℕ) : DmaSem sig := ((P.sin.slice (Rect.unit (s := S2) ![k % 2] S1.size (sem_inb k))).squeeze S_ squeezes_S1_S_).sem
def semO (k : ℕ) : DmaSem sig := ((P.sout.slice (Rect.unit (s := S2) ![k % 2] S1.size (sem_inb k))).squeeze S_ squeezes_S1_S_).sem

/-- Offsets that are equal name the same memory. -/
theorem isl_eq {off : Fin 3 → ℕ} (k : ℕ) (e : off = ![k % 2, 0, 0]) (h : ∀ a, off a + S1x1x128.size a ≤ S2x1x128.size a) :
    (P.slots.slice (Rect.unit (s := S2x1x128) off S1x1x128.size h) (fun _ => rfl)).squeeze S1x128 squeezes_S1x1x128_S1x128 = P.isl k := by
  subst e; rfl
theorem lst_eq {off : Fin 3 → ℕ} (k : ℕ) (e : off = ![k % 2, 0, 0]) (h : ∀ a, off a + S1x1x128.size a ≤ S2x1x128.size a)
    (h' : ∀ a, (![0, 0] : Fin 2 → ℕ) a + S1x128.size a ≤ S1x128.size a) :
    (((P.slots.slice (Rect.unit (s := S2x1x128) off S1x1x128.size h) (fun _ => rfl)).squeeze S1x128 squeezes_S1x1x128_S1x128).slice
      (Rect.unit (s := S1x128) ![0, 0] S1x128.size h') (fun _ => rfl)).squeeze S128 squeezes_S1x128_S128 = P.lst k := by
  subst e; rfl
theorem ibl_eq {off : Fin 2 → ℕ} (k : ℕ) (e : off = ![0, 128 * (P.base + k % P.N)])
    (h : ∀ a, off a + S1x128.size a ≤ (⟨2, ![1, M]⟩ : Shape).size a) :
    P.ids.slice (Rect.unit (s := ⟨2, ![1, M]⟩) off S1x128.size h) (fun _ => rfl) = P.ibl k := by
  subst e; rfl
theorem obl_eq {off : Fin 2 → ℕ} (k : ℕ) (e : off = ![128 * (P.base + k % P.N), 0])
    (h : ∀ a, off a + S128x128.size a ≤ (⟨2, ![M, 128]⟩ : Shape).size a) :
    P.out.slice (Rect.unit (s := ⟨2, ![M, 128]⟩) off S128x128.size h) (fun _ => rfl) = P.obl k := by
  subst e; rfl
theorem osl_eq {off : Fin 3 → ℕ} (k : ℕ) (e : off = ![k % 2, 0, 0]) (h : ∀ a, off a + S1x128x128.size a ≤ S2x128x128.size a) :
    (P.bufs.slice (Rect.unit (s := S2x128x128) off S1x128x128.size h) (fun _ => rfl)).squeeze S128x128 squeezes_S1x128x128_S128x128 = P.osl k := by
  subst e; rfl
theorem semI_eq {off : Fin 1 → ℕ} (k : ℕ) (e : off = ![k % 2]) (h : ∀ a, off a + S1.size a ≤ S2.size a) :
    ((P.sin.slice (Rect.unit (s := S2) off S1.size h)).squeeze S_ squeezes_S1_S_).sem = P.semI k := by
  subst e; rfl
theorem semO_eq {off : Fin 1 → ℕ} (k : ℕ) (e : off = ![k % 2]) (h : ∀ a, off a + S1.size a ≤ S2.size a) :
    ((P.sout.slice (Rect.unit (s := S2) off S1.size h)).squeeze S_ squeezes_S1_S_).sem = P.semO k := by
  subst e; rfl

theorem isl_two (k : ℕ) : P.isl (k + 2) = P.isl k :=
  (P.isl_eq (k + 2) (off := ![k % 2, 0, 0]) (by rw [Nat.add_mod_right]) (slot_inb k)).symm
theorem osl_two (k : ℕ) : P.osl (k + 2) = P.osl k :=
  (P.osl_eq (k + 2) (off := ![k % 2, 0, 0]) (by rw [Nat.add_mod_right]) (buf_inb k)).symm
theorem semI_two (k : ℕ) : P.semI (k + 2) = P.semI k :=
  (P.semI_eq (k + 2) (off := ![k % 2]) (by rw [Nat.add_mod_right]) (sem_inb k)).symm
theorem semO_two (k : ℕ) : P.semO (k + 2) = P.semO k :=
  (P.semO_eq (k + 2) (off := ![k % 2]) (by rw [Nat.add_mod_right]) (sem_inb k)).symm

/-- Where word `x` of a block's list lies in the block. -/
def lix (x : S128.Idx) : S1x128.Idx :=
  (Rect.unit (s := S1x128) ![0, 0] S1x128.size one_inb).emb (Shape.reshapeEquiv squeezes_S1x128_S128.numel_eq x)

variable [FloatOps F]

/-- The list read from a slot a block has landed in. -/
theorem lst_read (k : ℕ) (f : (P.isl k).view.ty.Contents (Elt F)) (w : S1x128.Idx → Elt F .i32) (x : S128.Idx) :
    (P.lst k).view.read (Elt F) ((P.isl k).view.write (Elt F) f w Finset.univ) x = w (lix x) := by
  have := congrFun (View.read_write_univ (v := (P.isl k).view) (Val := Elt F) f w) (lix x)
  rw [← this]; rfl

theorem lst_set (k : ℕ) : (P.lst k).view.set = (P.isl k).view.set := by
  show (((P.isl k).view.slice (Rect.unit (s := S1x128) ![0, 0] S1x128.size one_inb)).reshape S128 squeezes_S1x128_S128.numel_eq).set = _
  rw [View.set_reshape, View.set_slice]
  have : (Rect.unit (s := S1x128) ![0, 0] S1x128.size one_inb).set = Finset.univ := by
    rw [← Finset.coe_eq_univ]
    ext x; simp only [Finset.mem_coe, Set.mem_univ, iff_true]
    rw [Rect.mem_set_unit]
    intro a; fin_cases a
    · exact ⟨Nat.zero_le _, (by simpa using (x 0).isLt)⟩
    · exact ⟨Nat.zero_le _, (by simpa using (x 1).isLt)⟩
  rw [this]; rfl

/-! ## The state before a trip -/

section State

variable (d : Dev nD) (cc : Fin τ.nSC) (jj : Fin τ.nSub) (hg : (⟨2, ![R, 128]⟩ : Shape).Gathers 0 S128x128)
variable (q : PosShare TreeShare)

variable (fI : Buf (Elt F) (P.ids.view.loc (V d cc jj))) (fT : Buf (Elt F) (P.tbl.view.loc (V d cc jj))) (fO G : Buf (Elt F) (P.out.view.loc (V d cc jj)))

/-- The words of block `k`'s list. -/
def words (k : ℕ) (x : S128.Idx) : Elt F .i32 := (P.ibl k).view.read (Elt F) fI (lix x)

/-- Every word of the tile's blocks is a row of the table. -/
def InRange : Prop := ∀ k x, (P.words (F := F) d cc jj fI k x).toNat < (⟨2, ![R, 128]⟩ : Shape).size hg.axis

/-- The rows block `k`'s list names. -/
def rowsOf (hin : P.InRange (F := F) d cc jj hg fI) (k : ℕ) : S128x128.Idx → Elt F .f32 :=
  SparseCore.gatherPayload hg (P.tbl.view.read (Elt F) fT) (SparseCore.rows (o := S128x128.size hg.axis') (P.words (F := F) d cc jj fI k) rfl (hin k))

def idsPt (k : ℕ) : sProp 𝕄 := ((P.ibl k).view.loc (V d cc jj)) ↦[(P.ibl k).view.set]{fullShare} fI
def outPt (f : Buf (Elt F) (P.out.view.loc (V d cc jj))) (k : ℕ) : sProp 𝕄 := ((P.obl k).view.loc (V d cc jj)) ↦[(P.obl k).view.set]{fullShare} f
def tblPt : sProp 𝕄 := (P.tbl.view.loc (V d cc jj)) ↦[P.tbl.view.set]{q} fT
/-- A list slot, a row buffer at some contents; the slot with block `k`'s list in it, the buffer with its rows. -/
def slotPt (k : ℕ) : sProp 𝕄 := iprop(∃ f, ((P.isl k).view.loc (V d cc jj)) ↦[(P.isl k).view.set]{fullShare} f)
def listPt (k : ℕ) : sProp 𝕄 :=
  iprop(∃ f, ⌜(P.lst k).view.read (Elt F) f = P.words (F := F) d cc jj fI k⌝ ∗ ((P.lst k).view.loc (V d cc jj)) ↦[(P.lst k).view.set]{fullShare} f)
def bufPt (k : ℕ) : sProp 𝕄 := iprop(∃ f, ((P.osl k).view.loc (V d cc jj)) ↦[(P.osl k).view.set]{fullShare} f)
def rowsPt (hin : P.InRange (F := F) d cc jj hg fI) (k : ℕ) : sProp 𝕄 :=
  iprop(∃ f, ⌜(P.osl k).view.read (Elt F) f = P.rowsOf (F := F) d cc jj hg fI fT hin k⌝ ∗ ((P.osl k).view.loc (V d cc jj)) ↦[(P.osl k).view.set]{fullShare} f)

def cellI (k : ℕ) : sProp 𝕄 := semVal ((V d cc jj), SemLoc.dma (P.semI k)) 0
def cellO (k : ℕ) : sProp 𝕄 := semVal ((V d cc jj), SemLoc.dma (P.semO k)) 0
def cellG : sProp 𝕄 := semVal ((V d cc jj), SemLoc.dma P.sg) 0

/-- Block `k`'s list on its way into its slot; block `k`'s rows on their way out. -/
def inFl (k : ℕ) : sProp 𝕄 :=
  Transfers.Flight countersEmb (V d cc jj) (.dma (P.semI k)) default (P.isl k).view.dmaCredit iprop(P.listPt (F := F) d cc jj fI k ∗ P.idsPt (F := F) d cc jj fI k)
def outFl (k : ℕ) : sProp 𝕄 :=
  Transfers.Flight countersEmb (V d cc jj) (.dma (P.semO k)) default (P.obl k).view.dmaCredit iprop(P.outPt (F := F) d cc jj G k ∗ P.bufPt (F := F) d cc jj k)

/-- The stream of block `k`'s rows in flight. -/
def gaFl (hin : P.InRange (F := F) d cc jj hg fI) (k : ℕ) : sProp 𝕄 :=
  Transfers.Flight countersEmb (V d cc jj) (.dma P.sg) default (P.osl k).view.dmaCredit
    iprop(P.rowsPt (F := F) d cc jj hg fI fT hin k ∗ P.tblPt (F := F) d cc jj q fT ∗ P.listPt (F := F) d cc jj fI k)

omit [FloatOps F] in
theorem listPt_slot (k : ℕ) : P.listPt (F := F) d cc jj fI k ⊢ P.slotPt (F := F) d cc jj k := by
  unfold listPt slotPt
  iintro ⟨%f, -, H⟩
  iexists f
  iapply (Entails.of_eq (show (((P.lst k).view.loc (V d cc jj)) ↦[(P.lst k).view.set]{fullShare} f : sProp 𝕄)
    = (((P.isl k).view.loc (V d cc jj)) ↦[(P.isl k).view.set]{fullShare} f) by rw [P.lst_set]; rfl)) $$ H

theorem rows_congr {n o z : ℕ} {si : Shape} {idx idx' : si.Idx → Elt F .i32} (e : idx = idx') (hn : si.numel = o)
    (h : ∀ x, (idx x).toNat < z) (h' : ∀ x, (idx' x).toNat < z) : SparseCore.rows idx hn h = SparseCore.rows idx' hn h' := by
  subst e; rfl

/-! ## One lemma per operation of a trip. The program's own memory references are equal to the canonical ones. -/

variable {Λ : Labels} {defs : Defs nD τ sig (Elt F) Λ} (𝒱 : Variants) (bd : Option 𝒱.V) {α : Type} {Q : α → sProp (MT nD τ sig (HIx 2) (Elt F) ℕ UU ℕ)}
variable {kk : PUnit → Prog (TpuEff nD τ sig (Elt F) Λ (V d cc jj).2) α}

/-- Block `k`'s list is set on its way. -/
theorem fetch (k : ℕ) {src : Memref sig .scVector .hbm S1x128 .i32} {dst : Memref sig .scVector .vmem S1x128 .i32} {sem : DmaSem sig}
    (e₁ : src = P.ibl k) (e₂ : dst = P.isl k) (e₃ : sem = P.semI k) {h₁ : src.view.WordExact} {h₂ : dst.view.WordExact}
    {h₃ : DmaTarget.Typed (nD := nD) (τ := τ) (p := (V d cc jj).2) .hbm (.dma sem) (.here dst)} :
    iprop(P.idsPt (F := F) d cc jj fI k ∗ P.slotPt (F := F) d cc jj k ∗ P.cellI (F := F) d cc jj k)
      ⊢ iprop((P.inFl (F := F) d cc jj fI k -∗ wp frame (wpE defs 𝒱 (V d cc jj) bd) Set.univ (kk ⟨⟩) Q)
        -∗ wp frame (wpE defs 𝒱 (V d cc jj) bd) Set.univ (.op (.enqueueDma src (.here dst) (.dma sem) h₁ h₂ h₃) kk) Q) := by
  subst e₁ e₂ e₃
  unfold idsPt slotPt cellI
  iintro ⟨Hi, ⟨%f, Hs⟩, Hc⟩ Hk
  iapply (Transfers.wp_dmaLocal countersEmb 𝒱 (V d cc jj) bd (default : HIx 2) (P.isl k).view.dmaCredit rfl (View.dmaCredit_pos _ (by decide))
    (Finset.Subset.refl _)) $$ [Hi Hs Hc]
  · isplitl [Hi]; · iexact Hi
    isplitl [Hs]; · iexact Hs
    iexact Hc
  iintro H; iapply Hk; unfold inFl
  iapply (Transfers.Flight_mono _ ?_) $$ H
  unfold listPt idsPt
  iintro ⟨H, Hi⟩
  isplitl [H]
  · iexists _; isplitr
    swap
    · iapply (Entails.of_eq (show (((P.isl k).view.loc (V d cc jj)) ↦[(P.isl k).view.set]{fullShare} _ : sProp 𝕄)
        = (((P.lst k).view.loc (V d cc jj)) ↦[(P.lst k).view.set]{fullShare} _) by rw [P.lst_set]; rfl)) $$ H
    ipureintro
    funext x; exact P.lst_read k _ _ x
  iexact Hi

/-- A wait for block `k`'s list. -/
theorem waitIn (k : ℕ) {srcw : Memref sig .scVector .hbm S1x128 .i32} {dst : Memref sig .scVector .vmem S1x128 .i32} {sem : DmaSem sig}
    (e₂ : dst = P.isl k) (e₃ : sem = P.semI k) {h₁ : srcw.view.WordExact} {h₂ : dst.view.WordExact}
    {O : CellTallies nD τ sig (HIx 2)} {W : Waits sig (HIx 2)} :
    iprop(Transfers.MayWaits (V d cc jj) (default : HIx 2) O ∗ P.inFl (F := F) d cc jj fI k ∗ owes (V d cc jj) O W)
      ⊢ iprop((iprop(P.listPt (F := F) d cc jj fI k ∗ P.idsPt (F := F) d cc jj fI k ∗ P.cellI (F := F) d cc jj k
            ∗ owes (V d cc jj) O (insert (SemLoc.dma (P.semI k), default) W)) -∗ wp frame (wpE defs 𝒱 (V d cc jj) bd) Set.univ (kk ⟨⟩) Q)
        -∗ wp frame (wpE defs 𝒱 (V d cc jj) bd) Set.univ (.op (.waitDma2 sem srcw dst h₁ h₂) kk) Q) := by
  subst e₂ e₃
  iintro ⟨#Hmw, H, HO⟩ Hk
  unfold inFl
  iapply (Transfers.wp_waitLocalO countersEmb 𝒱 (V d cc jj) bd (default : HIx 2) (rfl : (P.isl k).view.dmaCredit = _)) $$ [H HO]
  · isplitl [H]; · iexact H
    isplitl [HO]; · iexact HO
    iapply (Transfers.MayWaits.elim (SemLoc.dma (P.semI k))) $$ Hmw
  iintro ⟨⟨H, Hi⟩, Hc, HO⟩
  iapply Hk
  isplitl [H]; · iexact H
  isplitl [Hi]; · iexact Hi
  isplitl [Hc]; · unfold cellI; iexact Hc
  iexact HO

/-- The rows block `k`'s list names are gathered. -/
theorem gather (k : ℕ) (hin : P.InRange (F := F) d cc jj hg fI)
    {src : Memref sig .scVector .hbm ⟨2, ![R, 128]⟩ .f32} {dst : Memref sig .scVector .vmem S128x128 .f32}
    {offs : Memref sig .scVector .vmem S128 .i32} {sem : DmaSem sig} {hn : S128.numel = S128x128.size hg.axis'}
    (e₁ : src = P.tbl) (e₂ : dst = P.osl k) (e₃ : offs = P.lst k) (e₄ : sem = P.sg)
    {hp : (V d cc jj).2.kind = .scVector} {h₁ : src.view.WordExact} {he : EltTy.f32.bits = 32} {hsp : Space.hbm = .hbm ∨ Space.hbm = .shared}
    {hr : (⟨2, ![R, 128]⟩ : Shape).StreamRows 0} :
    iprop(P.tblPt (F := F) d cc jj q fT ∗ P.bufPt (F := F) d cc jj k ∗ P.listPt (F := F) d cc jj fI k ∗ P.cellG (F := F) d cc jj)
      ⊢ iprop((P.gaFl (F := F) d cc jj hg q fI fT hin k -∗ wp frame (wpE defs 𝒱 (V d cc jj) bd) Set.univ (kk ⟨⟩) Q)
        -∗ wp frame (wpE defs 𝒱 (V d cc jj) bd) Set.univ (SparseCore.enqueueIndirectGather hp src dst hg offs hn sem h₁ he hsp hr >>= kk) Q) := by
  subst e₁ e₂ e₃ e₄
  unfold tblPt bufPt listPt cellG
  iintro ⟨Ht, ⟨%f, Hb⟩, ⟨%fl, %hfl, Hl⟩, Hc⟩ Hk
  have hN : ∀ h : (⟨2, ![R, 128]⟩ : Shape).Gathers 0 S128x128, ∑ j, ((P.osl k).slice (S128x128.rowRect h.axis' j) (S128x128.stride_rowRect h.axis' j)).view.dmaCredit
      = (P.osl k).view.dmaCredit := by
    exact fun h => SparseCore.sum_rowCredit_eq_dmaCredit _ _ fun _ => rfl
  have hin' : ∀ x, ((P.lst k).view.read (Elt F) fl x).toNat < (⟨2, ![R, 128]⟩ : Shape).size hg.axis := by
    intro x; rw [hfl]; exact hin k x
  iapply (SparseCore.wp_indirectGatherLocal countersEmb 𝒱 (V d cc jj) bd (hg := hg) (default : HIx 2)
      (P.osl k).view.dmaCredit (hN _) (by decide) hin') $$ [Ht Hb Hl Hc]
  · isplitl [Ht]; · iexact Ht
    isplitl [Hb]; · iexact Hb
    isplitl [Hl]; · iexact Hl
    iexact Hc
  iintro H; iapply Hk; unfold gaFl
  iapply (Transfers.Flight_mono _ ?_) $$ H
  unfold rowsPt tblPt listPt
  iintro ⟨Hb, Ht, Hl⟩
  isplitl [Hb]
  · iexists _; isplitr
    swap; · iexact Hb
    ipureintro
    rw [View.read_write_univ]
    exact congrArg (SparseCore.gatherPayload hg _) (rows_congr (n := 0) hfl _ _ _)
  isplitl [Ht]; · iexact Ht
  iexists fl; isplitr
  · ipureintro; exact hfl
  iexact Hl

/-- A wait for the gathered rows. -/
theorem waitRows (k : ℕ) (hin : P.InRange (F := F) d cc jj hg fI)
    {srcw : Memref sig .scVector .hbm ⟨2, ![R, 128]⟩ .f32} {dst : Memref sig .scVector .vmem S128x128 .f32} {sem : DmaSem sig}
    (e₂ : dst = P.osl k) (e₃ : sem = P.sg) {h₁ : srcw.view.WordExact} {h₂ : dst.view.WordExact}
    {O : CellTallies nD τ sig (HIx 2)} {W : Waits sig (HIx 2)} :
    iprop(Transfers.MayWaits (V d cc jj) (default : HIx 2) O ∗ P.gaFl (F := F) d cc jj hg q fI fT hin k ∗ owes (V d cc jj) O W)
      ⊢ iprop((iprop(P.rowsPt (F := F) d cc jj hg fI fT hin k ∗ P.tblPt (F := F) d cc jj q fT ∗ P.slotPt (F := F) d cc jj k ∗ P.cellG (F := F) d cc jj
            ∗ owes (V d cc jj) O (insert (SemLoc.dma P.sg, default) W)) -∗ wp frame (wpE defs 𝒱 (V d cc jj) bd) Set.univ (kk ⟨⟩) Q)
        -∗ wp frame (wpE defs 𝒱 (V d cc jj) bd) Set.univ (.op (.waitDma2 sem srcw dst h₁ h₂) kk) Q) := by
  subst e₂ e₃
  iintro ⟨#Hmw, H, HO⟩ Hk
  unfold gaFl
  iapply (Transfers.wp_waitLocalO countersEmb 𝒱 (V d cc jj) bd (default : HIx 2) (rfl : (P.osl k).view.dmaCredit = _)) $$ [H HO]
  · isplitl [H]; · iexact H
    isplitl [HO]; · iexact HO
    iapply (Transfers.MayWaits.elim (SemLoc.dma P.sg)) $$ Hmw
  iintro ⟨⟨H, Ht, Hl⟩, Hc, HO⟩
  iapply Hk
  isplitl [H]; · iexact H
  isplitl [Ht]; · iexact Ht
  isplitl [Hl]; · iapply (P.listPt_slot d cc jj fI k) $$ Hl
  isplitl [Hc]; · unfold cellG; iexact Hc
  iexact HO

/-- Block `k`'s rows are set on their way out, to where the output's final contents `G` has them. -/
theorem put (k : ℕ) (hin : P.InRange (F := F) d cc jj hg fI) (hG : (P.obl k).view.read (Elt F) G = P.rowsOf (F := F) d cc jj hg fI fT hin k)
    {src : Memref sig .scVector .vmem S128x128 .f32} {dst : Memref sig .scVector .hbm S128x128 .f32} {sem : DmaSem sig}
    (e₁ : src = P.osl k) (e₂ : dst = P.obl k) (e₃ : sem = P.semO k) {h₁ : src.view.WordExact} {h₂ : dst.view.WordExact}
    {h₃ : DmaTarget.Typed (nD := nD) (τ := τ) (p := (V d cc jj).2) .vmem (.dma sem) (.here dst)} :
    iprop(P.rowsPt (F := F) d cc jj hg fI fT hin k ∗ P.outPt (F := F) d cc jj fO k ∗ P.cellO (F := F) d cc jj k)
      ⊢ iprop((P.outFl (F := F) d cc jj G k -∗ wp frame (wpE defs 𝒱 (V d cc jj) bd) Set.univ (kk ⟨⟩) Q)
        -∗ wp frame (wpE defs 𝒱 (V d cc jj) bd) Set.univ (.op (.enqueueDma src (.here dst) (.dma sem) h₁ h₂ h₃) kk) Q) := by
  subst e₁ e₂ e₃
  unfold rowsPt outPt cellO
  iintro ⟨⟨%f, %hf, Hs⟩, Ho, Hc⟩ Hk
  iapply (Transfers.wp_dmaLocal countersEmb 𝒱 (V d cc jj) bd (default : HIx 2) (P.obl k).view.dmaCredit rfl (View.dmaCredit_pos _ (by decide))
    (Finset.Subset.refl _)) $$ [Hs Ho Hc]
  · isplitl [Hs]; · iexact Hs
    isplitl [Ho]; · iexact Ho
    iexact Hc
  iintro H; iapply Hk; unfold outFl
  iapply (Transfers.Flight_mono _ ?_) $$ H
  unfold outPt bufPt
  iintro ⟨Ho, Hs⟩
  isplitl [Ho]
  · iapply (Entails.of_eq (pointsTo_congr ?_)) $$ Ho
    intro i hi
    obtain ⟨x, -, rfl⟩ := Finset.mem_map.mp hi
    have h1 := congrFun (View.read_write_univ (v := (P.obl k).view) (Val := Elt F) fO (ReadAs.same.apply ((P.osl k).view.read (Elt F) f))) x
    have h2 := congrFun (hG.trans hf.symm) x
    exact (cast_inj _).mp (h1.trans h2.symm)
  iexists f; iexact Hs

/-- A wait for block `k`'s rows to be out. -/
theorem waitOut (k : ℕ) {srcw : Memref sig .scVector .vmem S128x128 .f32} {dst : Memref sig .scVector .hbm S128x128 .f32} {sem : DmaSem sig}
    (e₂ : dst = P.obl k) (e₃ : sem = P.semO k) {h₁ : srcw.view.WordExact} {h₂ : dst.view.WordExact}
    {O : CellTallies nD τ sig (HIx 2)} {W : Waits sig (HIx 2)} :
    iprop(Transfers.MayWaits (V d cc jj) (default : HIx 2) O ∗ P.outFl (F := F) d cc jj G k ∗ owes (V d cc jj) O W)
      ⊢ iprop((iprop(P.outPt (F := F) d cc jj G k ∗ P.bufPt (F := F) d cc jj k ∗ P.cellO (F := F) d cc jj k
            ∗ owes (V d cc jj) O (insert (SemLoc.dma (P.semO k), default) W)) -∗ wp frame (wpE defs 𝒱 (V d cc jj) bd) Set.univ (kk ⟨⟩) Q)
        -∗ wp frame (wpE defs 𝒱 (V d cc jj) bd) Set.univ (.op (.waitDma2 sem srcw dst h₁ h₂) kk) Q) := by
  subst e₂ e₃
  iintro ⟨#Hmw, H, HO⟩ Hk
  unfold outFl
  iapply (Transfers.wp_waitLocalO countersEmb 𝒱 (V d cc jj) bd (default : HIx 2) (rfl : (P.obl k).view.dmaCredit = _)) $$ [H HO]
  · isplitl [H]; · iexact H
    isplitl [HO]; · iexact HO
    iapply (Transfers.MayWaits.elim (SemLoc.dma (P.semO k))) $$ Hmw
  iintro ⟨⟨H, Hi⟩, Hc, HO⟩
  iapply Hk
  isplitl [H]; · iexact H
  isplitl [Hi]; · iexact Hi
  isplitl [Hc]; · unfold cellO; iexact Hc
  iexact HO

end State

end Pipe

end Cert.Proof.Gather

end
-- ==== Proof.Trip.lean ====
/-
  A tile's whole task over `Pipe`: what it holds before a trip and between a trip's operations, and the operations as
  steps from one such state to the next. Before trip `k` the list of block `k` is on its way into slot `k % 2`, the other
  slot is free; the rows of block `k - 1` are on their way out of row buffer `(k - 1) % 2`, the other buffer is free.
-/
module

public import proofs.«01_k».proof.Proof.Pipe

@[expose] public section

noncomputable section

namespace Cert.Proof.Gather

open Cert.KernelIdeal Cert.KernelIdeal.Gen

open Idealize.ShloMosaic
open Idealize.ShloMosaic.SparseCore (S V T bigSep_erase')
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- A tile's task: its memory, the contents of the list and of the table, the output's before and after. -/
structure Task (F : FTy → Type) (M R : ℕ) where
  P : Pipe M R
  d : Dev nD
  cc : Fin τ.nSC
  jj : Fin τ.nSub
  hg : (⟨2, ![R, 128]⟩ : Shape).Gathers 0 S128x128
  q : PosShare TreeShare
  fI : Buf (Elt F) (P.ids.view.loc (V d cc jj))
  fT : Buf (Elt F) (P.tbl.view.loc (V d cc jj))
  fO : Buf (Elt F) (P.out.view.loc (V d cc jj))
  G : Buf (Elt F) (P.out.view.loc (V d cc jj))
  hin : P.InRange (F := F) d cc jj hg fI
  hG : ∀ k, k < P.N → (P.obl k).view.read (Elt F) G = P.rowsOf (F := F) d cc jj hg fI fT hin k

local notation "𝕄" => MT nD τ sig (HIx 2) (Elt F) ℕ UU ℕ

namespace Task

variable {M R : ℕ} (T : Task F M R)

abbrev th : Thread nD τ := V T.d T.cc T.jj
abbrev N : ℕ := T.P.N
abbrev ids (k : ℕ) : sProp 𝕄 := T.P.idsPt T.d T.cc T.jj T.fI k
abbrev old (k : ℕ) : sProp 𝕄 := T.P.outPt T.d T.cc T.jj T.fO k
abbrev new (k : ℕ) : sProp 𝕄 := T.P.outPt T.d T.cc T.jj T.G k
abbrev tbl : sProp 𝕄 := T.P.tblPt T.d T.cc T.jj T.q T.fT
abbrev cellG : sProp 𝕄 := T.P.cellG (F := F) T.d T.cc T.jj
abbrev inFl (k : ℕ) : sProp 𝕄 := T.P.inFl T.d T.cc T.jj T.fI k
abbrev outFl (k : ℕ) : sProp 𝕄 := T.P.outFl T.d T.cc T.jj T.G k
abbrev gaFl (k : ℕ) : sProp 𝕄 := T.P.gaFl T.d T.cc T.jj T.hg T.q T.fI T.fT T.hin k
abbrev list (k : ℕ) : sProp 𝕄 := T.P.listPt T.d T.cc T.jj T.fI k
abbrev rows (k : ℕ) : sProp 𝕄 := T.P.rowsPt T.d T.cc T.jj T.hg T.fI T.fT T.hin k
abbrev buf (k : ℕ) : sProp 𝕄 := T.P.bufPt (F := F) T.d T.cc T.jj k
abbrev cellO (k : ℕ) : sProp 𝕄 := T.P.cellO (F := F) T.d T.cc T.jj k
/-- A free slot with its semaphore. -/
def slotFree (k : ℕ) : sProp 𝕄 := iprop(T.P.slotPt (F := F) T.d T.cc T.jj k ∗ T.P.cellI (F := F) T.d T.cc T.jj k)
/-- A free row buffer with its semaphore. -/
def bufFree (k : ℕ) : sProp 𝕄 := iprop(T.buf k ∗ T.cellO k)

theorem slotFree_two (k : ℕ) : T.slotFree (k + 2) = T.slotFree k := by
  unfold slotFree Pipe.slotPt Pipe.cellI; rw [T.P.isl_two, T.P.semI_two]
theorem bufFree_two (k : ℕ) : T.bufFree (k + 2) = T.bufFree k := by
  unfold bufFree buf cellO Pipe.bufPt Pipe.cellO; rw [T.P.osl_two, T.P.semO_two]

/-- What the slot of block `k` is at; what the row buffer of block `k - 1` is at. -/
def inRole (k : ℕ) : sProp 𝕄 := if k < T.N then T.inFl k else T.slotFree k
def outRole : ℕ → sProp 𝕄
  | 0 => T.bufFree 1
  | k + 1 => T.outFl k

/-- The output before trip `k`: blocks from `k` on untouched, those before `k - 1` done. -/
def outs (k : ℕ) : sProp 𝕄 :=
  iprop(T.outRole k ∗ bigSep (Finset.Ico k T.N) T.old ∗ bigSep (Finset.range (k - 1)) T.new)

def stA (k : ℕ) : sProp 𝕄 :=
  iprop(bigSep ((Finset.range T.N).erase k) T.ids ∗ T.inRole k ∗ T.slotFree (k + 1) ∗ T.bufFree k ∗ T.outs k ∗ T.tbl ∗ T.cellG)
def stB (k : ℕ) : sProp 𝕄 :=
  iprop(bigSep (((Finset.range T.N).erase k).erase (k + 1)) T.ids ∗ T.inRole (k + 1) ∗ T.inFl k ∗ T.bufFree k ∗ T.outs k ∗ T.tbl ∗ T.cellG)
def stC (k : ℕ) : sProp 𝕄 :=
  iprop(bigSep ((Finset.range T.N).erase (k + 1)) T.ids ∗ T.inRole (k + 1) ∗ T.P.cellI (F := F) T.d T.cc T.jj k ∗ T.list k
    ∗ T.bufFree k ∗ T.outs k ∗ T.tbl ∗ T.cellG)
def stD (k : ℕ) : sProp 𝕄 :=
  iprop(bigSep ((Finset.range T.N).erase (k + 1)) T.ids ∗ T.inRole (k + 1) ∗ T.P.cellI (F := F) T.d T.cc T.jj k ∗ T.gaFl k
    ∗ T.cellO k ∗ T.outs k)
def stE (k : ℕ) : sProp 𝕄 :=
  iprop(bigSep ((Finset.range T.N).erase (k + 1)) T.ids ∗ T.inRole (k + 1) ∗ T.slotFree (k + 2) ∗ (T.rows k ∗ T.cellO k)
    ∗ T.outs k ∗ T.tbl ∗ T.cellG)
def stF (k : ℕ) : sProp 𝕄 :=
  iprop(bigSep ((Finset.range T.N).erase (k + 1)) T.ids ∗ T.inRole (k + 1) ∗ T.slotFree (k + 2) ∗ T.outFl k
    ∗ (T.outRole k ∗ bigSep (Finset.Ico (k + 1) T.N) T.old ∗ bigSep (Finset.range (k - 1)) T.new) ∗ T.tbl ∗ T.cellG)
/-- Before the task; after it. -/
def stI : sProp 𝕄 :=
  iprop(bigSep (Finset.range T.N) T.ids ∗ (T.slotFree 0 ∗ T.slotFree 1) ∗ (T.bufFree 0 ∗ T.bufFree 1)
    ∗ bigSep (Finset.range T.N) T.old ∗ T.tbl ∗ T.cellG)
def stZ : sProp 𝕄 :=
  iprop(bigSep (Finset.range T.N) T.ids ∗ (T.slotFree T.N ∗ T.slotFree (T.N + 1)) ∗ (T.bufFree T.N ∗ T.bufFree (T.N + 1))
    ∗ bigSep (Finset.range T.N) T.new ∗ T.tbl ∗ T.cellG)

/-- What is owed, with waits recorded at the kernels' own index only. -/
def owe (O : CellTallies nD τ sig (HIx 2)) (W : Waits sig (HIx 2)) : sProp 𝕄 :=
  iprop(∃ W', ⌜∀ p ∈ W', p ∈ W ∨ p.2 = none⌝ ∗ owes T.th O W')
abbrev waits (O : CellTallies nD τ sig (HIx 2)) : sProp 𝕄 := Transfers.MayWaits T.th (default : HIx 2) O

theorem owe_intro (O : CellTallies nD τ sig (HIx 2)) (W : Waits sig (HIx 2)) : (owes T.th O W : sProp 𝕄) ⊢ T.owe O W := by
  unfold owe; iintro H; iexists W; isplitr
  · ipureintro; exact fun p hp => .inl hp
  iexact H
theorem owe_insert {O : CellTallies nD τ sig (HIx 2)} {W W' : Waits sig (HIx 2)} (h : ∀ p ∈ W', p ∈ W ∨ p.2 = none) (s : SemLoc sig) :
    (owes T.th O (insert (s, default) W') : sProp 𝕄) ⊢ T.owe O W := by
  unfold owe; iintro H; iexists _; isplitr
  swap; · iexact H
  ipureintro; intro p hp
  rcases Finset.mem_insert.mp hp with hp | hp
  · exact .inr (hp ▸ rfl)
  · exact h p hp

variable {Λ : Labels} {defs : Defs nD τ sig (Elt F) Λ} (𝒱 : Variants) (bd : Option 𝒱.V) {α : Type}
variable {Q : α → sProp (MT nD τ sig (HIx 2) (Elt F) ℕ UU ℕ)} {kk : PUnit → Prog (TpuEff nD τ sig (Elt F) Λ T.th.2) α}

/-- The first list is set on its way. -/
theorem step_start {src : Memref sig .scVector .hbm S1x128 .i32} {dst : Memref sig .scVector .vmem S1x128 .i32} {sem : DmaSem sig}
    (e₁ : src = T.P.ibl 0) (e₂ : dst = T.P.isl 0) (e₃ : sem = T.P.semI 0) {h₁ : src.view.WordExact} {h₂ : dst.view.WordExact}
    {h₃ : DmaTarget.Typed (nD := nD) (τ := τ) (p := T.th.2) .hbm (.dma sem) (.here dst)} :
    T.stI ⊢ iprop((T.stA 0 -∗ wp frame (wpE defs 𝒱 T.th bd) Set.univ (kk ⟨⟩) Q)
        -∗ wp frame (wpE defs 𝒱 T.th bd) Set.univ (.op (.enqueueDma src (.here dst) (.dma sem) h₁ h₂ h₃) kk) Q) := by
  unfold stI stA outs outRole inRole
  rw [bigSep_erase' (s := Finset.range T.N) (i := 0) (Finset.mem_range.mpr T.P.hN) (Φ := T.ids), if_pos T.P.hN, Nat.Ico_zero_eq_range]
  nth_rewrite 1 [slotFree]
  iintro ⟨⟨Hi, His⟩, ⟨⟨Hs, Hc⟩, H1⟩, ⟨Hb0, Hb1⟩, Ho, Ht, Hg⟩ Hk
  iapply (T.P.fetch T.d T.cc T.jj T.fI 𝒱 bd 0 e₁ e₂ e₃) $$ [Hi Hs Hc]
  · isplitl [Hi]; · iexact Hi
    isplitl [Hs]; · iexact Hs
    iexact Hc
  iintro H; iapply Hk
  isplitl [His]; · iexact His
  isplitl [H]; · iexact H
  isplitl [H1]; · iexact H1
  isplitl [Hb0]; · iexact Hb0
  isplitl [Hb1 Ho]
  · isplitl [Hb1]; · iexact Hb1
    isplitl [Ho]; · iexact Ho
    rw [show Finset.range (0 - 1) = ∅ from rfl, bigSep_empty]; iempintro
  isplitl [Ht]; · iexact Ht
  iexact Hg

/-- The next list is set on its way, where there is one. -/
theorem step_fetch (k : ℕ) (hk : k + 1 < T.N) {src : Memref sig .scVector .hbm S1x128 .i32} {dst : Memref sig .scVector .vmem S1x128 .i32} {sem : DmaSem sig}
    (e₁ : src = T.P.ibl (k + 1)) (e₂ : dst = T.P.isl (k + 1)) (e₃ : sem = T.P.semI (k + 1)) {h₁ : src.view.WordExact} {h₂ : dst.view.WordExact}
    {h₃ : DmaTarget.Typed (nD := nD) (τ := τ) (p := T.th.2) .hbm (.dma sem) (.here dst)} :
    T.stA k ⊢ iprop((T.stB k -∗ wp frame (wpE defs 𝒱 T.th bd) Set.univ (kk ⟨⟩) Q)
        -∗ wp frame (wpE defs 𝒱 T.th bd) Set.univ (.op (.enqueueDma src (.here dst) (.dma sem) h₁ h₂ h₃) kk) Q) := by
  unfold stA stB inRole
  rw [bigSep_erase' (s := (Finset.range T.N).erase k) (i := k + 1) (Finset.mem_erase.mpr ⟨by omega, Finset.mem_range.mpr hk⟩) (Φ := T.ids),
    if_pos hk, if_pos (by omega : k < T.N)]
  nth_rewrite 1 [slotFree]
  iintro ⟨⟨Hi, His⟩, Hin, ⟨Hs, Hc⟩, Hr⟩ Hk
  iapply (T.P.fetch T.d T.cc T.jj T.fI 𝒱 bd (k + 1) e₁ e₂ e₃) $$ [Hi Hs Hc]
  · isplitl [Hi]; · iexact Hi
    isplitl [Hs]; · iexact Hs
    iexact Hc
  iintro H; iapply Hk
  isplitl [His]; · iexact His
  isplitl [H]; · iexact H
  isplitl [Hin]; · iexact Hin
  iexact Hr

/-- At the last trip there is none. -/
theorem skip_fetch (k : ℕ) (hk : k + 1 = T.N) : T.stA k ⊢ T.stB k := by
  unfold stA stB inRole
  rw [if_pos (by omega : k < T.N), if_neg (by omega : ¬ k + 1 < T.N),
    Finset.erase_eq_of_notMem (s := (Finset.range T.N).erase k) (a := k + 1) (by simp [hk])]
  iintro ⟨His, Hin, Hs, Hr⟩
  isplitl [His]; · iexact His
  isplitl [Hs]; · iexact Hs
  isplitl [Hin]; · iexact Hin
  iexact Hr

/-- Block `k`'s list has come. -/
theorem step_waitIn (k : ℕ) (hk : k < T.N) {srcw : Memref sig .scVector .hbm S1x128 .i32} {dst : Memref sig .scVector .vmem S1x128 .i32} {sem : DmaSem sig}
    (e₂ : dst = T.P.isl k) (e₃ : sem = T.P.semI k) {h₁ : srcw.view.WordExact} {h₂ : dst.view.WordExact}
    {O : CellTallies nD τ sig (HIx 2)} {W : Waits sig (HIx 2)} :
    iprop(T.waits O ∗ T.stB k ∗ T.owe O W)
      ⊢ iprop((iprop(T.stC k ∗ T.owe O W) -∗ wp frame (wpE defs 𝒱 T.th bd) Set.univ (kk ⟨⟩) Q)
        -∗ wp frame (wpE defs 𝒱 T.th bd) Set.univ (.op (.waitDma2 sem srcw dst h₁ h₂) kk) Q) := by
  unfold stB stC
  rw [bigSep_erase' (s := (Finset.range T.N).erase (k + 1)) (i := k) (Finset.mem_erase.mpr ⟨by omega, Finset.mem_range.mpr hk⟩) (Φ := T.ids),
    Finset.erase_right_comm]
  nth_rewrite 1 [owe]
  iintro ⟨#Hw, ⟨His, Hn, Hin, Hr⟩, ⟨%W', %hW, HO⟩⟩ Hk
  iapply (T.P.waitIn T.d T.cc T.jj T.fI 𝒱 bd k e₂ e₃) $$ [Hin HO]
  · isplitr; · iexact Hw
    isplitl [Hin]; · iexact Hin
    iexact HO
  iintro ⟨Hl, Hi, Hc, HO⟩
  iapply Hk
  isplitr [HO]
  · isplitl [Hi His]
    · isplitl [Hi]; · iexact Hi
      iexact His
    isplitl [Hn]; · iexact Hn
    isplitl [Hc]; · iexact Hc
    isplitl [Hl]; · iexact Hl
    iexact Hr
  iapply (T.owe_insert hW _) $$ HO

/-- Block `k`'s rows are gathered. -/
theorem step_gather (k : ℕ)
    {src : Memref sig .scVector .hbm ⟨2, ![R, 128]⟩ .f32} {dst : Memref sig .scVector .vmem S128x128 .f32}
    {offs : Memref sig .scVector .vmem S128 .i32} {sem : DmaSem sig} {hn : S128.numel = S128x128.size T.hg.axis'}
    (e₁ : src = T.P.tbl) (e₂ : dst = T.P.osl k) (e₃ : offs = T.P.lst k) (e₄ : sem = T.P.sg)
    {hp : T.th.2.kind = .scVector} {h₁ : src.view.WordExact} {he : EltTy.f32.bits = 32} {hsp : Space.hbm = .hbm ∨ Space.hbm = .shared}
    {hr : (⟨2, ![R, 128]⟩ : Shape).StreamRows 0} :
    T.stC k ⊢ iprop((T.stD k -∗ wp frame (wpE defs 𝒱 T.th bd) Set.univ (kk ⟨⟩) Q)
        -∗ wp frame (wpE defs 𝒱 T.th bd) Set.univ (SparseCore.enqueueIndirectGather hp src dst T.hg offs hn sem h₁ he hsp hr >>= kk) Q) := by
  unfold stC stD bufFree
  iintro ⟨His, Hn, Hc, Hl, ⟨Hb, HcO⟩, Ho, Ht, Hg⟩ Hk
  iapply (T.P.gather T.d T.cc T.jj T.hg T.q T.fI T.fT 𝒱 bd k T.hin e₁ e₂ e₃ e₄) $$ [Ht Hb Hl Hg]
  · isplitl [Ht]; · iexact Ht
    isplitl [Hb]; · iexact Hb
    isplitl [Hl]; · iexact Hl
    iexact Hg
  iintro H; iapply Hk
  isplitl [His]; · iexact His
  isplitl [Hn]; · iexact Hn
  isplitl [Hc]; · iexact Hc
  isplitl [H]; · iexact H
  isplitl [HcO]; · iexact HcO
  iexact Ho

/-- They have come. -/
theorem step_waitRows (k : ℕ)
    {srcw : Memref sig .scVector .hbm ⟨2, ![R, 128]⟩ .f32} {dst : Memref sig .scVector .vmem S128x128 .f32} {sem : DmaSem sig}
    (e₂ : dst = T.P.osl k) (e₃ : sem = T.P.sg) {h₁ : srcw.view.WordExact} {h₂ : dst.view.WordExact}
    {O : CellTallies nD τ sig (HIx 2)} {W : Waits sig (HIx 2)} :
    iprop(T.waits O ∗ T.stD k ∗ T.owe O W)
      ⊢ iprop((iprop(T.stE k ∗ T.owe O W) -∗ wp frame (wpE defs 𝒱 T.th bd) Set.univ (kk ⟨⟩) Q)
        -∗ wp frame (wpE defs 𝒱 T.th bd) Set.univ (.op (.waitDma2 sem srcw dst h₁ h₂) kk) Q) := by
  unfold stD stE
  rw [T.slotFree_two]
  nth_rewrite 1 [owe]
  unfold slotFree
  iintro ⟨#Hw, ⟨His, Hn, Hc, Hf, HcO, Ho⟩, ⟨%W', %hW, HO⟩⟩ Hk
  iapply (T.P.waitRows T.d T.cc T.jj T.hg T.q T.fI T.fT 𝒱 bd k T.hin e₂ e₃) $$ [Hf HO]
  · isplitr; · iexact Hw
    isplitl [Hf]; · iexact Hf
    iexact HO
  iintro ⟨Hr, Ht, Hs, Hg, HO⟩
  iapply Hk
  isplitr [HO]
  · isplitl [His]; · iexact His
    isplitl [Hn]; · iexact Hn
    isplitl [Hs Hc]
    · isplitl [Hs]; · iexact Hs
      iexact Hc
    isplitl [Hr HcO]
    · isplitl [Hr]; · iexact Hr
      iexact HcO
    isplitl [Ho]; · iexact Ho
    isplitl [Ht]; · iexact Ht
    iexact Hg
  iapply (T.owe_insert hW _) $$ HO

/-- They are set on their way out. -/
theorem step_put (k : ℕ) (hk : k < T.N)
    {src : Memref sig .scVector .vmem S128x128 .f32} {dst : Memref sig .scVector .hbm S128x128 .f32} {sem : DmaSem sig}
    (e₁ : src = T.P.osl k) (e₂ : dst = T.P.obl k) (e₃ : sem = T.P.semO k) {h₁ : src.view.WordExact} {h₂ : dst.view.WordExact}
    {h₃ : DmaTarget.Typed (nD := nD) (τ := τ) (p := T.th.2) .vmem (.dma sem) (.here dst)} :
    T.stE k ⊢ iprop((T.stF k -∗ wp frame (wpE defs 𝒱 T.th bd) Set.univ (kk ⟨⟩) Q)
        -∗ wp frame (wpE defs 𝒱 T.th bd) Set.univ (.op (.enqueueDma src (.here dst) (.dma sem) h₁ h₂ h₃) kk) Q) := by
  unfold stE stF outs
  rw [bigSep_erase' (s := Finset.Ico k T.N) (i := k) (Finset.mem_Ico.mpr ⟨le_rfl, hk⟩) (Φ := T.old),
    show (Finset.Ico k T.N).erase k = Finset.Ico (k + 1) T.N by ext x; simp only [Finset.mem_erase, Finset.mem_Ico]; omega]
  iintro ⟨His, Hn, Hs, ⟨Hr, Hc⟩, ⟨Ho, ⟨Hk0, Hks⟩, Hd⟩, Ht⟩ Hk
  iapply (T.P.put T.d T.cc T.jj T.hg T.fI T.fT T.fO T.G 𝒱 bd k T.hin (T.hG k hk) e₁ e₂ e₃) $$ [Hr Hk0 Hc]
  · isplitl [Hr]; · iexact Hr
    isplitl [Hk0]; · iexact Hk0
    iexact Hc
  iintro H; iapply Hk
  isplitl [His]; · iexact His
  isplitl [Hn]; · iexact Hn
  isplitl [Hs]; · iexact Hs
  isplitl [H]; · iexact H
  isplitr [Ht]
  · isplitl [Ho]; · iexact Ho
    isplitl [Hks]; · iexact Hks
    iexact Hd
  iexact Ht

/-- The first trip has nothing to wait for. -/
theorem skip_waitOut : T.stF 0 ⊢ T.stA 1 := by
  unfold stF stA outs outRole
  iintro ⟨His, Hn, Hs, Hf, ⟨Hb, Ho, Hd⟩, Ht⟩
  isplitl [His]; · iexact His
  isplitl [Hn]; · iexact Hn
  isplitl [Hs]; · iexact Hs
  isplitl [Hb]; · iexact Hb
  isplitr [Ht]
  · isplitl [Hf]; · iexact Hf
    isplitl [Ho]; · iexact Ho
    iexact Hd
  iexact Ht

theorem range_new (k : ℕ) : bigSep (Finset.range (k + 1)) T.new = iprop(T.new k ∗ bigSep (Finset.range k) T.new) := by
  rw [bigSep_erase' (s := Finset.range (k + 1)) (i := k) (Finset.mem_range.mpr (Nat.lt_succ_self k)) (Φ := T.new),
    show (Finset.range (k + 1)).erase k = Finset.range k by ext x; simp only [Finset.mem_erase, Finset.mem_range]; omega]

/-- A later trip waits for the rows of the block before. -/
theorem step_waitOut (k : ℕ) {srcw : Memref sig .scVector .vmem S128x128 .f32} {dst : Memref sig .scVector .hbm S128x128 .f32} {sem : DmaSem sig}
    (e₂ : dst = T.P.obl k) (e₃ : sem = T.P.semO k) {h₁ : srcw.view.WordExact} {h₂ : dst.view.WordExact}
    {O : CellTallies nD τ sig (HIx 2)} {W : Waits sig (HIx 2)} :
    iprop(T.waits O ∗ T.stF (k + 1) ∗ T.owe O W)
      ⊢ iprop((iprop(T.stA (k + 2) ∗ T.owe O W) -∗ wp frame (wpE defs 𝒱 T.th bd) Set.univ (kk ⟨⟩) Q)
        -∗ wp frame (wpE defs 𝒱 T.th bd) Set.univ (.op (.waitDma2 sem srcw dst h₁ h₂) kk) Q) := by
  unfold stF stA outs outRole
  rw [T.bufFree_two, show k + 2 - 1 = k + 1 from rfl, show k + 1 - 1 = k from rfl, T.range_new]
  nth_rewrite 1 [owe]
  unfold bufFree
  iintro ⟨#Hw, ⟨His, Hn, Hs, Hf, ⟨Hb, Ho, Hd⟩, Ht⟩, ⟨%W', %hW, HO⟩⟩ Hk
  iapply (T.P.waitOut T.d T.cc T.jj T.G 𝒱 bd k e₂ e₃) $$ [Hb HO]
  · isplitr; · iexact Hw
    isplitl [Hb]; · iexact Hb
    iexact HO
  iintro ⟨Hnew, Hb, Hc, HO⟩
  iapply Hk
  isplitr [HO]
  · isplitl [His]; · iexact His
    isplitl [Hn]; · iexact Hn
    isplitl [Hs]; · iexact Hs
    isplitl [Hb Hc]
    · isplitl [Hb]; · iexact Hb
      iexact Hc
    isplitr [Ht]
    · isplitl [Hf]; · iexact Hf
      isplitl [Ho]; · iexact Ho
      isplitl [Hnew]; · iexact Hnew
      iexact Hd
    iexact Ht
  iapply (T.owe_insert hW _) $$ HO

/-- After the last trip the last block's rows are waited for. -/
theorem step_end (k : ℕ) (hk : k + 1 = T.N) {srcw : Memref sig .scVector .vmem S128x128 .f32} {dst : Memref sig .scVector .hbm S128x128 .f32} {sem : DmaSem sig}
    (e₂ : dst = T.P.obl k) (e₃ : sem = T.P.semO k) {h₁ : srcw.view.WordExact} {h₂ : dst.view.WordExact}
    {O : CellTallies nD τ sig (HIx 2)} {W : Waits sig (HIx 2)} :
    iprop(T.waits O ∗ T.stA (k + 1) ∗ T.owe O W)
      ⊢ iprop((iprop(T.stZ ∗ T.owe O W) -∗ wp frame (wpE defs 𝒱 T.th bd) Set.univ (kk ⟨⟩) Q)
        -∗ wp frame (wpE defs 𝒱 T.th bd) Set.univ (.op (.waitDma2 sem srcw dst h₁ h₂) kk) Q) := by
  unfold stA stZ outs outRole inRole
  rw [← hk, show k + 1 - 1 = k from rfl, T.range_new, if_neg (by omega), T.bufFree_two k, Finset.erase_eq_of_notMem (by simp)]
  nth_rewrite 1 [owe]
  unfold bufFree
  iintro ⟨#Hw, ⟨His, Hn, Hs, Hb, ⟨Hf, -, Hd⟩, Ht⟩, ⟨%W', %hW, HO⟩⟩ Hk
  iapply (T.P.waitOut T.d T.cc T.jj T.G 𝒱 bd k e₂ e₃) $$ [Hf HO]
  · isplitr; · iexact Hw
    isplitl [Hf]; · iexact Hf
    iexact HO
  iintro ⟨Hnew, Hb', Hc, HO⟩
  iapply Hk
  isplitr [HO]
  · isplitl [His]; · iexact His
    isplitl [Hn Hs]
    · isplitl [Hn]; · iexact Hn
      iexact Hs
    isplitl [Hb Hb' Hc]
    · isplitl [Hb]; · iexact Hb
      isplitl [Hb']; · iexact Hb'
      iexact Hc
    isplitr [Ht]
    · isplitl [Hnew]; · iexact Hnew
      iexact Hd
    iexact Ht
  iapply (T.owe_insert hW _) $$ HO

end Task

end Cert.Proof.Gather

end
-- ==== Proof.Words.lean ====
/-
  The words the two SparseCore kernels compute: a tile's first block, the block after and the block before (both around
  the end of the tile's run), and the guards of a trip. Facts of 32-bit words, no memory in them.
-/
module

public import Idealize.ShloMosaic.Lib.WordCmp
public import Idealize.ShloMosaic.Lib.Ring.Trips

@[expose] public section

namespace Cert.Proof.Words

open Idealize.ShloMosaic

/-- The two kernels' first block, as a word. -/
theorem base_word (a b n : ℕ) :
    Scalar.muli (Scalar.addi (Scalar.addi 0#32 (Scalar.muli (BitVec.ofNat 32 b) 1#32)) (Scalar.muli (BitVec.ofNat 32 a) 16#32)) (BitVec.ofNat 32 n)
      = BitVec.ofNat 32 ((b + 16 * a) * n) := by
  show BitVec.mul (BitVec.add (BitVec.add (BitVec.ofNat 32 0) (BitVec.mul (BitVec.ofNat 32 b) (BitVec.ofNat 32 1))) (BitVec.mul (BitVec.ofNat 32 a) (BitVec.ofNat 32 16))) (BitVec.ofNat 32 n) = _
  apply BitVec.eq_of_toNat_eq
  simp only [BitVec.mul_eq, BitVec.add_eq, ← BitVec.ofNat_mul, ← BitVec.ofNat_add]
  exact congrArg (fun x => (BitVec.ofNat 32 (x * n)).toNat) (by omega)

theorem add_word (a b : ℕ) : Scalar.addi (BitVec.ofNat 32 a) (BitVec.ofNat 32 b) = BitVec.ofNat 32 (a + b) := by
  show BitVec.add _ _ = _
  simp only [BitVec.add_eq, ← BitVec.ofNat_add]

theorem mul_word (a b : ℕ) : Scalar.muli (BitVec.ofNat 32 a) (BitVec.ofNat 32 b) = BitVec.ofNat 32 (a * b) := by
  show BitVec.mul _ _ = _
  simp only [BitVec.mul_eq, ← BitVec.ofNat_mul]

theorem ne_add (x y b : BitVec 32) : Scalar.cmpi .ne (Scalar.addi x b) (Scalar.addi y b) = Scalar.cmpi .ne x y := by
  show IntOp.cmpi .ne _ _ = IntOp.cmpi .ne _ _
  rw [WordCmp.cmpi_ne_eq, WordCmp.cmpi_ne_eq]
  have : Scalar.addi x b = Scalar.addi y b ↔ x = y := by
    show x + b = y + b ↔ x = y
    exact BitVec.add_left_inj b
  simp only [ne_eq, this]

theorem mod_two (k : ℕ) (hk : k < 2 ^ 32) : (Scalar.remui (BitVec.ofNat 32 k) 2#32).toNat = k % 2 := by
  rw [Ring.remui_ofNat hk (by decide) (by decide)]
  exact WordCmp.toNat_ofNat_of_lt (by omega)

/-- The block after: around the end of the run. -/
theorem next_word (n k : ℕ) (hn : n < 2 ^ 31) (hk : k < n) :
    Scalar.select (Scalar.cmpi .eq (Scalar.select 1#1 (Scalar.addi (BitVec.ofNat 32 k) 1#32) (BitVec.ofNat 32 k)) (BitVec.ofNat 32 n)) 0#32
      (Scalar.select 1#1 (Scalar.addi (BitVec.ofNat 32 k) 1#32) (BitVec.ofNat 32 k)) = BitVec.ofNat 32 ((k + 1) % n) := by
  rw [WordCmp.select_one, add_word]
  show Scalar.select (IntOp.cmpi .eq _ _) _ _ = _
  rw [WordCmp.cmpi_eq_ofNat (by omega) (by omega), WordCmp.select_ofBool]
  by_cases h : k + 1 = n
  · simp [h]
  · simp [h, Nat.mod_eq_of_lt (by omega : k + 1 < n)]

/-- The block before: around the start of the run. -/
theorem prev_word (n k : ℕ) (hn : n < 2 ^ 31) (hn0 : 0 < n) (hk : k < n) :
    Scalar.select (Scalar.cmpi .eq (Scalar.select 1#1 (Scalar.subi (BitVec.ofNat 32 k) 1#32) (BitVec.ofNat 32 k)) 4294967295#32) (BitVec.ofNat 32 (n - 1))
      (Scalar.select 1#1 (Scalar.subi (BitVec.ofNat 32 k) 1#32) (BitVec.ofNat 32 k)) = BitVec.ofNat 32 (if k = 0 then n - 1 else k - 1) := by
  rw [WordCmp.select_one]
  cases k with
  | zero => rfl
  | succ k =>
    have : Scalar.subi (BitVec.ofNat 32 (k + 1)) 1#32 = BitVec.ofNat 32 k := by
      show BitVec.ofNat 32 (k + 1) - 1#32 = _
      rw [BitVec.ofNat_add, BitVec.add_sub_cancel]
    rw [this]
    show Scalar.select (IntOp.cmpi .eq _ (BitVec.ofNat 32 4294967295)) _ _ = _
    rw [WordCmp.cmpi_eq_ofNat (by omega) (by omega), WordCmp.select_ofBool]
    have h : k ≠ 4294967295 := by omega
    simp [h]

end Cert.Proof.Words
-- ==== Proof.Call0.lean ====
/-
  The first SparseCore call on a symbolic tile: its words, its task as a `Task`, one trip of its loop, the whole body.
-/
module

public import proofs.«01_k».proof.Proof.Trip
public import proofs.«01_k».proof.Proof.Words
public import proofs.«01_k».proof.Proof.Gen.KernelIdeal.Skeleton

@[expose] public section

noncomputable section

namespace Cert.Proof.Gather.Call0

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The tile's words -/

/-- The tile's first block. -/
def base (L : grid0.Coords) : ℕ := ((L 1).val + 16 * (L 0).val) * 64
theorem base_le (L : grid0.Coords) : base L + 64 ≤ 2048 := by
  have h0 : (L 0).val < 2 := (L 0).isLt
  have h1 : (L 1).val < 16 := (L 1).isLt
  unfold base; omega

theorem trips_eq : k0_t1_loop.trips = 64 := by decide +kernel

theorem off1_eq : k0_off1 = ![0 % 2, 0, 0] := by decide +kernel
theorem off3_eq : k0_off3 = ![0 % 2] := by decide +kernel
theorem off2_eq (L : grid0.Coords) : k0_off2 L = ![0, 128 * (base L + 0 % 64)] := by
  have := base_le L
  unfold k0_off2
  simp only [Words.base_word]
  rw [Words.add_word 0, Words.mul_word, WordCmp.toNat_ofNat_of_lt (by unfold base at this; omega)]
  unfold base; congr 2; simp
theorem off4_eq (k : ℕ) (hk : k < 2 ^ 32) : k0_off4 (BitVec.ofNat 32 k) = ![k % 2, 0, 0] := by
  unfold k0_off4; simp only [Words.mod_two k hk]
theorem off6_eq (k : ℕ) (hk : k < 2 ^ 32) : k0_off6 (BitVec.ofNat 32 k) = ![k % 2] := by
  unfold k0_off6; simp only [Words.mod_two k hk]
theorem off7_eq (k : ℕ) (hk : k < 2 ^ 32) : k0_off7 (BitVec.ofNat 32 k) = ![k % 2, 0, 0] := by
  unfold k0_off7; simp only [Words.mod_two k hk]
theorem off9_eq (k : ℕ) (hk : k < 2 ^ 32) : k0_off9 (BitVec.ofNat 32 k) = ![k % 2] := by
  unfold k0_off9; simp only [Words.mod_two k hk]
theorem off10_eq (k : ℕ) (hk : k < 2 ^ 32) : k0_off10 (BitVec.ofNat 32 k) = ![k % 2, 0, 0] := by
  unfold k0_off10; simp only [Words.mod_two k hk]
theorem off11_eq (k : ℕ) (hk : k < 2 ^ 32) : k0_off11 (BitVec.ofNat 32 k) = ![k % 2, 0, 0] := by
  unfold k0_off11; simp only [Words.mod_two k hk]
theorem off12_eq (k : ℕ) (hk : k < 2 ^ 32) : k0_off12 (BitVec.ofNat 32 k) = ![k % 2, 0, 0] := by
  unfold k0_off12; simp only [Words.mod_two k hk]
theorem off14_eq (k : ℕ) (hk : k < 2 ^ 32) : k0_off14 (BitVec.ofNat 32 k) = ![k % 2] := by
  unfold k0_off14; simp only [Words.mod_two k hk]
theorem off15_eq (k : ℕ) (hk : k < 2 ^ 32) : k0_off15 (BitVec.ofNat 32 k) = ![k % 2, 0, 0] := by
  unfold k0_off15; simp only [Words.mod_two k hk]
theorem off17_eq (k : ℕ) (hk : k < 2 ^ 32) : k0_off17 (BitVec.ofNat 32 k) = ![k % 2] := by
  unfold k0_off17; simp only [Words.mod_two k hk]
theorem off18_eq (k : ℕ) (hk : k < 2 ^ 32) : k0_off18 (BitVec.ofNat 32 k) = ![k % 2, 0, 0] := by
  unfold k0_off18; simp only [Words.mod_two k hk]
theorem off20_eq (k : ℕ) (hk : k < 2 ^ 32) : k0_off20 (BitVec.ofNat 32 k) = ![k % 2] := by
  unfold k0_off20; simp only [Words.mod_two k hk]
theorem off21_eq (k : ℕ) (hk : k < 2 ^ 32) : k0_off21 (BitVec.ofNat 32 k) = ![k % 2, 0, 0] := by
  unfold k0_off21; simp only [Words.mod_two k hk]

/-- A block's first element, as the word the kernel computes. -/
theorem blk_word (L : grid0.Coords) (k : ℕ) (hk : k < 64) :
    (Scalar.muli 128#32 (Scalar.addi (BitVec.ofNat 32 k) (BitVec.ofNat 32 (base L)))).toNat = 128 * (base L + k % 64) := by
  have := base_le L
  rw [Words.add_word, Words.mul_word, WordCmp.toNat_ofNat_of_lt (by omega), Nat.mod_eq_of_lt hk, Nat.add_comm]
theorem off5_eq (L : grid0.Coords) (k : ℕ) (hk : k < 64) : k0_off5 L (BitVec.ofNat 32 k) = ![0, 128 * (base L + (k + 1) % 64)] := by
  unfold k0_off5
  simp only [Words.base_word, Words.next_word 64 k (by decide) hk]
  rw [show BitVec.ofNat 32 (((L 1).val + 16 * (L 0).val) * 64) = BitVec.ofNat 32 (base L) from rfl, blk_word L _ (Nat.mod_lt _ (by decide)), Nat.mod_mod]
theorem off8_eq (L : grid0.Coords) (k : ℕ) (hk : k < 64) : k0_off8 L (BitVec.ofNat 32 k) = ![0, 128 * (base L + k % 64)] := by
  unfold k0_off8
  simp only [Words.base_word]
  rw [show BitVec.ofNat 32 (((L 1).val + 16 * (L 0).val) * 64) = BitVec.ofNat 32 (base L) from rfl, blk_word L _ hk]
theorem off13_eq (L : grid0.Coords) (k : ℕ) (hk : k < 64) : k0_off13 L (BitVec.ofNat 32 k) = ![128 * (base L + k % 64), 0] := by
  unfold k0_off13
  simp only [Words.base_word]
  rw [show BitVec.ofNat 32 (((L 1).val + 16 * (L 0).val) * 64) = BitVec.ofNat 32 (base L) from rfl, blk_word L _ hk]
theorem off16_eq (L : grid0.Coords) (k : ℕ) (hk : k + 1 < 64) : k0_off16 L (BitVec.ofNat 32 (k + 1)) = ![128 * (base L + k % 64), 0] := by
  unfold k0_off16
  simp only [Words.base_word, Words.prev_word 64 (k + 1) (by decide) (by decide) hk, Nat.add_eq_zero_iff, one_ne_zero, and_false, if_false, Nat.add_sub_cancel]
  rw [show BitVec.ofNat 32 (((L 1).val + 16 * (L 0).val) * 64) = BitVec.ofNat 32 (base L) from rfl, blk_word L _ (by omega)]
theorem off19_eq (L : grid0.Coords) : k0_off19 L (BitVec.ofNat 32 0) = ![128 * (base L + 63 % 64), 0] := by
  unfold k0_off19
  simp only [Words.base_word, Words.prev_word 64 0 (by decide) (by decide) (by decide), if_true]
  rw [show BitVec.ofNat 32 (((L 1).val + 16 * (L 0).val) * 64) = BitVec.ofNat 32 (base L) from rfl, blk_word L _ (by omega)]

theorem cond1_eq (L : grid0.Coords) (t : Fin k0_t1_loop.trips) : k0_cond1 L t (BitVec.ofNat 32 t.val) = if t.val + 1 < 64 then 1#1 else 0#1 := by
  unfold k0_cond1; simp only [Words.ne_add]; revert t; decide +kernel
theorem cond2_eq (L : grid0.Coords) (t : Fin k0_t1_loop.trips) : k0_cond2 L t (BitVec.ofNat 32 t.val) = 1#1 := by
  unfold k0_cond2; simp only [Words.ne_add]; revert t; decide +kernel
theorem cond5_eq (L : grid0.Coords) (t : Fin k0_t1_loop.trips) : k0_cond5 L t (BitVec.ofNat 32 t.val) = 1#1 := by
  unfold k0_cond5; simp only [Words.ne_add]; revert t; decide +kernel
theorem cond7_eq (L : grid0.Coords) (t : Fin k0_t1_loop.trips) : k0_cond7 L t (BitVec.ofNat 32 t.val) = if t.val = 0 then 0#1 else 1#1 := by
  unfold k0_cond7; simp only [Words.ne_add]; revert t; decide +kernel

/-! ## The tile's task -/

abbrev cL (L : grid0.Coords) : Fin τ.nSC := (L 0).castLE hcore0
abbrev jL (L : grid0.Coords) : Fin τ.nSub := (L 1).castLE hsub0

abbrev pipe (L : grid0.Coords) : Pipe 262144 100001 where
  N := 64
  base := base L
  hN := by decide
  hb := by have := base_le L; omega
  ids := Memref.whole main_v2_scv
  tbl := (Memref.whole main_v1_scv : Memref sig .scVector .hbm S100001x128 .f32).slice
    (Rect.unit (s := S100001x128) ![0, 0] S100001x128.size inb_S100001x128_S100001x128_0_0) (fun _ => rfl)
  out := Memref.whole main_v3_scv
  slots := Memref.whole cc0_scoped0
  bufs := Memref.whole cc0_scoped2
  sin := cc0_scoped1
  sout := cc0_scoped3
  sg := cc0_scoped4.sem

/-- The tile's task from the arrays' contents. -/
abbrev task (L : grid0.Coords) (d : Dev nD) (q : PosShare TreeShare)
    (fI : Buf (Elt F) ((pipe L).ids.view.loc (V d (cL L) (jL L)))) (fT : Buf (Elt F) ((pipe L).tbl.view.loc (V d (cL L) (jL L))))
    (fO G : Buf (Elt F) ((pipe L).out.view.loc (V d (cL L) (jL L))))
    (hin : (pipe L).InRange (F := F) d (cL L) (jL L) gathers_S100001x128_S128x128 fI)
    (hG : ∀ k, k < 64 → ((pipe L).obl k).view.read (Elt F) G = (pipe L).rowsOf (F := F) d (cL L) (jL L) gathers_S100001x128_S128x128 fI fT hin k) :
    Task F 262144 100001 := ⟨pipe L, d, cL L, jL L, gathers_S100001x128_S128x128, q, fI, fT, fO, G, hin, hG⟩

/-- The words carried into trip `k`. -/
def acc (k : ℕ) : BitVec 32 × BitVec 32 × BitVec 32 × BitVec 32 × BitVec 32 :=
  (BitVec.ofNat 32 (min (k + 1) 64), BitVec.ofNat 32 k, BitVec.ofNat 32 k, BitVec.ofNat 32 (k - 1), BitVec.ofNat 32 (k % 64))

section Trip

variable (L : grid0.Coords) (d : Dev nD) (q : PosShare TreeShare)
    (fI : Buf (Elt F) ((pipe L).ids.view.loc (V d (cL L) (jL L)))) (fT : Buf (Elt F) ((pipe L).tbl.view.loc (V d (cL L) (jL L))))
    (fO G : Buf (Elt F) ((pipe L).out.view.loc (V d (cL L) (jL L))))
    (hin : (pipe L).InRange (F := F) d (cL L) (jL L) gathers_S100001x128_S128x128 fI)
    (hG : ∀ k, k < 64 → ((pipe L).obl k).view.read (Elt F) G = (pipe L).rowsOf (F := F) d (cL L) (jL L) gathers_S100001x128_S128x128 fI fT hin k)
    (O : CellTallies nD τ sig (HIx 2)) (W : Waits sig (HIx 2)) (v4 : BitVec 32)

/-- The state before trip `k`, with the words it carries. -/
def inv (k : ℕ) (a : BitVec 32 × BitVec 32 × BitVec 32 × BitVec 32 × BitVec 32) : sProp (MT nD τ sig (HIx 2) (Elt F) ℕ UU ℕ) :=
  iprop(⌜a = acc k⌝ ∗ (task L d q fI fT fO G hin hG).waits O ∗ (task L d q fI fT fO G hin hG).stA k ∗ (task L d q fI fT fO G hin hG).owe O W)

theorem chk (k : ℕ) (hk : k < 64) (t : Fin k0_t1_loop.trips) (ht : t.val = k) :
    k0_chk1 L t (BitVec.ofNat 32 (min (k + 1) 64)) (BitVec.ofNat 32 k) (BitVec.ofNat 32 k) (BitVec.ofNat 32 (k - 1)) (BitVec.ofNat 32 k) := by
  have hm : min (k + 1) 64 < 2 ^ 32 := by omega
  unfold k0_chk1
  rw [off4_eq _ hm, off6_eq _ hm, off5_eq L k hk, off7_eq k (by omega), off8_eq L k hk, off9_eq k (by omega), off12_eq k (by omega),
    off13_eq L k hk, off14_eq k (by omega), off15_eq (k - 1) (by omega), off17_eq (k - 1) (by omega)]
  refine ⟨fun _ => Pipe.slot_inb _, fun _ => (pipe L).ids_inb _, fun _ => Pipe.sem_inb _, fun _ => Pipe.slot_inb _, fun _ => (pipe L).ids_inb _,
    fun _ => Pipe.sem_inb _, fun _ => Pipe.buf_inb _, fun _ => (pipe L).out_inb _, fun _ => Pipe.sem_inb _, fun _ => Pipe.buf_inb _,
    fun h7 => ?_, fun _ => Pipe.sem_inb _⟩
  subst ht
  rw [cond7_eq] at h7
  obtain ⟨k, hk'⟩ : ∃ k, t.val = k + 1 := ⟨t.val - 1, by split at h7 <;> [exact absurd h7 (by decide); omega]⟩
  rw [hk'] at hk ⊢
  rw [off16_eq L k hk]
  exact (pipe L).out_inb _

theorem chk2 (k : ℕ) (hk : k < 64) : k0_chk2 (BitVec.ofNat 32 k) := by
  unfold k0_chk2; rw [off10_eq k (by omega)]; exact Pipe.buf_inb _
theorem chk3 (k : ℕ) (hk : k < 64) : k0_chk3 (BitVec.ofNat 32 k) := by
  unfold k0_chk3; rw [off11_eq k (by omega)]; exact Pipe.slot_inb _

theorem acc_eq (k : ℕ) (hk : k < 64) : acc k
    = (BitVec.ofNat 32 (min (k + 1) 64), BitVec.ofNat 32 k, BitVec.ofNat 32 k, BitVec.ofNat 32 (k - 1), BitVec.ofNat 32 k) := by
  unfold acc; rw [Nat.mod_eq_of_lt hk]

/-- What a trip hands the next. -/
theorem acc_succ (t : Fin k0_t1_loop.trips) (v4 : BitVec 32) :
    (let k := BitVec.ofNat 32 t.val
     let iv := Scf.iv 0#32 1#32 t.val
     let nx := Scalar.select (Scalar.cmpi .eq (Scalar.select 1#1 (Scalar.addi k 1#32) k) 64#32) 0#32 (Scalar.select 1#1 (Scalar.addi k 1#32) k)
     let pv := Scalar.select (Scalar.cmpi .eq (Scalar.select 1#1 (Scalar.subi k 1#32) k) 4294967295#32) 63#32 (Scalar.select 1#1 (Scalar.subi k 1#32) k)
     let ne_nx := Scalar.cmpi .ne (Scalar.addi k v4) (Scalar.addi nx v4)
     let ne_pv := Scalar.cmpi .ne (Scalar.addi k v4) (Scalar.addi pv v4)
     let last := Scalar.ori ne_nx (Scalar.cmpi .eq iv 63#32)
     ((Scalar.select (Scalar.andi (Scalar.andi ne_nx (Scalar.xori (Scalar.cmpi .sge iv 63#32) 1#1)) 1#1)
          (Scalar.addi (BitVec.ofNat 32 (min (t.val + 1) 64)) 1#32) (BitVec.ofNat 32 (min (t.val + 1) 64)),
        Scalar.select last (Scalar.addi k 1#32) k,
        Scalar.select (Scalar.andi last 1#1) (Scalar.addi k 1#32) k,
        Scalar.select (Scalar.andi (Scalar.andi ne_pv (Scalar.xori (Scalar.cmpi .eq iv 0#32) 1#1)) 1#1)
          (Scalar.addi (BitVec.ofNat 32 (t.val - 1)) 1#32) (BitVec.ofNat 32 (t.val - 1)),
        nx) : BitVec 32 × BitVec 32 × BitVec 32 × BitVec 32 × BitVec 32)) = acc (t.val + 1) := by
  simp only [Words.ne_add]; unfold acc; revert t; decide +kernel

set_option maxHeartbeats 4000000 in
/-- One trip takes the pipeline from before block `t` to before the next. -/
theorem trip (t : Fin k0_t1_loop.trips) (a : BitVec 32 × BitVec 32 × BitVec 32 × BitVec 32 × BitVec 32) :
    inv L d q fI fT fO G hin hG O W t.val a
      ⊢ wp frame (wpE (defs₀ (F := F)) Variants.none (V d (cL L) (jL L)) none) Set.univ
          (k0_t1_body L (Memref.whole main_v1_scv) (Memref.isWhole_whole _) (Memref.whole main_v2_scv) (Memref.isWhole_whole _)
            (Memref.whole main_v3_scv) (Memref.isWhole_whole _) (Memref.whole cc0_scoped0) (Memref.isWhole_whole _) cc0_scoped1
            (Memref.whole cc0_scoped2) (Memref.isWhole_whole _) cc0_scoped3 cc0_scoped4 v4 t a)
          (inv L d q fI fT fO G hin hG O W (t.val + 1)) := by
  have ht : t.val < 64 := trips_eq ▸ t.isLt
  unfold inv
  iintro ⟨%ha, #Hw, HA, HO⟩
  subst ha
  have hA := acc_eq t.val ht
  rw [hA]
  unfold k0_t1_body
  simp only [k0_part1_eq_skeleton, k0_part2_eq_skeleton]
  unfold k0_part1_skel k0_part2_skel
  simp only [ite_self, bind_assoc, Prog.bind_lift, Prog.bind_op, Prog.bind_ret, Prog.pure_eq_ret]
  rw [wp_assume_of Variants.none _ _ _ (chk3 t.val ht), wp_assume_of Variants.none _ _ _ (chk2 t.val ht),
    wp_assume_of Variants.none _ _ _ (chk L t.val ht t rfl)]
  have hfin := acc_succ t v4
  dsimp only at hfin
  have T1 : t.val + 1 < 64 ∨ t.val + 1 = 64 := by omega
  rcases T1 with h1 | h1
  on_goal 1 =>
    rw [dif_pos (show k0_cond1 L t (BitVec.ofNat 32 t.val) = 1#1 by rw [cond1_eq, if_pos h1])]
    simp only [ite_self, bind_assoc, Prog.bind_lift, Prog.bind_op, Prog.bind_ret, Prog.pure_eq_ret]
    iapply ((task L d q fI fT fO G hin hG).step_fetch Variants.none none t.val h1
      ((pipe L).ibl_eq (t.val + 1) (off5_eq L t.val ht) _) ((pipe L).isl_eq (t.val + 1) (by rw [off4_eq _ (by omega), Nat.min_eq_left h1.le]) _)
      ((pipe L).semI_eq (t.val + 1) (by rw [off6_eq _ (by omega), Nat.min_eq_left h1.le]) _)) $$ HA
    iintro HB
  on_goal 2 =>
    rw [dif_neg (show ¬ k0_cond1 L t (BitVec.ofNat 32 t.val) = 1#1 by rw [cond1_eq, if_neg (by omega)]; decide)]
    simp only [ite_self, bind_assoc, Prog.bind_lift, Prog.bind_op, Prog.bind_ret, Prog.pure_eq_ret]
    ihave HB := ((task L d q fI fT fO G hin hG).skip_fetch t.val h1) $$ HA
  all_goals
    rw [hfin]
    clear hfin hA
    rw [dif_pos (cond2_eq L t)]
    simp only [bind_assoc, Prog.bind_lift, Prog.bind_op, Prog.bind_ret, Prog.pure_eq_ret]
    iapply ((task L d q fI fT fO G hin hG).step_waitIn Variants.none none t.val ht
      ((pipe L).isl_eq t.val (off7_eq t.val (by omega)) _) ((pipe L).semI_eq t.val (off9_eq t.val (by omega)) _)) $$ [HB HO]
    · isplitl []
      · iexact Hw
      · isplitl [HB]; iexact HB; iexact HO
    iintro ⟨HC, HO⟩
    iapply ((task L d q fI fT fO G hin hG).step_gather Variants.none none t.val rfl
      ((pipe L).osl_eq t.val (off10_eq t.val (by omega)) _) ((pipe L).lst_eq t.val (off11_eq t.val (by omega)) _ _) rfl) $$ HC
    iintro HD
    unfold SparseCore.waitIndirectGather
    simp only [Prog.bind_op, Prog.bind_ret]
    iapply ((task L d q fI fT fO G hin hG).step_waitRows Variants.none none t.val
      ((pipe L).osl_eq t.val (off10_eq t.val (by omega)) _) rfl) $$ [HD HO]
    · isplitl []
      · iexact Hw
      · isplitl [HD]; iexact HD; iexact HO
    iintro ⟨HE, HO⟩
    rw [dif_pos (cond5_eq L t)]
    iapply ((task L d q fI fT fO G hin hG).step_put Variants.none none t.val ht
      ((pipe L).osl_eq t.val (off12_eq t.val (by omega)) _) ((pipe L).obl_eq t.val (off13_eq L t.val ht) _)
      ((pipe L).semO_eq t.val (off14_eq t.val (by omega)) _)) $$ HE
    iintro HF
    have T2 : t.val = 0 ∨ ∃ k, t.val = k + 1 := by cases t.val <;> simp
    rcases T2 with h2 | ⟨k, h2⟩
    · rw [dif_neg (show ¬ k0_cond7 L t (BitVec.ofNat 32 t.val) = 1#1 by rw [cond7_eq, if_pos h2]; decide)]
      ihave HF := (h2 ▸ (task L d q fI fT fO G hin hG).skip_waitOut : (task L d q fI fT fO G hin hG).stF t.val ⊢ (task L d q fI fT fO G hin hG).stA (t.val + 1)) $$ HF
      rw [wp_ret]; imodintro
      isplitl []
      · ipureintro; rfl
      · isplitl []; iexact Hw
        isplitl [HF]; iexact HF; iexact HO
    · rw [dif_pos (show k0_cond7 L t (BitVec.ofNat 32 t.val) = 1#1 by rw [cond7_eq, if_neg (by omega)])]
      iapply ((task L d q fI fT fO G hin hG).step_waitOut Variants.none none k
        ((pipe L).obl_eq k (by rw [h2]; exact off16_eq L k (by omega)) _) ((pipe L).semO_eq k (by rw [h2]; exact off17_eq k (by omega)) _)) $$ [HF HO]
      · isplitl []
        · iexact Hw
        · isplitl [HF]
          · rw [h2]; iexact HF
          · iexact HO
      iintro ⟨HA, HO⟩
      rw [wp_ret]; imodintro
      isplitl []
      · ipureintro; rfl
      · isplitl []; iexact Hw
        rw [h2]
        isplitl [HA]; iexact HA; iexact HO

theorem chk4 : k0_chk4 (BitVec.ofNat 32 63) := by
  unfold k0_chk4; rw [off18_eq 63 (by omega), off20_eq 63 (by omega), off21_eq 63 (by omega)]; exact ⟨Pipe.buf_inb _, Pipe.sem_inb _, Pipe.buf_inb _⟩
theorem chk5 : k0_chk5 L (BitVec.ofNat 32 0) := by
  unfold k0_chk5; rw [off19_eq L]; exact (pipe L).out_inb _

set_option maxHeartbeats 4000000 in
/-- A tile's whole task: it leaves its blocks of the output gathered, and everything else as it was. -/
theorem body :
    iprop((task L d q fI fT fO G hin hG).waits O ∗ (task L d q fI fT fO G hin hG).stI ∗ (task L d q fI fT fO G hin hG).owe O W)
      ⊢ wp frame (wpE (defs₀ (F := F)) Variants.none (V d (cL L) (jL L)) none) Set.univ
          (cc0_kern L (Memref.whole main_v1_scv) (Memref.isWhole_whole _) (Memref.whole main_v2_scv) (Memref.isWhole_whole _)
            (Memref.whole main_v3_scv) (Memref.isWhole_whole _) (Memref.whole cc0_scoped0) (Memref.isWhole_whole _) cc0_scoped1
            (Memref.whole cc0_scoped2) (Memref.isWhole_whole _) cc0_scoped3 cc0_scoped4)
          fun _ => iprop((task L d q fI fT fO G hin hG).stZ ∗ (task L d q fI fT fO G hin hG).owe O W) := by
  iintro ⟨#Hw, HI, HO⟩
  simp only [cc0_kern_eq_skeleton]
  unfold cc0_kern_skel
  simp only [k0_part3_eq_skeleton, k0_part4_eq_skeleton]
  unfold k0_part3_skel k0_part4_skel
  simp only [bind_assoc, Prog.bind_lift, Prog.bind_op, Prog.bind_ret, Prog.pure_eq_ret]
  iapply ((task L d q fI fT fO G hin hG).step_start Variants.none none
      ((pipe L).ibl_eq 0 (off2_eq L) _) ((pipe L).isl_eq 0 off1_eq _) ((pipe L).semI_eq 0 off3_eq _)) $$ HI
  iintro HA
  iapply (Scf.wp_for_bind (I := inv L d q fI fT fO G hin hG O W) (hbody := fun t a => trip L d q fI fT fO G hin hG O W _ t a)) $$ [HA HO]
  · unfold inv
    isplitl []
    · ipureintro; rfl
    · isplitl []; iexact Hw
      isplitl [HA]; iexact HA; iexact HO
  iintro %a HI
  unfold inv
  icases HI with ⟨%ha, -, HA, HO⟩
  subst ha
  have e : Scf.trips k0_t1_loop.lb k0_t1_loop.ub k0_t1_loop.st = 64 := trips_eq
  rw [e]
  have e9 : (acc 64).2.2.2.1 = BitVec.ofNat 32 63 := rfl
  have e10 : (acc 64).2.2.2.2 = BitVec.ofNat 32 0 := rfl
  rw [e10, e9, wp_assume_of Variants.none _ _ _ (chk5 L), wp_assume_of Variants.none _ _ _ chk4]
  iapply ((task L d q fI fT fO G hin hG).step_end Variants.none none 63 rfl
    ((pipe L).obl_eq 63 (off19_eq L) _) ((pipe L).semO_eq 63 (off20_eq 63 (by omega)) _)) $$ [HA HO]
  · isplitl []; iexact Hw
    isplitl [HA]; iexact HA; iexact HO
  iintro ⟨HZ, HO⟩
  rw [wp_ret]; imodintro
  isplitl [HZ]; iexact HZ; iexact HO

end Trip

end Cert.Proof.Gather.Call0

end
-- ==== Proof.Call1.lean ====
/-
  The second SparseCore call on a symbolic tile: its words, its task as a `Task`, one trip of its loop, the whole body.
-/
module

public import proofs.«01_k».proof.Proof.Trip
public import proofs.«01_k».proof.Proof.Words
public import proofs.«01_k».proof.Proof.Gen.KernelIdeal.Skeleton

@[expose] public section

noncomputable section

namespace Cert.Proof.Gather.Call1

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The tile's words -/

/-- The tile's first block. -/
def base (L : grid1.Coords) : ℕ := ((L 1).val + 16 * (L 0).val) * 160
theorem base_le (L : grid1.Coords) : base L + 160 ≤ 5120 := by
  have h0 : (L 0).val < 2 := (L 0).isLt
  have h1 : (L 1).val < 16 := (L 1).isLt
  unfold base; omega

theorem trips_eq : k1_t1_loop.trips = 160 := by decide +kernel

theorem off1_eq : k1_off1 = ![0 % 2, 0, 0] := by decide +kernel
theorem off3_eq : k1_off3 = ![0 % 2] := by decide +kernel
theorem off2_eq (L : grid1.Coords) : k1_off2 L = ![0, 128 * (base L + 0 % 160)] := by
  have := base_le L
  unfold k1_off2
  simp only [Words.base_word]
  rw [Words.add_word 0, Words.mul_word, WordCmp.toNat_ofNat_of_lt (by unfold base at this; omega)]
  unfold base; congr 2; simp
theorem off4_eq (k : ℕ) (hk : k < 2 ^ 32) : k1_off4 (BitVec.ofNat 32 k) = ![k % 2, 0, 0] := by
  unfold k1_off4; simp only [Words.mod_two k hk]
theorem off6_eq (k : ℕ) (hk : k < 2 ^ 32) : k1_off6 (BitVec.ofNat 32 k) = ![k % 2] := by
  unfold k1_off6; simp only [Words.mod_two k hk]
theorem off7_eq (k : ℕ) (hk : k < 2 ^ 32) : k1_off7 (BitVec.ofNat 32 k) = ![k % 2, 0, 0] := by
  unfold k1_off7; simp only [Words.mod_two k hk]
theorem off9_eq (k : ℕ) (hk : k < 2 ^ 32) : k1_off9 (BitVec.ofNat 32 k) = ![k % 2] := by
  unfold k1_off9; simp only [Words.mod_two k hk]
theorem off10_eq (k : ℕ) (hk : k < 2 ^ 32) : k1_off10 (BitVec.ofNat 32 k) = ![k % 2, 0, 0] := by
  unfold k1_off10; simp only [Words.mod_two k hk]
theorem off11_eq (k : ℕ) (hk : k < 2 ^ 32) : k1_off11 (BitVec.ofNat 32 k) = ![k % 2, 0, 0] := by
  unfold k1_off11; simp only [Words.mod_two k hk]
theorem off12_eq (k : ℕ) (hk : k < 2 ^ 32) : k1_off12 (BitVec.ofNat 32 k) = ![k % 2, 0, 0] := by
  unfold k1_off12; simp only [Words.mod_two k hk]
theorem off14_eq (k : ℕ) (hk : k < 2 ^ 32) : k1_off14 (BitVec.ofNat 32 k) = ![k % 2] := by
  unfold k1_off14; simp only [Words.mod_two k hk]
theorem off15_eq (k : ℕ) (hk : k < 2 ^ 32) : k1_off15 (BitVec.ofNat 32 k) = ![k % 2, 0, 0] := by
  unfold k1_off15; simp only [Words.mod_two k hk]
theorem off17_eq (k : ℕ) (hk : k < 2 ^ 32) : k1_off17 (BitVec.ofNat 32 k) = ![k % 2] := by
  unfold k1_off17; simp only [Words.mod_two k hk]
theorem off18_eq (k : ℕ) (hk : k < 2 ^ 32) : k1_off18 (BitVec.ofNat 32 k) = ![k % 2, 0, 0] := by
  unfold k1_off18; simp only [Words.mod_two k hk]
theorem off20_eq (k : ℕ) (hk : k < 2 ^ 32) : k1_off20 (BitVec.ofNat 32 k) = ![k % 2] := by
  unfold k1_off20; simp only [Words.mod_two k hk]
theorem off21_eq (k : ℕ) (hk : k < 2 ^ 32) : k1_off21 (BitVec.ofNat 32 k) = ![k % 2, 0, 0] := by
  unfold k1_off21; simp only [Words.mod_two k hk]

/-- A block's first element, as the word the kernel computes. -/
theorem blk_word (L : grid1.Coords) (k : ℕ) (hk : k < 160) :
    (Scalar.muli 128#32 (Scalar.addi (BitVec.ofNat 32 k) (BitVec.ofNat 32 (base L)))).toNat = 128 * (base L + k % 160) := by
  have := base_le L
  rw [Words.add_word, Words.mul_word, WordCmp.toNat_ofNat_of_lt (by omega), Nat.mod_eq_of_lt hk, Nat.add_comm]
theorem off5_eq (L : grid1.Coords) (k : ℕ) (hk : k < 160) : k1_off5 L (BitVec.ofNat 32 k) = ![0, 128 * (base L + (k + 1) % 160)] := by
  unfold k1_off5
  simp only [Words.base_word, Words.next_word 160 k (by decide) hk]
  rw [show BitVec.ofNat 32 (((L 1).val + 16 * (L 0).val) * 160) = BitVec.ofNat 32 (base L) from rfl, blk_word L _ (Nat.mod_lt _ (by decide)), Nat.mod_mod]
theorem off8_eq (L : grid1.Coords) (k : ℕ) (hk : k < 160) : k1_off8 L (BitVec.ofNat 32 k) = ![0, 128 * (base L + k % 160)] := by
  unfold k1_off8
  simp only [Words.base_word]
  rw [show BitVec.ofNat 32 (((L 1).val + 16 * (L 0).val) * 160) = BitVec.ofNat 32 (base L) from rfl, blk_word L _ hk]
theorem off13_eq (L : grid1.Coords) (k : ℕ) (hk : k < 160) : k1_off13 L (BitVec.ofNat 32 k) = ![128 * (base L + k % 160), 0] := by
  unfold k1_off13
  simp only [Words.base_word]
  rw [show BitVec.ofNat 32 (((L 1).val + 16 * (L 0).val) * 160) = BitVec.ofNat 32 (base L) from rfl, blk_word L _ hk]
theorem off16_eq (L : grid1.Coords) (k : ℕ) (hk : k + 1 < 160) : k1_off16 L (BitVec.ofNat 32 (k + 1)) = ![128 * (base L + k % 160), 0] := by
  unfold k1_off16
  simp only [Words.base_word, Words.prev_word 160 (k + 1) (by decide) (by decide) hk, Nat.add_eq_zero_iff, one_ne_zero, and_false, if_false, Nat.add_sub_cancel]
  rw [show BitVec.ofNat 32 (((L 1).val + 16 * (L 0).val) * 160) = BitVec.ofNat 32 (base L) from rfl, blk_word L _ (by omega)]
theorem off19_eq (L : grid1.Coords) : k1_off19 L (BitVec.ofNat 32 0) = ![128 * (base L + 159 % 160), 0] := by
  unfold k1_off19
  simp only [Words.base_word, Words.prev_word 160 0 (by decide) (by decide) (by decide), if_true]
  rw [show BitVec.ofNat 32 (((L 1).val + 16 * (L 0).val) * 160) = BitVec.ofNat 32 (base L) from rfl, blk_word L _ (by omega)]

theorem cond1_eq (L : grid1.Coords) (t : Fin k1_t1_loop.trips) : k1_cond1 L t (BitVec.ofNat 32 t.val) = if t.val + 1 < 160 then 1#1 else 0#1 := by
  unfold k1_cond1; simp only [Words.ne_add]; revert t; decide +kernel
theorem cond2_eq (L : grid1.Coords) (t : Fin k1_t1_loop.trips) : k1_cond2 L t (BitVec.ofNat 32 t.val) = 1#1 := by
  unfold k1_cond2; simp only [Words.ne_add]; revert t; decide +kernel
theorem cond5_eq (L : grid1.Coords) (t : Fin k1_t1_loop.trips) : k1_cond5 L t (BitVec.ofNat 32 t.val) = 1#1 := by
  unfold k1_cond5; simp only [Words.ne_add]; revert t; decide +kernel
theorem cond7_eq (L : grid1.Coords) (t : Fin k1_t1_loop.trips) : k1_cond7 L t (BitVec.ofNat 32 t.val) = if t.val = 0 then 0#1 else 1#1 := by
  unfold k1_cond7; simp only [Words.ne_add]; revert t; decide +kernel

/-! ## The tile's task -/

abbrev cL (L : grid1.Coords) : Fin τ.nSC := (L 0).castLE hcore1
abbrev jL (L : grid1.Coords) : Fin τ.nSub := (L 1).castLE hsub1

abbrev pipe (L : grid1.Coords) : Pipe 655360 262144 where
  N := 160
  base := base L
  hN := by decide
  hb := by have := base_le L; omega
  ids := Memref.whole main_v9_scv
  tbl := (Memref.whole main_v3_scv : Memref sig .scVector .hbm S262144x128 .f32).slice
    (Rect.unit (s := S262144x128) ![0, 0] S262144x128.size inb_S262144x128_S262144x128_0_0) (fun _ => rfl)
  out := Memref.whole main_v10_scv
  slots := Memref.whole cc1_scoped0
  bufs := Memref.whole cc1_scoped2
  sin := cc1_scoped1
  sout := cc1_scoped3
  sg := cc1_scoped4.sem

/-- The tile's task from the arrays' contents. -/
abbrev task (L : grid1.Coords) (d : Dev nD) (q : PosShare TreeShare)
    (fI : Buf (Elt F) ((pipe L).ids.view.loc (V d (cL L) (jL L)))) (fT : Buf (Elt F) ((pipe L).tbl.view.loc (V d (cL L) (jL L))))
    (fO G : Buf (Elt F) ((pipe L).out.view.loc (V d (cL L) (jL L))))
    (hin : (pipe L).InRange (F := F) d (cL L) (jL L) gathers_S262144x128_S128x128 fI)
    (hG : ∀ k, k < 160 → ((pipe L).obl k).view.read (Elt F) G = (pipe L).rowsOf (F := F) d (cL L) (jL L) gathers_S262144x128_S128x128 fI fT hin k) :
    Task F 655360 262144 := ⟨pipe L, d, cL L, jL L, gathers_S262144x128_S128x128, q, fI, fT, fO, G, hin, hG⟩

/-- The words carried into trip `k`. -/
def acc (k : ℕ) : BitVec 32 × BitVec 32 × BitVec 32 × BitVec 32 × BitVec 32 :=
  (BitVec.ofNat 32 (min (k + 1) 160), BitVec.ofNat 32 k, BitVec.ofNat 32 k, BitVec.ofNat 32 (k - 1), BitVec.ofNat 32 (k % 160))

section Trip

variable (L : grid1.Coords) (d : Dev nD) (q : PosShare TreeShare)
    (fI : Buf (Elt F) ((pipe L).ids.view.loc (V d (cL L) (jL L)))) (fT : Buf (Elt F) ((pipe L).tbl.view.loc (V d (cL L) (jL L))))
    (fO G : Buf (Elt F) ((pipe L).out.view.loc (V d (cL L) (jL L))))
    (hin : (pipe L).InRange (F := F) d (cL L) (jL L) gathers_S262144x128_S128x128 fI)
    (hG : ∀ k, k < 160 → ((pipe L).obl k).view.read (Elt F) G = (pipe L).rowsOf (F := F) d (cL L) (jL L) gathers_S262144x128_S128x128 fI fT hin k)
    (O : CellTallies nD τ sig (HIx 2)) (W : Waits sig (HIx 2)) (v4 : BitVec 32)

/-- The state before trip `k`, with the words it carries. -/
def inv (k : ℕ) (a : BitVec 32 × BitVec 32 × BitVec 32 × BitVec 32 × BitVec 32) : sProp (MT nD τ sig (HIx 2) (Elt F) ℕ UU ℕ) :=
  iprop(⌜a = acc k⌝ ∗ (task L d q fI fT fO G hin hG).waits O ∗ (task L d q fI fT fO G hin hG).stA k ∗ (task L d q fI fT fO G hin hG).owe O W)

theorem chk (k : ℕ) (hk : k < 160) (t : Fin k1_t1_loop.trips) (ht : t.val = k) :
    k1_chk1 L t (BitVec.ofNat 32 (min (k + 1) 160)) (BitVec.ofNat 32 k) (BitVec.ofNat 32 k) (BitVec.ofNat 32 (k - 1)) (BitVec.ofNat 32 k) := by
  have hm : min (k + 1) 160 < 2 ^ 32 := by omega
  unfold k1_chk1
  rw [off4_eq _ hm, off6_eq _ hm, off5_eq L k hk, off7_eq k (by omega), off8_eq L k hk, off9_eq k (by omega), off12_eq k (by omega),
    off13_eq L k hk, off14_eq k (by omega), off15_eq (k - 1) (by omega), off17_eq (k - 1) (by omega)]
  refine ⟨fun _ => Pipe.slot_inb _, fun _ => (pipe L).ids_inb _, fun _ => Pipe.sem_inb _, fun _ => Pipe.slot_inb _, fun _ => (pipe L).ids_inb _,
    fun _ => Pipe.sem_inb _, fun _ => Pipe.buf_inb _, fun _ => (pipe L).out_inb _, fun _ => Pipe.sem_inb _, fun _ => Pipe.buf_inb _,
    fun h7 => ?_, fun _ => Pipe.sem_inb _⟩
  subst ht
  rw [cond7_eq] at h7
  obtain ⟨k, hk'⟩ : ∃ k, t.val = k + 1 := ⟨t.val - 1, by split at h7 <;> [exact absurd h7 (by decide); omega]⟩
  rw [hk'] at hk ⊢
  rw [off16_eq L k hk]
  exact (pipe L).out_inb _

theorem chk2 (k : ℕ) (hk : k < 160) : k1_chk2 (BitVec.ofNat 32 k) := by
  unfold k1_chk2; rw [off10_eq k (by omega)]; exact Pipe.buf_inb _
theorem chk3 (k : ℕ) (hk : k < 160) : k1_chk3 (BitVec.ofNat 32 k) := by
  unfold k1_chk3; rw [off11_eq k (by omega)]; exact Pipe.slot_inb _

theorem acc_eq (k : ℕ) (hk : k < 160) : acc k
    = (BitVec.ofNat 32 (min (k + 1) 160), BitVec.ofNat 32 k, BitVec.ofNat 32 k, BitVec.ofNat 32 (k - 1), BitVec.ofNat 32 k) := by
  unfold acc; rw [Nat.mod_eq_of_lt hk]

/-- What a trip hands the next. -/
theorem acc_succ (t : Fin k1_t1_loop.trips) (v4 : BitVec 32) :
    (let k := BitVec.ofNat 32 t.val
     let iv := Scf.iv 0#32 1#32 t.val
     let nx := Scalar.select (Scalar.cmpi .eq (Scalar.select 1#1 (Scalar.addi k 1#32) k) 160#32) 0#32 (Scalar.select 1#1 (Scalar.addi k 1#32) k)
     let pv := Scalar.select (Scalar.cmpi .eq (Scalar.select 1#1 (Scalar.subi k 1#32) k) 4294967295#32) 159#32 (Scalar.select 1#1 (Scalar.subi k 1#32) k)
     let ne_nx := Scalar.cmpi .ne (Scalar.addi k v4) (Scalar.addi nx v4)
     let ne_pv := Scalar.cmpi .ne (Scalar.addi k v4) (Scalar.addi pv v4)
     let last := Scalar.ori ne_nx (Scalar.cmpi .eq iv 159#32)
     ((Scalar.select (Scalar.andi (Scalar.andi ne_nx (Scalar.xori (Scalar.cmpi .sge iv 159#32) 1#1)) 1#1)
          (Scalar.addi (BitVec.ofNat 32 (min (t.val + 1) 160)) 1#32) (BitVec.ofNat 32 (min (t.val + 1) 160)),
        Scalar.select last (Scalar.addi k 1#32) k,
        Scalar.select (Scalar.andi last 1#1) (Scalar.addi k 1#32) k,
        Scalar.select (Scalar.andi (Scalar.andi ne_pv (Scalar.xori (Scalar.cmpi .eq iv 0#32) 1#1)) 1#1)
          (Scalar.addi (BitVec.ofNat 32 (t.val - 1)) 1#32) (BitVec.ofNat 32 (t.val - 1)),
        nx) : BitVec 32 × BitVec 32 × BitVec 32 × BitVec 32 × BitVec 32)) = acc (t.val + 1) := by
  simp only [Words.ne_add]; unfold acc; revert t; decide +kernel

set_option maxHeartbeats 4000000 in
/-- One trip takes the pipeline from before block `t` to before the next. -/
theorem trip (t : Fin k1_t1_loop.trips) (a : BitVec 32 × BitVec 32 × BitVec 32 × BitVec 32 × BitVec 32) :
    inv L d q fI fT fO G hin hG O W t.val a
      ⊢ wp frame (wpE (defs₀ (F := F)) Variants.none (V d (cL L) (jL L)) none) Set.univ
          (k1_t1_body L (Memref.whole main_v3_scv) (Memref.isWhole_whole _) (Memref.whole main_v9_scv) (Memref.isWhole_whole _)
            (Memref.whole main_v10_scv) (Memref.isWhole_whole _) (Memref.whole cc1_scoped0) (Memref.isWhole_whole _) cc1_scoped1
            (Memref.whole cc1_scoped2) (Memref.isWhole_whole _) cc1_scoped3 cc1_scoped4 v4 t a)
          (inv L d q fI fT fO G hin hG O W (t.val + 1)) := by
  have ht : t.val < 160 := trips_eq ▸ t.isLt
  unfold inv
  iintro ⟨%ha, #Hw, HA, HO⟩
  subst ha
  have hA := acc_eq t.val ht
  rw [hA]
  unfold k1_t1_body
  simp only [k1_part1_eq_skeleton, k1_part2_eq_skeleton]
  unfold k1_part1_skel k1_part2_skel
  simp only [ite_self, bind_assoc, Prog.bind_lift, Prog.bind_op, Prog.bind_ret, Prog.pure_eq_ret]
  rw [wp_assume_of Variants.none _ _ _ (chk3 t.val ht), wp_assume_of Variants.none _ _ _ (chk2 t.val ht),
    wp_assume_of Variants.none _ _ _ (chk L t.val ht t rfl)]
  have hfin := acc_succ t v4
  dsimp only at hfin
  have T1 : t.val + 1 < 160 ∨ t.val + 1 = 160 := by omega
  rcases T1 with h1 | h1
  on_goal 1 =>
    rw [dif_pos (show k1_cond1 L t (BitVec.ofNat 32 t.val) = 1#1 by rw [cond1_eq, if_pos h1])]
    simp only [ite_self, bind_assoc, Prog.bind_lift, Prog.bind_op, Prog.bind_ret, Prog.pure_eq_ret]
    iapply ((task L d q fI fT fO G hin hG).step_fetch Variants.none none t.val h1
      ((pipe L).ibl_eq (t.val + 1) (off5_eq L t.val ht) _) ((pipe L).isl_eq (t.val + 1) (by rw [off4_eq _ (by omega), Nat.min_eq_left h1.le]) _)
      ((pipe L).semI_eq (t.val + 1) (by rw [off6_eq _ (by omega), Nat.min_eq_left h1.le]) _)) $$ HA
    iintro HB
  on_goal 2 =>
    rw [dif_neg (show ¬ k1_cond1 L t (BitVec.ofNat 32 t.val) = 1#1 by rw [cond1_eq, if_neg (by omega)]; decide)]
    simp only [ite_self, bind_assoc, Prog.bind_lift, Prog.bind_op, Prog.bind_ret, Prog.pure_eq_ret]
    ihave HB := ((task L d q fI fT fO G hin hG).skip_fetch t.val h1) $$ HA
  all_goals
    rw [hfin]
    clear hfin hA
    rw [dif_pos (cond2_eq L t)]
    simp only [bind_assoc, Prog.bind_lift, Prog.bind_op, Prog.bind_ret, Prog.pure_eq_ret]
    iapply ((task L d q fI fT fO G hin hG).step_waitIn Variants.none none t.val ht
      ((pipe L).isl_eq t.val (off7_eq t.val (by omega)) _) ((pipe L).semI_eq t.val (off9_eq t.val (by omega)) _)) $$ [HB HO]
    · isplitl []
      · iexact Hw
      · isplitl [HB]; iexact HB; iexact HO
    iintro ⟨HC, HO⟩
    iapply ((task L d q fI fT fO G hin hG).step_gather Variants.none none t.val rfl
      ((pipe L).osl_eq t.val (off10_eq t.val (by omega)) _) ((pipe L).lst_eq t.val (off11_eq t.val (by omega)) _ _) rfl) $$ HC
    iintro HD
    unfold SparseCore.waitIndirectGather
    simp only [Prog.bind_op, Prog.bind_ret]
    iapply ((task L d q fI fT fO G hin hG).step_waitRows Variants.none none t.val
      ((pipe L).osl_eq t.val (off10_eq t.val (by omega)) _) rfl) $$ [HD HO]
    · isplitl []
      · iexact Hw
      · isplitl [HD]; iexact HD; iexact HO
    iintro ⟨HE, HO⟩
    rw [dif_pos (cond5_eq L t)]
    iapply ((task L d q fI fT fO G hin hG).step_put Variants.none none t.val ht
      ((pipe L).osl_eq t.val (off12_eq t.val (by omega)) _) ((pipe L).obl_eq t.val (off13_eq L t.val ht) _)
      ((pipe L).semO_eq t.val (off14_eq t.val (by omega)) _)) $$ HE
    iintro HF
    have T2 : t.val = 0 ∨ ∃ k, t.val = k + 1 := by cases t.val <;> simp
    rcases T2 with h2 | ⟨k, h2⟩
    · rw [dif_neg (show ¬ k1_cond7 L t (BitVec.ofNat 32 t.val) = 1#1 by rw [cond7_eq, if_pos h2]; decide)]
      ihave HF := (h2 ▸ (task L d q fI fT fO G hin hG).skip_waitOut : (task L d q fI fT fO G hin hG).stF t.val ⊢ (task L d q fI fT fO G hin hG).stA (t.val + 1)) $$ HF
      rw [wp_ret]; imodintro
      isplitl []
      · ipureintro; rfl
      · isplitl []; iexact Hw
        isplitl [HF]; iexact HF; iexact HO
    · rw [dif_pos (show k1_cond7 L t (BitVec.ofNat 32 t.val) = 1#1 by rw [cond7_eq, if_neg (by omega)])]
      iapply ((task L d q fI fT fO G hin hG).step_waitOut Variants.none none k
        ((pipe L).obl_eq k (by rw [h2]; exact off16_eq L k (by omega)) _) ((pipe L).semO_eq k (by rw [h2]; exact off17_eq k (by omega)) _)) $$ [HF HO]
      · isplitl []
        · iexact Hw
        · isplitl [HF]
          · rw [h2]; iexact HF
          · iexact HO
      iintro ⟨HA, HO⟩
      rw [wp_ret]; imodintro
      isplitl []
      · ipureintro; rfl
      · isplitl []; iexact Hw
        rw [h2]
        isplitl [HA]; iexact HA; iexact HO

theorem chk4 : k1_chk4 (BitVec.ofNat 32 159) := by
  unfold k1_chk4; rw [off18_eq 159 (by omega), off20_eq 159 (by omega), off21_eq 159 (by omega)]; exact ⟨Pipe.buf_inb _, Pipe.sem_inb _, Pipe.buf_inb _⟩
theorem chk5 : k1_chk5 L (BitVec.ofNat 32 0) := by
  unfold k1_chk5; rw [off19_eq L]; exact (pipe L).out_inb _

set_option maxHeartbeats 4000000 in
/-- A tile's whole task: it leaves its blocks of the output gathered, and everything else as it was. -/
theorem body :
    iprop((task L d q fI fT fO G hin hG).waits O ∗ (task L d q fI fT fO G hin hG).stI ∗ (task L d q fI fT fO G hin hG).owe O W)
      ⊢ wp frame (wpE (defs₀ (F := F)) Variants.none (V d (cL L) (jL L)) none) Set.univ
          (cc1_kern L (Memref.whole main_v3_scv) (Memref.isWhole_whole _) (Memref.whole main_v9_scv) (Memref.isWhole_whole _)
            (Memref.whole main_v10_scv) (Memref.isWhole_whole _) (Memref.whole cc1_scoped0) (Memref.isWhole_whole _) cc1_scoped1
            (Memref.whole cc1_scoped2) (Memref.isWhole_whole _) cc1_scoped3 cc1_scoped4)
          fun _ => iprop((task L d q fI fT fO G hin hG).stZ ∗ (task L d q fI fT fO G hin hG).owe O W) := by
  iintro ⟨#Hw, HI, HO⟩
  simp only [cc1_kern_eq_skeleton]
  unfold cc1_kern_skel
  simp only [k1_part3_eq_skeleton, k1_part4_eq_skeleton]
  unfold k1_part3_skel k1_part4_skel
  simp only [bind_assoc, Prog.bind_lift, Prog.bind_op, Prog.bind_ret, Prog.pure_eq_ret]
  iapply ((task L d q fI fT fO G hin hG).step_start Variants.none none
      ((pipe L).ibl_eq 0 (off2_eq L) _) ((pipe L).isl_eq 0 off1_eq _) ((pipe L).semI_eq 0 off3_eq _)) $$ HI
  iintro HA
  iapply (Scf.wp_for_bind (I := inv L d q fI fT fO G hin hG O W) (hbody := fun t a => trip L d q fI fT fO G hin hG O W _ t a)) $$ [HA HO]
  · unfold inv
    isplitl []
    · ipureintro; rfl
    · isplitl []; iexact Hw
      isplitl [HA]; iexact HA; iexact HO
  iintro %a HI
  unfold inv
  icases HI with ⟨%ha, -, HA, HO⟩
  subst ha
  have e : Scf.trips k1_t1_loop.lb k1_t1_loop.ub k1_t1_loop.st = 160 := trips_eq
  rw [e]
  have e9 : (acc 160).2.2.2.1 = BitVec.ofNat 32 159 := rfl
  have e10 : (acc 160).2.2.2.2 = BitVec.ofNat 32 0 := rfl
  rw [e10, e9, wp_assume_of Variants.none _ _ _ (chk5 L), wp_assume_of Variants.none _ _ _ chk4]
  iapply ((task L d q fI fT fO G hin hG).step_end Variants.none none 159 rfl
    ((pipe L).obl_eq 159 (off19_eq L) _) ((pipe L).semO_eq 159 (off20_eq 159 (by omega)) _)) $$ [HA HO]
  · isplitl []; iexact Hw
    isplitl [HA]; iexact HA; iexact HO
  iintro ⟨HZ, HO⟩
  rw [wp_ret]; imodintro
  isplitl [HZ]; iexact HZ; iexact HO

end Trip

end Cert.Proof.Gather.Call1

end
-- ==== Proof.Deal.lean ====
/-
  How an array is dealt to the tiles: the list and the output in blocks of 128 rows, the table in shares; a double buffer as
  its two slots; the output as the rows the list names.
-/
module

public import proofs.«01_k».proof.Proof.Trip

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## Blocks -/

/-- Blocks numbered by tile and trip: `32 * N` of them. -/
theorem blk_lt {c i N k : ℕ} (hc : c < 2) (hi : i < 16) (hk : k < N) : (i + 16 * c) * N + k < 32 * N := by
  have : i + 16 * c + 1 ≤ 32 := by omega
  calc (i + 16 * c) * N + k < (i + 16 * c) * N + N := by omega
    _ = (i + 16 * c + 1) * N := (Nat.succ_mul _ _).symm
    _ ≤ 32 * N := Nat.mul_le_mul_right _ this
theorem blk_inj {c i k c' i' k' N : ℕ} (hi : i < 16) (hi' : i' < 16) (hk : k < N) (hk' : k' < N)
    (e : (i + 16 * c) * N + k = (i' + 16 * c') * N + k') : c = c' ∧ i = i' ∧ k = k' := by
  have hN : 0 < N := by omega
  have h1 : ((i + 16 * c) * N + k) / N = i + 16 * c := by
    rw [Nat.add_comm, Nat.add_mul_div_right _ _ hN, Nat.div_eq_of_lt hk, Nat.zero_add]
  have h2 : ((i' + 16 * c') * N + k') / N = i' + 16 * c' := by
    rw [Nat.add_comm, Nat.add_mul_div_right _ _ hN, Nat.div_eq_of_lt hk', Nat.zero_add]
  rw [e, h2] at h1
  have hc : c = c' := by omega
  have hii : i = i' := by omega
  subst hc hii
  exact ⟨rfl, rfl, by omega⟩

/-- An array whose indices a number sorts into `32 * N` blocks is its blocks, by tile and trip. -/
theorem deal3 {ℓ : Loc nD τ sig} {s : Shape} (emb : s.Idx ↪ Idx ℓ) (hemb : Finset.univ.map emb = Finset.univ) (q : PosShare TreeShare) (f : Buf (Elt F) ℓ)
    (N : ℕ) (A : Fin 2 → Fin 16 → ℕ → Finset s.Idx) (κ : s.Idx → ℕ) (hκ : ∀ x, κ x < 32 * N)
    (hA : ∀ c i k, k < N → ∀ x, x ∈ A c i k ↔ κ x = (i.val + 16 * c.val) * N + k) :
    (ℓ ↦{q} f : sProp 𝕄)
      = bigSep Finset.univ fun c : Fin 2 => bigSep Finset.univ fun i : Fin 16 => bigSep (Finset.range N) fun k => ℓ ↦[(A c i k).map emb]{q} f := by
  have hc : ((Finset.univ : Finset (Fin 2)) ×ˢ ((Finset.univ : Finset (Fin 16)) ×ˢ Finset.range N)).biUnion
      (fun t => (A t.1 t.2.1 t.2.2).map emb) = Finset.univ := by
    rw [← hemb]
    ext y
    simp only [Finset.mem_biUnion, Finset.mem_product, Finset.mem_univ, true_and, Finset.mem_range, Finset.mem_map]
    constructor
    · rintro ⟨t, ht, x, hx, e⟩; exact ⟨x, e⟩
    · rintro ⟨x, e⟩
      have hN : 0 < N := by have := hκ x; omega
      have h32 : κ x / N < 32 := (Nat.div_lt_iff_lt_mul hN).2 (hκ x)
      refine ⟨(⟨κ x / N / 16, by omega⟩, ⟨κ x / N % 16, by omega⟩, κ x % N), Nat.mod_lt _ hN, x, ?_, e⟩
      rw [hA _ _ _ (Nat.mod_lt _ hN)]
      show κ x = (κ x / N % 16 + 16 * (κ x / N / 16)) * N + κ x % N
      rw [Nat.mod_add_div, Nat.mul_comm, Nat.div_add_mod]
  rw [show (ℓ ↦{q} f : sProp 𝕄) = ℓ ↦[((Finset.univ : Finset (Fin 2)) ×ˢ ((Finset.univ : Finset (Fin 16)) ×ˢ Finset.range N)).biUnion
      (fun t => (A t.1 t.2.1 t.2.2).map emb)]{q} f by rw [hc], pointsTo_biUnion]
  · rw [SparseCore.bigSep_product]
    refine bigSep_congr fun c _ => ?_
    rw [SparseCore.bigSep_product]
  · intro t ht t' ht' hne
    rw [Finset.disjoint_map]
    rw [Finset.disjoint_left]
    intro x hx hx'
    have hk : t.2.2 < N := Finset.mem_range.1 (Finset.mem_product.1 (Finset.mem_product.1 ht).2).2
    have hk' : t'.2.2 < N := Finset.mem_range.1 (Finset.mem_product.1 (Finset.mem_product.1 ht').2).2
    rw [hA _ _ _ hk] at hx; rw [hA _ _ _ hk'] at hx'
    obtain ⟨h1, h2, h3⟩ := blk_inj t.2.1.isLt t'.2.1.isLt hk hk' (hx.symm.trans hx')
    exact hne (Prod.ext (Fin.ext h1) (Prod.ext (Fin.ext h2) h3))

/-- Tile `(c, i)`'s share of what every tile reads. -/
def share (c : Fin 2) (i : Fin 16) : PosShare TreeShare :=
  Transfers.dealOf (Transfers.dealOf fullShare (Finset.univ : Finset (Fin 2)) c) (Finset.univ : Finset (Fin 16)) i
theorem deal_share {ℓ : Loc nD τ sig} (f : Buf (Elt F) ℓ) :
    (ℓ ↦{fullShare} f : sProp 𝕄) = bigSep Finset.univ fun c : Fin 2 => bigSep Finset.univ fun i : Fin 16 => ℓ ↦{share c i} f := by
  rw [Transfers.pointsTo_deal (Finset.univ : Finset (Fin 2)) Finset.univ_nonempty fullShare]
  refine bigSep_congr fun c _ => ?_
  rw [Transfers.pointsTo_deal (Finset.univ : Finset (Fin 16)) Finset.univ_nonempty]
  rfl

/-- A block of 128 rows, of 128 words of a list. -/
theorem mem_rows {M b : ℕ} (h : ∀ a, (![128 * b, 0] : Fin 2 → ℕ) a + S128x128.size a ≤ (⟨2, ![M, 128]⟩ : Shape).size a) (x : (⟨2, ![M, 128]⟩ : Shape).Idx) :
    x ∈ (Rect.unit (s := ⟨2, ![M, 128]⟩) ![128 * b, 0] S128x128.size h).set ↔ (x 0).val / 128 = b := by
  rw [Rect.mem_set_unit]
  constructor
  · intro H; have h0 := H 0
    simp at h0
    omega
  · intro H a
    have h1 : (x 1).val < 128 := (x 1).isLt
    fin_cases a <;> simp <;> omega
theorem mem_words {M b : ℕ} (h : ∀ a, (![0, 128 * b] : Fin 2 → ℕ) a + S1x128.size a ≤ (⟨2, ![1, M]⟩ : Shape).size a) (x : (⟨2, ![1, M]⟩ : Shape).Idx) :
    x ∈ (Rect.unit (s := ⟨2, ![1, M]⟩) ![0, 128 * b] S1x128.size h).set ↔ (x 1).val / 128 = b := by
  rw [Rect.mem_set_unit]
  constructor
  · intro H; have h0 := H 1
    simp at h0
    omega
  · intro H a
    have h1 : (x 0).val < 1 := (x 0).isLt
    fin_cases a <;> simp <;> omega

/-! ## A double buffer -/

/-- An array in two halves, each at some contents. -/
theorem halves {ℓ : Loc nD τ sig} {s : Shape} (emb : s.Idx ↪ Idx ℓ) (hemb : Finset.univ.map emb = Finset.univ)
    (A : ℕ → Finset s.Idx) (κ : s.Idx → ℕ) (hκ : ∀ x, κ x < 2) (hA : ∀ k x, x ∈ A k ↔ κ x = k % 2) :
    (iprop(∃ f : Buf (Elt F) ℓ, ℓ ↦{fullShare} f) : sProp 𝕄)
      = iprop((∃ f : Buf (Elt F) ℓ, ℓ ↦[(A 0).map emb]{fullShare} f) ∗ (∃ f : Buf (Elt F) ℓ, ℓ ↦[(A 1).map emb]{fullShare} f)) := by
  have hd : Disjoint ((A 0).map emb) ((A 1).map emb) := by
    rw [Finset.disjoint_map, Finset.disjoint_left]
    intro x h0 h1
    rw [hA] at h0 h1; omega
  have hu : (A 0).map emb ∪ (A 1).map emb = Finset.univ := by
    rw [← hemb, ← Finset.map_union]; congr 1
    ext x; simp only [Finset.mem_union, hA, Finset.mem_univ, iff_true]
    have := hκ x; omega
  have hdis : ∀ t ∈ (Finset.univ : Finset (Fin 2)), ∀ t' ∈ (Finset.univ : Finset (Fin 2)), t ≠ t' → Disjoint ((A t.val).map emb) ((A t'.val).map emb) := by
    intro t _ t' _ hne
    fin_cases t <;> fin_cases t' <;> first | exact absurd rfl hne | exact hd | exact hd.symm
  have hcov : (Finset.univ : Finset (Fin 2)).biUnion (fun t => (A t.val).map emb) = Finset.univ := by
    rw [← hu]; ext x; simp [Fin.exists_fin_two]
  have h2 (Φ : Fin 2 → sProp 𝕄) : bigSep Finset.univ Φ = iprop(Φ 0 ∗ Φ 1) := by
    rw [show (Finset.univ : Finset (Fin 2)) = {0, 1} by decide, SparseCore.bigSep_insert' (by decide), bigSep_singleton]
  refine BI.Entails.antisymm (show (iprop(∃ f : Buf (Elt F) ℓ, ℓ ↦{fullShare} f) : sProp 𝕄)
      ⊢ iprop((∃ f : Buf (Elt F) ℓ, ℓ ↦[(A 0).map emb]{fullShare} f) ∗ (∃ f : Buf (Elt F) ℓ, ℓ ↦[(A 1).map emb]{fullShare} f)) from ?_)
    (show (iprop((∃ f : Buf (Elt F) ℓ, ℓ ↦[(A 0).map emb]{fullShare} f) ∗ (∃ f : Buf (Elt F) ℓ, ℓ ↦[(A 1).map emb]{fullShare} f)) : sProp 𝕄)
      ⊢ iprop(∃ f : Buf (Elt F) ℓ, ℓ ↦{fullShare} f) from ?_)
  · iintro ⟨%f, H⟩
    have hs : (ℓ ↦{fullShare} f : sProp 𝕄) = iprop((ℓ ↦[(A 0).map emb]{fullShare} f) ∗ ℓ ↦[(A 1).map emb]{fullShare} f) := by
      refine Eq.trans ?_ (h2 fun t : Fin 2 => (ℓ ↦[(A t.val).map emb]{fullShare} f : sProp 𝕄))
      rw [← pointsTo_biUnion Finset.univ (fun t : Fin 2 => (A t.val).map emb) hdis, hcov]
    ihave H' := (Entails.of_eq hs) $$ H
    icases H' with ⟨H0, H1⟩
    isplitl [H0]
    · iexists f; iexact H0
    · iexists f; iexact H1
  · iintro ⟨⟨%f, H0⟩, %g, H1⟩
    ihave H := (pointsTo_biUnion_join (ℓ := ℓ) (q := fullShare) (Val := Elt F) (Finset.univ : Finset (Fin 2)) (fun t => (A t.val).map emb) (fun t => if t = 0 then f else g) f hdis) $$ [H0 H1]
    · rw [h2]
      isplitl [H0]; iexact H0; iexact H1
    icases H with ⟨%h, -, H⟩
    rw [hcov]
    iexists h; iexact H

/-! ## The rows the list names -/

/-- Row `p` is the table's row the list's word `p` names (the word taken below the table's height). -/
def gathered {α : Type} {M R : ℕ} (hR : 0 < R) (ids : (⟨2, ![1, M]⟩ : Shape).Idx → BitVec 32) (tbl : (⟨2, ![R, 128]⟩ : Shape).Idx → α) :
    (⟨2, ![M, 128]⟩ : Shape).Idx → α := fun x =>
  tbl (Shape.pair (d := ![R, 128]) ⟨(ids (Shape.pair (d := ![1, M]) ⟨0, Nat.one_pos⟩ (x 0))).toNat % R, Nat.mod_lt _ hR⟩ (x 1))

namespace Pipe

variable {M R : ℕ} (P : Pipe M R) [FloatOps F] (d : Dev nD) (cc : Fin τ.nSC) (jj : Fin τ.nSub) (hg : (⟨2, ![R, 128]⟩ : Shape).Gathers 0 S128x128)
  (fI : Buf (Elt F) (P.ids.view.loc (V d cc jj))) (fT : Buf (Elt F) (P.tbl.view.loc (V d cc jj))) (G : Buf (Elt F) (P.out.view.loc (V d cc jj)))

theorem inRange_of (h : ∀ x, (P.ids.view.read (Elt F) fI x : BitVec 32).toNat < R) : P.InRange (F := F) d cc jj hg fI := fun k x => h _

/-- Block `k`'s word `x` is the list's word of that number. -/
theorem words_eq (k : ℕ) (hk : k < P.N) (x : S128.Idx) (h : 128 * (P.base + k) + (x 0).val < M) :
    P.words (F := F) d cc jj fI k x = P.ids.view.read (Elt F) fI (Shape.pair (d := ![1, M]) ⟨0, Nat.one_pos⟩ ⟨128 * (P.base + k) + (x 0).val, h⟩) := by
  show P.ids.view.read (Elt F) fI ((Rect.unit (s := ⟨2, ![1, M]⟩) ![0, 128 * (P.base + k % P.N)] S1x128.size (P.ids_inb k)).emb (lix x)) = _
  congr 1
  funext b; apply Fin.ext
  have e : lix x = Fin.cons ⟨0, Nat.one_pos⟩ x := by
    unfold lix
    rw [Shape.reshapeEquiv_cons_one]
    funext b; apply Fin.ext
    fin_cases b <;> simp [Rect.emb_apply]
  rw [e]
  fin_cases b <;> simp [Rect.emb_apply, Shape.pair, Nat.mod_eq_of_lt hk] <;> rfl

theorem read_gathered (hR : 0 < R) (hin : P.InRange (F := F) d cc jj hg fI)
    (hG : P.out.view.read (Elt F) G = gathered hR (P.ids.view.read (Elt F) fI) (P.tbl.view.read (Elt F) fT)) (k : ℕ) (hk : k < P.N) :
    (P.obl k).view.read (Elt F) G = P.rowsOf (F := F) d cc jj hg fI fT hin k := by
  funext x
  show P.out.view.read (Elt F) G ((Rect.unit (s := ⟨2, ![M, 128]⟩) ![128 * (P.base + k % P.N), 0] S128x128.size (P.out_inb k)).emb x) = _
  rw [hG]
  unfold gathered rowsOf SparseCore.gatherPayload
  congr 1
  funext b; apply Fin.ext
  have hx0 : (x 0).val < 128 := (x 0).isLt
  have hb := P.hb
  have hlt : 128 * (P.base + k) + (x 0).val < M := by omega
  fin_cases b
  · show (P.ids.view.read (Elt F) fI (Shape.pair (d := ![1, M]) ⟨0, Nat.one_pos⟩
        ((Rect.unit (s := ⟨2, ![M, 128]⟩) ![128 * (P.base + k % P.N), 0] S128x128.size (P.out_inb k)).emb x 0)) : BitVec 32).toNat % R
      = (P.words (F := F) d cc jj fI k (S128.rowMajor.symm ((x 0).cast rfl)) : BitVec 32).toNat
    have hy : ((S128.rowMajor.symm ((x 0).cast rfl)) 0).val = (x 0).val := by
      have := Shape.rowMajor_val_one (S128.rowMajor.symm ((x 0).cast rfl))
      rw [Equiv.apply_symm_apply] at this
      exact this.symm
    have hw := P.words_eq d cc jj fI k hk (S128.rowMajor.symm ((x 0).cast rfl)) (by rw [hy]; exact hlt)
    have hr := hin k (S128.rowMajor.symm ((x 0).cast rfl))
    rw [hw] at hr ⊢
    have he : ((Rect.unit (s := ⟨2, ![M, 128]⟩) ![128 * (P.base + k % P.N), 0] S128x128.size (P.out_inb k)).emb x 0)
        = (⟨128 * (P.base + k) + ((S128.rowMajor.symm ((x 0).cast rfl)) 0).val, by rw [hy]; exact hlt⟩ : Fin M) := by
      apply Fin.ext
      refine Eq.trans ?_ (congrArg (128 * (P.base + k) + ·) hy.symm)
      simp [Rect.emb_apply, Nat.mod_eq_of_lt hk]
    rw [he]
    exact Nat.mod_eq_of_lt hr
  · show ((Rect.unit (s := ⟨2, ![M, 128]⟩) ![128 * (P.base + k % P.N), 0] S128x128.size (P.out_inb k)).emb x 1).val = (x 1).val
    simp [Rect.emb_apply]

end Pipe

end Cert.Proof.Gather

end
-- ==== Proof.Scoped.lean ====
/-
  A tile's own memory and semaphores as the task's slots and buffers, and back.
-/
module

public import proofs.«01_k».proof.Proof.Deal
public import Idealize.ShloMosaic.Lib.SparseCore.Quiescent

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-- Five of a thread's own semaphores, and the rest. -/
theorem own5 (d : Dev nD) (c : Fin τ.nSC) (i : Fin τ.nSub) (s : Fin 5 → SemLoc sig) (hinj : Function.Injective s)
    (hsc : ∀ k, (s k).isScoped .scVector = true) :
    ∃ R : sProp 𝕄, (ownSems0 (V d c i) : sProp 𝕄)
      = iprop(semVal (V d c i, s 0) 0 ∗ semVal (V d c i, s 1) 0 ∗ semVal (V d c i, s 2) 0 ∗ semVal (V d c i, s 3) 0 ∗ semVal (V d c i, s 4) 0 ∗ R) := by
  have hm (k : Fin 5) : ((V d c i, s k) : GSem nD τ sig) ∈ ownCells (V d c i) := mem_ownCells.mpr ⟨rfl, hsc k⟩
  have hn {k l : Fin 5} (h : k ≠ l) : ((V d c i, s k) : GSem nD τ sig) ≠ (V d c i, s l) := fun e => h (hinj (congrArg Prod.snd e))
  refine ⟨bigSep (((((((ownCells (V d c i)).erase (V d c i, s 0)).erase (V d c i, s 1)).erase (V d c i, s 2)).erase (V d c i, s 3)).erase (V d c i, s 4)))
    fun g => semVal g 0, ?_⟩
  unfold SparseCore.Cfg.ownSems0
  rw [SparseCore.bigSep_erase' (hm 0),
    SparseCore.bigSep_erase' (Finset.mem_erase.mpr ⟨hn (k := 1) (l := 0) (by decide), hm 1⟩),
    SparseCore.bigSep_erase' (Finset.mem_erase.mpr ⟨hn (k := 2) (l := 1) (by decide), Finset.mem_erase.mpr ⟨hn (l := 0) (by decide), hm 2⟩⟩),
    SparseCore.bigSep_erase' (Finset.mem_erase.mpr ⟨hn (k := 3) (l := 2) (by decide), Finset.mem_erase.mpr ⟨hn (l := 1) (by decide),
      Finset.mem_erase.mpr ⟨hn (l := 0) (by decide), hm 3⟩⟩⟩),
    SparseCore.bigSep_erase' (Finset.mem_erase.mpr ⟨hn (k := 4) (l := 3) (by decide), Finset.mem_erase.mpr ⟨hn (l := 2) (by decide),
      Finset.mem_erase.mpr ⟨hn (l := 1) (by decide), Finset.mem_erase.mpr ⟨hn (l := 0) (by decide), hm 4⟩⟩⟩⟩)]

/-- Two of a subcore's own buffers, and the rest. -/
theorem own2 (d : Dev nD) (c : Fin τ.nSC) (i : Fin τ.nSub) (a b : Ref sig .scVector) (hab : b ≠ a)
    (ha : ((Proc.scVector c i).devRef a).owner = .proc (Proc.scVector c i)) (hb : ((Proc.scVector c i).devRef b).owner = .proc (Proc.scVector c i)) :
    ∃ R : sProp 𝕄, (ownBufs (V d c i) : sProp 𝕄)
      = iprop((∃ f, (V d c i).loc a ↦{fullShare} f) ∗ (∃ f, (V d c i).loc b ↦{fullShare} f) ∗ R) := by
  refine ⟨bigSep (((ownRefs (τ := τ) (.scVector c i)).erase ((Proc.scVector c i).devRef a)).erase ((Proc.scVector c i).devRef b))
    fun r => iprop(∃ f, ((d, r) : Loc nD τ sig) ↦{fullShare} f), ?_⟩
  unfold SparseCore.Cfg.ownBufs
  refine (SparseCore.bigSep_erase' (SparseCore.Cfg.mem_ownRefs_of_owner ha)).trans ?_
  rw [SparseCore.bigSep_erase' (Finset.mem_erase.mpr ⟨fun e => absurd (Proc.devRef_injective _ e) hab, SparseCore.Cfg.mem_ownRefs_of_owner hb⟩)]

namespace Pipe

variable {M R : ℕ} (P : Pipe M R) [FloatOps F] (d : Dev nD) (cc : Fin τ.nSC) (jj : Fin τ.nSub) (q : PosShare TreeShare)
  (fI : Buf (Elt F) (P.ids.view.loc (V d cc jj))) (fT : Buf (Elt F) (P.tbl.view.loc (V d cc jj))) (f : Buf (Elt F) (P.out.view.loc (V d cc jj)))

/-- The arrays' parts a tile works on, the output's at `f`. -/
def res : sProp 𝕄 :=
  iprop(bigSep (Finset.range P.N) (P.idsPt (F := F) d cc jj fI) ∗ P.tblPt (F := F) d cc jj q fT ∗ bigSep (Finset.range P.N) (P.outPt (F := F) d cc jj f))

/-- The tile's own memory and semaphores. -/
def scr : sProp 𝕄 :=
  iprop((∃ f : Buf (Elt F) (P.slots.view.loc (V d cc jj)), P.slots.view.loc (V d cc jj) ↦{fullShare} f)
    ∗ (∃ f : Buf (Elt F) (P.bufs.view.loc (V d cc jj)), P.bufs.view.loc (V d cc jj) ↦{fullShare} f)
    ∗ P.cellI (F := F) d cc jj 0 ∗ P.cellI (F := F) d cc jj 1 ∗ P.cellO (F := F) d cc jj 0 ∗ P.cellO (F := F) d cc jj 1 ∗ P.cellG (F := F) d cc jj)

theorem slots_two (h : P.slots.view.set = Finset.univ) :
    (iprop(∃ f : Buf (Elt F) (P.slots.view.loc (V d cc jj)), P.slots.view.loc (V d cc jj) ↦{fullShare} f) : sProp 𝕄)
      = iprop(P.slotPt (F := F) d cc jj 0 ∗ P.slotPt (F := F) d cc jj 1) := by
  have hs (k : ℕ) : (P.isl k).view.set = ((Rect.unit (s := S2x1x128) ![k % 2, 0, 0] S1x1x128.size (slot_inb k)).set).map P.slots.view.emb := by
    show ((P.slots.view.slice (Rect.unit (s := S2x1x128) ![k % 2, 0, 0] S1x1x128.size (slot_inb k))).reshape S1x128 squeezes_S1x1x128_S1x128.numel_eq).set = _
    rw [View.set_reshape, View.set_slice]
  refine (halves (F := F) (ℓ := P.slots.view.loc (V d cc jj)) P.slots.view.emb h
    (fun k => (Rect.unit (s := S2x1x128) ![k % 2, 0, 0] S1x1x128.size (slot_inb k)).set) (fun x => (x 0).val) (fun x => (x 0).isLt) ?_).trans ?_
  · intro k x
    show x ∈ (Rect.unit (s := S2x1x128) ![k % 2, 0, 0] S1x1x128.size (slot_inb k)).set ↔ (x 0).val = k % 2
    rw [Rect.mem_set_unit]
    constructor
    · intro H; have := H 0; simp at this; omega
    · intro H a
      have h1 : (x 1).val < 1 := (x 1).isLt
      have h2 : (x 2).val < 128 := (x 2).isLt
      fin_cases a <;> simp <;> omega
  · unfold slotPt; rw [hs, hs]; rfl

theorem bufs_two (h : P.bufs.view.set = Finset.univ) :
    (iprop(∃ f : Buf (Elt F) (P.bufs.view.loc (V d cc jj)), P.bufs.view.loc (V d cc jj) ↦{fullShare} f) : sProp 𝕄)
      = iprop(P.bufPt (F := F) d cc jj 0 ∗ P.bufPt (F := F) d cc jj 1) := by
  have hs (k : ℕ) : (P.osl k).view.set = ((Rect.unit (s := S2x128x128) ![k % 2, 0, 0] S1x128x128.size (buf_inb k)).set).map P.bufs.view.emb := by
    show ((P.bufs.view.slice (Rect.unit (s := S2x128x128) ![k % 2, 0, 0] S1x128x128.size (buf_inb k))).reshape S128x128 squeezes_S1x128x128_S128x128.numel_eq).set = _
    rw [View.set_reshape, View.set_slice]
  refine (halves (F := F) (ℓ := P.bufs.view.loc (V d cc jj)) P.bufs.view.emb h
    (fun k => (Rect.unit (s := S2x128x128) ![k % 2, 0, 0] S1x128x128.size (buf_inb k)).set) (fun x => (x 0).val) (fun x => (x 0).isLt) ?_).trans ?_
  · intro k x
    show x ∈ (Rect.unit (s := S2x128x128) ![k % 2, 0, 0] S1x128x128.size (buf_inb k)).set ↔ (x 0).val = k % 2
    rw [Rect.mem_set_unit]
    constructor
    · intro H; have := H 0; simp at this; omega
    · intro H a
      have h1 : (x 1).val < 128 := (x 1).isLt
      have h2 : (x 2).val < 128 := (x 2).isLt
      fin_cases a <;> simp <;> omega
  · unfold bufPt; rw [hs, hs]; rfl

end Pipe

namespace Task

variable [FloatOps F] {M R : ℕ} (T : Task F M R)

theorem slotFree_even (k : ℕ) : T.slotFree (2 * k) = T.slotFree 0 ∧ T.slotFree (2 * k + 1) = T.slotFree 1 := by
  induction k with
  | zero => exact ⟨rfl, rfl⟩
  | succ k ih =>
    rw [Nat.mul_succ]
    exact ⟨(T.slotFree_two _).trans ih.1, (T.slotFree_two (2 * k + 1)).trans ih.2⟩
theorem bufFree_even (k : ℕ) : T.bufFree (2 * k) = T.bufFree 0 ∧ T.bufFree (2 * k + 1) = T.bufFree 1 := by
  induction k with
  | zero => exact ⟨rfl, rfl⟩
  | succ k ih =>
    rw [Nat.mul_succ]
    exact ⟨(T.bufFree_two _).trans ih.1, (T.bufFree_two (2 * k + 1)).trans ih.2⟩

theorem stI_of (hs : T.P.slots.view.set = Finset.univ) (hb : T.P.bufs.view.set = Finset.univ) :
    iprop(T.P.res (F := F) T.d T.cc T.jj T.q T.fI T.fT T.fO ∗ T.P.scr (F := F) T.d T.cc T.jj) ⊢ T.stI := by
  unfold Pipe.res Pipe.scr stI slotFree bufFree
  rw [T.P.slots_two (F := F) T.d T.cc T.jj hs, T.P.bufs_two (F := F) T.d T.cc T.jj hb]
  iintro ⟨⟨Hi, Ht, Ho⟩, ⟨Hs0, Hs1⟩, ⟨Hb0, Hb1⟩, HI0, HI1, HO0, HO1, HG⟩
  isplitl [Hi]; iexact Hi
  isplitl [Hs0 Hs1 HI0 HI1]
  · isplitl [Hs0 HI0]
    · isplitl [Hs0]; iexact Hs0; iexact HI0
    · isplitl [Hs1]; iexact Hs1; iexact HI1
  isplitl [Hb0 Hb1 HO0 HO1]
  · isplitl [Hb0 HO0]
    · isplitl [Hb0]; iexact Hb0; iexact HO0
    · isplitl [Hb1]; iexact Hb1; iexact HO1
  isplitl [Ho]; iexact Ho
  isplitl [Ht]; iexact Ht
  iexact HG

theorem of_stZ (hs : T.P.slots.view.set = Finset.univ) (hb : T.P.bufs.view.set = Finset.univ) (k : ℕ) (hN : T.P.N = 2 * k) :
    T.stZ ⊢ iprop(T.P.res (F := F) T.d T.cc T.jj T.q T.fI T.fT T.G ∗ T.P.scr (F := F) T.d T.cc T.jj) := by
  unfold stZ
  rw [show T.slotFree T.N = T.slotFree 0 from (congrArg T.slotFree hN).trans (T.slotFree_even k).1,
    show T.slotFree (T.N + 1) = T.slotFree 1 from (congrArg (fun n => T.slotFree (n + 1)) hN).trans (T.slotFree_even k).2,
    show T.bufFree T.N = T.bufFree 0 from (congrArg T.bufFree hN).trans (T.bufFree_even k).1,
    show T.bufFree (T.N + 1) = T.bufFree 1 from (congrArg (fun n => T.bufFree (n + 1)) hN).trans (T.bufFree_even k).2]
  unfold Pipe.res Pipe.scr slotFree bufFree
  rw [T.P.slots_two (F := F) T.d T.cc T.jj hs, T.P.bufs_two (F := F) T.d T.cc T.jj hb]
  iintro ⟨Hi, ⟨⟨Hs0, HI0⟩, Hs1, HI1⟩, ⟨⟨Hb0, HO0⟩, Hb1, HO1⟩, Ho, Ht, HG⟩
  isplitl [Hi Ho Ht]
  · isplitl [Hi]; iexact Hi
    isplitl [Ht]; iexact Ht
    iexact Ho
  isplitl [Hs0 Hs1]
  · isplitl [Hs0]; iexact Hs0; iexact Hs1
  isplitl [Hb0 Hb1]
  · isplitl [Hb0]; iexact Hb0; iexact Hb1
  isplitl [HI0]; iexact HI0
  isplitl [HI1]; iexact HI1
  isplitl [HO0]; iexact HO0
  isplitl [HO1]; iexact HO1
  iexact HG

end Task

end Cert.Proof.Gather

end
-- ==== Proof.Tile.lean ====
/-
  What the two calls' handshakes carry, and each tile's obligation.
-/
module

public import proofs.«01_k».proof.Proof.Call0
public import proofs.«01_k».proof.Proof.Call1
public import proofs.«01_k».proof.Proof.Scoped
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Frame

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 2) (Elt F) ℕ UU ℕ

abbrev EH : Emb UH (MT nD τ sig (HIx 2) (Elt F) ℕ UU ℕ) := embL

/-! ## The arrays -/

/-- The contents of what the two calls read, and of their outputs before: call 0's table, list and output, call 1's list
    and output. Every word of a list is a row of its table. -/
structure Arrays (F : FTy → Type) where
  t0 : Dev nD → S100001x128.Idx → Elt F .f32
  i0 : Dev nD → S1x262144.Idx → BitVec 32
  o0 : Dev nD → S262144x128.Idx → Elt F .f32
  i1 : Dev nD → S1x655360.Idx → BitVec 32
  o1 : Dev nD → S655360x128.Idx → Elt F .f32
  h0 : ∀ d x, (i0 d x).toNat < 100001
  h1 : ∀ d x, (i1 d x).toNat < 262144

namespace Arrays

variable (A : Arrays F)

/-- What call 0, then call 1, leaves. -/
def g0 (d : Dev nD) : S262144x128.Idx → Elt F .f32 := gathered (M := 262144) (R := 100001) (by decide) (A.i0 d) (A.t0 d)
def g1 (d : Dev nD) : S655360x128.Idx → Elt F .f32 := gathered (M := 655360) (R := 262144) (by decide) (A.i1 d) (A.g0 d)

end Arrays

def co0 (c : Fin (grid0.bound 0)) (s : Fin (grid0.bound 1)) : grid0.Coords :=
  fun | 0 => c | 1 => s | ⟨_ + 2, h⟩ => absurd h (Nat.not_lt.2 (Nat.le_add_left _ _))
def co1 (c : Fin (grid1.bound 0)) (s : Fin (grid1.bound 1)) : grid1.Coords :=
  fun | 0 => c | 1 => s | ⟨_ + 2, h⟩ => absurd h (Nat.not_lt.2 (Nat.le_add_left _ _))

variable [FloatOps F] (A : Arrays F)

/-- Tile `(c, i)`'s parts of call 0's arrays, its output's at `f`; of call 1's. -/
def res0 (d : Dev nD) (c : Fin 2) (i : Fin 16) (f : S262144x128.Idx → Elt F .f32) : sProp 𝕄 :=
  (Call0.pipe (co0 c i)).res (F := F) d (Call0.cL (co0 c i)) (Call0.jL (co0 c i)) (share c i) (A.i0 d) (A.t0 d) f
def res1 (d : Dev nD) (c : Fin 2) (i : Fin 16) (f : S655360x128.Idx → Elt F .f32) : sProp 𝕄 :=
  (Call1.pipe (co1 c i)).res (F := F) d (Call1.cL (co1 c i)) (Call1.jL (co1 c i)) (share c i) (A.i1 d) (A.g0 d) f

theorem part_storable (ℓ : Loc nD τ sig) (S : Finset (Idx ℓ)) (f : Buf (Elt F) ℓ) : BI.Storable (upEmb : UEmb _ 𝕄) (ℓ ↦[S]{fullShare} f) := inferInstance
instance idsPt_storable {M R : ℕ} (P : Pipe M R) (d : Dev nD) (cc : Fin τ.nSC) (jj : Fin τ.nSub) (fI : Buf (Elt F) (P.ids.view.loc (V d cc jj))) (k : ℕ) :
    BI.Storable (upEmb : UEmb _ 𝕄) (P.idsPt (F := F) d cc jj fI k) :=
  part_storable (P.ids.view.loc (V d cc jj)) _ fI
instance outPt_storable {M R : ℕ} (P : Pipe M R) (d : Dev nD) (cc : Fin τ.nSC) (jj : Fin τ.nSub) (f : Buf (Elt F) (P.out.view.loc (V d cc jj))) (k : ℕ) :
    BI.Storable (upEmb : UEmb _ 𝕄) (P.outPt (F := F) d cc jj f k) :=
  part_storable (P.out.view.loc (V d cc jj)) _ f
instance tblPt_storable {M R : ℕ} (P : Pipe M R) (d : Dev nD) (cc : Fin τ.nSC) (jj : Fin τ.nSub) (q : PosShare TreeShare)
    (f : Buf (Elt F) (P.tbl.view.loc (V d cc jj))) : BI.Storable (upEmb : UEmb _ 𝕄) (P.tblPt (F := F) d cc jj q f) := by unfold Pipe.tblPt; infer_instance
instance res_storable {M R : ℕ} (P : Pipe M R) (d : Dev nD) (cc : Fin τ.nSC) (jj : Fin τ.nSub) (q : PosShare TreeShare)
    (fI : Buf (Elt F) (P.ids.view.loc (V d cc jj))) (fT : Buf (Elt F) (P.tbl.view.loc (V d cc jj))) (f : Buf (Elt F) (P.out.view.loc (V d cc jj))) :
    BI.Storable (upEmb : UEmb _ 𝕄) (P.res (F := F) d cc jj q fI fT f) := by unfold Pipe.res; infer_instance
instance res0_storable (d : Dev nD) (c : Fin 2) (i : Fin 16) (f : S262144x128.Idx → Elt F .f32) : BI.Storable (upEmb : UEmb _ 𝕄) (res0 A d c i f) := by
  unfold res0; infer_instance
instance res1_storable (d : Dev nD) (c : Fin 2) (i : Fin 16) (f : S655360x128.Idx → Elt F .f32) : BI.Storable (upEmb : UEmb _ 𝕄) (res1 A d c i f) := by
  unfold res1; infer_instance

/-- A call hands each SparseCore its tiles' parts, a SparseCore each tile its own; they come back with the output's rows
    gathered. -/
def P : (K (F := F)).Pay (nD := nD) (Val := Elt F) (Name := ℕ) (U := UU) where
  st := fun q d c => match q with
    | 0 => bigSep Finset.univ fun i : Fin 16 => res0 A d c i (A.o0 d)
    | 1 => bigSep Finset.univ fun i : Fin 16 => res1 A d c i (A.o1 d)
  dn := fun q d c => match q with
    | 0 => bigSep Finset.univ fun i : Fin 16 => res0 A d c i (A.g0 d)
    | 1 => bigSep Finset.univ fun i : Fin 16 => res1 A d c i (A.g1 d)
  go := fun q d c i => match q with
    | 0 => res0 A d c i (A.o0 d)
    | 1 => res1 A d c i (A.o1 d)
  td := fun q d c i => match q with
    | 0 => res0 A d c i (A.g0 d)
    | 1 => res1 A d c i (A.g1 d)
  x := fun _ _ => iprop(emp)

instance P_storable : (P A).IsStorable where
  st q d c := match q with
    | 0 => (inferInstance : BI.Storable (upEmb : UEmb _ 𝕄) (bigSep Finset.univ fun i : Fin 16 => res0 A d c i (A.o0 d)))
    | 1 => (inferInstance : BI.Storable (upEmb : UEmb _ 𝕄) (bigSep Finset.univ fun i : Fin 16 => res1 A d c i (A.o1 d)))
  dn q d c := match q with
    | 0 => (inferInstance : BI.Storable (upEmb : UEmb _ 𝕄) (bigSep Finset.univ fun i : Fin 16 => res0 A d c i (A.g0 d)))
    | 1 => (inferInstance : BI.Storable (upEmb : UEmb _ 𝕄) (bigSep Finset.univ fun i : Fin 16 => res1 A d c i (A.g1 d)))
  go q d c i := match q with
    | 0 => res0_storable A d c i (A.o0 d)
    | 1 => res1_storable A d c i (A.o1 d)
  td q d c i := match q with
    | 0 => res0_storable A d c i (A.g0 d)
    | 1 => res1_storable A d c i (A.g1 d)

theorem vecSplit0 : (K (F := F)).VecSplit' (P A) 0 := by
  intro d c
  show (bigSep Finset.univ fun i : Fin 16 => res0 A d c i (A.o0 d)) ⊢ |={Set.univ}=> iprop(
      (bigSep Finset.univ fun i : Fin 16 => res0 A d c i (A.o0 d))
      ∗ ((bigSep Finset.univ fun i : Fin 16 => res0 A d c i (A.g0 d)) -∗ bigSep Finset.univ fun i : Fin 16 => res0 A d c i (A.g0 d)))
  iintro H; imodintro
  isplitl [H]; · iexact H
  iintro H; iexact H
theorem vecSplit1 : (K (F := F)).VecSplit' (P A) 1 := by
  intro d c
  show (bigSep Finset.univ fun i : Fin 16 => res1 A d c i (A.o1 d)) ⊢ |={Set.univ}=> iprop(
      (bigSep Finset.univ fun i : Fin 16 => res1 A d c i (A.o1 d))
      ∗ ((bigSep Finset.univ fun i : Fin 16 => res1 A d c i (A.g1 d)) -∗ bigSep Finset.univ fun i : Fin 16 => res1 A d c i (A.g1 d)))
  iintro H; imodintro
  isplitl [H]; · iexact H
  iintro H; iexact H

/-! ## The tasks -/

theorem obl_post {thr : Thread nD τ} {B C E : sProp 𝕄} {O : CellTallies nD τ sig (HIx 2)} {W : Waits sig (HIx 2)} {q : Fin 2} :
    iprop(B ∗ C ∗ E ∗ ∃ W', ⌜∀ p ∈ W', p ∈ W ∨ p.2 = none⌝ ∗ owes thr O W')
      ⊢ iprop(B ∗ C ∗ E ∗ ∃ W', ⌜∀ p ∈ W', p ∈ W ∨ p.2 = none ∨ p.2 = some q⌝ ∗ owes thr O W') := by
  iintro ⟨HB, HC, HE, %W', %hW', HO⟩
  isplitl [HB]; · iexact HB
  isplitl [HC]; · iexact HC
  isplitl [HE]; · iexact HE
  iexists W'; isplitr
  · ipureintro; exact fun p hp => (hW' p hp).imp_right Or.inl
  · iexact HO

/-- A task's body from its arrays' parts and the tile's own memory, in the form the launch asks for. -/
theorem run_tile {M R : ℕ} (T : Task F M R) (hF : (K (F := F)).Facts)
    (hs : T.P.slots.view.set = Finset.univ) (hb : T.P.bufs.view.set = Finset.univ) (k : ℕ) (hN : T.P.N = 2 * k) {B : Type}
    (O : CellTallies nD τ sig (HIx 2)) (W : Waits sig (HIx 2)) (hO : ∀ g, O g none = 0)
    (hown : ∃ R : sProp 𝕄, (iprop(ownBufs T.th ∗ ownSems0 T.th) : sProp 𝕄) = iprop(T.P.scr (F := F) T.d T.cc T.jj ∗ R))
    {prog : Prog (TpuEff nD τ sig (Elt F) Λ₀ (T.th).2) B}
    (hbody : iprop(T.waits O ∗ T.stI ∗ T.owe O W) ⊢ wp frame (wpE (defs₀ (F := F)) 𝒱₀ T.th none) Set.univ prog fun _ => iprop(T.stZ ∗ T.owe O W)) :
    iprop(levAts (K (F := F)).L (K (F := F)).lev ∗ emp ∗ T.P.res (F := F) T.d T.cc T.jj T.q T.fI T.fT T.fO
        ∗ scopedBufs T.th ∗ scopedSems0 T.th ∗ owes T.th O W)
      ⊢ wp frame (wpE (defs₀ (F := F)) 𝒱₀ T.th none) Set.univ prog
          fun _ => iprop(T.P.res (F := F) T.d T.cc T.jj T.q T.fI T.fT T.G ∗ scopedBufs T.th ∗ scopedSems0 T.th
            ∗ ∃ W', ⌜∀ p ∈ W', p ∈ W ∨ p.2 = none⌝ ∗ owes T.th O W') := by
  obtain ⟨Rr, hR⟩ := hown
  have e1 : (scopedBufs T.th : sProp 𝕄) = ownBufs T.th := (K (F := F)).scopedBufs_V hF T.d T.cc T.jj
  have e2 : (scopedSems0 T.th : sProp 𝕄) = ownSems0 T.th := SparseCore.Cfg.scopedSems0_V (Val := Elt F) T.d T.cc T.jj
  rw [e1, e2]
  iintro ⟨#Hlv, -, Hres, Hb, Hs, HO⟩
  ihave Hmw := (show levAts (K (F := F)).L (K (F := F)).lev ⊢ T.waits O from (K (F := F)).mayWaits_none (thr := T.th) hO) $$ Hlv
  ihave Hown := (Entails.of_eq hR) $$ [Hb Hs]
  · isplitl [Hb]; iexact Hb; iexact Hs
  icases Hown with ⟨Hscr, HR⟩
  ihave HI := (T.stI_of hs hb) $$ [Hres Hscr]
  · isplitl [Hres]; iexact Hres; iexact Hscr
  ihave HO' := (T.owe_intro O W) $$ HO
  ihave Hwp := hbody $$ [Hmw HI HO']
  · isplitl [Hmw]; iexact Hmw
    isplitl [HI]; iexact HI; iexact HO'
  iapply (wp_wand frame _ _) $$ Hwp
  iintro %a ⟨HZ, HO⟩
  ihave H := (T.of_stZ hs hb k hN) $$ HZ
  icases H with ⟨Hres, Hscr⟩
  isplitl [Hres]; iexact Hres
  ihave Hown := (Entails.of_eq hR.symm) $$ [Hscr HR]
  · isplitl [Hscr]; iexact Hscr; iexact HR
  icases Hown with ⟨Hb, Hs⟩
  isplitl [Hb]; iexact Hb
  isplitl [Hs]; iexact Hs
  unfold Task.owe; iexact HO

/-! ## The two calls -/

/-- A tile's five semaphores. -/
def cells (a b : DmaSems sig S2) (g : DmaSems sig S_) : Fin 5 → SemLoc sig
  | 0 => .dma ((a.slice (Rect.unit (s := S2) ![0] S1.size (Pipe.sem_inb 0))).squeeze S_ squeezes_S1_S_).sem
  | 1 => .dma ((a.slice (Rect.unit (s := S2) ![1] S1.size (Pipe.sem_inb 1))).squeeze S_ squeezes_S1_S_).sem
  | 2 => .dma ((b.slice (Rect.unit (s := S2) ![0] S1.size (Pipe.sem_inb 0))).squeeze S_ squeezes_S1_S_).sem
  | 3 => .dma ((b.slice (Rect.unit (s := S2) ![1] S1.size (Pipe.sem_inb 1))).squeeze S_ squeezes_S1_S_).sem
  | 4 => .dma g.sem

theorem own_deal (a b c d e f g r s : sProp 𝕄) :
    iprop((a ∗ b ∗ r) ∗ c ∗ d ∗ e ∗ f ∗ g ∗ s) ⊢ iprop((a ∗ b ∗ c ∗ d ∗ e ∗ f ∗ g) ∗ r ∗ s) := by
  iintro ⟨⟨Ha, Hb, Hr⟩, Hc, Hd, He, Hf, Hg, Hs⟩
  isplitr [Hr Hs]
  · isplitl [Ha]; iexact Ha
    isplitl [Hb]; iexact Hb
    isplitl [Hc]; iexact Hc
    isplitl [Hd]; iexact Hd
    isplitl [He]; iexact He
    isplitl [Hf]; iexact Hf
    iexact Hg
  · isplitl [Hr]; iexact Hr
    iexact Hs
theorem own_join (a b c d e f g r s : sProp 𝕄) :
    iprop((a ∗ b ∗ c ∗ d ∗ e ∗ f ∗ g) ∗ r ∗ s) ⊢ iprop((a ∗ b ∗ r) ∗ c ∗ d ∗ e ∗ f ∗ g ∗ s) := by
  iintro ⟨⟨Ha, Hb, Hc, Hd, He, Hf, Hg⟩, Hr, Hs⟩
  isplitl [Ha Hb Hr]
  · isplitl [Ha]; iexact Ha
    isplitl [Hb]; iexact Hb
    iexact Hr
  isplitl [Hc]; iexact Hc
  isplitl [Hd]; iexact Hd
  isplitl [He]; iexact He
  isplitl [Hf]; iexact Hf
  isplitl [Hg]; iexact Hg
  iexact Hs

/-! ### Call 0 -/

theorem own0 (d : Dev nD) (L : grid0.Coords) :
    ∃ R : sProp 𝕄, (iprop(ownBufs (V d (Call0.cL L) (Call0.jL L)) ∗ ownSems0 (V d (Call0.cL L) (Call0.jL L))) : sProp 𝕄)
      = iprop((Call0.pipe L).scr (F := F) d (Call0.cL L) (Call0.jL L) ∗ R) := by
  obtain ⟨R1, e1⟩ := own2 (F := F) d (Call0.cL L) (Call0.jL L) cc0_scoped0 cc0_scoped2 (by decide) rfl rfl
  obtain ⟨R2, e2⟩ := own5 (F := F) d (Call0.cL L) (Call0.jL L) (cells cc0_scoped1 cc0_scoped3 cc0_scoped4) (by decide) (by decide)
  refine ⟨iprop(R1 ∗ R2), ?_⟩
  rw [e1, e2]
  refine BI.Entails.antisymm (own_deal _ _ _ _ _ _ _ _ _) (own_join _ _ _ _ _ _ _ _ _)

theorem defs₀_vector0 (c : Fin τ.nSC) (s : Fin τ.nSub) :
    defs₀ (F := F) (.scVector c s) 0 ()
      = SparseCore.onTile hcore0 hsub0 (fun c s => cc0_kern (co0 c s)
          (Memref.whole main_v1_scv) (Memref.isWhole_whole _) (Memref.whole main_v2_scv) (Memref.isWhole_whole _)
          (Memref.whole main_v3_scv) (Memref.isWhole_whole _) (Memref.whole cc0_scoped0) (Memref.isWhole_whole _) cc0_scoped1
          (Memref.whole cc0_scoped2) (Memref.isWhole_whole _) cc0_scoped3 cc0_scoped4) ⟨⟩ c s := rfl

theorem read_tbl0 (L : grid0.Coords) (d : Dev nD) (f : Buf (Elt F) ((Call0.pipe L).tbl.view.loc (V d (Call0.cL L) (Call0.jL L)))) :
    (Call0.pipe L).tbl.view.read (Elt F) f = f := by
  funext x
  show f ((Rect.unit (s := S100001x128) ![0, 0] S100001x128.size inb_S100001x128_S100001x128_0_0).emb x) = f x
  congr 1
  funext b; apply Fin.ext
  fin_cases b <;> simp [Rect.emb_apply]

set_option maxRecDepth 16384 in
theorem tileObl0 : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  have hin : (Call0.pipe (co0 c i)).InRange (F := F) d (Call0.cL (co0 c i)) (Call0.jL (co0 c i)) gathers_S100001x128_S128x128 (A.i0 d) :=
    Pipe.inRange_of _ _ _ _ _ _ (fun x => A.h0 d x)
  have hG : ∀ k, k < 64 → ((Call0.pipe (co0 c i)).obl k).view.read (Elt F) (A.g0 d)
      = (Call0.pipe (co0 c i)).rowsOf (F := F) d (Call0.cL (co0 c i)) (Call0.jL (co0 c i)) gathers_S100001x128_S128x128 (A.i0 d) (A.t0 d) hin k := fun k hk =>
    Pipe.read_gathered (Call0.pipe (co0 c i)) d _ _ _ (A.i0 d) (A.t0 d) (A.g0 d) (show 0 < 100001 by decide) hin (by rw [read_tbl0 (co0 c i) d (A.t0 d)]; rfl) k hk
  exact (run_tile (Call0.task (co0 c i) d (share c i) (A.i0 d) (A.t0 d) (A.o0 d) (A.g0 d) hin hG) facts
    (View.set_whole _) (View.set_whole _) 32 rfl O W hO (own0 d (co0 c i))
    (Call0.body (co0 c i) d (share c i) (A.i0 d) (A.t0 d) (A.o0 d) (A.g0 d) hin hG O W)).trans (wp_mono frame _ _ fun _ => obl_post)

/-! ### Call 1 -/

theorem own1 (d : Dev nD) (L : grid1.Coords) :
    ∃ R : sProp 𝕄, (iprop(ownBufs (V d (Call1.cL L) (Call1.jL L)) ∗ ownSems0 (V d (Call1.cL L) (Call1.jL L))) : sProp 𝕄)
      = iprop((Call1.pipe L).scr (F := F) d (Call1.cL L) (Call1.jL L) ∗ R) := by
  obtain ⟨R1, e1⟩ := own2 (F := F) d (Call1.cL L) (Call1.jL L) cc1_scoped0 cc1_scoped2 (by decide) rfl rfl
  obtain ⟨R2, e2⟩ := own5 (F := F) d (Call1.cL L) (Call1.jL L) (cells cc1_scoped1 cc1_scoped3 cc1_scoped4) (by decide) (by decide)
  refine ⟨iprop(R1 ∗ R2), ?_⟩
  rw [e1, e2]
  refine BI.Entails.antisymm (own_deal _ _ _ _ _ _ _ _ _) (own_join _ _ _ _ _ _ _ _ _)

theorem defs₀_vector1 (c : Fin τ.nSC) (s : Fin τ.nSub) :
    defs₀ (F := F) (.scVector c s) 1 ()
      = SparseCore.onTile hcore1 hsub1 (fun c s => cc1_kern (co1 c s)
          (Memref.whole main_v3_scv) (Memref.isWhole_whole _) (Memref.whole main_v9_scv) (Memref.isWhole_whole _)
          (Memref.whole main_v10_scv) (Memref.isWhole_whole _) (Memref.whole cc1_scoped0) (Memref.isWhole_whole _) cc1_scoped1
          (Memref.whole cc1_scoped2) (Memref.isWhole_whole _) cc1_scoped3 cc1_scoped4) ⟨⟩ c s := rfl

theorem read_tbl1 (L : grid1.Coords) (d : Dev nD) (f : Buf (Elt F) ((Call1.pipe L).tbl.view.loc (V d (Call1.cL L) (Call1.jL L)))) :
    (Call1.pipe L).tbl.view.read (Elt F) f = f := by
  funext x
  show f ((Rect.unit (s := S262144x128) ![0, 0] S262144x128.size inb_S262144x128_S262144x128_0_0).emb x) = f x
  congr 1
  funext b; apply Fin.ext
  fin_cases b <;> simp [Rect.emb_apply]

set_option maxRecDepth 16384 in
theorem tileObl1 : (K (F := F)).TileObl (D (F := F)) 𝒱 (P A) v₀ 1 := by
  intro d c i O W hO _ _
  simp only [show (P A).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  have hin : (Call1.pipe (co1 c i)).InRange (F := F) d (Call1.cL (co1 c i)) (Call1.jL (co1 c i)) gathers_S262144x128_S128x128 (A.i1 d) :=
    Pipe.inRange_of _ _ _ _ _ _ (fun x => A.h1 d x)
  have hG : ∀ k, k < 160 → ((Call1.pipe (co1 c i)).obl k).view.read (Elt F) (A.g1 d)
      = (Call1.pipe (co1 c i)).rowsOf (F := F) d (Call1.cL (co1 c i)) (Call1.jL (co1 c i)) gathers_S262144x128_S128x128 (A.i1 d) (A.g0 d) hin k := fun k hk =>
    Pipe.read_gathered (Call1.pipe (co1 c i)) d _ _ _ (A.i1 d) (A.g0 d) (A.g1 d) (show 0 < 262144 by decide) hin (by rw [read_tbl1 (co1 c i) d (A.g0 d)]; rfl) k hk
  exact (run_tile (Call1.task (co1 c i) d (share c i) (A.i1 d) (A.g0 d) (A.o1 d) (A.g1 d) hin hG) facts
    (View.set_whole _) (View.set_whole _) 80 rfl O W hO (own1 d (co1 c i))
    (Call1.body (co1 c i) d (share c i) (A.i1 d) (A.g0 d) (A.o1 d) (A.g1 d) hin hG O W)).trans (wp_mono frame _ _ fun _ => obl_post)

end Cert.Proof.Gather

end
-- ==== Proof.Split.lean ====
/-
  The whole arrays dealt to the tiles.
-/
module

public import proofs.«01_k».proof.Proof.Tile

@[expose] public section

noncomputable section

namespace Cert.Proof.Gather

open Cert.KernelIdeal Cert.KernelIdeal.Gen

open Idealize.ShloMosaic
open Idealize.ShloMosaic.SparseCore (S V)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-- A list of words, a table and an output are the tiles' parts of them. -/
theorem deal_res {M R N : ℕ} (p : Fin 2 → Fin 16 → Pipe M R) (hpN : ∀ c i, (p c i).N = N) (hpb : ∀ c i, (p c i).base = (i.val + 16 * c.val) * N)
    (hM : M = 128 * (32 * N)) {ℓI ℓO : Loc nD τ sig} (eI : (⟨2, ![1, M]⟩ : Shape).Idx ↪ Idx ℓI) (heI : Finset.univ.map eI = Finset.univ)
    (eO : (⟨2, ![M, 128]⟩ : Shape).Idx ↪ Idx ℓO) (heO : Finset.univ.map eO = Finset.univ)
    (fI : Buf (Elt F) ℓI) (fO : Buf (Elt F) ℓO) (RI RO : Fin 2 → Fin 16 → ℕ → sProp 𝕄)
    (hRI : ∀ c i k, RI c i k = ℓI ↦[(Rect.unit (s := ⟨2, ![1, M]⟩) ![0, 128 * ((p c i).base + k % (p c i).N)] S1x128.size ((p c i).ids_inb k)).set.map eI]{fullShare} fI)
    (hRO : ∀ c i k, RO c i k = ℓO ↦[(Rect.unit (s := ⟨2, ![M, 128]⟩) ![128 * ((p c i).base + k % (p c i).N), 0] S128x128.size ((p c i).out_inb k)).set.map eO]{fullShare} fO) :
    (ℓI ↦{fullShare} fI : sProp 𝕄) = (bigSep Finset.univ fun c => bigSep Finset.univ fun i => bigSep (Finset.range N) (RI c i))
      ∧ (ℓO ↦{fullShare} fO : sProp 𝕄) = (bigSep Finset.univ fun c => bigSep Finset.univ fun i => bigSep (Finset.range N) (RO c i)) := by
  constructor
  · rw [deal3 eI heI fullShare fI N (fun c i k => (Rect.unit (s := ⟨2, ![1, M]⟩) ![0, 128 * ((p c i).base + k % (p c i).N)] S1x128.size ((p c i).ids_inb k)).set)
      (fun x => (x 1).val / 128) (fun x => ?_) fun c i k hk x => ?_]
    · refine bigSep_congr fun c _ => bigSep_congr fun i _ => bigSep_congr fun k _ => (hRI c i k).symm
    · have : (x 1).val < M := (x 1).isLt
      show (x 1).val / 128 < _
      omega
    · rw [mem_words, hpb, hpN, Nat.mod_eq_of_lt hk]
  · rw [deal3 eO heO fullShare fO N (fun c i k => (Rect.unit (s := ⟨2, ![M, 128]⟩) ![128 * ((p c i).base + k % (p c i).N), 0] S128x128.size ((p c i).out_inb k)).set)
      (fun x => (x 0).val / 128) (fun x => ?_) fun c i k hk x => ?_]
    · refine bigSep_congr fun c _ => bigSep_congr fun i _ => bigSep_congr fun k _ => (hRO c i k).symm
    · have : (x 0).val < M := (x 0).isLt
      show (x 0).val / 128 < _
      omega
    · rw [mem_rows, hpb, hpN, Nat.mod_eq_of_lt hk]

variable [FloatOps F] (A : Arrays F)

theorem tbl0_set (c : Fin 2) (i : Fin 16) : (Call0.pipe (co0 c i)).tbl.view.set = Finset.univ := by
  show ((View.whole main_v1_scv).slice (Rect.unit (s := S100001x128) ![0, 0] S100001x128.size inb_S100001x128_S100001x128_0_0)).set = _
  rw [View.set_slice_whole, ← Rect.map_emb_univ]
  ext x
  simp only [Finset.mem_univ, iff_true, Finset.mem_map, true_and]
  exact ⟨x, by funext b; apply Fin.ext; fin_cases b <;> simp [Rect.emb_apply]⟩

/-- Call 0's list, table and output are its tiles' parts of them. -/
theorem deal0 (d : Dev nD) (f : S262144x128.Idx → Elt F .f32) :
    (iprop(((SparseCore.T d : Thread nD τ).loc main_v2 ↦{fullShare} A.i0 d) ∗ ((SparseCore.T d : Thread nD τ).loc main_v1 ↦{fullShare} A.t0 d)
        ∗ ((SparseCore.T d : Thread nD τ).loc main_v3 ↦{fullShare} f)) : sProp 𝕄)
      = bigSep Finset.univ fun c : Fin 2 => bigSep Finset.univ fun i : Fin 16 => res0 A d c i f := by
  have h := deal_res (F := F) (fun c i => Call0.pipe (co0 c i)) (N := 64) (fun _ _ => rfl) (fun _ _ => rfl) rfl
    (ℓI := (SparseCore.T d : Thread nD τ).loc main_v2) (ℓO := (SparseCore.T d : Thread nD τ).loc main_v3)
    (View.whole main_v2_scv).emb (View.set_whole main_v2_scv) (View.whole main_v3_scv).emb (View.set_whole main_v3_scv) (A.i0 d) f
    (fun c i k => (Call0.pipe (co0 c i)).idsPt (F := F) d (Call0.cL (co0 c i)) (Call0.jL (co0 c i)) (A.i0 d) k)
    (fun c i k => (Call0.pipe (co0 c i)).outPt (F := F) d (Call0.cL (co0 c i)) (Call0.jL (co0 c i)) f k)
    (fun c i k => by unfold Pipe.idsPt Pipe.ibl; rw [← View.set_slice])
    (fun c i k => by unfold Pipe.outPt Pipe.obl; rw [← View.set_slice])
  have ht : ((SparseCore.T d : Thread nD τ).loc main_v1 ↦{fullShare} A.t0 d : sProp 𝕄)
      = bigSep Finset.univ fun c : Fin 2 => bigSep Finset.univ fun i : Fin 16 =>
        (Call0.pipe (co0 c i)).tblPt (F := F) d (Call0.cL (co0 c i)) (Call0.jL (co0 c i)) (share c i) (A.t0 d) := by
    rw [deal_share]
    refine bigSep_congr fun c _ => bigSep_congr fun i _ => ?_
    unfold Pipe.tblPt
    rw [tbl0_set]
  rw [h.1, h.2, ht]
  simp only [← bigSep_sep']
  rfl

theorem tbl1_set (c : Fin 2) (i : Fin 16) : (Call1.pipe (co1 c i)).tbl.view.set = Finset.univ := by
  show ((View.whole main_v3_scv).slice (Rect.unit (s := S262144x128) ![0, 0] S262144x128.size inb_S262144x128_S262144x128_0_0)).set = _
  rw [View.set_slice_whole, ← Rect.map_emb_univ]
  ext x
  simp only [Finset.mem_univ, iff_true, Finset.mem_map, true_and]
  exact ⟨x, by funext b; apply Fin.ext; fin_cases b <;> simp [Rect.emb_apply]⟩

/-- Call 1's list, table and output are its tiles' parts of them. -/
theorem deal1 (d : Dev nD) (f : S655360x128.Idx → Elt F .f32) :
    (iprop(((SparseCore.T d : Thread nD τ).loc main_v9 ↦{fullShare} A.i1 d) ∗ ((SparseCore.T d : Thread nD τ).loc main_v3 ↦{fullShare} A.g0 d)
        ∗ ((SparseCore.T d : Thread nD τ).loc main_v10 ↦{fullShare} f)) : sProp 𝕄)
      = bigSep Finset.univ fun c : Fin 2 => bigSep Finset.univ fun i : Fin 16 => res1 A d c i f := by
  have h := deal_res (F := F) (fun c i => Call1.pipe (co1 c i)) (N := 160) (fun _ _ => rfl) (fun _ _ => rfl) rfl
    (ℓI := (SparseCore.T d : Thread nD τ).loc main_v9) (ℓO := (SparseCore.T d : Thread nD τ).loc main_v10)
    (View.whole main_v9_scv).emb (View.set_whole main_v9_scv) (View.whole main_v10_scv).emb (View.set_whole main_v10_scv) (A.i1 d) f
    (fun c i k => (Call1.pipe (co1 c i)).idsPt (F := F) d (Call1.cL (co1 c i)) (Call1.jL (co1 c i)) (A.i1 d) k)
    (fun c i k => (Call1.pipe (co1 c i)).outPt (F := F) d (Call1.cL (co1 c i)) (Call1.jL (co1 c i)) f k)
    (fun c i k => by unfold Pipe.idsPt Pipe.ibl; rw [← View.set_slice])
    (fun c i k => by unfold Pipe.outPt Pipe.obl; rw [← View.set_slice])
  have ht : ((SparseCore.T d : Thread nD τ).loc main_v3 ↦{fullShare} A.g0 d : sProp 𝕄)
      = bigSep Finset.univ fun c : Fin 2 => bigSep Finset.univ fun i : Fin 16 =>
        (Call1.pipe (co1 c i)).tblPt (F := F) d (Call1.cL (co1 c i)) (Call1.jL (co1 c i)) (share c i) (A.g0 d) := by
    rw [deal_share]
    refine bigSep_congr fun c _ => bigSep_congr fun i _ => ?_
    unfold Pipe.tblPt
    rw [tbl1_set]
  rw [h.1, h.2, ht]
  simp only [← bigSep_sep']
  rfl

end Cert.Proof.Gather

end
-- ==== Proof.Launch.lean ====
/-
  The launch: @main's host operations around the two calls, and the program's run.
-/
module

public import proofs.«01_k».proof.Proof.Split

@[expose] public section

noncomputable section

namespace Cert.Proof.Gather

open Cert.KernelIdeal Cert.KernelIdeal.Gen

open Idealize.ShloMosaic
open Idealize.ShloMosaic.SparseCore (S V)
open Idealize.ShloMosaic.SparseCore.Cfg (HIx Pay ownBufs ownSems0)
open Idealize.ShloMosaic.StableHlo (after held seq)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## @main's lines -/

/-- The host operations before the first call, between the two, and after the second. -/
def ops1 : List (HloOp τ sig (Elt F)) :=
  [StableHlo.reshape main_arg0 main_v0 (rfl : (.i32 : EltTy) = .i32) shapeCasts_S1024x20_S20480,
   StableHlo.nullary main_c (constantI S_ 32 0#32),
   StableHlo.unary main_c main_call0_v0 (sitofp .f32 : (⟨S_, .i32⟩ : BufTy).Contents (Elt F) → (⟨S_, .f32⟩ : BufTy).Contents (Elt F)),
   StableHlo.binary main_arg2 main_call0_v0 main_v1 ((fun x v => pad S100001x128 ![0, 0] ![0, 96] ![0, 0] x v pads_S100001x32_S100001x128_000_0960 h_S_)
      : (⟨S100001x32, .f32⟩ : BufTy).Contents (Elt F) → (⟨S_, .f32⟩ : BufTy).Contents (Elt F) → (⟨S100001x128, .f32⟩ : BufTy).Contents (Elt F)),
   StableHlo.reshape main_arg1 main_v2 (rfl : (.i32 : EltTy) = .i32) shapeCasts_S2048x128_S1x262144]
def ops2 : List (HloOp τ sig (Elt F)) :=
  [StableHlo.unary main_v0 main_v4 (broadcastInDim S20480x1 ![0] bcast_S20480_S20480x1_0 : (⟨S20480, .i32⟩ : BufTy).Contents (Elt F) → (⟨S20480x1, .i32⟩ : BufTy).Contents (Elt F)),
   StableHlo.nullary main_c_0 (constantI S_ 32 128#32),
   StableHlo.unary main_c_0 main_v5 (broadcastInDim S20480x1 ![] bcast_S_S20480x1 : (⟨S_, .i32⟩ : BufTy).Contents (Elt F) → (⟨S20480x1, .i32⟩ : BufTy).Contents (Elt F)),
   StableHlo.binary main_v4 main_v5 main_v6 (muli : (⟨S20480x1, .i32⟩ : BufTy).Contents (Elt F) → (⟨S20480x1, .i32⟩ : BufTy).Contents (Elt F) → (⟨S20480x1, .i32⟩ : BufTy).Contents (Elt F)),
   StableHlo.unary main_v6 main_v7 (broadcastInDim S20480x32 ![0, 1] bcast_S20480x1_S20480x32_0_1 : (⟨S20480x1, .i32⟩ : BufTy).Contents (Elt F) → (⟨S20480x32, .i32⟩ : BufTy).Contents (Elt F)),
   StableHlo.binary main_v7 main_arg3 main_v8 (addi : (⟨S20480x32, .i32⟩ : BufTy).Contents (Elt F) → (⟨S20480x32, .i32⟩ : BufTy).Contents (Elt F) → (⟨S20480x32, .i32⟩ : BufTy).Contents (Elt F)),
   StableHlo.reshape main_v8 main_v9 (rfl : (.i32 : EltTy) = .i32) shapeCasts_S20480x32_S1x655360]
def ops3 : List (HloOp τ sig (Elt F)) :=
  [StableHlo.reshape main_v10 main_v11 (rfl : (.f32 : EltTy) = .f32) shapeCasts_S655360x128_S20480x32x128,
   StableHlo.unary main_v11 main_v12 ((extractStridedSlice S20480x32x32 ![0, 0, 0] · slices_S20480x32x128_S20480x32x32_0_0_0) : (⟨S20480x32x128, .f32⟩ : BufTy).Contents (Elt F) → (⟨S20480x32x32, .f32⟩ : BufTy).Contents (Elt F))]

theorem main_eq (d : Dev nD) :
    main (F := F) d = seq ops1 >>= fun _ => sc.run d 0 >>= fun _ => seq ops2 >>= fun _ => sc.run d 1 >>= fun _ => seq ops3 >>= fun _ => pure ⟨⟩ := by
  simp only [main, fn_pad.body, ops1, ops2, ops3, seq, bind_assoc, pure_bind]
  rfl

theorem ops1_sub : (ops1 (F := F)).Forall fun op => op.bufs ⊆ StableHlo.tcRefs τ sig := by
  simp only [ops1, List.Forall, StableHlo.reshape_bufs_sub, StableHlo.nullary_bufs_sub, StableHlo.unary_bufs_sub, StableHlo.binary_bufs_sub, and_self]
theorem ops2_sub : (ops2 (F := F)).Forall fun op => op.bufs ⊆ StableHlo.tcRefs τ sig := by
  simp only [ops2, List.Forall, StableHlo.reshape_bufs_sub, StableHlo.nullary_bufs_sub, StableHlo.unary_bufs_sub, StableHlo.binary_bufs_sub, and_self]
theorem ops3_sub : (ops3 (F := F)).Forall fun op => op.bufs ⊆ StableHlo.tcRefs τ sig := by
  simp only [ops3, List.Forall, StableHlo.reshape_bufs_sub, StableHlo.nullary_bufs_sub, StableHlo.unary_bufs_sub, StableHlo.binary_bufs_sub, and_self]
theorem ops1_fresh : (ops1 (F := F)).Forall fun op => op.fresh = ∅ := StableHlo.forall_fresh_of_map rfl
theorem ops2_fresh : (ops2 (F := F)).Forall fun op => op.fresh = ∅ := StableHlo.forall_fresh_of_map rfl
theorem ops3_fresh : (ops3 (F := F)).Forall fun op => op.fresh = ∅ := StableHlo.forall_fresh_of_map rfl

/-! ## The buffers' contents along @main -/

abbrev dv (b : Ref sig .tc) : DevRef τ sig := Proc.devRef .tc b

variable (m : (ℓ : Loc nD τ sig) → Buf (Elt F) ℓ) (ρ : Dev nD → PrngReg)

/-- Before call 0. -/
def V1 (d : Dev nD) : Valuation τ sig (Elt F) := after ops1 fun b => m (d, b)
/-- What call 0 leaves in its output. -/
def G0 (d : Dev nD) : S262144x128.Idx → Elt F .f32 :=
  gathered (M := 262144) (R := 100001) (by decide) (V1 m d (dv main_v2)) (V1 m d (dv main_v1))
def V2 (d : Dev nD) : Valuation τ sig (Elt F) := Function.update (V1 m d) (dv main_v3) (G0 m d)
/-- Before call 1. -/
def V3 (d : Dev nD) : Valuation τ sig (Elt F) := after ops2 (V2 m d)

/-- The words of both lists name rows of the tables. -/
structure OK : Prop where
  h0 : ∀ d (x : S1x262144.Idx), (V1 m d (dv main_v2) x : BitVec 32).toNat < 100001
  h1 : ∀ d (x : S1x655360.Idx), (V3 m d (dv main_v9) x : BitVec 32).toNat < 262144

variable {m} in
def arrs (h : OK m) : Arrays F where
  t0 d := V1 m d (dv main_v1)
  i0 d := V1 m d (dv main_v2)
  o0 d := V1 m d (dv main_v3)
  i1 d := V3 m d (dv main_v9)
  o1 d := V3 m d (dv main_v10)
  h0 := h.h0
  h1 := h.h1

def G1 (d : Dev nD) : S655360x128.Idx → Elt F .f32 :=
  gathered (M := 655360) (R := 262144) (by decide) (V3 m d (dv main_v9)) (G0 m d)
theorem g0_eq (h : OK m) (d : Dev nD) : (arrs h).g0 d = G0 m d := rfl
theorem g1_eq (h : OK m) (d : Dev nD) : (arrs h).g1 d = G1 m d := by
  unfold Arrays.g1 G1; rw [g0_eq]; rfl
def V4 (d : Dev nD) : Valuation τ sig (Elt F) := Function.update (V3 m d) (dv main_v10) (G1 m d)
/-- At the end. -/
def V5 (d : Dev nD) : Valuation τ sig (Elt F) := after ops3 (V4 m d)

theorem V3_v3 (d : Dev nD) : V3 m d (dv main_v3) = G0 m d := by
  unfold V3
  rw [StableHlo.after_of_writes_sub (W := [main_v4, main_c_0, main_v5, main_v6, main_v7, main_v8, main_v9]) ops2 _
    (StableHlo.forall_writes_sub_of_map rfl) (by decide)]
  exact Function.update_self ..

theorem mem_uc (r : Ref sig .tc) (hr : r.isScoped = false) : dv r ∈ ucRefs τ sig :=
  Finset.mem_filter.mpr ⟨StableHlo.devRef_mem_tcRefs r, by
    show ¬ ((dv r).isScoped = true)
    rw [show (dv r).isScoped = r.isScoped from rfl, hr]; exact Bool.false_ne_true⟩

/-- Three unscoped buffers out of all of them. -/
theorem held_three (d : Dev nD) {a b c : Ref sig .tc} (hab : a ≠ b) (hac : a ≠ c) (hbc : b ≠ c)
    (ha : a.isScoped = false) (hb : b.isScoped = false) (hc : c.isScoped = false) (W : Valuation τ sig (Elt F)) (g : (dv c).ty.Contents (Elt F)) :
    (held (SparseCore.T d : Thread nD τ) (ucRefs τ sig) W : sProp 𝕄)
        = iprop((((SparseCore.T d : Thread nD τ).loc a ↦{fullShare} W (dv a)) ∗ ((SparseCore.T d : Thread nD τ).loc b ↦{fullShare} W (dv b))
          ∗ ((SparseCore.T d : Thread nD τ).loc c ↦{fullShare} W (dv c))) ∗ held (SparseCore.T d : Thread nD τ) (ucRefs τ sig \ {dv a, dv b, dv c}) W)
      ∧ (held (SparseCore.T d : Thread nD τ) (ucRefs τ sig) (Function.update W (dv c) g) : sProp 𝕄)
        = iprop((((SparseCore.T d : Thread nD τ).loc a ↦{fullShare} W (dv a)) ∗ ((SparseCore.T d : Thread nD τ).loc b ↦{fullShare} W (dv b))
          ∗ ((SparseCore.T d : Thread nD τ).loc c ↦{fullShare} g)) ∗ held (SparseCore.T d : Thread nD τ) (ucRefs τ sig \ {dv a, dv b, dv c}) W) := by
  have hsub : ({dv a, dv b, dv c} : Finset (DevRef τ sig)) ⊆ ucRefs τ sig := by
    intro x hx
    simp only [Finset.mem_insert, Finset.mem_singleton] at hx
    rcases hx with rfl | rfl | rfl
    · exact mem_uc _ ha
    · exact mem_uc _ hb
    · exact mem_uc _ hc
  have nab := StableHlo.devRef_ne_of_ne (τ := τ) hab
  have nac := StableHlo.devRef_ne_of_ne (τ := τ) hac
  have nbc := StableHlo.devRef_ne_of_ne (τ := τ) hbc
  have key : ∀ W' : Valuation τ sig (Elt F), (held (SparseCore.T d : Thread nD τ) {dv a, dv b, dv c} W' : sProp 𝕄)
      = iprop(((SparseCore.T d : Thread nD τ).loc a ↦{fullShare} W' (dv a)) ∗ ((SparseCore.T d : Thread nD τ).loc b ↦{fullShare} W' (dv b))
          ∗ ((SparseCore.T d : Thread nD τ).loc c ↦{fullShare} W' (dv c))) := by
    intro W'
    unfold StableHlo.held
    rw [SparseCore.bigSep_insert' (by simp [nab, nac]), SparseCore.bigSep_insert' (by simp [nbc]), bigSep_singleton]
  constructor
  · rw [StableHlo.held_sub_split _ hsub, key]
  · rw [StableHlo.held_sub_split _ hsub, key, Function.update_of_ne nac, Function.update_of_ne nbc, Function.update_self,
      StableHlo.held_congr (V := Function.update W (dv c) g) (V' := W)]
    intro x hx
    rw [Function.update_of_ne]
    rintro rfl
    exact (Finset.mem_sdiff.1 hx).2 (by simp)

/-! ## The certificate's ghost state -/

theorem bigSep_none {I : Type} (s : Finset I) : (bigSep s fun _ => iprop(emp)) = (iprop(emp) : sProp 𝕄) := bigSep_emp_const s

def u₀ : UU := (initOf (K (F := F)).hsCells (K (F := F)).hsToks, 1)

theorem hu₀ (A : Arrays F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P A).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 2 => (P (F := F) A).x q thr) = bigSep Finset.univ fun _ => iprop(emp) from
    bigSep_congr fun _ _ => bigSep_none _, bigSep_none]
  iempintro

/-! ## @main on the TensorCore -/

abbrev FIN (d : Dev nD) : sProp 𝕄 := held (SparseCore.T d : Thread nD τ) (ucRefs τ sig) (V5 m d)

theorem hmain (h : OK m) (κ : GSem nD τ sig → ℕ) (d : Dev nD) :
    iprop((K (F := F)).ctx EH (P (arrs h)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [show (unscopedBufs d (fun b => m ((SparseCore.T d : Thread nD τ).loc b)) : sProp 𝕄) = held (SparseCore.T d : Thread nD τ) (ucRefs τ sig) (fun b => m (d, b))
    from Pipeline.unscopedBufs_held d (fun b => m (d, b)), main_eq]
  have s0 : (iprop(((SparseCore.T d : Thread nD τ).loc main_v2 ↦{fullShare} V1 m d (dv main_v2)) ∗ ((SparseCore.T d : Thread nD τ).loc main_v1 ↦{fullShare} V1 m d (dv main_v1))
        ∗ ((SparseCore.T d : Thread nD τ).loc main_v3 ↦{fullShare} V1 m d (dv main_v3))) : sProp 𝕄)
      ⊢ bigSep Finset.univ fun c : Fin ((K (F := F)).nCore 0) => (P (arrs h)).st 0 d c := by
    show _ ⊢ (bigSep Finset.univ fun c : Fin 2 => bigSep Finset.univ fun i : Fin 16 => res0 (arrs h) d c i ((arrs h).o0 d))
    rw [← deal0]
    exact Entails.of_eq rfl
  have z0 : (bigSep Finset.univ fun c : Fin ((K (F := F)).nCore 0) => (P (arrs h)).dn 0 d c)
      ⊢ (iprop(((SparseCore.T d : Thread nD τ).loc main_v2 ↦{fullShare} V1 m d (dv main_v2)) ∗ ((SparseCore.T d : Thread nD τ).loc main_v1 ↦{fullShare} V1 m d (dv main_v1))
        ∗ ((SparseCore.T d : Thread nD τ).loc main_v3 ↦{fullShare} G0 m d)) : sProp 𝕄) := by
    show (bigSep Finset.univ fun c : Fin 2 => bigSep Finset.univ fun i : Fin 16 => res0 (arrs h) d c i ((arrs h).g0 d)) ⊢ _
    rw [← deal0, g0_eq]
    exact Entails.of_eq rfl
  have s1 : (iprop(((SparseCore.T d : Thread nD τ).loc main_v9 ↦{fullShare} V3 m d (dv main_v9)) ∗ ((SparseCore.T d : Thread nD τ).loc main_v3 ↦{fullShare} G0 m d)
        ∗ ((SparseCore.T d : Thread nD τ).loc main_v10 ↦{fullShare} V3 m d (dv main_v10))) : sProp 𝕄)
      ⊢ bigSep Finset.univ fun c : Fin ((K (F := F)).nCore 1) => (P (arrs h)).st 1 d c := by
    show _ ⊢ (bigSep Finset.univ fun c : Fin 2 => bigSep Finset.univ fun i : Fin 16 => res1 (arrs h) d c i ((arrs h).o1 d))
    rw [← deal1, g0_eq]
    exact Entails.of_eq rfl
  have z1 : (bigSep Finset.univ fun c : Fin ((K (F := F)).nCore 1) => (P (arrs h)).dn 1 d c)
      ⊢ (iprop(((SparseCore.T d : Thread nD τ).loc main_v9 ↦{fullShare} V3 m d (dv main_v9)) ∗ ((SparseCore.T d : Thread nD τ).loc main_v3 ↦{fullShare} G0 m d)
        ∗ ((SparseCore.T d : Thread nD τ).loc main_v10 ↦{fullShare} G1 m d)) : sProp 𝕄) := by
    show (bigSep Finset.univ fun c : Fin 2 => bigSep Finset.univ fun i : Fin 16 => res1 (arrs h) d c i ((arrs h).g1 d)) ⊢ _
    rw [← deal1, g1_eq, g0_eq]
    exact Entails.of_eq rfl
  have e0 := held_three (F := F) d (a := main_v2) (b := main_v1) (c := main_v3) (by decide) (by decide) (by decide) rfl rfl rfl (V1 m d) (G0 m d)
  have e1 := held_three (F := F) d (a := main_v9) (b := main_v3) (c := main_v10) (by decide) (by decide) (by decide) rfl rfl rfl (V3 m d) (G1 m d)
  rw [V3_v3] at e1
  iintro ⟨#Hctx, Hst, ⟨Hb, Hh, Hts, -⟩, -⟩
  iapply (StableHlo.wp_seq (𝒱) none Set.univ d (ucRefs τ sig) _ ops1
    (fun op ho => Pipeline.sub_ucRefs op ((List.forall_iff_forall_mem.mp ops1_sub) op ho))
    (fun op ho => (List.forall_iff_forall_mem.mp ops1_fresh) op ho) _) $$ [Hb Hh]
  · isplitl [Hb] <;> iassumption
  iintro ⟨Hb, Hh⟩
  ihave Hh := (show (held d.tc (ucRefs τ sig) (after ops1 fun b => m (d, b)) : sProp 𝕄) ⊢ _ from Entails.of_eq e0.1) $$ Hh
  icases Hh with ⟨Hh, Hrest⟩
  rw [wp_bind]
  iapply ((K (F := F)).wp_run (D (F := F)) 𝒱 (EH := EH) (P := P (arrs h)) κ d 0) $$ [Hst Hh Hb Hts Hrest]
  isplitr; · iexact Hctx
  isplitl [Hst]; · iexact Hst
  isplitl [Hh]
  · iapply s0; iexact Hh
  iintro ⟨Hst, Hh⟩
  ihave Hh := z0 $$ Hh
  ihave Hh := (show iprop(_ ∗ _) ⊢ _ from Entails.of_eq e0.2.symm) $$ [Hh Hrest]
  · isplitl [Hh] <;> iassumption
  iapply (StableHlo.wp_seq (𝒱) none Set.univ d (ucRefs τ sig) _ ops2
    (fun op ho => Pipeline.sub_ucRefs op ((List.forall_iff_forall_mem.mp ops2_sub) op ho))
    (fun op ho => (List.forall_iff_forall_mem.mp ops2_fresh) op ho) (V2 m d)) $$ [Hb Hh]
  · isplitl [Hb]; · iexact Hb
    iexact Hh
  iintro ⟨Hb, Hh⟩
  ihave Hh := (show (held d.tc (ucRefs τ sig) (after ops2 (V2 m d)) : sProp 𝕄) ⊢ _ from Entails.of_eq e1.1) $$ Hh
  icases Hh with ⟨Hh, Hrest⟩
  rw [wp_bind]
  iapply ((K (F := F)).wp_run (D (F := F)) 𝒱 (EH := EH) (P := P (arrs h)) κ d 1) $$ [Hst Hh Hb Hts Hrest]
  isplitr; · iexact Hctx
  isplitl [Hst]; · iexact Hst
  isplitl [Hh]
  · iapply s1; iexact Hh
  iintro ⟨Hst, Hh⟩
  ihave Hh := z1 $$ Hh
  ihave Hh := (show iprop(_ ∗ _) ⊢ _ from Entails.of_eq e1.2.symm) $$ [Hh Hrest]
  · isplitl [Hh] <;> iassumption
  iapply (StableHlo.wp_seq (𝒱) none Set.univ d (ucRefs τ sig) _ ops3
    (fun op ho => Pipeline.sub_ucRefs op ((List.forall_iff_forall_mem.mp ops3_sub) op ho))
    (fun op ho => (List.forall_iff_forall_mem.mp ops3_fresh) op ho) (V4 m d)) $$ [Hb Hh]
  · isplitl [Hb]; · iexact Hb
    iexact Hh
  iintro ⟨Hb, Hh⟩
  rw [wp_pure]
  imodintro
  isplitl [Hst]; · iexact Hst
  isplitl [Hh]; · iexact Hh
  isplitl [Hb] <;> iassumption

/-! ## The run -/

def fq (d : Dev nD) (s' : Phys nD τ sig (Elt F)) : Prop := ∀ b : Ref sig .tc, b.isScoped = false → s'.mem.mem (d, dv b) = V5 m d (dv b)

theorem hfin (d : Dev nD) (s' : Phys nD τ sig (Elt F)) : iprop(FIN m d ∗ SI s') ⊢ (⌜fq m d s'⌝ : sProp 𝕄) := by
  have one : ∀ b : Ref sig .tc, iprop(FIN m d ∗ SI s') ⊢ (⌜b.isScoped = false → s'.mem.mem (d, dv b) = V5 m d (dv b)⌝ : sProp 𝕄) := by
    intro b
    by_cases hb : b.isScoped = false
    · rw [show (FIN m d : sProp 𝕄) = held (SparseCore.T d : Thread nD τ) (ucRefs τ sig) (V5 m d) from rfl,
        StableHlo.held_sub_split _ (show {dv b} ⊆ ucRefs τ sig from Finset.singleton_subset_iff.2 (mem_uc b hb))]
      unfold StableHlo.held
      rw [bigSep_singleton]
      iintro ⟨⟨Hb, -⟩, HSI⟩
      ihave H := (SI_pointsTo_agree (st := s') (ℓ := (d, dv b)) (I := Finset.univ) (q := fullShare) (f := V5 m d (dv b))) $$ [HSI Hb]
      · isplitl [HSI] <;> iassumption
      icases H with %h1
      ipureintro; exact fun _ => funext fun i => h1 i (Finset.mem_univ i)
    · iintro -
      ipureintro; exact fun h => absurd h hb
  exact (Laws.forall_intro one).trans Laws.pure_forall.2

def QC : PUnit × MemSt nD τ sig (Elt F) → Prop := fun r =>
  (∀ (d : Dev nD) (b : Ref sig .tc), b.isScoped = false → r.2.mem (d, dv b) = V5 m d (dv b)) ∧ r.2.sem = fun _ => 0

theorem run_main [∀ e, Nonempty (Elt F e)] (h : OK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (arrs h)) (A := ∅) facts v₀
    (fun q hq => match q with | 0 => nomatch hq | 1 => nomatch hq)
    (fun q _ => match q with | 0 => tileObl0 (arrs h) | 1 => tileObl1 (arrs h))
    (fun q _ => match q with | 0 => SparseCore.Cfg.VecSplit.of_plain (vecSplit0 (arrs h)) | 1 => SparseCore.Cfg.VecSplit.of_plain (vecSplit1 (arrs h)))
    m ρ main (fun _ => iprop(emp)) (FIN m) (u₀ (F := F)) (sep_elim_left.trans (hu₀ (arrs h))) (hmain m ρ h) (fq m) (hfin m) (QC m) (fun _ h hz => ⟨h, hz⟩)

end Cert.Proof.Gather

end
-- ==== Proof.Closed.lean ====
/-
  The function both programs compute, and the ranges of the indices.
-/
module

public import proofs.«01_k».proof.Proof.Gen.Pre_in_range
public import proofs.«01_k».proof.Pre_in_range
public import Idealize.ShloMosaic.Lib.ValueIdxCore
public import Idealize.ShloMosaic.Lib.ReduceAll
public import Idealize.ShloMosaic.Lib.Affine

@[expose] public section

noncomputable section

namespace Cert.Proof.Closed

open Idealize.ShloMosaic Idealize.ShloMosaic.ValueIdx

/-- The indices are in the ranges they are drawn from. -/
structure InRange (a0 : (⟨2, ![1024, 20]⟩ : Shape).Idx → BitVec 32) (a1 : (⟨2, ![2048, 128]⟩ : Shape).Idx → BitVec 32)
    (a3 : (⟨2, ![20480, 32]⟩ : Shape).Idx → BitVec 32) : Prop where
  r0 : ∀ i, (a0 i).toNat < 2048
  r1 : ∀ i, (a1 i).toNat < 100001
  r3 : ∀ i, (a3 i).toNat < 128

theorem cast0 : (⟨2, ![1024, 20]⟩ : Shape).ShapeCasts ⟨1, ![20480]⟩ := by decide

/-- Row `i` of the samples, flattened. -/
def samp (a0 : (⟨2, ![1024, 20]⟩ : Shape).Idx → BitVec 32) (i : Fin 20480) : BitVec 32 :=
  shapeCast (⟨1, ![20480]⟩ : Shape) a0 cast0 (ix1 i)

theorem InRange.samp {a0 a1 a3} (h : InRange a0 a1 a3) (i : Fin 20480) : (samp a0 i).toNat < 2048 := h.r0 _

/-- The rows selected: of sample `i`, the candidate at place `j` of its list, that candidate's row of the table. -/
def rows {α : Type} (a0 : (⟨2, ![1024, 20]⟩ : Shape).Idx → BitVec 32) (a1 : (⟨2, ![2048, 128]⟩ : Shape).Idx → BitVec 32)
    (a2 : (⟨2, ![100001, 32]⟩ : Shape).Idx → α) (a3 : (⟨2, ![20480, 32]⟩ : Shape).Idx → BitVec 32) : (⟨3, ![20480, 32, 32]⟩ : Shape).Idx → α :=
  fun x => a2 (ix2 ⟨(a1 (ix2 ⟨(samp a0 (x 0)).toNat % 2048, Nat.mod_lt _ (by decide)⟩
    ⟨(a3 (ix2 (x 0) (x 1))).toNat % 128, Nat.mod_lt _ (by decide)⟩)).toNat % 100001, Nat.mod_lt _ (by decide)⟩ (x 2))

/-! ## The precondition read back -/

theorem ofBool_one (b : Bool) : BitVec.ofBool b = 1#1 ↔ b = true := by cases b <;> decide

theorem sge_iff (x : BitVec 32) : IntOp.cmpi .sge x 0#32 = 1#1 ↔ x.toNat < 2 ^ 31 := by
  show BitVec.ofBool ((0#32).sle x) = 1#1 ↔ _
  rw [ofBool_one, BitVec.sle_eq_decide, decide_eq_true_eq, BitVec.toInt_eq_toNat_cond, BitVec.toInt_eq_toNat_cond, BitVec.toNat_ofNat]
  omega
theorem slt_iff (x : BitVec 32) (hx : x.toNat < 2 ^ 31) (n : Nat) (hn : n < 2 ^ 31) :
    IntOp.cmpi .slt x (BitVec.ofNat 32 n) = 1#1 ↔ x.toNat < n := by
  show BitVec.ofBool (x.slt (BitVec.ofNat 32 n)) = 1#1 ↔ _
  rw [ofBool_one, BitVec.slt_eq_decide, decide_eq_true_eq, BitVec.toInt_eq_toNat_cond, BitVec.toInt_eq_toNat_cond, BitVec.toNat_ofNat]
  omega
theorem sle_iff (x : BitVec 32) (hx : x.toNat < 2 ^ 31) (n : Nat) (hn : n < 2 ^ 31) :
    IntOp.cmpi .sle x (BitVec.ofNat 32 n) = 1#1 ↔ x.toNat ≤ n := by
  show BitVec.ofBool (x.sle (BitVec.ofNat 32 n)) = 1#1 ↔ _
  rw [ofBool_one, BitVec.sle_eq_decide, decide_eq_true_eq, BitVec.toInt_eq_toNat_cond, BitVec.toInt_eq_toNat_cond, BitVec.toNat_ofNat]
  omega

theorem lt_of_cmp {x : BitVec 32} {n : Nat} (hn : n < 2 ^ 31)
    (e : IntOp.andi (IntOp.cmpi .sge x 0#32) (IntOp.cmpi .slt x (BitVec.ofNat 32 n)) = 1#1) : x.toNat < n := by
  obtain ⟨e0, e1⟩ := IntOp.andi_eq_one.1 e
  exact (slt_iff x ((sge_iff x).1 e0) n hn).1 e1
theorem le_of_cmp {x : BitVec 32} {n : Nat} (hn : n < 2 ^ 31)
    (e : IntOp.andi (IntOp.cmpi .sge x 0#32) (IntOp.cmpi .sle x (BitVec.ofNat 32 n)) = 1#1) : x.toNat ≤ n := by
  obtain ⟨e0, e1⟩ := IntOp.andi_eq_one.1 e
  exact (sle_iff x ((sge_iff x).1 e0) n hn).1 e1

instance : Subsingleton (⟨0, ![]⟩ : Shape).Idx := ⟨fun a b => funext fun i => i.elim0⟩

theorem inRange_of_pre [Cert.Pre_in_range.Facts] {F : FTy → Type} [FloatOps F] {a0 a1 a2 a3}
    (h : Cert.Pre_in_range.fn (F := F) a0 a1 a2 a3 = fun _ => 1#1) : InRange a0 a1 a3 := by
  have e := congrFun h ix0
  unfold Cert.Pre_in_range.fn Cert.Pre_in_range.fn_part1 at e
  obtain ⟨e12, e3⟩ := IntOp.andi_eq_one.1 e
  obtain ⟨e1, e2⟩ := IntOp.andi_eq_one.1 e12
  exact
    { r0 := fun i => lt_of_cmp (n := 2048) (by decide) (Host.reduce_andi_all _ _ _ _ _ e1 i)
      r1 := fun i => Nat.lt_succ_of_le (le_of_cmp (n := 100000) (by decide) (Host.reduce_andi_all _ _ _ _ _ e2 i))
      r3 := fun i => lt_of_cmp (n := 128) (by decide) (Host.reduce_andi_all _ _ _ _ _ e3 i) }

end Cert.Proof.Closed

end
-- ==== Proof.Host.lean ====
/-
  The host operations around the two calls: what the lists hold, and what the result is.
-/
module

public import proofs.«01_k».proof.Proof.Launch
public import proofs.«01_k».proof.Proof.Closed
public import Idealize.ShloMosaic.Lib.Pipeline.Value
public import Idealize.ShloMosaic.Lib.KernelVsHost

@[expose] public section

noncomputable section

namespace Cert.Proof.Gather

open Cert.KernelIdeal Cert.KernelIdeal.Gen

open Idealize.ShloMosaic Idealize.ShloMosaic.ValueIdx
open Idealize.ShloMosaic.StableHlo (after)
open Cert.Proof.Closed

variable {F : FTy → Type} [FloatOps F]
variable (m : (ℓ : Loc nD τ sig) → Buf (Elt F) ℓ) (d : Dev nD)

/-! ## Buffers no line writes -/

theorem V1_of_not {r : Ref sig .tc} (h : r ∉ [main_v0, main_c, main_call0_v0, main_v1, main_v2]) : V1 m d (dv r) = m (d, dv r) := by
  unfold V1
  rw [StableHlo.after_of_writes_sub (W := [main_v0, main_c, main_call0_v0, main_v1, main_v2]) ops1 _ (StableHlo.forall_writes_sub_of_map rfl) h]
theorem V3_of_not {r : Ref sig .tc} (h : r ∉ [main_v4, main_c_0, main_v5, main_v6, main_v7, main_v8, main_v9]) (h3 : r ≠ main_v3) :
    V3 m d (dv r) = V1 m d (dv r) := by
  unfold V3
  rw [StableHlo.after_of_writes_sub (W := [main_v4, main_c_0, main_v5, main_v6, main_v7, main_v8, main_v9]) ops2 _
    (StableHlo.forall_writes_sub_of_map rfl) h]
  exact Function.update_of_ne (StableHlo.devRef_ne_of_ne h3) _ _
theorem V5_of_not {r : Ref sig .tc} (h : r ∉ [main_v11, main_v12]) (h3 : r ≠ main_v10) : V5 m d (dv r) = V3 m d (dv r) := by
  unfold V5
  rw [StableHlo.after_of_writes_sub (W := [main_v11, main_v12]) ops3 _ (StableHlo.forall_writes_sub_of_map rfl) h]
  exact Function.update_of_ne (StableHlo.devRef_ne_of_ne h3) _ _

theorem V5_arg0 : V5 m d (dv main_arg0) = m (d, dv main_arg0) := by
  rw [V5_of_not m d (by decide) (by decide), V3_of_not m d (by decide) (by decide), V1_of_not m d (by decide)]
theorem V5_arg1 : V5 m d (dv main_arg1) = m (d, dv main_arg1) := by
  rw [V5_of_not m d (by decide) (by decide), V3_of_not m d (by decide) (by decide), V1_of_not m d (by decide)]
theorem V5_arg2 : V5 m d (dv main_arg2) = m (d, dv main_arg2) := by
  rw [V5_of_not m d (by decide) (by decide), V3_of_not m d (by decide) (by decide), V1_of_not m d (by decide)]
theorem V5_arg3 : V5 m d (dv main_arg3) = m (d, dv main_arg3) := by
  rw [V5_of_not m d (by decide) (by decide), V3_of_not m d (by decide) (by decide), V1_of_not m d (by decide)]

/-! ## The lists and the tables -/

theorem V1_v0 : V1 m d (dv main_v0) = shapeCast S20480 (m (d, dv main_arg0)) shapeCasts_S1024x20_S20480 := by
  unfold V1 ops1; after_results_simp; rfl
theorem V1_v1 : V1 m d (dv main_v1) = pad S100001x128 ![0, 0] ![0, 96] ![0, 0] (m (d, dv main_arg2))
    (sitofp .f32 (constantI S_ 32 0#32) : (⟨S_, .f32⟩ : BufTy).Contents (Elt F)) pads_S100001x32_S100001x128_000_0960 h_S_ := by
  unfold V1 ops1; after_results_simp
theorem V1_v2 : V1 m d (dv main_v2) = shapeCast S1x262144 (m (d, dv main_arg1)) shapeCasts_S2048x128_S1x262144 := by
  unfold V1 ops1; after_results_simp; rfl
theorem V3_v9 : V3 m d (dv main_v9) = shapeCast S1x655360 (addi (broadcastInDim S20480x32 ![0, 1] bcast_S20480x1_S20480x32_0_1
      (muli (broadcastInDim S20480x1 ![0] bcast_S20480_S20480x1_0 (V2 m d (dv main_v0)))
        (broadcastInDim S20480x1 ![] bcast_S_S20480x1 (constantI S_ 32 128#32)))) (V2 m d (dv main_arg3))) shapeCasts_S20480x32_S1x655360 := by
  unfold V3 ops2; after_results_simp; rfl
theorem V5_v12 : V5 m d (dv main_v12) = extractStridedSlice S20480x32x32 ![0, 0, 0]
      (shapeCast S20480x32x128 (V4 m d (dv main_v10)) shapeCasts_S655360x128_S20480x32x128) slices_S20480x32x128_S20480x32x32_0_0_0 := by
  unfold V5 ops3; after_results_simp; rfl

/-! ## Read at an index -/

variable {m d}

abbrev a0 (m : (ℓ : Loc nD τ sig) → Buf (Elt F) ℓ) (d : Dev nD) : S1024x20.Idx → BitVec 32 := m (d, dv main_arg0)
abbrev a1 (m : (ℓ : Loc nD τ sig) → Buf (Elt F) ℓ) (d : Dev nD) : S2048x128.Idx → BitVec 32 := m (d, dv main_arg1)
abbrev a2 (m : (ℓ : Loc nD τ sig) → Buf (Elt F) ℓ) (d : Dev nD) : S100001x32.Idx → Elt F .f32 := m (d, dv main_arg2)
abbrev a3 (m : (ℓ : Loc nD τ sig) → Buf (Elt F) ℓ) (d : Dev nD) : S20480x32.Idx → BitVec 32 := m (d, dv main_arg3)

theorem list0_at (x : S1x262144.Idx) : (V1 m d (dv main_v2) : S1x262144.Idx → BitVec 32) x
    = a1 m d (ix2 ⟨(x 1).val / 128, by have := idx2_lt1 x; omega⟩ ⟨(x 1).val % 128, Nat.mod_lt _ (by decide)⟩) := by
  rw [V1_v2]
  refine shapeCast_apply (s := S2048x128) (a1 m d) _ _ _ ?_
  rw [Shape.rowMajor_val_two, Shape.rowMajor_val_two]
  have := idx2_lt0 x
  show (x 1).val / 128 * 128 + (x 1).val % 128 = (x 0).val * 262144 + (x 1).val
  omega

theorem V2_v0 : V2 m d (dv main_v0) = shapeCast S20480 (m (d, dv main_arg0)) shapeCasts_S1024x20_S20480 := by
  unfold V2
  rw [Function.update_of_ne (StableHlo.devRef_ne_of_ne (by decide)), V1_v0]
theorem V2_arg3 : V2 m d (dv main_arg3) = m (d, dv main_arg3) := by
  unfold V2
  rw [Function.update_of_ne (StableHlo.devRef_ne_of_ne (by decide)), V1_of_not m d (by decide)]

theorem list1_at (x : S1x655360.Idx) : (V3 m d (dv main_v9) : S1x655360.Idx → BitVec 32) x
    = samp (a0 m d) ⟨(x 1).val / 32, by have := idx2_lt1 x; omega⟩ * 128#32
      + a3 m d (ix2 ⟨(x 1).val / 32, by have := idx2_lt1 x; omega⟩ ⟨(x 1).val % 32, Nat.mod_lt _ (by decide)⟩) := by
  rw [V3_v9, V2_v0, V2_arg3]
  have hx := idx2_lt1 x
  rw [shapeCast_apply _ _ x (ix2 ⟨(x 1).val / 32, by omega⟩ ⟨(x 1).val % 32, Nat.mod_lt _ (by decide)⟩) (by
    rw [Shape.rowMajor_val_two, Shape.rowMajor_val_two]
    have := idx2_lt0 x
    show (x 1).val / 32 * 32 + (x 1).val % 32 = (x 0).val * 655360 + (x 1).val
    omega)]
  refine congrArg (fun w : BitVec 32 => w * 128#32 + _) ?_
  refine congrArg (shapeCast S20480 (a0 m d) shapeCasts_S1024x20_S20480) ?_
  funext a
  match a with | ⟨0, _⟩ => rfl

theorem list1_toNat (h : InRange (a0 m d) (a1 m d) (a3 m d)) (x : S1x655360.Idx) : (V3 m d (dv main_v9) x : BitVec 32).toNat
    = (samp (a0 m d) ⟨(x 1).val / 32, by have := idx2_lt1 x; omega⟩).toNat * 128
      + (a3 m d (ix2 ⟨(x 1).val / 32, by have := idx2_lt1 x; omega⟩ ⟨(x 1).val % 32, Nat.mod_lt _ (by decide)⟩)).toNat := by
  have e := list1_at (m := m) (d := d) x
  rw [e, BitVec.toNat_add, BitVec.toNat_mul]
  have h0 := h.samp ⟨(x 1).val / 32, by have := idx2_lt1 x; omega⟩
  have h3 := h.r3 (ix2 ⟨(x 1).val / 32, by have := idx2_lt1 x; omega⟩ ⟨(x 1).val % 32, Nat.mod_lt _ (by decide)⟩)
  show (_ * 128 % 2 ^ 32 + _) % 2 ^ 32 = _
  omega

theorem ok_of_inRange (h : ∀ d, InRange (a0 m d) (a1 m d) (a3 m d)) : OK m where
  h0 d x := by
    have e := list0_at (m := m) (d := d) x
    rw [e]; exact (h d).r1 _
  h1 d x := by
    rw [list1_toNat (h d)]
    have h0 := (h d).samp ⟨(x 1).val / 32, by have := idx2_lt1 x; omega⟩
    have h3 := (h d).r3 (ix2 ⟨(x 1).val / 32, by have := idx2_lt1 x; omega⟩ ⟨(x 1).val % 32, Nat.mod_lt _ (by decide)⟩)
    omega

theorem tbl_at (r : Fin 100001) (c : Fin 32) : (V1 m d (dv main_v1) : S100001x128.Idx → Elt F .f32) (ix2 r ⟨c.val, by omega⟩) = a2 m d (ix2 r c) := by
  rw [V1_v1]
  refine pad_apply_of_inside _ _ _ _ _ _ _ _ _ fun a => ?_
  match a with
  | ⟨0, _⟩ => show r.val = 0 + r.val * (0 + 1); omega
  | ⟨1, _⟩ => show c.val = 0 + c.val * (0 + 1); omega

theorem pair_eq_ix2 {n0 n1 : Nat} (a : Fin n0) (b : Fin n1) : Shape.pair (d := ![n0, n1]) a b = ix2 a b := by
  funext k; match k with | ⟨0, _⟩ => rfl | ⟨1, _⟩ => rfl

theorem gathered_at {α : Type} {M R : ℕ} (hR : 0 < R) (ids : (⟨2, ![1, M]⟩ : Shape).Idx → BitVec 32) (tbl : (⟨2, ![R, 128]⟩ : Shape).Idx → α)
    (p : Fin M) (c : Fin 128) {n : ℕ} (hn : (ids (ix2 0 p)).toNat = n) (hlt : n < R) : gathered hR ids tbl (ix2 p c) = tbl (ix2 ⟨n, hlt⟩ c) := by
  subst hn
  refine congrArg tbl ?_
  funext k
  match k with
  | ⟨0, _⟩ =>
    refine Fin.ext ?_
    show (ids (Shape.pair (d := ![1, M]) ⟨0, Nat.one_pos⟩ p)).toNat % R = (ids (ix2 0 p)).toNat
    exact (congrArg (fun q => (ids q).toNat % R) (pair_eq_ix2 (n0 := 1) (n1 := M) 0 p)).trans (Nat.mod_eq_of_lt hlt)
  | ⟨1, _⟩ => rfl

/-- The program's result: the rows selected. -/
theorem V5_rows (h : InRange (a0 m d) (a1 m d) (a3 m d)) :
    V5 m d (dv main_v12) = rows (a0 m d) (a1 m d) (a2 m d) (a3 m d) := by
  rw [V5_v12]
  funext x
  have hx0 : (x 0).val < 20480 := (x 0).isLt
  have hx1 : (x 1).val < 32 := (x 1).isLt
  have hx2 : (x 2).val < 32 := (x 2).isLt
  rw [extractStridedSlice_apply _ _ _ _ (ix3 ⟨(x 0).val, hx0⟩ ⟨(x 1).val, hx1⟩ ⟨(x 2).val, by omega⟩) (fun a => by
    match a with | ⟨0, _⟩ => exact (Nat.zero_add _).symm | ⟨1, _⟩ => exact (Nat.zero_add _).symm | ⟨2, _⟩ => exact (Nat.zero_add _).symm)]
  rw [shapeCast_apply _ _ _ (ix2 ⟨(x 0).val * 32 + (x 1).val, by omega⟩ ⟨(x 2).val, by omega⟩) (by
    rw [Shape.rowMajor_val_two, Shape.rowMajor_val_three]
    rfl)]
  unfold V4
  rw [Function.update_self]
  have hd : ((x 0).val * 32 + (x 1).val) / 32 = (x 0).val := by omega
  have hm : ((x 0).val * 32 + (x 1).val) % 32 = (x 1).val := by omega
  have hs := h.samp (x 0)
  have hi := h.r3 (ix2 (x 0) (x 1))
  have hl : (V3 m d (dv main_v9) (ix2 (n0 := 1) 0 ⟨(x 0).val * 32 + (x 1).val, by omega⟩) : BitVec 32).toNat
      = (samp (a0 m d) (x 0)).toNat * 128 + (a3 m d (ix2 (x 0) (x 1))).toNat := by
    rw [list1_toNat h]
    exact congrArg₂ (fun (p : Fin 20480) (q : Fin 32) => (samp (a0 m d) p).toNat * 128 + (a3 m d (ix2 p q)).toNat) (Fin.ext hd) (Fin.ext hm)
  have e0 := list0_at (m := m) (d := d) (ix2 0 ⟨(samp (a0 m d) (x 0)).toNat * 128 + (a3 m d (ix2 (x 0) (x 1))).toNat, by omega⟩)
  have hp := h.r1 (ix2 ⟨(samp (a0 m d) (x 0)).toNat, hs⟩ ⟨(a3 m d (ix2 (x 0) (x 1))).toNat, hi⟩)
  have hl0 : (V1 m d (dv main_v2) (ix2 (n0 := 1) 0 ⟨(samp (a0 m d) (x 0)).toNat * 128 + (a3 m d (ix2 (x 0) (x 1))).toNat, by omega⟩) : BitVec 32).toNat
      = (a1 m d (ix2 ⟨(samp (a0 m d) (x 0)).toNat, hs⟩ ⟨(a3 m d (ix2 (x 0) (x 1))).toNat, hi⟩)).toNat := by
    refine (congrArg BitVec.toNat e0).trans ?_
    refine congrArg₂ (fun (p : Fin 2048) (q : Fin 128) => (a1 m d (ix2 p q)).toNat) (Fin.ext ?_) (Fin.ext ?_)
    · show ((samp (a0 m d) (x 0)).toNat * 128 + (a3 m d (ix2 (x 0) (x 1))).toNat) / 128 = (samp (a0 m d) (x 0)).toNat; omega
    · show ((samp (a0 m d) (x 0)).toNat * 128 + (a3 m d (ix2 (x 0) (x 1))).toNat) % 128 = (a3 m d (ix2 (x 0) (x 1))).toNat; omega
  unfold G1
  rw [gathered_at _ _ _ _ _ hl (by omega)]
  unfold G0
  rw [gathered_at _ _ _ _ _ hl0 hp]
  refine (tbl_at ⟨_, hp⟩ (x 2)).trans (congrArg (a2 m d) ?_)
  refine congrArg (fun p : Fin 100001 => ix2 p (x 2)) (Fin.ext ?_)
  refine (Nat.mod_eq_of_lt hp).symm.trans ?_
  refine congrArg₂ (fun (p : Fin 2048) (q : Fin 128) => (a1 m d (ix2 p q)).toNat % 100001) (Fin.ext ?_) (Fin.ext ?_)
  · exact (Nat.mod_eq_of_lt hs).symm
  · exact (Nat.mod_eq_of_lt hi).symm

end Cert.Proof.Gather

end
-- ==== Proof.Ref.lean ====
/-
  The reference's result: the rows selected.
-/
module

public import proofs.«01_k».proof.Proof.Gen.ReferenceIdeal.Run
public import proofs.«01_k».proof.Proof.Closed

@[expose] public section

noncomputable section

namespace Cert.Proof.Ref

open Cert.ReferenceIdeal Cert.ReferenceIdeal.Gen
open Idealize.ShloMosaic Idealize.ShloMosaic.ValueIdx
open Cert.Proof.Closed

/-! ## An index in range is taken as it is -/

/-- The wrapping of a negative index does nothing to one that is not negative. -/
theorem wrap_id {s : Shape} (x z n : s.Idx → BitVec 32) (hz : ∀ j, z j = 0#32) (hx : ∀ j, (x j).toNat < 2 ^ 31) :
    select (cmpi .slt x z) (addi x n) x = x := by
  funext j
  show Scalar.select (IntOp.cmpi .slt (x j) (z j)) _ (x j) = x j
  unfold Scalar.select
  rw [if_neg]
  rw [hz j]
  exact fun e => absurd ((slt_iff (x j) (hx j) 0 (by decide)).1 e) (Nat.not_lt_zero _)

/-- The mask of the out-of-range rows masks nothing when every index is in range. -/
theorem mask_id {α : Type} {s k t u : Shape} {axes : List (Fin s.rank)} (i z hi : s.Idx → BitVec 32) {n : Nat} (hn : n < 2 ^ 31)
    (hz : ∀ j, z j = 0#32) (hh : ∀ j, hi j = BitVec.ofNat 32 n) (hx : ∀ j, (i j).toNat ≤ n)
    (init : u.Idx → BitVec 1) (hr : s.ReducesTo axes k) (hu : 0 < u.numel) (h1 : init (Shape.Idx.first hu) = 1#1)
    (dims : Fin k.rank → Fin t.rank) (hb : k.BroadcastsInDim t dims) (g f : t.Idx → α) :
    select (broadcastInDim t dims hb (Host.reduce IntOp.andi (andi (cmpi .sge i z) (cmpi .sle i hi)) init hr hu)) g f = g := by
  have e : Host.reduce IntOp.andi (andi (cmpi .sge i z) (cmpi .sle i hi)) init hr hu = fun _ => 1#1 := by
    funext j
    refine Host.reduce_andi_one _ _ _ _ _ h1 fun q => ?_
    have hq := hx q
    show IntOp.andi (IntOp.cmpi .sge (i q) (z q)) (IntOp.cmpi .sle (i q) (hi q)) = 1#1
    rw [hz q, hh q]
    exact IntOp.andi_eq_one.2 ⟨(sge_iff _).2 (by omega), (sle_iff _ (by omega) _ hn).2 hq⟩
  rw [e]
  funext j
  rfl

theorem clamp_id {x : BitVec 32} {n : Nat} (hn : n < 2 ^ 31) (hx : x.toNat ≤ n) : min x.toInt.toNat n = x.toNat := by
  rw [BitVec.toInt_eq_toNat_cond, if_pos (by omega)]
  simp only [Int.toNat_natCast]
  omega

/-! ## The three gathers read at an index -/

section
variable {α : Type}

/-- A gather's source, by the sum of its three coordinates on every axis. -/
theorem gather_at {s si t : Shape} (D : GatherDims s si t) (x : s.Idx → α) (idx : si.Idx → BitVec 32) (j : t.Idx) (k : s.Idx)
    (h : ∀ a, D.start j idx a + D.batchCoord j a + D.offCoord j a = (k a).val) : Host.gather D x idx j = x k :=
  congrArg x (funext fun a => Fin.ext (h a))

/-- On a collapsed axis that the start index gives: the start index's word. -/
theorem at_start {s si t : Shape} (D : GatherDims s si t) (idx : si.Idx → BitVec 32) (j : t.Idx) (a : Fin s.rank)
    (ha : a ∈ D.startIndexMap) (hc : a ∈ D.collapsedSliceDims) {q : si.Idx} (hq : D.siIdx j ⟨D.startIndexMap.idxOf a, List.idxOf_lt_length_iff.2 ha⟩ = q)
    {n : Nat} (hn : s.size a = n + 1) (hn' : n < 2 ^ 31) (hx : (idx q).toNat ≤ n) :
    D.start j idx a + D.batchCoord j a + D.offCoord j a = (idx q).toNat := by
  rw [D.batchCoord_eq_zero _ _ (D.sim_disjoint a ha), D.offCoord_eq_zero _ _ fun h => ((D.mem_sKept a).1 h).1 hc]
  unfold GatherDims.start
  rw [dif_pos ha, hq, D.slice_collapsed a hc, hn]
  exact clamp_id hn' hx

/-- On an axis of neither kind: the result's own coordinate. -/
theorem at_off {s si t : Shape} (D : GatherDims s si t) (idx : si.Idx → BitVec 32) (j : t.Idx) (a : Fin s.rank)
    (ha : a ∉ D.startIndexMap) (hb : a ∉ D.operandBatchingDims) : D.start j idx a + D.batchCoord j a + D.offCoord j a = D.offCoord j a := by
  rw [D.batchCoord_eq_zero _ _ hb]
  unfold GatherDims.start
  rw [dif_neg ha, Nat.add_zero, Nat.zero_add]

theorem gather0 (x : S2048x128.Idx → α) (idx : S20480x1.Idx → BitVec 32) (i : Fin 20480) (c : Fin 128) (h : (idx (ix2 i 0)).toNat < 2048) :
    Host.gather gather_S2048x128_S20480x1_S20480x128_1_0_n_n_0_1_1128 x idx (ix2 i c) = x (ix2 ⟨(idx (ix2 i 0)).toNat, h⟩ c) := by
  refine gather_at _ _ _ _ _ fun a => ?_
  match a with
  | ⟨0, _⟩ =>
    refine at_start gather_S2048x128_S20480x1_S20480x128_1_0_n_n_0_1_1128 idx _ (0 : Fin 2) (by decide) (by decide) ?_ (n := 2047) rfl (by decide) (Nat.le_of_lt_succ h)
    funext b
    match b with | ⟨0, _⟩ => rfl | ⟨1, _⟩ => rfl
  | ⟨1, _⟩ =>
    exact (at_off gather_S2048x128_S20480x1_S20480x128_1_0_n_n_0_1_1128 idx _ (1 : Fin 2) (by decide) (by decide)).trans rfl

theorem gather1 (x : S100001x32.Idx → α) (idx : S20480x128x1.Idx → BitVec 32) (i : Fin 20480) (j : Fin 128) (c : Fin 32)
    (h : (idx (ix3 i j 0)).toNat < 100001) :
    Host.gather gather_S100001x32_S20480x128x1_S20480x128x32_2_0_n_n_0_2_132 x idx (ix3 i j c) = x (ix2 ⟨(idx (ix3 i j 0)).toNat, h⟩ c) := by
  refine gather_at _ _ _ _ _ fun a => ?_
  match a with
  | ⟨0, _⟩ =>
    refine at_start gather_S100001x32_S20480x128x1_S20480x128x32_2_0_n_n_0_2_132 idx _ (0 : Fin 2) (by decide) (by decide) ?_ (n := 100000) rfl (by decide) (Nat.le_of_lt_succ h)
    funext b
    match b with | ⟨0, _⟩ => rfl | ⟨1, _⟩ => rfl | ⟨2, _⟩ => rfl
  | ⟨1, _⟩ =>
    exact (at_off gather_S100001x32_S20480x128x1_S20480x128x32_2_0_n_n_0_2_132 idx _ (1 : Fin 2) (by decide) (by decide)).trans rfl

theorem gather2 (x : S20480x128x32.Idx → α) (idx : S20480x32x1.Idx → BitVec 32) (i : Fin 20480) (j c : Fin 32)
    (h : (idx (ix3 i j 0)).toNat < 128) :
    Host.gather gather_S20480x128x32_S20480x32x1_S20480x32x32_2_1_0_0_1_2_1132 x idx (ix3 i j c) = x (ix3 i ⟨(idx (ix3 i j 0)).toNat, h⟩ c) := by
  refine gather_at _ _ _ _ _ fun a => ?_
  match a with
  | ⟨0, _⟩ =>
    rw [GatherDims.start_batching _ _ _ _ (List.mem_singleton.mpr rfl),
      GatherDims.offCoord_eq_zero _ _ _ fun h => ((GatherDims.mem_sKept _ _).mp h).2 (List.mem_singleton.mpr rfl)]
    simp only [Nat.zero_add, Nat.add_zero]
    unfold GatherDims.batchCoord
    exact (dif_pos (show (0 : Fin 3) ∈ gather_S20480x128x32_S20480x32x1_S20480x32x32_2_1_0_0_1_2_1132.operandBatchingDims from by decide)).trans rfl
  | ⟨1, _⟩ =>
    refine at_start gather_S20480x128x32_S20480x32x1_S20480x32x32_2_1_0_0_1_2_1132 idx _ (1 : Fin 3) (by decide) (by decide) ?_ (n := 127) rfl (by decide) (Nat.le_of_lt_succ h)
    funext b
    match b with | ⟨0, _⟩ => rfl | ⟨1, _⟩ => rfl | ⟨2, _⟩ => rfl
  | ⟨2, _⟩ =>
    exact (at_off gather_S20480x128x32_S20480x32x1_S20480x32x32_2_1_0_0_1_2_1132 idx _ (2 : Fin 3) (by decide) (by decide)).trans rfl

end

/-! ## The reference's three steps -/

section
variable {F : FTy → Type} [FloatOps F]

/-- The candidates of each sample. -/
def cands (x0 : S1024x20.Idx → BitVec 32) (x1 : S2048x128.Idx → BitVec 32) : S20480x128.Idx → BitVec 32 :=
  let X := shapeCast S20480 x0 shapeCasts_S1024x20_S20480
  let I := broadcastInDim S20480x1 ![0] bcast_S20480_S20480x1_0
    (select (cmpi .slt X (broadcastInDim S20480 ![] bcast_S_S20480 (constantI S_ 32 0#32))) (addi X (broadcastInDim S20480 ![] bcast_S_S20480 (constantI S_ 32 2048#32))) X)
  select (broadcastInDim S20480x128 ![0] bcast_S20480_S20480x128_0
      (Host.reduce IntOp.andi (andi (cmpi .sge I (broadcastInDim S20480x1 ![] bcast_S_S20480x1 (constantI S_ 32 0#32)))
        (cmpi .sle I (broadcastInDim S20480x1 ![0, 1] bcast_S1x1_S20480x1_0_1 (broadcastInDim S1x1 ![1] bcast_S1_S1x1_1 (constantI S1 32 2047#32)))))
        (constantI S_ 1 1#1) reducesTo_S20480x1_S20480_d1 h_S_))
    (Host.gather gather_S2048x128_S20480x1_S20480x128_1_0_n_n_0_1_1128 x1 I)
    (broadcastInDim S20480x128 ![] bcast_S_S20480x128 (constantI S_ 32 2147483648#32))

/-- The table's rows of the candidates. -/
def embs (A : S20480x128.Idx → BitVec 32) (x2 : S100001x32.Idx → Elt F .f32) : S20480x128x32.Idx → Elt F .f32 :=
  let I := broadcastInDim S20480x128x1 ![0, 1] bcast_S20480x128_S20480x128x1_0_1
    (select (cmpi .slt A (broadcastInDim S20480x128 ![] bcast_S_S20480x128 (constantI S_ 32 0#32)))
      (addi A (broadcastInDim S20480x128 ![] bcast_S_S20480x128 (constantI S_ 32 100001#32))) A)
  select (broadcastInDim S20480x128x32 ![0, 1] bcast_S20480x128_S20480x128x32_0_1
      (Host.reduce IntOp.andi (andi (cmpi .sge I (broadcastInDim S20480x128x1 ![] bcast_S_S20480x128x1 (constantI S_ 32 0#32)))
        (cmpi .sle I (broadcastInDim S20480x128x1 ![0, 1, 2] bcast_S1x1x1_S20480x128x1_0_1_2 (broadcastInDim S1x1x1 ![2] bcast_S1_S1x1x1_2 (constantI S1 32 100000#32)))))
        (constantI S_ 1 1#1) reducesTo_S20480x128x1_S20480x128_d2 h_S_))
    (Host.gather gather_S100001x32_S20480x128x1_S20480x128x32_2_0_n_n_0_2_132 x2 I)
    (broadcastInDim S20480x128x32 ![] bcast_S_S20480x128x32 (constant S_ .f32 0x7FC00000#32))

/-- The rows of the selected candidates. -/
def sel (E : S20480x128x32.Idx → Elt F .f32) (x3 : S20480x32.Idx → BitVec 32) : S20480x32x32.Idx → Elt F .f32 :=
  let X := broadcastInDim S20480x32x1 ![0, 1] bcast_S20480x32_S20480x32x1_0_1 x3
  let I := select (cmpi .slt X (broadcastInDim S20480x32x1 ![] bcast_S_S20480x32x1 (constantI S_ 32 0#32)))
    (addi X (broadcastInDim S20480x32x1 ![] bcast_S_S20480x32x1 (constantI S_ 32 128#32))) X
  select (broadcastInDim S20480x32x32 ![0, 1] bcast_S20480x32_S20480x32x32_0_1
      (Host.reduce IntOp.andi (andi (cmpi .sge I (broadcastInDim S20480x32x1 ![] bcast_S_S20480x32x1 (constantI S_ 32 0#32)))
        (cmpi .sle I (broadcastInDim S20480x32x1 ![0, 1, 2] bcast_S1x1x1_S20480x32x1_0_1_2 (broadcastInDim S1x1x1 ![2] bcast_S1_S1x1x1_2 (constantI S1 32 127#32)))))
        (constantI S_ 1 1#1) reducesTo_S20480x32x1_S20480x32_d2 h_S_))
    (Host.gather gather_S20480x128x32_S20480x32x1_S20480x32x32_2_1_0_0_1_2_1132 E I)
    (broadcastInDim S20480x32x32 ![] bcast_S_S20480x32x32 (constant S_ .f32 0x7FC00000#32))

theorem res_eq (m : (ℓ : Loc nD τ sig) → Buf (Elt F) ℓ) (c : Dev nD) :
    Value.res_out0 m c = sel (embs (cands (m ((c.tc : Thread nD τ).loc main_arg0)) (m ((c.tc : Thread nD τ).loc main_arg1)))
      (m ((c.tc : Thread nD τ).loc main_arg2))) (m ((c.tc : Thread nD τ).loc main_arg3)) := by
  show Value.res_main_v4 m c = _
  unfold Value.res_main_v4 sel embs cands
  rfl

theorem cands_at {x0 : S1024x20.Idx → BitVec 32} {x1 : S2048x128.Idx → BitVec 32} (h : ∀ i, (x0 i).toNat < 2048) (i : Fin 20480) (c : Fin 128) :
    cands x0 x1 (ix2 i c) = x1 (ix2 ⟨(samp x0 i).toNat, h _⟩ c) := by
  have hX : ∀ j, (shapeCast S20480 x0 shapeCasts_S1024x20_S20480 j).toNat < 2048 := fun _ => h _
  unfold cands
  dsimp only
  rw [wrap_id _ _ _ ?_ fun j => (hX j).trans (by decide)]; swap; · intro _; rfl
  rw [mask_id (n := 2047) _ _ _ (by decide) ?_ ?_ ?_ _ _ _ ?_]
  rotate_left
  · intro _; rfl
  · intro _; rfl
  · intro _; exact Nat.le_of_lt_succ (hX _)
  · rfl
  have e : broadcastInDim S20480x1 ![0] bcast_S20480_S20480x1_0 (shapeCast S20480 x0 shapeCasts_S1024x20_S20480) (ix2 i 0) = samp x0 i := by
    refine congrArg (shapeCast S20480 x0 shapeCasts_S1024x20_S20480) ?_
    funext a
    match a with | ⟨0, _⟩ => rfl
  rw [gather0 _ _ _ _ (hX _)]
  exact congrArg (fun p : Fin 2048 => x1 (ix2 p c)) (Fin.ext (congrArg BitVec.toNat e))

theorem embs_at {A : S20480x128.Idx → BitVec 32} (x2 : S100001x32.Idx → Elt F .f32) (h : ∀ i, (A i).toNat < 100001) (i : Fin 20480) (j : Fin 128) (c : Fin 32) :
    embs A x2 (ix3 i j c) = x2 (ix2 ⟨(A (ix2 i j)).toNat, h _⟩ c) := by
  unfold embs
  dsimp only
  rw [wrap_id _ _ _ ?_ fun j => (h j).trans (by decide)]; swap; · intro _; rfl
  rw [mask_id (n := 100000) _ _ _ (by decide) ?_ ?_ ?_ _ _ _ ?_]
  rotate_left
  · intro _; rfl
  · intro _; rfl
  · intro _; exact Nat.le_of_lt_succ (h _)
  · rfl
  have e : broadcastInDim S20480x128x1 ![0, 1] bcast_S20480x128_S20480x128x1_0_1 A (ix3 i j 0) = A (ix2 i j) := by
    refine congrArg A ?_
    funext a
    match a with | ⟨0, _⟩ => rfl | ⟨1, _⟩ => rfl
  rw [gather1 _ _ _ _ _ (h _)]
  exact congrArg (fun p : Fin 100001 => x2 (ix2 p c)) (Fin.ext (congrArg BitVec.toNat e))

theorem sel_at (E : S20480x128x32.Idx → Elt F .f32) {x3 : S20480x32.Idx → BitVec 32} (h : ∀ i, (x3 i).toNat < 128) (i : Fin 20480) (j c : Fin 32) :
    sel E x3 (ix3 i j c) = E (ix3 i ⟨(x3 (ix2 i j)).toNat, h _⟩ c) := by
  have hX : ∀ q, (broadcastInDim S20480x32x1 ![0, 1] bcast_S20480x32_S20480x32x1_0_1 x3 q).toNat < 128 := fun _ => h _
  unfold sel
  dsimp only
  rw [wrap_id _ _ _ ?_ fun q => (hX q).trans (by decide)]; swap; · intro _; rfl
  rw [mask_id (n := 127) _ _ _ (by decide) ?_ ?_ ?_ _ _ _ ?_]
  rotate_left
  · intro _; rfl
  · intro _; rfl
  · intro _; exact Nat.le_of_lt_succ (hX _)
  · rfl
  have e : broadcastInDim S20480x32x1 ![0, 1] bcast_S20480x32_S20480x32x1_0_1 x3 (ix3 i j 0) = x3 (ix2 i j) := by
    refine congrArg x3 ?_
    funext a
    match a with | ⟨0, _⟩ => rfl | ⟨1, _⟩ => rfl
  rw [gather2 _ _ _ _ _ (hX _)]
  exact congrArg (fun p : Fin 128 => E (ix3 i p c)) (Fin.ext (congrArg BitVec.toNat e))

theorem fin_congr {α : Type} {n : ℕ} (f : Fin n → α) {a b : ℕ} (ha : a < n) (hb : b < n) (e : a = b) : f ⟨a, ha⟩ = f ⟨b, hb⟩ := by
  subst e; rfl

/-- The reference's result: the rows selected. -/
theorem sel_rows {x0 : S1024x20.Idx → BitVec 32} {x1 : S2048x128.Idx → BitVec 32} (x2 : S100001x32.Idx → Elt F .f32) {x3 : S20480x32.Idx → BitVec 32}
    (h : InRange x0 x1 x3) : sel (embs (cands x0 x1) x2) x3 = rows x0 x1 x2 x3 := by
  have hc : ∀ i, (cands x0 x1 i).toNat < 100001 := fun i => by
    obtain ⟨p, q, rfl⟩ : ∃ (p : Fin 20480) (q : Fin 128), i = ix2 p q := ⟨i 0, i 1, by funext a; match a with | ⟨0, _⟩ => rfl | ⟨1, _⟩ => rfl⟩
    rw [cands_at h.r0]
    exact h.r1 _
  funext y
  obtain ⟨i, j, c, rfl⟩ : ∃ (i : Fin 20480) (j c : Fin 32), y = ix3 i j c :=
    ⟨y 0, y 1, y 2, by funext a; match a with | ⟨0, _⟩ => rfl | ⟨1, _⟩ => rfl | ⟨2, _⟩ => rfl⟩
  rw [sel_at _ h.r3, embs_at _ hc]
  have e : rows x0 x1 x2 x3 (ix3 i j c) = x2 (ix2 ⟨(x1 (ix2 ⟨(samp x0 i).toNat % 2048, Nat.mod_lt _ (by decide)⟩
      ⟨(x3 (ix2 i j)).toNat % 128, Nat.mod_lt _ (by decide)⟩)).toNat % 100001, Nat.mod_lt _ (by decide)⟩ c) := rfl
  rw [e]
  have e1 : x1 (ix2 ⟨(samp x0 i).toNat, h.samp i⟩ ⟨(x3 (ix2 i j)).toNat, h.r3 _⟩)
      = x1 (ix2 ⟨(samp x0 i).toNat % 2048, Nat.mod_lt _ (by decide)⟩ ⟨(x3 (ix2 i j)).toNat % 128, Nat.mod_lt _ (by decide)⟩) := by
    refine congrArg₂ (fun (p : Fin 2048) (q : Fin 128) => x1 (ix2 p q)) (Fin.ext ?_) (Fin.ext ?_)
    · exact (Nat.mod_eq_of_lt (h.samp i)).symm
    · exact (Nat.mod_eq_of_lt (h.r3 (ix2 i j))).symm
  have e2 : (cands x0 x1 (ix2 i ⟨(x3 (ix2 i j)).toNat, h.r3 _⟩)).toNat
      = (x1 (ix2 ⟨(samp x0 i).toNat % 2048, Nat.mod_lt _ (by decide)⟩ ⟨(x3 (ix2 i j)).toNat % 128, Nat.mod_lt _ (by decide)⟩)).toNat % 100001 := by
    rw [Nat.mod_eq_of_lt (h.r1 _), cands_at h.r0]
    exact congrArg BitVec.toNat e1
  exact fin_congr (fun p : Fin 100001 => x2 (ix2 p c)) (hc _) (Nat.mod_lt _ (by decide)) e2

end

end Cert.Proof.Ref

end
-- ==== Proof.AttBody.lean ====
/-
  The attention body as two families of row products: each of the 128 sequences of a block has one product for its
  logits and one for its output.
-/
module

public import proofs.«01_k».proof.Proof.Gen.AttentionIdeal.Frame

@[expose] public section

set_option maxRecDepth 16384

noncomputable section

namespace Cert.Att

open Cert.AttentionIdeal Cert.AttentionIdeal.Gen Idealize.ShloMosaic Idealize.ShloMosaic.TcCoe

variable {F : FTy → Type} [FloatOps F]

theorem slices_row {n k : Nat} (r : Fin 128) : (⟨3, ![128, n, k]⟩ : Shape).Slices ![r.val, 0, 0] ⟨3, ![1, n, k]⟩ := by
  refine ⟨rfl, fun a => ?_⟩
  match a with
  | ⟨0, _⟩ => show r.val + 1 ≤ 128; omega
  | ⟨1, _⟩ => show 0 + n ≤ n; omega
  | ⟨2, _⟩ => show 0 + k ≤ k; omega

/-- The logits of one sequence: both heads' projected rows, one under the other, times the sequence's rows. -/
def lrow (s : FVec F S128x32x32 .f32) (p : FVec F S128x32x64 .f32) (r : Fin 128) : FVec F S64x32 .f32 :=
  matmul dot_S64x32_S32x32_S64x32_1_0_0_1_n_n none
    (concatenate S64x32 0
      [⟨S32x32, extractStridedSlice S32x32 ![0, 0] (shapeCast S32x64 (extractStridedSlice S1x32x64 ![r.val, 0, 0] p (slices_row r)) shapeCasts_S1x32x64_S32x64) slices_S32x64_o0_0_S32x32⟩,
       ⟨S32x32, extractStridedSlice S32x32 ![0, 32] (shapeCast S32x64 (extractStridedSlice S1x32x64 ![r.val, 0, 0] p (slices_row r)) shapeCasts_S1x32x64_S32x64) slices_S32x64_o0_32_S32x32⟩]
      concatenates_S32x32_S32x32_S64x32_d0)
    (transpose S32x32 [1, 0] (shapeCast S32x32 (extractStridedSlice S1x32x32 ![r.val, 0, 0] s (slices_row r)) shapeCasts_S1x32x32_S32x32) transposes_S32x32_p1_0_S32x32)
    (constant S64x32 .f32 0x00000000#32)

/-- The output of one sequence: both heads' weights side by side times both heads' value rows. -/
def orow (v : FVec F S128x32x64 .f32) (w : FVec F S128x64x32 .f32) (r : Fin 128) : FVec F S32x32 .f32 :=
  matmul dot_S32x64_S64x32_S32x32_1_0_0_1_n_n none
    (concatenate S32x64 1
      [⟨S32x32, extractStridedSlice S32x32 ![0, 0] (shapeCast S64x32 (extractStridedSlice S1x64x32 ![r.val, 0, 0] w (slices_row r)) shapeCasts_S1x64x32_S64x32) slices_S64x32_o0_0_S32x32⟩,
       ⟨S32x32, extractStridedSlice S32x32 ![32, 0] (shapeCast S64x32 (extractStridedSlice S1x64x32 ![r.val, 0, 0] w (slices_row r)) shapeCasts_S1x64x32_S64x32) slices_S64x32_o32_0_S32x32⟩]
      concatenates_S32x32_S32x32_S32x64_d1)
    (concatenate S64x32 0
      [⟨S32x32, extractStridedSlice S32x32 ![0, 0] (shapeCast S32x64 (extractStridedSlice S1x32x64 ![r.val, 0, 0] v (slices_row r)) shapeCasts_S1x32x64_S32x64) slices_S32x64_o0_0_S32x32⟩,
       ⟨S32x32, extractStridedSlice S32x32 ![0, 32] (shapeCast S32x64 (extractStridedSlice S1x32x64 ![r.val, 0, 0] v (slices_row r)) shapeCasts_S1x32x64_S32x64) slices_S32x64_o0_32_S32x32⟩]
      concatenates_S32x32_S32x32_S64x32_d0)
    (constant S32x32 .f32 0x00000000#32)

theorem rowStack {n k : Nat} (f : Fin 128 → ((⟨3, ![1, n, k]⟩ : Shape).Idx → F .f32)) :
    Shape.Concatenates ((List.ofFn fun r : Fin 128 => (⟨⟨3, ![1, n, k]⟩, f r⟩ : (s : Shape) × (s.Idx → F .f32))).map (·.1))
      ⟨3, ![128, n, k]⟩ 0 := by
  have e : (List.ofFn fun r : Fin 128 => (⟨⟨3, ![1, n, k]⟩, f r⟩ : (s : Shape) × (s.Idx → F .f32))).map (·.1)
      = List.replicate 128 ⟨3, ![1, n, k]⟩ := by
    rw [List.map_ofFn]; exact List.ofFn_const 128 _
  rw [e]
  refine ⟨by rw [List.length_replicate]; exact Nat.le_add_left 2 126, fun s hs => ?_, ?_⟩
  · rw [List.eq_of_mem_replicate hs]
    refine ⟨rfl, fun b hb => ?_⟩
    match b with
    | ⟨0, _⟩ => exact absurd rfl hb
    | ⟨1, _⟩ => rfl
    | ⟨2, _⟩ => rfl
  · rw [List.map_replicate, List.sum_replicate]; rfl

/-- The block's logits. -/
def logits (s : FVec F S128x32x32 .f32) (p : FVec F S128x32x64 .f32) : FVec F S128x64x32 .f32 :=
  concatenate S128x64x32 0 (List.ofFn fun r : Fin 128 => ⟨S1x64x32, shapeCast S1x64x32 (lrow s p r) shapeCasts_S64x32_S1x64x32⟩) (rowStack _)

/-- The block's outputs. -/
def outs (v : FVec F S128x32x64 .f32) (w : FVec F S128x64x32 .f32) : FVec F S128x32x32 .f32 :=
  concatenate S128x32x32 0 (List.ofFn fun r : Fin 128 => ⟨S1x32x32, shapeCast S1x32x32 (orow v w r) shapeCasts_S32x32_S1x32x32⟩) (rowStack _)

def expo (l : FVec F S128x64x32 .f32) : FVec F S128x64x32 .f32 :=
  exp (subf l (broadcastTo S128x64x32 (shapeCast S128x64x1 (multiReduction .maximumf [2] S128x64 l 0xFF800000#32 reduces_S128x64x32_S128x64 (.inl rfl) rfl)
    shapeCasts_S128x64_S128x64x1) broadcasts_S128x64x1_S128x64x32))

def weights (l : FVec F S128x64x32 .f32) : FVec F S128x64x32 .f32 :=
  divf (expo l) (broadcastTo S128x64x32 (shapeCast S128x64x1 (multiReduction .add [2] S128x64 (expo l) 0x00000000#32 reduces_S128x64x32_S128x64 (.inl rfl) rfl)
    shapeCasts_S128x64_S128x64x1) broadcasts_S128x64x1_S128x64x32)

variable (x0 : Vec F S128x32x128 .f32) (x1 : Vec F S32x64 .f32) (x2 : Vec F S32x64 .f32) (x3 : Vec F S128x1 .f32)

theorem expo_eq : k0_pay660 x0 x1 x2 x3 = expo (logits (k0_pay529 x0 x1 x2 x3) (k0_pay530 x0 x1 x2 x3)) := rfl

theorem weights_eq : k0_pay662 x0 x1 x2 x3 = weights (logits (k0_pay529 x0 x1 x2 x3) (k0_pay530 x0 x1 x2 x3)) :=
  congrArg (fun e => divf e (broadcastTo S128x64x32 (shapeCast S128x64x1 (multiReduction .add [2] S128x64 e 0x00000000#32 reduces_S128x64x32_S128x64 (.inl rfl) rfl)
    shapeCasts_S128x64_S128x64x1) broadcasts_S128x64x1_S128x64x32)) (expo_eq x0 x1 x2 x3)

theorem out_eq : out0_4 x0 x1 x2 x3 = View.canon [⟨r0_3, k0_pay2 (k0_pay529 x0 x1 x2 x3) (outs (k0_pay531 x0 x1 x2 x3) (k0_pay662 x0 x1 x2 x3)) (View.ld x3 r0_2)⟩] := rfl

end Cert.Att

end
-- ==== Proof.AttPoint.lean ====
/-
  The attention body read at an index.
-/
module

public import proofs.«01_k».proof.Proof.AttBody
public import Idealize.ShloMosaic.Lib.Pointwise
public import Idealize.ShloMosaic.Lib.Pipeline.ValueKit.Basic

@[expose] public section

noncomputable section

namespace Cert.Att

open Cert.AttentionIdeal Cert.AttentionIdeal.Gen Idealize.ShloMosaic Idealize.ShloMosaic.TcCoe

theorem sel_apply (v : FVec Ideal S128x32x128 .f32) (r : Fin 128) (i k : Fin 32) :
    k0_pay3 v (ix3 r i k) = v (ix3 r i ⟨k.val, by omega⟩) := by
  pointwise [k0_pay3]

theorem proj_apply (v : FVec Ideal S128x32x128 .f32) (g : FVec Ideal S32x64 .f32) (r : Fin 128) (i : Fin 32) (c : Fin 64) :
    k0_pay5 g v (ix3 r i c) = ∑ k : Fin 32, v (ix3 r i ⟨k.val, by omega⟩) * g (ix2 k c) := by
  pointwise [k0_pay5, k0_pay4, k0_pay3]

theorem lrow_apply (s : FVec Ideal S128x32x32 .f32) (p : FVec Ideal S128x32x64 .f32) (r : Fin 128) (a : Fin 64) (j : Fin 32) :
    lrow s p r (ix2 a j) = ∑ k : Fin 32, (if h : a.val < 32 then p (ix3 r ⟨a.val, h⟩ ⟨k.val, by omega⟩) else p (ix3 r ⟨a.val - 32, by omega⟩ ⟨32 + k.val, by omega⟩)) * s (ix3 r j k) := by
  pointwise [lrow]

theorem orow_apply (v : FVec Ideal S128x32x64 .f32) (w : FVec Ideal S128x64x32 .f32) (r : Fin 128) (i j : Fin 32) :
    orow v w r (ix2 i j) = ∑ k : Fin 32, w (ix3 r ⟨i.val, by omega⟩ k) * v (ix3 r k ⟨j.val, by omega⟩)
      + ∑ k : Fin 32, w (ix3 r ⟨32 + i.val, by omega⟩ k) * v (ix3 r k ⟨32 + j.val, by omega⟩) := by
  pointwise [orow]

theorem value_apply (v : FVec Ideal S128x32x128 .f32) (g : FVec Ideal S32x64 .f32) (r : Fin 128) (i : Fin 32) (c : Fin 64) :
    k0_pay6 g v (ix3 r i c) = ∑ k : Fin 32, v (ix3 r i ⟨k.val, by omega⟩) * g (ix2 k c) := by
  pointwise [k0_pay6, k0_pay4, k0_pay3]

theorem negInf : Ideal.ofBits .f32 0xFF800000#32 = (⊥ : EReal) := by simp [Ideal.ofBits, Ideal.ieee]

theorem expo_apply (l : FVec Ideal S128x64x32 .f32) (r : Fin 128) (a : Fin 64) (j : Fin 32) :
    expo l (ix3 r a j) = Ideal.exp (l (ix3 r a j) - Finset.univ.fold max (⊥ : EReal) fun j' : Fin 32 => l (ix3 r a j')) := by
  pointwise [expo]
  rw [negInf]

theorem weights_apply (l : FVec Ideal S128x64x32 .f32) (r : Fin 128) (a : Fin 64) (j : Fin 32) :
    weights l (ix3 r a j) = Ideal.div (expo l (ix3 r a j)) (∑ j' : Fin 32, expo l (ix3 r a j')) := by
  pointwise [weights]

theorem logits_apply (s : FVec Ideal S128x32x32 .f32) (p : FVec Ideal S128x32x64 .f32) (r : Fin 128) (a : Fin 64) (j : Fin 32) :
    logits s p (ix3 r a j) = lrow s p r (ix2 a j) := by
  pointwise [logits]

theorem outs_apply (v : FVec Ideal S128x32x64 .f32) (w : FVec Ideal S128x64x32 .f32) (r : Fin 128) (i j : Fin 32) :
    outs v w (ix3 r i j) = orow v w r (ix2 i j) := by
  pointwise [outs]

theorem gated_apply (s o : FVec Ideal S128x32x32 .f32) (f : FVec Ideal S128x1 .f32) (r : Fin 128) (i j : Fin 32) :
    k0_pay2 s o f (ix3 r i j) = (o (ix3 r i j) + s (ix3 r i j)) * f (ix2 r 0) := by
  pointwise [k0_pay2]

/-! ## One sequence -/

/-- The sequence's rows times a matrix of both heads. -/
def rowsBy (x : Fin 32 → Fin 32 → EReal) (g : Fin 32 → Fin 64 → EReal) (i : Fin 32) (c : Fin 64) : EReal := ∑ k : Fin 32, x i k * g k c

/-- The sequence's logits, row `a` of head `a / 32`. -/
def logitOf (x : Fin 32 → Fin 32 → EReal) (g : Fin 32 → Fin 64 → EReal) (a : Fin 64) (j : Fin 32) : EReal :=
  ∑ k : Fin 32, (if h : a.val < 32 then rowsBy x g ⟨a.val, h⟩ ⟨k.val, by omega⟩ else rowsBy x g ⟨a.val - 32, by omega⟩ ⟨32 + k.val, by omega⟩) * x j k

/-- A row's weights: its exponentials off its largest entry, over their sum. -/
def shiftedExp (l : Fin 32 → EReal) (j : Fin 32) : EReal := Ideal.exp (l j - Finset.univ.fold max (⊥ : EReal) l)

def weightOf (l : Fin 32 → EReal) (j : Fin 32) : EReal := Ideal.div (shiftedExp l j) (∑ j' : Fin 32, shiftedExp l j')

/-- What the body leaves for one sequence. -/
def seqOut (x : Fin 32 → Fin 32 → EReal) (g u : Fin 32 → Fin 64 → EReal) (f : EReal) (i j : Fin 32) : EReal :=
  ((∑ k : Fin 32, weightOf (logitOf x g ⟨i.val, by omega⟩) k * rowsBy x u k ⟨j.val, by omega⟩
      + ∑ k : Fin 32, weightOf (logitOf x g ⟨32 + i.val, by omega⟩) k * rowsBy x u k ⟨32 + j.val, by omega⟩) + x i j) * f

theorem weights_row (s : FVec Ideal S128x32x32 .f32) (p : FVec Ideal S128x32x64 .f32) (x : Fin 32 → Fin 32 → EReal) (g : Fin 32 → Fin 64 → EReal)
    (r : Fin 128) (hs : ∀ i k, s (ix3 r i k) = x i k) (hp : ∀ i c, p (ix3 r i c) = rowsBy x g i c) (a : Fin 64) (k : Fin 32) :
    weights (logits s p) (ix3 r a k) = weightOf (logitOf x g a) k := by
  have hl : ∀ j, logits s p (ix3 r a j) = logitOf x g a j := fun j => by
    rw [logits_apply, lrow_apply]; simp only [hs, hp, logitOf]
  simp only [weights_apply, expo_apply, hl]
  rfl

/-- One sequence of what the body leaves. -/
theorem out_apply (x0 : Vec Ideal S128x32x128 .f32) (x1 : Vec Ideal S32x64 .f32) (x2 : Vec Ideal S32x64 .f32) (x3 : Vec Ideal S128x1 .f32)
    (r : Fin 128) (i j : Fin 32) :
    out0_4 x0 x1 x2 x3 (ix3 r i j) = seqOut (fun i k => x0 (ix3 r i ⟨k.val, by omega⟩)) (fun k c => x1 (ix2 k c)) (fun k c => x2 (ix2 k c)) (x3 (ix2 r 0)) i j := by
  have h0 : View.ld x0 r0_1 = x0 := View.ld_unit_lit _ x0 (by decide)
  have h1 : View.ld x1 r0_0 = x1 := View.ld_unit_lit _ x1 (by decide)
  have h2 : View.ld x2 r0_0 = x2 := View.ld_unit_lit _ x2 (by decide)
  have h3 : View.ld x3 r0_2 = x3 := View.ld_unit_lit _ x3 (by decide)
  have e0 : k0_pay529 x0 x1 x2 x3 = k0_pay3 x0 := by rw [k0_pay529, h0]
  have e1 : k0_pay530 x0 x1 x2 x3 = k0_pay5 x1 x0 := by rw [k0_pay530, h0, h1]
  have e2 : k0_pay531 x0 x1 x2 x3 = k0_pay6 x2 x0 := by rw [k0_pay531, h0, h2]
  rw [out_eq, weights_eq, e0, e1, e2, h3, View.canon_cons_unit_lit _ _ _ (by decide), gated_apply, outs_apply, orow_apply]
  simp only [sel_apply, value_apply,
    weights_row (k0_pay3 x0) (k0_pay5 x1 x0) (fun i k => x0 (ix3 r i ⟨k.val, by omega⟩)) (fun k c => x1 (ix2 k c)) r
      (fun i k => sel_apply x0 r i k) (fun i c => proj_apply x0 x1 r i c)]
  rfl

end Cert.Att

end
-- ==== Proof.AttArray.lean ====
/-
  The attention call's result array as one function of the four arrays its windows read.
-/
module

public import proofs.«01_k».proof.Proof.AttPoint
public import Idealize.ShloMosaic.Lib.Pipeline.Value

@[expose] public section

noncomputable section

namespace Cert.Att

open Cert.AttentionIdeal Cert.AttentionIdeal.Gen Idealize.ShloMosaic Idealize.ShloMosaic.TcCoe
open Idealize.ShloMosaic.Pipeline (Dat)

/-- Every sequence on its own. -/
def seqsOut (X : Vec Ideal S20480x32x128 .f32) (G U : Vec Ideal S32x64 .f32) (f : Vec Ideal S20480x1 .f32) : Vec Ideal S20480x32x32 .f32 :=
  fun y => seqOut (fun i k => X (ix3 (y 0) i ⟨k.val, by omega⟩)) (fun k c => G (ix2 k c)) (fun k c => U (ix2 k c)) (f (ix2 (y 0) 0)) (y 1) (y 2)

variable (m : (ℓ : Loc nD τ sig) → Buf (Elt Ideal) ℓ)

abbrev result (c : Dev nD) : Vec Ideal S20480x32x32 .f32 := seqsOut (V m c main_arg1) (V m c main_v18) (V m c main_v19) (V m c main_v24)

/-- The sequence that row `r` of block `t` is. -/
def seqAt (t : Fin cfg0.N) (r : Fin 128) : Fin 20480 :=
  ⟨128 * t.val + r.val, by
    have h := t.isLt
    have hN : cfg0.N = 160 := by decide
    omega⟩

theorem index0_0 : ∀ t : Fin cfg0.N, win0_0.index t (0 : Fin 3) = t.val ∧ win0_0.index t (1 : Fin 3) = 0 ∧ win0_0.index t (2 : Fin 3) = 0 :=
  (by decide +kernel : ∀ t : Fin grid0.N, _)
theorem index0_1 : ∀ t : Fin cfg0.N, win0_1.index t (0 : Fin 2) = 0 ∧ win0_1.index t (1 : Fin 2) = 0 := (by decide +kernel : ∀ t : Fin grid0.N, _)
theorem index0_2 : ∀ t : Fin cfg0.N, win0_2.index t (0 : Fin 2) = 0 ∧ win0_2.index t (1 : Fin 2) = 0 := (by decide +kernel : ∀ t : Fin grid0.N, _)
theorem index0_3 : ∀ t : Fin cfg0.N, win0_3.index t (0 : Fin 2) = t.val ∧ win0_3.index t (1 : Fin 2) = 0 := (by decide +kernel : ∀ t : Fin grid0.N, _)
theorem index0_4 : ∀ t : Fin cfg0.N, win0_4.index t (0 : Fin 3) = t.val ∧ win0_4.index t (1 : Fin 3) = 0 ∧ win0_4.index t (2 : Fin 3) = 0 :=
  (by decide +kernel : ∀ t : Fin grid0.N, _)

theorem seqs_block (c : Dev nD) (t : Fin cfg0.N) (r : Fin 128) (i : Fin 32) (k : Fin 128) :
    iblk m c 0 t (ix3 r i k) = V m c main_arg1 (ix3 (seqAt t r) i k) := by
  obtain ⟨e0, e1, e2⟩ := index0_0 t
  show V m c main_arg1 (((cfg0.win 0).blk t).view.emb (ix3 r i k)) = _
  refine congrArg _ (funext fun a => Fin.ext ?_)
  match a with
  | ⟨0, _⟩ => show win0_0.index t (0 : Fin 3) * 128 + 1 * r.val = 128 * t.val + r.val; omega
  | ⟨1, _⟩ => show win0_0.index t (1 : Fin 3) * 32 + 1 * i.val = i.val; omega
  | ⟨2, _⟩ => show win0_0.index t (2 : Fin 3) * 128 + 1 * k.val = k.val; omega

theorem left_block (c : Dev nD) (t : Fin cfg0.N) (k : Fin 32) (d : Fin 64) : iblk m c 1 t (ix2 k d) = V m c main_v18 (ix2 k d) := by
  obtain ⟨e0, e1⟩ := index0_1 t
  show V m c main_v18 (((cfg0.win 1).blk t).view.emb (ix2 k d)) = _
  refine congrArg _ (funext fun a => Fin.ext ?_)
  match a with
  | ⟨0, _⟩ => show win0_1.index t (0 : Fin 2) * 32 + 1 * k.val = k.val; omega
  | ⟨1, _⟩ => show win0_1.index t (1 : Fin 2) * 64 + 1 * d.val = d.val; omega

theorem right_block (c : Dev nD) (t : Fin cfg0.N) (k : Fin 32) (d : Fin 64) : iblk m c 2 t (ix2 k d) = V m c main_v19 (ix2 k d) := by
  obtain ⟨e0, e1⟩ := index0_2 t
  show V m c main_v19 (((cfg0.win 2).blk t).view.emb (ix2 k d)) = _
  refine congrArg _ (funext fun a => Fin.ext ?_)
  match a with
  | ⟨0, _⟩ => show win0_2.index t (0 : Fin 2) * 32 + 1 * k.val = k.val; omega
  | ⟨1, _⟩ => show win0_2.index t (1 : Fin 2) * 64 + 1 * d.val = d.val; omega

theorem gate_block (c : Dev nD) (t : Fin cfg0.N) (r : Fin 128) : iblk m c 3 t (ix2 r 0) = V m c main_v24 (ix2 (seqAt t r) 0) := by
  obtain ⟨e0, e1⟩ := index0_3 t
  show V m c main_v24 (((cfg0.win 3).blk t).view.emb (ix2 r 0)) = _
  refine congrArg _ (funext fun a => Fin.ext ?_)
  match a with
  | ⟨0, _⟩ => show win0_3.index t (0 : Fin 2) * 128 + 1 * r.val = 128 * t.val + r.val; omega
  | ⟨1, _⟩ => show win0_3.index t (1 : Fin 2) * 1 + 1 * 0 = 0; omega

theorem out_at (t : Fin cfg0.N) (r : Fin 128) (i j : Fin 32) : ((cfg0.win 4).blk t).view.emb (ix3 r i j) = ix3 (seqAt t r) i j := by
  obtain ⟨e0, e1, e2⟩ := index0_4 t
  refine funext fun a => Fin.ext ?_
  match a with
  | ⟨0, _⟩ => show win0_4.index t (0 : Fin 3) * 128 + 1 * r.val = 128 * t.val + r.val; omega
  | ⟨1, _⟩ => show win0_4.index t (1 : Fin 3) * 32 + 1 * i.val = i.val; omega
  | ⟨2, _⟩ => show win0_4.index t (2 : Fin 3) * 32 + 1 * j.val = j.val; omega

/-- What point `t` writes back is its block of the one array. -/
theorem block_out (c : Dev nD) (t : Fin cfg0.N) : (dats m 0 c).flushed 4 t = ((cfg0.win 4).blk t).view.read (Elt Ideal) (result m c) := by
  show (cfg0.win 4).cut (grid0.coords t) ((dats m 0 c).after 4 t) = _
  rw [after0_4]
  funext y
  obtain ⟨r, i, j, rfl⟩ : ∃ (r : Fin 128) (i j : Fin 32), y = ix3 r i j :=
    ⟨y 0, y 1, y 2, funext fun a => match a with | ⟨0, _⟩ => rfl | ⟨1, _⟩ => rfl | ⟨2, _⟩ => rfl⟩
  show out0_4 _ _ _ _ (ix3 r i j) = result m c (((cfg0.win 4).blk t).view.emb (ix3 r i j))
  rw [out_at, out_apply]
  simp only [seqs_block, left_block, right_block, gate_block]
  rfl

theorem covered (y : S20480x32x32.Idx) : ∃ t : Fin cfg0.N, (cfg0.win 4).flush t = true ∧ y ∈ ((cfg0.win 4).blk t).view.set := by
  have h0 : (y 0).val < 20480 := (y 0).isLt
  have hN : cfg0.N = 160 := by decide
  let t : Fin cfg0.N := ⟨(y 0).val / 128, by omega⟩
  let r : Fin 128 := ⟨(y 0).val % 128, by omega⟩
  have h : ix3 (seqAt t r) (y 1) (y 2) ∈ ((cfg0.win 4).blk t).view.set :=
    (congrArg (· ∈ ((cfg0.win 4).blk t).view.set) (out_at t r (y 1) (y 2))).mp (View.emb_mem_set _ _)
  have e : y = ix3 (seqAt t r) (y 1) (y 2) := by
    refine funext fun a => Fin.ext ?_
    match a with
    | ⟨0, _⟩ => show (y 0).val = 128 * ((y 0).val / 128) + (y 0).val % 128; omega
    | ⟨1, _⟩ => rfl
    | ⟨2, _⟩ => rfl
  rw [e]
  exact ⟨t, flush0_4 t, h⟩

theorem final (c : Dev nD) : (dats m 0 c).arrAt 4 cfg0.N = result m c :=
  (dats m 0 c).arrAt_eq_of_cover 4 (result m c) (fun t _ => block_out m c t) covered

end Cert.Att

end
-- ==== Proof.AttHost.lean ====
/-
  What the attention program's host lines leave for its call.
-/
module

public import proofs.«01_k».proof.Proof.AttArray
public import Idealize.ShloMosaic.Lib.KernelVsHost

@[expose] public section

noncomputable section

namespace Cert.Att

open Cert.AttentionIdeal Cert.AttentionIdeal.Gen Idealize.ShloMosaic Idealize.ShloMosaic.TcCoe

abbrev headLeft (o : Nat) (h : S32x32.Slices ![0, o] S32x16) (a b : FVec Ideal S32x32 .f32) : FVec Ideal S32x32 .f32 :=
  mulf (Host.dotGeneral dot_S32x16_S16x32_S32x32_1_0_0_1_n_n none (extractStridedSlice S32x16 ![0, o] a h)
      (transpose S16x32 [1, 0] (extractStridedSlice S32x16 ![0, o] b h) transposes_S32x16_S16x32_1_0))
    (broadcastInDim S32x32 ![] bcast_S_S32x32 (constant S_ .f32 0x3E800000#32))

abbrev headRight (o : Nat) (h : S32x32.Slices ![0, o] S32x16) (h' : S32x32.Slices ![o, 0] S16x32) (a b : FVec Ideal S32x32 .f32) : FVec Ideal S32x32 .f32 :=
  Host.dotGeneral dot_S32x16_S16x32_S32x32_1_0_0_1_n_n none (extractStridedSlice S32x16 ![0, o] a h) (extractStridedSlice S16x32 ![o, 0] b h')

abbrev lefts (a b : FVec Ideal S32x32 .f32) : FVec Ideal S32x64 .f32 :=
  concatenate S32x64 1 [⟨S32x32, headLeft 0 slices_S32x32_S32x16_0_0 a b⟩, ⟨S32x32, headLeft 16 slices_S32x32_S32x16_0_16 a b⟩] concatenates_S32x32_S32x32_S32x64_d1

abbrev rights (a b : FVec Ideal S32x32 .f32) : FVec Ideal S32x64 .f32 :=
  concatenate S32x64 1 [⟨S32x32, headRight 0 slices_S32x32_S32x16_0_0 slices_S32x32_S16x32_0_0 a b⟩,
    ⟨S32x32, headRight 16 slices_S32x32_S32x16_0_16 slices_S32x32_S16x32_16_0 a b⟩] concatenates_S32x32_S32x32_S32x64_d1

abbrev gates (a : IVec S1024x20 32) : FVec Ideal S20480x1 .f32 :=
  broadcastInDim S20480x1 ![0] bcast_S20480_S20480x1_0
    (uitofp .f32 (cmpi .ne (shapeCast S20480 a shapeCasts_S1024x20_S20480) (broadcastInDim S20480 ![] bcast_S_S20480 (constantI S_ 32 0#32))))

variable (m : (ℓ : Loc nD τ sig) → Buf (Elt Ideal) ℓ) (c : Dev nD)

theorem left_array : V m c main_v18 = lefts (m ((c : Thread nD τ).loc main_arg2)) (m ((c : Thread nD τ).loc main_arg3)) := by
  unfold V hostOps0; after_results_simp; rfl
theorem right_array : V m c main_v19 = rights (m ((c : Thread nD τ).loc main_arg4)) (m ((c : Thread nD τ).loc main_arg5)) := by
  unfold V hostOps0; after_results_simp; rfl
theorem gate_array : V m c main_v24 = gates (m ((c : Thread nD τ).loc main_arg0)) := by
  unfold V hostOps0; after_results_simp; rfl

theorem lefts_apply (a b : FVec Ideal S32x32 .f32) (h : Fin 2) (k n : Fin 32) :
    lefts a b (ix2 k ⟨h.val * 32 + n.val, by omega⟩)
      = (∑ d : Fin 16, a (ix2 k ⟨h.val * 16 + d.val, by omega⟩) * b (ix2 n ⟨h.val * 16 + d.val, by omega⟩)) * Ideal.ofBits .f32 0x3E800000#32 := by
  match h with
  | ⟨0, _⟩ => pointwise [lefts, headLeft]
  | ⟨1, _⟩ => pointwise [lefts, headLeft]

theorem rights_apply (a b : FVec Ideal S32x32 .f32) (h : Fin 2) (k n : Fin 32) :
    rights a b (ix2 k ⟨h.val * 32 + n.val, by omega⟩)
      = ∑ d : Fin 16, a (ix2 k ⟨h.val * 16 + d.val, by omega⟩) * b (ix2 ⟨h.val * 16 + d.val, by omega⟩ n) := by
  match h with
  | ⟨0, _⟩ => pointwise [rights, headRight]
  | ⟨1, _⟩ => pointwise [rights, headRight]

theorem gates_apply (a : IVec S1024x20 32) (n : Fin 20480) :
    gates a (ix2 n 0) = (uitofp .f32 (cmpi .ne (shapeCast S20480 a shapeCasts_S1024x20_S20480) (broadcastInDim S20480 ![] bcast_S_S20480 (constantI S_ 32 0#32))) : FVec Ideal S20480 .f32) (ix1 n) := by
  pointwise [gates]

end Cert.Att

end
-- ==== Proof.AttRef.lean ====
/-
  The attention reference read at an index.
-/
module

public import proofs.«01_k».proof.Proof.Gen.AttentionReferenceIdeal.Run
public import Idealize.ShloMosaic.Lib.Pointwise

@[expose] public section

set_option maxRecDepth 8192

noncomputable section

namespace Cert.Att.Ref

open Cert.AttentionReferenceIdeal Cert.AttentionReferenceIdeal.Gen Idealize.ShloMosaic Idealize.ShloMosaic.TcCoe

abbrev rows (X : FVec Ideal S20480x32x128 .f32) : FVec Ideal S20480x32x32 .f32 :=
  extractStridedSlice S20480x32x32 ![0, 0, 0] X slices_S20480x32x128_S20480x32x32_0_0_0

/-- The rows times a matrix, head by head. -/
def heads (s : FVec Ideal S20480x32x32 .f32) (w : FVec Ideal S32x32 .f32) : FVec Ideal S20480x2x32x16 .f32 :=
  transpose S20480x2x32x16 [0, 2, 1, 3] (shapeCast _ (Host.dotGeneral dot_S20480x32x32_S32x32_S20480x32x32_2_0_01_1_n_n none s w)
    shapeCasts_S20480x32x32_S20480x32x2x16) transposes_S20480x32x2x16_S20480x2x32x16_0_2_1_3

def scaled (q k : FVec Ideal S20480x2x32x16 .f32) : FVec Ideal S20480x2x32x32 .f32 :=
  Host.divf (Host.dotGeneral dot_S20480x2x32x16_S20480x2x16x32_S20480x2x32x32_3_2_2_3_01_01 none q
    (transpose S20480x2x16x32 [0, 1, 3, 2] k transposes_S20480x2x32x16_S20480x2x16x32_0_1_3_2)) (broadcastInDim S20480x2x32x32 ![] bcast_S_S20480x2x32x32 (constant S_ .f32 0x40800000#32))

/-- The exponentials of the entries less a row's number. -/
def shifted (l : FVec Ideal S20480x2x32x32 .f32) (t : FVec Ideal S20480x2x32 .f32) : FVec Ideal S20480x2x32x32 .f32 :=
  Host.exp (subf l (broadcastInDim S20480x2x32x32 ![0, 1, 2, 3] bcast_S20480x2x32x1_S20480x2x32x32_0_1_2_3 (broadcastInDim S20480x2x32x1 ![0, 1, 2] bcast_S20480x2x32_S20480x2x32x1_0_1_2
    (maximumf (broadcastInDim S20480x2x32 ![] bcast_S_S20480x2x32 (constant S_ .f32 0xFF800000#32)) t))))

def expos (l : FVec Ideal S20480x2x32x32 .f32) : FVec Ideal S20480x2x32x32 .f32 :=
  shifted l (Host.reduce FloatOps.maximumf l (constant S_ .f32 0xFF800000#32) reducesTo_S20480x2x32x32_S20480x2x32_d3 h_S_)

def shares (e : FVec Ideal S20480x2x32x32 .f32) : FVec Ideal S20480x2x32x32 .f32 :=
  Host.divf e (broadcastInDim S20480x2x32x32 ![0, 1, 2, 3] bcast_S20480x2x32x1_S20480x2x32x32_0_1_2_3 (broadcastInDim S20480x2x32x1 ![0, 1, 2] bcast_S20480x2x32_S20480x2x32x1_0_1_2
    (Host.reduceAdd e (constant S_ .f32 0x00000000#32) reducesTo_S20480x2x32x32_S20480x2x32_d3 h_S_)))

def joined (p : FVec Ideal S20480x2x32x32 .f32) (v : FVec Ideal S20480x2x32x16 .f32) (w : FVec Ideal S32x32 .f32) : FVec Ideal S20480x32x32 .f32 :=
  Host.dotGeneral dot_S20480x32x32_S32x32_S20480x32x32_2_0_01_1_n_n none (shapeCast _ (transpose S20480x32x2x16 [0, 2, 1, 3]
    (Host.dotGeneral dot_S20480x2x32x32_S20480x2x32x16_S20480x2x32x16_3_2_2_3_01_01 none p v) transposes_S20480x2x32x16_S20480x32x2x16_0_2_1_3)
    shapeCasts_S20480x32x2x16_S20480x32x32) w

def gated (o s : FVec Ideal S20480x32x32 .f32) (a : IVec S1024x20 32) : FVec Ideal S20480x32x32 .f32 :=
  mulf (addf o s) (broadcastInDim S20480x32x32 ![0, 1, 2] bcast_S20480x1x1_S20480x32x32_0_1_2 (broadcastInDim S20480x1x1 ![0] bcast_S20480_S20480x1x1_0
    (uitofp .f32 (cmpi .ne (shapeCast S20480 a shapeCasts_S1024x20_S20480) (broadcastInDim S20480 ![] bcast_S_S20480 (constantI S_ 32 0#32))))))

variable (m : (ℓ : Loc nD τ sig) → Buf (Elt Ideal) ℓ) (c : Dev nD)

theorem res_eq : Value.res_out0 m c =
    gated (joined (shares (expos (scaled (heads (rows (m ((c.tc : Thread nD τ).loc main_arg1))) (m ((c.tc : Thread nD τ).loc main_arg2)))
        (heads (rows (m ((c.tc : Thread nD τ).loc main_arg1))) (m ((c.tc : Thread nD τ).loc main_arg3))))))
      (heads (rows (m ((c.tc : Thread nD τ).loc main_arg1))) (m ((c.tc : Thread nD τ).loc main_arg4))) (m ((c.tc : Thread nD τ).loc main_arg5)))
      (rows (m ((c.tc : Thread nD τ).loc main_arg1))) (m ((c.tc : Thread nD τ).loc main_arg0)) := rfl

theorem rows_apply (X : FVec Ideal S20480x32x128 .f32) (n : Fin 20480) (i k : Fin 32) : rows X (ix3 n i k) = X (ix3 n i ⟨k.val, by omega⟩) := by
  pointwise [rows]

theorem heads_apply (s : FVec Ideal S20480x32x32 .f32) (w : FVec Ideal S32x32 .f32) (n : Fin 20480) (h : Fin 2) (i : Fin 32) (d : Fin 16) :
    heads s w (ix4 n h i d) = ∑ k : Fin 32, s (ix3 n i k) * w (ix2 k ⟨h.val * 16 + d.val, by omega⟩) := by
  pointwise [heads]

theorem scaled_apply (q k : FVec Ideal S20480x2x32x16 .f32) (n : Fin 20480) (h : Fin 2) (i j : Fin 32) :
    scaled q k (ix4 n h i j) = Ideal.div (∑ d : Fin 16, q (ix4 n h i d) * k (ix4 n h j d)) (Ideal.ofBits .f32 0x40800000#32) := by
  pointwise [scaled]

theorem negInf : Ideal.ofBits .f32 0xFF800000#32 = (⊥ : EReal) := by simp [Ideal.ofBits, Ideal.ieee]

theorem rowMax {N : Nat} (l : FVec Ideal ⟨4, ![N, 2, 32, 32]⟩ .f32) (e : FVec Ideal S_ .f32) (r : (⟨4, ![N, 2, 32, 32]⟩ : Shape).ReducesTo [3] ⟨3, ![N, 2, 32]⟩)
    (hu : 0 < S_.numel) (n : Fin N) (h : Fin 2) (i : Fin 32) :
    (Host.reduce FloatOps.maximumf l e r hu : FVec Ideal ⟨3, ![N, 2, 32]⟩ .f32) (ix3 n h i) = Finset.univ.fold max (e (Shape.Idx.first hu)) fun j : Fin 32 => l (ix4 n h i j) := by
  pointwise []

theorem shifted_apply (l : FVec Ideal S20480x2x32x32 .f32) (t : FVec Ideal S20480x2x32 .f32) (n : Fin 20480) (h : Fin 2) (i j : Fin 32) :
    shifted l t (ix4 n h i j) = Ideal.exp (l (ix4 n h i j) - t (ix3 n h i)) := by
  pointwise [shifted]
  rw [negInf, max_bot_left]

theorem expos_apply (l : FVec Ideal S20480x2x32x32 .f32) (n : Fin 20480) (h : Fin 2) (i j : Fin 32) :
    expos l (ix4 n h i j) = Ideal.exp (l (ix4 n h i j) - Finset.univ.fold max (⊥ : EReal) fun j' : Fin 32 => l (ix4 n h i j')) := by
  rw [expos, shifted_apply, rowMax, constant_apply]
  rw [show (FloatOps.ofBits .f32 0xFF800000#32 : Ideal .f32) = (⊥ : EReal) from negInf]

theorem shares_apply (e : FVec Ideal S20480x2x32x32 .f32) (n : Fin 20480) (h : Fin 2) (i j : Fin 32) :
    shares e (ix4 n h i j) = Ideal.div (e (ix4 n h i j)) (∑ j' : Fin 32, e (ix4 n h i j')) := by
  pointwise [shares]

theorem joined_apply (p : FVec Ideal S20480x2x32x32 .f32) (v : FVec Ideal S20480x2x32x16 .f32) (w : FVec Ideal S32x32 .f32) (n : Fin 20480) (i j : Fin 32) :
    joined p v w (ix3 n i j) = ∑ e : Fin 32, (∑ k : Fin 32, p (ix4 n ⟨e.val / 16, by omega⟩ i k) * v (ix4 n ⟨e.val / 16, by omega⟩ k ⟨e.val % 16, by omega⟩)) * w (ix2 e j) := by
  pointwise [joined]

theorem gated_apply (o s : FVec Ideal S20480x32x32 .f32) (a : IVec S1024x20 32) (n : Fin 20480) (i j : Fin 32) :
    gated o s a (ix3 n i j) = (o (ix3 n i j) + s (ix3 n i j))
      * (uitofp .f32 (cmpi .ne (shapeCast S20480 a shapeCasts_S1024x20_S20480) (broadcastInDim S20480 ![] bcast_S_S20480 (constantI S_ 32 0#32))) : FVec Ideal S20480 .f32) (ix1 n) := by
  pointwise [gated]

end Cert.Att.Ref

end
-- ==== Proof.AttReal.lean ====
/-
  Attention of one sequence over the real numbers: products taken in two orders.
-/
module

public import proofs.«01_k».proof.Proof.AttPoint

@[expose] public section

noncomputable section

namespace Cert.Att

open Idealize.ShloMosaic

theorem coe_sum {ι : Type} [DecidableEq ι] (s : Finset ι) (f : ι → ℝ) : ((∑ i ∈ s, f i : ℝ) : EReal) = ∑ i ∈ s, (f i : EReal) := by
  induction s using Finset.induction_on with
  | empty => simp
  | insert a s h ih => rw [Finset.sum_insert h, Finset.sum_insert h, EReal.coe_add, ih]

/-! ## A row's weights are real -/

theorem fold_max_real {ι : Type} [DecidableEq ι] (f : ι → ℝ) (s : Finset ι) (h : s.Nonempty) :
    ∃ t : ℝ, s.fold max (⊥ : EReal) (fun i => (f i : EReal)) = (t : EReal) := by
  induction h using Finset.Nonempty.cons_induction with
  | singleton a => exact ⟨f a, by rw [Finset.fold_singleton, max_bot_right]⟩
  | cons a s h _ ih =>
    obtain ⟨t, ht⟩ := ih
    exact ⟨max (f a) t, by rw [Finset.fold_cons, ht]; exact (EReal.coe_strictMono.monotone.map_max).symm⟩

theorem weight_real (l : Fin 32 → ℝ) : ∃ p : Fin 32 → ℝ, ∀ j, weightOf (fun j => (l j : EReal)) j = (p j : EReal) := by
  obtain ⟨t, ht⟩ := fold_max_real l Finset.univ Finset.univ_nonempty
  have he : ∀ j, shiftedExp (fun j => (l j : EReal)) j = ((Real.exp (l j - t) : ℝ) : EReal) := fun j => by
    rw [shiftedExp, ht, ← EReal.coe_sub, Ideal.exp_coe]
  have hs : (∑ j, Real.exp (l j - t)) ≠ 0 := (Finset.sum_pos (fun j _ => Real.exp_pos _) Finset.univ_nonempty).ne'
  exact ⟨fun j => Real.exp (l j - t) * (1 / ∑ j, Real.exp (l j - t)), fun j => by
    simp only [weightOf, he]
    rw [← coe_sum, Ideal.div_coe hs, EReal.coe_mul]⟩

/-! ## The two orders -/

/-- Column `n` of head `h` among the columns of both. -/
def col (h : Fin 2) (n : Fin 32) : Fin 64 := ⟨h.val * 32 + n.val, by omega⟩

/-- Feature `d` of head `h`. -/
def feat (h : Fin 2) (d : Fin 16) : Fin 32 := ⟨h.val * 16 + d.val, by omega⟩

theorem logitOf_col (x : Fin 32 → Fin 32 → EReal) (g : Fin 32 → Fin 64 → EReal) (h : Fin 2) (i j : Fin 32) :
    logitOf x g (col h i) j = ∑ k, rowsBy x g i (col h k) * x j k := by
  refine Finset.sum_congr rfl fun k _ => congrArg (· * x j k) ?_
  match h with
  | ⟨0, _⟩ =>
    refine (dif_pos (show (col 0 i).val < 32 by show 0 * 32 + i.val < 32; omega)).trans ?_
    exact congrArg₂ (rowsBy x g) (Fin.ext (show 0 * 32 + i.val = i.val by omega)) (Fin.ext (show k.val = 0 * 32 + k.val by omega))
  | ⟨1, _⟩ =>
    refine (dif_neg (show ¬ (col 1 i).val < 32 by show ¬ 1 * 32 + i.val < 32; omega)).trans ?_
    exact congrArg₂ (rowsBy x g) (Fin.ext (show 1 * 32 + i.val - 32 = i.val by omega)) (Fin.ext (show 32 + k.val = 1 * 32 + k.val by omega))

theorem seqOut_col (x : Fin 32 → Fin 32 → EReal) (g u : Fin 32 → Fin 64 → EReal) (f : EReal) (i j : Fin 32) :
    seqOut x g u f i j = ((∑ h : Fin 2, ∑ k, weightOf (logitOf x g (col h i)) k * rowsBy x u k (col h j)) + x i j) * f := by
  have e0 : ∀ n : Fin 32, col 0 n = ⟨n.val, by omega⟩ := fun n => Fin.ext (show 0 * 32 + n.val = n.val by omega)
  have e1 : ∀ n : Fin 32, col 1 n = ⟨32 + n.val, by omega⟩ := fun n => Fin.ext (show 1 * 32 + n.val = 32 + n.val by omega)
  rw [Fin.sum_univ_two]
  simp only [e0, e1]
  rfl

/-- The plain order: a head's queries and keys, their weights, the values, the last matrix. -/
def plainLogit (x q k : Fin 32 → Fin 32 → EReal) (h : Fin 2) (i j : Fin 32) : EReal :=
  Ideal.div (∑ d : Fin 16, (∑ a : Fin 32, x i a * q a (feat h d)) * (∑ a : Fin 32, x j a * k a (feat h d))) (Ideal.ofBits .f32 0x40800000#32)

def plainOut (x q k v o : Fin 32 → Fin 32 → EReal) (f : EReal) (i j : Fin 32) : EReal :=
  ((∑ h : Fin 2, ∑ d : Fin 16, (∑ n : Fin 32, weightOf (plainLogit x q k h i) n * (∑ a : Fin 32, x n a * v a (feat h d))) * o (feat h d) j) + x i j) * f

theorem quarter : Ideal.ofBits .f32 0x3E800000#32 = ((1 / 4 : ℝ) : EReal) := by
  simp [Ideal.ofBits, Ideal.ieee]
  rw [← EReal.coe_mul]
  exact congrArg _ (by norm_num)

theorem four : Ideal.ofBits .f32 0x40800000#32 = ((4 : ℝ) : EReal) := by
  simp [Ideal.ofBits, Ideal.ieee]
  rw [← EReal.coe_mul]
  exact congrArg _ (by norm_num)

variable (x q k v o : Fin 32 → Fin 32 → ℝ)

theorem logits_reorder (h : Fin 2) (i j : Fin 32) :
    ∑ n : Fin 32, (∑ a : Fin 32, x i a * ((∑ d : Fin 16, q a (feat h d) * k n (feat h d)) * (1 / 4))) * x j n
      = (∑ d : Fin 16, (∑ a : Fin 32, x i a * q a (feat h d)) * (∑ a : Fin 32, x j a * k a (feat h d))) * (1 / 4) := by
  simp only [Finset.sum_mul, Finset.mul_sum]
  rw [Finset.sum_comm_cycle]
  refine Finset.sum_congr rfl fun d _ => Finset.sum_congr rfl fun n _ => Finset.sum_congr rfl fun a _ => ?_
  ring

theorem outs_reorder (p : Fin 32 → ℝ) (h : Fin 2) (j : Fin 32) :
    ∑ n : Fin 32, p n * (∑ a : Fin 32, x n a * (∑ d : Fin 16, v a (feat h d) * o (feat h d) j))
      = ∑ d : Fin 16, (∑ n : Fin 32, p n * (∑ a : Fin 32, x n a * v a (feat h d))) * o (feat h d) j := by
  simp only [Finset.sum_mul, Finset.mul_sum]
  rw [Finset.sum_comm_cycle]
  refine Finset.sum_congr rfl fun d _ => Finset.sum_congr rfl fun n _ => Finset.sum_congr rfl fun a _ => ?_
  ring

/-- On real rows and matrices the two orders give one number, whatever the gate. -/
theorem seqOut_eq_plainOut (X Q K V O : Fin 32 → Fin 32 → EReal) (g u : Fin 32 → Fin 64 → EReal) (f : EReal)
    (hX : ∀ i j, X i j = x i j) (hQ : ∀ i j, Q i j = q i j) (hK : ∀ i j, K i j = k i j) (hV : ∀ i j, V i j = v i j) (hO : ∀ i j, O i j = o i j)
    (hg : ∀ (h : Fin 2) (a n : Fin 32), g a (col h n) = (∑ d : Fin 16, Q a (feat h d) * K n (feat h d)) * Ideal.ofBits .f32 0x3E800000#32)
    (hu : ∀ (h : Fin 2) (a n : Fin 32), u a (col h n) = ∑ d : Fin 16, V a (feat h d) * O (feat h d) n) (i j : Fin 32) :
    seqOut X g u f i j = plainOut X Q K V O f i j := by
  have hl : ∀ h i, plainLogit X Q K h i
      = fun j => (((∑ d : Fin 16, (∑ a : Fin 32, x i a * q a (feat h d)) * (∑ a : Fin 32, x j a * k a (feat h d))) * (1 / 4) : ℝ) : EReal) := fun h i => by
    funext j
    simp only [plainLogit, hX, hQ, hK, four, ← EReal.coe_mul, ← coe_sum]
    rw [Ideal.div_coe (by norm_num), ← EReal.coe_mul]
  have hk : ∀ h i, logitOf X g (col h i) = plainLogit X Q K h i := fun h i => by
    rw [hl]
    funext j
    rw [logitOf_col, ← logits_reorder]
    simp only [rowsBy, hg, hX, hQ, hK, quarter, ← EReal.coe_mul, ← coe_sum]
  rw [seqOut_col, plainOut]
  refine congrArg (fun s => (s + X i j) * f) (Finset.sum_congr rfl fun h _ => ?_)
  rw [hk]
  obtain ⟨p, hp⟩ := weight_real fun j => (∑ d : Fin 16, (∑ a : Fin 32, x i a * q a (feat h d)) * (∑ a : Fin 32, x j a * k a (feat h d))) * (1 / 4)
  rw [← hl] at hp
  simp only [hp, rowsBy, hu, hX, hV, hO, ← EReal.coe_mul, ← coe_sum]
  rw [outs_reorder]

end Cert.Att

end
-- ==== Proof.AttClosed.lean ====
/-
  Kernel and reference of the attention call compute one function of finite arguments.
-/
module

public import proofs.«01_k».proof.Proof.AttHost
public import proofs.«01_k».proof.Proof.AttRef
public import proofs.«01_k».proof.Proof.AttReal
public import proofs.«01_k».proof.Proof.Gen.Pre_finite
public import Idealize.ShloMosaic.Lib.ReduceAll

@[expose] public section

set_option maxRecDepth 8192

noncomputable section

namespace Cert.Att

open Idealize.ShloMosaic Idealize.ShloMosaic.TcCoe

abbrev Mat := FVec Ideal ⟨2, ![32, 32]⟩ .f32
abbrev Seqs := FVec Ideal ⟨3, ![20480, 32, 128]⟩ .f32
abbrev Ids := IVec ⟨2, ![1024, 20]⟩ 32

/-! ## Finite arguments are real -/

structure Finite (X : Seqs) (q k v o : Mat) : Prop where
  X : ∀ (n : Fin 20480) (i j : Fin 32), ∃ r : ℝ, X (ix3 n i ⟨j.val, by omega⟩) = (r : EReal)
  q : ∀ i j : Fin 32, ∃ r : ℝ, q (ix2 i j) = (r : EReal)
  k : ∀ i j : Fin 32, ∃ r : ℝ, k (ix2 i j) = (r : EReal)
  v : ∀ i j : Fin 32, ∃ r : ℝ, v (ix2 i j) = (r : EReal)
  o : ∀ i j : Fin 32, ∃ r : ℝ, o (ix2 i j) = (r : EReal)

theorem posInf : Ideal.ofBits .f32 0x7F800000#32 = (⊤ : EReal) := by simp [Ideal.ofBits, Ideal.ieee]

theorem real_of_abs_lt {x : EReal} (h : Ideal.cmp .olt (max x (-x)) (Ideal.ofBits .f32 0x7F800000#32) = 1#1) : ∃ r : ℝ, x = (r : EReal) := by
  rw [posInf] at h
  have h' : max x (-x) < ⊤ := by
    by_contra hn
    have e : Ideal.cmp .olt (max x (-x)) ⊤ = BitVec.ofBool (decide (max x (-x) < ⊤)) := rfl
    rw [e, decide_eq_false hn] at h
    exact absurd h (by decide)
  induction x with
  | bot => exact absurd h' (by simp)
  | top => exact absurd h' (by simp)
  | coe r => exact ⟨r, rfl⟩

instance : Subsingleton (⟨0, ![]⟩ : Shape).Idx := ⟨fun a b => funext fun i => i.elim0⟩

theorem finite_of_pre {a : Ids} {X : Seqs} {q k v o : Mat} (h : Cert.Pre_finite.fn (F := Ideal) a X q k v o = fun _ => 1#1) : Finite X q k v o := by
  have e := congrFun h ix0
  unfold Cert.Pre_finite.fn Cert.Pre_finite.fn_part1 at e
  obtain ⟨e, eo⟩ := IntOp.andi_eq_one.1 e
  obtain ⟨e, ev⟩ := IntOp.andi_eq_one.1 e
  obtain ⟨e, ek⟩ := IntOp.andi_eq_one.1 e
  obtain ⟨eX, eq⟩ := IntOp.andi_eq_one.1 e
  exact
    { X := fun n i j => by
        obtain ⟨r, hr⟩ := real_of_abs_lt (Host.reduce_andi_all _ _ _ _ _ eX (ix3 n i j))
        exact ⟨r, (Ref.rows_apply X n i j).symm.trans hr⟩
      q := fun i j => real_of_abs_lt (Host.reduce_andi_all _ _ _ _ _ eq (ix2 i j))
      k := fun i j => real_of_abs_lt (Host.reduce_andi_all _ _ _ _ _ ek (ix2 i j))
      v := fun i j => real_of_abs_lt (Host.reduce_andi_all _ _ _ _ _ ev (ix2 i j))
      o := fun i j => real_of_abs_lt (Host.reduce_andi_all _ _ _ _ _ eo (ix2 i j)) }

/-! ## The function -/

/-- One where the number of a candidate is not zero. -/
abbrev gate (a : Ids) : FVec Ideal ⟨1, ![20480]⟩ .f32 :=
  uitofp .f32 (cmpi .ne (shapeCast Cert.AttentionReferenceIdeal.S20480 a Cert.AttentionReferenceIdeal.Gen.shapeCasts_S1024x20_S20480)
    (broadcastInDim Cert.AttentionReferenceIdeal.S20480 ![] Cert.AttentionReferenceIdeal.Gen.bcast_S_S20480 (constantI Cert.AttentionReferenceIdeal.S_ 32 0#32)))

/-- Attention of every sequence. -/
def attention (a : Ids) (X : Seqs) (q k v o : Mat) : FVec Ideal ⟨3, ![20480, 32, 32]⟩ .f32 := fun y =>
  plainOut (fun i c => X (ix3 (y 0) i ⟨c.val, by omega⟩)) (fun i c => q (ix2 i c)) (fun i c => k (ix2 i c)) (fun i c => v (ix2 i c)) (fun i c => o (ix2 i c))
    (gate a (ix1 (y 0))) (y 1) (y 2)

theorem ix3_eta {a b c : Nat} (y : (⟨3, ![a, b, c]⟩ : Shape).Idx) : ∃ (n : Fin a) (i : Fin b) (j : Fin c), y = ix3 n i j :=
  ⟨y 0, y 1, y 2, funext fun r => match r with | ⟨0, _⟩ => rfl | ⟨1, _⟩ => rfl | ⟨2, _⟩ => rfl⟩

theorem kernel_closed (a : Ids) (X : Seqs) (q k v o : Mat) (h : Finite X q k v o) :
    seqsOut X (lefts q k) (rights v o) (gates a) = attention a X q k v o := by
  funext y
  obtain ⟨n, i, j, rfl⟩ := ix3_eta y
  choose x' hx using h.X n
  choose q' hq using h.q
  choose k' hk using h.k
  choose v' hv using h.v
  choose o' ho using h.o
  refine (seqOut_eq_plainOut x' q' k' v' o'
    (fun i c => X (ix3 n i ⟨c.val, by omega⟩)) (fun i c => q (ix2 i c)) (fun i c => k (ix2 i c)) (fun i c => v (ix2 i c)) (fun i c => o (ix2 i c)) _ _ _
    hx hq hk hv ho
    (fun h a n => lefts_apply q k h a n) (fun h a n => rights_apply v o h a n) i j).trans ?_
  exact congrArg (fun f => plainOut _ _ _ _ _ f i j) (gates_apply a n)

theorem sum_heads (f : Fin 32 → EReal) : ∑ e : Fin 32, f e = ∑ h : Fin 2, ∑ d : Fin 16, f (feat h d) := by
  rw [← Fintype.sum_prod_type', ← (finProdFinEquiv (m := 2) (n := 16)).sum_comp]
  refine Finset.sum_congr rfl fun p _ => congrArg f (Fin.ext ?_)
  show p.2.val + 16 * p.1.val = p.1.val * 16 + p.2.val
  omega

open Ref in
theorem ref_closed (a : Ids) (X : Seqs) (q k v o : Mat) :
    gated (joined (shares (expos (scaled (heads (rows X) q) (heads (rows X) k)))) (heads (rows X) v) o) (rows X) a = attention a X q k v o := by
  funext y
  obtain ⟨n, i, j, rfl⟩ := ix3_eta y
  have hl : ∀ (h : Fin 2) (i j : Fin 32), scaled (heads (rows X) q) (heads (rows X) k) (ix4 n h i j)
      = plainLogit (fun i c => X (ix3 n i ⟨c.val, by omega⟩)) (fun i c => q (ix2 i c)) (fun i c => k (ix2 i c)) h i j := fun h i j => by
    simp only [scaled_apply, heads_apply, rows_apply]
    rfl
  have hw : ∀ (h : Fin 2) (i j : Fin 32), shares (expos (scaled (heads (rows X) q) (heads (rows X) k))) (ix4 n h i j)
      = weightOf (plainLogit (fun i c => X (ix3 n i ⟨c.val, by omega⟩)) (fun i c => q (ix2 i c)) (fun i c => k (ix2 i c)) h i) j := fun h i j => by
    simp only [shares_apply, expos_apply, hl]
    rfl
  have hh : ∀ (h : Fin 2) (d : Fin 16), (⟨(feat h d).val / 16, by omega⟩ : Fin 2) = h ∧ (⟨(feat h d).val % 16, by omega⟩ : Fin 16) = d := fun h d =>
    ⟨Fin.ext (show (h.val * 16 + d.val) / 16 = h.val by omega), Fin.ext (show (h.val * 16 + d.val) % 16 = d.val by omega)⟩
  rw [Ref.gated_apply, joined_apply, sum_heads]
  simp only [(hh _ _).1, (hh _ _).2, hw, heads_apply, rows_apply]
  rfl

end Cert.Att

end
-- ==== Proof.Turn.lean ====
/-
  The transposition: what its call leaves in the whole array, and the reference's same array.
-/
module

public import proofs.«01_k».proof.Proof.Gen.TranspositionIdeal.Value
public import proofs.«01_k».proof.Proof.Gen.TranspositionReferenceIdeal.Run
public import Idealize.ShloMosaic.Lib.Pointwise
public import Idealize.ShloMosaic.Lib.Pipeline.ValueKit.Basic

@[expose] public section

noncomputable section

namespace Cert.Turn

open Cert.TranspositionIdeal Cert.TranspositionIdeal.Gen Idealize.ShloMosaic Idealize.ShloMosaic.TcCoe
open Idealize.ShloMosaic.Pipeline (Dat)

/-- Sample by sample, the first 32 lanes of the candidates' rows with lanes before candidates. -/
def turned (X : FVec Ideal S262144x128 .f32) : FVec Ideal S2048x32x128 .f32 :=
  fun y => X (ix2 ⟨(y 0).val * 128 + (y 2).val, by
      have h0 : (y 0).val < 2048 := (y 0).isLt
      have h2 : (y 2).val < 128 := (y 2).isLt
      omega⟩ ⟨(y 1).val, by
      have h1 : (y 1).val < 32 := (y 1).isLt
      omega⟩)

theorem ref_turned (X : FVec Ideal S262144x128 .f32) (h : S262144x128.ShapeCasts S2048x128x128)
    (s : S2048x128x128.Slices ![0, 0, 0] ⟨3, ![2048, 128, 32]⟩) (t : (⟨3, ![2048, 128, 32]⟩ : Shape).Transposes [0, 2, 1] S2048x32x128) :
    transpose S2048x32x128 [0, 2, 1] (extractStridedSlice ⟨3, ![2048, 128, 32]⟩ ![0, 0, 0] (shapeCast S2048x128x128 X h) s) t = turned X := by
  funext y
  obtain ⟨n, k, a, rfl⟩ : ∃ (n : Fin 2048) (k : Fin 32) (a : Fin 128), y = ix3 n k a :=
    ⟨y 0, y 1, y 2, funext fun a => match a with | ⟨0, _⟩ => rfl | ⟨1, _⟩ => rfl | ⟨2, _⟩ => rfl⟩
  pointwise [turned]

variable (m : (ℓ : Loc nD τ sig) → Buf (Elt Ideal) ℓ)

abbrev result (c : Dev nD) : Vec Ideal S2048x32x128 .f32 := turned (m ((c : Thread nD τ).loc main_arg0))

theorem table_array (c : Dev nD) : V m c main_v0 = shapeCast S2048x128x128 (m ((c : Thread nD τ).loc main_arg0)) shapeCasts_S262144x128_S2048x128x128 := by
  unfold V hostOps0; after_results_simp; rfl

theorem table_apply (X : FVec Ideal S262144x128 .f32) (h : S262144x128.ShapeCasts S2048x128x128) (n : Fin 2048) (a k : Fin 128) :
    shapeCast S2048x128x128 X h (ix3 n a k) = X (ix2 ⟨n.val * 128 + a.val, by omega⟩ k) := by
  pointwise []

/-- The sample that row `r` of block `t` is. -/
def sampleAt (t : Fin cfg0.N) (r : Fin 16) : Fin 2048 :=
  ⟨16 * t.val + r.val, by
    have h := t.isLt
    have hN : cfg0.N = 128 := by decide
    omega⟩

theorem index0_0 : ∀ t : Fin cfg0.N, win0_0.index t (0 : Fin 3) = t.val ∧ win0_0.index t (1 : Fin 3) = 0 ∧ win0_0.index t (2 : Fin 3) = 0 :=
  (by decide +kernel : ∀ t : Fin grid0.N, _)
theorem index0_1 : ∀ t : Fin cfg0.N, win0_1.index t (0 : Fin 3) = t.val ∧ win0_1.index t (1 : Fin 3) = 0 ∧ win0_1.index t (2 : Fin 3) = 0 :=
  (by decide +kernel : ∀ t : Fin grid0.N, _)

theorem in_block (c : Dev nD) (t : Fin cfg0.N) (r : Fin 16) (a k : Fin 128) :
    iblk m c 0 t (ix3 r a k) = V m c main_v0 (ix3 (sampleAt t r) a k) := by
  obtain ⟨e0, e1, e2⟩ := index0_0 t
  show V m c main_v0 (((cfg0.win 0).blk t).view.emb (ix3 r a k)) = _
  refine congrArg _ (funext fun b => Fin.ext ?_)
  match b with
  | ⟨0, _⟩ => show win0_0.index t (0 : Fin 3) * 16 + 1 * r.val = 16 * t.val + r.val; omega
  | ⟨1, _⟩ => show win0_0.index t (1 : Fin 3) * 128 + 1 * a.val = a.val; omega
  | ⟨2, _⟩ => show win0_0.index t (2 : Fin 3) * 128 + 1 * k.val = k.val; omega

theorem out_at (t : Fin cfg0.N) (r : Fin 16) (k : Fin 32) (a : Fin 128) : ((cfg0.win 1).blk t).view.emb (ix3 r k a) = ix3 (sampleAt t r) k a := by
  obtain ⟨e0, e1, e2⟩ := index0_1 t
  refine funext fun b => Fin.ext ?_
  match b with
  | ⟨0, _⟩ => show win0_1.index t (0 : Fin 3) * 16 + 1 * r.val = 16 * t.val + r.val; omega
  | ⟨1, _⟩ => show win0_1.index t (1 : Fin 3) * 32 + 1 * k.val = k.val; omega
  | ⟨2, _⟩ => show win0_1.index t (2 : Fin 3) * 128 + 1 * a.val = a.val; omega

theorem pay_apply (v : FVec Ideal S16x128x128 .f32) (r : Fin 16) (k : Fin 32) (a : Fin 128) :
    k0_pay1 v (ix3 r k a) = v (ix3 r a ⟨k.val, by omega⟩) := by
  pointwise [k0_pay1]

theorem out_apply (x : Vec Ideal S16x128x128 .f32) (r : Fin 16) (k : Fin 32) (a : Fin 128) : out0_1 x (ix3 r k a) = x (ix3 r a ⟨k.val, by omega⟩) := by
  have h : View.ld x r0_0 = x := View.ld_unit_lit _ x (by decide)
  rw [out0_1, h, View.canon_cons_unit_lit _ _ _ (by decide), pay_apply]

/-- What point `t` writes back is its block of the one array. -/
theorem block_out (c : Dev nD) (t : Fin cfg0.N) :
    (dats m 0 c).flushed 1 t = ((cfg0.win 1).blk t).view.read (Elt Ideal) (result m c) := by
  show (cfg0.win 1).cut (grid0.coords t) ((dats m 0 c).after 1 t) = _
  rw [after0_1]
  funext y
  obtain ⟨r, k, a, rfl⟩ : ∃ (r : Fin 16) (k : Fin 32) (a : Fin 128), y = ix3 r k a :=
    ⟨y 0, y 1, y 2, funext fun a => match a with | ⟨0, _⟩ => rfl | ⟨1, _⟩ => rfl | ⟨2, _⟩ => rfl⟩
  show out0_1 _ (ix3 r k a) = result m c (((cfg0.win 1).blk t).view.emb (ix3 r k a))
  rw [out_at, out_apply, in_block, table_array, table_apply]
  rfl

theorem covered (y : S2048x32x128.Idx) : ∃ t : Fin cfg0.N, (cfg0.win 1).flush t = true ∧ y ∈ ((cfg0.win 1).blk t).view.set := by
  have h0 : (y 0).val < 2048 := (y 0).isLt
  have hN : cfg0.N = 128 := by decide
  let t : Fin cfg0.N := ⟨(y 0).val / 16, by omega⟩
  let r : Fin 16 := ⟨(y 0).val % 16, by omega⟩
  have h : ix3 (sampleAt t r) (y 1) (y 2) ∈ ((cfg0.win 1).blk t).view.set :=
    (congrArg (· ∈ ((cfg0.win 1).blk t).view.set) (out_at t r (y 1) (y 2))).mp (View.emb_mem_set _ _)
  have e : y = ix3 (sampleAt t r) (y 1) (y 2) := by
    refine funext fun a => Fin.ext ?_
    match a with
    | ⟨0, _⟩ => show (y 0).val = 16 * ((y 0).val / 16) + (y 0).val % 16; omega
    | ⟨1, _⟩ => rfl
    | ⟨2, _⟩ => rfl
  rw [e]
  exact ⟨t, flush0_1 t, h⟩

theorem final (c : Dev nD) : (dats m 0 c).arrAt 1 cfg0.N = turned (m ((c : Thread nD τ).loc main_arg0)) :=
  (dats m 0 c).arrAt_eq_of_cover 1 (result m c) (fun t _ => block_out m c t) covered

end Cert.Turn

end
-- ==== Proof.SelBody.lean ====
/-
  The scores-and-selection body's payloads by what they are: a sequence's row of scores, a row's first greatest lane,
  and a row with that lane knocked out.
-/
module

public import proofs.«01_k».proof.Proof.Gen.SelectionIdeal.Skeleton

@[expose] public section

set_option maxRecDepth 16384

noncomputable section

namespace Cert.Sel

open Cert.SelectionIdeal Cert.SelectionIdeal.Gen Idealize.ShloMosaic Idealize.ShloMosaic.TcCoe

variable {F : FTy → Type} [FloatOps F]

/-- Minus infinity everywhere. -/
def lowest : FVec F S32x128 .f32 := broadcast S32x128 (Scalar.ofBits .f32 0xFF800000#32)

/-- Where a row holds its greatest entry. -/
def hits (s : FVec F S32x128 .f32) : IVec S32x128 1 :=
  cmpf .oeq s (broadcastTo S32x128 (shapeCast S32x1 (multiReduction .maximumf [1] S32 s 0xFF800000#32 reduces_S32x128_S32 (.inl rfl) rfl) shapeCasts_S32_S32x1) broadcasts_S32x1_S32x128)

/-- The lanes where `h` holds, 128 elsewhere. -/
def cand (l : IVec S32x128 32) (h : IVec S32x128 1) : IVec S32x128 32 := select h l (broadcast S32x128 128#32)

/-- Each row's least word. -/
def least (c : IVec S32x128 32) : IVec S32x1 32 :=
  shapeCast S32x1 (multiReductionI .minsi [1] S32 c 2147483647#32 reduces_S32x128_S32 rfl) shapeCasts_S32_S32x1

/-- The lane that is the row's word. -/
def isAt (l : IVec S32x128 32) (p : IVec S32x1 32) : IVec S32x128 1 := cmpi .eq l (broadcastTo S32x128 p broadcasts_S32x1_S32x128)

def mask (s : FVec F S32x128 .f32) (h : IVec S32x128 1) : FVec F S32x128 .f32 := select h lowest s

/-- Each row's first greatest lane. -/
def pickBy (l : IVec S32x128 32) (s : FVec F S32x128 .f32) : IVec S32x1 32 := least (cand l (hits s))

def atPick (l : IVec S32x128 32) (s : FVec F S32x128 .f32) : IVec S32x128 1 := isAt l (pickBy l s)

/-- Each row without its first greatest lane. -/
def knockBy (l : IVec S32x128 32) (s : FVec F S32x128 .f32) : FVec F S32x128 .f32 := mask s (atPick l s)

def slabOf (x : Vec F S1x32x128 .f32) : FVec F S32x128 .f32 := extf .f32 (truncf .bf16 (shapeCast S32x128 x shapeCasts_S1x32x128_S32x128) bitsLt_bf16_f32) bitsLt_bf16_f32

def colOf (y : Vec F S32x1 .bf16) : FVec F S32x128 .f32 :=
  broadcastTo S32x128 (extf .f32 (shapeCast S32x1 y shapeCasts_S32x1_S32x1) bitsLt_bf16_f32) broadcasts_S32x1_S32x128

def half (a : FVec F S32x128 .f32) : FVec F S16x128 .f32 :=
  addf (extractStridedSlice S16x128 ![0, 0] a slices_S32x128_o0_0_S16x128) (extractStridedSlice S16x128 ![16, 0] a slices_S32x128_o16_0_S16x128)

def quarter (a : FVec F S16x128 .f32) : FVec F S8x128 .f32 :=
  addf (extractStridedSlice S8x128 ![0, 0] a slices_S16x128_o0_0_S8x128) (extractStridedSlice S8x128 ![8, 0] a slices_S16x128_o8_0_S8x128)

/-- The products summed over their 32 rows. -/
def rowSum (a b : FVec F S32x128 .f32) : FVec F S1x128 .f32 :=
  shapeCast S1x128 (multiReduction .add [0] S128 (quarter (half (mulf a b))) 0x00000000#32 reduces_S8x128_S128 (.inl rfl) rfl) shapeCasts_S128_S1x128

/-- One sequence's scores over the 128 candidates. -/
def scoreRow (x : Vec F S1x32x128 .f32) (y : Vec F S32x1 .bf16) : FVec F S1x128 .f32 := rowSum (slabOf x) (colOf y)

theorem fold_pick (l : IVec S32x128 32) (s : FVec F S32x128 .f32) : least (cand l (hits s)) = pickBy l s := rfl
theorem fold_at (l : IVec S32x128 32) (s : FVec F S32x128 .f32) : isAt l (pickBy l s) = atPick l s := rfl
theorem fold_knock (l : IVec S32x128 32) (s : FVec F S32x128 .f32) : mask s (atPick l s) = knockBy l s := rfl
theorem fold_score (x : Vec F S1x32x128 .f32) (y : Vec F S32x1 .bf16) : rowSum (slabOf x) (colOf y) = scoreRow x y := rfl

theorem w3 (a : Vec F S1x32x128 .f32) (b : Vec F S32x1 .bf16) : k0_pay3 a b = scoreRow a b := rfl
theorem w4 (a : Vec F S1x32x128 .f32) : k0_pay4 a = slabOf a := rfl
theorem w5 (a : Vec F S32x1 .bf16) : k0_pay5 a = colOf a := rfl
theorem w6 (a : FVec F S32x128 .f32) (b : FVec F S32x128 .f32) : k0_pay6 a b = rowSum a b := rfl
theorem w7 (a : Vec F S1x32x128 .f32) (b : Vec F S32x1 .bf16) : k0_pay7 a b = scoreRow a b := rfl
theorem w8 (a : Vec F S1x32x128 .f32) : k0_pay8 a = slabOf a := rfl
theorem w9 (a : Vec F S32x1 .bf16) : k0_pay9 a = colOf a := rfl
theorem w10 (a : FVec F S32x128 .f32) (b : FVec F S32x128 .f32) : k0_pay10 a b = rowSum a b := rfl
theorem w11 (a : Vec F S1x32x128 .f32) (b : Vec F S32x1 .bf16) : k0_pay11 a b = scoreRow a b := rfl
theorem w12 (a : Vec F S1x32x128 .f32) : k0_pay12 a = slabOf a := rfl
theorem w13 (a : Vec F S32x1 .bf16) : k0_pay13 a = colOf a := rfl
theorem w14 (a : FVec F S32x128 .f32) (b : FVec F S32x128 .f32) : k0_pay14 a b = rowSum a b := rfl
theorem w15 (a : Vec F S1x32x128 .f32) (b : Vec F S32x1 .bf16) : k0_pay15 a b = scoreRow a b := rfl
theorem w16 (a : Vec F S1x32x128 .f32) : k0_pay16 a = slabOf a := rfl
theorem w17 (a : Vec F S32x1 .bf16) : k0_pay17 a = colOf a := rfl
theorem w18 (a : FVec F S32x128 .f32) (b : FVec F S32x128 .f32) : k0_pay18 a b = rowSum a b := rfl
theorem w19 (a : Vec F S1x32x128 .f32) (b : Vec F S32x1 .bf16) : k0_pay19 a b = scoreRow a b := rfl
theorem w20 (a : Vec F S1x32x128 .f32) : k0_pay20 a = slabOf a := rfl
theorem w21 (a : Vec F S32x1 .bf16) : k0_pay21 a = colOf a := rfl
theorem w22 (a : FVec F S32x128 .f32) (b : FVec F S32x128 .f32) : k0_pay22 a b = rowSum a b := rfl
theorem w23 (a : Vec F S1x32x128 .f32) (b : Vec F S32x1 .bf16) : k0_pay23 a b = scoreRow a b := rfl
theorem w24 (a : Vec F S1x32x128 .f32) : k0_pay24 a = slabOf a := rfl
theorem w25 (a : Vec F S32x1 .bf16) : k0_pay25 a = colOf a := rfl
theorem w26 (a : FVec F S32x128 .f32) (b : FVec F S32x128 .f32) : k0_pay26 a b = rowSum a b := rfl
theorem w27 (a : Vec F S1x32x128 .f32) (b : Vec F S32x1 .bf16) : k0_pay27 a b = scoreRow a b := rfl
theorem w28 (a : Vec F S1x32x128 .f32) : k0_pay28 a = slabOf a := rfl
theorem w29 (a : Vec F S32x1 .bf16) : k0_pay29 a = colOf a := rfl
theorem w30 (a : FVec F S32x128 .f32) (b : FVec F S32x128 .f32) : k0_pay30 a b = rowSum a b := rfl
theorem w31 (a : Vec F S1x32x128 .f32) (b : Vec F S32x1 .bf16) : k0_pay31 a b = scoreRow a b := rfl
theorem w32 (a : Vec F S1x32x128 .f32) : k0_pay32 a = slabOf a := rfl
theorem w33 (a : Vec F S32x1 .bf16) : k0_pay33 a = colOf a := rfl
theorem w34 (a : FVec F S32x128 .f32) (b : FVec F S32x128 .f32) : k0_pay34 a b = rowSum a b := rfl
theorem w35 (a : Vec F S1x32x128 .f32) (b : Vec F S32x1 .bf16) : k0_pay35 a b = scoreRow a b := rfl
theorem w36 (a : Vec F S1x32x128 .f32) : k0_pay36 a = slabOf a := rfl
theorem w37 (a : Vec F S32x1 .bf16) : k0_pay37 a = colOf a := rfl
theorem w38 (a : FVec F S32x128 .f32) (b : FVec F S32x128 .f32) : k0_pay38 a b = rowSum a b := rfl
theorem w39 (a : Vec F S1x32x128 .f32) (b : Vec F S32x1 .bf16) : k0_pay39 a b = scoreRow a b := rfl
theorem w40 (a : Vec F S1x32x128 .f32) : k0_pay40 a = slabOf a := rfl
theorem w41 (a : Vec F S32x1 .bf16) : k0_pay41 a = colOf a := rfl
theorem w42 (a : FVec F S32x128 .f32) (b : FVec F S32x128 .f32) : k0_pay42 a b = rowSum a b := rfl
theorem w43 (a : Vec F S1x32x128 .f32) (b : Vec F S32x1 .bf16) : k0_pay43 a b = scoreRow a b := rfl
theorem w44 (a : Vec F S1x32x128 .f32) : k0_pay44 a = slabOf a := rfl
theorem w45 (a : Vec F S32x1 .bf16) : k0_pay45 a = colOf a := rfl
theorem w46 (a : FVec F S32x128 .f32) (b : FVec F S32x128 .f32) : k0_pay46 a b = rowSum a b := rfl
theorem w47 (a : Vec F S1x32x128 .f32) (b : Vec F S32x1 .bf16) : k0_pay47 a b = scoreRow a b := rfl
theorem w48 (a : Vec F S1x32x128 .f32) : k0_pay48 a = slabOf a := rfl
theorem w49 (a : Vec F S32x1 .bf16) : k0_pay49 a = colOf a := rfl
theorem w50 (a : FVec F S32x128 .f32) (b : FVec F S32x128 .f32) : k0_pay50 a b = rowSum a b := rfl
theorem w51 (a : Vec F S1x32x128 .f32) (b : Vec F S32x1 .bf16) : k0_pay51 a b = scoreRow a b := rfl
theorem w52 (a : Vec F S1x32x128 .f32) : k0_pay52 a = slabOf a := rfl
theorem w53 (a : Vec F S32x1 .bf16) : k0_pay53 a = colOf a := rfl
theorem w54 (a : FVec F S32x128 .f32) (b : FVec F S32x128 .f32) : k0_pay54 a b = rowSum a b := rfl
theorem w55 (a : Vec F S1x32x128 .f32) (b : Vec F S32x1 .bf16) : k0_pay55 a b = scoreRow a b := rfl
theorem w56 (a : Vec F S1x32x128 .f32) : k0_pay56 a = slabOf a := rfl
theorem w57 (a : Vec F S32x1 .bf16) : k0_pay57 a = colOf a := rfl
theorem w58 (a : FVec F S32x128 .f32) (b : FVec F S32x128 .f32) : k0_pay58 a b = rowSum a b := rfl
theorem w59 (a : Vec F S1x32x128 .f32) (b : Vec F S32x1 .bf16) : k0_pay59 a b = scoreRow a b := rfl
theorem w60 (a : Vec F S1x32x128 .f32) : k0_pay60 a = slabOf a := rfl
theorem w61 (a : Vec F S32x1 .bf16) : k0_pay61 a = colOf a := rfl
theorem w62 (a : FVec F S32x128 .f32) (b : FVec F S32x128 .f32) : k0_pay62 a b = rowSum a b := rfl
theorem w63 (a : Vec F S1x32x128 .f32) (b : Vec F S32x1 .bf16) : k0_pay63 a b = scoreRow a b := rfl
theorem w64 (a : Vec F S1x32x128 .f32) : k0_pay64 a = slabOf a := rfl
theorem w65 (a : Vec F S32x1 .bf16) : k0_pay65 a = colOf a := rfl
theorem w66 (a : FVec F S32x128 .f32) (b : FVec F S32x128 .f32) : k0_pay66 a b = rowSum a b := rfl
theorem w67 (a : Vec F S1x32x128 .f32) (b : Vec F S32x1 .bf16) : k0_pay67 a b = scoreRow a b := rfl
theorem w68 (a : Vec F S1x32x128 .f32) : k0_pay68 a = slabOf a := rfl
theorem w69 (a : Vec F S32x1 .bf16) : k0_pay69 a = colOf a := rfl
theorem w70 (a : FVec F S32x128 .f32) (b : FVec F S32x128 .f32) : k0_pay70 a b = rowSum a b := rfl
theorem w71 (a : Vec F S1x32x128 .f32) (b : Vec F S32x1 .bf16) : k0_pay71 a b = scoreRow a b := rfl
theorem w72 (a : Vec F S1x32x128 .f32) : k0_pay72 a = slabOf a := rfl
theorem w73 (a : Vec F S32x1 .bf16) : k0_pay73 a = colOf a := rfl
theorem w74 (a : FVec F S32x128 .f32) (b : FVec F S32x128 .f32) : k0_pay74 a b = rowSum a b := rfl
theorem w75 (a : Vec F S1x32x128 .f32) (b : Vec F S32x1 .bf16) : k0_pay75 a b = scoreRow a b := rfl
theorem w76 (a : Vec F S1x32x128 .f32) : k0_pay76 a = slabOf a := rfl
theorem w77 (a : Vec F S32x1 .bf16) : k0_pay77 a = colOf a := rfl
theorem w78 (a : FVec F S32x128 .f32) (b : FVec F S32x128 .f32) : k0_pay78 a b = rowSum a b := rfl
theorem w79 (a : Vec F S1x32x128 .f32) (b : Vec F S32x1 .bf16) : k0_pay79 a b = scoreRow a b := rfl
theorem w80 (a : Vec F S1x32x128 .f32) : k0_pay80 a = slabOf a := rfl
theorem w81 (a : Vec F S32x1 .bf16) : k0_pay81 a = colOf a := rfl
theorem w82 (a : FVec F S32x128 .f32) (b : FVec F S32x128 .f32) : k0_pay82 a b = rowSum a b := rfl
theorem w83 (a : Vec F S1x32x128 .f32) (b : Vec F S32x1 .bf16) : k0_pay83 a b = scoreRow a b := rfl
theorem w84 (a : Vec F S1x32x128 .f32) : k0_pay84 a = slabOf a := rfl
theorem w85 (a : Vec F S32x1 .bf16) : k0_pay85 a = colOf a := rfl
theorem w86 (a : FVec F S32x128 .f32) (b : FVec F S32x128 .f32) : k0_pay86 a b = rowSum a b := rfl
theorem w87 (a : Vec F S1x32x128 .f32) (b : Vec F S32x1 .bf16) : k0_pay87 a b = scoreRow a b := rfl
theorem w88 (a : Vec F S1x32x128 .f32) : k0_pay88 a = slabOf a := rfl
theorem w89 (a : Vec F S32x1 .bf16) : k0_pay89 a = colOf a := rfl
theorem w90 (a : FVec F S32x128 .f32) (b : FVec F S32x128 .f32) : k0_pay90 a b = rowSum a b := rfl
theorem w91 (a : Vec F S1x32x128 .f32) (b : Vec F S32x1 .bf16) : k0_pay91 a b = scoreRow a b := rfl
theorem w92 (a : Vec F S1x32x128 .f32) : k0_pay92 a = slabOf a := rfl
theorem w93 (a : Vec F S32x1 .bf16) : k0_pay93 a = colOf a := rfl
theorem w94 (a : FVec F S32x128 .f32) (b : FVec F S32x128 .f32) : k0_pay94 a b = rowSum a b := rfl
theorem w95 (a : Vec F S1x32x128 .f32) (b : Vec F S32x1 .bf16) : k0_pay95 a b = scoreRow a b := rfl
theorem w96 (a : Vec F S1x32x128 .f32) : k0_pay96 a = slabOf a := rfl
theorem w97 (a : Vec F S32x1 .bf16) : k0_pay97 a = colOf a := rfl
theorem w98 (a : FVec F S32x128 .f32) (b : FVec F S32x128 .f32) : k0_pay98 a b = rowSum a b := rfl
theorem w99 (a : Vec F S1x32x128 .f32) (b : Vec F S32x1 .bf16) : k0_pay99 a b = scoreRow a b := rfl
theorem w100 (a : Vec F S1x32x128 .f32) : k0_pay100 a = slabOf a := rfl
theorem w101 (a : Vec F S32x1 .bf16) : k0_pay101 a = colOf a := rfl
theorem w102 (a : FVec F S32x128 .f32) (b : FVec F S32x128 .f32) : k0_pay102 a b = rowSum a b := rfl
theorem w103 (a : Vec F S1x32x128 .f32) (b : Vec F S32x1 .bf16) : k0_pay103 a b = scoreRow a b := rfl
theorem w104 (a : Vec F S1x32x128 .f32) : k0_pay104 a = slabOf a := rfl
theorem w105 (a : Vec F S32x1 .bf16) : k0_pay105 a = colOf a := rfl
theorem w106 (a : FVec F S32x128 .f32) (b : FVec F S32x128 .f32) : k0_pay106 a b = rowSum a b := rfl
theorem w107 (a : Vec F S1x32x128 .f32) (b : Vec F S32x1 .bf16) : k0_pay107 a b = scoreRow a b := rfl
theorem w108 (a : Vec F S1x32x128 .f32) : k0_pay108 a = slabOf a := rfl
theorem w109 (a : Vec F S32x1 .bf16) : k0_pay109 a = colOf a := rfl
theorem w110 (a : FVec F S32x128 .f32) (b : FVec F S32x128 .f32) : k0_pay110 a b = rowSum a b := rfl
theorem w111 (a : Vec F S1x32x128 .f32) (b : Vec F S32x1 .bf16) : k0_pay111 a b = scoreRow a b := rfl
theorem w112 (a : Vec F S1x32x128 .f32) : k0_pay112 a = slabOf a := rfl
theorem w113 (a : Vec F S32x1 .bf16) : k0_pay113 a = colOf a := rfl
theorem w114 (a : FVec F S32x128 .f32) (b : FVec F S32x128 .f32) : k0_pay114 a b = rowSum a b := rfl
theorem w115 (a : Vec F S1x32x128 .f32) (b : Vec F S32x1 .bf16) : k0_pay115 a b = scoreRow a b := rfl
theorem w116 (a : Vec F S1x32x128 .f32) : k0_pay116 a = slabOf a := rfl
theorem w117 (a : Vec F S32x1 .bf16) : k0_pay117 a = colOf a := rfl
theorem w118 (a : FVec F S32x128 .f32) (b : FVec F S32x128 .f32) : k0_pay118 a b = rowSum a b := rfl
theorem w119 (a : Vec F S1x32x128 .f32) (b : Vec F S32x1 .bf16) : k0_pay119 a b = scoreRow a b := rfl
theorem w120 (a : Vec F S1x32x128 .f32) : k0_pay120 a = slabOf a := rfl
theorem w121 (a : Vec F S32x1 .bf16) : k0_pay121 a = colOf a := rfl
theorem w122 (a : FVec F S32x128 .f32) (b : FVec F S32x128 .f32) : k0_pay122 a b = rowSum a b := rfl
theorem w123 (a : Vec F S1x32x128 .f32) (b : Vec F S32x1 .bf16) : k0_pay123 a b = scoreRow a b := rfl
theorem w124 (a : Vec F S1x32x128 .f32) : k0_pay124 a = slabOf a := rfl
theorem w125 (a : Vec F S32x1 .bf16) : k0_pay125 a = colOf a := rfl
theorem w126 (a : FVec F S32x128 .f32) (b : FVec F S32x128 .f32) : k0_pay126 a b = rowSum a b := rfl
theorem w127 (a : Vec F S1x32x128 .f32) (b : Vec F S32x1 .bf16) : k0_pay127 a b = scoreRow a b := rfl
theorem w128 (a : Vec F S1x32x128 .f32) : k0_pay128 a = slabOf a := rfl
theorem w129 (a : Vec F S32x1 .bf16) : k0_pay129 a = colOf a := rfl
theorem w130 (a : FVec F S32x128 .f32) (b : FVec F S32x128 .f32) : k0_pay130 a b = rowSum a b := rfl
theorem w131 (a : Vec F S1x32x128 .f32) (b : Vec F S32x1 .bf16) : k0_pay131 a b = scoreRow a b := rfl
theorem w132 (a : Vec F S1x32x128 .f32) : k0_pay132 a = slabOf a := rfl
theorem w133 (a : Vec F S32x1 .bf16) : k0_pay133 a = colOf a := rfl
theorem w134 (a : FVec F S32x128 .f32) (b : FVec F S32x128 .f32) : k0_pay134 a b = rowSum a b := rfl
theorem w135 (a : Vec F S1x32x128 .f32) (b : Vec F S32x1 .bf16) : k0_pay135 a b = scoreRow a b := rfl
theorem w136 (a : Vec F S1x32x128 .f32) : k0_pay136 a = slabOf a := rfl
theorem w137 (a : Vec F S32x1 .bf16) : k0_pay137 a = colOf a := rfl
theorem w138 (a : FVec F S32x128 .f32) (b : FVec F S32x128 .f32) : k0_pay138 a b = rowSum a b := rfl
theorem w139 (a : Vec F S1x32x128 .f32) (b : Vec F S32x1 .bf16) : k0_pay139 a b = scoreRow a b := rfl
theorem w140 (a : Vec F S1x32x128 .f32) : k0_pay140 a = slabOf a := rfl
theorem w141 (a : Vec F S32x1 .bf16) : k0_pay141 a = colOf a := rfl
theorem w142 (a : FVec F S32x128 .f32) (b : FVec F S32x128 .f32) : k0_pay142 a b = rowSum a b := rfl
theorem w143 (a : Vec F S1x32x128 .f32) (b : Vec F S32x1 .bf16) : k0_pay143 a b = scoreRow a b := rfl
theorem w144 (a : Vec F S1x32x128 .f32) : k0_pay144 a = slabOf a := rfl
theorem w145 (a : Vec F S32x1 .bf16) : k0_pay145 a = colOf a := rfl
theorem w146 (a : FVec F S32x128 .f32) (b : FVec F S32x128 .f32) : k0_pay146 a b = rowSum a b := rfl
theorem w147 (a : Vec F S1x32x128 .f32) (b : Vec F S32x1 .bf16) : k0_pay147 a b = scoreRow a b := rfl
theorem w148 (a : Vec F S1x32x128 .f32) : k0_pay148 a = slabOf a := rfl
theorem w149 (a : Vec F S32x1 .bf16) : k0_pay149 a = colOf a := rfl
theorem w150 (a : FVec F S32x128 .f32) (b : FVec F S32x128 .f32) : k0_pay150 a b = rowSum a b := rfl
theorem w151 (a : Vec F S1x32x128 .f32) (b : Vec F S32x1 .bf16) : k0_pay151 a b = scoreRow a b := rfl
theorem w152 (a : Vec F S1x32x128 .f32) : k0_pay152 a = slabOf a := rfl
theorem w153 (a : Vec F S32x1 .bf16) : k0_pay153 a = colOf a := rfl
theorem w154 (a : FVec F S32x128 .f32) (b : FVec F S32x128 .f32) : k0_pay154 a b = rowSum a b := rfl
theorem w155 (a : Vec F S1x32x128 .f32) (b : Vec F S32x1 .bf16) : k0_pay155 a b = scoreRow a b := rfl
theorem w156 (a : Vec F S1x32x128 .f32) : k0_pay156 a = slabOf a := rfl
theorem w157 (a : Vec F S32x1 .bf16) : k0_pay157 a = colOf a := rfl
theorem w158 (a : FVec F S32x128 .f32) (b : FVec F S32x128 .f32) : k0_pay158 a b = rowSum a b := rfl
theorem w159 (a : Vec F S1x32x128 .f32) (b : Vec F S32x1 .bf16) : k0_pay159 a b = scoreRow a b := rfl
theorem w160 (a : Vec F S1x32x128 .f32) : k0_pay160 a = slabOf a := rfl
theorem w161 (a : Vec F S32x1 .bf16) : k0_pay161 a = colOf a := rfl
theorem w162 (a : FVec F S32x128 .f32) (b : FVec F S32x128 .f32) : k0_pay162 a b = rowSum a b := rfl
theorem w163 (a : Vec F S1x32x128 .f32) (b : Vec F S32x1 .bf16) : k0_pay163 a b = scoreRow a b := rfl
theorem w164 (a : Vec F S1x32x128 .f32) : k0_pay164 a = slabOf a := rfl
theorem w165 (a : Vec F S32x1 .bf16) : k0_pay165 a = colOf a := rfl
theorem w166 (a : FVec F S32x128 .f32) (b : FVec F S32x128 .f32) : k0_pay166 a b = rowSum a b := rfl
theorem w167 (a : Vec F S1x32x128 .f32) (b : Vec F S32x1 .bf16) : k0_pay167 a b = scoreRow a b := rfl
theorem w168 (a : Vec F S1x32x128 .f32) : k0_pay168 a = slabOf a := rfl
theorem w169 (a : Vec F S32x1 .bf16) : k0_pay169 a = colOf a := rfl
theorem w170 (a : FVec F S32x128 .f32) (b : FVec F S32x128 .f32) : k0_pay170 a b = rowSum a b := rfl
theorem w171 (a : Vec F S1x32x128 .f32) (b : Vec F S32x1 .bf16) : k0_pay171 a b = scoreRow a b := rfl
theorem w172 (a : Vec F S1x32x128 .f32) : k0_pay172 a = slabOf a := rfl
theorem w173 (a : Vec F S32x1 .bf16) : k0_pay173 a = colOf a := rfl
theorem w174 (a : FVec F S32x128 .f32) (b : FVec F S32x128 .f32) : k0_pay174 a b = rowSum a b := rfl
theorem w175 (a : Vec F S1x32x128 .f32) (b : Vec F S32x1 .bf16) : k0_pay175 a b = scoreRow a b := rfl
theorem w176 (a : Vec F S1x32x128 .f32) : k0_pay176 a = slabOf a := rfl
theorem w177 (a : Vec F S32x1 .bf16) : k0_pay177 a = colOf a := rfl
theorem w178 (a : FVec F S32x128 .f32) (b : FVec F S32x128 .f32) : k0_pay178 a b = rowSum a b := rfl
theorem w179 (a : Vec F S1x32x128 .f32) (b : Vec F S32x1 .bf16) : k0_pay179 a b = scoreRow a b := rfl
theorem w180 (a : Vec F S1x32x128 .f32) : k0_pay180 a = slabOf a := rfl
theorem w181 (a : Vec F S32x1 .bf16) : k0_pay181 a = colOf a := rfl
theorem w182 (a : FVec F S32x128 .f32) (b : FVec F S32x128 .f32) : k0_pay182 a b = rowSum a b := rfl
theorem w183 (a : Vec F S1x32x128 .f32) (b : Vec F S32x1 .bf16) : k0_pay183 a b = scoreRow a b := rfl
theorem w184 (a : Vec F S1x32x128 .f32) : k0_pay184 a = slabOf a := rfl
theorem w185 (a : Vec F S32x1 .bf16) : k0_pay185 a = colOf a := rfl
theorem w186 (a : FVec F S32x128 .f32) (b : FVec F S32x128 .f32) : k0_pay186 a b = rowSum a b := rfl
theorem w187 (a : Vec F S1x32x128 .f32) (b : Vec F S32x1 .bf16) : k0_pay187 a b = scoreRow a b := rfl
theorem w188 (a : Vec F S1x32x128 .f32) : k0_pay188 a = slabOf a := rfl
theorem w189 (a : Vec F S32x1 .bf16) : k0_pay189 a = colOf a := rfl
theorem w190 (a : FVec F S32x128 .f32) (b : FVec F S32x128 .f32) : k0_pay190 a b = rowSum a b := rfl
theorem w191 (a : Vec F S1x32x128 .f32) (b : Vec F S32x1 .bf16) : k0_pay191 a b = scoreRow a b := rfl
theorem w192 (a : Vec F S1x32x128 .f32) : k0_pay192 a = slabOf a := rfl
theorem w193 (a : Vec F S32x1 .bf16) : k0_pay193 a = colOf a := rfl
theorem w194 (a : FVec F S32x128 .f32) (b : FVec F S32x128 .f32) : k0_pay194 a b = rowSum a b := rfl
theorem w195 (a : Vec F S1x32x128 .f32) (b : Vec F S32x1 .bf16) : k0_pay195 a b = scoreRow a b := rfl
theorem w196 (a : Vec F S1x32x128 .f32) : k0_pay196 a = slabOf a := rfl
theorem w197 (a : Vec F S32x1 .bf16) : k0_pay197 a = colOf a := rfl
theorem w198 (a : FVec F S32x128 .f32) (b : FVec F S32x128 .f32) : k0_pay198 a b = rowSum a b := rfl
theorem w199 (a : Vec F S1x32x128 .f32) (b : Vec F S32x1 .bf16) : k0_pay199 a b = scoreRow a b := rfl
theorem w200 (a : Vec F S1x32x128 .f32) : k0_pay200 a = slabOf a := rfl
theorem w201 (a : Vec F S32x1 .bf16) : k0_pay201 a = colOf a := rfl
theorem w202 (a : FVec F S32x128 .f32) (b : FVec F S32x128 .f32) : k0_pay202 a b = rowSum a b := rfl
theorem w203 (a : Vec F S1x32x128 .f32) (b : Vec F S32x1 .bf16) : k0_pay203 a b = scoreRow a b := rfl
theorem w204 (a : Vec F S1x32x128 .f32) : k0_pay204 a = slabOf a := rfl
theorem w205 (a : Vec F S32x1 .bf16) : k0_pay205 a = colOf a := rfl
theorem w206 (a : FVec F S32x128 .f32) (b : FVec F S32x128 .f32) : k0_pay206 a b = rowSum a b := rfl
theorem w207 (a : Vec F S1x32x128 .f32) (b : Vec F S32x1 .bf16) : k0_pay207 a b = scoreRow a b := rfl
theorem w208 (a : Vec F S1x32x128 .f32) : k0_pay208 a = slabOf a := rfl
theorem w209 (a : Vec F S32x1 .bf16) : k0_pay209 a = colOf a := rfl
theorem w210 (a : FVec F S32x128 .f32) (b : FVec F S32x128 .f32) : k0_pay210 a b = rowSum a b := rfl
theorem w211 (a : Vec F S1x32x128 .f32) (b : Vec F S32x1 .bf16) : k0_pay211 a b = scoreRow a b := rfl
theorem w212 (a : Vec F S1x32x128 .f32) : k0_pay212 a = slabOf a := rfl
theorem w213 (a : Vec F S32x1 .bf16) : k0_pay213 a = colOf a := rfl
theorem w214 (a : FVec F S32x128 .f32) (b : FVec F S32x128 .f32) : k0_pay214 a b = rowSum a b := rfl
theorem w215 (a : Vec F S1x32x128 .f32) (b : Vec F S32x1 .bf16) : k0_pay215 a b = scoreRow a b := rfl
theorem w216 (a : Vec F S1x32x128 .f32) : k0_pay216 a = slabOf a := rfl
theorem w217 (a : Vec F S32x1 .bf16) : k0_pay217 a = colOf a := rfl
theorem w218 (a : FVec F S32x128 .f32) (b : FVec F S32x128 .f32) : k0_pay218 a b = rowSum a b := rfl
theorem w219 (a : Vec F S1x32x128 .f32) (b : Vec F S32x1 .bf16) : k0_pay219 a b = scoreRow a b := rfl
theorem w220 (a : Vec F S1x32x128 .f32) : k0_pay220 a = slabOf a := rfl
theorem w221 (a : Vec F S32x1 .bf16) : k0_pay221 a = colOf a := rfl
theorem w222 (a : FVec F S32x128 .f32) (b : FVec F S32x128 .f32) : k0_pay222 a b = rowSum a b := rfl
theorem w223 (a : Vec F S1x32x128 .f32) (b : Vec F S32x1 .bf16) : k0_pay223 a b = scoreRow a b := rfl
theorem w224 (a : Vec F S1x32x128 .f32) : k0_pay224 a = slabOf a := rfl
theorem w225 (a : Vec F S32x1 .bf16) : k0_pay225 a = colOf a := rfl
theorem w226 (a : FVec F S32x128 .f32) (b : FVec F S32x128 .f32) : k0_pay226 a b = rowSum a b := rfl
theorem w227 (a : Vec F S1x32x128 .f32) (b : Vec F S32x1 .bf16) : k0_pay227 a b = scoreRow a b := rfl
theorem w228 (a : Vec F S1x32x128 .f32) : k0_pay228 a = slabOf a := rfl
theorem w229 (a : Vec F S32x1 .bf16) : k0_pay229 a = colOf a := rfl
theorem w230 (a : FVec F S32x128 .f32) (b : FVec F S32x128 .f32) : k0_pay230 a b = rowSum a b := rfl
theorem w231 (a : Vec F S1x32x128 .f32) (b : Vec F S32x1 .bf16) : k0_pay231 a b = scoreRow a b := rfl
theorem w232 (a : Vec F S1x32x128 .f32) : k0_pay232 a = slabOf a := rfl
theorem w233 (a : Vec F S32x1 .bf16) : k0_pay233 a = colOf a := rfl
theorem w234 (a : FVec F S32x128 .f32) (b : FVec F S32x128 .f32) : k0_pay234 a b = rowSum a b := rfl
theorem w235 (a : Vec F S1x32x128 .f32) (b : Vec F S32x1 .bf16) : k0_pay235 a b = scoreRow a b := rfl
theorem w236 (a : Vec F S1x32x128 .f32) : k0_pay236 a = slabOf a := rfl
theorem w237 (a : Vec F S32x1 .bf16) : k0_pay237 a = colOf a := rfl
theorem w238 (a : FVec F S32x128 .f32) (b : FVec F S32x128 .f32) : k0_pay238 a b = rowSum a b := rfl
theorem w239 (a : Vec F S1x32x128 .f32) (b : Vec F S32x1 .bf16) : k0_pay239 a b = scoreRow a b := rfl
theorem w240 (a : Vec F S1x32x128 .f32) : k0_pay240 a = slabOf a := rfl
theorem w241 (a : Vec F S32x1 .bf16) : k0_pay241 a = colOf a := rfl
theorem w242 (a : FVec F S32x128 .f32) (b : FVec F S32x128 .f32) : k0_pay242 a b = rowSum a b := rfl
theorem w243 (a : Vec F S1x32x128 .f32) (b : Vec F S32x1 .bf16) : k0_pay243 a b = scoreRow a b := rfl
theorem w244 (a : Vec F S1x32x128 .f32) : k0_pay244 a = slabOf a := rfl
theorem w245 (a : Vec F S32x1 .bf16) : k0_pay245 a = colOf a := rfl
theorem w246 (a : FVec F S32x128 .f32) (b : FVec F S32x128 .f32) : k0_pay246 a b = rowSum a b := rfl
theorem w247 (a : Vec F S1x32x128 .f32) (b : Vec F S32x1 .bf16) : k0_pay247 a b = scoreRow a b := rfl
theorem w248 (a : Vec F S1x32x128 .f32) : k0_pay248 a = slabOf a := rfl
theorem w249 (a : Vec F S32x1 .bf16) : k0_pay249 a = colOf a := rfl
theorem w250 (a : FVec F S32x128 .f32) (b : FVec F S32x128 .f32) : k0_pay250 a b = rowSum a b := rfl
theorem w251 (a : Vec F S1x32x128 .f32) (b : Vec F S32x1 .bf16) : k0_pay251 a b = scoreRow a b := rfl
theorem w252 (a : Vec F S1x32x128 .f32) : k0_pay252 a = slabOf a := rfl
theorem w253 (a : Vec F S32x1 .bf16) : k0_pay253 a = colOf a := rfl
theorem w254 (a : FVec F S32x128 .f32) (b : FVec F S32x128 .f32) : k0_pay254 a b = rowSum a b := rfl
theorem w255 (a : Vec F S1x32x128 .f32) (b : Vec F S32x1 .bf16) : k0_pay255 a b = scoreRow a b := rfl
theorem w256 (a : Vec F S1x32x128 .f32) : k0_pay256 a = slabOf a := rfl
theorem w257 (a : Vec F S32x1 .bf16) : k0_pay257 a = colOf a := rfl
theorem w268 (a : FVec F S32x128 .f32) (b : IVec S32x128 1) : k0_pay268 a b = mask a b := rfl
theorem w269 (a : IVec S32x128 32) (b : FVec F S32x128 .f32) : k0_pay269 a b = pickBy a b := rfl
theorem w270 (a : IVec S32x128 32) (b : FVec F S32x128 .f32) : k0_pay270 a b = knockBy a b := rfl
theorem w271 (a : IVec S32x128 32) (b : FVec F S32x128 .f32) : k0_pay271 a b = pickBy a b := rfl
theorem w272 (a : IVec S32x128 32) (b : FVec F S32x128 .f32) : k0_pay272 a b = knockBy a b := rfl
theorem w273 (a : IVec S32x128 32) (b : FVec F S32x128 .f32) : k0_pay273 a b = pickBy a b := rfl
theorem w274 (a : IVec S32x128 32) (b : FVec F S32x128 .f32) : k0_pay274 a b = knockBy a b := rfl
theorem w275 (a : IVec S32x128 32) (b : FVec F S32x128 .f32) (c : IVec S32x128 1) : k0_pay275 a b c = cand a (hits (mask b c)) := rfl
theorem w276 (a : IVec S32x128 32) : k0_pay276 a = least a := rfl
theorem w277 (a : IVec S32x128 32) (b : FVec F S32x128 .f32) (c : IVec S32x128 32) : k0_pay277 a b c = mask b (isAt a (least c)) := rfl
theorem w278 (a : IVec S32x128 32) (b : FVec F S32x128 .f32) : k0_pay278 a b = pickBy a b := rfl
theorem w279 (a : IVec S32x128 32) (b : FVec F S32x128 .f32) : k0_pay279 a b = knockBy a b := rfl
theorem w280 (a : IVec S32x128 32) (b : FVec F S32x128 .f32) : k0_pay280 a b = pickBy a b := rfl
theorem w281 (a : IVec S32x128 32) (b : FVec F S32x128 .f32) : k0_pay281 a b = knockBy a b := rfl
theorem w282 (a : IVec S32x128 32) (b : FVec F S32x128 .f32) : k0_pay282 a b = pickBy a b := rfl
theorem w283 (a : IVec S32x128 32) (b : FVec F S32x128 .f32) : k0_pay283 a b = knockBy a b := rfl
theorem w284 (a : IVec S32x128 32) (b : FVec F S32x128 .f32) (c : IVec S32x128 32) : k0_pay284 a b c = hits (mask b (isAt a (least c))) := rfl
theorem w285 (a : IVec S32x128 32) (b : IVec S32x128 1) : k0_pay285 a b = least (cand a b) := rfl
theorem w286 (a : IVec S32x128 32) (b : FVec F S32x128 .f32) (c : IVec S32x128 1) : k0_pay286 a b c = mask b (isAt a (least (cand a c))) := rfl
theorem w287 (a : IVec S32x128 32) (b : FVec F S32x128 .f32) : k0_pay287 a b = pickBy a b := rfl
theorem w288 (a : IVec S32x128 32) (b : FVec F S32x128 .f32) : k0_pay288 a b = knockBy a b := rfl
theorem w289 (a : IVec S32x128 32) (b : FVec F S32x128 .f32) : k0_pay289 a b = pickBy a b := rfl
theorem w290 (a : IVec S32x128 32) (b : FVec F S32x128 .f32) : k0_pay290 a b = knockBy a b := rfl
theorem w291 (a : IVec S32x128 32) (b : FVec F S32x128 .f32) : k0_pay291 a b = pickBy a b := rfl
theorem w292 (a : IVec S32x128 32) (b : FVec F S32x128 .f32) : k0_pay292 a b = knockBy a b := rfl
theorem w293 (a : IVec S32x128 32) (b : FVec F S32x128 .f32) : k0_pay293 a b = pickBy a b := rfl
theorem w294 (a : IVec S32x128 32) (b : FVec F S32x128 .f32) : k0_pay294 a b = knockBy a b := rfl
theorem w295 (a : IVec S32x128 32) (b : FVec F S32x128 .f32) : k0_pay295 a b = pickBy a b := rfl
theorem w296 (a : IVec S32x128 32) (b : FVec F S32x128 .f32) : k0_pay296 a b = knockBy a b := rfl
theorem w297 (a : IVec S32x128 32) (b : FVec F S32x128 .f32) : k0_pay297 a b = pickBy a b := rfl
theorem w298 (a : IVec S32x128 32) (b : FVec F S32x128 .f32) : k0_pay298 a b = knockBy a b := rfl
theorem w299 (a : IVec S32x128 32) (b : FVec F S32x128 .f32) : k0_pay299 a b = pickBy a b := rfl
theorem w300 (a : IVec S32x128 32) (b : FVec F S32x128 .f32) : k0_pay300 a b = atPick a b := rfl
theorem w301 (a : FVec F S32x128 .f32) (b : IVec S32x128 1) : k0_pay301 a b = mask a b := rfl
theorem w302 (a : IVec S32x128 32) (b : FVec F S32x128 .f32) : k0_pay302 a b = pickBy a b := rfl
theorem w303 (a : IVec S32x128 32) (b : FVec F S32x128 .f32) : k0_pay303 a b = knockBy a b := rfl
theorem w304 (a : IVec S32x128 32) (b : FVec F S32x128 .f32) : k0_pay304 a b = pickBy a b := rfl
theorem w305 (a : IVec S32x128 32) (b : FVec F S32x128 .f32) : k0_pay305 a b = knockBy a b := rfl
theorem w306 (a : IVec S32x128 32) (b : FVec F S32x128 .f32) : k0_pay306 a b = pickBy a b := rfl
theorem w307 (a : IVec S32x128 32) (b : FVec F S32x128 .f32) : k0_pay307 a b = knockBy a b := rfl
theorem w308 (a : IVec S32x128 32) (b : FVec F S32x128 .f32) (c : IVec S32x128 1) : k0_pay308 a b c = cand a (hits (mask b c)) := rfl
theorem w309 (a : IVec S32x128 32) : k0_pay309 a = least a := rfl
theorem w310 (a : IVec S32x128 32) (b : FVec F S32x128 .f32) (c : IVec S32x128 32) : k0_pay310 a b c = mask b (isAt a (least c)) := rfl
theorem w311 (a : IVec S32x128 32) (b : FVec F S32x128 .f32) : k0_pay311 a b = pickBy a b := rfl
theorem w312 (a : IVec S32x128 32) (b : FVec F S32x128 .f32) : k0_pay312 a b = knockBy a b := rfl
theorem w313 (a : IVec S32x128 32) (b : FVec F S32x128 .f32) : k0_pay313 a b = pickBy a b := rfl
theorem w314 (a : IVec S32x128 32) (b : FVec F S32x128 .f32) : k0_pay314 a b = knockBy a b := rfl
theorem w315 (a : IVec S32x128 32) (b : FVec F S32x128 .f32) : k0_pay315 a b = pickBy a b := rfl
theorem w316 (a : IVec S32x128 32) (b : FVec F S32x128 .f32) : k0_pay316 a b = knockBy a b := rfl
theorem w317 (a : IVec S32x128 32) (b : FVec F S32x128 .f32) (c : IVec S32x128 32) : k0_pay317 a b c = hits (mask b (isAt a (least c))) := rfl
theorem w318 (a : IVec S32x128 32) (b : IVec S32x128 1) : k0_pay318 a b = least (cand a b) := rfl
theorem w319 (a : IVec S32x128 32) (b : FVec F S32x128 .f32) (c : IVec S32x128 1) : k0_pay319 a b c = mask b (isAt a (least (cand a c))) := rfl
theorem w320 (a : IVec S32x128 32) (b : FVec F S32x128 .f32) : k0_pay320 a b = pickBy a b := rfl
theorem w321 (a : IVec S32x128 32) (b : FVec F S32x128 .f32) : k0_pay321 a b = knockBy a b := rfl
theorem w322 (a : IVec S32x128 32) (b : FVec F S32x128 .f32) : k0_pay322 a b = pickBy a b := rfl
theorem w323 (a : IVec S32x128 32) (b : FVec F S32x128 .f32) : k0_pay323 a b = knockBy a b := rfl
theorem w324 (a : IVec S32x128 32) (b : FVec F S32x128 .f32) : k0_pay324 a b = pickBy a b := rfl
theorem w325 (a : IVec S32x128 32) (b : FVec F S32x128 .f32) : k0_pay325 a b = knockBy a b := rfl
theorem w326 (a : IVec S32x128 32) (b : FVec F S32x128 .f32) : k0_pay326 a b = pickBy a b := rfl
theorem w327 (a : IVec S32x128 32) (b : FVec F S32x128 .f32) : k0_pay327 a b = knockBy a b := rfl
theorem w328 (a : IVec S32x128 32) (b : FVec F S32x128 .f32) : k0_pay328 a b = pickBy a b := rfl
theorem w329 (a : IVec S32x128 32) (b : FVec F S32x128 .f32) : k0_pay329 a b = knockBy a b := rfl
theorem w330 (a : IVec S32x128 32) (b : FVec F S32x128 .f32) : k0_pay330 a b = pickBy a b := rfl
theorem w331 (a : IVec S32x128 32) (b : FVec F S32x128 .f32) : k0_pay331 a b = knockBy a b := rfl
theorem w332 (a : IVec S32x128 32) (b : FVec F S32x128 .f32) : k0_pay332 a b = pickBy a b := rfl
theorem w333 (a : IVec S32x128 32) (b : FVec F S32x128 .f32) : k0_pay333 a b = atPick a b := rfl
theorem w334 (a : FVec F S32x128 .f32) (b : IVec S32x128 1) : k0_pay334 a b = mask a b := rfl
theorem w335 (a : IVec S32x128 32) (b : FVec F S32x128 .f32) : k0_pay335 a b = pickBy a b := rfl
theorem w336 (a : IVec S32x128 32) (b : FVec F S32x128 .f32) : k0_pay336 a b = knockBy a b := rfl
theorem w337 (a : IVec S32x128 32) (b : FVec F S32x128 .f32) : k0_pay337 a b = pickBy a b := rfl
theorem w338 (a : IVec S32x128 32) (b : FVec F S32x128 .f32) : k0_pay338 a b = knockBy a b := rfl
theorem w339 (a : IVec S32x128 32) (b : FVec F S32x128 .f32) : k0_pay339 a b = pickBy a b := rfl
theorem w340 (a : IVec S32x128 32) (b : FVec F S32x128 .f32) : k0_pay340 a b = knockBy a b := rfl
theorem w341 (a : IVec S32x128 32) (b : FVec F S32x128 .f32) (c : IVec S32x128 1) : k0_pay341 a b c = cand a (hits (mask b c)) := rfl
theorem w342 (a : IVec S32x128 32) : k0_pay342 a = least a := rfl
theorem w343 (a : IVec S32x128 32) (b : FVec F S32x128 .f32) (c : IVec S32x128 32) : k0_pay343 a b c = mask b (isAt a (least c)) := rfl
theorem w344 (a : IVec S32x128 32) (b : FVec F S32x128 .f32) : k0_pay344 a b = pickBy a b := rfl
theorem w345 (a : IVec S32x128 32) (b : FVec F S32x128 .f32) : k0_pay345 a b = knockBy a b := rfl
theorem w346 (a : IVec S32x128 32) (b : FVec F S32x128 .f32) : k0_pay346 a b = pickBy a b := rfl
theorem w347 (a : IVec S32x128 32) (b : FVec F S32x128 .f32) : k0_pay347 a b = knockBy a b := rfl
theorem w348 (a : IVec S32x128 32) (b : FVec F S32x128 .f32) : k0_pay348 a b = pickBy a b := rfl
theorem w349 (a : IVec S32x128 32) (b : FVec F S32x128 .f32) : k0_pay349 a b = knockBy a b := rfl
theorem w350 (a : IVec S32x128 32) (b : FVec F S32x128 .f32) (c : IVec S32x128 32) : k0_pay350 a b c = hits (mask b (isAt a (least c))) := rfl
theorem w351 (a : IVec S32x128 32) (b : IVec S32x128 1) : k0_pay351 a b = least (cand a b) := rfl
theorem w352 (a : IVec S32x128 32) (b : FVec F S32x128 .f32) (c : IVec S32x128 1) : k0_pay352 a b c = mask b (isAt a (least (cand a c))) := rfl
theorem w353 (a : IVec S32x128 32) (b : FVec F S32x128 .f32) : k0_pay353 a b = pickBy a b := rfl
theorem w354 (a : IVec S32x128 32) (b : FVec F S32x128 .f32) : k0_pay354 a b = knockBy a b := rfl
theorem w355 (a : IVec S32x128 32) (b : FVec F S32x128 .f32) : k0_pay355 a b = pickBy a b := rfl
theorem w356 (a : IVec S32x128 32) (b : FVec F S32x128 .f32) : k0_pay356 a b = knockBy a b := rfl
theorem w357 (a : IVec S32x128 32) (b : FVec F S32x128 .f32) : k0_pay357 a b = pickBy a b := rfl
theorem w358 (a : IVec S32x128 32) (b : FVec F S32x128 .f32) : k0_pay358 a b = knockBy a b := rfl
theorem w359 (a : IVec S32x128 32) (b : FVec F S32x128 .f32) : k0_pay359 a b = pickBy a b := rfl
theorem w360 (a : IVec S32x128 32) (b : FVec F S32x128 .f32) : k0_pay360 a b = knockBy a b := rfl
theorem w361 (a : IVec S32x128 32) (b : FVec F S32x128 .f32) : k0_pay361 a b = pickBy a b := rfl
theorem w362 (a : IVec S32x128 32) (b : FVec F S32x128 .f32) : k0_pay362 a b = knockBy a b := rfl
theorem w363 (a : IVec S32x128 32) (b : FVec F S32x128 .f32) : k0_pay363 a b = pickBy a b := rfl
theorem w364 (a : IVec S32x128 32) (b : FVec F S32x128 .f32) : k0_pay364 a b = knockBy a b := rfl
theorem w365 (a : IVec S32x128 32) (b : FVec F S32x128 .f32) : k0_pay365 a b = pickBy a b := rfl
theorem w366 (a : IVec S32x128 32) (b : FVec F S32x128 .f32) : k0_pay366 a b = atPick a b := rfl
theorem w367 (a : FVec F S32x128 .f32) (b : IVec S32x128 1) : k0_pay367 a b = mask a b := rfl
theorem w368 (a : IVec S32x128 32) (b : FVec F S32x128 .f32) : k0_pay368 a b = pickBy a b := rfl
theorem w369 (a : IVec S32x128 32) (b : FVec F S32x128 .f32) : k0_pay369 a b = knockBy a b := rfl
theorem w370 (a : IVec S32x128 32) (b : FVec F S32x128 .f32) : k0_pay370 a b = pickBy a b := rfl
theorem w371 (a : IVec S32x128 32) (b : FVec F S32x128 .f32) : k0_pay371 a b = knockBy a b := rfl
theorem w372 (a : IVec S32x128 32) (b : FVec F S32x128 .f32) : k0_pay372 a b = pickBy a b := rfl
theorem w373 (a : IVec S32x128 32) (b : FVec F S32x128 .f32) : k0_pay373 a b = knockBy a b := rfl
theorem w374 (a : IVec S32x128 32) (b : FVec F S32x128 .f32) (c : IVec S32x128 1) : k0_pay374 a b c = cand a (hits (mask b c)) := rfl
theorem w375 (a : IVec S32x128 32) : k0_pay375 a = least a := rfl
theorem w376 (a : IVec S32x128 32) (b : FVec F S32x128 .f32) (c : IVec S32x128 32) : k0_pay376 a b c = mask b (isAt a (least c)) := rfl
theorem w377 (a : IVec S32x128 32) (b : FVec F S32x128 .f32) : k0_pay377 a b = pickBy a b := rfl
theorem w378 (a : IVec S32x128 32) (b : FVec F S32x128 .f32) : k0_pay378 a b = knockBy a b := rfl
theorem w379 (a : IVec S32x128 32) (b : FVec F S32x128 .f32) : k0_pay379 a b = pickBy a b := rfl
theorem w380 (a : IVec S32x128 32) (b : FVec F S32x128 .f32) : k0_pay380 a b = knockBy a b := rfl
theorem w381 (a : IVec S32x128 32) (b : FVec F S32x128 .f32) : k0_pay381 a b = pickBy a b := rfl
theorem w382 (a : IVec S32x128 32) (b : FVec F S32x128 .f32) : k0_pay382 a b = knockBy a b := rfl
theorem w383 (a : IVec S32x128 32) (b : FVec F S32x128 .f32) (c : IVec S32x128 32) : k0_pay383 a b c = hits (mask b (isAt a (least c))) := rfl
theorem w384 (a : IVec S32x128 32) (b : IVec S32x128 1) : k0_pay384 a b = least (cand a b) := rfl
theorem w385 (a : IVec S32x128 32) (b : FVec F S32x128 .f32) (c : IVec S32x128 1) : k0_pay385 a b c = mask b (isAt a (least (cand a c))) := rfl
theorem w386 (a : IVec S32x128 32) (b : FVec F S32x128 .f32) : k0_pay386 a b = pickBy a b := rfl
theorem w387 (a : IVec S32x128 32) (b : FVec F S32x128 .f32) : k0_pay387 a b = knockBy a b := rfl
theorem w388 (a : IVec S32x128 32) (b : FVec F S32x128 .f32) : k0_pay388 a b = pickBy a b := rfl
theorem w389 (a : IVec S32x128 32) (b : FVec F S32x128 .f32) : k0_pay389 a b = knockBy a b := rfl
theorem w390 (a : IVec S32x128 32) (b : FVec F S32x128 .f32) : k0_pay390 a b = pickBy a b := rfl
theorem w391 (a : IVec S32x128 32) (b : FVec F S32x128 .f32) : k0_pay391 a b = knockBy a b := rfl
theorem w392 (a : IVec S32x128 32) (b : FVec F S32x128 .f32) : k0_pay392 a b = pickBy a b := rfl
theorem w393 (a : IVec S32x128 32) (b : FVec F S32x128 .f32) : k0_pay393 a b = knockBy a b := rfl
theorem w394 (a : IVec S32x128 32) (b : FVec F S32x128 .f32) : k0_pay394 a b = pickBy a b := rfl
theorem w395 (a : IVec S32x128 32) (b : FVec F S32x128 .f32) : k0_pay395 a b = knockBy a b := rfl
theorem w396 (a : IVec S32x128 32) (b : FVec F S32x128 .f32) : k0_pay396 a b = pickBy a b := rfl
theorem w397 (a : IVec S32x128 32) (b : FVec F S32x128 .f32) : k0_pay397 a b = knockBy a b := rfl
theorem w398 (a : IVec S32x128 32) (b : FVec F S32x128 .f32) : k0_pay398 a b = pickBy a b := rfl
theorem w399 (a : IVec S32x128 32) (b : FVec F S32x128 .f32) : k0_pay399 a b = atPick a b := rfl
theorem w400 (a : FVec F S32x128 .f32) (b : IVec S32x128 1) : k0_pay400 a b = mask a b := rfl
theorem w401 (a : IVec S32x128 32) (b : FVec F S32x128 .f32) : k0_pay401 a b = pickBy a b := rfl
theorem w402 (a : IVec S32x128 32) (b : FVec F S32x128 .f32) : k0_pay402 a b = knockBy a b := rfl
theorem w403 (a : IVec S32x128 32) (b : FVec F S32x128 .f32) : k0_pay403 a b = pickBy a b := rfl
theorem w404 (a : IVec S32x128 32) (b : FVec F S32x128 .f32) : k0_pay404 a b = knockBy a b := rfl
theorem w405 (a : IVec S32x128 32) (b : FVec F S32x128 .f32) : k0_pay405 a b = pickBy a b := rfl
theorem w406 (a : IVec S32x128 32) (b : FVec F S32x128 .f32) : k0_pay406 a b = knockBy a b := rfl
theorem w407 (a : IVec S32x128 32) (b : FVec F S32x128 .f32) (c : IVec S32x128 1) : k0_pay407 a b c = cand a (hits (mask b c)) := rfl
theorem w408 (a : IVec S32x128 32) : k0_pay408 a = least a := rfl
theorem w409 (a : IVec S32x128 32) (b : FVec F S32x128 .f32) (c : IVec S32x128 32) : k0_pay409 a b c = mask b (isAt a (least c)) := rfl
theorem w410 (a : IVec S32x128 32) (b : FVec F S32x128 .f32) : k0_pay410 a b = pickBy a b := rfl
theorem w411 (a : IVec S32x128 32) (b : FVec F S32x128 .f32) : k0_pay411 a b = knockBy a b := rfl
theorem w412 (a : IVec S32x128 32) (b : FVec F S32x128 .f32) : k0_pay412 a b = pickBy a b := rfl
theorem w413 (a : IVec S32x128 32) (b : FVec F S32x128 .f32) : k0_pay413 a b = knockBy a b := rfl
theorem w414 (a : IVec S32x128 32) (b : FVec F S32x128 .f32) : k0_pay414 a b = pickBy a b := rfl
theorem w415 (a : IVec S32x128 32) (b : FVec F S32x128 .f32) : k0_pay415 a b = knockBy a b := rfl
theorem w416 (a : IVec S32x128 32) (b : FVec F S32x128 .f32) (c : IVec S32x128 32) : k0_pay416 a b c = hits (mask b (isAt a (least c))) := rfl
theorem w417 (a : IVec S32x128 32) (b : IVec S32x128 1) : k0_pay417 a b = least (cand a b) := rfl
theorem w418 (a : IVec S32x128 32) (b : FVec F S32x128 .f32) (c : IVec S32x128 1) : k0_pay418 a b c = mask b (isAt a (least (cand a c))) := rfl
theorem w419 (a : IVec S32x128 32) (b : FVec F S32x128 .f32) : k0_pay419 a b = pickBy a b := rfl
theorem w420 (a : IVec S32x128 32) (b : FVec F S32x128 .f32) : k0_pay420 a b = knockBy a b := rfl
theorem w421 (a : IVec S32x128 32) (b : FVec F S32x128 .f32) : k0_pay421 a b = pickBy a b := rfl
theorem w422 (a : IVec S32x128 32) (b : FVec F S32x128 .f32) : k0_pay422 a b = knockBy a b := rfl
theorem w423 (a : IVec S32x128 32) (b : FVec F S32x128 .f32) : k0_pay423 a b = pickBy a b := rfl
theorem w424 (a : IVec S32x128 32) (b : FVec F S32x128 .f32) : k0_pay424 a b = knockBy a b := rfl
theorem w425 (a : IVec S32x128 32) (b : FVec F S32x128 .f32) : k0_pay425 a b = pickBy a b := rfl
theorem w426 (a : IVec S32x128 32) (b : FVec F S32x128 .f32) : k0_pay426 a b = knockBy a b := rfl
theorem w427 (a : IVec S32x128 32) (b : FVec F S32x128 .f32) : k0_pay427 a b = pickBy a b := rfl
theorem w428 (a : IVec S32x128 32) (b : FVec F S32x128 .f32) : k0_pay428 a b = knockBy a b := rfl
theorem w429 (a : IVec S32x128 32) (b : FVec F S32x128 .f32) : k0_pay429 a b = pickBy a b := rfl
theorem w430 (a : IVec S32x128 32) (b : FVec F S32x128 .f32) : k0_pay430 a b = knockBy a b := rfl
theorem w431 (a : IVec S32x128 32) (b : FVec F S32x128 .f32) : k0_pay431 a b = pickBy a b := rfl
theorem w432 (a : IVec S32x128 32) (b : FVec F S32x128 .f32) : k0_pay432 a b = atPick a b := rfl
theorem w433 (a : FVec F S32x128 .f32) (b : IVec S32x128 1) : k0_pay433 a b = mask a b := rfl
theorem w434 (a : IVec S32x128 32) (b : FVec F S32x128 .f32) : k0_pay434 a b = pickBy a b := rfl
theorem w435 (a : IVec S32x128 32) (b : FVec F S32x128 .f32) : k0_pay435 a b = knockBy a b := rfl
theorem w436 (a : IVec S32x128 32) (b : FVec F S32x128 .f32) : k0_pay436 a b = pickBy a b := rfl
theorem w437 (a : IVec S32x128 32) (b : FVec F S32x128 .f32) : k0_pay437 a b = knockBy a b := rfl
theorem w438 (a : IVec S32x128 32) (b : FVec F S32x128 .f32) : k0_pay438 a b = pickBy a b := rfl
theorem w439 (a : IVec S32x128 32) (b : FVec F S32x128 .f32) : k0_pay439 a b = knockBy a b := rfl
theorem w440 (a : IVec S32x128 32) (b : FVec F S32x128 .f32) (c : IVec S32x128 1) : k0_pay440 a b c = cand a (hits (mask b c)) := rfl
theorem w441 (a : IVec S32x128 32) : k0_pay441 a = least a := rfl
theorem w442 (a : IVec S32x128 32) (b : FVec F S32x128 .f32) (c : IVec S32x128 32) : k0_pay442 a b c = mask b (isAt a (least c)) := rfl
theorem w443 (a : IVec S32x128 32) (b : FVec F S32x128 .f32) : k0_pay443 a b = pickBy a b := rfl
theorem w444 (a : IVec S32x128 32) (b : FVec F S32x128 .f32) : k0_pay444 a b = knockBy a b := rfl
theorem w445 (a : IVec S32x128 32) (b : FVec F S32x128 .f32) : k0_pay445 a b = pickBy a b := rfl
theorem w446 (a : IVec S32x128 32) (b : FVec F S32x128 .f32) : k0_pay446 a b = knockBy a b := rfl
theorem w447 (a : IVec S32x128 32) (b : FVec F S32x128 .f32) : k0_pay447 a b = pickBy a b := rfl
theorem w448 (a : IVec S32x128 32) (b : FVec F S32x128 .f32) : k0_pay448 a b = knockBy a b := rfl
theorem w449 (a : IVec S32x128 32) (b : FVec F S32x128 .f32) (c : IVec S32x128 32) : k0_pay449 a b c = hits (mask b (isAt a (least c))) := rfl
theorem w450 (a : IVec S32x128 32) (b : IVec S32x128 1) : k0_pay450 a b = least (cand a b) := rfl
theorem w451 (a : IVec S32x128 32) (b : FVec F S32x128 .f32) (c : IVec S32x128 1) : k0_pay451 a b c = mask b (isAt a (least (cand a c))) := rfl
theorem w452 (a : IVec S32x128 32) (b : FVec F S32x128 .f32) : k0_pay452 a b = pickBy a b := rfl
theorem w453 (a : IVec S32x128 32) (b : FVec F S32x128 .f32) : k0_pay453 a b = knockBy a b := rfl
theorem w454 (a : IVec S32x128 32) (b : FVec F S32x128 .f32) : k0_pay454 a b = pickBy a b := rfl
theorem w455 (a : IVec S32x128 32) (b : FVec F S32x128 .f32) : k0_pay455 a b = knockBy a b := rfl
theorem w456 (a : IVec S32x128 32) (b : FVec F S32x128 .f32) : k0_pay456 a b = pickBy a b := rfl
theorem w457 (a : IVec S32x128 32) (b : FVec F S32x128 .f32) : k0_pay457 a b = knockBy a b := rfl
theorem w458 (a : IVec S32x128 32) (b : FVec F S32x128 .f32) : k0_pay458 a b = pickBy a b := rfl
theorem w459 (a : IVec S32x128 32) (b : FVec F S32x128 .f32) : k0_pay459 a b = knockBy a b := rfl
theorem w460 (a : IVec S32x128 32) (b : FVec F S32x128 .f32) : k0_pay460 a b = pickBy a b := rfl
theorem w461 (a : IVec S32x128 32) (b : FVec F S32x128 .f32) : k0_pay461 a b = knockBy a b := rfl
theorem w462 (a : IVec S32x128 32) (b : FVec F S32x128 .f32) : k0_pay462 a b = pickBy a b := rfl
theorem w463 (a : IVec S32x128 32) (b : FVec F S32x128 .f32) : k0_pay463 a b = knockBy a b := rfl
theorem w464 (a : IVec S32x128 32) (b : FVec F S32x128 .f32) : k0_pay464 a b = pickBy a b := rfl
theorem w465 (a : IVec S32x128 32) (b : FVec F S32x128 .f32) : k0_pay465 a b = atPick a b := rfl
theorem w466 (a : FVec F S32x128 .f32) (b : IVec S32x128 1) : k0_pay466 a b = mask a b := rfl
theorem w467 (a : IVec S32x128 32) (b : FVec F S32x128 .f32) : k0_pay467 a b = pickBy a b := rfl
theorem w468 (a : IVec S32x128 32) (b : FVec F S32x128 .f32) : k0_pay468 a b = knockBy a b := rfl
theorem w469 (a : IVec S32x128 32) (b : FVec F S32x128 .f32) : k0_pay469 a b = pickBy a b := rfl
theorem w470 (a : IVec S32x128 32) (b : FVec F S32x128 .f32) : k0_pay470 a b = knockBy a b := rfl
theorem w471 (a : IVec S32x128 32) (b : FVec F S32x128 .f32) : k0_pay471 a b = pickBy a b := rfl
theorem w472 (a : IVec S32x128 32) (b : FVec F S32x128 .f32) : k0_pay472 a b = knockBy a b := rfl
theorem w473 (a : IVec S32x128 32) (b : FVec F S32x128 .f32) (c : IVec S32x128 1) : k0_pay473 a b c = cand a (hits (mask b c)) := rfl
theorem w474 (a : IVec S32x128 32) : k0_pay474 a = least a := rfl
theorem w475 (a : IVec S32x128 32) (b : FVec F S32x128 .f32) (c : IVec S32x128 32) : k0_pay475 a b c = mask b (isAt a (least c)) := rfl
theorem w476 (a : IVec S32x128 32) (b : FVec F S32x128 .f32) : k0_pay476 a b = pickBy a b := rfl
theorem w477 (a : IVec S32x128 32) (b : FVec F S32x128 .f32) : k0_pay477 a b = knockBy a b := rfl
theorem w478 (a : IVec S32x128 32) (b : FVec F S32x128 .f32) : k0_pay478 a b = pickBy a b := rfl
theorem w479 (a : IVec S32x128 32) (b : FVec F S32x128 .f32) : k0_pay479 a b = knockBy a b := rfl
theorem w480 (a : IVec S32x128 32) (b : FVec F S32x128 .f32) : k0_pay480 a b = pickBy a b := rfl
theorem w481 (a : IVec S32x128 32) (b : FVec F S32x128 .f32) : k0_pay481 a b = knockBy a b := rfl
theorem w482 (a : IVec S32x128 32) (b : FVec F S32x128 .f32) (c : IVec S32x128 32) : k0_pay482 a b c = hits (mask b (isAt a (least c))) := rfl
theorem w483 (a : IVec S32x128 32) (b : IVec S32x128 1) : k0_pay483 a b = least (cand a b) := rfl
theorem w484 (a : IVec S32x128 32) (b : FVec F S32x128 .f32) (c : IVec S32x128 1) : k0_pay484 a b c = mask b (isAt a (least (cand a c))) := rfl
theorem w485 (a : IVec S32x128 32) (b : FVec F S32x128 .f32) : k0_pay485 a b = pickBy a b := rfl
theorem w486 (a : IVec S32x128 32) (b : FVec F S32x128 .f32) : k0_pay486 a b = knockBy a b := rfl
theorem w487 (a : IVec S32x128 32) (b : FVec F S32x128 .f32) : k0_pay487 a b = pickBy a b := rfl
theorem w488 (a : IVec S32x128 32) (b : FVec F S32x128 .f32) : k0_pay488 a b = knockBy a b := rfl
theorem w489 (a : IVec S32x128 32) (b : FVec F S32x128 .f32) : k0_pay489 a b = pickBy a b := rfl
theorem w490 (a : IVec S32x128 32) (b : FVec F S32x128 .f32) : k0_pay490 a b = knockBy a b := rfl
theorem w491 (a : IVec S32x128 32) (b : FVec F S32x128 .f32) : k0_pay491 a b = pickBy a b := rfl
theorem w492 (a : IVec S32x128 32) (b : FVec F S32x128 .f32) : k0_pay492 a b = knockBy a b := rfl
theorem w493 (a : IVec S32x128 32) (b : FVec F S32x128 .f32) : k0_pay493 a b = pickBy a b := rfl
theorem w494 (a : IVec S32x128 32) (b : FVec F S32x128 .f32) : k0_pay494 a b = knockBy a b := rfl
theorem w495 (a : IVec S32x128 32) (b : FVec F S32x128 .f32) : k0_pay495 a b = pickBy a b := rfl
theorem w496 (a : IVec S32x128 32) (b : FVec F S32x128 .f32) : k0_pay496 a b = knockBy a b := rfl
theorem w497 (a : IVec S32x128 32) (b : FVec F S32x128 .f32) : k0_pay497 a b = pickBy a b := rfl
theorem w498 (a : IVec S32x128 32) (b : FVec F S32x128 .f32) : k0_pay498 a b = atPick a b := rfl
theorem w499 (a : FVec F S32x128 .f32) (b : IVec S32x128 1) : k0_pay499 a b = mask a b := rfl
theorem w500 (a : IVec S32x128 32) (b : FVec F S32x128 .f32) : k0_pay500 a b = pickBy a b := rfl
theorem w501 (a : IVec S32x128 32) (b : FVec F S32x128 .f32) : k0_pay501 a b = knockBy a b := rfl
theorem w502 (a : IVec S32x128 32) (b : FVec F S32x128 .f32) : k0_pay502 a b = pickBy a b := rfl
theorem w503 (a : IVec S32x128 32) (b : FVec F S32x128 .f32) : k0_pay503 a b = knockBy a b := rfl
theorem w504 (a : IVec S32x128 32) (b : FVec F S32x128 .f32) : k0_pay504 a b = pickBy a b := rfl
theorem w505 (a : IVec S32x128 32) (b : FVec F S32x128 .f32) : k0_pay505 a b = knockBy a b := rfl
theorem w506 (a : IVec S32x128 32) (b : FVec F S32x128 .f32) (c : IVec S32x128 1) : k0_pay506 a b c = cand a (hits (mask b c)) := rfl
theorem w507 (a : IVec S32x128 32) : k0_pay507 a = least a := rfl
theorem w508 (a : IVec S32x128 32) (b : FVec F S32x128 .f32) (c : IVec S32x128 32) : k0_pay508 a b c = mask b (isAt a (least c)) := rfl
theorem w509 (a : IVec S32x128 32) (b : FVec F S32x128 .f32) : k0_pay509 a b = pickBy a b := rfl
theorem w510 (a : IVec S32x128 32) (b : FVec F S32x128 .f32) : k0_pay510 a b = knockBy a b := rfl
theorem w511 (a : IVec S32x128 32) (b : FVec F S32x128 .f32) : k0_pay511 a b = pickBy a b := rfl
theorem w512 (a : IVec S32x128 32) (b : FVec F S32x128 .f32) : k0_pay512 a b = knockBy a b := rfl
theorem w513 (a : IVec S32x128 32) (b : FVec F S32x128 .f32) : k0_pay513 a b = pickBy a b := rfl
theorem w514 (a : IVec S32x128 32) (b : FVec F S32x128 .f32) : k0_pay514 a b = knockBy a b := rfl
theorem w515 (a : IVec S32x128 32) (b : FVec F S32x128 .f32) (c : IVec S32x128 32) : k0_pay515 a b c = hits (mask b (isAt a (least c))) := rfl
theorem w516 (a : IVec S32x128 32) (b : IVec S32x128 1) : k0_pay516 a b = least (cand a b) := rfl
theorem w517 (a : IVec S32x128 32) (b : FVec F S32x128 .f32) (c : IVec S32x128 1) : k0_pay517 a b c = mask b (isAt a (least (cand a c))) := rfl
theorem w518 (a : IVec S32x128 32) (b : FVec F S32x128 .f32) : k0_pay518 a b = pickBy a b := rfl
theorem w519 (a : IVec S32x128 32) (b : FVec F S32x128 .f32) : k0_pay519 a b = knockBy a b := rfl
theorem w520 (a : IVec S32x128 32) (b : FVec F S32x128 .f32) : k0_pay520 a b = pickBy a b := rfl
theorem w521 (a : IVec S32x128 32) (b : FVec F S32x128 .f32) : k0_pay521 a b = knockBy a b := rfl
theorem w522 (a : IVec S32x128 32) (b : FVec F S32x128 .f32) : k0_pay522 a b = pickBy a b := rfl
theorem w523 (a : IVec S32x128 32) (b : FVec F S32x128 .f32) : k0_pay523 a b = knockBy a b := rfl
theorem w524 (a : IVec S32x128 32) (b : FVec F S32x128 .f32) : k0_pay524 a b = pickBy a b := rfl
theorem w525 (a : IVec S32x128 32) (b : FVec F S32x128 .f32) : k0_pay525 a b = knockBy a b := rfl
theorem w526 (a : IVec S32x128 32) (b : FVec F S32x128 .f32) : k0_pay526 a b = pickBy a b := rfl
theorem w527 (a : IVec S32x128 32) (b : FVec F S32x128 .f32) : k0_pay527 a b = knockBy a b := rfl
theorem w528 (a : IVec S32x128 32) (b : FVec F S32x128 .f32) : k0_pay528 a b = pickBy a b := rfl
theorem w529 (a : IVec S32x128 32) (b : FVec F S32x128 .f32) : k0_pay529 a b = knockBy a b := rfl
theorem w530 (a : IVec S32x128 32) (b : FVec F S32x128 .f32) : k0_pay530 a b = pickBy a b := rfl
theorem w531 (a : IVec S32x128 32) (b : FVec F S32x128 .f32) : k0_pay531 a b = atPick a b := rfl
theorem w532 (a : IVec S32x128 32) (b : FVec F S32x128 .f32) : k0_pay532 a b = pickBy a b := rfl
theorem w533 (a : IVec S32x128 32) (b : FVec F S32x128 .f32) : k0_pay533 a b = pickBy a b := rfl
theorem w534 (a : IVec S32x128 32) (b : FVec F S32x128 .f32) : k0_pay534 a b = pickBy a b := rfl
theorem w535 (a : IVec S32x128 32) (b : FVec F S32x128 .f32) (c : IVec S32x128 1) : k0_pay535 a b c = pickBy a (mask b c) := rfl
theorem w536 (a : IVec S32x128 32) (b : FVec F S32x128 .f32) : k0_pay536 a b = cand a (hits (knockBy a b)) := rfl

end Cert.Sel

end
-- ==== Proof.SelRounds.lean ====
/-
  Taking the first greatest of 128 entries again and again, each time striking it out, takes the positions in the order
  of a stable descending sort.
-/
module

public import Idealize.ShloMosaic.Lib.SortPrefix
public import Idealize.ShloMosaic.PureOps.Ideal.Laws

@[expose] public section

noncomputable section

namespace Cert.Sel

open Idealize.ShloMosaic

/-- `p` is the first of the greatest entries. -/
def IsFirst (f : Fin 128 → EReal) (p : Fin 128) : Prop := ∀ a, f a ≤ f p ∧ (a < p → f a < f p)

theorem exists_first (f : Fin 128 → EReal) : ∃ p, IsFirst f p := by
  classical
  obtain ⟨q, -, hq⟩ := Finset.exists_max_image Finset.univ f ⟨0, Finset.mem_univ _⟩
  have hne : (Finset.univ.filter fun a => f a = f q).Nonempty := ⟨q, by simp⟩
  have hm := Finset.min'_mem _ hne
  have hp : f ((Finset.univ.filter fun a => f a = f q).min' hne) = f q := (Finset.mem_filter.mp hm).2
  refine ⟨(Finset.univ.filter fun a => f a = f q).min' hne, fun a => ⟨by rw [hp]; exact hq a (Finset.mem_univ _), fun ha => ?_⟩⟩
  rw [hp]
  refine lt_of_le_of_ne (hq a (Finset.mem_univ _)) fun e => ?_
  exact absurd (Finset.min'_le _ a (by simp [e])) (not_le.mpr ha)

def firstOf (f : Fin 128 → EReal) : Fin 128 := (exists_first f).choose

theorem firstOf_spec (f : Fin 128 → EReal) : IsFirst f (firstOf f) := (exists_first f).choose_spec

/-- The entries without the first of the greatest. -/
def without (f : Fin 128 → EReal) : Fin 128 → EReal := fun a => if a = firstOf f then ⊥ else f a

/-- The position taken in round `j`. -/
def nth (f : Fin 128 → EReal) (j : Nat) : Fin 128 := firstOf (without^[j] f)

theorem after_apply (f : Fin 128 → EReal) (j : Nat) (a : Fin 128) :
    without^[j] f a = if ∃ i, i < j ∧ nth f i = a then ⊥ else f a := by
  induction j with
  | zero => simp
  | succ j ih =>
    rw [Function.iterate_succ_apply']
    show (if a = nth f j then ⊥ else without^[j] f a) = _
    by_cases ha : a = nth f j
    · rw [if_pos ha, if_pos ⟨j, Nat.lt_succ_self j, ha.symm⟩]
    · rw [if_neg ha, ih]
      refine if_congr ⟨fun ⟨i, hi, e⟩ => ⟨i, Nat.lt_succ_of_lt hi, e⟩, fun ⟨i, hi, e⟩ => ⟨i, ?_, e⟩⟩ rfl rfl
      rcases Nat.lt_succ_iff_lt_or_eq.mp hi with h | h
      · exact h
      · exact absurd (h ▸ e).symm ha

theorem exists_left (f : Fin 128 → EReal) (j : Nat) (hj : j < 128) : ∃ a, ∀ i, i < j → nth f i ≠ a := by
  by_contra h
  simp only [not_exists, not_forall, not_not] at h
  have hs : Function.Surjective fun i : Fin j => nth f i.val := fun a => by
    obtain ⟨i, hi, e⟩ := h a
    exact ⟨⟨i, hi⟩, e⟩
  have hc := Fintype.card_le_of_surjective _ hs
  rw [Fintype.card_fin, Fintype.card_fin] at hc
  omega

variable (f : Fin 128 → EReal) (hf : ∀ a, f a ≠ ⊥)
include hf

theorem nth_new (j : Nat) (hj : j < 128) (i : Nat) (hi : i < j) : nth f i ≠ nth f j := by
  intro e
  obtain ⟨a, ha⟩ := exists_left f j hj
  have h := (firstOf_spec (without^[j] f) a).1
  rw [show firstOf (without^[j] f) = nth f j from rfl, after_apply, after_apply, if_neg (fun ⟨i, hi, e⟩ => ha i hi e), if_pos ⟨i, hi, e⟩] at h
  exact hf a (le_bot_iff.mp h)

theorem nth_spec (j : Nat) (hj : j < 128) (a : Fin 128) (ha : ∀ i, i < j → nth f i ≠ a) :
    f a ≤ f (nth f j) ∧ (a < nth f j → f a < f (nth f j)) := by
  have h := firstOf_spec (without^[j] f) a
  rwa [show firstOf (without^[j] f) = nth f j from rfl, after_apply, after_apply, if_neg (fun ⟨i, hi, e⟩ => ha i hi e),
    if_neg (fun ⟨i, hi, e⟩ => nth_new f hf j hj i hi e)] at h

omit hf

/-! ## The stable sort -/

/-- Of an ascending list, a stable sort by a key is the sort by the key and then the position. -/
theorem stable_lex (f : Fin 128 → EReal) (R : Fin 128 → Fin 128 → Bool) (hR : ∀ k k', R k k' = decide (f k' < f k)) (l : List (Fin 128))
    (hl : l.Pairwise (· < ·)) :
    stableSort R l = stableSort (fun k k' => decide (f k' < f k) || (decide (f k = f k') && decide (k < k'))) l := by
  induction l with
  | nil => rfl
  | cons a l ih =>
    rw [List.pairwise_cons] at hl
    unfold stableSort
    rw [ih hl.2]
    have hlt : ∀ b ∈ stableSort (fun k k' => decide (f k' < f k) || (decide (f k = f k') && decide (k < k'))) l, a < b :=
      fun b hb => hl.1 b ((perm_stableSort _ l).mem_iff.mp hb)
    generalize stableSort (fun k k' => decide (f k' < f k) || (decide (f k = f k') && decide (k < k'))) l = s at hlt
    induction s with
    | nil => rfl
    | cons b s ihs =>
      have hb : ¬ b < a := not_lt.mpr (hlt b List.mem_cons_self).le
      unfold insertBefore
      rw [ihs fun c hc => hlt c (List.mem_cons_of_mem _ hc), hR]
      simp [hb]

theorem lex_total (f : Fin 128 → EReal) :
    StrictTotalBefore fun k k' : Fin 128 => decide (f k' < f k) || (decide (f k = f k') && decide (k < k')) :=
  StrictTotalBefore.of_key_then_position (fun a b : EReal => decide (b < a)) f (fun a => by simp)
    (fun a b c h h' => by simp only [decide_eq_true_eq] at *; exact lt_trans h' h)
    (fun a b => by simp only [decide_eq_true_eq]; rcases lt_trichotomy a b with h | h | h <;> simp [h])

theorem sorted_nth (f : Fin 128 → EReal) (hf : ∀ a, f a ≠ ⊥) (R : Fin 128 → Fin 128 → Bool) (hR : ∀ k k', R k k' = decide (f k' < f k)) (j : Fin 32) :
    sortedFrom R (j.castLE (by decide)) = nth f j.val := by
  have e : sortPositions 128 R = sortPositions 128 fun k k' => decide (f k' < f k) || (decide (f k = f k') && decide (k < k')) :=
    stable_lex f R hR _ (List.pairwise_lt_finRange 128)
  have h := (lex_total f).sortedFrom_eq_of_prefix (k := 32) (by decide) (fun i => nth f i.val)
    (fun i i' h => by
      by_contra hne
      rcases lt_or_gt_of_ne (fun h => hne (Fin.ext h) : i.val ≠ i'.val) with hl | hl
      · exact nth_new f hf i'.val (by omega) i.val hl h
      · exact nth_new f hf i.val (by omega) i'.val hl h.symm)
    (fun i i' hlt => by
      have h := nth_spec f hf i.val (by omega) (nth f i'.val) fun i₀ h₀ =>
        nth_new f hf i'.val (by omega) i₀ (lt_trans h₀ hlt)
      simp only [Bool.or_eq_false_iff, Bool.and_eq_false_iff, decide_eq_false_iff_not]
      exact ⟨not_lt.mpr h.1, or_iff_not_imp_left.mpr fun he hlt' => absurd (not_not.mp he) (ne_of_lt (h.2 hlt'))⟩)
    (fun i p hp => by
      have h := nth_spec f hf i.val (by omega) p fun i₀ h₀ => hp ⟨i₀, by omega⟩
      simp only [Bool.or_eq_false_iff, Bool.and_eq_false_iff, decide_eq_false_iff_not]
      exact ⟨not_lt.mpr h.1, or_iff_not_imp_left.mpr fun he hlt' => absurd (not_not.mp he) (ne_of_lt (h.2 hlt'))⟩) j
  rw [← h]
  unfold sortedFrom
  exact List.get_of_eq e _

end Cert.Sel

end
-- ==== Proof.SelLanes.lean ====
/-
  The selection body's steps read at a lane.
-/
module

public import proofs.«01_k».proof.Proof.SelBody
public import proofs.«01_k».proof.Proof.SelRounds
public import Idealize.ShloMosaic.Lib.Pointwise
public import Idealize.ShloMosaic.Lib.SortNet.Extract

@[expose] public section

noncomputable section

namespace Cert.Sel

open Cert.SelectionIdeal Cert.SelectionIdeal.Gen Idealize.ShloMosaic Idealize.ShloMosaic.TcCoe

/-- The lanes' numbers. -/
def lanes : IVec S32x128 32 := iota .tc S32x128 32 [1] iota_S32x128_d1_w32

theorem lanes_apply (r : Fin 32) (a : Fin 128) : lanes (ix2 r a) = BitVec.ofNat 32 a.val := by
  pointwise [lanes]

theorem bot_word : Ideal.ofBits .f32 0xFF800000#32 = (⊥ : EReal) := by simp [Ideal.ofBits, Ideal.ieee]

theorem max_first (f : Fin 128 → EReal) (p : Fin 128) (hp : IsFirst f p) : Finset.univ.fold max (⊥ : EReal) f = f p := by
  refine le_antisymm (Finset.fold_max_le _ |>.mpr ⟨bot_le, fun a _ => (hp a).1⟩) ?_
  exact (Finset.le_fold_max _).mpr (Or.inr ⟨p, Finset.mem_univ _, le_rfl⟩)

theorem min_first (f : Fin 128 → EReal) (p : Fin 128) (hp : IsFirst f p) (c : Fin 128 → BitVec 32)
    (hc : ∀ a, c a = if f a = f p then BitVec.ofNat 32 a.val else 128#32) :
    Finset.univ.fold IntOp.minsi (2147483647#32) c = BitVec.ofNat 32 p.val := by
  have hw : ∀ n, n ≤ 128 → (BitVec.ofNat 32 n).toInt = (n : Int) := fun n hn => by
    have h : (BitVec.ofNat 32 n).toNat = n := by rw [BitVec.toNat_ofNat]; omega
    rw [BitVec.toInt_eq_toNat_of_lt (by omega), h]
  have hfold : (Finset.univ.fold IntOp.minsi (2147483647#32) c).toInt = Finset.univ.fold min (2147483647 : Int) fun a => (c a).toInt := by
    rw [show (2147483647 : Int) = (2147483647#32).toInt from by decide]
    exact (Finset.fold_hom (fun a b => SortNet.toInt_minsi a b)).symm
  refine BitVec.eq_of_toInt_eq (hfold.trans ?_)
  rw [hw p.val (by omega)]
  refine le_antisymm ((Finset.fold_min_le _).mpr (Or.inr ⟨p, Finset.mem_univ _, ?_⟩)) ((Finset.le_fold_min _).mpr ⟨by omega, fun a _ => ?_⟩)
  · rw [hc, if_pos rfl, hw p.val (by omega)]
  · rw [hc]
    split
    · rename_i e
      rw [hw a.val (by omega)]
      by_contra h
      have hlt : a < p := by rw [Fin.lt_def]; omega
      exact absurd e (ne_of_lt ((hp a).2 hlt))
    · show (p.val : Int) ≤ 128; omega

theorem hits_apply (l : IVec S32x128 32) (s : FVec Ideal S32x128 .f32) (r : Fin 32) (a : Fin 128) :
    cand l (hits s) (ix2 r a) = if s (ix2 r a) = Finset.univ.fold max (⊥ : EReal) (fun a => s (ix2 r a)) then l (ix2 r a) else 128#32 := by
  rw [← bot_word]
  pointwise [cand, hits]

theorem least_apply (c : IVec S32x128 32) (r : Fin 32) : least c (ix2 r 0) = Finset.univ.fold IntOp.minsi (2147483647#32) fun a => c (ix2 r a) := by
  pointwise [least]

theorem mask_apply (l : IVec S32x128 32) (p : IVec S32x1 32) (s : FVec Ideal S32x128 .f32) (r : Fin 32) (a : Fin 128) :
    mask s (isAt l p) (ix2 r a) = Scalar.select (IntOp.cmpi .eq (l (ix2 r a)) (p (ix2 r 0))) (⊥ : EReal) (s (ix2 r a)) := by
  rw [← bot_word]
  pointwise [mask, isAt, lowest]

theorem pick_apply (s : FVec Ideal S32x128 .f32) (r : Fin 32) :
    pickBy lanes s (ix2 r 0) = BitVec.ofNat 32 (firstOf fun a => s (ix2 r a)).val := by
  have hp := firstOf_spec fun a => s (ix2 r a)
  rw [pickBy, least_apply]
  refine min_first (fun a => s (ix2 r a)) _ hp _ fun a => ?_
  rw [hits_apply, max_first (fun a => s (ix2 r a)) _ hp, lanes_apply]

theorem knock_apply (s : FVec Ideal S32x128 .f32) (r : Fin 32) (a : Fin 128) :
    knockBy lanes s (ix2 r a) = without (fun a => s (ix2 r a)) a := by
  rw [knockBy, atPick, mask_apply, pick_apply, lanes_apply]
  have e : IntOp.cmpi .eq (BitVec.ofNat 32 a.val) (BitVec.ofNat 32 (firstOf fun a => s (ix2 r a)).val)
      = BitVec.ofBool (decide (a = firstOf fun a => s (ix2 r a))) := by
    show BitVec.ofBool _ = _
    congr 1
    rw [Bool.eq_iff_iff]
    simp only [beq_iff_eq, decide_eq_true_eq, Fin.ext_iff, BitVec.toNat_eq, BitVec.toNat_ofNat]
    omega
  rw [e]
  unfold without Scalar.select
  by_cases h : a = firstOf fun a => s (ix2 r a)
  · simp [h]
  · simp [h]

/-- After `j` rounds. -/
theorem knocks_apply (s : FVec Ideal S32x128 .f32) (j : Nat) (r : Fin 32) : (fun a => (knockBy lanes)^[j] s (ix2 r a)) = without^[j] fun a => s (ix2 r a) := by
  induction j with
  | zero => rfl
  | succ j ih =>
    rw [Function.iterate_succ_apply', Function.iterate_succ_apply', ← ih]
    exact funext fun a => knock_apply _ r a

theorem round_apply (s : FVec Ideal S32x128 .f32) (j : Nat) (r : Fin 32) :
    pickBy lanes ((knockBy lanes)^[j] s) (ix2 r 0) = BitVec.ofNat 32 (nth (fun a => s (ix2 r a)) j).val := by
  rw [pick_apply, knocks_apply]
  rfl

/-! ## A row of scores -/

theorem rowSum_apply (x y : FVec Ideal S32x128 .f32) (a : Fin 128) :
    rowSum x y (ix2 0 a) = ∑ k : Fin 8, ((x (ix2 ⟨k.val, by omega⟩ a) * y (ix2 ⟨k.val, by omega⟩ a) + x (ix2 ⟨16 + k.val, by omega⟩ a) * y (ix2 ⟨16 + k.val, by omega⟩ a))
      + (x (ix2 ⟨8 + k.val, by omega⟩ a) * y (ix2 ⟨8 + k.val, by omega⟩ a) + x (ix2 ⟨16 + (8 + k.val), by omega⟩ a) * y (ix2 ⟨16 + (8 + k.val), by omega⟩ a))) := by
  pointwise [rowSum, quarter, half]

theorem sum_quarters (g : Fin 32 → EReal) :
    ∑ k : Fin 8, ((g ⟨k.val, by omega⟩ + g ⟨16 + k.val, by omega⟩) + (g ⟨8 + k.val, by omega⟩ + g ⟨16 + (8 + k.val), by omega⟩)) = ∑ k : Fin 32, g k := by
  simp only [Fin.sum_univ_succ, Fin.sum_univ_zero]
  simp
  abel

theorem slab_apply (x : Vec Ideal S1x32x128 .f32) (k : Fin 32) (a : Fin 128) : slabOf x (ix2 k a) = x (ix3 0 k a) := by
  pointwise [slabOf]

theorem col_apply (y : Vec Ideal S32x1 .bf16) (k : Fin 32) (a : Fin 128) : colOf y (ix2 k a) = y (ix2 k 0) := by
  pointwise [colOf]

theorem score_apply (x : Vec Ideal S1x32x128 .f32) (y : Vec Ideal S32x1 .bf16) (a : Fin 128) :
    scoreRow x y (ix2 0 a) = ∑ k : Fin 32, x (ix3 0 k a) * y (ix2 k 0) := by
  rw [scoreRow, rowSum_apply]
  simp only [slab_apply, col_apply]
  exact sum_quarters fun k => x (ix3 0 k a) * y (ix2 k 0)

end Cert.Sel

end
-- ==== Proof.SelRun.lean ====
/-
  A point of the scores-and-selection call: what its body stores is, for each of the block's sequences, the lanes its
  rounds pick.
-/
module

public import proofs.«01_k».proof.Proof.Gen.SelectionIdeal.Frame
public import proofs.«01_k».proof.Proof.SelLanes

@[expose] public section

set_option maxRecDepth 16384

noncomputable section

namespace Cert.Sel

open Cert.SelectionIdeal Cert.SelectionIdeal.Gen Idealize.ShloMosaic Idealize.ShloMosaic.TcCoe

variable {F : FTy → Type} [FloatOps F]

/-- Where the words of a block's sequence `r` lie. -/
def wordOff (i : grid0.Coords) (r : Fin 128) : Fin 1 → Nat :=
  ![(Scalar.indexCast (Scalar.addi (Scalar.muli (BitVec.ofNat 32 (i 0).val) 128#32) (BitVec.ofNat 32 r.val))).toNat]

theorem wordOff_eq (i : grid0.Coords) (r : Fin 128) : wordOff i r = ![(i 0).val * 128 + r.val] := by
  have h := (i 0).isLt
  change (i 0).val < 160 at h
  unfold wordOff
  congr 1
  change (BitVec.ofNat 32 (i 0).val * 128#32 + BitVec.ofNat 32 r.val).toNat = _
  simp only [BitVec.toNat_add, BitVec.toNat_mul, BitVec.toNat_ofNat]
  have := r.isLt
  omega

theorem wordOff_inb (i : grid0.Coords) (r : Fin 128) : ∀ a, wordOff i r a + S1.size a ≤ S20480.size a := by
  have h := (i 0).isLt
  change (i 0).val < 160 at h
  rw [wordOff_eq]
  intro a
  obtain rfl : a = 0 := Subsingleton.elim _ _
  have := r.isLt
  show (i 0).val * 128 + r.val + 1 ≤ 20480
  omega

/-- The word of sequence `r`. -/
def word (c : Dev nD) (xt : TbBuf0 (F := F) c tbM0_0) (i : grid0.Coords) (r : Fin 128) : BitVec 32 :=
  tbM0_0.view.readAt (Elt F) (Rect.unit (s := S20480) (wordOff i r) S1.size (wordOff_inb i r)).toLoadRect xt (Shape.Idx.first (numel1_S1.symm ▸ Nat.one_pos))

theorem stackFits (f : Fin 32 → FVec F S1x128 .f32) :
    Shape.Concatenates ((List.ofFn fun j : Fin 32 => (⟨S1x128, f j⟩ : (s : Shape) × (s.Idx → F .f32))).map (·.1)) S32x128 0 := by
  have e : (List.ofFn fun j : Fin 32 => (⟨S1x128, f j⟩ : (s : Shape) × (s.Idx → F .f32))).map (·.1) = List.replicate 32 S1x128 := by
    rw [List.map_ofFn]; exact List.ofFn_const 32 _
  rw [e]
  exact concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S32x128_d0

/-- Thirty-two rows, one below another. -/
def stack (f : Fin 32 → FVec F S1x128 .f32) : FVec F S32x128 .f32 :=
  concatenate S32x128 0 (List.ofFn fun j : Fin 32 => ⟨S1x128, f j⟩) (stackFits f)

/-- A quarter of a block's rows. -/
def part (f : Fin 128 → FVec F S1x128 .f32) (q : Fin 4) : FVec F S32x128 .f32 :=
  stack fun j => f ⟨32 * q.val + j.val, by omega⟩

/-- The columns the rounds pick, from a table on. -/
def cols (l : IVec S32x128 32) : Nat → FVec F S32x128 .f32 → List ((s : Shape) × (s.Idx → BitVec 32))
  | 0, _ => []
  | n + 1, s => ⟨S32x1, pickBy l s⟩ :: cols l n (knockBy l s)

theorem cols_shapes (l : IVec S32x128 32) (n : Nat) : ∀ s : FVec F S32x128 .f32, (cols l n s).map (·.1) = List.replicate n S32x1 := by
  induction n with
  | zero => intro s; rfl
  | succ n ih => intro s; show S32x1 :: (cols l n (knockBy l s)).map (·.1) = _; rw [ih]; rfl

theorem colsFit (l : IVec S32x128 32) (s : FVec F S32x128 .f32) : Shape.Concatenates ((cols l 32 s).map (·.1)) S32x32 1 := by
  rw [cols_shapes]
  exact concatenates_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x32_d1

/-- The lanes picked of a quarter: a row for each sequence, a column for each round. -/
def picks (s : FVec F S32x128 .f32) : IVec S32x32 32 := concatenate S32x32 1 (cols lanes 32 s) (colsFit lanes s)

/-- The lanes picked of a block. -/
def block (f : Fin 128 → FVec F S1x128 .f32) : IVec S128x32 32 :=
  concatenate S128x32 0 [⟨S32x32, picks (part f 0)⟩, ⟨S32x32, picks (part f 1)⟩, ⟨S32x32, picks (part f 2)⟩, ⟨S32x32, picks (part f 3)⟩] concatenates_S32x32_S32x32_S32x32_S32x32_S128x32_d0

theorem part0 (f : Fin 128 → FVec F S1x128 .f32) : stack ![f 0, f 1, f 2, f 3, f 4, f 5, f 6, f 7, f 8, f 9, f 10, f 11, f 12, f 13, f 14, f 15, f 16, f 17, f 18, f 19, f 20, f 21, f 22, f 23, f 24, f 25, f 26, f 27, f 28, f 29, f 30, f 31] = part f 0 := congrArg stack (funext fun j => match j with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨16, _⟩ => rfl
  | ⟨17, _⟩ => rfl
  | ⟨18, _⟩ => rfl
  | ⟨19, _⟩ => rfl
  | ⟨20, _⟩ => rfl
  | ⟨21, _⟩ => rfl
  | ⟨22, _⟩ => rfl
  | ⟨23, _⟩ => rfl
  | ⟨24, _⟩ => rfl
  | ⟨25, _⟩ => rfl
  | ⟨26, _⟩ => rfl
  | ⟨27, _⟩ => rfl
  | ⟨28, _⟩ => rfl
  | ⟨29, _⟩ => rfl
  | ⟨30, _⟩ => rfl
  | ⟨31, _⟩ => rfl
  | ⟨_ + 32, h⟩ => absurd h (by omega))

theorem part1 (f : Fin 128 → FVec F S1x128 .f32) : stack ![f 32, f 33, f 34, f 35, f 36, f 37, f 38, f 39, f 40, f 41, f 42, f 43, f 44, f 45, f 46, f 47, f 48, f 49, f 50, f 51, f 52, f 53, f 54, f 55, f 56, f 57, f 58, f 59, f 60, f 61, f 62, f 63] = part f 1 := congrArg stack (funext fun j => match j with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨16, _⟩ => rfl
  | ⟨17, _⟩ => rfl
  | ⟨18, _⟩ => rfl
  | ⟨19, _⟩ => rfl
  | ⟨20, _⟩ => rfl
  | ⟨21, _⟩ => rfl
  | ⟨22, _⟩ => rfl
  | ⟨23, _⟩ => rfl
  | ⟨24, _⟩ => rfl
  | ⟨25, _⟩ => rfl
  | ⟨26, _⟩ => rfl
  | ⟨27, _⟩ => rfl
  | ⟨28, _⟩ => rfl
  | ⟨29, _⟩ => rfl
  | ⟨30, _⟩ => rfl
  | ⟨31, _⟩ => rfl
  | ⟨_ + 32, h⟩ => absurd h (by omega))

theorem part2 (f : Fin 128 → FVec F S1x128 .f32) : stack ![f 64, f 65, f 66, f 67, f 68, f 69, f 70, f 71, f 72, f 73, f 74, f 75, f 76, f 77, f 78, f 79, f 80, f 81, f 82, f 83, f 84, f 85, f 86, f 87, f 88, f 89, f 90, f 91, f 92, f 93, f 94, f 95] = part f 2 := congrArg stack (funext fun j => match j with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨16, _⟩ => rfl
  | ⟨17, _⟩ => rfl
  | ⟨18, _⟩ => rfl
  | ⟨19, _⟩ => rfl
  | ⟨20, _⟩ => rfl
  | ⟨21, _⟩ => rfl
  | ⟨22, _⟩ => rfl
  | ⟨23, _⟩ => rfl
  | ⟨24, _⟩ => rfl
  | ⟨25, _⟩ => rfl
  | ⟨26, _⟩ => rfl
  | ⟨27, _⟩ => rfl
  | ⟨28, _⟩ => rfl
  | ⟨29, _⟩ => rfl
  | ⟨30, _⟩ => rfl
  | ⟨31, _⟩ => rfl
  | ⟨_ + 32, h⟩ => absurd h (by omega))

theorem part3 (f : Fin 128 → FVec F S1x128 .f32) : stack ![f 96, f 97, f 98, f 99, f 100, f 101, f 102, f 103, f 104, f 105, f 106, f 107, f 108, f 109, f 110, f 111, f 112, f 113, f 114, f 115, f 116, f 117, f 118, f 119, f 120, f 121, f 122, f 123, f 124, f 125, f 126, f 127] = part f 3 := congrArg stack (funext fun j => match j with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨16, _⟩ => rfl
  | ⟨17, _⟩ => rfl
  | ⟨18, _⟩ => rfl
  | ⟨19, _⟩ => rfl
  | ⟨20, _⟩ => rfl
  | ⟨21, _⟩ => rfl
  | ⟨22, _⟩ => rfl
  | ⟨23, _⟩ => rfl
  | ⟨24, _⟩ => rfl
  | ⟨25, _⟩ => rfl
  | ⟨26, _⟩ => rfl
  | ⟨27, _⟩ => rfl
  | ⟨28, _⟩ => rfl
  | ⟨29, _⟩ => rfl
  | ⟨30, _⟩ => rfl
  | ⟨31, _⟩ => rfl
  | ⟨_ + 32, h⟩ => absurd h (by omega))

section
variable (a0 a1 a2 a3 a4 a5 a6 a7 a8 a9 a10 a11 a12 a13 a14 a15 a16 a17 a18 a19 a20 a21 a22 a23 a24 a25 a26 a27 a28 a29 a30 a31 : FVec F S1x128 .f32)
theorem w258 : k0_pay258 a0 a1 a2 a3 a4 a5 a6 a7 a8 a9 a10 a11 a12 a13 a14 a15 a16 a17 a18 a19 a20 a21 a22 a23 a24 a25 a26 a27 a28 a29 a30 a31 = stack ![a0, a1, a2, a3, a4, a5, a6, a7, a8, a9, a10, a11, a12, a13, a14, a15, a16, a17, a18, a19, a20, a21, a22, a23, a24, a25, a26, a27, a28, a29, a30, a31] := rfl
theorem w259 : k0_pay259 a0 a1 a2 a3 a4 a5 a6 a7 a8 a9 a10 a11 a12 a13 a14 a15 a16 a17 a18 a19 a20 a21 a22 a23 a24 a25 a26 a27 a28 a29 a30 a31 = stack ![a0, a1, a2, a3, a4, a5, a6, a7, a8, a9, a10, a11, a12, a13, a14, a15, a16, a17, a18, a19, a20, a21, a22, a23, a24, a25, a26, a27, a28, a29, a30, a31] := rfl
theorem w260 : k0_pay260 a0 a1 a2 a3 a4 a5 a6 a7 a8 a9 a10 a11 a12 a13 a14 a15 a16 a17 a18 a19 a20 a21 a22 a23 a24 a25 a26 a27 a28 a29 a30 a31 = stack ![a0, a1, a2, a3, a4, a5, a6, a7, a8, a9, a10, a11, a12, a13, a14, a15, a16, a17, a18, a19, a20, a21, a22, a23, a24, a25, a26, a27, a28, a29, a30, a31] := rfl
theorem w261 (x : FVec F S32x128 .f32) (y : FVec F S32x128 .f32) : k0_pay261 a0 a1 a2 a3 a4 a5 a6 a7 a8 a9 a10 a11 a12 a13 a14 a15 a16 a17 a18 a19 a20 a21 a22 a23 a24 a25 a26 a27 a28 a29 a30 x y = stack ![a0, a1, a2, a3, a4, a5, a6, a7, a8, a9, a10, a11, a12, a13, a14, a15, a16, a17, a18, a19, a20, a21, a22, a23, a24, a25, a26, a27, a28, a29, a30, rowSum x y] := rfl
theorem w262 : k0_pay262 a0 a1 a2 a3 a4 a5 a6 a7 a8 a9 a10 a11 a12 a13 a14 a15 a16 a17 a18 a19 a20 a21 a22 a23 a24 a25 a26 a27 a28 a29 a30 a31 = pickBy lanes (stack ![a0, a1, a2, a3, a4, a5, a6, a7, a8, a9, a10, a11, a12, a13, a14, a15, a16, a17, a18, a19, a20, a21, a22, a23, a24, a25, a26, a27, a28, a29, a30, a31]) := rfl
theorem w264 : k0_pay264 a0 a1 a2 a3 a4 a5 a6 a7 a8 a9 a10 a11 a12 a13 a14 a15 a16 a17 a18 a19 a20 a21 a22 a23 a24 a25 a26 a27 a28 a29 a30 a31 = pickBy lanes (stack ![a0, a1, a2, a3, a4, a5, a6, a7, a8, a9, a10, a11, a12, a13, a14, a15, a16, a17, a18, a19, a20, a21, a22, a23, a24, a25, a26, a27, a28, a29, a30, a31]) := rfl
theorem w266 : k0_pay266 a0 a1 a2 a3 a4 a5 a6 a7 a8 a9 a10 a11 a12 a13 a14 a15 a16 a17 a18 a19 a20 a21 a22 a23 a24 a25 a26 a27 a28 a29 a30 a31 = pickBy lanes (stack ![a0, a1, a2, a3, a4, a5, a6, a7, a8, a9, a10, a11, a12, a13, a14, a15, a16, a17, a18, a19, a20, a21, a22, a23, a24, a25, a26, a27, a28, a29, a30, a31]) := rfl
theorem w263 : k0_pay263 a0 a1 a2 a3 a4 a5 a6 a7 a8 a9 a10 a11 a12 a13 a14 a15 a16 a17 a18 a19 a20 a21 a22 a23 a24 a25 a26 a27 a28 a29 a30 a31 = knockBy lanes (stack ![a0, a1, a2, a3, a4, a5, a6, a7, a8, a9, a10, a11, a12, a13, a14, a15, a16, a17, a18, a19, a20, a21, a22, a23, a24, a25, a26, a27, a28, a29, a30, a31]) := rfl
theorem w265 : k0_pay265 a0 a1 a2 a3 a4 a5 a6 a7 a8 a9 a10 a11 a12 a13 a14 a15 a16 a17 a18 a19 a20 a21 a22 a23 a24 a25 a26 a27 a28 a29 a30 a31 = knockBy lanes (stack ![a0, a1, a2, a3, a4, a5, a6, a7, a8, a9, a10, a11, a12, a13, a14, a15, a16, a17, a18, a19, a20, a21, a22, a23, a24, a25, a26, a27, a28, a29, a30, a31]) := rfl
theorem w267 : k0_pay267 a0 a1 a2 a3 a4 a5 a6 a7 a8 a9 a10 a11 a12 a13 a14 a15 a16 a17 a18 a19 a20 a21 a22 a23 a24 a25 a26 a27 a28 a29 a30 a31 = atPick lanes (stack ![a0, a1, a2, a3, a4, a5, a6, a7, a8, a9, a10, a11, a12, a13, a14, a15, a16, a17, a18, a19, a20, a21, a22, a23, a24, a25, a26, a27, a28, a29, a30, a31]) := rfl
end
theorem w1 (c0 c1 c2 c3 c4 c5 c6 c7 c8 c9 c10 c11 c12 c13 c14 c15 c16 c17 c18 c19 c20 c21 c22 c23 c24 c25 c26 c27 c28 c29 c30 : IVec S32x1 32) (b : IVec S32x128 32) : k0_pay1 c0 c1 c2 c3 c4 c5 c6 c7 c8 c9 c10 c11 c12 c13 c14 c15 c16 c17 c18 c19 c20 c21 c22 c23 c24 c25 c26 c27 c28 c29 c30 b = concatenate S32x32 1 [⟨S32x1, c0⟩, ⟨S32x1, c1⟩, ⟨S32x1, c2⟩, ⟨S32x1, c3⟩, ⟨S32x1, c4⟩, ⟨S32x1, c5⟩, ⟨S32x1, c6⟩, ⟨S32x1, c7⟩, ⟨S32x1, c8⟩, ⟨S32x1, c9⟩, ⟨S32x1, c10⟩, ⟨S32x1, c11⟩, ⟨S32x1, c12⟩, ⟨S32x1, c13⟩, ⟨S32x1, c14⟩, ⟨S32x1, c15⟩, ⟨S32x1, c16⟩, ⟨S32x1, c17⟩, ⟨S32x1, c18⟩, ⟨S32x1, c19⟩, ⟨S32x1, c20⟩, ⟨S32x1, c21⟩, ⟨S32x1, c22⟩, ⟨S32x1, c23⟩, ⟨S32x1, c24⟩, ⟨S32x1, c25⟩, ⟨S32x1, c26⟩, ⟨S32x1, c27⟩, ⟨S32x1, c28⟩, ⟨S32x1, c29⟩, ⟨S32x1, c30⟩, ⟨S32x1, least b⟩] concatenates_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x32_d1 := rfl
theorem w2 (a b c d : IVec S32x32 32) : k0_pay2 a b c d = concatenate S128x32 0 [⟨S32x32, a⟩, ⟨S32x32, b⟩, ⟨S32x32, c⟩, ⟨S32x32, d⟩] concatenates_S32x32_S32x32_S32x32_S32x32_S128x32_d0 := rfl

def block4 (s0 s1 s2 s3 : FVec F S32x128 .f32) : IVec S128x32 32 :=
  concatenate S128x32 0 [⟨S32x32, picks s0⟩, ⟨S32x32, picks s1⟩, ⟨S32x32, picks s2⟩, ⟨S32x32, picks s3⟩] concatenates_S32x32_S32x32_S32x32_S32x32_S128x32_d0

theorem lanesA : kernelRun0_A.sl.v2821 = lanes := rfl
theorem lanesB : kernelRun0_B.sl.v2821 = lanes := rfl

theorem colIn (r : Fin 128) : ∀ a, (![0, r.val] : Fin 2 → Nat) a + S32x1.size a ≤ S32x128.size a := by
  intro a
  match a with
  | ⟨0, _⟩ => exact Nat.le_refl _
  | ⟨1, _⟩ => exact r.isLt

/-- A sequence's row of scores: the slab its word names against its column. -/
def row (slab : (w : BitVec 32) → k0_chk1 w → Vec F S1x32x128 .f32) (col : Fin 128 → Vec F S32x1 .bf16) (w : Fin 128 → BitVec 32) (h : ∀ r, k0_chk1 (w r))
    (r : Fin 128) : FVec F S1x128 .f32 := scoreRow (slab (w r) (h r)) (col r)

/-- The piece of slabs a word names. -/
def slabIn (arg5 : Memref sig .tc .vmem S2048x32x128 .f32) (f : arg5.view.ty.Contents (Elt F)) (w : BitVec 32) (hw : k0_chk1 w) : Vec F S1x32x128 .f32 :=
  arg5.view.readAt (Elt F) (Rect.unit (s := S2048x32x128) (k0_off2 w) S1x32x128.size (k0_off2_inb w hw)).toLoadRect f

def colOfBlock (arg2 : Memref sig .tc .vmem S32x128 .bf16) (f : arg2.view.ty.Contents (Elt F)) (r : Fin 128) : Vec F S32x1 .bf16 :=
  arg2.view.readAt (Elt F) (Rect.unit (s := S32x128) ![0, r.val] S32x1.size (colIn r)).toLoadRect f

variable (m : (ℓ : Loc nD τ sig) → Buf (Elt F) ℓ)

set_option maxHeartbeats 4000000 in
theorem runB (hO : Ok m) (hH : Hyps m hO) (c : Dev nD) (t : Fin (cfgM m hO).N) (h : ∀ r, k0_chk1 (word c (tbl m 0) (grid0.coords t) r)) (arg2 : Memref sig .tc .vmem S32x128 .bf16) (harg2 : arg2.IsWhole) (arg4 : Memref sig .tc .vmem S128x32 .i32) (harg4 : arg4.IsWhole) (arg5 : Memref sig .tc .vmem S2048x32x128 .f32) (harg5 : arg5.IsWhole) (hc0 : ¬cond0_0 (grid0.coords t))
    (x0 : Vec F S32x128 .bf16) (xs0 : Vec F S2048x32x128 .f32) (fh0 : HbBuf0 (F := F) c hbM0_0) :
    (kernelRun0_B c (grid0.coords t) arg2 harg2 arg4 harg4 arg5 harg5 hc0 x0 (tbl m 0) xs0 fh0 (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t) (Hyps.c24 hH c t) (Hyps.c25 hH c t) (Hyps.c26 hH c t) (Hyps.c27 hH c t) (Hyps.c28 hH c t) (Hyps.c29 hH c t) (Hyps.c30 hH c t) (Hyps.c31 hH c t) (Hyps.c32 hH c t) (Hyps.c33 hH c t) (Hyps.c34 hH c t) (Hyps.c35 hH c t) (Hyps.c36 hH c t) (Hyps.c37 hH c t) (Hyps.c38 hH c t) (Hyps.c39 hH c t) (Hyps.c40 hH c t) (Hyps.c41 hH c t) (Hyps.c42 hH c t) (Hyps.c43 hH c t) (Hyps.c44 hH c t) (Hyps.c45 hH c t) (Hyps.c46 hH c t) (Hyps.c47 hH c t) (Hyps.c48 hH c t) (Hyps.c49 hH c t) (Hyps.c50 hH c t) (Hyps.c51 hH c t) (Hyps.c52 hH c t) (Hyps.c53 hH c t) (Hyps.c54 hH c t) (Hyps.c55 hH c t) (Hyps.c56 hH c t) (Hyps.c57 hH c t) (Hyps.c58 hH c t) (Hyps.c59 hH c t) (Hyps.c60 hH c t) (Hyps.c61 hH c t) (Hyps.c62 hH c t) (Hyps.c63 hH c t) (Hyps.c64 hH c t) (Hyps.c65 hH c t) (Hyps.c66 hH c t) (Hyps.c67 hH c t) (Hyps.c68 hH c t) (Hyps.c69 hH c t) (Hyps.c70 hH c t) (Hyps.c71 hH c t) (Hyps.c72 hH c t) (Hyps.c73 hH c t) (Hyps.c74 hH c t) (Hyps.c75 hH c t) (Hyps.c76 hH c t) (Hyps.c77 hH c t) (Hyps.c78 hH c t) (Hyps.c79 hH c t) (Hyps.c80 hH c t) (Hyps.c81 hH c t) (Hyps.c82 hH c t) (Hyps.c83 hH c t) (Hyps.c84 hH c t) (Hyps.c85 hH c t) (Hyps.c86 hH c t) (Hyps.c87 hH c t) (Hyps.c88 hH c t) (Hyps.c89 hH c t) (Hyps.c90 hH c t) (Hyps.c91 hH c t) (Hyps.c92 hH c t) (Hyps.c93 hH c t) (Hyps.c94 hH c t) (Hyps.c95 hH c t) (Hyps.c96 hH c t) (Hyps.c97 hH c t) (Hyps.c98 hH c t) (Hyps.c99 hH c t) (Hyps.c100 hH c t) (Hyps.c101 hH c t) (Hyps.c102 hH c t) (Hyps.c103 hH c t) (Hyps.c104 hH c t) (Hyps.c105 hH c t) (Hyps.c106 hH c t) (Hyps.c107 hH c t) (Hyps.c108 hH c t) (Hyps.c109 hH c t) (Hyps.c110 hH c t) (Hyps.c111 hH c t) (Hyps.c112 hH c t) (Hyps.c113 hH c t) (Hyps.c114 hH c t) (Hyps.c115 hH c t) (Hyps.c116 hH c t) (Hyps.c117 hH c t) (Hyps.c118 hH c t) (Hyps.c119 hH c t) (Hyps.c120 hH c t) (Hyps.c121 hH c t) (Hyps.c122 hH c t) (Hyps.c123 hH c t) (Hyps.c124 hH c t) (Hyps.c125 hH c t) (Hyps.c126 hH c t) (Hyps.c127 hH c t)).1
      = [⟨Rect.unit (s := S128x32) ![0, 0] S128x32.size inb_S128x32_S128x32_0_0, block (row (slabIn arg5 (harg5.unread xs0)) (colOfBlock arg2 (harg2.unread x0)) (word c (tbl m 0) (grid0.coords t)) h)⟩] := by
  unfold kernelRun0_B
  dsimp only
  simp only [kernelRun0_B.sl.r_463, kernelRun0_B.sl.r_364, kernelRun0_B.sl.r_321, kernelRun0_B.sl.r_309, kernelRun0_B.sl.r_631, kernelRun0_B.sl.r_380, kernelRun0_B.sl.r_603, kernelRun0_B.sl.r_536, kernelRun0_B.sl.r_572, kernelRun0_B.sl.r_213, kernelRun0_B.sl.r_467, kernelRun0_B.sl.r_592, kernelRun0_B.sl.r_474, kernelRun0_B.sl.r_64, kernelRun0_B.sl.r_442, kernelRun0_B.sl.r_357, kernelRun0_B.sl.r_447, kernelRun0_B.sl.r_338, kernelRun0_B.sl.r_284, kernelRun0_B.sl.r_318, kernelRun0_B.sl.r_522, kernelRun0_B.sl.r_115, kernelRun0_B.sl.r_427, kernelRun0_B.sl.r_27, kernelRun0_B.sl.r_271, kernelRun0_B.sl.r_224, kernelRun0_B.sl.r_438, kernelRun0_B.sl.r_262, kernelRun0_B.sl.r_422, kernelRun0_B.sl.r_355, kernelRun0_B.sl.r_439, kernelRun0_B.sl.r_270, kernelRun0_B.sl.r_433, kernelRun0_B.sl.r_335, kernelRun0_B.sl.r_219, kernelRun0_B.sl.r_121, kernelRun0_B.sl.r_181, kernelRun0_B.sl.r_375, kernelRun0_B.sl.r_470, kernelRun0_B.sl.r_517, kernelRun0_B.sl.r_6, kernelRun0_B.sl.r_342, kernelRun0_B.sl.r_393, kernelRun0_B.sl.r_200, kernelRun0_B.sl.r_206, kernelRun0_B.sl.r_132, kernelRun0_B.sl.r_229, kernelRun0_B.sl.r_527, kernelRun0_B.sl.r_113, kernelRun0_B.sl.r_593, kernelRun0_B.sl.r_596, kernelRun0_B.sl.r_304, kernelRun0_B.sl.r_120, kernelRun0_B.sl.r_539, kernelRun0_B.sl.r_101, kernelRun0_B.sl.r_372, kernelRun0_B.sl.r_633, kernelRun0_B.sl.r_276, kernelRun0_B.sl.r_611, kernelRun0_B.sl.r_618, kernelRun0_B.sl.r_59, kernelRun0_B.sl.r_170, kernelRun0_B.sl.r_399, kernelRun0_B.sl.r_221, kernelRun0_B.sl.r_34, kernelRun0_B.sl.r_20, kernelRun0_B.sl.r_506, kernelRun0_B.sl.r_477, kernelRun0_B.sl.r_378, kernelRun0_B.sl.r_104, kernelRun0_B.sl.r_440, kernelRun0_B.sl.r_236, kernelRun0_B.sl.r_93, kernelRun0_B.sl.r_203, kernelRun0_B.sl.r_626, kernelRun0_B.sl.r_487, kernelRun0_B.sl.r_258, kernelRun0_B.sl.r_173, kernelRun0_B.sl.r_630, kernelRun0_B.sl.r_176, kernelRun0_B.sl.r_465, kernelRun0_B.sl.r_401, kernelRun0_B.sl.r_424, kernelRun0_B.sl.r_315, kernelRun0_B.sl.r_278, kernelRun0_B.sl.r_129, kernelRun0_B.sl.r_189, kernelRun0_B.sl.r_19, kernelRun0_B.sl.r_210, kernelRun0_B.sl.r_289, kernelRun0_B.sl.r_251, kernelRun0_B.sl.r_163, kernelRun0_B.sl.r_153, kernelRun0_B.sl.r_560, kernelRun0_B.sl.r_528, kernelRun0_B.sl.r_471, kernelRun0_B.sl.r_649, kernelRun0_B.sl.r_99, kernelRun0_B.sl.r_147, kernelRun0_B.sl.r_280, kernelRun0_B.sl.r_479, kernelRun0_B.sl.r_586, kernelRun0_B.sl.r_253, kernelRun0_B.sl.r_330, kernelRun0_B.sl.r_525, kernelRun0_B.sl.r_550, kernelRun0_B.sl.r_237, kernelRun0_B.sl.r_346, kernelRun0_B.sl.r_305, kernelRun0_B.sl.r_459, kernelRun0_B.sl.r_579, kernelRun0_B.sl.r_292, kernelRun0_B.sl.r_58, kernelRun0_B.sl.r_38, kernelRun0_B.sl.r_483, kernelRun0_B.sl.r_605, kernelRun0_B.sl.r_273, kernelRun0_B.sl.r_516, kernelRun0_B.sl.r_106, kernelRun0_B.sl.r_566, kernelRun0_B.sl.r_323, kernelRun0_B.sl.r_421, kernelRun0_B.sl.r_302, kernelRun0_B.sl.r_610, kernelRun0_B.sl.r_118, kernelRun0_B.sl.r_23, kernelRun0_B.sl.r_41, kernelRun0_B.sl.r_341, kernelRun0_B.sl.r_455, kernelRun0_B.sl.r_311, kernelRun0_B.sl.r_540, kernelRun0_B.sl.r_324, kernelRun0_B.sl.r_627, kernelRun0_B.sl.r_374, kernelRun0_B.sl.r_53, kernelRun0_B.sl.r_414, kernelRun0_B.sl.r_265, kernelRun0_B.sl.r_552, kernelRun0_B.sl.r_585, kernelRun0_B.sl.r_254, kernelRun0_B.sl.r_386, kernelRun0_B.sl.r_358, kernelRun0_B.sl.r_266, kernelRun0_B.sl.r_166, kernelRun0_B.sl.r_624, kernelRun0_B.sl.r_614, kernelRun0_B.sl.r_296, kernelRun0_B.sl.r_92, kernelRun0_B.sl.r_398, kernelRun0_B.sl.r_91, kernelRun0_B.sl.r_157, kernelRun0_B.sl.r_67, kernelRun0_B.sl.r_261, kernelRun0_B.sl.r_316, kernelRun0_B.sl.r_524, kernelRun0_B.sl.r_242, kernelRun0_B.sl.r_495, kernelRun0_B.sl.r_435, kernelRun0_B.sl.r_515, kernelRun0_B.sl.r_514, kernelRun0_B.sl.r_86, kernelRun0_B.sl.r_600, kernelRun0_B.sl.r_21, kernelRun0_B.sl.r_298, kernelRun0_B.sl.r_1, kernelRun0_B.sl.r_243, kernelRun0_B.sl.r_569, kernelRun0_B.sl.r_128, kernelRun0_B.sl.r_88, kernelRun0_B.sl.v0, kernelRun0_B.sl.r_387, kernelRun0_B.sl.r_291, kernelRun0_B.sl.r_40, kernelRun0_B.sl.r_609, kernelRun0_B.sl.r_47, kernelRun0_B.sl.r_209, kernelRun0_B.sl.r_555, kernelRun0_B.sl.r_412, kernelRun0_B.sl.r_608, kernelRun0_B.sl.r_598, kernelRun0_B.sl.r_2, kernelRun0_B.sl.r_73, kernelRun0_B.sl.r_410, kernelRun0_B.sl.r_130, kernelRun0_B.sl.r_96, kernelRun0_B.sl.r_395, kernelRun0_B.sl.r_269, kernelRun0_B.sl.r_544, kernelRun0_B.sl.r_511, kernelRun0_B.sl.r_238, kernelRun0_B.sl.r_267, kernelRun0_B.sl.r_475, kernelRun0_B.sl.r_288, kernelRun0_B.sl.r_531, kernelRun0_B.sl.r_512, kernelRun0_B.sl.r_492, kernelRun0_B.sl.r_657, kernelRun0_B.sl.r_484, kernelRun0_B.sl.r_648, kernelRun0_B.sl.r_646, kernelRun0_B.sl.r_124, kernelRun0_B.sl.r_193, kernelRun0_B.sl.r_445, kernelRun0_B.sl.r_417, kernelRun0_B.sl.r_339, kernelRun0_B.sl.r_65, kernelRun0_B.sl.r_656, kernelRun0_B.sl.r_407, kernelRun0_B.sl.r_366, kernelRun0_B.sl.r_61, kernelRun0_B.sl.r_578, kernelRun0_B.sl.r_116, kernelRun0_B.sl.r_497, kernelRun0_B.sl.r_625, kernelRun0_B.sl.r_437, kernelRun0_B.sl.r_509, kernelRun0_B.sl.r_187, kernelRun0_B.sl.r_100, kernelRun0_B.sl.r_542, kernelRun0_B.sl.r_613, kernelRun0_B.sl.r_22, kernelRun0_B.sl.r_419, kernelRun0_B.sl.r_571, kernelRun0_B.sl.r_190, kernelRun0_B.sl.r_184, kernelRun0_B.sl.r_122, kernelRun0_B.sl.r_441, kernelRun0_B.sl.r_426, kernelRun0_B.sl.r_503, kernelRun0_B.sl.r_68, kernelRun0_B.sl.r_77, kernelRun0_B.sl.r_589, kernelRun0_B.sl.r_71, kernelRun0_B.sl.r_361, kernelRun0_B.sl.r_257, kernelRun0_B.sl.r_559, kernelRun0_B.sl.r_272, kernelRun0_B.sl.r_359, kernelRun0_B.sl.r_457, kernelRun0_B.sl.r_431, kernelRun0_B.sl.r_576, kernelRun0_B.sl.r_466, kernelRun0_B.sl.r_490, kernelRun0_B.sl.r_145, kernelRun0_B.sl.r_75, kernelRun0_B.sl.r_371, kernelRun0_B.sl.r_581, kernelRun0_B.sl.r_313, kernelRun0_B.sl.r_406, kernelRun0_B.sl.r_430, kernelRun0_B.sl.r_554, kernelRun0_B.sl.r_205, kernelRun0_B.sl.r_136, kernelRun0_B.sl.r_507, kernelRun0_B.sl.r_303, kernelRun0_B.sl.r_478, kernelRun0_B.sl.r_308, kernelRun0_B.sl.r_144, kernelRun0_B.sl.r_314, kernelRun0_B.sl.r_416, kernelRun0_B.sl.r_652, kernelRun0_B.sl.r_149, kernelRun0_B.sl.r_645, kernelRun0_B.sl.r_446, kernelRun0_B.sl.r_294, kernelRun0_B.sl.r_156, kernelRun0_B.sl.r_151, kernelRun0_B.sl.r_594, kernelRun0_B.sl.r_60, kernelRun0_B.sl.r_541, kernelRun0_B.sl.r_125, kernelRun0_B.sl.r_535, kernelRun0_B.sl.r_180, kernelRun0_B.sl.r_557, kernelRun0_B.sl.r_413, kernelRun0_B.sl.r_312, kernelRun0_B.sl.r_443, kernelRun0_B.sl.r_233, kernelRun0_B.sl.r_345, kernelRun0_B.sl.r_582, kernelRun0_B.sl.r_46, kernelRun0_B.sl.r_549, kernelRun0_B.sl.r_107, kernelRun0_B.sl.r_32, kernelRun0_B.sl.r_350, kernelRun0_B.sl.r_347, kernelRun0_B.sl.r_283, kernelRun0_B.sl.v2, kernelRun0_B.sl.r_621, kernelRun0_B.sl.r_126, kernelRun0_B.sl.r_250, kernelRun0_B.sl.r_384, kernelRun0_B.sl.r_137, kernelRun0_B.sl.r_310, kernelRun0_B.sl.r_80, kernelRun0_B.sl.r_168, kernelRun0_B.sl.r_418, kernelRun0_B.sl.r_461, kernelRun0_B.sl.r_436, kernelRun0_B.sl.r_588, kernelRun0_B.sl.r, kernelRun0_B.sl.r_448, kernelRun0_B.sl.r_400, kernelRun0_B.sl.r_234, kernelRun0_B.sl.r_368, kernelRun0_B.sl.r_523, kernelRun0_B.sl.r_362, kernelRun0_B.sl.r_44, kernelRun0_B.sl.r_403, kernelRun0_B.sl.r_595, kernelRun0_B.sl.r_15, kernelRun0_B.sl.r_57, kernelRun0_B.sl.r_87, kernelRun0_B.sl.r_367, kernelRun0_B.sl.r_135, kernelRun0_B.sl.r_530, kernelRun0_B.sl.r_140, kernelRun0_B.sl.r_545, kernelRun0_B.sl.r_460, kernelRun0_B.sl.r_558, kernelRun0_B.sl.r_109, kernelRun0_B.sl.r_141, kernelRun0_B.sl.r_628, kernelRun0_B.sl.r_456, kernelRun0_B.sl.r_95, kernelRun0_B.sl.r_391, kernelRun0_B.sl.r_606, kernelRun0_B.sl.r_5, kernelRun0_B.sl.r_230, kernelRun0_B.sl.r_482, kernelRun0_B.sl.r_334, kernelRun0_B.sl.r_110, kernelRun0_B.sl.r_7, kernelRun0_B.sl.r_409, kernelRun0_B.sl.r_199, kernelRun0_B.sl.r_529, kernelRun0_B.sl.r_562, kernelRun0_B.sl.r_72, kernelRun0_B.sl.r_222, kernelRun0_B.sl.r_208, kernelRun0_B.sl.r_211, kernelRun0_B.sl.r_39, kernelRun0_B.sl.r_604, kernelRun0_B.sl.r_405, kernelRun0_B.sl.r_220, kernelRun0_B.sl.r_500, kernelRun0_B.sl.r_78, kernelRun0_B.sl.r_472, kernelRun0_B.sl.r_277, kernelRun0_B.sl.r_252, kernelRun0_B.sl.r_532, kernelRun0_B.sl.r_195, kernelRun0_B.sl.r_638, kernelRun0_B.sl.r_452, kernelRun0_B.sl.r_81, kernelRun0_B.sl.r_172, kernelRun0_B.sl.r_563, kernelRun0_B.sl.r_98, kernelRun0_B.sl.r_612, kernelRun0_B.sl.r_501, kernelRun0_B.sl.r_36, kernelRun0_B.sl.r_249, kernelRun0_B.sl.r_319, kernelRun0_B.sl.r_659, kernelRun0_B.sl.r_103, kernelRun0_B.sl.r_547, kernelRun0_B.sl.r_301, kernelRun0_B.sl.r_574, kernelRun0_B.sl.r_259, kernelRun0_B.sl.r_164, kernelRun0_B.sl.v4, kernelRun0_B.sl.r_204, kernelRun0_B.sl.r_619, kernelRun0_B.sl.r_565, kernelRun0_B.sl.r_11, kernelRun0_B.sl.r_155, kernelRun0_B.sl.r_583, kernelRun0_B.sl.r_182, kernelRun0_B.sl.r_240, kernelRun0_B.sl.r_331, kernelRun0_B.sl.r_10, kernelRun0_B.sl.r_297, kernelRun0_B.sl.r_377, kernelRun0_B.sl.r_415, kernelRun0_B.sl.r_591, kernelRun0_B.sl.r_94, kernelRun0_B.sl.r_79, kernelRun0_B.sl.r_108, kernelRun0_B.sl.r_396, kernelRun0_B.sl.r_4, kernelRun0_B.sl.r_423, kernelRun0_B.sl.r_48, kernelRun0_B.sl.r_54, kernelRun0_B.sl.r_370, kernelRun0_B.sl.r_325, kernelRun0_B.sl.r_139, kernelRun0_B.sl.r_373, kernelRun0_B.sl.r_263, kernelRun0_B.sl.r_340, kernelRun0_B.sl.r_25, kernelRun0_B.sl.r_35, kernelRun0_B.sl.r_390, kernelRun0_B.sl.r_634, kernelRun0_B.sl.r_260, kernelRun0_B.sl.r_150, kernelRun0_B.sl.r_201, kernelRun0_B.sl.r_464, kernelRun0_B.sl.r_329, kernelRun0_B.sl.r_85, kernelRun0_B.sl.r_16, kernelRun0_B.sl.r_293, kernelRun0_B.sl.r_217, kernelRun0_B.sl.r_142, kernelRun0_B.sl.r_548, kernelRun0_B.sl.r_196, kernelRun0_B.sl.r_306, kernelRun0_B.sl.r_33, kernelRun0_B.sl.r_432, kernelRun0_B.sl.r_356, kernelRun0_B.sl.r_369, kernelRun0_B.sl.r_353, kernelRun0_B.sl.r_295, kernelRun0_B.sl.r_143, kernelRun0_B.sl.r_508, kernelRun0_B.sl.r_119, kernelRun0_B.sl.r_192, kernelRun0_B.sl.r_235, kernelRun0_B.sl.r_191, kernelRun0_B.sl.r_171, kernelRun0_B.sl.r_24, kernelRun0_B.sl.r_526, kernelRun0_B.sl.r_285, kernelRun0_B.sl.r_194, kernelRun0_B.sl.r_97, kernelRun0_B.sl.r_573, kernelRun0_B.sl.v3, kernelRun0_B.sl.r_146, kernelRun0_B.sl.r_282, kernelRun0_B.sl.r_488, kernelRun0_B.sl.r_84, kernelRun0_B.sl.r_498, kernelRun0_B.sl.r_281, kernelRun0_B.sl.r_623, kernelRun0_B.sl.r_521, kernelRun0_B.sl.r_215, kernelRun0_B.sl.r_351, kernelRun0_B.sl.r_553, kernelRun0_B.sl.r_3, kernelRun0_B.sl.r_428, kernelRun0_B.sl.r_551, kernelRun0_B.sl.r_352, kernelRun0_B.sl.r_629, kernelRun0_B.sl.r_279, kernelRun0_B.sl.r_216, kernelRun0_B.sl.r_133, kernelRun0_B.sl.r_518, kernelRun0_B.sl.r_188, kernelRun0_B.sl.r_239, kernelRun0_B.sl.r_476, kernelRun0_B.sl.r_264, kernelRun0_B.sl.r_299, kernelRun0_B.sl.r_17, kernelRun0_B.sl.r_174, kernelRun0_B.sl.r_636, kernelRun0_B.sl.r_411, kernelRun0_B.sl.r_74, kernelRun0_B.sl.r_556, kernelRun0_B.sl.r_159, kernelRun0_B.sl.r_538, kernelRun0_B.sl.r_286, kernelRun0_B.sl.r_425, kernelRun0_B.sl.r_520, kernelRun0_B.sl.r_575, kernelRun0_B.sl.r_198, kernelRun0_B.sl.r_212, kernelRun0_B.sl.r_90, kernelRun0_B.sl.r_162, kernelRun0_B.sl.r_654, kernelRun0_B.sl.r_502, kernelRun0_B.sl.r_49, kernelRun0_B.sl.r_504, kernelRun0_B.sl.r_82, kernelRun0_B.sl.r_480, kernelRun0_B.sl.r_13, kernelRun0_B.sl.r_134, kernelRun0_B.sl.r_112, kernelRun0_B.sl.r_344, kernelRun0_B.sl.r_223, kernelRun0_B.sl.r_397, kernelRun0_B.sl.r_218, kernelRun0_B.sl.r_617, kernelRun0_B.sl.r_451, kernelRun0_B.sl.r_363, kernelRun0_B.sl.r_56, kernelRun0_B.sl.r_644, kernelRun0_B.sl.r_577, kernelRun0_B.sl.r_505, kernelRun0_B.sl.r_343, kernelRun0_B.sl.r_51, kernelRun0_B.sl.r_186, kernelRun0_B.sl.r_454, kernelRun0_B.sl.r_653, kernelRun0_B.sl.r_89, kernelRun0_B.sl.r_332, kernelRun0_B.sl.r_546, kernelRun0_B.sl.r_178, kernelRun0_B.sl.r_123, kernelRun0_B.sl.r_622, kernelRun0_B.sl.r_499, kernelRun0_B.sl.r_637, kernelRun0_B.sl.r_388, kernelRun0_B.sl.r_111, kernelRun0_B.sl.r_245, kernelRun0_B.sl.r_76, kernelRun0_B.sl.r_327, kernelRun0_B.sl.r_620, kernelRun0_B.sl.r_486, kernelRun0_B.sl.r_462, kernelRun0_B.sl.r_651, kernelRun0_B.sl.r_244, kernelRun0_B.sl.r_317, kernelRun0_B.sl.r_381, kernelRun0_B.sl.r_519, kernelRun0_B.sl.r_55, kernelRun0_B.sl.r_63, kernelRun0_B.sl.r_247, kernelRun0_B.sl.r_177, kernelRun0_B.sl.r_207, kernelRun0_B.sl.r_300, kernelRun0_B.sl.r_376, kernelRun0_B.sl.r_43, kernelRun0_B.sl.r_226, kernelRun0_B.sl.r_602, kernelRun0_B.sl.r_601, kernelRun0_B.sl.r_632, kernelRun0_B.sl.r_543, kernelRun0_B.sl.r_607, kernelRun0_B.sl.r_14, kernelRun0_B.sl.r_228, kernelRun0_B.sl.r_597, kernelRun0_B.sl.r_202, kernelRun0_B.sl.r_392, kernelRun0_B.sl.r_131, kernelRun0_B.sl.r_348, kernelRun0_B.sl.r_643, kernelRun0_B.sl.r_248, kernelRun0_B.sl.r_434, kernelRun0_B.sl.r_379, kernelRun0_B.sl.r_255, kernelRun0_B.sl.r_655, kernelRun0_B.sl.r_337, kernelRun0_B.sl.r_584, kernelRun0_B.sl.r_148, kernelRun0_B.sl.r_268, kernelRun0_B.sl.r_496, kernelRun0_B.sl.r_360, kernelRun0_B.sl.r_241, kernelRun0_B.sl.r_513, kernelRun0_B.sl.r_635, kernelRun0_B.sl.r_183, kernelRun0_B.sl.r_587, kernelRun0_B.sl.r_154, kernelRun0_B.sl.r_225, kernelRun0_B.sl.r_365, kernelRun0_B.sl.r_105, kernelRun0_B.sl.r_336, kernelRun0_B.sl.r_158, kernelRun0_B.sl.r_307, kernelRun0_B.sl.r_639, kernelRun0_B.sl.r_175, kernelRun0_B.sl.r_328, kernelRun0_B.sl.r_444, kernelRun0_B.sl.r_18, kernelRun0_B.sl.r_491, kernelRun0_B.sl.r_117, kernelRun0_B.sl.r_510, kernelRun0_B.sl.r_429, kernelRun0_B.sl.r_197, kernelRun0_B.sl.r_231, kernelRun0_B.sl.r_354, kernelRun0_B.sl.r_152, kernelRun0_B.sl.r_615, kernelRun0_B.sl.r_420, kernelRun0_B.sl.r_227, kernelRun0_B.sl.r_450, kernelRun0_B.sl.r_62, kernelRun0_B.sl.r_580, kernelRun0_B.sl.r_169, kernelRun0_B.sl.r_138, kernelRun0_B.sl.r_453, kernelRun0_B.sl.r_320, kernelRun0_B.sl.r_232, kernelRun0_B.sl.r_468, kernelRun0_B.sl.r_246, kernelRun0_B.sl.r_275, kernelRun0_B.sl.r_567, kernelRun0_B.sl.r_383, kernelRun0_B.sl.r_52, kernelRun0_B.sl.r_599, kernelRun0_B.sl.r_640, kernelRun0_B.sl.r_31, kernelRun0_B.sl.r_161, kernelRun0_B.sl.r_650, kernelRun0_B.sl.r_322, kernelRun0_B.sl.r_473, kernelRun0_B.sl.r_568, kernelRun0_B.sl.r_493, kernelRun0_B.sl.r_458, kernelRun0_B.sl.r_160, kernelRun0_B.sl.r_641, kernelRun0_B.sl.r_185, kernelRun0_B.sl.r_382, kernelRun0_B.sl.r_66, kernelRun0_B.sl.r_494, kernelRun0_B.sl.r_37, kernelRun0_B.sl.r_214, kernelRun0_B.sl.r_469, kernelRun0_B.sl.r_326, kernelRun0_B.sl.r_404, kernelRun0_B.sl.r_642, kernelRun0_B.sl.r_167, kernelRun0_B.sl.r_256, kernelRun0_B.sl.r_658, kernelRun0_B.sl.v1, kernelRun0_B.sl.r_408, kernelRun0_B.sl.r_489, kernelRun0_B.sl.r_287, kernelRun0_B.sl.r_564, kernelRun0_B.sl.r_274, kernelRun0_B.sl.r_561, kernelRun0_B.sl.r_389, kernelRun0_B.sl.r_26, kernelRun0_B.sl.r_9, kernelRun0_B.sl.r_394, kernelRun0_B.sl.r_402, kernelRun0_B.sl.r_70, kernelRun0_B.sl.r_449, kernelRun0_B.sl.r_333, kernelRun0_B.sl.r_534, kernelRun0_B.sl.r_30, kernelRun0_B.sl.r_590, kernelRun0_B.sl.r_533, kernelRun0_B.sl.r_29, kernelRun0_B.sl.r_28, kernelRun0_B.sl.r_42, kernelRun0_B.sl.r_485, kernelRun0_B.sl.r_570, kernelRun0_B.sl.r_349, kernelRun0_B.sl.r_481, kernelRun0_B.sl.r_127, kernelRun0_B.sl.r_114, kernelRun0_B.sl.r_83, kernelRun0_B.sl.r_385, kernelRun0_B.sl.r_290, kernelRun0_B.sl.r_50, kernelRun0_B.sl.r_102, kernelRun0_B.sl.r_8, kernelRun0_B.sl.r_616, kernelRun0_B.sl.r_537, kernelRun0_B.sl.r_69, kernelRun0_B.sl.r_165, kernelRun0_B.sl.r_45, kernelRun0_B.sl.r_179, kernelRun0_B.sl.r_647, kernelRun0_B.sl.r_12, w3, w4, w5, w6, w7, w8, w9, w10, w11, w12, w13, w14, w15, w16, w17, w18, w19, w20, w21, w22, w23, w24, w25, w26, w27, w28, w29, w30, w31, w32, w33, w34, w35, w36, w37, w38, w39, w40, w41, w42, w43, w44, w45, w46, w47, w48, w49, w50, w51, w52, w53, w54, w55, w56, w57, w58, w59, w60, w61, w62, w63, w64, w65, w66, w67, w68, w69, w70, w71, w72, w73, w74, w75, w76, w77, w78, w79, w80, w81, w82, w83, w84, w85, w86, w87, w88, w89, w90, w91, w92, w93, w94, w95, w96, w97, w98, w99, w100, w101, w102, w103, w104, w105, w106, w107, w108, w109, w110, w111, w112, w113, w114, w115, w116, w117, w118, w119, w120, w121, w122, w123, w124, w125, w126, w127, w128, w129, w130, w131, w132, w133, w134, w135, w136, w137, w138, w139, w140, w141, w142, w143, w144, w145, w146, w147, w148, w149, w150, w151, w152, w153, w154, w155, w156, w157, w158, w159, w160, w161, w162, w163, w164, w165, w166, w167, w168, w169, w170, w171, w172, w173, w174, w175, w176, w177, w178, w179, w180, w181, w182, w183, w184, w185, w186, w187, w188, w189, w190, w191, w192, w193, w194, w195, w196, w197, w198, w199, w200, w201, w202, w203, w204, w205, w206, w207, w208, w209, w210, w211, w212, w213, w214, w215, w216, w217, w218, w219, w220, w221, w222, w223, w224, w225, w226, w227, w228, w229, w230, w231, w232, w233, w234, w235, w236, w237, w238, w239, w240, w241, w242, w243, w244, w245, w246, w247, w248, w249, w250, w251, w252, w253, w254, w255, w256, w257, w268, w269, w270, w271, w272, w273, w274, w275, w276, w277, w278, w279, w280, w281, w282, w283, w284, w285, w286, w287, w288, w289, w290, w291, w292, w293, w294, w295, w296, w297, w298, w299, w300, w301, w302, w303, w304, w305, w306, w307, w308, w309, w310, w311, w312, w313, w314, w315, w316, w317, w318, w319, w320, w321, w322, w323, w324, w325, w326, w327, w328, w329, w330, w331, w332, w333, w334, w335, w336, w337, w338, w339, w340, w341, w342, w343, w344, w345, w346, w347, w348, w349, w350, w351, w352, w353, w354, w355, w356, w357, w358, w359, w360, w361, w362, w363, w364, w365, w366, w367, w368, w369, w370, w371, w372, w373, w374, w375, w376, w377, w378, w379, w380, w381, w382, w383, w384, w385, w386, w387, w388, w389, w390, w391, w392, w393, w394, w395, w396, w397, w398, w399, w400, w401, w402, w403, w404, w405, w406, w407, w408, w409, w410, w411, w412, w413, w414, w415, w416, w417, w418, w419, w420, w421, w422, w423, w424, w425, w426, w427, w428, w429, w430, w431, w432, w433, w434, w435, w436, w437, w438, w439, w440, w441, w442, w443, w444, w445, w446, w447, w448, w449, w450, w451, w452, w453, w454, w455, w456, w457, w458, w459, w460, w461, w462, w463, w464, w465, w466, w467, w468, w469, w470, w471, w472, w473, w474, w475, w476, w477, w478, w479, w480, w481, w482, w483, w484, w485, w486, w487, w488, w489, w490, w491, w492, w493, w494, w495, w496, w497, w498, w499, w500, w501, w502, w503, w504, w505, w506, w507, w508, w509, w510, w511, w512, w513, w514, w515, w516, w517, w518, w519, w520, w521, w522, w523, w524, w525, w526, w527, w528, w529, w530, w531, w532, w533, w534, w535, w536, fold_pick, fold_at, fold_knock, fold_score, lanesB, w1, w2, w258, w259, w260, w261, w262, w263, w264, w265, w266, w267]
  refine (show _ = ([⟨Rect.unit (s := S128x32) ![0, 0] S128x32.size inb_S128x32_S128x32_0_0, block4 _ _ _ _⟩] : List (View.Piece (Elt F) S128x32 .i32)) from rfl).trans ?_
  unfold block
  rw [← part0, ← part1, ← part2, ← part3]
  rfl

set_option maxHeartbeats 4000000 in
theorem runA (hO : Ok m) (hH : Hyps m hO) (c : Dev nD) (t : Fin (cfgM m hO).N) (h : ∀ r, k0_chk1 (word c (tbl m 0) (grid0.coords t) r)) (arg2 : Memref sig .tc .vmem S32x128 .bf16) (harg2 : arg2.IsWhole) (arg4 : Memref sig .tc .vmem S128x32 .i32) (harg4 : arg4.IsWhole) (arg5 : Memref sig .tc .vmem S2048x32x128 .f32) (harg5 : arg5.IsWhole) (hc0 : cond0_0 (grid0.coords t))
    (x0 : Vec F S32x128 .bf16)  (fh0 : HbBuf0 (F := F) c hbM0_0) :
    (kernelRun0_A c (grid0.coords t) arg2 harg2 arg4 harg4 arg5 harg5 hc0 x0 (tbl m 0)  fh0 (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t) (Hyps.c24 hH c t) (Hyps.c25 hH c t) (Hyps.c26 hH c t) (Hyps.c27 hH c t) (Hyps.c28 hH c t) (Hyps.c29 hH c t) (Hyps.c30 hH c t) (Hyps.c31 hH c t) (Hyps.c32 hH c t) (Hyps.c33 hH c t) (Hyps.c34 hH c t) (Hyps.c35 hH c t) (Hyps.c36 hH c t) (Hyps.c37 hH c t) (Hyps.c38 hH c t) (Hyps.c39 hH c t) (Hyps.c40 hH c t) (Hyps.c41 hH c t) (Hyps.c42 hH c t) (Hyps.c43 hH c t) (Hyps.c44 hH c t) (Hyps.c45 hH c t) (Hyps.c46 hH c t) (Hyps.c47 hH c t) (Hyps.c48 hH c t) (Hyps.c49 hH c t) (Hyps.c50 hH c t) (Hyps.c51 hH c t) (Hyps.c52 hH c t) (Hyps.c53 hH c t) (Hyps.c54 hH c t) (Hyps.c55 hH c t) (Hyps.c56 hH c t) (Hyps.c57 hH c t) (Hyps.c58 hH c t) (Hyps.c59 hH c t) (Hyps.c60 hH c t) (Hyps.c61 hH c t) (Hyps.c62 hH c t) (Hyps.c63 hH c t) (Hyps.c64 hH c t) (Hyps.c65 hH c t) (Hyps.c66 hH c t) (Hyps.c67 hH c t) (Hyps.c68 hH c t) (Hyps.c69 hH c t) (Hyps.c70 hH c t) (Hyps.c71 hH c t) (Hyps.c72 hH c t) (Hyps.c73 hH c t) (Hyps.c74 hH c t) (Hyps.c75 hH c t) (Hyps.c76 hH c t) (Hyps.c77 hH c t) (Hyps.c78 hH c t) (Hyps.c79 hH c t) (Hyps.c80 hH c t) (Hyps.c81 hH c t) (Hyps.c82 hH c t) (Hyps.c83 hH c t) (Hyps.c84 hH c t) (Hyps.c85 hH c t) (Hyps.c86 hH c t) (Hyps.c87 hH c t) (Hyps.c88 hH c t) (Hyps.c89 hH c t) (Hyps.c90 hH c t) (Hyps.c91 hH c t) (Hyps.c92 hH c t) (Hyps.c93 hH c t) (Hyps.c94 hH c t) (Hyps.c95 hH c t) (Hyps.c96 hH c t) (Hyps.c97 hH c t) (Hyps.c98 hH c t) (Hyps.c99 hH c t) (Hyps.c100 hH c t) (Hyps.c101 hH c t) (Hyps.c102 hH c t) (Hyps.c103 hH c t) (Hyps.c104 hH c t) (Hyps.c105 hH c t) (Hyps.c106 hH c t) (Hyps.c107 hH c t) (Hyps.c108 hH c t) (Hyps.c109 hH c t) (Hyps.c110 hH c t) (Hyps.c111 hH c t) (Hyps.c112 hH c t) (Hyps.c113 hH c t) (Hyps.c114 hH c t) (Hyps.c115 hH c t) (Hyps.c116 hH c t) (Hyps.c117 hH c t) (Hyps.c118 hH c t) (Hyps.c119 hH c t) (Hyps.c120 hH c t) (Hyps.c121 hH c t) (Hyps.c122 hH c t) (Hyps.c123 hH c t) (Hyps.c124 hH c t) (Hyps.c125 hH c t) (Hyps.c126 hH c t) (Hyps.c127 hH c t)).1
      = [⟨Rect.unit (s := S128x32) ![0, 0] S128x32.size inb_S128x32_S128x32_0_0, block (row (slabIn arg5 (arg5.view.writes (Elt F) arg5.view.junk [⟨Rect.whole S2048x32x128, ReadAs.same.apply (View.read (Elt F) (View.whole main_arg2) fh0)⟩])) (colOfBlock arg2 (harg2.unread x0)) (word c (tbl m 0) (grid0.coords t)) h)⟩] := by
  unfold kernelRun0_A
  dsimp only
  simp only [kernelRun0_A.sl.r_521, kernelRun0_A.sl.r_625, kernelRun0_A.sl.v1902, kernelRun0_A.sl.r_523, kernelRun0_A.sl.r_43, kernelRun0_A.sl.r_164, kernelRun0_A.sl.r_460, kernelRun0_A.sl.r_397, kernelRun0_A.sl.v516, kernelRun0_A.sl.r_657, kernelRun0_A.sl.r_587, kernelRun0_A.sl.r_263, kernelRun0_A.sl.r_565, kernelRun0_A.sl.r_366, kernelRun0_A.sl.r_407, kernelRun0_A.sl.r_569, kernelRun0_A.sl.r_551, kernelRun0_A.sl.v1132, kernelRun0_A.sl.r_310, kernelRun0_A.sl.r_642, kernelRun0_A.sl.v2298, kernelRun0_A.sl.r_233, kernelRun0_A.sl.v780, kernelRun0_A.sl.r_302, kernelRun0_A.sl.v1286, kernelRun0_A.sl.r_618, kernelRun0_A.sl.v1946, kernelRun0_A.sl.r_55, kernelRun0_A.sl.r_494, kernelRun0_A.sl.r_649, kernelRun0_A.sl.r_619, kernelRun0_A.sl.r_229, kernelRun0_A.sl.r_469, kernelRun0_A.sl.r_174, kernelRun0_A.sl.r_368, kernelRun0_A.sl.r_220, kernelRun0_A.sl.r_41, kernelRun0_A.sl.r_544, kernelRun0_A.sl.r_73, kernelRun0_A.sl.r_359, kernelRun0_A.sl.v1440, kernelRun0_A.sl.r_390, kernelRun0_A.sl.r_512, kernelRun0_A.sl.r_99, kernelRun0_A.sl.r_645, kernelRun0_A.sl.r_37, kernelRun0_A.sl.r_637, kernelRun0_A.sl.r_581, kernelRun0_A.sl.r_211, kernelRun0_A.sl.v406, kernelRun0_A.sl.r_293, kernelRun0_A.sl.r_13, kernelRun0_A.sl.v2210, kernelRun0_A.sl.r_391, kernelRun0_A.sl.r_262, kernelRun0_A.sl.r_445, kernelRun0_A.sl.v1110, kernelRun0_A.sl.r_264, kernelRun0_A.sl.r_364, kernelRun0_A.sl.r_384, kernelRun0_A.sl.v1484, kernelRun0_A.sl.v802, kernelRun0_A.sl.r_629, kernelRun0_A.sl.r_511, kernelRun0_A.sl.r_82, kernelRun0_A.sl.r_414, kernelRun0_A.sl.r_405, kernelRun0_A.sl.v1858, kernelRun0_A.sl.r_345, kernelRun0_A.sl.v164, kernelRun0_A.sl.r_374, kernelRun0_A.sl.r_27, kernelRun0_A.sl.r_225, kernelRun0_A.sl.r_423, kernelRun0_A.sl.r_590, kernelRun0_A.sl.r_470, kernelRun0_A.sl.r_36, kernelRun0_A.sl.r_48, kernelRun0_A.sl.r_659, kernelRun0_A.sl.r_165, kernelRun0_A.sl.r_531, kernelRun0_A.sl.r_507, kernelRun0_A.sl.v1572, kernelRun0_A.sl.r_612, kernelRun0_A.sl.r_244, kernelRun0_A.sl.r_491, kernelRun0_A.sl.r_439, kernelRun0_A.sl.r_340, kernelRun0_A.sl.v1000, kernelRun0_A.sl.r_24, kernelRun0_A.sl.r_614, kernelRun0_A.sl.v2122, kernelRun0_A.sl.r_513, kernelRun0_A.sl.r_324, kernelRun0_A.sl.r_250, kernelRun0_A.sl.r_83, kernelRun0_A.sl.v2738, kernelRun0_A.sl.r_44, kernelRun0_A.sl.r_255, kernelRun0_A.sl.r_527, kernelRun0_A.sl.r_170, kernelRun0_A.sl.r_552, kernelRun0_A.sl.r_437, kernelRun0_A.sl.r_640, kernelRun0_A.sl.r_222, kernelRun0_A.sl.v2716, kernelRun0_A.sl.r_152, kernelRun0_A.sl.r_221, kernelRun0_A.sl.r_537, kernelRun0_A.sl.r_144, kernelRun0_A.sl.r_485, kernelRun0_A.sl.r_294, kernelRun0_A.sl.v1418, kernelRun0_A.sl.r_210, kernelRun0_A.sl.r_117, kernelRun0_A.sl.r_50, kernelRun0_A.sl.r_200, kernelRun0_A.sl.r_352, kernelRun0_A.sl.r_108, kernelRun0_A.sl.r_338, kernelRun0_A.sl.v2056, kernelRun0_A.sl.r_433, kernelRun0_A.sl.r_161, kernelRun0_A.sl.r_309, kernelRun0_A.sl.v1088, kernelRun0_A.sl.r_585, kernelRun0_A.sl.r_68, kernelRun0_A.sl.r_195, kernelRun0_A.sl.r_141, kernelRun0_A.sl.v1198, kernelRun0_A.sl.r_1, kernelRun0_A.sl.r_31, kernelRun0_A.sl.r_604, kernelRun0_A.sl.v318, kernelRun0_A.sl.r_215, kernelRun0_A.sl.r_498, kernelRun0_A.sl.r_148, kernelRun0_A.sl.v32, kernelRun0_A.sl.v1968, kernelRun0_A.sl.r_532, kernelRun0_A.sl.r_93, kernelRun0_A.sl.r_243, kernelRun0_A.sl.r_447, kernelRun0_A.sl.r_319, kernelRun0_A.sl.r_578, kernelRun0_A.sl.r_408, kernelRun0_A.sl.r_479, kernelRun0_A.sl.r_448, kernelRun0_A.sl.r_505, kernelRun0_A.sl.r_209, kernelRun0_A.sl.v1506, kernelRun0_A.sl.r_330, kernelRun0_A.sl.v1682, kernelRun0_A.sl.r_147, kernelRun0_A.sl.r_251, kernelRun0_A.sl.r_51, kernelRun0_A.sl.r_365, kernelRun0_A.sl.r_575, kernelRun0_A.sl.v252, kernelRun0_A.sl.r_594, kernelRun0_A.sl.r_2, kernelRun0_A.sl.r_350, kernelRun0_A.sl.r_224, kernelRun0_A.sl.r_636, kernelRun0_A.sl.r_273, kernelRun0_A.sl.r_509, kernelRun0_A.sl.r_357, kernelRun0_A.sl.r_375, kernelRun0_A.sl.r_346, kernelRun0_A.sl.r_650, kernelRun0_A.sl.r_609, kernelRun0_A.sl.r_462, kernelRun0_A.sl.r_34, kernelRun0_A.sl.v1550, kernelRun0_A.sl.r_254, kernelRun0_A.sl.r_223, kernelRun0_A.sl.v1220, kernelRun0_A.sl.r_583, kernelRun0_A.sl.r_378, kernelRun0_A.sl.r_307, kernelRun0_A.sl.r_299, kernelRun0_A.sl.v2496, kernelRun0_A.sl.r_145, kernelRun0_A.sl.r_566, kernelRun0_A.sl.r_5, kernelRun0_A.sl.r_501, kernelRun0_A.sl.r_579, kernelRun0_A.sl.r_653, kernelRun0_A.sl.r_331, kernelRun0_A.sl.r_235, kernelRun0_A.sl.r_630, kernelRun0_A.sl.r_111, kernelRun0_A.sl.r_304, kernelRun0_A.sl.r_601, kernelRun0_A.sl.r_53, kernelRun0_A.sl.r_247, kernelRun0_A.sl.v626, kernelRun0_A.sl.r_171, kernelRun0_A.sl.r_75, kernelRun0_A.sl.r_33, kernelRun0_A.sl.v1264, kernelRun0_A.sl.v1748, kernelRun0_A.sl.r_260, kernelRun0_A.sl.r_336, kernelRun0_A.sl.r_123, kernelRun0_A.sl.r_95, kernelRun0_A.sl.r_19, kernelRun0_A.sl.v2540, kernelRun0_A.sl.r_452, kernelRun0_A.sl.r_648, kernelRun0_A.sl.r_30, kernelRun0_A.sl.r_455, kernelRun0_A.sl.r_15, kernelRun0_A.sl.v1770, kernelRun0_A.sl.r_116, kernelRun0_A.sl.r_57, kernelRun0_A.sl.r_576, kernelRun0_A.sl.r_280, kernelRun0_A.sl.r_611, kernelRun0_A.sl.r_383, kernelRun0_A.sl.r_495, kernelRun0_A.sl.r_323, kernelRun0_A.sl.r_399, kernelRun0_A.sl.r_122, kernelRun0_A.sl.r_10, kernelRun0_A.sl.r_514, kernelRun0_A.sl.r_473, kernelRun0_A.sl.r_156, kernelRun0_A.sl.r_556, kernelRun0_A.sl.v1726, kernelRun0_A.sl.r_592, kernelRun0_A.sl.r_190, kernelRun0_A.sl.r_382, kernelRun0_A.sl.r_558, kernelRun0_A.sl.r_518, kernelRun0_A.sl.r_97, kernelRun0_A.sl.r_245, kernelRun0_A.sl.r_298, kernelRun0_A.sl.r_279, kernelRun0_A.sl.r_183, kernelRun0_A.sl.r_42, kernelRun0_A.sl.r_422, kernelRun0_A.sl.r_475, kernelRun0_A.sl.v2342, kernelRun0_A.sl.v692, kernelRun0_A.sl.r_84, kernelRun0_A.sl.v230, kernelRun0_A.sl.r_38, kernelRun0_A.sl.r_169, kernelRun0_A.sl.r_266, kernelRun0_A.sl.r_343, kernelRun0_A.sl.r_155, kernelRun0_A.sl.r_102, kernelRun0_A.sl.v1924, kernelRun0_A.sl.r_16, kernelRun0_A.sl.r_312, kernelRun0_A.sl.r_296, kernelRun0_A.sl.v1660, kernelRun0_A.sl.v736, kernelRun0_A.sl.r_32, kernelRun0_A.sl.r_351, kernelRun0_A.sl.r_449, kernelRun0_A.sl.v428, kernelRun0_A.sl.r_180, kernelRun0_A.sl.r_291, kernelRun0_A.sl.r_562, kernelRun0_A.sl.r_622, kernelRun0_A.sl.r_231, kernelRun0_A.sl.r_506, kernelRun0_A.sl.r_153, kernelRun0_A.sl.r_26, kernelRun0_A.sl.r_72, kernelRun0_A.sl.r_47, kernelRun0_A.sl.r_101, kernelRun0_A.sl.v1792, kernelRun0_A.sl.v2188, kernelRun0_A.sl.r_596, kernelRun0_A.sl.v1, kernelRun0_A.sl.r_353, kernelRun0_A.sl.r_500, kernelRun0_A.sl.r_406, kernelRun0_A.sl.r_549, kernelRun0_A.sl.r_239, kernelRun0_A.sl.v0, kernelRun0_A.sl.r_606, kernelRun0_A.sl.r_237, kernelRun0_A.sl.r_502, kernelRun0_A.sl.r_354, kernelRun0_A.sl.v1044, kernelRun0_A.sl.r_17, kernelRun0_A.sl.r_135, kernelRun0_A.sl.r_204, kernelRun0_A.sl.r_456, kernelRun0_A.sl.r_519, kernelRun0_A.sl.r_201, kernelRun0_A.sl.r_493, kernelRun0_A.sl.r_317, kernelRun0_A.sl.v956, kernelRun0_A.sl.r_400, kernelRun0_A.sl.r_107, kernelRun0_A.sl.r_199, kernelRun0_A.sl.r_69, kernelRun0_A.sl.r_154, kernelRun0_A.sl.r_395, kernelRun0_A.sl.r_429, kernelRun0_A.sl.r_626, kernelRun0_A.sl.r_360, kernelRun0_A.sl.r_124, kernelRun0_A.sl.r_130, kernelRun0_A.sl.r_658, kernelRun0_A.sl.r_136, kernelRun0_A.sl.r_163, kernelRun0_A.sl.r_377, kernelRun0_A.sl.r_339, kernelRun0_A.sl.r_504, kernelRun0_A.sl.r_655, kernelRun0_A.sl.r_600, kernelRun0_A.sl.r_118, kernelRun0_A.sl.r_499, kernelRun0_A.sl.r_388, kernelRun0_A.sl.r_35, kernelRun0_A.sl.r_623, kernelRun0_A.sl.r_440, kernelRun0_A.sl.r_530, kernelRun0_A.sl.r_160, kernelRun0_A.sl.v1814, kernelRun0_A.sl.r_403, kernelRun0_A.sl.r_189, kernelRun0_A.sl.v604, kernelRun0_A.sl.r_306, kernelRun0_A.sl.v340, kernelRun0_A.sl.v2628, kernelRun0_A.sl.r_314, kernelRun0_A.sl.v560, kernelRun0_A.sl.r_23, kernelRun0_A.sl.r_574, kernelRun0_A.sl.r_419, kernelRun0_A.sl.r_328, kernelRun0_A.sl.r_79, kernelRun0_A.sl.r_563, kernelRun0_A.sl.r_236, kernelRun0_A.sl.r_373, kernelRun0_A.sl.v54, kernelRun0_A.sl.r_480, kernelRun0_A.sl.r_362, kernelRun0_A.sl.r_81, kernelRun0_A.sl.r_593, kernelRun0_A.sl.r_393, kernelRun0_A.sl.r_413, kernelRun0_A.sl.r_110, kernelRun0_A.sl.r_219, kernelRun0_A.sl.r_633, kernelRun0_A.sl.v714, kernelRun0_A.sl.v142, kernelRun0_A.sl.r_641, kernelRun0_A.sl.r_379, kernelRun0_A.sl.v2, kernelRun0_A.sl.r_508, kernelRun0_A.sl.r_376, kernelRun0_A.sl.r_605, kernelRun0_A.sl.r_256, kernelRun0_A.sl.r_80, kernelRun0_A.sl.r_272, kernelRun0_A.sl.r_476, kernelRun0_A.sl.v2386, kernelRun0_A.sl.r_517, kernelRun0_A.sl.r_420, kernelRun0_A.sl.r_348, kernelRun0_A.sl.r_227, kernelRun0_A.sl.r_213, kernelRun0_A.sl.r_588, kernelRun0_A.sl.r_546, kernelRun0_A.sl.r_411, kernelRun0_A.sl.v2012, kernelRun0_A.sl.r_386, kernelRun0_A.sl.r_424, kernelRun0_A.sl.r_295, kernelRun0_A.sl.r_438, kernelRun0_A.sl.r_483, kernelRun0_A.sl.r_425, kernelRun0_A.sl.r_466, kernelRun0_A.sl.v2562, kernelRun0_A.sl.r_387, kernelRun0_A.sl.r_597, kernelRun0_A.sl.r_638, kernelRun0_A.sl.r_412, kernelRun0_A.sl.v2408, kernelRun0_A.sl.r_88, kernelRun0_A.sl.r_121, kernelRun0_A.sl.r_369, kernelRun0_A.sl.r_458, kernelRun0_A.sl.v274, kernelRun0_A.sl.r_465, kernelRun0_A.sl.r_248, kernelRun0_A.sl.r_98, kernelRun0_A.sl.r_555, kernelRun0_A.sl.r_208, kernelRun0_A.sl.r_238, kernelRun0_A.sl.r_489, kernelRun0_A.sl.v1990, kernelRun0_A.sl.v912, kernelRun0_A.sl.v538, kernelRun0_A.sl.r_589, kernelRun0_A.sl.r_646, kernelRun0_A.sl.r_14, kernelRun0_A.sl.v824, kernelRun0_A.sl.r_515, kernelRun0_A.sl.r_56, kernelRun0_A.sl.r_292, kernelRun0_A.sl.r_522, kernelRun0_A.sl.r_492, kernelRun0_A.sl.v76, kernelRun0_A.sl.r_401, kernelRun0_A.sl.r_252, kernelRun0_A.sl.r_416, kernelRun0_A.sl.r_394, kernelRun0_A.sl.r_320, kernelRun0_A.sl.v1330, kernelRun0_A.sl.r_105, kernelRun0_A.sl.r_271, kernelRun0_A.sl.r_246, kernelRun0_A.sl.r_427, kernelRun0_A.sl.r_474, kernelRun0_A.sl.r_288, kernelRun0_A.sl.r_598, kernelRun0_A.sl.r_214, kernelRun0_A.sl.r_616, kernelRun0_A.sl.r_65, kernelRun0_A.sl.r_570, kernelRun0_A.sl.r_63, kernelRun0_A.sl.v2232, kernelRun0_A.sl.r_450, kernelRun0_A.sl.r_25, kernelRun0_A.sl.r_603, kernelRun0_A.sl.r_318, kernelRun0_A.sl.r_326, kernelRun0_A.sl.r_62, kernelRun0_A.sl.r_261, kernelRun0_A.sl.r_193, kernelRun0_A.sl.r_656, kernelRun0_A.sl.r_305, kernelRun0_A.sl.r_284, kernelRun0_A.sl.r_644, kernelRun0_A.sl.r_203, kernelRun0_A.sl.r_358, kernelRun0_A.sl.r_463, kernelRun0_A.sl.r_167, kernelRun0_A.sl.r_313, kernelRun0_A.sl.r_503, kernelRun0_A.sl.r_624, kernelRun0_A.sl.r_627, kernelRun0_A.sl.r_103, kernelRun0_A.sl.r_457, kernelRun0_A.sl.r_534, kernelRun0_A.sl.r_22, kernelRun0_A.sl.r_207, kernelRun0_A.sl.r_86, kernelRun0_A.sl.r_468, kernelRun0_A.sl.v2144, kernelRun0_A.sl.r_287, kernelRun0_A.sl.r_188, kernelRun0_A.sl.r_487, kernelRun0_A.sl.r_29, kernelRun0_A.sl.r_404, kernelRun0_A.sl.r_442, kernelRun0_A.sl.r_392, kernelRun0_A.sl.r_182, kernelRun0_A.sl.v1242, kernelRun0_A.sl.r_428, kernelRun0_A.sl.v186, kernelRun0_A.sl.v2320, kernelRun0_A.sl.r_74, kernelRun0_A.sl.r_332, kernelRun0_A.sl.r_267, kernelRun0_A.sl.v2452, kernelRun0_A.sl.r_253, kernelRun0_A.sl.v4, kernelRun0_A.sl.r_525, kernelRun0_A.sl.r_6, kernelRun0_A.sl.r_241, kernelRun0_A.sl.r_573, kernelRun0_A.sl.r_372, kernelRun0_A.sl.r_268, kernelRun0_A.sl.r_149, kernelRun0_A.sl.r_389, kernelRun0_A.sl.r_564, kernelRun0_A.sl.r_311, kernelRun0_A.sl.r_595, kernelRun0_A.sl.v1462, kernelRun0_A.sl.r_308, kernelRun0_A.sl.v362, kernelRun0_A.sl.r_361, kernelRun0_A.sl.r_628, kernelRun0_A.sl.r_380, kernelRun0_A.sl.v1066, kernelRun0_A.sl.r_571, kernelRun0_A.sl.r_4, kernelRun0_A.sl.r_443, kernelRun0_A.sl.v2034, kernelRun0_A.sl.r_150, kernelRun0_A.sl.r_477, kernelRun0_A.sl.r_125, kernelRun0_A.sl.r_286, kernelRun0_A.sl.r_28, kernelRun0_A.sl.r_120, kernelRun0_A.sl.r_131, kernelRun0_A.sl.v2474, kernelRun0_A.sl.r_540, kernelRun0_A.sl.r_158, kernelRun0_A.sl.r_281, kernelRun0_A.sl.r_410, kernelRun0_A.sl.r_322, kernelRun0_A.sl.r_114, kernelRun0_A.sl.r_143, kernelRun0_A.sl.r_181, kernelRun0_A.sl.r_9, kernelRun0_A.sl.r_371, kernelRun0_A.sl.r_524, kernelRun0_A.sl.r_607, kernelRun0_A.sl.v2254, kernelRun0_A.sl.r_278, kernelRun0_A.sl.r_115, kernelRun0_A.sl.r_157, kernelRun0_A.sl.r_643, kernelRun0_A.sl.v2430, kernelRun0_A.sl.r_431, kernelRun0_A.sl.r_173, kernelRun0_A.sl.r_67, kernelRun0_A.sl.r_591, kernelRun0_A.sl.v1396, kernelRun0_A.sl.r_347, kernelRun0_A.sl.v648, kernelRun0_A.sl.r_568, kernelRun0_A.sl.r_344, kernelRun0_A.sl.r_337, kernelRun0_A.sl.r_187, kernelRun0_A.sl.v3, kernelRun0_A.sl.r_536, kernelRun0_A.sl.r_126, kernelRun0_A.sl.r_459, kernelRun0_A.sl.r_334, kernelRun0_A.sl.r_356, kernelRun0_A.sl.v890, kernelRun0_A.sl.r_127, kernelRun0_A.sl.r_192, kernelRun0_A.sl.r_217, kernelRun0_A.sl.r_94, kernelRun0_A.sl.r_49, kernelRun0_A.sl.r_538, kernelRun0_A.sl.r_289, kernelRun0_A.sl.r_184, kernelRun0_A.sl.r_516, kernelRun0_A.sl.r_21, kernelRun0_A.sl.r_212, kernelRun0_A.sl.r_70, kernelRun0_A.sl.r_12, kernelRun0_A.sl.r_315, kernelRun0_A.sl.v758, kernelRun0_A.sl.v1352, kernelRun0_A.sl.r_90, kernelRun0_A.sl.r_175, kernelRun0_A.sl.r_545, kernelRun0_A.sl.r_528, kernelRun0_A.sl.r_432, kernelRun0_A.sl.r_151, kernelRun0_A.sl.r_7, kernelRun0_A.sl.r_139, kernelRun0_A.sl.v1308, kernelRun0_A.sl.r_276, kernelRun0_A.sl.r_87, kernelRun0_A.sl.r_303, kernelRun0_A.sl.r_550, kernelRun0_A.sl.r_138, kernelRun0_A.sl.r_285, kernelRun0_A.sl.v1594, kernelRun0_A.sl.r_402, kernelRun0_A.sl.v120, kernelRun0_A.sl.r_185, kernelRun0_A.sl.r_46, kernelRun0_A.sl.v1528, kernelRun0_A.sl.r_133, kernelRun0_A.sl.r_186, kernelRun0_A.sl.r_548, kernelRun0_A.sl.r_631, kernelRun0_A.sl.r_132, kernelRun0_A.sl.r_140, kernelRun0_A.sl.v2364, kernelRun0_A.sl.r_418, kernelRun0_A.sl.r_520, kernelRun0_A.sl.r_316, kernelRun0_A.sl.r_129, kernelRun0_A.sl.r_453, kernelRun0_A.sl.v1616, kernelRun0_A.sl.r_179, kernelRun0_A.sl.r_421, kernelRun0_A.sl.r_639, kernelRun0_A.sl.r_471, kernelRun0_A.sl.v2606, kernelRun0_A.sl.r_613, kernelRun0_A.sl.r_162, kernelRun0_A.sl.r_510, kernelRun0_A.sl.r_297, kernelRun0_A.sl.r_240, kernelRun0_A.sl.v494, kernelRun0_A.sl.r_40, kernelRun0_A.sl.v1880, kernelRun0_A.sl.r_355, kernelRun0_A.sl.r_85, kernelRun0_A.sl.r_396, kernelRun0_A.sl.r_265, kernelRun0_A.sl.r_620, kernelRun0_A.sl.r_398, kernelRun0_A.sl.v868, kernelRun0_A.sl.r_172, kernelRun0_A.sl.v1022, kernelRun0_A.sl.v450, kernelRun0_A.sl.r_472, kernelRun0_A.sl.r_621, kernelRun0_A.sl.r_599, kernelRun0_A.sl.r_651, kernelRun0_A.sl.v98, kernelRun0_A.sl.r_370, kernelRun0_A.sl.r_66, kernelRun0_A.sl.v472, kernelRun0_A.sl.r_543, kernelRun0_A.sl.r_76, kernelRun0_A.sl.r_385, kernelRun0_A.sl.r_482, kernelRun0_A.sl.r_230, kernelRun0_A.sl.r_647, kernelRun0_A.sl.v2760, kernelRun0_A.sl.r_113, kernelRun0_A.sl.r_426, kernelRun0_A.sl.v582, kernelRun0_A.sl.r_541, kernelRun0_A.sl.r_333, kernelRun0_A.sl.r_610, kernelRun0_A.sl.r_198, kernelRun0_A.sl.r_451, kernelRun0_A.sl.v2804, kernelRun0_A.sl.v1704, kernelRun0_A.sl.r_584, kernelRun0_A.sl.r_526, kernelRun0_A.sl.r_18, kernelRun0_A.sl.v2166, kernelRun0_A.sl.r_290, kernelRun0_A.sl.r_635, kernelRun0_A.sl.r_300, kernelRun0_A.sl.r_349, kernelRun0_A.sl.r_559, kernelRun0_A.sl.r_602, kernelRun0_A.sl.v296, kernelRun0_A.sl.r_64, kernelRun0_A.sl.r_486, kernelRun0_A.sl.r_488, kernelRun0_A.sl.r_363, kernelRun0_A.sl.r_615, kernelRun0_A.sl.v1638, kernelRun0_A.sl.r_168, kernelRun0_A.sl.r_216, kernelRun0_A.sl.r_78, kernelRun0_A.sl.v208, kernelRun0_A.sl.r_327, kernelRun0_A.sl.r_77, kernelRun0_A.sl.r_577, kernelRun0_A.sl.r_277, kernelRun0_A.sl.v2584, kernelRun0_A.sl.r_159, kernelRun0_A.sl.r_547, kernelRun0_A.sl.r_274, kernelRun0_A.sl.r_282, kernelRun0_A.sl.v2100, kernelRun0_A.sl.r_8, kernelRun0_A.sl.r_444, kernelRun0_A.sl.r_104, kernelRun0_A.sl.r_142, kernelRun0_A.sl.r_89, kernelRun0_A.sl.r_106, kernelRun0_A.sl.r_567, kernelRun0_A.sl.r_232, kernelRun0_A.sl.v1374, kernelRun0_A.sl.r_205, kernelRun0_A.sl.r_60, kernelRun0_A.sl.r_20, kernelRun0_A.sl.r_194, kernelRun0_A.sl.r_176, kernelRun0_A.sl.r_301, kernelRun0_A.sl.r_242, kernelRun0_A.sl.r_257, kernelRun0_A.sl.r_96, kernelRun0_A.sl.v1176, kernelRun0_A.sl.r_275, kernelRun0_A.sl.r_484, kernelRun0_A.sl.v846, kernelRun0_A.sl.r_329, kernelRun0_A.sl.r_582, kernelRun0_A.sl.r_533, kernelRun0_A.sl.r_409, kernelRun0_A.sl.r_572, kernelRun0_A.sl.r_137, kernelRun0_A.sl.r_269, kernelRun0_A.sl.r_177, kernelRun0_A.sl.r_417, kernelRun0_A.sl.r_496, kernelRun0_A.sl.r_342, kernelRun0_A.sl.r_415, kernelRun0_A.sl.r_61, kernelRun0_A.sl.r_206, kernelRun0_A.sl.r_112, kernelRun0_A.sl.r, kernelRun0_A.sl.r_335, kernelRun0_A.sl.r_11, kernelRun0_A.sl.r_497, kernelRun0_A.sl.v2078, kernelRun0_A.sl.r_249, kernelRun0_A.sl.v2276, kernelRun0_A.sl.r_430, kernelRun0_A.sl.r_446, kernelRun0_A.sl.r_478, kernelRun0_A.sl.r_481, kernelRun0_A.sl.r_464, kernelRun0_A.sl.r_92, kernelRun0_A.sl.v2518, kernelRun0_A.sl.r_434, kernelRun0_A.sl.r_634, kernelRun0_A.sl.r_166, kernelRun0_A.sl.dma0, kernelRun0_A.sl.r_218, kernelRun0_A.sl.r_119, kernelRun0_A.sl.r_3, kernelRun0_A.sl.r_39, kernelRun0_A.sl.r_436, kernelRun0_A.sl.r_654, kernelRun0_A.sl.v2672, kernelRun0_A.sl.r_652, kernelRun0_A.sl.r_91, kernelRun0_A.sl.r_59, kernelRun0_A.sl.r_234, kernelRun0_A.sl.r_542, kernelRun0_A.sl.r_134, kernelRun0_A.sl.r_560, kernelRun0_A.sl.r_617, kernelRun0_A.sl.r_557, kernelRun0_A.sl.r_71, kernelRun0_A.sl.r_586, kernelRun0_A.sl.r_608, kernelRun0_A.sl.r_529, kernelRun0_A.sl.r_554, kernelRun0_A.sl.r_535, kernelRun0_A.sl.v670, kernelRun0_A.sl.r_381, kernelRun0_A.sl.r_580, kernelRun0_A.sl.r_58, kernelRun0_A.sl.v10, kernelRun0_A.sl.r_321, kernelRun0_A.sl.r_146, kernelRun0_A.sl.r_461, kernelRun0_A.sl.r_228, kernelRun0_A.sl.r_467, kernelRun0_A.sl.r_258, kernelRun0_A.sl.r_259, kernelRun0_A.sl.r_539, kernelRun0_A.sl.v384, kernelRun0_A.sl.r_341, kernelRun0_A.sl.v978, kernelRun0_A.sl.v2650, kernelRun0_A.sl.v2694, kernelRun0_A.sl.r_632, kernelRun0_A.sl.r_283, kernelRun0_A.sl.v1836, kernelRun0_A.sl.r_553, kernelRun0_A.sl.r_197, kernelRun0_A.sl.r_270, kernelRun0_A.sl.v2782, kernelRun0_A.sl.r_561, kernelRun0_A.sl.r_441, kernelRun0_A.sl.r_109, kernelRun0_A.sl.r_490, kernelRun0_A.sl.r_202, kernelRun0_A.sl.r_100, kernelRun0_A.sl.r_178, kernelRun0_A.sl.r_196, kernelRun0_A.sl.r_454, kernelRun0_A.sl.r_367, kernelRun0_A.sl.r_226, kernelRun0_A.sl.r_435, kernelRun0_A.sl.r_45, kernelRun0_A.sl.r_52, kernelRun0_A.sl.r_325, kernelRun0_A.sl.r_54, kernelRun0_A.sl.v934, kernelRun0_A.sl.r_191, kernelRun0_A.sl.r_128, kernelRun0_A.sl.v1154, w3, w4, w5, w6, w7, w8, w9, w10, w11, w12, w13, w14, w15, w16, w17, w18, w19, w20, w21, w22, w23, w24, w25, w26, w27, w28, w29, w30, w31, w32, w33, w34, w35, w36, w37, w38, w39, w40, w41, w42, w43, w44, w45, w46, w47, w48, w49, w50, w51, w52, w53, w54, w55, w56, w57, w58, w59, w60, w61, w62, w63, w64, w65, w66, w67, w68, w69, w70, w71, w72, w73, w74, w75, w76, w77, w78, w79, w80, w81, w82, w83, w84, w85, w86, w87, w88, w89, w90, w91, w92, w93, w94, w95, w96, w97, w98, w99, w100, w101, w102, w103, w104, w105, w106, w107, w108, w109, w110, w111, w112, w113, w114, w115, w116, w117, w118, w119, w120, w121, w122, w123, w124, w125, w126, w127, w128, w129, w130, w131, w132, w133, w134, w135, w136, w137, w138, w139, w140, w141, w142, w143, w144, w145, w146, w147, w148, w149, w150, w151, w152, w153, w154, w155, w156, w157, w158, w159, w160, w161, w162, w163, w164, w165, w166, w167, w168, w169, w170, w171, w172, w173, w174, w175, w176, w177, w178, w179, w180, w181, w182, w183, w184, w185, w186, w187, w188, w189, w190, w191, w192, w193, w194, w195, w196, w197, w198, w199, w200, w201, w202, w203, w204, w205, w206, w207, w208, w209, w210, w211, w212, w213, w214, w215, w216, w217, w218, w219, w220, w221, w222, w223, w224, w225, w226, w227, w228, w229, w230, w231, w232, w233, w234, w235, w236, w237, w238, w239, w240, w241, w242, w243, w244, w245, w246, w247, w248, w249, w250, w251, w252, w253, w254, w255, w256, w257, w268, w269, w270, w271, w272, w273, w274, w275, w276, w277, w278, w279, w280, w281, w282, w283, w284, w285, w286, w287, w288, w289, w290, w291, w292, w293, w294, w295, w296, w297, w298, w299, w300, w301, w302, w303, w304, w305, w306, w307, w308, w309, w310, w311, w312, w313, w314, w315, w316, w317, w318, w319, w320, w321, w322, w323, w324, w325, w326, w327, w328, w329, w330, w331, w332, w333, w334, w335, w336, w337, w338, w339, w340, w341, w342, w343, w344, w345, w346, w347, w348, w349, w350, w351, w352, w353, w354, w355, w356, w357, w358, w359, w360, w361, w362, w363, w364, w365, w366, w367, w368, w369, w370, w371, w372, w373, w374, w375, w376, w377, w378, w379, w380, w381, w382, w383, w384, w385, w386, w387, w388, w389, w390, w391, w392, w393, w394, w395, w396, w397, w398, w399, w400, w401, w402, w403, w404, w405, w406, w407, w408, w409, w410, w411, w412, w413, w414, w415, w416, w417, w418, w419, w420, w421, w422, w423, w424, w425, w426, w427, w428, w429, w430, w431, w432, w433, w434, w435, w436, w437, w438, w439, w440, w441, w442, w443, w444, w445, w446, w447, w448, w449, w450, w451, w452, w453, w454, w455, w456, w457, w458, w459, w460, w461, w462, w463, w464, w465, w466, w467, w468, w469, w470, w471, w472, w473, w474, w475, w476, w477, w478, w479, w480, w481, w482, w483, w484, w485, w486, w487, w488, w489, w490, w491, w492, w493, w494, w495, w496, w497, w498, w499, w500, w501, w502, w503, w504, w505, w506, w507, w508, w509, w510, w511, w512, w513, w514, w515, w516, w517, w518, w519, w520, w521, w522, w523, w524, w525, w526, w527, w528, w529, w530, w531, w532, w533, w534, w535, w536, fold_pick, fold_at, fold_knock, fold_score, lanesA, w1, w2, w258, w259, w260, w261, w262, w263, w264, w265, w266, w267]
  refine (show _ = ([⟨Rect.unit (s := S128x32) ![0, 0] S128x32.size inb_S128x32_S128x32_0_0, block4 _ _ _ _⟩] : List (View.Piece (Elt F) S128x32 .i32)) from rfl).trans ?_
  unfold block
  rw [← part0, ← part1, ← part2, ← part3]
  rfl

end Cert.Sel
end
-- ==== Proof.SelHyps.lean ====
/-
  The words of the scores-and-selection call name slabs that are there, for arguments in range.
-/
module

public import proofs.«01_k».proof.Proof.Gen.Selection.Frame
public import proofs.«01_k».proof.Proof.Gen.SelectionIdeal.Frame
public import proofs.«01_k».proof.Proof.Gen.Pre_scorable
public import proofs.«01_k».proof.Proof.Closed
public import proofs.«01_k».proof.Proof.AttClosed
public import Idealize.ShloMosaic.Lib.Pointwise

@[expose] public section

set_option maxRecDepth 16384

noncomputable section

namespace Cert.Sel

open Idealize.ShloMosaic Idealize.ShloMosaic.TcCoe

namespace Selection

open Cert.Selection Cert.Selection.Gen

theorem slab_in {w : BitVec 32} (h : w.toNat < 2048) : k0_chk1 w := by
  intro a
  match a with
  | ⟨0, _⟩ => exact h
  | ⟨1, _⟩ => exact Nat.le_refl _
  | ⟨2, _⟩ => exact Nat.le_refl _

variable {F : FTy → Type} [FloatOps F] (m : (ℓ : Loc nD τ sig) → Buf (Elt F) ℓ)

theorem words_array (c : Dev nD) : V m c main_v0 = shapeCast S20480 (m ((c : Thread nD τ).loc main_arg0)) shapeCasts_S1024x20_S20480 := by
  unfold V hostOps0; after_results_simp; rfl

theorem words_lt (c : Dev nD) (h : ∀ i, (m ((c : Thread nD τ).loc main_arg0) i : BitVec 32).toNat < 2048) (j : S20480.Idx) : (V m c main_v0 j : BitVec 32).toNat < 2048 := by
  rw [words_array]
  exact h _

set_option maxHeartbeats 1000000 in
theorem hyps (hO : Ok m) (hw : ∀ j : S20480.Idx, (V m 0 main_v0 j : BitVec 32).toNat < 2048) : Hyps m hO :=
  Hyps.of (m := m)
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))

theorem hyps_of_range (hO : Ok m) (h : ∀ (c : Dev nD) i, (m ((c : Thread nD τ).loc main_arg0) i : BitVec 32).toNat < 2048) : Hyps m hO :=
  hyps m hO (words_lt m 0 (h 0))

end Selection

namespace SelectionIdeal

open Cert.SelectionIdeal Cert.SelectionIdeal.Gen

theorem slab_in {w : BitVec 32} (h : w.toNat < 2048) : k0_chk1 w := by
  intro a
  match a with
  | ⟨0, _⟩ => exact h
  | ⟨1, _⟩ => exact Nat.le_refl _
  | ⟨2, _⟩ => exact Nat.le_refl _

variable {F : FTy → Type} [FloatOps F] (m : (ℓ : Loc nD τ sig) → Buf (Elt F) ℓ)

theorem words_array (c : Dev nD) : V m c main_v0 = shapeCast S20480 (m ((c : Thread nD τ).loc main_arg0)) shapeCasts_S1024x20_S20480 := by
  unfold V hostOps0; after_results_simp; rfl

theorem words_lt (c : Dev nD) (h : ∀ i, (m ((c : Thread nD τ).loc main_arg0) i : BitVec 32).toNat < 2048) (j : S20480.Idx) : (V m c main_v0 j : BitVec 32).toNat < 2048 := by
  rw [words_array]
  exact h _

set_option maxHeartbeats 1000000 in
theorem hyps (hO : Ok m) (hw : ∀ j : S20480.Idx, (V m 0 main_v0 j : BitVec 32).toNat < 2048) : Hyps m hO :=
  Hyps.of (m := m)
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))
    (fun c t => slab_in (hw _))

theorem hyps_of_range (hO : Ok m) (h : ∀ (c : Dev nD) i, (m ((c : Thread nD τ).loc main_arg0) i : BitVec 32).toNat < 2048) : Hyps m hO :=
  hyps m hO (words_lt m 0 (h 0))

end SelectionIdeal

/-- The words are in range. -/
theorem range_of_pre {F : FTy → Type} [FloatOps F] {a f e} (h : Cert.Pre_scorable.fn (F := F) a f e = fun _ => 1#1) (i : Cert.Pre_scorable.S1024x20.Idx) : (a i).toNat < 2048 := by
  have h := congrFun h ix0
  unfold Cert.Pre_scorable.fn at h
  obtain ⟨h, _⟩ := IntOp.andi_eq_one.1 h
  obtain ⟨h, _⟩ := IntOp.andi_eq_one.1 h
  exact Cert.Proof.Closed.lt_of_cmp (n := 2048) (by decide) (Host.reduce_andi_all _ _ _ _ _ h i)

/-- The features and the table are of real numbers. -/
theorem real_of_pre {a f e} (h : Cert.Pre_scorable.fn (F := Ideal) a f e = fun _ => 1#1) :
    (∀ i, ∃ r : ℝ, f i = (r : EReal)) ∧ ∀ i, ∃ r : ℝ, e i = (r : EReal) := by
  have h := congrFun h ix0
  unfold Cert.Pre_scorable.fn at h
  obtain ⟨h, he⟩ := IntOp.andi_eq_one.1 h
  obtain ⟨_, hf⟩ := IntOp.andi_eq_one.1 h
  exact ⟨fun i => Cert.Att.real_of_abs_lt (Host.reduce_andi_all _ _ _ _ _ hf i), fun i => Cert.Att.real_of_abs_lt (Host.reduce_andi_all _ _ _ _ _ he i)⟩

end Cert.Sel

end
-- ==== Proof.SelTop.lean ====
/-
  The scores of a sequence and its highest lanes, as a function of the three arguments.
-/
module

public import proofs.«01_k».proof.Proof.SelRounds
public import proofs.«01_k».proof.Proof.Closed
public import Idealize.ShloMosaic.Lib.Pointwise

@[expose] public section

noncomputable section

namespace Cert.Sel

open Idealize.ShloMosaic

theorem featCast : (⟨3, ![1024, 20, 32]⟩ : Shape).ShapeCasts ⟨2, ![20480, 32]⟩ := by decide

/-- The score of candidate `a` for sequence `i`: its row of the table of the sequence's sample times the sequence's features. -/
def score (A : (⟨2, ![1024, 20]⟩ : Shape).Idx → BitVec 32) (f : (⟨3, ![1024, 20, 32]⟩ : Shape).Idx → EReal)
    (E : (⟨3, ![2048, 32, 128]⟩ : Shape).Idx → EReal) (i : Fin 20480) (a : Fin 128) : EReal :=
  ∑ k : Fin 32, E (ix3 ⟨(Cert.Proof.Closed.samp A i).toNat % 2048, Nat.mod_lt _ (by decide)⟩ k a)
    * shapeCast (⟨2, ![20480, 32]⟩ : Shape) f featCast (ix2 i k)

/-- The thirty-two candidates of highest score, highest first and of equal ones the lower first. -/
def top (A : (⟨2, ![1024, 20]⟩ : Shape).Idx → BitVec 32) (f : (⟨3, ![1024, 20, 32]⟩ : Shape).Idx → EReal)
    (E : (⟨3, ![2048, 32, 128]⟩ : Shape).Idx → EReal) : (⟨2, ![20480, 32]⟩ : Shape).Idx → BitVec 32 :=
  fun y => BitVec.ofNat 32 (nth (score A f E (y 0)) (y 1).val).val

end Cert.Sel

end
-- ==== Proof.SelPoint.lean ====
/-
  What the scores-and-selection call leaves in its result array.
-/
module

public import proofs.«01_k».proof.Proof.SelRun
public import proofs.«01_k».proof.Proof.SelHyps
public import proofs.«01_k».proof.Proof.SelTop
public import Idealize.ShloMosaic.Lib.Pointwise
public import Idealize.ShloMosaic.Lib.Pipeline.Value
public import Idealize.ShloMosaic.Lib.Pipeline.ValueKit.Basic

@[expose] public section

set_option maxRecDepth 16384

noncomputable section

namespace Cert.Sel

open Cert.SelectionIdeal Cert.SelectionIdeal.Gen Idealize.ShloMosaic Idealize.ShloMosaic.TcCoe
open Idealize.ShloMosaic.Pipeline (Dat)

/-! ## A block's lanes at an index -/

theorem stack_apply (f : Fin 32 → FVec Ideal S1x128 .f32) (j : Fin 32) (a : Fin 128) : stack f (ix2 j a) = f j (ix2 0 a) := by
  pointwise [stack]

theorem cols_ofFn (l : IVec S32x128 32) (n : Nat) : ∀ s : FVec Ideal S32x128 .f32,
    cols l n s = List.ofFn fun j : Fin n => (⟨S32x1, pickBy l ((knockBy l)^[j.val] s)⟩ : (s : Shape) × (s.Idx → BitVec 32)) := by
  induction n with
  | zero => intro s; rfl
  | succ n ih => intro s; rw [List.ofFn_succ, cols, ih]; rfl

theorem columns_apply (g : Fin 32 → IVec S32x1 32) (h : Shape.Concatenates ((List.ofFn fun j : Fin 32 => (⟨S32x1, g j⟩ : (s : Shape) × (s.Idx → BitVec 32))).map (·.1)) S32x32 1)
    (r j : Fin 32) : concatenate S32x32 1 (List.ofFn fun j : Fin 32 => (⟨S32x1, g j⟩ : (s : Shape) × (s.Idx → BitVec 32))) h (ix2 r j) = g j (ix2 r 0) := by
  pointwise []

theorem picks_apply (s : FVec Ideal S32x128 .f32) (r j : Fin 32) : picks s (ix2 r j) = BitVec.ofNat 32 (nth (fun a => s (ix2 r a)) j.val).val := by
  rw [← round_apply]
  unfold picks
  have e := cols_ofFn lanes 32 s
  have h := colsFit lanes s
  change concatenate S32x32 1 (cols lanes 32 s) h (ix2 r j) = _
  revert h
  rw [e]
  intro h
  exact columns_apply _ h r j

theorem quarters_apply (g : Fin 4 → IVec S32x32 32) (h : Shape.Concatenates ((List.ofFn fun q : Fin 4 => (⟨S32x32, g q⟩ : (s : Shape) × (s.Idx → BitVec 32))).map (·.1)) S128x32 0)
    (q : Fin 4) (r j : Fin 32) : concatenate S128x32 0 (List.ofFn fun q : Fin 4 => (⟨S32x32, g q⟩ : (s : Shape) × (s.Idx → BitVec 32))) h (ix2 ⟨32 * q.val + r.val, by omega⟩ j) = g q (ix2 r j) := by
  have hr := r.isLt
  refine concatenate_ofFn_apply (t := S128x32) (s₁ := S32x32) 0 g h rfl 32 rfl _ q ?_ (ix2 r j) ?_ ?_
  · show (32 * q.val + r.val) / 32 = q.val
    omega
  · show r.val = (32 * q.val + r.val) % 32
    omega
  · intro b hb
    match b with
    | ⟨0, _⟩ => exact absurd rfl hb
    | ⟨1, _⟩ => rfl

theorem quarter_of (r : Fin 128) : ∃ (q : Fin 4) (s : Fin 32), r = ⟨32 * q.val + s.val, by omega⟩ :=
  have hr := r.isLt
  ⟨⟨r.val / 32, by omega⟩, ⟨r.val % 32, by omega⟩, Fin.ext (by show r.val = 32 * (r.val / 32) + r.val % 32; omega)⟩

theorem block_apply (f : Fin 128 → FVec Ideal S1x128 .f32) (r : Fin 128) (j : Fin 32) :
    block f (ix2 r j) = BitVec.ofNat 32 (nth (fun a => f r (ix2 0 a)) j.val).val := by
  obtain ⟨q, s, rfl⟩ := quarter_of r
  refine (quarters_apply (fun q => picks (part f q)) concatenates_S32x32_S32x32_S32x32_S32x32_S128x32_d0 q s j).trans ?_
  rw [picks_apply]
  simp only [part, stack_apply]

/-! ## A point's slabs, features and words -/

section
variable {F : FTy → Type} [FloatOps F]

/-- A slab of the table. -/
def slabAt (X : Vec F S2048x32x128 .f32) (w : BitVec 32) (hw : k0_chk1 w) : Vec F S1x32x128 .f32 :=
  fun y => X ((Rect.unit (s := S2048x32x128) (k0_off2 w) S1x32x128.size (k0_off2_inb w hw)).toLoadRect.idx y)

/-- A column of a block of features. -/
def colAt (x : Vec F S32x128 .bf16) (r : Fin 128) : Vec F S32x1 .bf16 :=
  fun y => x ((Rect.unit (s := S32x128) ![0, r.val] S32x1.size (colIn r)).toLoadRect.idx y)

theorem slabIn_eq (arg5 : Memref sig .tc .vmem S2048x32x128 .f32) (f : arg5.view.ty.Contents (Elt F)) (X : Vec F S2048x32x128 .f32) (h : arg5.view.read (Elt F) f = X) :
    slabIn arg5 f = slabAt X := by
  subst h; rfl

theorem colOfBlock_eq (arg2 : Memref sig .tc .vmem S32x128 .bf16) (harg2 : arg2.IsWhole) (x0 : Vec F S32x128 .bf16) :
    colOfBlock arg2 (harg2.unread x0) = colAt x0 := by
  funext r y
  show arg2.view.read (Elt F) (harg2.unread x0) _ = _
  rw [harg2.read_unread]
  rfl

variable (m : (ℓ : Loc nD τ sig) → Buf (Elt F) ℓ) (hO : Ok m) (hH : Hyps m hO) (c : Dev nD)

theorem coords_val : ∀ t : Fin grid0.N, (grid0.coords t 0).val = t.val := by decide +kernel

/-- The sequence that row `r` of block `t` is. -/
def seqAt (t : Fin (cfgM m hO).N) (r : Fin 128) : Fin 20480 :=
  ⟨128 * t.val + r.val, by
    have hN : t.val < 160 := lt_of_lt_of_eq t.isLt (show (cfgM m hO).N = 160 from N_0)
    omega⟩

theorem word_eq (t : Fin (cfgM m hO).N) (r : Fin 128) : word c (tbl m 0) (grid0.coords t) r = V m 0 main_v0 (ix1 (seqAt m hO t r)) := by
  refine congrArg (V m 0 main_v0) (funext fun b => Fin.ext ?_)
  match b with
  | ⟨0, _⟩ =>
    show wordOff (grid0.coords t) r 0 + 1 * 0 = 128 * t.val + r.val
    rw [wordOff_eq]
    show (grid0.coords t 0).val * 128 + r.val + 1 * 0 = _
    rw [coords_val]
    omega

set_option maxHeartbeats 3200000 in
set_option maxRecDepth 131072 in
theorem kept_A (t : Fin (cfgM m hO).N) (h0 : t.val % 80 = 0) : (outsAt0 m hO hH c t.val t.isLt).2 = V m c main_arg2 := by
  refine (congrArg Prod.snd (outsAt0_A m hO hH c t h0)).trans ?_
  dsimp only
  unfold sout0_A_0
  exact View.read_writes_whole VS0_0 VS0_0.junk _

set_option maxHeartbeats 3200000 in
set_option maxRecDepth 131072 in
theorem kept (n : Nat) (hn : n < (cfgM m hO).N) : (outsAt0 m hO hH c n hn).2 = V m c main_arg2 := by
  induction n with
  | zero => exact kept_A m hO hH c ⟨0, hn⟩ (Nat.zero_mod _)
  | succ n ih =>
    by_cases h0 : (n + 1) % 80 = 0
    · exact kept_A m hO hH c ⟨n + 1, hn⟩ h0
    · refine (congrArg Prod.snd (outsAt0_B m hO hH c ⟨n + 1, hn⟩ h0)).trans ?_
      dsimp only
      unfold sout0_B_0
      exact ih _

set_option maxHeartbeats 3200000 in
set_option maxRecDepth 131072 in
theorem point (t : Fin (cfgM m hO).N) (h : ∀ r, k0_chk1 (word c (tbl m 0) (grid0.coords t) r)) :
    (outsAt0 m hO hH c t.val t.isLt).1 = block (row (slabAt (V m c main_arg2)) (colAt (iblk m hO c 0 t)) (word c (tbl m 0) (grid0.coords t)) h) := by
  by_cases h0 : t.val % 80 = 0
  · refine (congrArg Prod.fst (outsAt0_A m hO hH c t h0)).trans ?_
    dsimp only
    unfold out0_A_1
    refine (congrArg (fun L => VO0_1.read (Elt F) (VO0_1.writes (Elt F) VO0_1.junk L)) (runA m hO hH c t h _ _ _ _ _ _ _ _ _)).trans ?_
    refine (View.read_writes_junk_eq_canon _ _).trans ((View.canon_cons_unit_lit _ _ _ (by decide)).trans ?_)
    exact congrArg₂ (fun s k => block (row s k (word c (tbl m 0) (grid0.coords t)) h)) (slabIn_eq _ _ (V m c main_arg2) (View.read_writes_whole _ _ _)) (colOfBlock_eq _ _ _)
  · refine (congrArg Prod.fst (outsAt0_B m hO hH c t h0)).trans ?_
    dsimp only
    unfold out0_B_1
    refine (congrArg (fun L => VO0_1.read (Elt F) (VO0_1.writes (Elt F) VO0_1.junk L)) (runB m hO hH c t h _ _ _ _ _ _ _ _ _ _)).trans ?_
    refine (View.read_writes_junk_eq_canon _ _).trans ((View.canon_cons_unit_lit _ _ _ (by decide)).trans ?_)
    exact congrArg₂ (fun s k => block (row s k (word c (tbl m 0) (grid0.coords t)) h))
      (slabIn_eq _ _ (V m c main_arg2) ((Memref.IsWhole.read_unread _ _).trans (kept m hO hH c _ _))) (colOfBlock_eq _ _ _)

end

/-! ## The whole array -/

theorem slabAt_apply (X : Vec Ideal S2048x32x128 .f32) (w : BitVec 32) (hw : k0_chk1 w) (h : w.toNat < 2048) (k : Fin 32) (a : Fin 128) :
    slabAt X w hw (ix3 0 k a) = X (ix3 ⟨w.toNat, h⟩ k a) := by
  refine congrArg X (funext fun b => Fin.ext ?_)
  match b with
  | ⟨0, _⟩ => show w.toNat + 1 * 0 = w.toNat; omega
  | ⟨1, _⟩ => show 0 + 1 * k.val = k.val; omega
  | ⟨2, _⟩ => show 0 + 1 * a.val = a.val; omega

theorem colAt_apply (x : Vec Ideal S32x128 .bf16) (r : Fin 128) (k : Fin 32) : colAt x r (ix2 k 0) = x (ix2 k r) := by
  refine congrArg x (funext fun b => Fin.ext ?_)
  match b with
  | ⟨0, _⟩ => show 0 + 1 * k.val = k.val; omega
  | ⟨1, _⟩ => show r.val + 1 * 0 = r.val; omega

variable (m : (ℓ : Loc nD τ sig) → Buf (Elt Ideal) ℓ) (hO : Ok m) (hH : Hyps m hO) (c : Dev nD)

theorem index_in : ∀ t : Fin grid0.N, cc0_transform_0 (grid0.coords t) (0 : Fin 2) = 0 ∧ cc0_transform_0 (grid0.coords t) (1 : Fin 2) = t.val := by decide +kernel
theorem index_out : ∀ t : Fin grid0.N, cc0_transform_2 (grid0.coords t) (0 : Fin 2) = t.val ∧ cc0_transform_2 (grid0.coords t) (1 : Fin 2) = 0 := by decide +kernel

theorem in_block (t : Fin (cfgM m hO).N) (k : Fin 32) (r : Fin 128) : iblk m hO c 0 t (ix2 k r) = V m c main_v3 (ix2 k (seqAt m hO t r)) := by
  obtain ⟨e0, e1⟩ := index_in t
  show V m c main_v3 ((((cfgM m hO).win 0).blk t).view.emb (ix2 k r)) = _
  refine congrArg _ (funext fun b => Fin.ext ?_)
  match b with
  | ⟨0, _⟩ => show cc0_transform_0 (grid0.coords t) (0 : Fin 2) * 32 + 1 * k.val = k.val; omega
  | ⟨1, _⟩ => show cc0_transform_0 (grid0.coords t) (1 : Fin 2) * 128 + 1 * r.val = 128 * t.val + r.val; omega

theorem out_at (t : Fin (cfgM m hO).N) (r : Fin 128) (j : Fin 32) : (((cfgM m hO).win 1).blk t).view.emb (ix2 r j) = ix2 (seqAt m hO t r) j := by
  obtain ⟨e0, e1⟩ := index_out t
  refine funext fun b => Fin.ext ?_
  match b with
  | ⟨0, _⟩ => show cc0_transform_2 (grid0.coords t) (0 : Fin 2) * 128 + 1 * r.val = 128 * t.val + r.val; omega
  | ⟨1, _⟩ => show cc0_transform_2 (grid0.coords t) (1 : Fin 2) * 32 + 1 * j.val = j.val; omega

theorem feats_array : @Eq (FVec Ideal S32x20480 .bf16) (V m c main_v3)
    (truncf .bf16 (transpose S32x20480 [1, 0] (shapeCast S20480x32 (m ((c : Thread nD τ).loc main_arg1) : FVec Ideal S1024x20x32 .f32) shapeCasts_S1024x20x32_S20480x32)
      transposes_S20480x32_S32x20480_1_0) bitsLt_bf16_f32) := by
  unfold V hostOps0; after_results_simp; rfl

theorem turn_apply (X : FVec Ideal S20480x32 .f32) (k : Fin 32) (i : Fin 20480) :
    truncf .bf16 (transpose S32x20480 [1, 0] X transposes_S20480x32_S32x20480_1_0) bitsLt_bf16_f32 (ix2 k i) = X (ix2 i k) := by
  pointwise []

abbrev result : Vec Ideal S20480x32 .i32 :=
  top (m ((c : Thread nD τ).loc main_arg0)) (m ((c : Thread nD τ).loc main_arg1)) (m ((c : Thread nD τ).loc main_arg2))

theorem row_apply (hw : ∀ i, (m ((c : Thread nD τ).loc main_arg0) i : BitVec 32).toNat < 2048) (t : Fin (cfgM m hO).N)
    (h : ∀ r, k0_chk1 (word c (tbl m 0) (grid0.coords t) r)) (r a : Fin 128) :
    row (slabAt (V m c main_arg2)) (colAt (iblk m hO c 0 t)) (word c (tbl m 0) (grid0.coords t)) h r (ix2 0 a)
      = score (m ((c : Thread nD τ).loc main_arg0)) (m ((c : Thread nD τ).loc main_arg1)) (m ((c : Thread nD τ).loc main_arg2)) (seqAt m hO t r) a := by
  have e : word c (tbl m 0) (grid0.coords t) r = Cert.Proof.Closed.samp (m ((c : Thread nD τ).loc main_arg0)) (seqAt m hO t r) := by
    obtain rfl : c = 0 := Subsingleton.elim _ _
    rw [word_eq, SelectionIdeal.words_array]
    rfl
  have hlt : (word c (tbl m 0) (grid0.coords t) r).toNat < 2048 := by rw [e]; exact hw _
  unfold row
  rw [score_apply]
  unfold score
  refine Finset.sum_congr rfl fun k _ => ?_
  refine congrArg₂ (fun x y : EReal => x * y) ((slabAt_apply (V m c main_arg2) _ (h r) hlt k a).trans ?_)
    ((colAt_apply _ r k).trans ((in_block m hO c t k r).trans ((congrFun (feats_array m c) _).trans (turn_apply _ k _))))
  refine (congrFun (V_main_arg2 m c) _).trans (congrArg (fun p : Fin 2048 => m ((c : Thread nD τ).loc main_arg2) (ix3 p k a)) (Fin.ext ?_))
  show (word c (tbl m 0) (grid0.coords t) r).toNat = (Cert.Proof.Closed.samp (m ((c : Thread nD τ).loc main_arg0)) (seqAt m hO t r)).toNat % 2048
  rw [← e]
  exact (Nat.mod_eq_of_lt hlt).symm

/-- What point `t` writes back is its block of the one array. -/
theorem block_out (hw : ∀ (c : Dev nD) i, (m ((c : Thread nD τ).loc main_arg0) i : BitVec 32).toNat < 2048) (t : Fin (cfgM m hO).N) :
    (dats m hO hH 0 c).flushed 1 t = (((cfgM m hO).win 1).blk t).view.read (Elt Ideal) (result m c) := by
  show ((cfgM m hO).win 1).cut (grid0.coords t) ((dats m hO hH 0 c).after 1 t) = _
  have h : ∀ r, k0_chk1 (word c (tbl m 0) (grid0.coords t) r) := fun r => SelectionIdeal.slab_in (by
    rw [word_eq]; exact SelectionIdeal.words_lt m 0 (hw 0) _)
  rw [after0_1]
  refine (congrArg (((cfgM m hO).win 1).cut (grid0.coords t)) (point m hO hH c t h)).trans ?_
  have key : ∀ y : S128x32.Idx, block (row (slabAt (V m c main_arg2)) (colAt (iblk m hO c 0 t)) (word c (tbl m 0) (grid0.coords t)) h) y
      = result m c ((((cfgM m hO).win 1).blk t).view.emb y) := by
    intro y
    obtain ⟨r, j, rfl⟩ : ∃ (r : Fin 128) (j : Fin 32), y = ix2 r j :=
      ⟨y 0, y 1, funext fun a => match a with | ⟨0, _⟩ => rfl | ⟨1, _⟩ => rfl⟩
    refine (block_apply _ r j).trans ?_
    refine Eq.trans ?_ (congrArg (result m c) (out_at m hO t r j)).symm
    exact congrArg (fun f => BitVec.ofNat 32 (nth f j.val).val) (funext fun a => row_apply m hO c (hw c) t h r a)
  exact funext key

theorem covered (y : S20480x32.Idx) : ∃ t : Fin (cfgM m hO).N, ((cfgM m hO).win 1).flush t = true ∧ y ∈ (((cfgM m hO).win 1).blk t).view.set := by
  have h0 : (y 0).val < 20480 := (y 0).isLt
  have hN : (cfgM m hO).N = 160 := N_0
  let t : Fin (cfgM m hO).N := ⟨(y 0).val / 128, by omega⟩
  let r : Fin 128 := ⟨(y 0).val % 128, by omega⟩
  have h : ix2 (seqAt m hO t r) (y 1) ∈ (((cfgM m hO).win 1).blk t).view.set :=
    (congrArg (· ∈ (((cfgM m hO).win 1).blk t).view.set) (out_at m hO t r (y 1))).mp (View.emb_mem_set _ _)
  have e : y = ix2 (seqAt m hO t r) (y 1) := by
    refine funext fun a => Fin.ext ?_
    match a with
    | ⟨0, _⟩ => show (y 0).val = 128 * ((y 0).val / 128) + (y 0).val % 128; omega
    | ⟨1, _⟩ => rfl
  rw [e]
  exact ⟨t, flush0_1 (adm m hO) t, h⟩

theorem final (hw : ∀ (c : Dev nD) i, (m ((c : Thread nD τ).loc main_arg0) i : BitVec 32).toNat < 2048) : (dats m hO hH 0 c).arrAt 1 (cfgM m hO).N = result m c :=
  (dats m hO hH 0 c).arrAt_eq_of_cover 1 (result m c) (fun t _ => block_out m hO hH c hw t) (covered m hO)

end Cert.Sel

end
-- ==== Proof.SelRef.lean ====
/-
  The selection's reference: its sorted scores give the lanes of the rounds.
-/
module

public import proofs.«01_k».proof.Proof.Gen.SelectionReferenceIdeal.Run
public import proofs.«01_k».proof.Proof.Ref
public import proofs.«01_k».proof.Proof.SelTop
public import Idealize.ShloMosaic.Lib.Pointwise

@[expose] public section

noncomputable section

namespace Cert.Sel.Ref

open Cert.SelectionReferenceIdeal Cert.SelectionReferenceIdeal.Gen Idealize.ShloMosaic Idealize.ShloMosaic.TcCoe
open Cert.Proof.Ref (wrap_id mask_id gather_at at_start at_off)
open Cert.Proof.Closed (samp)

/-- Each sequence's slab of the table. -/
def slabs (A : S1024x20.Idx → BitVec 32) (E : FVec Ideal S2048x32x128 .f32) : FVec Ideal S20480x32x128 .f32 :=
  let X := shapeCast S20480 A shapeCasts_S1024x20_S20480
  let I := broadcastInDim S20480x1 ![0] bcast_S20480_S20480x1_0
    (select (cmpi .slt X (broadcastInDim S20480 ![] bcast_S_S20480 (constantI S_ 32 0#32))) (addi X (broadcastInDim S20480 ![] bcast_S_S20480 (constantI S_ 32 2048#32))) X)
  select (broadcastInDim S20480x32x128 ![0] bcast_S20480_S20480x32x128_0
      (Host.reduce IntOp.andi (andi (cmpi .sge I (broadcastInDim S20480x1 ![] bcast_S_S20480x1 (constantI S_ 32 0#32)))
        (cmpi .sle I (broadcastInDim S20480x1 ![0, 1] bcast_S1x1_S20480x1_0_1 (broadcastInDim S1x1 ![1] bcast_S1_S1x1_1 (constantI S1 32 2047#32)))))
        (constantI S_ 1 1#1) reducesTo_S20480x1_S20480_d1 h_S_))
    (Host.gather gather_S2048x32x128_S20480x1_S20480x32x128_12_0_n_n_0_1_132128 E I)
    (broadcastInDim S20480x32x128 ![] bcast_S_S20480x32x128 (constant S_ .f32 0x7FC00000#32))

/-- The scores of every sequence. -/
def scores (T : FVec Ideal S20480x32x128 .f32) (f : FVec Ideal S1024x20x32 .f32) : FVec Ideal S20480x128 .f32 :=
  Host.dotGeneral dot_S20480x32x128_S20480x32_S20480x128_1_1_2_n_0_0 none T (shapeCast S20480x32 f shapeCasts_S1024x20x32_S20480x32)

/-- The reference's indices. -/
def picked (A : S1024x20.Idx → BitVec 32) (f : FVec Ideal S1024x20x32 .f32) (E : FVec Ideal S2048x32x128 .f32) : IVec S20480x32 32 :=
  (Host.topK S20480x32 1 (FloatOps.cmpfTotal (F := Ideal) (φ := .f32) .gt) (scores (slabs A E) f) sliceFits_S20480x128_S20480x32).2

theorem gather_apply {α : Type} (x : S2048x32x128.Idx → α) (idx : S20480x1.Idx → BitVec 32) (i : Fin 20480) (k : Fin 32) (a : Fin 128) (h : (idx (ix2 i 0)).toNat < 2048) :
    Host.gather gather_S2048x32x128_S20480x1_S20480x32x128_12_0_n_n_0_1_132128 x idx (ix3 i k a) = x (ix3 ⟨(idx (ix2 i 0)).toNat, h⟩ k a) := by
  refine gather_at _ _ _ _ _ fun b => ?_
  match b with
  | ⟨0, _⟩ =>
    refine at_start gather_S2048x32x128_S20480x1_S20480x32x128_12_0_n_n_0_1_132128 idx _ (0 : Fin 3) (by decide) (by decide) ?_ (n := 2047) rfl (by decide) (Nat.le_of_lt_succ h)
    funext b
    match b with | ⟨0, _⟩ => rfl | ⟨1, _⟩ => rfl
  | ⟨1, _⟩ =>
    exact (at_off gather_S2048x32x128_S20480x1_S20480x32x128_12_0_n_n_0_1_132128 idx _ (1 : Fin 3) (by decide) (by decide)).trans rfl
  | ⟨2, _⟩ =>
    exact (at_off gather_S2048x32x128_S20480x1_S20480x32x128_12_0_n_n_0_1_132128 idx _ (2 : Fin 3) (by decide) (by decide)).trans rfl

theorem slabs_apply {A : S1024x20.Idx → BitVec 32} (E : FVec Ideal S2048x32x128 .f32) (h : ∀ i, (A i).toNat < 2048) (i : Fin 20480) (k : Fin 32) (a : Fin 128) :
    slabs A E (ix3 i k a) = E (ix3 ⟨(samp A i).toNat % 2048, Nat.mod_lt _ (by decide)⟩ k a) := by
  have hX : ∀ j, (shapeCast S20480 A shapeCasts_S1024x20_S20480 j).toNat < 2048 := fun _ => h _
  unfold slabs
  dsimp only
  rw [wrap_id _ _ _ ?_ fun j => (hX j).trans (by decide)]; swap; · intro _; rfl
  rw [mask_id (n := 2047) _ _ _ (by decide) ?_ ?_ ?_ _ _ _ ?_]
  rotate_left
  · intro _; rfl
  · intro _; rfl
  · intro _; exact Nat.le_of_lt_succ (hX _)
  · rfl
  have e : broadcastInDim S20480x1 ![0] bcast_S20480_S20480x1_0 (shapeCast S20480 A shapeCasts_S1024x20_S20480) (ix2 i 0) = samp A i := by
    refine congrArg (shapeCast S20480 A shapeCasts_S1024x20_S20480) ?_
    funext b
    match b with | ⟨0, _⟩ => rfl
  rw [gather_apply _ _ _ _ _ (hX _)]
  have hs : (samp A i).toNat < 2048 := h _
  exact congrArg (fun p : Fin 2048 => E (ix3 p k a)) (Fin.ext ((congrArg BitVec.toNat e).trans (Nat.mod_eq_of_lt hs).symm))

theorem dot_apply (T : FVec Ideal S20480x32x128 .f32) (g : FVec Ideal S20480x32 .f32) (i : Fin 20480) (a : Fin 128) :
    (Host.dotGeneral dot_S20480x32x128_S20480x32_S20480x128_1_1_2_n_0_0 none T g : FVec Ideal S20480x128 .f32) (ix2 i a) = ∑ k : Fin 32, T (ix3 i k a) * g (ix2 i k) := by
  pointwise []

theorem scores_apply {A : S1024x20.Idx → BitVec 32} (f : FVec Ideal S1024x20x32 .f32) (E : FVec Ideal S2048x32x128 .f32) (h : ∀ i, (A i).toNat < 2048) (i : Fin 20480) (a : Fin 128) :
    scores (slabs A E) f (ix2 i a) = score A f E i a := by
  unfold scores
  rw [dot_apply]
  refine Finset.sum_congr rfl fun k _ => ?_
  rw [slabs_apply E h]

/-- A score of real numbers is a real number. -/
theorem score_real {A : S1024x20.Idx → BitVec 32} {f : FVec Ideal S1024x20x32 .f32} {E : FVec Ideal S2048x32x128 .f32}
    (hf : ∀ i, ∃ r : ℝ, f i = (r : EReal)) (hE : ∀ i, ∃ r : ℝ, E i = (r : EReal)) (i : Fin 20480) (a : Fin 128) : ∃ r : ℝ, score A f E i a = (r : EReal) := by
  unfold score
  refine Finset.sum_induction _ (fun z : EReal => ∃ r : ℝ, z = (r : EReal)) ?_ ⟨0, rfl⟩ fun k _ => ?_
  · rintro _ _ ⟨r, rfl⟩ ⟨s, rfl⟩
    exact ⟨r + s, (EReal.coe_add r s).symm⟩
  · obtain ⟨r, hr⟩ := hE (ix3 ⟨(samp A i).toNat % 2048, Nat.mod_lt _ (by decide)⟩ k a)
    obtain ⟨s, hs⟩ : ∃ s : ℝ, shapeCast (⟨2, ![20480, 32]⟩ : Shape) f featCast (ix2 i k) = (s : EReal) := hf _
    exact ⟨r * s, by rw [hr, hs, EReal.coe_mul]⟩

theorem gt_iff (x y : EReal) : ((FloatOps.cmpfTotal (F := Ideal) (φ := .f32) .gt x y : BitVec 1) == 1#1) = decide (y < x) := by
  show (BitVec.ofBool (decide (y < x)) == 1#1) = _
  by_cases h : y < x <;> simp [h]

theorem sort2_snd {s : Shape} {d : Nat} (hd : d < s.rank) {α β : Type} (cmp : α × β → α × β → BitVec 1) (x : s.Idx → α) (y : s.Idx → β) (j : s.Idx) :
    (Host.sort2 s d cmp x y).2 j = y (j.along ⟨d, hd⟩ (sortedFrom (fun k k' => cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

theorem along_row (i : Fin 20480) (k k' : Fin 128) : Shape.Idx.along (s := S20480x128) (ix2 i k) 1 k' = ix2 i k' := by
  funext b
  match b with
  | ⟨0, _⟩ => rfl
  | ⟨1, _⟩ => rfl

/-- The sorted lane numbers of a row, wherever they are read. -/
theorem lane_apply (x : FVec Ideal S20480x128 .f32) (v : S20480x128.Idx → BitVec 32) (hv : ∀ i a, v (ix2 i a) = BitVec.ofNat 32 a.val) (i : Fin 20480) (k : Fin 128) :
    (Host.sort2 S20480x128 1 (fun l r : Ideal .f32 × BitVec 32 => FloatOps.cmpfTotal (F := Ideal) (φ := .f32) .gt l.1 r.1) x v).2 (ix2 i k)
      = BitVec.ofNat 32 (sortedFrom (fun a a' => (FloatOps.cmpfTotal (F := Ideal) (φ := .f32) .gt (x (ix2 i a)) (x (ix2 i a')) : BitVec 1) == 1#1) k).val := by
  rw [sort2_snd (show 1 < S20480x128.rank by decide)]
  refine (congrArg v (along_row i k _)).trans ((hv i _).trans ?_)
  refine congrArg (fun R => BitVec.ofNat 32 (sortedFrom (n := 128) R k).val) (funext fun a => funext fun a' => ?_)
  refine congrArg₂ (fun p q => (FloatOps.cmpfTotal (F := Ideal) (φ := .f32) .gt (x p) (x q) : BitVec 1) == 1#1) (along_row i k a) (along_row i k a')

theorem topK_apply (x : FVec Ideal S20480x128 .f32) (hx : ∀ i, x i ≠ ⊥) (i : Fin 20480) (j : Fin 32) :
    (Host.topK S20480x32 1 (FloatOps.cmpfTotal (F := Ideal) (φ := .f32) .gt) x sliceFits_S20480x128_S20480x32).2 (ix2 i j)
      = BitVec.ofNat 32 (nth (fun a => x (ix2 i a)) j.val).val := by
  rw [← sorted_nth (fun a => x (ix2 i a)) (fun a => hx _)
    (fun k k' => (FloatOps.cmpfTotal (F := Ideal) (φ := .f32) .gt (x (ix2 i k)) (x (ix2 i k')) : BitVec 1) == 1#1) (fun k k' => gt_iff _ _) j,
    ← lane_apply x (fun y => if hd : 1 < S20480x128.rank then iotaInDim S20480x128 32 ⟨1, hd⟩ y else 0#32) (fun i a => by
      show (if hd : 1 < S20480x128.rank then iotaInDim S20480x128 32 ⟨1, hd⟩ (ix2 i a) else 0#32) = _
      rw [dif_pos (by decide)]
      rfl)]
  unfold Host.topK
  dsimp only
  unfold extractStridedSlice
  refine congrArg _ (funext fun b => Fin.ext ?_)
  match b with
  | ⟨0, _⟩ => show 0 + i.val = i.val; omega
  | ⟨1, _⟩ => show 0 + j.val = j.val; omega

theorem picked_top {A : S1024x20.Idx → BitVec 32} {f : FVec Ideal S1024x20x32 .f32} {E : FVec Ideal S2048x32x128 .f32} (h : ∀ i, (A i).toNat < 2048)
    (hf : ∀ i, ∃ r : ℝ, f i = (r : EReal)) (hE : ∀ i, ∃ r : ℝ, E i = (r : EReal)) : picked A f E = top A f E := by
  funext y
  obtain ⟨i, j, rfl⟩ : ∃ (i : Fin 20480) (j : Fin 32), y = ix2 i j :=
    ⟨y 0, y 1, funext fun a => match a with | ⟨0, _⟩ => rfl | ⟨1, _⟩ => rfl⟩
  unfold picked
  rw [topK_apply]
  · simp only [scores_apply f E h]
    rfl
  · intro q
    obtain ⟨i, a, rfl⟩ : ∃ (i : Fin 20480) (a : Fin 128), q = ix2 i a :=
      ⟨q 0, q 1, funext fun a => match a with | ⟨0, _⟩ => rfl | ⟨1, _⟩ => rfl⟩
    obtain ⟨r, hr⟩ := score_real (A := A) hf hE i a
    rw [scores_apply f E h, hr]
    exact EReal.coe_ne_bot r

end Cert.Sel.Ref

end
-- ==== Proof.lean ====
/-
  The claims: the runs of the kernel and of the reference, and that they select the same rows.
-/
module

public import proofs.«01_k».proof.Proof.Gen.ReferenceIdeal.Run
public import proofs.«01_k».proof.Proof.Host
public import proofs.«01_k».proof.Proof.Ref
public import proofs.«01_k».proof.Proof.AttClosed
public import proofs.«01_k».proof.Proof.Turn
public import proofs.«01_k».proof.Proof.SelPoint
public import proofs.«01_k».proof.Proof.SelRef
public import proofs.«01_k».proof.Proof.Gen.Pre_sampled
public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_range
public import proofs.«01_k».proof.Proof.Gen.Attention
public import proofs.«01_k».proof.Proof.Gen.Attention.Skeleton
public import proofs.«01_k».proof.Proof.Gen.Attention.Frame
public import proofs.«01_k».proof.Proof.Gen.AttentionIdeal
public import proofs.«01_k».proof.Proof.Gen.AttentionIdeal.Skeleton
public import proofs.«01_k».proof.Proof.Gen.AttentionIdeal.Frame
public import proofs.«01_k».proof.Proof.Gen.AttentionReferenceIdeal
public import proofs.«01_k».proof.Proof.Gen.AttentionReferenceIdeal.Run
public import proofs.«01_k».proof.Proof.Gen.Pre_finite
public import proofs.«01_k».proof.Proof.Gen.Selection
public import proofs.«01_k».proof.Proof.Gen.Selection.Skeleton
public import proofs.«01_k».proof.Proof.Gen.Selection.Frame
public import proofs.«01_k».proof.Proof.Gen.SelectionIdeal
public import proofs.«01_k».proof.Proof.Gen.SelectionIdeal.Skeleton
public import proofs.«01_k».proof.Proof.Gen.SelectionIdeal.Frame
public import proofs.«01_k».proof.Proof.Gen.SelectionReferenceIdeal
public import proofs.«01_k».proof.Proof.Gen.SelectionReferenceIdeal.Run
public import proofs.«01_k».proof.Proof.Gen.Pre_scorable
public import proofs.«01_k».proof.Proof.Gen.Transposition
public import proofs.«01_k».proof.Proof.Gen.Transposition.Skeleton
public import proofs.«01_k».proof.Proof.Gen.Transposition.Frame
public import proofs.«01_k».proof.Proof.Gen.TranspositionIdeal
public import proofs.«01_k».proof.Proof.Gen.TranspositionIdeal.Skeleton
public import proofs.«01_k».proof.Proof.Gen.TranspositionIdeal.Frame
public import proofs.«01_k».proof.Proof.Gen.TranspositionIdeal.Value
public import proofs.«01_k».proof.Proof.Gen.TranspositionReferenceIdeal
public import proofs.«01_k».proof.Proof.Gen.TranspositionReferenceIdeal.Run
public import Idealize.ShloMosaic.Adequacy
public import Idealize.ShloMosaic.Init

@[expose] public section

noncomputable section

namespace Cert.Proof

open Idealize.ShloMosaic Idealize.ShloMosaic.TcCoe Idealize.SL.Sem

theorem frame_ideal : Cert.quiescent_KernelIdeal := fun m g hm =>
  (θ_run Cert.KernelIdeal.defs _ _).mono (fun _ h => ⟨fun c => ⟨(h.1 c Cert.KernelIdeal.main_arg0 rfl).trans (Gather.V5_arg0 m c),
    (h.1 c Cert.KernelIdeal.main_arg1 rfl).trans (Gather.V5_arg1 m c), (h.1 c Cert.KernelIdeal.main_arg2 rfl).trans (Gather.V5_arg2 m c),
    (h.1 c Cert.KernelIdeal.main_arg3 rfl).trans (Gather.V5_arg3 m c)⟩, h.2⟩)
    (Gather.run_main m g (Gather.ok_of_inRange fun d => Closed.inRange_of_pre (hm d)))

theorem frame_kernel : Cert.quiescent_Kernel := fun m g hm =>
  (θ_run (Cert.KernelIdeal.defs (F := Bits)) _ _).mono (fun _ h => ⟨fun c => ⟨(h.1 c Cert.KernelIdeal.main_arg0 rfl).trans (Gather.V5_arg0 (F := Bits) m c),
    (h.1 c Cert.KernelIdeal.main_arg1 rfl).trans (Gather.V5_arg1 (F := Bits) m c), (h.1 c Cert.KernelIdeal.main_arg2 rfl).trans (Gather.V5_arg2 (F := Bits) m c),
    (h.1 c Cert.KernelIdeal.main_arg3 rfl).trans (Gather.V5_arg3 (F := Bits) m c)⟩, h.2⟩)
    (Gather.run_main (F := Bits) m g (Gather.ok_of_inRange fun d => Closed.inRange_of_pre (hm d)))

theorem frame_ref : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

theorem frame_ref_pre : Cert.quiescent_ReferenceIdeal_pre_in_range := fun m g h => frame_ref m g trivial

theorem same_rows : Cert.algebraic_KernelIdeal_ReferenceIdeal := fun m g m' g' hm he => by
  have hr : ∀ d, Closed.InRange (Gather.a0 m d) (Gather.a1 m d) (Gather.a3 m d) := fun d => Closed.inRange_of_pre (hm d)
  refine ⟨fun c => Closed.rows (Gather.a0 m c) (Gather.a1 m c) (Gather.a2 m c) (Gather.a3 m c), ?_, ?_⟩
  · exact (θ_run Cert.KernelIdeal.defs _ _).mono (fun _ h c => ⟨(h.1 c Cert.KernelIdeal.main_v12 rfl).trans (Gather.V5_rows (hr c)),
      (h.1 c Cert.KernelIdeal.main_arg0 rfl).trans (Gather.V5_arg0 m c),
      (h.1 c Cert.KernelIdeal.main_arg1 rfl).trans (Gather.V5_arg1 m c), (h.1 c Cert.KernelIdeal.main_arg2 rfl).trans (Gather.V5_arg2 m c),
      (h.1 c Cert.KernelIdeal.main_arg3 rfl).trans (Gather.V5_arg3 m c)⟩)
      (Gather.run_main m g (Gather.ok_of_inRange hr))
  · refine (θ_run Cert.ReferenceIdeal.defs _ _).mono (fun _ h c => ⟨(h c).1.trans ?_, (h c).2⟩) (Cert.ReferenceIdeal.Value.run m' g')
    refine (Ref.res_eq m' c).trans ?_
    obtain ⟨e0, e1, e2, e3⟩ := he c
    rw [e0, e1, e2, e3]
    exact Ref.sel_rows _ (hr c)

/-! ## The attention call -/

theorem frame_attention : Cert.quiescent_Attention := fun m g _ => Cert.Attention.Gen.frame m g

theorem frame_attention_ideal : Cert.quiescent_AttentionIdeal := fun m g _ => Cert.AttentionIdeal.Gen.frame m g

theorem frame_attention_ref : Cert.quiescent_AttentionReferenceIdeal := fun m g _ =>
  (θ_run Cert.AttentionReferenceIdeal.defs _ _).mono (fun r h => ⟨fun c => (h c).2, sem_eq_zero_of_no_sems (by decide) r.2⟩)
    (Cert.AttentionReferenceIdeal.Value.run m g)

theorem attention_run (m : (ℓ : Loc Cert.AttentionIdeal.nD Cert.AttentionIdeal.τ Cert.AttentionIdeal.sig) → Buf (Elt Ideal) ℓ) (g : Dev Cert.AttentionIdeal.nD → PrngReg) :
    θ_run (Cert.AttentionIdeal.defs (F := Ideal)) (onTc (τ := Cert.AttentionIdeal.τ) (Cert.AttentionIdeal.main (F := Ideal))) ⟨m, fun _ => 0, g⟩ fun r =>
      ∀ c : Dev Cert.AttentionIdeal.nD, r.2.mem ((c.tc : Thread _ _).loc Cert.AttentionIdeal.main_v25) = Cert.Att.result m c :=
  (θ_run Cert.AttentionIdeal.defs _ _).mono (fun _ h c => ((h c).1 4).trans (Cert.Att.final m c)) (Cert.AttentionIdeal.Gen.run_main m g)

theorem same_attention : Cert.algebraic_AttentionIdeal_AttentionReferenceIdeal_pre_finite := fun m g m' g' hm he => by
  refine ⟨fun c => Cert.Att.attention (m ((c.tc : Thread _ _).loc Cert.AttentionIdeal.main_arg0)) (m ((c.tc : Thread _ _).loc Cert.AttentionIdeal.main_arg1))
    (m ((c.tc : Thread _ _).loc Cert.AttentionIdeal.main_arg2)) (m ((c.tc : Thread _ _).loc Cert.AttentionIdeal.main_arg3))
    (m ((c.tc : Thread _ _).loc Cert.AttentionIdeal.main_arg4)) (m ((c.tc : Thread _ _).loc Cert.AttentionIdeal.main_arg5)), ?_, ?_⟩
  · refine (θ_run Cert.AttentionIdeal.defs _ _).mono (fun _ h c => ⟨(h.1 c).trans ?_, h.2 c⟩) (θ_run_and (attention_run m g) (Cert.AttentionIdeal.Gen.unchanged m g))
    rw [Cert.Att.result, Cert.Att.left_array, Cert.Att.right_array, Cert.Att.gate_array, Cert.AttentionIdeal.Gen.V_main_arg1]
    exact Cert.Att.kernel_closed _ _ _ _ _ _ (Cert.Att.finite_of_pre (hm c))
  · refine (θ_run Cert.AttentionReferenceIdeal.defs _ _).mono (fun _ h c => ⟨(h c).1.trans ?_, (h c).2⟩) (Cert.AttentionReferenceIdeal.Value.run m' g')
    refine (Cert.Att.Ref.res_eq m' c).trans ?_
    obtain ⟨e0, e1, e2, e3, e4, e5⟩ := he c
    rw [e0, e1, e2, e3, e4, e5]
    exact Cert.Att.ref_closed _ _ _ _ _ _

/-! ## The transposition call -/

theorem frame_transposition : Cert.quiescent_Transposition := fun m g _ => Cert.Transposition.Gen.frame m g

theorem frame_transposition_ideal : Cert.quiescent_TranspositionIdeal := fun m g _ => Cert.TranspositionIdeal.Gen.frame m g

theorem frame_transposition_ref : Cert.quiescent_TranspositionReferenceIdeal := fun m g _ =>
  (θ_run Cert.TranspositionReferenceIdeal.defs _ _).mono (fun r h => ⟨fun c => (h c).2, sem_eq_zero_of_no_sems (by decide) r.2⟩)
    (Cert.TranspositionReferenceIdeal.Value.run m g)

theorem same_transposition : Cert.algebraic_TranspositionIdeal_TranspositionReferenceIdeal := fun m g m' g' _ he => by
  refine ⟨fun c => Cert.Turn.turned (m ((c.tc : Thread _ _).loc Cert.TranspositionIdeal.main_arg0)), ?_, ?_⟩
  · exact (θ_run Cert.TranspositionIdeal.defs _ _).mono (fun _ h c => ⟨(h c).1.trans (Cert.Turn.final m c), (h c).2⟩)
      (Cert.TranspositionIdeal.Value.run_blocks m g)
  · refine (θ_run Cert.TranspositionReferenceIdeal.defs _ _).mono (fun _ h c => ⟨(h c).1.trans ?_, (h c).2⟩) (Cert.TranspositionReferenceIdeal.Value.run m' g')
    rw [he c]
    exact Cert.Turn.ref_turned _ _ _ _

/-! ## The scores and their selection -/

/-- The samples are in range. -/
theorem range_of_sampled {F : FTy → Type} [FloatOps F] {a f e} (h : Cert.Pre_sampled.fn (F := F) a f e = fun _ => 1#1)
    (i : Cert.Pre_sampled.S1024x20.Idx) : (a i).toNat < 2048 := by
  have h := congrFun h ix0
  unfold Cert.Pre_sampled.fn at h
  exact Cert.Proof.Closed.lt_of_cmp (n := 2048) (by decide) (Host.reduce_andi_all _ _ _ _ _ h i)

theorem frame_selection : Cert.quiescent_Selection := fun m g hm =>
  Cert.Selection.Gen.frame m g trivial (Cert.Sel.Selection.hyps_of_range m trivial fun c i => range_of_sampled (hm c) i)

theorem frame_selection_ideal : Cert.quiescent_SelectionIdeal := fun m g hm =>
  Cert.SelectionIdeal.Gen.frame m g trivial (Cert.Sel.SelectionIdeal.hyps_of_range m trivial fun c i => range_of_sampled (hm c) i)

theorem frame_selection_ideal_scorable : Cert.quiescent_SelectionIdeal_pre_scorable := fun m g hm =>
  Cert.SelectionIdeal.Gen.frame m g trivial (Cert.Sel.SelectionIdeal.hyps_of_range m trivial fun c i => Cert.Sel.range_of_pre (hm c) i)

theorem frame_selection_ref : Cert.quiescent_SelectionReferenceIdeal := fun m g _ =>
  (θ_run Cert.SelectionReferenceIdeal.defs _ _).mono (fun r h => ⟨fun c => (h c).2, sem_eq_zero_of_no_sems (by decide) r.2⟩)
    (Cert.SelectionReferenceIdeal.Value.run m g)

theorem same_selection : Cert.algebraic_SelectionIdeal_SelectionReferenceIdeal_pre_scorable := fun m g m' g' hm he => by
  have hw : ∀ (c : Dev Cert.SelectionIdeal.nD) i, (m ((c.tc : Thread _ _).loc Cert.SelectionIdeal.main_arg0) i : BitVec 32).toNat < 2048 :=
    fun c i => Cert.Sel.range_of_pre (hm c) i
  have hO : Cert.SelectionIdeal.Gen.Ok m := trivial
  have hH : Cert.SelectionIdeal.Gen.Hyps m hO := Cert.Sel.SelectionIdeal.hyps_of_range m hO hw
  refine ⟨fun c => Cert.Sel.result m c, ?_, ?_⟩
  · exact (θ_run Cert.SelectionIdeal.defs _ _).mono (fun _ h c => ⟨((h.1 c).1 1).trans (Cert.Sel.final m hO hH c hw), h.2 c⟩)
      (θ_run_and (Cert.SelectionIdeal.Gen.run_main m g hO hH) (Cert.SelectionIdeal.Gen.unchanged m g hO hH))
  · refine (θ_run Cert.SelectionReferenceIdeal.defs _ _).mono (fun _ h c => ⟨(h c).1.trans ?_, (h c).2⟩) (Cert.SelectionReferenceIdeal.Value.run m' g')
    obtain ⟨e0, e1, e2⟩ := he c
    obtain ⟨hf, hE⟩ := Cert.Sel.real_of_pre (hm c)
    rw [e0, e1, e2]
    exact Cert.Sel.Ref.picked_top (hw c) hf hE

theorem claim : Cert.Claim := ⟨Cert.Kernel.Gen.facts, Cert.KernelIdeal.Gen.facts, Cert.ReferenceIdeal.Gen.facts,
  Cert.Attention.Gen.facts, Cert.AttentionIdeal.Gen.facts, Cert.AttentionReferenceIdeal.Gen.facts,
  Cert.Transposition.Gen.facts, Cert.TranspositionIdeal.Gen.facts, Cert.TranspositionReferenceIdeal.Gen.facts,
  Cert.Selection.Gen.facts, Cert.SelectionIdeal.Gen.facts, Cert.SelectionReferenceIdeal.Gen.facts,
  Cert.Pre_in_range.Gen.facts, Cert.Pre_finite.Gen.facts, Cert.Pre_sampled.Gen.facts, Cert.Pre_scorable.Gen.facts,
  frame_kernel, frame_ideal, frame_ref, frame_ref_pre, frame_attention, frame_attention_ideal, fun m g _ => frame_attention_ideal m g trivial,
  frame_attention_ref, fun m g _ => frame_attention_ref m g trivial, frame_transposition, frame_transposition_ideal, frame_transposition_ref,
  frame_selection, frame_selection_ideal, frame_selection_ideal_scorable, frame_selection_ref, fun m g _ => frame_selection_ref m g trivial,
  trivial, same_rows, trivial, same_attention, trivial, same_transposition, trivial, same_selection⟩

end Cert.Proof

end
